-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ProductNt (m : (ℓ : Loc Cert.ProductNt.nD Cert.ProductNt.τ Cert.ProductNt.sig) → Buf (Elt Bits) ℓ) : Prop :=
  True

def Pre_ProductNtIdeal (m : (ℓ : Loc Cert.ProductNtIdeal.nD Cert.ProductNtIdeal.τ Cert.ProductNtIdeal.sig) → Buf (Elt Ideal) ℓ) : Prop :=
  True

def Pre_RefNtIdeal (m : (ℓ : Loc Cert.RefNtIdeal.nD Cert.RefNtIdeal.τ Cert.RefNtIdeal.sig) → Buf (Elt Ideal) ℓ) : Prop :=
  True

def Pre_ProductTn (m : (ℓ : Loc Cert.ProductTn.nD Cert.ProductTn.τ Cert.ProductTn.sig) → Buf (Elt Bits) ℓ) : Prop :=
  True

def Pre_ProductTnIdeal (m : (ℓ : Loc Cert.ProductTnIdeal.nD Cert.ProductTnIdeal.τ Cert.ProductTnIdeal.sig) → Buf (Elt Ideal) ℓ) : Prop :=
  True

def Pre_RefTnIdeal (m : (ℓ : Loc Cert.RefTnIdeal.nD Cert.RefTnIdeal.τ Cert.RefTnIdeal.sig) → Buf (Elt Ideal) ℓ) : Prop :=
  True

def Pre_ProductNn (m : (ℓ : Loc Cert.ProductNn.nD Cert.ProductNn.τ Cert.ProductNn.sig) → Buf (Elt Bits) ℓ) : Prop :=
  True

def Pre_ProductNnIdeal (m : (ℓ : Loc Cert.ProductNnIdeal.nD Cert.ProductNnIdeal.τ Cert.ProductNnIdeal.sig) → Buf (Elt Ideal) ℓ) : Prop :=
  True

def Pre_RefNnIdeal (m : (ℓ : Loc Cert.RefNnIdeal.nD Cert.RefNnIdeal.τ Cert.RefNnIdeal.sig) → Buf (Elt Ideal) ℓ) : Prop :=
  True

def Pre_ProductSqNt (m : (ℓ : Loc Cert.ProductSqNt.nD Cert.ProductSqNt.τ Cert.ProductSqNt.sig) → Buf (Elt Bits) ℓ) : Prop :=
  True

def Pre_ProductSqNtIdeal (m : (ℓ : Loc Cert.ProductSqNtIdeal.nD Cert.ProductSqNtIdeal.τ Cert.ProductSqNtIdeal.sig) → Buf (Elt Ideal) ℓ) : Prop :=
  True

def Pre_RefSqNtIdeal (m : (ℓ : Loc Cert.RefSqNtIdeal.nD Cert.RefSqNtIdeal.τ Cert.RefSqNtIdeal.sig) → Buf (Elt Ideal) ℓ) : Prop :=
  True

def Pre_ProductSqNtB (m : (ℓ : Loc Cert.ProductSqNtB.nD Cert.ProductSqNtB.τ Cert.ProductSqNtB.sig) → Buf (Elt Bits) ℓ) : Prop :=
  True

def Pre_ProductSqNtBIdeal (m : (ℓ : Loc Cert.ProductSqNtBIdeal.nD Cert.ProductSqNtBIdeal.τ Cert.ProductSqNtBIdeal.sig) → Buf (Elt Ideal) ℓ) : Prop :=
  True

def Pre_RefSqNtBIdeal (m : (ℓ : Loc Cert.RefSqNtBIdeal.nD Cert.RefSqNtBIdeal.τ Cert.RefSqNtBIdeal.sig) → Buf (Elt Ideal) ℓ) : Prop :=
  True

def Pre_ProductSqTn (m : (ℓ : Loc Cert.ProductSqTn.nD Cert.ProductSqTn.τ Cert.ProductSqTn.sig) → Buf (Elt Bits) ℓ) : Prop :=
  True

def Pre_ProductSqTnIdeal (m : (ℓ : Loc Cert.ProductSqTnIdeal.nD Cert.ProductSqTnIdeal.τ Cert.ProductSqTnIdeal.sig) → Buf (Elt Ideal) ℓ) : Prop :=
  True

def Pre_RefSqTnIdeal (m : (ℓ : Loc Cert.RefSqTnIdeal.nD Cert.RefSqTnIdeal.τ Cert.RefSqTnIdeal.sig) → Buf (Elt Ideal) ℓ) : Prop :=
  True

def Pre_ProductSqNn (m : (ℓ : Loc Cert.ProductSqNn.nD Cert.ProductSqNn.τ Cert.ProductSqNn.sig) → Buf (Elt Bits) ℓ) : Prop :=
  True

def Pre_ProductSqNnIdeal (m : (ℓ : Loc Cert.ProductSqNnIdeal.nD Cert.ProductSqNnIdeal.τ Cert.ProductSqNnIdeal.sig) → Buf (Elt Ideal) ℓ) : Prop :=
  True

def Pre_RefSqNnIdeal (m : (ℓ : Loc Cert.RefSqNnIdeal.nD Cert.RefSqNnIdeal.τ Cert.RefSqNnIdeal.sig) → Buf (Elt Ideal) ℓ) : Prop :=
  True

def Pre_ProductSqNnB (m : (ℓ : Loc Cert.ProductSqNnB.nD Cert.ProductSqNnB.τ Cert.ProductSqNnB.sig) → Buf (Elt Bits) ℓ) : Prop :=
  True

def Pre_ProductSqNnBIdeal (m : (ℓ : Loc Cert.ProductSqNnBIdeal.nD Cert.ProductSqNnBIdeal.τ Cert.ProductSqNnBIdeal.sig) → Buf (Elt Ideal) ℓ) : Prop :=
  True

def Pre_RefSqNnBIdeal (m : (ℓ : Loc Cert.RefSqNnBIdeal.nD Cert.RefSqNnBIdeal.τ Cert.RefSqNnBIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_RefAdamwInIdeal (m : (ℓ : Loc Cert.RefAdamwInIdeal.nD Cert.RefAdamwInIdeal.τ Cert.RefAdamwInIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_RefAdamwUpIdeal (m : (ℓ : Loc Cert.RefAdamwUpIdeal.nD Cert.RefAdamwUpIdeal.τ Cert.RefAdamwUpIdeal.sig) → Buf (Elt Ideal) ℓ) : Prop :=
  True

def Pre_AdamwPw (m : (ℓ : Loc Cert.AdamwPw.nD Cert.AdamwPw.τ Cert.AdamwPw.sig) → Buf (Elt Bits) ℓ) : Prop :=
  True

def Pre_AdamwPwIdeal (m : (ℓ : Loc Cert.AdamwPwIdeal.nD Cert.AdamwPwIdeal.τ Cert.AdamwPwIdeal.sig) → Buf (Elt Ideal) ℓ) : Prop :=
  True

def Pre_RefAdamwPwIdeal (m : (ℓ : Loc Cert.RefAdamwPwIdeal.nD Cert.RefAdamwPwIdeal.τ Cert.RefAdamwPwIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_RefAdamwSmallIdeal (m : (ℓ : Loc Cert.RefAdamwSmallIdeal.nD Cert.RefAdamwSmallIdeal.τ Cert.RefAdamwSmallIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_RefAdamwOutIdeal (m : (ℓ : Loc Cert.RefAdamwOutIdeal.nD Cert.RefAdamwOutIdeal.τ Cert.RefAdamwOutIdeal.sig) → Buf (Elt Ideal) ℓ) : Prop :=
  True

def Pre_AdamwXq (m : (ℓ : Loc Cert.AdamwXq.nD Cert.AdamwXq.τ Cert.AdamwXq.sig) → Buf (Elt Bits) ℓ) : Prop :=
  True

def Pre_AdamwXqIdeal (m : (ℓ : Loc Cert.AdamwXqIdeal.nD Cert.AdamwXqIdeal.τ Cert.AdamwXqIdeal.sig) → Buf (Elt Ideal) ℓ) : Prop :=
  True

def Pre_RefAdamwXqIdeal (m : (ℓ : Loc Cert.RefAdamwXqIdeal.nD Cert.RefAdamwXqIdeal.τ Cert.RefAdamwXqIdeal.sig) → Buf (Elt Ideal) ℓ) : Prop :=
  True

def Pre_AdamwXk (m : (ℓ : Loc Cert.AdamwXk.nD Cert.AdamwXk.τ Cert.AdamwXk.sig) → Buf (Elt Bits) ℓ) : Prop :=
  True

def Pre_AdamwXkIdeal (m : (ℓ : Loc Cert.AdamwXkIdeal.nD Cert.AdamwXkIdeal.τ Cert.AdamwXkIdeal.sig) → Buf (Elt Ideal) ℓ) : Prop :=
  True

def Pre_RefAdamwXkIdeal (m : (ℓ : Loc Cert.RefAdamwXkIdeal.nD Cert.RefAdamwXkIdeal.τ Cert.RefAdamwXkIdeal.sig) → Buf (Elt Ideal) ℓ) : Prop :=
  True

def Pre_AdamwXv (m : (ℓ : Loc Cert.AdamwXv.nD Cert.AdamwXv.τ Cert.AdamwXv.sig) → Buf (Elt Bits) ℓ) : Prop :=
  True

def Pre_AdamwXvIdeal (m : (ℓ : Loc Cert.AdamwXvIdeal.nD Cert.AdamwXvIdeal.τ Cert.AdamwXvIdeal.sig) → Buf (Elt Ideal) ℓ) : Prop :=
  True

def Pre_RefAdamwXvIdeal (m : (ℓ : Loc Cert.RefAdamwXvIdeal.nD Cert.RefAdamwXvIdeal.τ Cert.RefAdamwXvIdeal.sig) → Buf (Elt Ideal) ℓ) : Prop :=
  True

def Pre_AdamwXo (m : (ℓ : Loc Cert.AdamwXo.nD Cert.AdamwXo.τ Cert.AdamwXo.sig) → Buf (Elt Bits) ℓ) : Prop :=
  True

def Pre_AdamwXoIdeal (m : (ℓ : Loc Cert.AdamwXoIdeal.nD Cert.AdamwXoIdeal.τ Cert.AdamwXoIdeal.sig) → Buf (Elt Ideal) ℓ) : Prop :=
  True

def Pre_RefAdamwXoIdeal (m : (ℓ : Loc Cert.RefAdamwXoIdeal.nD Cert.RefAdamwXoIdeal.τ Cert.RefAdamwXoIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_RefAdamwDownIdeal (m : (ℓ : Loc Cert.RefAdamwDownIdeal.nD Cert.RefAdamwDownIdeal.τ Cert.RefAdamwDownIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_NormMid (m : (ℓ : Loc Cert.NormMid.nD Cert.NormMid.τ Cert.NormMid.sig) → Buf (Elt Bits) ℓ) : Prop :=
  True

def Pre_NormMidIdeal (m : (ℓ : Loc Cert.NormMidIdeal.nD Cert.NormMidIdeal.τ Cert.NormMidIdeal.sig) → Buf (Elt Ideal) ℓ) : Prop :=
  True

def Pre_RefNormMidIdeal (m : (ℓ : Loc Cert.RefNormMidIdeal.nD Cert.RefNormMidIdeal.τ Cert.RefNormMidIdeal.sig) → Buf (Elt Ideal) ℓ) : Prop :=
  True

def Pre_NormMidTwo (m : (ℓ : Loc Cert.NormMidTwo.nD Cert.NormMidTwo.τ Cert.NormMidTwo.sig) → Buf (Elt Bits) ℓ) : Prop :=
  True

def Pre_NormMidTwoIdeal (m : (ℓ : Loc Cert.NormMidTwoIdeal.nD Cert.NormMidTwoIdeal.τ Cert.NormMidTwoIdeal.sig) → Buf (Elt Ideal) ℓ) : Prop :=
  True

def Pre_RefNormMidTwoIdeal (m : (ℓ : Loc Cert.RefNormMidTwoIdeal.nD Cert.RefNormMidTwoIdeal.τ Cert.RefNormMidTwoIdeal.sig) → Buf (Elt Ideal) ℓ) : Prop :=
  True

def Pre_NormLast (m : (ℓ : Loc Cert.NormLast.nD Cert.NormLast.τ Cert.NormLast.sig) → Buf (Elt Bits) ℓ) : Prop :=
  True

def Pre_NormLastIdeal (m : (ℓ : Loc Cert.NormLastIdeal.nD Cert.NormLastIdeal.τ Cert.NormLastIdeal.sig) → Buf (Elt Ideal) ℓ) : Prop :=
  True

def Pre_RefNormLastIdeal (m : (ℓ : Loc Cert.RefNormLastIdeal.nD Cert.RefNormLastIdeal.τ Cert.RefNormLastIdeal.sig) → Buf (Elt Ideal) ℓ) : Prop :=
  True

def Pre_NormGain (m : (ℓ : Loc Cert.NormGain.nD Cert.NormGain.τ Cert.NormGain.sig) → Buf (Elt Bits) ℓ) : Prop :=
  True

def Pre_NormGainIdeal (m : (ℓ : Loc Cert.NormGainIdeal.nD Cert.NormGainIdeal.τ Cert.NormGainIdeal.sig) → Buf (Elt Ideal) ℓ) : Prop :=
  True

def Pre_RefNormGainIdeal (m : (ℓ : Loc Cert.RefNormGainIdeal.nD Cert.RefNormGainIdeal.τ Cert.RefNormGainIdeal.sig) → Buf (Elt Ideal) ℓ) : Prop :=
  True

def Pre_LossSum (m : (ℓ : Loc Cert.LossSum.nD Cert.LossSum.τ Cert.LossSum.sig) → Buf (Elt Bits) ℓ) : Prop :=
  True

def Pre_LossSumIdeal (m : (ℓ : Loc Cert.LossSumIdeal.nD Cert.LossSumIdeal.τ Cert.LossSumIdeal.sig) → Buf (Elt Ideal) ℓ) : Prop :=
  True

def Pre_RefLossSumIdeal (m : (ℓ : Loc Cert.RefLossSumIdeal.nD Cert.RefLossSumIdeal.τ Cert.RefLossSumIdeal.sig) → Buf (Elt Ideal) ℓ) : Prop :=
  True

def Pre_RopeBack (m : (ℓ : Loc Cert.RopeBack.nD Cert.RopeBack.τ Cert.RopeBack.sig) → Buf (Elt Bits) ℓ) : Prop :=
  True

def Pre_RopeBackIdeal (m : (ℓ : Loc Cert.RopeBackIdeal.nD Cert.RopeBackIdeal.τ Cert.RopeBackIdeal.sig) → Buf (Elt Ideal) ℓ) : Prop :=
  True

def Pre_RefRopeBackIdeal (m : (ℓ : Loc Cert.RefRopeBackIdeal.nD Cert.RefRopeBackIdeal.τ Cert.RefRopeBackIdeal.sig) → Buf (Elt Ideal) ℓ) : Prop :=
  True

def Pre_InNorm (m : (ℓ : Loc Cert.InNorm.nD Cert.InNorm.τ Cert.InNorm.sig) → Buf (Elt Bits) ℓ) : Prop :=
  True

def Pre_InNormIdeal (m : (ℓ : Loc Cert.InNormIdeal.nD Cert.InNormIdeal.τ Cert.InNormIdeal.sig) → Buf (Elt Ideal) ℓ) : Prop :=
  True

def Pre_RefInNormIdeal (m : (ℓ : Loc Cert.RefInNormIdeal.nD Cert.RefInNormIdeal.τ Cert.RefInNormIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_RefMemNormIdeal (m : (ℓ : Loc Cert.RefMemNormIdeal.nD Cert.RefMemNormIdeal.τ Cert.RefMemNormIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_RefResNormIdeal (m : (ℓ : Loc Cert.RefResNormIdeal.nD Cert.RefResNormIdeal.τ Cert.RefResNormIdeal.sig) → Buf (Elt Ideal) ℓ) : Prop :=
  True

def Pre_ResLast (m : (ℓ : Loc Cert.ResLast.nD Cert.ResLast.τ Cert.ResLast.sig) → Buf (Elt Bits) ℓ) : Prop :=
  True

def Pre_ResLastIdeal (m : (ℓ : Loc Cert.ResLastIdeal.nD Cert.ResLastIdeal.τ Cert.ResLastIdeal.sig) → Buf (Elt Ideal) ℓ) : Prop :=
  True

def Pre_RefResLastIdeal (m : (ℓ : Loc Cert.RefResLastIdeal.nD Cert.RefResLastIdeal.τ Cert.RefResLastIdeal.sig) → Buf (Elt Ideal) ℓ) : Prop :=
  True

def Pre_XattnFwd (m : (ℓ : Loc Cert.XattnFwd.nD Cert.XattnFwd.τ Cert.XattnFwd.sig) → Buf (Elt Bits) ℓ) : Prop :=
  True

def Pre_XattnFwdIdeal (m : (ℓ : Loc Cert.XattnFwdIdeal.nD Cert.XattnFwdIdeal.τ Cert.XattnFwdIdeal.sig) → Buf (Elt Ideal) ℓ) : Prop :=
  True

def Pre_RefXattnFwdIdeal (m : (ℓ : Loc Cert.RefXattnFwdIdeal.nD Cert.RefXattnFwdIdeal.τ Cert.RefXattnFwdIdeal.sig) → Buf (Elt Ideal) ℓ) : Prop :=
  True

def Pre_RopeFwd (m : (ℓ : Loc Cert.RopeFwd.nD Cert.RopeFwd.τ Cert.RopeFwd.sig) → Buf (Elt Bits) ℓ) : Prop :=
  True

def Pre_RopeFwdIdeal (m : (ℓ : Loc Cert.RopeFwdIdeal.nD Cert.RopeFwdIdeal.τ Cert.RopeFwdIdeal.sig) → Buf (Elt Ideal) ℓ) : Prop :=
  True

def Pre_RefRopeFwdIdeal (m : (ℓ : Loc Cert.RefRopeFwdIdeal.nD Cert.RefRopeFwdIdeal.τ Cert.RefRopeFwdIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_RefMixIdeal (m : (ℓ : Loc Cert.RefMixIdeal.nD Cert.RefMixIdeal.τ Cert.RefMixIdeal.sig) → Buf (Elt Ideal) ℓ) : Prop :=
  True

def Pre_ProductMemNn (m : (ℓ : Loc Cert.ProductMemNn.nD Cert.ProductMemNn.τ Cert.ProductMemNn.sig) → Buf (Elt Bits) ℓ) : Prop :=
  True

def Pre_ProductMemNnIdeal (m : (ℓ : Loc Cert.ProductMemNnIdeal.nD Cert.ProductMemNnIdeal.τ Cert.ProductMemNnIdeal.sig) → Buf (Elt Ideal) ℓ) : Prop :=
  True

def Pre_RefMemNnIdeal (m : (ℓ : Loc Cert.RefMemNnIdeal.nD Cert.RefMemNnIdeal.τ Cert.RefMemNnIdeal.sig) → Buf (Elt Ideal) ℓ) : Prop :=
  True

def Pre_ProductMemTn (m : (ℓ : Loc Cert.ProductMemTn.nD Cert.ProductMemTn.τ Cert.ProductMemTn.sig) → Buf (Elt Bits) ℓ) : Prop :=
  True

def Pre_ProductMemTnIdeal (m : (ℓ : Loc Cert.ProductMemTnIdeal.nD Cert.ProductMemTnIdeal.τ Cert.ProductMemTnIdeal.sig) → Buf (Elt Ideal) ℓ) : Prop :=
  True

def Pre_RefMemTnIdeal (m : (ℓ : Loc Cert.RefMemTnIdeal.nD Cert.RefMemTnIdeal.τ Cert.RefMemTnIdeal.sig) → Buf (Elt Ideal) ℓ) : Prop :=
  True

def Pre_ProductMemNt (m : (ℓ : Loc Cert.ProductMemNt.nD Cert.ProductMemNt.τ Cert.ProductMemNt.sig) → Buf (Elt Bits) ℓ) : Prop :=
  True

def Pre_ProductMemNtIdeal (m : (ℓ : Loc Cert.ProductMemNtIdeal.nD Cert.ProductMemNtIdeal.τ Cert.ProductMemNtIdeal.sig) → Buf (Elt Ideal) ℓ) : Prop :=
  True

def Pre_RefMemNtIdeal (m : (ℓ : Loc Cert.RefMemNtIdeal.nD Cert.RefMemNtIdeal.τ Cert.RefMemNtIdeal.sig) → Buf (Elt Ideal) ℓ) : Prop :=
  True

def Pre_ProductPwNn (m : (ℓ : Loc Cert.ProductPwNn.nD Cert.ProductPwNn.τ Cert.ProductPwNn.sig) → Buf (Elt Bits) ℓ) : Prop :=
  True

def Pre_ProductPwNnIdeal (m : (ℓ : Loc Cert.ProductPwNnIdeal.nD Cert.ProductPwNnIdeal.τ Cert.ProductPwNnIdeal.sig) → Buf (Elt Ideal) ℓ) : Prop :=
  True

def Pre_RefPwNnIdeal (m : (ℓ : Loc Cert.RefPwNnIdeal.nD Cert.RefPwNnIdeal.τ Cert.RefPwNnIdeal.sig) → Buf (Elt Ideal) ℓ) : Prop :=
  True

def Pre_ProductPwTn (m : (ℓ : Loc Cert.ProductPwTn.nD Cert.ProductPwTn.τ Cert.ProductPwTn.sig) → Buf (Elt Bits) ℓ) : Prop :=
  True

def Pre_ProductPwTnIdeal (m : (ℓ : Loc Cert.ProductPwTnIdeal.nD Cert.ProductPwTnIdeal.τ Cert.ProductPwTnIdeal.sig) → Buf (Elt Ideal) ℓ) : Prop :=
  True

def Pre_RefPwTnIdeal (m : (ℓ : Loc Cert.RefPwTnIdeal.nD Cert.RefPwTnIdeal.τ Cert.RefPwTnIdeal.sig) → Buf (Elt Ideal) ℓ) : Prop :=
  True

def Pre_ProductPwNt (m : (ℓ : Loc Cert.ProductPwNt.nD Cert.ProductPwNt.τ Cert.ProductPwNt.sig) → Buf (Elt Bits) ℓ) : Prop :=
  True

def Pre_ProductPwNtIdeal (m : (ℓ : Loc Cert.ProductPwNtIdeal.nD Cert.ProductPwNtIdeal.τ Cert.ProductPwNtIdeal.sig) → Buf (Elt Ideal) ℓ) : Prop :=
  True

def Pre_RefPwNtIdeal (m : (ℓ : Loc Cert.RefPwNtIdeal.nD Cert.RefPwNtIdeal.τ Cert.RefPwNtIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ProductNt [hProductNt : Cert.ProductNt.Facts] : Prop :=
  ∀ (m : (ℓ : Loc Cert.ProductNt.nD Cert.ProductNt.τ Cert.ProductNt.sig) → Buf (Elt Bits) ℓ) (g : Dev Cert.ProductNt.nD → PrngReg), Pre_ProductNt m →
    θ_run (Cert.ProductNt.defs (F := Bits)) (onTc (τ := Cert.ProductNt.τ) (Cert.ProductNt.main (F := Bits))) ⟨m, fun _ => 0, g⟩ (fun r => (∀ c : Dev Cert.ProductNt.nD,
      r.2.mem ((c.tc : Thread Cert.ProductNt.nD Cert.ProductNt.τ).loc Cert.ProductNt.main_arg0) = m ((c.tc : Thread Cert.ProductNt.nD Cert.ProductNt.τ).loc Cert.ProductNt.main_arg0)
      ∧ r.2.mem ((c.tc : Thread Cert.ProductNt.nD Cert.ProductNt.τ).loc Cert.ProductNt.main_arg1) = m ((c.tc : Thread Cert.ProductNt.nD Cert.ProductNt.τ).loc Cert.ProductNt.main_arg1))
      ∧ r.2.sem = fun _ => 0)

def quiescent_ProductNtIdeal [hProductNtIdeal : Cert.ProductNtIdeal.Facts] : Prop :=
  ∀ (m : (ℓ : Loc Cert.ProductNtIdeal.nD Cert.ProductNtIdeal.τ Cert.ProductNtIdeal.sig) → Buf (Elt Ideal) ℓ) (g : Dev Cert.ProductNtIdeal.nD → PrngReg), Pre_ProductNtIdeal m →
    θ_run (Cert.ProductNtIdeal.defs (F := Ideal)) (onTc (τ := Cert.ProductNtIdeal.τ) (Cert.ProductNtIdeal.main (F := Ideal))) ⟨m, fun _ => 0, g⟩ (fun r => (∀ c : Dev Cert.ProductNtIdeal.nD,
      r.2.mem ((c.tc : Thread Cert.ProductNtIdeal.nD Cert.ProductNtIdeal.τ).loc Cert.ProductNtIdeal.main_arg0) = m ((c.tc : Thread Cert.ProductNtIdeal.nD Cert.ProductNtIdeal.τ).loc Cert.ProductNtIdeal.main_arg0)
      ∧ r.2.mem ((c.tc : Thread Cert.ProductNtIdeal.nD Cert.ProductNtIdeal.τ).loc Cert.ProductNtIdeal.main_arg1) = m ((c.tc : Thread Cert.ProductNtIdeal.nD Cert.ProductNtIdeal.τ).loc Cert.ProductNtIdeal.main_arg1))
      ∧ r.2.sem = fun _ => 0)

def quiescent_RefNtIdeal [hRefNtIdeal : Cert.RefNtIdeal.Facts] : Prop :=
  ∀ (m : (ℓ : Loc Cert.RefNtIdeal.nD Cert.RefNtIdeal.τ Cert.RefNtIdeal.sig) → Buf (Elt Ideal) ℓ) (g : Dev Cert.RefNtIdeal.nD → PrngReg), Pre_RefNtIdeal m →
    θ_run (Cert.RefNtIdeal.defs (F := Ideal)) (onTc (τ := Cert.RefNtIdeal.τ) (Cert.RefNtIdeal.main (F := Ideal))) ⟨m, fun _ => 0, g⟩ (fun r => (∀ c : Dev Cert.RefNtIdeal.nD,
      r.2.mem ((c.tc : Thread Cert.RefNtIdeal.nD Cert.RefNtIdeal.τ).loc Cert.RefNtIdeal.main_arg0) = m ((c.tc : Thread Cert.RefNtIdeal.nD Cert.RefNtIdeal.τ).loc Cert.RefNtIdeal.main_arg0)
      ∧ r.2.mem ((c.tc : Thread Cert.RefNtIdeal.nD Cert.RefNtIdeal.τ).loc Cert.RefNtIdeal.main_arg1) = m ((c.tc : Thread Cert.RefNtIdeal.nD Cert.RefNtIdeal.τ).loc Cert.RefNtIdeal.main_arg1))
      ∧ r.2.sem = fun _ => 0)

def quiescent_ProductTn [hProductTn : Cert.ProductTn.Facts] : Prop :=
  ∀ (m : (ℓ : Loc Cert.ProductTn.nD Cert.ProductTn.τ Cert.ProductTn.sig) → Buf (Elt Bits) ℓ) (g : Dev Cert.ProductTn.nD → PrngReg), Pre_ProductTn m →
    θ_run (Cert.ProductTn.defs (F := Bits)) (onTc (τ := Cert.ProductTn.τ) (Cert.ProductTn.main (F := Bits))) ⟨m, fun _ => 0, g⟩ (fun r => (∀ c : Dev Cert.ProductTn.nD,
      r.2.mem ((c.tc : Thread Cert.ProductTn.nD Cert.ProductTn.τ).loc Cert.ProductTn.main_arg0) = m ((c.tc : Thread Cert.ProductTn.nD Cert.ProductTn.τ).loc Cert.ProductTn.main_arg0)
      ∧ r.2.mem ((c.tc : Thread Cert.ProductTn.nD Cert.ProductTn.τ).loc Cert.ProductTn.main_arg1) = m ((c.tc : Thread Cert.ProductTn.nD Cert.ProductTn.τ).loc Cert.ProductTn.main_arg1))
      ∧ r.2.sem = fun _ => 0)

def quiescent_ProductTnIdeal [hProductTnIdeal : Cert.ProductTnIdeal.Facts] : Prop :=
  ∀ (m : (ℓ : Loc Cert.ProductTnIdeal.nD Cert.ProductTnIdeal.τ Cert.ProductTnIdeal.sig) → Buf (Elt Ideal) ℓ) (g : Dev Cert.ProductTnIdeal.nD → PrngReg), Pre_ProductTnIdeal m →
    θ_run (Cert.ProductTnIdeal.defs (F := Ideal)) (onTc (τ := Cert.ProductTnIdeal.τ) (Cert.ProductTnIdeal.main (F := Ideal))) ⟨m, fun _ => 0, g⟩ (fun r => (∀ c : Dev Cert.ProductTnIdeal.nD,
      r.2.mem ((c.tc : Thread Cert.ProductTnIdeal.nD Cert.ProductTnIdeal.τ).loc Cert.ProductTnIdeal.main_arg0) = m ((c.tc : Thread Cert.ProductTnIdeal.nD Cert.ProductTnIdeal.τ).loc Cert.ProductTnIdeal.main_arg0)
      ∧ r.2.mem ((c.tc : Thread Cert.ProductTnIdeal.nD Cert.ProductTnIdeal.τ).loc Cert.ProductTnIdeal.main_arg1) = m ((c.tc : Thread Cert.ProductTnIdeal.nD Cert.ProductTnIdeal.τ).loc Cert.ProductTnIdeal.main_arg1))
      ∧ r.2.sem = fun _ => 0)

def quiescent_RefTnIdeal [hRefTnIdeal : Cert.RefTnIdeal.Facts] : Prop :=
  ∀ (m : (ℓ : Loc Cert.RefTnIdeal.nD Cert.RefTnIdeal.τ Cert.RefTnIdeal.sig) → Buf (Elt Ideal) ℓ) (g : Dev Cert.RefTnIdeal.nD → PrngReg), Pre_RefTnIdeal m →
    θ_run (Cert.RefTnIdeal.defs (F := Ideal)) (onTc (τ := Cert.RefTnIdeal.τ) (Cert.RefTnIdeal.main (F := Ideal))) ⟨m, fun _ => 0, g⟩ (fun r => (∀ c : Dev Cert.RefTnIdeal.nD,
      r.2.mem ((c.tc : Thread Cert.RefTnIdeal.nD Cert.RefTnIdeal.τ).loc Cert.RefTnIdeal.main_arg0) = m ((c.tc : Thread Cert.RefTnIdeal.nD Cert.RefTnIdeal.τ).loc Cert.RefTnIdeal.main_arg0)
      ∧ r.2.mem ((c.tc : Thread Cert.RefTnIdeal.nD Cert.RefTnIdeal.τ).loc Cert.RefTnIdeal.main_arg1) = m ((c.tc : Thread Cert.RefTnIdeal.nD Cert.RefTnIdeal.τ).loc Cert.RefTnIdeal.main_arg1))
      ∧ r.2.sem = fun _ => 0)

def quiescent_ProductNn [hProductNn : Cert.ProductNn.Facts] : Prop :=
  ∀ (m : (ℓ : Loc Cert.ProductNn.nD Cert.ProductNn.τ Cert.ProductNn.sig) → Buf (Elt Bits) ℓ) (g : Dev Cert.ProductNn.nD → PrngReg), Pre_ProductNn m →
    θ_run (Cert.ProductNn.defs (F := Bits)) (onTc (τ := Cert.ProductNn.τ) (Cert.ProductNn.main (F := Bits))) ⟨m, fun _ => 0, g⟩ (fun r => (∀ c : Dev Cert.ProductNn.nD,
      r.2.mem ((c.tc : Thread Cert.ProductNn.nD Cert.ProductNn.τ).loc Cert.ProductNn.main_arg0) = m ((c.tc : Thread Cert.ProductNn.nD Cert.ProductNn.τ).loc Cert.ProductNn.main_arg0)
      ∧ r.2.mem ((c.tc : Thread Cert.ProductNn.nD Cert.ProductNn.τ).loc Cert.ProductNn.main_arg1) = m ((c.tc : Thread Cert.ProductNn.nD Cert.ProductNn.τ).loc Cert.ProductNn.main_arg1))
      ∧ r.2.sem = fun _ => 0)

def quiescent_ProductNnIdeal [hProductNnIdeal : Cert.ProductNnIdeal.Facts] : Prop :=
  ∀ (m : (ℓ : Loc Cert.ProductNnIdeal.nD Cert.ProductNnIdeal.τ Cert.ProductNnIdeal.sig) → Buf (Elt Ideal) ℓ) (g : Dev Cert.ProductNnIdeal.nD → PrngReg), Pre_ProductNnIdeal m →
    θ_run (Cert.ProductNnIdeal.defs (F := Ideal)) (onTc (τ := Cert.ProductNnIdeal.τ) (Cert.ProductNnIdeal.main (F := Ideal))) ⟨m, fun _ => 0, g⟩ (fun r => (∀ c : Dev Cert.ProductNnIdeal.nD,
      r.2.mem ((c.tc : Thread Cert.ProductNnIdeal.nD Cert.ProductNnIdeal.τ).loc Cert.ProductNnIdeal.main_arg0) = m ((c.tc : Thread Cert.ProductNnIdeal.nD Cert.ProductNnIdeal.τ).loc Cert.ProductNnIdeal.main_arg0)
      ∧ r.2.mem ((c.tc : Thread Cert.ProductNnIdeal.nD Cert.ProductNnIdeal.τ).loc Cert.ProductNnIdeal.main_arg1) = m ((c.tc : Thread Cert.ProductNnIdeal.nD Cert.ProductNnIdeal.τ).loc Cert.ProductNnIdeal.main_arg1))
      ∧ r.2.sem = fun _ => 0)

def quiescent_RefNnIdeal [hRefNnIdeal : Cert.RefNnIdeal.Facts] : Prop :=
  ∀ (m : (ℓ : Loc Cert.RefNnIdeal.nD Cert.RefNnIdeal.τ Cert.RefNnIdeal.sig) → Buf (Elt Ideal) ℓ) (g : Dev Cert.RefNnIdeal.nD → PrngReg), Pre_RefNnIdeal m →
    θ_run (Cert.RefNnIdeal.defs (F := Ideal)) (onTc (τ := Cert.RefNnIdeal.τ) (Cert.RefNnIdeal.main (F := Ideal))) ⟨m, fun _ => 0, g⟩ (fun r => (∀ c : Dev Cert.RefNnIdeal.nD,
      r.2.mem ((c.tc : Thread Cert.RefNnIdeal.nD Cert.RefNnIdeal.τ).loc Cert.RefNnIdeal.main_arg0) = m ((c.tc : Thread Cert.RefNnIdeal.nD Cert.RefNnIdeal.τ).loc Cert.RefNnIdeal.main_arg0)
      ∧ r.2.mem ((c.tc : Thread Cert.RefNnIdeal.nD Cert.RefNnIdeal.τ).loc Cert.RefNnIdeal.main_arg1) = m ((c.tc : Thread Cert.RefNnIdeal.nD Cert.RefNnIdeal.τ).loc Cert.RefNnIdeal.main_arg1))
      ∧ r.2.sem = fun _ => 0)

def quiescent_ProductSqNt [hProductSqNt : Cert.ProductSqNt.Facts] : Prop :=
  ∀ (m : (ℓ : Loc Cert.ProductSqNt.nD Cert.ProductSqNt.τ Cert.ProductSqNt.sig) → Buf (Elt Bits) ℓ) (g : Dev Cert.ProductSqNt.nD → PrngReg), Pre_ProductSqNt m →
    θ_run (Cert.ProductSqNt.defs (F := Bits)) (onTc (τ := Cert.ProductSqNt.τ) (Cert.ProductSqNt.main (F := Bits))) ⟨m, fun _ => 0, g⟩ (fun r => (∀ c : Dev Cert.ProductSqNt.nD,
      r.2.mem ((c.tc : Thread Cert.ProductSqNt.nD Cert.ProductSqNt.τ).loc Cert.ProductSqNt.main_arg0) = m ((c.tc : Thread Cert.ProductSqNt.nD Cert.ProductSqNt.τ).loc Cert.ProductSqNt.main_arg0)
      ∧ r.2.mem ((c.tc : Thread Cert.ProductSqNt.nD Cert.ProductSqNt.τ).loc Cert.ProductSqNt.main_arg1) = m ((c.tc : Thread Cert.ProductSqNt.nD Cert.ProductSqNt.τ).loc Cert.ProductSqNt.main_arg1))
      ∧ r.2.sem = fun _ => 0)

def quiescent_ProductSqNtIdeal [hProductSqNtIdeal : Cert.ProductSqNtIdeal.Facts] : Prop :=
  ∀ (m : (ℓ : Loc Cert.ProductSqNtIdeal.nD Cert.ProductSqNtIdeal.τ Cert.ProductSqNtIdeal.sig) → Buf (Elt Ideal) ℓ) (g : Dev Cert.ProductSqNtIdeal.nD → PrngReg), Pre_ProductSqNtIdeal m →
    θ_run (Cert.ProductSqNtIdeal.defs (F := Ideal)) (onTc (τ := Cert.ProductSqNtIdeal.τ) (Cert.ProductSqNtIdeal.main (F := Ideal))) ⟨m, fun _ => 0, g⟩ (fun r => (∀ c : Dev Cert.ProductSqNtIdeal.nD,
      r.2.mem ((c.tc : Thread Cert.ProductSqNtIdeal.nD Cert.ProductSqNtIdeal.τ).loc Cert.ProductSqNtIdeal.main_arg0) = m ((c.tc : Thread Cert.ProductSqNtIdeal.nD Cert.ProductSqNtIdeal.τ).loc Cert.ProductSqNtIdeal.main_arg0)
      ∧ r.2.mem ((c.tc : Thread Cert.ProductSqNtIdeal.nD Cert.ProductSqNtIdeal.τ).loc Cert.ProductSqNtIdeal.main_arg1) = m ((c.tc : Thread Cert.ProductSqNtIdeal.nD Cert.ProductSqNtIdeal.τ).loc Cert.ProductSqNtIdeal.main_arg1))
      ∧ r.2.sem = fun _ => 0)

def quiescent_RefSqNtIdeal [hRefSqNtIdeal : Cert.RefSqNtIdeal.Facts] : Prop :=
  ∀ (m : (ℓ : Loc Cert.RefSqNtIdeal.nD Cert.RefSqNtIdeal.τ Cert.RefSqNtIdeal.sig) → Buf (Elt Ideal) ℓ) (g : Dev Cert.RefSqNtIdeal.nD → PrngReg), Pre_RefSqNtIdeal m →
    θ_run (Cert.RefSqNtIdeal.defs (F := Ideal)) (onTc (τ := Cert.RefSqNtIdeal.τ) (Cert.RefSqNtIdeal.main (F := Ideal))) ⟨m, fun _ => 0, g⟩ (fun r => (∀ c : Dev Cert.RefSqNtIdeal.nD,
      r.2.mem ((c.tc : Thread Cert.RefSqNtIdeal.nD Cert.RefSqNtIdeal.τ).loc Cert.RefSqNtIdeal.main_arg0) = m ((c.tc : Thread Cert.RefSqNtIdeal.nD Cert.RefSqNtIdeal.τ).loc Cert.RefSqNtIdeal.main_arg0)
      ∧ r.2.mem ((c.tc : Thread Cert.RefSqNtIdeal.nD Cert.RefSqNtIdeal.τ).loc Cert.RefSqNtIdeal.main_arg1) = m ((c.tc : Thread Cert.RefSqNtIdeal.nD Cert.RefSqNtIdeal.τ).loc Cert.RefSqNtIdeal.main_arg1))
      ∧ r.2.sem = fun _ => 0)

def quiescent_ProductSqNtB [hProductSqNtB : Cert.ProductSqNtB.Facts] : Prop :=
  ∀ (m : (ℓ : Loc Cert.ProductSqNtB.nD Cert.ProductSqNtB.τ Cert.ProductSqNtB.sig) → Buf (Elt Bits) ℓ) (g : Dev Cert.ProductSqNtB.nD → PrngReg), Pre_ProductSqNtB m →
    θ_run (Cert.ProductSqNtB.defs (F := Bits)) (onTc (τ := Cert.ProductSqNtB.τ) (Cert.ProductSqNtB.main (F := Bits))) ⟨m, fun _ => 0, g⟩ (fun r => (∀ c : Dev Cert.ProductSqNtB.nD,
      r.2.mem ((c.tc : Thread Cert.ProductSqNtB.nD Cert.ProductSqNtB.τ).loc Cert.ProductSqNtB.main_arg0) = m ((c.tc : Thread Cert.ProductSqNtB.nD Cert.ProductSqNtB.τ).loc Cert.ProductSqNtB.main_arg0)
      ∧ r.2.mem ((c.tc : Thread Cert.ProductSqNtB.nD Cert.ProductSqNtB.τ).loc Cert.ProductSqNtB.main_arg1) = m ((c.tc : Thread Cert.ProductSqNtB.nD Cert.ProductSqNtB.τ).loc Cert.ProductSqNtB.main_arg1))
      ∧ r.2.sem = fun _ => 0)

def quiescent_ProductSqNtBIdeal [hProductSqNtBIdeal : Cert.ProductSqNtBIdeal.Facts] : Prop :=
  ∀ (m : (ℓ : Loc Cert.ProductSqNtBIdeal.nD Cert.ProductSqNtBIdeal.τ Cert.ProductSqNtBIdeal.sig) → Buf (Elt Ideal) ℓ) (g : Dev Cert.ProductSqNtBIdeal.nD → PrngReg), Pre_ProductSqNtBIdeal m →
    θ_run (Cert.ProductSqNtBIdeal.defs (F := Ideal)) (onTc (τ := Cert.ProductSqNtBIdeal.τ) (Cert.ProductSqNtBIdeal.main (F := Ideal))) ⟨m, fun _ => 0, g⟩ (fun r => (∀ c : Dev Cert.ProductSqNtBIdeal.nD,
      r.2.mem ((c.tc : Thread Cert.ProductSqNtBIdeal.nD Cert.ProductSqNtBIdeal.τ).loc Cert.ProductSqNtBIdeal.main_arg0) = m ((c.tc : Thread Cert.ProductSqNtBIdeal.nD Cert.ProductSqNtBIdeal.τ).loc Cert.ProductSqNtBIdeal.main_arg0)
      ∧ r.2.mem ((c.tc : Thread Cert.ProductSqNtBIdeal.nD Cert.ProductSqNtBIdeal.τ).loc Cert.ProductSqNtBIdeal.main_arg1) = m ((c.tc : Thread Cert.ProductSqNtBIdeal.nD Cert.ProductSqNtBIdeal.τ).loc Cert.ProductSqNtBIdeal.main_arg1))
      ∧ r.2.sem = fun _ => 0)

def quiescent_RefSqNtBIdeal [hRefSqNtBIdeal : Cert.RefSqNtBIdeal.Facts] : Prop :=
  ∀ (m : (ℓ : Loc Cert.RefSqNtBIdeal.nD Cert.RefSqNtBIdeal.τ Cert.RefSqNtBIdeal.sig) → Buf (Elt Ideal) ℓ) (g : Dev Cert.RefSqNtBIdeal.nD → PrngReg), Pre_RefSqNtBIdeal m →
    θ_run (Cert.RefSqNtBIdeal.defs (F := Ideal)) (onTc (τ := Cert.RefSqNtBIdeal.τ) (Cert.RefSqNtBIdeal.main (F := Ideal))) ⟨m, fun _ => 0, g⟩ (fun r => (∀ c : Dev Cert.RefSqNtBIdeal.nD,
      r.2.mem ((c.tc : Thread Cert.RefSqNtBIdeal.nD Cert.RefSqNtBIdeal.τ).loc Cert.RefSqNtBIdeal.main_arg0) = m ((c.tc : Thread Cert.RefSqNtBIdeal.nD Cert.RefSqNtBIdeal.τ).loc Cert.RefSqNtBIdeal.main_arg0)
      ∧ r.2.mem ((c.tc : Thread Cert.RefSqNtBIdeal.nD Cert.RefSqNtBIdeal.τ).loc Cert.RefSqNtBIdeal.main_arg1) = m ((c.tc : Thread Cert.RefSqNtBIdeal.nD Cert.RefSqNtBIdeal.τ).loc Cert.RefSqNtBIdeal.main_arg1))
      ∧ r.2.sem = fun _ => 0)

def quiescent_ProductSqTn [hProductSqTn : Cert.ProductSqTn.Facts] : Prop :=
  ∀ (m : (ℓ : Loc Cert.ProductSqTn.nD Cert.ProductSqTn.τ Cert.ProductSqTn.sig) → Buf (Elt Bits) ℓ) (g : Dev Cert.ProductSqTn.nD → PrngReg), Pre_ProductSqTn m →
    θ_run (Cert.ProductSqTn.defs (F := Bits)) (onTc (τ := Cert.ProductSqTn.τ) (Cert.ProductSqTn.main (F := Bits))) ⟨m, fun _ => 0, g⟩ (fun r => (∀ c : Dev Cert.ProductSqTn.nD,
      r.2.mem ((c.tc : Thread Cert.ProductSqTn.nD Cert.ProductSqTn.τ).loc Cert.ProductSqTn.main_arg0) = m ((c.tc : Thread Cert.ProductSqTn.nD Cert.ProductSqTn.τ).loc Cert.ProductSqTn.main_arg0)
      ∧ r.2.mem ((c.tc : Thread Cert.ProductSqTn.nD Cert.ProductSqTn.τ).loc Cert.ProductSqTn.main_arg1) = m ((c.tc : Thread Cert.ProductSqTn.nD Cert.ProductSqTn.τ).loc Cert.ProductSqTn.main_arg1))
      ∧ r.2.sem = fun _ => 0)

def quiescent_ProductSqTnIdeal [hProductSqTnIdeal : Cert.ProductSqTnIdeal.Facts] : Prop :=
  ∀ (m : (ℓ : Loc Cert.ProductSqTnIdeal.nD Cert.ProductSqTnIdeal.τ Cert.ProductSqTnIdeal.sig) → Buf (Elt Ideal) ℓ) (g : Dev Cert.ProductSqTnIdeal.nD → PrngReg), Pre_ProductSqTnIdeal m →
    θ_run (Cert.ProductSqTnIdeal.defs (F := Ideal)) (onTc (τ := Cert.ProductSqTnIdeal.τ) (Cert.ProductSqTnIdeal.main (F := Ideal))) ⟨m, fun _ => 0, g⟩ (fun r => (∀ c : Dev Cert.ProductSqTnIdeal.nD,
      r.2.mem ((c.tc : Thread Cert.ProductSqTnIdeal.nD Cert.ProductSqTnIdeal.τ).loc Cert.ProductSqTnIdeal.main_arg0) = m ((c.tc : Thread Cert.ProductSqTnIdeal.nD Cert.ProductSqTnIdeal.τ).loc Cert.ProductSqTnIdeal.main_arg0)
      ∧ r.2.mem ((c.tc : Thread Cert.ProductSqTnIdeal.nD Cert.ProductSqTnIdeal.τ).loc Cert.ProductSqTnIdeal.main_arg1) = m ((c.tc : Thread Cert.ProductSqTnIdeal.nD Cert.ProductSqTnIdeal.τ).loc Cert.ProductSqTnIdeal.main_arg1))
      ∧ r.2.sem = fun _ => 0)

def quiescent_RefSqTnIdeal [hRefSqTnIdeal : Cert.RefSqTnIdeal.Facts] : Prop :=
  ∀ (m : (ℓ : Loc Cert.RefSqTnIdeal.nD Cert.RefSqTnIdeal.τ Cert.RefSqTnIdeal.sig) → Buf (Elt Ideal) ℓ) (g : Dev Cert.RefSqTnIdeal.nD → PrngReg), Pre_RefSqTnIdeal m →
    θ_run (Cert.RefSqTnIdeal.defs (F := Ideal)) (onTc (τ := Cert.RefSqTnIdeal.τ) (Cert.RefSqTnIdeal.main (F := Ideal))) ⟨m, fun _ => 0, g⟩ (fun r => (∀ c : Dev Cert.RefSqTnIdeal.nD,
      r.2.mem ((c.tc : Thread Cert.RefSqTnIdeal.nD Cert.RefSqTnIdeal.τ).loc Cert.RefSqTnIdeal.main_arg0) = m ((c.tc : Thread Cert.RefSqTnIdeal.nD Cert.RefSqTnIdeal.τ).loc Cert.RefSqTnIdeal.main_arg0)
      ∧ r.2.mem ((c.tc : Thread Cert.RefSqTnIdeal.nD Cert.RefSqTnIdeal.τ).loc Cert.RefSqTnIdeal.main_arg1) = m ((c.tc : Thread Cert.RefSqTnIdeal.nD Cert.RefSqTnIdeal.τ).loc Cert.RefSqTnIdeal.main_arg1))
      ∧ r.2.sem = fun _ => 0)

def quiescent_ProductSqNn [hProductSqNn : Cert.ProductSqNn.Facts] : Prop :=
  ∀ (m : (ℓ : Loc Cert.ProductSqNn.nD Cert.ProductSqNn.τ Cert.ProductSqNn.sig) → Buf (Elt Bits) ℓ) (g : Dev Cert.ProductSqNn.nD → PrngReg), Pre_ProductSqNn m →
    θ_run (Cert.ProductSqNn.defs (F := Bits)) (onTc (τ := Cert.ProductSqNn.τ) (Cert.ProductSqNn.main (F := Bits))) ⟨m, fun _ => 0, g⟩ (fun r => (∀ c : Dev Cert.ProductSqNn.nD,
      r.2.mem ((c.tc : Thread Cert.ProductSqNn.nD Cert.ProductSqNn.τ).loc Cert.ProductSqNn.main_arg0) = m ((c.tc : Thread Cert.ProductSqNn.nD Cert.ProductSqNn.τ).loc Cert.ProductSqNn.main_arg0)
      ∧ r.2.mem ((c.tc : Thread Cert.ProductSqNn.nD Cert.ProductSqNn.τ).loc Cert.ProductSqNn.main_arg1) = m ((c.tc : Thread Cert.ProductSqNn.nD Cert.ProductSqNn.τ).loc Cert.ProductSqNn.main_arg1))
      ∧ r.2.sem = fun _ => 0)

def quiescent_ProductSqNnIdeal [hProductSqNnIdeal : Cert.ProductSqNnIdeal.Facts] : Prop :=
  ∀ (m : (ℓ : Loc Cert.ProductSqNnIdeal.nD Cert.ProductSqNnIdeal.τ Cert.ProductSqNnIdeal.sig) → Buf (Elt Ideal) ℓ) (g : Dev Cert.ProductSqNnIdeal.nD → PrngReg), Pre_ProductSqNnIdeal m →
    θ_run (Cert.ProductSqNnIdeal.defs (F := Ideal)) (onTc (τ := Cert.ProductSqNnIdeal.τ) (Cert.ProductSqNnIdeal.main (F := Ideal))) ⟨m, fun _ => 0, g⟩ (fun r => (∀ c : Dev Cert.ProductSqNnIdeal.nD,
      r.2.mem ((c.tc : Thread Cert.ProductSqNnIdeal.nD Cert.ProductSqNnIdeal.τ).loc Cert.ProductSqNnIdeal.main_arg0) = m ((c.tc : Thread Cert.ProductSqNnIdeal.nD Cert.ProductSqNnIdeal.τ).loc Cert.ProductSqNnIdeal.main_arg0)
      ∧ r.2.mem ((c.tc : Thread Cert.ProductSqNnIdeal.nD Cert.ProductSqNnIdeal.τ).loc Cert.ProductSqNnIdeal.main_arg1) = m ((c.tc : Thread Cert.ProductSqNnIdeal.nD Cert.ProductSqNnIdeal.τ).loc Cert.ProductSqNnIdeal.main_arg1))
      ∧ r.2.sem = fun _ => 0)

def quiescent_RefSqNnIdeal [hRefSqNnIdeal : Cert.RefSqNnIdeal.Facts] : Prop :=
  ∀ (m : (ℓ : Loc Cert.RefSqNnIdeal.nD Cert.RefSqNnIdeal.τ Cert.RefSqNnIdeal.sig) → Buf (Elt Ideal) ℓ) (g : Dev Cert.RefSqNnIdeal.nD → PrngReg), Pre_RefSqNnIdeal m →
    θ_run (Cert.RefSqNnIdeal.defs (F := Ideal)) (onTc (τ := Cert.RefSqNnIdeal.τ) (Cert.RefSqNnIdeal.main (F := Ideal))) ⟨m, fun _ => 0, g⟩ (fun r => (∀ c : Dev Cert.RefSqNnIdeal.nD,
      r.2.mem ((c.tc : Thread Cert.RefSqNnIdeal.nD Cert.RefSqNnIdeal.τ).loc Cert.RefSqNnIdeal.main_arg0) = m ((c.tc : Thread Cert.RefSqNnIdeal.nD Cert.RefSqNnIdeal.τ).loc Cert.RefSqNnIdeal.main_arg0)
      ∧ r.2.mem ((c.tc : Thread Cert.RefSqNnIdeal.nD Cert.RefSqNnIdeal.τ).loc Cert.RefSqNnIdeal.main_arg1) = m ((c.tc : Thread Cert.RefSqNnIdeal.nD Cert.RefSqNnIdeal.τ).loc Cert.RefSqNnIdeal.main_arg1))
      ∧ r.2.sem = fun _ => 0)

def quiescent_ProductSqNnB [hProductSqNnB : Cert.ProductSqNnB.Facts] : Prop :=
  ∀ (m : (ℓ : Loc Cert.ProductSqNnB.nD Cert.ProductSqNnB.τ Cert.ProductSqNnB.sig) → Buf (Elt Bits) ℓ) (g : Dev Cert.ProductSqNnB.nD → PrngReg), Pre_ProductSqNnB m →
    θ_run (Cert.ProductSqNnB.defs (F := Bits)) (onTc (τ := Cert.ProductSqNnB.τ) (Cert.ProductSqNnB.main (F := Bits))) ⟨m, fun _ => 0, g⟩ (fun r => (∀ c : Dev Cert.ProductSqNnB.nD,
      r.2.mem ((c.tc : Thread Cert.ProductSqNnB.nD Cert.ProductSqNnB.τ).loc Cert.ProductSqNnB.main_arg0) = m ((c.tc : Thread Cert.ProductSqNnB.nD Cert.ProductSqNnB.τ).loc Cert.ProductSqNnB.main_arg0)
      ∧ r.2.mem ((c.tc : Thread Cert.ProductSqNnB.nD Cert.ProductSqNnB.τ).loc Cert.ProductSqNnB.main_arg1) = m ((c.tc : Thread Cert.ProductSqNnB.nD Cert.ProductSqNnB.τ).loc Cert.ProductSqNnB.main_arg1))
      ∧ r.2.sem = fun _ => 0)

def quiescent_ProductSqNnBIdeal [hProductSqNnBIdeal : Cert.ProductSqNnBIdeal.Facts] : Prop :=
  ∀ (m : (ℓ : Loc Cert.ProductSqNnBIdeal.nD Cert.ProductSqNnBIdeal.τ Cert.ProductSqNnBIdeal.sig) → Buf (Elt Ideal) ℓ) (g : Dev Cert.ProductSqNnBIdeal.nD → PrngReg), Pre_ProductSqNnBIdeal m →
    θ_run (Cert.ProductSqNnBIdeal.defs (F := Ideal)) (onTc (τ := Cert.ProductSqNnBIdeal.τ) (Cert.ProductSqNnBIdeal.main (F := Ideal))) ⟨m, fun _ => 0, g⟩ (fun r => (∀ c : Dev Cert.ProductSqNnBIdeal.nD,
      r.2.mem ((c.tc : Thread Cert.ProductSqNnBIdeal.nD Cert.ProductSqNnBIdeal.τ).loc Cert.ProductSqNnBIdeal.main_arg0) = m ((c.tc : Thread Cert.ProductSqNnBIdeal.nD Cert.ProductSqNnBIdeal.τ).loc Cert.ProductSqNnBIdeal.main_arg0)
      ∧ r.2.mem ((c.tc : Thread Cert.ProductSqNnBIdeal.nD Cert.ProductSqNnBIdeal.τ).loc Cert.ProductSqNnBIdeal.main_arg1) = m ((c.tc : Thread Cert.ProductSqNnBIdeal.nD Cert.ProductSqNnBIdeal.τ).loc Cert.ProductSqNnBIdeal.main_arg1))
      ∧ r.2.sem = fun _ => 0)

def quiescent_RefSqNnBIdeal [hRefSqNnBIdeal : Cert.RefSqNnBIdeal.Facts] : Prop :=
  ∀ (m : (ℓ : Loc Cert.RefSqNnBIdeal.nD Cert.RefSqNnBIdeal.τ Cert.RefSqNnBIdeal.sig) → Buf (Elt Ideal) ℓ) (g : Dev Cert.RefSqNnBIdeal.nD → PrngReg), Pre_RefSqNnBIdeal m →
    θ_run (Cert.RefSqNnBIdeal.defs (F := Ideal)) (onTc (τ := Cert.RefSqNnBIdeal.τ) (Cert.RefSqNnBIdeal.main (F := Ideal))) ⟨m, fun _ => 0, g⟩ (fun r => (∀ c : Dev Cert.RefSqNnBIdeal.nD,
      r.2.mem ((c.tc : Thread Cert.RefSqNnBIdeal.nD Cert.RefSqNnBIdeal.τ).loc Cert.RefSqNnBIdeal.main_arg0) = m ((c.tc : Thread Cert.RefSqNnBIdeal.nD Cert.RefSqNnBIdeal.τ).loc Cert.RefSqNnBIdeal.main_arg0)
      ∧ r.2.mem ((c.tc : Thread Cert.RefSqNnBIdeal.nD Cert.RefSqNnBIdeal.τ).loc Cert.RefSqNnBIdeal.main_arg1) = m ((c.tc : Thread Cert.RefSqNnBIdeal.nD Cert.RefSqNnBIdeal.τ).loc Cert.RefSqNnBIdeal.main_arg1))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_RefAdamwInIdeal [hRefAdamwInIdeal : Cert.RefAdamwInIdeal.Facts] : Prop :=
  ∀ (m : (ℓ : Loc Cert.RefAdamwInIdeal.nD Cert.RefAdamwInIdeal.τ Cert.RefAdamwInIdeal.sig) → Buf (Elt Ideal) ℓ) (g : Dev Cert.RefAdamwInIdeal.nD → PrngReg), Pre_RefAdamwInIdeal m →
    θ_run (Cert.RefAdamwInIdeal.defs (F := Ideal)) (onTc (τ := Cert.RefAdamwInIdeal.τ) (Cert.RefAdamwInIdeal.main (F := Ideal))) ⟨m, fun _ => 0, g⟩ (fun r => (∀ c : Dev Cert.RefAdamwInIdeal.nD,
      r.2.mem ((c.tc : Thread Cert.RefAdamwInIdeal.nD Cert.RefAdamwInIdeal.τ).loc Cert.RefAdamwInIdeal.main_arg0) = m ((c.tc : Thread Cert.RefAdamwInIdeal.nD Cert.RefAdamwInIdeal.τ).loc Cert.RefAdamwInIdeal.main_arg0)
      ∧ r.2.mem ((c.tc : Thread Cert.RefAdamwInIdeal.nD Cert.RefAdamwInIdeal.τ).loc Cert.RefAdamwInIdeal.main_arg1) = m ((c.tc : Thread Cert.RefAdamwInIdeal.nD Cert.RefAdamwInIdeal.τ).loc Cert.RefAdamwInIdeal.main_arg1)
      ∧ r.2.mem ((c.tc : Thread Cert.RefAdamwInIdeal.nD Cert.RefAdamwInIdeal.τ).loc Cert.RefAdamwInIdeal.main_arg2) = m ((c.tc : Thread Cert.RefAdamwInIdeal.nD Cert.RefAdamwInIdeal.τ).loc Cert.RefAdamwInIdeal.main_arg2)
      ∧ r.2.mem ((c.tc : Thread Cert.RefAdamwInIdeal.nD Cert.RefAdamwInIdeal.τ).loc Cert.RefAdamwInIdeal.main_arg3) = m ((c.tc : Thread Cert.RefAdamwInIdeal.nD Cert.RefAdamwInIdeal.τ).loc Cert.RefAdamwInIdeal.main_arg3))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ r.2.sem = fun _ => 0)

def quiescent_RefAdamwUpIdeal [hRefAdamwUpIdeal : Cert.RefAdamwUpIdeal.Facts] : Prop :=
  ∀ (m : (ℓ : Loc Cert.RefAdamwUpIdeal.nD Cert.RefAdamwUpIdeal.τ Cert.RefAdamwUpIdeal.sig) → Buf (Elt Ideal) ℓ) (g : Dev Cert.RefAdamwUpIdeal.nD → PrngReg), Pre_RefAdamwUpIdeal m →
    θ_run (Cert.RefAdamwUpIdeal.defs (F := Ideal)) (onTc (τ := Cert.RefAdamwUpIdeal.τ) (Cert.RefAdamwUpIdeal.main (F := Ideal))) ⟨m, fun _ => 0, g⟩ (fun r => (∀ c : Dev Cert.RefAdamwUpIdeal.nD,
      r.2.mem ((c.tc : Thread Cert.RefAdamwUpIdeal.nD Cert.RefAdamwUpIdeal.τ).loc Cert.RefAdamwUpIdeal.main_arg0) = m ((c.tc : Thread Cert.RefAdamwUpIdeal.nD Cert.RefAdamwUpIdeal.τ).loc Cert.RefAdamwUpIdeal.main_arg0)
      ∧ r.2.mem ((c.tc : Thread Cert.RefAdamwUpIdeal.nD Cert.RefAdamwUpIdeal.τ).loc Cert.RefAdamwUpIdeal.main_arg1) = m ((c.tc : Thread Cert.RefAdamwUpIdeal.nD Cert.RefAdamwUpIdeal.τ).loc Cert.RefAdamwUpIdeal.main_arg1)
      ∧ r.2.mem ((c.tc : Thread Cert.RefAdamwUpIdeal.nD Cert.RefAdamwUpIdeal.τ).loc Cert.RefAdamwUpIdeal.main_arg2) = m ((c.tc : Thread Cert.RefAdamwUpIdeal.nD Cert.RefAdamwUpIdeal.τ).loc Cert.RefAdamwUpIdeal.main_arg2)
      ∧ r.2.mem ((c.tc : Thread Cert.RefAdamwUpIdeal.nD Cert.RefAdamwUpIdeal.τ).loc Cert.RefAdamwUpIdeal.main_arg3) = m ((c.tc : Thread Cert.RefAdamwUpIdeal.nD Cert.RefAdamwUpIdeal.τ).loc Cert.RefAdamwUpIdeal.main_arg3))
      ∧ r.2.sem = fun _ => 0)

def quiescent_AdamwPw [hAdamwPw : Cert.AdamwPw.Facts] : Prop :=
  ∀ (m : (ℓ : Loc Cert.AdamwPw.nD Cert.AdamwPw.τ Cert.AdamwPw.sig) → Buf (Elt Bits) ℓ) (g : Dev Cert.AdamwPw.nD → PrngReg), Pre_AdamwPw m →
    θ_run (Cert.AdamwPw.defs (F := Bits)) (onTc (τ := Cert.AdamwPw.τ) (Cert.AdamwPw.main (F := Bits))) ⟨m, fun _ => 0, g⟩ (fun r => (∀ c : Dev Cert.AdamwPw.nD,
      r.2.mem ((c.tc : Thread Cert.AdamwPw.nD Cert.AdamwPw.τ).loc Cert.AdamwPw.main_arg0) = m ((c.tc : Thread Cert.AdamwPw.nD Cert.AdamwPw.τ).loc Cert.AdamwPw.main_arg0)
      ∧ r.2.mem ((c.tc : Thread Cert.AdamwPw.nD Cert.AdamwPw.τ).loc Cert.AdamwPw.main_arg1) = m ((c.tc : Thread Cert.AdamwPw.nD Cert.AdamwPw.τ).loc Cert.AdamwPw.main_arg1)
      ∧ r.2.mem ((c.tc : Thread Cert.AdamwPw.nD Cert.AdamwPw.τ).loc Cert.AdamwPw.main_arg2) = m ((c.tc : Thread Cert.AdamwPw.nD Cert.AdamwPw.τ).loc Cert.AdamwPw.main_arg2)
      ∧ r.2.mem ((c.tc : Thread Cert.AdamwPw.nD Cert.AdamwPw.τ).loc Cert.AdamwPw.main_arg3) = m ((c.tc : Thread Cert.AdamwPw.nD Cert.AdamwPw.τ).loc Cert.AdamwPw.main_arg3))
      ∧ r.2.sem = fun _ => 0)

def quiescent_AdamwPwIdeal [hAdamwPwIdeal : Cert.AdamwPwIdeal.Facts] : Prop :=
  ∀ (m : (ℓ : Loc Cert.AdamwPwIdeal.nD Cert.AdamwPwIdeal.τ Cert.AdamwPwIdeal.sig) → Buf (Elt Ideal) ℓ) (g : Dev Cert.AdamwPwIdeal.nD → PrngReg), Pre_AdamwPwIdeal m →
    θ_run (Cert.AdamwPwIdeal.defs (F := Ideal)) (onTc (τ := Cert.AdamwPwIdeal.τ) (Cert.AdamwPwIdeal.main (F := Ideal))) ⟨m, fun _ => 0, g⟩ (fun r => (∀ c : Dev Cert.AdamwPwIdeal.nD,
      r.2.mem ((c.tc : Thread Cert.AdamwPwIdeal.nD Cert.AdamwPwIdeal.τ).loc Cert.AdamwPwIdeal.main_arg0) = m ((c.tc : Thread Cert.AdamwPwIdeal.nD Cert.AdamwPwIdeal.τ).loc Cert.AdamwPwIdeal.main_arg0)
      ∧ r.2.mem ((c.tc : Thread Cert.AdamwPwIdeal.nD Cert.AdamwPwIdeal.τ).loc Cert.AdamwPwIdeal.main_arg1) = m ((c.tc : Thread Cert.AdamwPwIdeal.nD Cert.AdamwPwIdeal.τ).loc Cert.AdamwPwIdeal.main_arg1)
      ∧ r.2.mem ((c.tc : Thread Cert.AdamwPwIdeal.nD Cert.AdamwPwIdeal.τ).loc Cert.AdamwPwIdeal.main_arg2) = m ((c.tc : Thread Cert.AdamwPwIdeal.nD Cert.AdamwPwIdeal.τ).loc Cert.AdamwPwIdeal.main_arg2)
      ∧ r.2.mem ((c.tc : Thread Cert.AdamwPwIdeal.nD Cert.AdamwPwIdeal.τ).loc Cert.AdamwPwIdeal.main_arg3) = m ((c.tc : Thread Cert.AdamwPwIdeal.nD Cert.AdamwPwIdeal.τ).loc Cert.AdamwPwIdeal.main_arg3))
      ∧ r.2.sem = fun _ => 0)

def quiescent_RefAdamwPwIdeal [hRefAdamwPwIdeal : Cert.RefAdamwPwIdeal.Facts] : Prop :=
  ∀ (m : (ℓ : Loc Cert.RefAdamwPwIdeal.nD Cert.RefAdamwPwIdeal.τ Cert.RefAdamwPwIdeal.sig) → Buf (Elt Ideal) ℓ) (g : Dev Cert.RefAdamwPwIdeal.nD → PrngReg), Pre_RefAdamwPwIdeal m →
    θ_run (Cert.RefAdamwPwIdeal.defs (F := Ideal)) (onTc (τ := Cert.RefAdamwPwIdeal.τ) (Cert.RefAdamwPwIdeal.main (F := Ideal))) ⟨m, fun _ => 0, g⟩ (fun r => (∀ c : Dev Cert.RefAdamwPwIdeal.nD,
      r.2.mem ((c.tc : Thread Cert.RefAdamwPwIdeal.nD Cert.RefAdamwPwIdeal.τ).loc Cert.RefAdamwPwIdeal.main_arg0) = m ((c.tc : Thread Cert.RefAdamwPwIdeal.nD Cert.RefAdamwPwIdeal.τ).loc Cert.RefAdamwPwIdeal.main_arg0)
      ∧ r.2.mem ((c.tc : Thread Cert.RefAdamwPwIdeal.nD Cert.RefAdamwPwIdeal.τ).loc Cert.RefAdamwPwIdeal.main_arg1) = m ((c.tc : Thread Cert.RefAdamwPwIdeal.nD Cert.RefAdamwPwIdeal.τ).loc Cert.RefAdamwPwIdeal.main_arg1)
      ∧ r.2.mem ((c.tc : Thread Cert.RefAdamwPwIdeal.nD Cert.RefAdamwPwIdeal.τ).loc Cert.RefAdamwPwIdeal.main_arg2) = m ((c.tc : Thread Cert.RefAdamwPwIdeal.nD Cert.RefAdamwPwIdeal.τ).loc Cert.RefAdamwPwIdeal.main_arg2)
      ∧ r.2.mem ((c.tc : Thread Cert.RefAdamwPwIdeal.nD Cert.RefAdamwPwIdeal.τ).loc Cert.RefAdamwPwIdeal.main_arg3) = m ((c.tc : Thread Cert.RefAdamwPwIdeal.nD Cert.RefAdamwPwIdeal.τ).loc Cert.RefAdamwPwIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_RefAdamwSmallIdeal [hRefAdamwSmallIdeal : Cert.RefAdamwSmallIdeal.Facts] : Prop :=
  ∀ (m : (ℓ : Loc Cert.RefAdamwSmallIdeal.nD Cert.RefAdamwSmallIdeal.τ Cert.RefAdamwSmallIdeal.sig) → Buf (Elt Ideal) ℓ) (g : Dev Cert.RefAdamwSmallIdeal.nD → PrngReg), Pre_RefAdamwSmallIdeal m →
    θ_run (Cert.RefAdamwSmallIdeal.defs (F := Ideal)) (onTc (τ := Cert.RefAdamwSmallIdeal.τ) (Cert.RefAdamwSmallIdeal.main (F := Ideal))) ⟨m, fun _ => 0, g⟩ (fun r => (∀ c : Dev Cert.RefAdamwSmallIdeal.nD,
      r.2.mem ((c.tc : Thread Cert.RefAdamwSmallIdeal.nD Cert.RefAdamwSmallIdeal.τ).loc Cert.RefAdamwSmallIdeal.main_arg0) = m ((c.tc : Thread Cert.RefAdamwSmallIdeal.nD Cert.RefAdamwSmallIdeal.τ).loc Cert.RefAdamwSmallIdeal.main_arg0)
      ∧ r.2.mem ((c.tc : Thread Cert.RefAdamwSmallIdeal.nD Cert.RefAdamwSmallIdeal.τ).loc Cert.RefAdamwSmallIdeal.main_arg1) = m ((c.tc : Thread Cert.RefAdamwSmallIdeal.nD Cert.RefAdamwSmallIdeal.τ).loc Cert.RefAdamwSmallIdeal.main_arg1)
      ∧ r.2.mem ((c.tc : Thread Cert.RefAdamwSmallIdeal.nD Cert.RefAdamwSmallIdeal.τ).loc Cert.RefAdamwSmallIdeal.main_arg2) = m ((c.tc : Thread Cert.RefAdamwSmallIdeal.nD Cert.RefAdamwSmallIdeal.τ).loc Cert.RefAdamwSmallIdeal.main_arg2)
      ∧ r.2.mem ((c.tc : Thread Cert.RefAdamwSmallIdeal.nD Cert.RefAdamwSmallIdeal.τ).loc Cert.RefAdamwSmallIdeal.main_arg3) = m ((c.tc : Thread Cert.RefAdamwSmallIdeal.nD Cert.RefAdamwSmallIdeal.τ).loc Cert.RefAdamwSmallIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3)
      ∧ r.2.mem ((c.tc : Thread Cert.AdamwOut.nD Cert.AdamwOut.τ).loc Cert.AdamwOut.main_arg4) = m ((c.tc : Thread Cert.AdamwOut.nD Cert.AdamwOut.τ).loc Cert.AdamwOut.main_arg4))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
      ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4))
      ∧ r.2.sem = fun _ => 0)

def quiescent_RefAdamwOutIdeal [hRefAdamwOutIdeal : Cert.RefAdamwOutIdeal.Facts] : Prop :=
  ∀ (m : (ℓ : Loc Cert.RefAdamwOutIdeal.nD Cert.RefAdamwOutIdeal.τ Cert.RefAdamwOutIdeal.sig) → Buf (Elt Ideal) ℓ) (g : Dev Cert.RefAdamwOutIdeal.nD → PrngReg), Pre_RefAdamwOutIdeal m →
    θ_run (Cert.RefAdamwOutIdeal.defs (F := Ideal)) (onTc (τ := Cert.RefAdamwOutIdeal.τ) (Cert.RefAdamwOutIdeal.main (F := Ideal))) ⟨m, fun _ => 0, g⟩ (fun r => (∀ c : Dev Cert.RefAdamwOutIdeal.nD,
      r.2.mem ((c.tc : Thread Cert.RefAdamwOutIdeal.nD Cert.RefAdamwOutIdeal.τ).loc Cert.RefAdamwOutIdeal.main_arg0) = m ((c.tc : Thread Cert.RefAdamwOutIdeal.nD Cert.RefAdamwOutIdeal.τ).loc Cert.RefAdamwOutIdeal.main_arg0)
      ∧ r.2.mem ((c.tc : Thread Cert.RefAdamwOutIdeal.nD Cert.RefAdamwOutIdeal.τ).loc Cert.RefAdamwOutIdeal.main_arg1) = m ((c.tc : Thread Cert.RefAdamwOutIdeal.nD Cert.RefAdamwOutIdeal.τ).loc Cert.RefAdamwOutIdeal.main_arg1)
      ∧ r.2.mem ((c.tc : Thread Cert.RefAdamwOutIdeal.nD Cert.RefAdamwOutIdeal.τ).loc Cert.RefAdamwOutIdeal.main_arg2) = m ((c.tc : Thread Cert.RefAdamwOutIdeal.nD Cert.RefAdamwOutIdeal.τ).loc Cert.RefAdamwOutIdeal.main_arg2)
      ∧ r.2.mem ((c.tc : Thread Cert.RefAdamwOutIdeal.nD Cert.RefAdamwOutIdeal.τ).loc Cert.RefAdamwOutIdeal.main_arg3) = m ((c.tc : Thread Cert.RefAdamwOutIdeal.nD Cert.RefAdamwOutIdeal.τ).loc Cert.RefAdamwOutIdeal.main_arg3)
      ∧ r.2.mem ((c.tc : Thread Cert.RefAdamwOutIdeal.nD Cert.RefAdamwOutIdeal.τ).loc Cert.RefAdamwOutIdeal.main_arg4) = m ((c.tc : Thread Cert.RefAdamwOutIdeal.nD Cert.RefAdamwOutIdeal.τ).loc Cert.RefAdamwOutIdeal.main_arg4))
      ∧ r.2.sem = fun _ => 0)

def quiescent_AdamwXq [hAdamwXq : Cert.AdamwXq.Facts] : Prop :=
  ∀ (m : (ℓ : Loc Cert.AdamwXq.nD Cert.AdamwXq.τ Cert.AdamwXq.sig) → Buf (Elt Bits) ℓ) (g : Dev Cert.AdamwXq.nD → PrngReg), Pre_AdamwXq m →
    θ_run (Cert.AdamwXq.defs (F := Bits)) (onTc (τ := Cert.AdamwXq.τ) (Cert.AdamwXq.main (F := Bits))) ⟨m, fun _ => 0, g⟩ (fun r => (∀ c : Dev Cert.AdamwXq.nD,
      r.2.mem ((c.tc : Thread Cert.AdamwXq.nD Cert.AdamwXq.τ).loc Cert.AdamwXq.main_arg0) = m ((c.tc : Thread Cert.AdamwXq.nD Cert.AdamwXq.τ).loc Cert.AdamwXq.main_arg0)
      ∧ r.2.mem ((c.tc : Thread Cert.AdamwXq.nD Cert.AdamwXq.τ).loc Cert.AdamwXq.main_arg1) = m ((c.tc : Thread Cert.AdamwXq.nD Cert.AdamwXq.τ).loc Cert.AdamwXq.main_arg1)
      ∧ r.2.mem ((c.tc : Thread Cert.AdamwXq.nD Cert.AdamwXq.τ).loc Cert.AdamwXq.main_arg2) = m ((c.tc : Thread Cert.AdamwXq.nD Cert.AdamwXq.τ).loc Cert.AdamwXq.main_arg2)
      ∧ r.2.mem ((c.tc : Thread Cert.AdamwXq.nD Cert.AdamwXq.τ).loc Cert.AdamwXq.main_arg3) = m ((c.tc : Thread Cert.AdamwXq.nD Cert.AdamwXq.τ).loc Cert.AdamwXq.main_arg3)
      ∧ r.2.mem ((c.tc : Thread Cert.AdamwXq.nD Cert.AdamwXq.τ).loc Cert.AdamwXq.main_arg4) = m ((c.tc : Thread Cert.AdamwXq.nD Cert.AdamwXq.τ).loc Cert.AdamwXq.main_arg4))
      ∧ r.2.sem = fun _ => 0)

def quiescent_AdamwXqIdeal [hAdamwXqIdeal : Cert.AdamwXqIdeal.Facts] : Prop :=
  ∀ (m : (ℓ : Loc Cert.AdamwXqIdeal.nD Cert.AdamwXqIdeal.τ Cert.AdamwXqIdeal.sig) → Buf (Elt Ideal) ℓ) (g : Dev Cert.AdamwXqIdeal.nD → PrngReg), Pre_AdamwXqIdeal m →
    θ_run (Cert.AdamwXqIdeal.defs (F := Ideal)) (onTc (τ := Cert.AdamwXqIdeal.τ) (Cert.AdamwXqIdeal.main (F := Ideal))) ⟨m, fun _ => 0, g⟩ (fun r => (∀ c : Dev Cert.AdamwXqIdeal.nD,
      r.2.mem ((c.tc : Thread Cert.AdamwXqIdeal.nD Cert.AdamwXqIdeal.τ).loc Cert.AdamwXqIdeal.main_arg0) = m ((c.tc : Thread Cert.AdamwXqIdeal.nD Cert.AdamwXqIdeal.τ).loc Cert.AdamwXqIdeal.main_arg0)
      ∧ r.2.mem ((c.tc : Thread Cert.AdamwXqIdeal.nD Cert.AdamwXqIdeal.τ).loc Cert.AdamwXqIdeal.main_arg1) = m ((c.tc : Thread Cert.AdamwXqIdeal.nD Cert.AdamwXqIdeal.τ).loc Cert.AdamwXqIdeal.main_arg1)
      ∧ r.2.mem ((c.tc : Thread Cert.AdamwXqIdeal.nD Cert.AdamwXqIdeal.τ).loc Cert.AdamwXqIdeal.main_arg2) = m ((c.tc : Thread Cert.AdamwXqIdeal.nD Cert.AdamwXqIdeal.τ).loc Cert.AdamwXqIdeal.main_arg2)
      ∧ r.2.mem ((c.tc : Thread Cert.AdamwXqIdeal.nD Cert.AdamwXqIdeal.τ).loc Cert.AdamwXqIdeal.main_arg3) = m ((c.tc : Thread Cert.AdamwXqIdeal.nD Cert.AdamwXqIdeal.τ).loc Cert.AdamwXqIdeal.main_arg3)
      ∧ r.2.mem ((c.tc : Thread Cert.AdamwXqIdeal.nD Cert.AdamwXqIdeal.τ).loc Cert.AdamwXqIdeal.main_arg4) = m ((c.tc : Thread Cert.AdamwXqIdeal.nD Cert.AdamwXqIdeal.τ).loc Cert.AdamwXqIdeal.main_arg4))
      ∧ r.2.sem = fun _ => 0)

def quiescent_RefAdamwXqIdeal [hRefAdamwXqIdeal : Cert.RefAdamwXqIdeal.Facts] : Prop :=
  ∀ (m : (ℓ : Loc Cert.RefAdamwXqIdeal.nD Cert.RefAdamwXqIdeal.τ Cert.RefAdamwXqIdeal.sig) → Buf (Elt Ideal) ℓ) (g : Dev Cert.RefAdamwXqIdeal.nD → PrngReg), Pre_RefAdamwXqIdeal m →
    θ_run (Cert.RefAdamwXqIdeal.defs (F := Ideal)) (onTc (τ := Cert.RefAdamwXqIdeal.τ) (Cert.RefAdamwXqIdeal.main (F := Ideal))) ⟨m, fun _ => 0, g⟩ (fun r => (∀ c : Dev Cert.RefAdamwXqIdeal.nD,
      r.2.mem ((c.tc : Thread Cert.RefAdamwXqIdeal.nD Cert.RefAdamwXqIdeal.τ).loc Cert.RefAdamwXqIdeal.main_arg0) = m ((c.tc : Thread Cert.RefAdamwXqIdeal.nD Cert.RefAdamwXqIdeal.τ).loc Cert.RefAdamwXqIdeal.main_arg0)
      ∧ r.2.mem ((c.tc : Thread Cert.RefAdamwXqIdeal.nD Cert.RefAdamwXqIdeal.τ).loc Cert.RefAdamwXqIdeal.main_arg1) = m ((c.tc : Thread Cert.RefAdamwXqIdeal.nD Cert.RefAdamwXqIdeal.τ).loc Cert.RefAdamwXqIdeal.main_arg1)
      ∧ r.2.mem ((c.tc : Thread Cert.RefAdamwXqIdeal.nD Cert.RefAdamwXqIdeal.τ).loc Cert.RefAdamwXqIdeal.main_arg2) = m ((c.tc : Thread Cert.RefAdamwXqIdeal.nD Cert.RefAdamwXqIdeal.τ).loc Cert.RefAdamwXqIdeal.main_arg2)
      ∧ r.2.mem ((c.tc : Thread Cert.RefAdamwXqIdeal.nD Cert.RefAdamwXqIdeal.τ).loc Cert.RefAdamwXqIdeal.main_arg3) = m ((c.tc : Thread Cert.RefAdamwXqIdeal.nD Cert.RefAdamwXqIdeal.τ).loc Cert.RefAdamwXqIdeal.main_arg3)
      ∧ r.2.mem ((c.tc : Thread Cert.RefAdamwXqIdeal.nD Cert.RefAdamwXqIdeal.τ).loc Cert.RefAdamwXqIdeal.main_arg4) = m ((c.tc : Thread Cert.RefAdamwXqIdeal.nD Cert.RefAdamwXqIdeal.τ).loc Cert.RefAdamwXqIdeal.main_arg4))
      ∧ r.2.sem = fun _ => 0)

def quiescent_AdamwXk [hAdamwXk : Cert.AdamwXk.Facts] : Prop :=
  ∀ (m : (ℓ : Loc Cert.AdamwXk.nD Cert.AdamwXk.τ Cert.AdamwXk.sig) → Buf (Elt Bits) ℓ) (g : Dev Cert.AdamwXk.nD → PrngReg), Pre_AdamwXk m →
    θ_run (Cert.AdamwXk.defs (F := Bits)) (onTc (τ := Cert.AdamwXk.τ) (Cert.AdamwXk.main (F := Bits))) ⟨m, fun _ => 0, g⟩ (fun r => (∀ c : Dev Cert.AdamwXk.nD,
      r.2.mem ((c.tc : Thread Cert.AdamwXk.nD Cert.AdamwXk.τ).loc Cert.AdamwXk.main_arg0) = m ((c.tc : Thread Cert.AdamwXk.nD Cert.AdamwXk.τ).loc Cert.AdamwXk.main_arg0)
      ∧ r.2.mem ((c.tc : Thread Cert.AdamwXk.nD Cert.AdamwXk.τ).loc Cert.AdamwXk.main_arg1) = m ((c.tc : Thread Cert.AdamwXk.nD Cert.AdamwXk.τ).loc Cert.AdamwXk.main_arg1)
      ∧ r.2.mem ((c.tc : Thread Cert.AdamwXk.nD Cert.AdamwXk.τ).loc Cert.AdamwXk.main_arg2) = m ((c.tc : Thread Cert.AdamwXk.nD Cert.AdamwXk.τ).loc Cert.AdamwXk.main_arg2)
      ∧ r.2.mem ((c.tc : Thread Cert.AdamwXk.nD Cert.AdamwXk.τ).loc Cert.AdamwXk.main_arg3) = m ((c.tc : Thread Cert.AdamwXk.nD Cert.AdamwXk.τ).loc Cert.AdamwXk.main_arg3)
      ∧ r.2.mem ((c.tc : Thread Cert.AdamwXk.nD Cert.AdamwXk.τ).loc Cert.AdamwXk.main_arg4) = m ((c.tc : Thread Cert.AdamwXk.nD Cert.AdamwXk.τ).loc Cert.AdamwXk.main_arg4))
      ∧ r.2.sem = fun _ => 0)

def quiescent_AdamwXkIdeal [hAdamwXkIdeal : Cert.AdamwXkIdeal.Facts] : Prop :=
  ∀ (m : (ℓ : Loc Cert.AdamwXkIdeal.nD Cert.AdamwXkIdeal.τ Cert.AdamwXkIdeal.sig) → Buf (Elt Ideal) ℓ) (g : Dev Cert.AdamwXkIdeal.nD → PrngReg), Pre_AdamwXkIdeal m →
    θ_run (Cert.AdamwXkIdeal.defs (F := Ideal)) (onTc (τ := Cert.AdamwXkIdeal.τ) (Cert.AdamwXkIdeal.main (F := Ideal))) ⟨m, fun _ => 0, g⟩ (fun r => (∀ c : Dev Cert.AdamwXkIdeal.nD,
      r.2.mem ((c.tc : Thread Cert.AdamwXkIdeal.nD Cert.AdamwXkIdeal.τ).loc Cert.AdamwXkIdeal.main_arg0) = m ((c.tc : Thread Cert.AdamwXkIdeal.nD Cert.AdamwXkIdeal.τ).loc Cert.AdamwXkIdeal.main_arg0)
      ∧ r.2.mem ((c.tc : Thread Cert.AdamwXkIdeal.nD Cert.AdamwXkIdeal.τ).loc Cert.AdamwXkIdeal.main_arg1) = m ((c.tc : Thread Cert.AdamwXkIdeal.nD Cert.AdamwXkIdeal.τ).loc Cert.AdamwXkIdeal.main_arg1)
      ∧ r.2.mem ((c.tc : Thread Cert.AdamwXkIdeal.nD Cert.AdamwXkIdeal.τ).loc Cert.AdamwXkIdeal.main_arg2) = m ((c.tc : Thread Cert.AdamwXkIdeal.nD Cert.AdamwXkIdeal.τ).loc Cert.AdamwXkIdeal.main_arg2)
      ∧ r.2.mem ((c.tc : Thread Cert.AdamwXkIdeal.nD Cert.AdamwXkIdeal.τ).loc Cert.AdamwXkIdeal.main_arg3) = m ((c.tc : Thread Cert.AdamwXkIdeal.nD Cert.AdamwXkIdeal.τ).loc Cert.AdamwXkIdeal.main_arg3)
      ∧ r.2.mem ((c.tc : Thread Cert.AdamwXkIdeal.nD Cert.AdamwXkIdeal.τ).loc Cert.AdamwXkIdeal.main_arg4) = m ((c.tc : Thread Cert.AdamwXkIdeal.nD Cert.AdamwXkIdeal.τ).loc Cert.AdamwXkIdeal.main_arg4))
      ∧ r.2.sem = fun _ => 0)

def quiescent_RefAdamwXkIdeal [hRefAdamwXkIdeal : Cert.RefAdamwXkIdeal.Facts] : Prop :=
  ∀ (m : (ℓ : Loc Cert.RefAdamwXkIdeal.nD Cert.RefAdamwXkIdeal.τ Cert.RefAdamwXkIdeal.sig) → Buf (Elt Ideal) ℓ) (g : Dev Cert.RefAdamwXkIdeal.nD → PrngReg), Pre_RefAdamwXkIdeal m →
    θ_run (Cert.RefAdamwXkIdeal.defs (F := Ideal)) (onTc (τ := Cert.RefAdamwXkIdeal.τ) (Cert.RefAdamwXkIdeal.main (F := Ideal))) ⟨m, fun _ => 0, g⟩ (fun r => (∀ c : Dev Cert.RefAdamwXkIdeal.nD,
      r.2.mem ((c.tc : Thread Cert.RefAdamwXkIdeal.nD Cert.RefAdamwXkIdeal.τ).loc Cert.RefAdamwXkIdeal.main_arg0) = m ((c.tc : Thread Cert.RefAdamwXkIdeal.nD Cert.RefAdamwXkIdeal.τ).loc Cert.RefAdamwXkIdeal.main_arg0)
      ∧ r.2.mem ((c.tc : Thread Cert.RefAdamwXkIdeal.nD Cert.RefAdamwXkIdeal.τ).loc Cert.RefAdamwXkIdeal.main_arg1) = m ((c.tc : Thread Cert.RefAdamwXkIdeal.nD Cert.RefAdamwXkIdeal.τ).loc Cert.RefAdamwXkIdeal.main_arg1)
      ∧ r.2.mem ((c.tc : Thread Cert.RefAdamwXkIdeal.nD Cert.RefAdamwXkIdeal.τ).loc Cert.RefAdamwXkIdeal.main_arg2) = m ((c.tc : Thread Cert.RefAdamwXkIdeal.nD Cert.RefAdamwXkIdeal.τ).loc Cert.RefAdamwXkIdeal.main_arg2)
      ∧ r.2.mem ((c.tc : Thread Cert.RefAdamwXkIdeal.nD Cert.RefAdamwXkIdeal.τ).loc Cert.RefAdamwXkIdeal.main_arg3) = m ((c.tc : Thread Cert.RefAdamwXkIdeal.nD Cert.RefAdamwXkIdeal.τ).loc Cert.RefAdamwXkIdeal.main_arg3)
      ∧ r.2.mem ((c.tc : Thread Cert.RefAdamwXkIdeal.nD Cert.RefAdamwXkIdeal.τ).loc Cert.RefAdamwXkIdeal.main_arg4) = m ((c.tc : Thread Cert.RefAdamwXkIdeal.nD Cert.RefAdamwXkIdeal.τ).loc Cert.RefAdamwXkIdeal.main_arg4))
      ∧ r.2.sem = fun _ => 0)

def quiescent_AdamwXv [hAdamwXv : Cert.AdamwXv.Facts] : Prop :=
  ∀ (m : (ℓ : Loc Cert.AdamwXv.nD Cert.AdamwXv.τ Cert.AdamwXv.sig) → Buf (Elt Bits) ℓ) (g : Dev Cert.AdamwXv.nD → PrngReg), Pre_AdamwXv m →
    θ_run (Cert.AdamwXv.defs (F := Bits)) (onTc (τ := Cert.AdamwXv.τ) (Cert.AdamwXv.main (F := Bits))) ⟨m, fun _ => 0, g⟩ (fun r => (∀ c : Dev Cert.AdamwXv.nD,
      r.2.mem ((c.tc : Thread Cert.AdamwXv.nD Cert.AdamwXv.τ).loc Cert.AdamwXv.main_arg0) = m ((c.tc : Thread Cert.AdamwXv.nD Cert.AdamwXv.τ).loc Cert.AdamwXv.main_arg0)
      ∧ r.2.mem ((c.tc : Thread Cert.AdamwXv.nD Cert.AdamwXv.τ).loc Cert.AdamwXv.main_arg1) = m ((c.tc : Thread Cert.AdamwXv.nD Cert.AdamwXv.τ).loc Cert.AdamwXv.main_arg1)
      ∧ r.2.mem ((c.tc : Thread Cert.AdamwXv.nD Cert.AdamwXv.τ).loc Cert.AdamwXv.main_arg2) = m ((c.tc : Thread Cert.AdamwXv.nD Cert.AdamwXv.τ).loc Cert.AdamwXv.main_arg2)
      ∧ r.2.mem ((c.tc : Thread Cert.AdamwXv.nD Cert.AdamwXv.τ).loc Cert.AdamwXv.main_arg3) = m ((c.tc : Thread Cert.AdamwXv.nD Cert.AdamwXv.τ).loc Cert.AdamwXv.main_arg3)
      ∧ r.2.mem ((c.tc : Thread Cert.AdamwXv.nD Cert.AdamwXv.τ).loc Cert.AdamwXv.main_arg4) = m ((c.tc : Thread Cert.AdamwXv.nD Cert.AdamwXv.τ).loc Cert.AdamwXv.main_arg4))
      ∧ r.2.sem = fun _ => 0)

def quiescent_AdamwXvIdeal [hAdamwXvIdeal : Cert.AdamwXvIdeal.Facts] : Prop :=
  ∀ (m : (ℓ : Loc Cert.AdamwXvIdeal.nD Cert.AdamwXvIdeal.τ Cert.AdamwXvIdeal.sig) → Buf (Elt Ideal) ℓ) (g : Dev Cert.AdamwXvIdeal.nD → PrngReg), Pre_AdamwXvIdeal m →
    θ_run (Cert.AdamwXvIdeal.defs (F := Ideal)) (onTc (τ := Cert.AdamwXvIdeal.τ) (Cert.AdamwXvIdeal.main (F := Ideal))) ⟨m, fun _ => 0, g⟩ (fun r => (∀ c : Dev Cert.AdamwXvIdeal.nD,
      r.2.mem ((c.tc : Thread Cert.AdamwXvIdeal.nD Cert.AdamwXvIdeal.τ).loc Cert.AdamwXvIdeal.main_arg0) = m ((c.tc : Thread Cert.AdamwXvIdeal.nD Cert.AdamwXvIdeal.τ).loc Cert.AdamwXvIdeal.main_arg0)
      ∧ r.2.mem ((c.tc : Thread Cert.AdamwXvIdeal.nD Cert.AdamwXvIdeal.τ).loc Cert.AdamwXvIdeal.main_arg1) = m ((c.tc : Thread Cert.AdamwXvIdeal.nD Cert.AdamwXvIdeal.τ).loc Cert.AdamwXvIdeal.main_arg1)
      ∧ r.2.mem ((c.tc : Thread Cert.AdamwXvIdeal.nD Cert.AdamwXvIdeal.τ).loc Cert.AdamwXvIdeal.main_arg2) = m ((c.tc : Thread Cert.AdamwXvIdeal.nD Cert.AdamwXvIdeal.τ).loc Cert.AdamwXvIdeal.main_arg2)
      ∧ r.2.mem ((c.tc : Thread Cert.AdamwXvIdeal.nD Cert.AdamwXvIdeal.τ).loc Cert.AdamwXvIdeal.main_arg3) = m ((c.tc : Thread Cert.AdamwXvIdeal.nD Cert.AdamwXvIdeal.τ).loc Cert.AdamwXvIdeal.main_arg3)
      ∧ r.2.mem ((c.tc : Thread Cert.AdamwXvIdeal.nD Cert.AdamwXvIdeal.τ).loc Cert.AdamwXvIdeal.main_arg4) = m ((c.tc : Thread Cert.AdamwXvIdeal.nD Cert.AdamwXvIdeal.τ).loc Cert.AdamwXvIdeal.main_arg4))
      ∧ r.2.sem = fun _ => 0)

def quiescent_RefAdamwXvIdeal [hRefAdamwXvIdeal : Cert.RefAdamwXvIdeal.Facts] : Prop :=
  ∀ (m : (ℓ : Loc Cert.RefAdamwXvIdeal.nD Cert.RefAdamwXvIdeal.τ Cert.RefAdamwXvIdeal.sig) → Buf (Elt Ideal) ℓ) (g : Dev Cert.RefAdamwXvIdeal.nD → PrngReg), Pre_RefAdamwXvIdeal m →
    θ_run (Cert.RefAdamwXvIdeal.defs (F := Ideal)) (onTc (τ := Cert.RefAdamwXvIdeal.τ) (Cert.RefAdamwXvIdeal.main (F := Ideal))) ⟨m, fun _ => 0, g⟩ (fun r => (∀ c : Dev Cert.RefAdamwXvIdeal.nD,
      r.2.mem ((c.tc : Thread Cert.RefAdamwXvIdeal.nD Cert.RefAdamwXvIdeal.τ).loc Cert.RefAdamwXvIdeal.main_arg0) = m ((c.tc : Thread Cert.RefAdamwXvIdeal.nD Cert.RefAdamwXvIdeal.τ).loc Cert.RefAdamwXvIdeal.main_arg0)
      ∧ r.2.mem ((c.tc : Thread Cert.RefAdamwXvIdeal.nD Cert.RefAdamwXvIdeal.τ).loc Cert.RefAdamwXvIdeal.main_arg1) = m ((c.tc : Thread Cert.RefAdamwXvIdeal.nD Cert.RefAdamwXvIdeal.τ).loc Cert.RefAdamwXvIdeal.main_arg1)
      ∧ r.2.mem ((c.tc : Thread Cert.RefAdamwXvIdeal.nD Cert.RefAdamwXvIdeal.τ).loc Cert.RefAdamwXvIdeal.main_arg2) = m ((c.tc : Thread Cert.RefAdamwXvIdeal.nD Cert.RefAdamwXvIdeal.τ).loc Cert.RefAdamwXvIdeal.main_arg2)
      ∧ r.2.mem ((c.tc : Thread Cert.RefAdamwXvIdeal.nD Cert.RefAdamwXvIdeal.τ).loc Cert.RefAdamwXvIdeal.main_arg3) = m ((c.tc : Thread Cert.RefAdamwXvIdeal.nD Cert.RefAdamwXvIdeal.τ).loc Cert.RefAdamwXvIdeal.main_arg3)
      ∧ r.2.mem ((c.tc : Thread Cert.RefAdamwXvIdeal.nD Cert.RefAdamwXvIdeal.τ).loc Cert.RefAdamwXvIdeal.main_arg4) = m ((c.tc : Thread Cert.RefAdamwXvIdeal.nD Cert.RefAdamwXvIdeal.τ).loc Cert.RefAdamwXvIdeal.main_arg4))
      ∧ r.2.sem = fun _ => 0)

def quiescent_AdamwXo [hAdamwXo : Cert.AdamwXo.Facts] : Prop :=
  ∀ (m : (ℓ : Loc Cert.AdamwXo.nD Cert.AdamwXo.τ Cert.AdamwXo.sig) → Buf (Elt Bits) ℓ) (g : Dev Cert.AdamwXo.nD → PrngReg), Pre_AdamwXo m →
    θ_run (Cert.AdamwXo.defs (F := Bits)) (onTc (τ := Cert.AdamwXo.τ) (Cert.AdamwXo.main (F := Bits))) ⟨m, fun _ => 0, g⟩ (fun r => (∀ c : Dev Cert.AdamwXo.nD,
      r.2.mem ((c.tc : Thread Cert.AdamwXo.nD Cert.AdamwXo.τ).loc Cert.AdamwXo.main_arg0) = m ((c.tc : Thread Cert.AdamwXo.nD Cert.AdamwXo.τ).loc Cert.AdamwXo.main_arg0)
      ∧ r.2.mem ((c.tc : Thread Cert.AdamwXo.nD Cert.AdamwXo.τ).loc Cert.AdamwXo.main_arg1) = m ((c.tc : Thread Cert.AdamwXo.nD Cert.AdamwXo.τ).loc Cert.AdamwXo.main_arg1)
      ∧ r.2.mem ((c.tc : Thread Cert.AdamwXo.nD Cert.AdamwXo.τ).loc Cert.AdamwXo.main_arg2) = m ((c.tc : Thread Cert.AdamwXo.nD Cert.AdamwXo.τ).loc Cert.AdamwXo.main_arg2)
      ∧ r.2.mem ((c.tc : Thread Cert.AdamwXo.nD Cert.AdamwXo.τ).loc Cert.AdamwXo.main_arg3) = m ((c.tc : Thread Cert.AdamwXo.nD Cert.AdamwXo.τ).loc Cert.AdamwXo.main_arg3)
      ∧ r.2.mem ((c.tc : Thread Cert.AdamwXo.nD Cert.AdamwXo.τ).loc Cert.AdamwXo.main_arg4) = m ((c.tc : Thread Cert.AdamwXo.nD Cert.AdamwXo.τ).loc Cert.AdamwXo.main_arg4))
      ∧ r.2.sem = fun _ => 0)

def quiescent_AdamwXoIdeal [hAdamwXoIdeal : Cert.AdamwXoIdeal.Facts] : Prop :=
  ∀ (m : (ℓ : Loc Cert.AdamwXoIdeal.nD Cert.AdamwXoIdeal.τ Cert.AdamwXoIdeal.sig) → Buf (Elt Ideal) ℓ) (g : Dev Cert.AdamwXoIdeal.nD → PrngReg), Pre_AdamwXoIdeal m →
    θ_run (Cert.AdamwXoIdeal.defs (F := Ideal)) (onTc (τ := Cert.AdamwXoIdeal.τ) (Cert.AdamwXoIdeal.main (F := Ideal))) ⟨m, fun _ => 0, g⟩ (fun r => (∀ c : Dev Cert.AdamwXoIdeal.nD,
      r.2.mem ((c.tc : Thread Cert.AdamwXoIdeal.nD Cert.AdamwXoIdeal.τ).loc Cert.AdamwXoIdeal.main_arg0) = m ((c.tc : Thread Cert.AdamwXoIdeal.nD Cert.AdamwXoIdeal.τ).loc Cert.AdamwXoIdeal.main_arg0)
      ∧ r.2.mem ((c.tc : Thread Cert.AdamwXoIdeal.nD Cert.AdamwXoIdeal.τ).loc Cert.AdamwXoIdeal.main_arg1) = m ((c.tc : Thread Cert.AdamwXoIdeal.nD Cert.AdamwXoIdeal.τ).loc Cert.AdamwXoIdeal.main_arg1)
      ∧ r.2.mem ((c.tc : Thread Cert.AdamwXoIdeal.nD Cert.AdamwXoIdeal.τ).loc Cert.AdamwXoIdeal.main_arg2) = m ((c.tc : Thread Cert.AdamwXoIdeal.nD Cert.AdamwXoIdeal.τ).loc Cert.AdamwXoIdeal.main_arg2)
      ∧ r.2.mem ((c.tc : Thread Cert.AdamwXoIdeal.nD Cert.AdamwXoIdeal.τ).loc Cert.AdamwXoIdeal.main_arg3) = m ((c.tc : Thread Cert.AdamwXoIdeal.nD Cert.AdamwXoIdeal.τ).loc Cert.AdamwXoIdeal.main_arg3)
      ∧ r.2.mem ((c.tc : Thread Cert.AdamwXoIdeal.nD Cert.AdamwXoIdeal.τ).loc Cert.AdamwXoIdeal.main_arg4) = m ((c.tc : Thread Cert.AdamwXoIdeal.nD Cert.AdamwXoIdeal.τ).loc Cert.AdamwXoIdeal.main_arg4))
      ∧ r.2.sem = fun _ => 0)

def quiescent_RefAdamwXoIdeal [hRefAdamwXoIdeal : Cert.RefAdamwXoIdeal.Facts] : Prop :=
  ∀ (m : (ℓ : Loc Cert.RefAdamwXoIdeal.nD Cert.RefAdamwXoIdeal.τ Cert.RefAdamwXoIdeal.sig) → Buf (Elt Ideal) ℓ) (g : Dev Cert.RefAdamwXoIdeal.nD → PrngReg), Pre_RefAdamwXoIdeal m →
    θ_run (Cert.RefAdamwXoIdeal.defs (F := Ideal)) (onTc (τ := Cert.RefAdamwXoIdeal.τ) (Cert.RefAdamwXoIdeal.main (F := Ideal))) ⟨m, fun _ => 0, g⟩ (fun r => (∀ c : Dev Cert.RefAdamwXoIdeal.nD,
      r.2.mem ((c.tc : Thread Cert.RefAdamwXoIdeal.nD Cert.RefAdamwXoIdeal.τ).loc Cert.RefAdamwXoIdeal.main_arg0) = m ((c.tc : Thread Cert.RefAdamwXoIdeal.nD Cert.RefAdamwXoIdeal.τ).loc Cert.RefAdamwXoIdeal.main_arg0)
      ∧ r.2.mem ((c.tc : Thread Cert.RefAdamwXoIdeal.nD Cert.RefAdamwXoIdeal.τ).loc Cert.RefAdamwXoIdeal.main_arg1) = m ((c.tc : Thread Cert.RefAdamwXoIdeal.nD Cert.RefAdamwXoIdeal.τ).loc Cert.RefAdamwXoIdeal.main_arg1)
      ∧ r.2.mem ((c.tc : Thread Cert.RefAdamwXoIdeal.nD Cert.RefAdamwXoIdeal.τ).loc Cert.RefAdamwXoIdeal.main_arg2) = m ((c.tc : Thread Cert.RefAdamwXoIdeal.nD Cert.RefAdamwXoIdeal.τ).loc Cert.RefAdamwXoIdeal.main_arg2)
      ∧ r.2.mem ((c.tc : Thread Cert.RefAdamwXoIdeal.nD Cert.RefAdamwXoIdeal.τ).loc Cert.RefAdamwXoIdeal.main_arg3) = m ((c.tc : Thread Cert.RefAdamwXoIdeal.nD Cert.RefAdamwXoIdeal.τ).loc Cert.RefAdamwXoIdeal.main_arg3)
      ∧ r.2.mem ((c.tc : Thread Cert.RefAdamwXoIdeal.nD Cert.RefAdamwXoIdeal.τ).loc Cert.RefAdamwXoIdeal.main_arg4) = m ((c.tc : Thread Cert.RefAdamwXoIdeal.nD Cert.RefAdamwXoIdeal.τ).loc Cert.RefAdamwXoIdeal.main_arg4))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3)
      ∧ r.2.mem ((c.tc : Thread Cert.AdamwDown.nD Cert.AdamwDown.τ).loc Cert.AdamwDown.main_arg4) = m ((c.tc : Thread Cert.AdamwDown.nD Cert.AdamwDown.τ).loc Cert.AdamwDown.main_arg4))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
      ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4))
      ∧ r.2.sem = fun _ => 0)

def quiescent_RefAdamwDownIdeal [hRefAdamwDownIdeal : Cert.RefAdamwDownIdeal.Facts] : Prop :=
  ∀ (m : (ℓ : Loc Cert.RefAdamwDownIdeal.nD Cert.RefAdamwDownIdeal.τ Cert.RefAdamwDownIdeal.sig) → Buf (Elt Ideal) ℓ) (g : Dev Cert.RefAdamwDownIdeal.nD → PrngReg), Pre_RefAdamwDownIdeal m →
    θ_run (Cert.RefAdamwDownIdeal.defs (F := Ideal)) (onTc (τ := Cert.RefAdamwDownIdeal.τ) (Cert.RefAdamwDownIdeal.main (F := Ideal))) ⟨m, fun _ => 0, g⟩ (fun r => (∀ c : Dev Cert.RefAdamwDownIdeal.nD,
      r.2.mem ((c.tc : Thread Cert.RefAdamwDownIdeal.nD Cert.RefAdamwDownIdeal.τ).loc Cert.RefAdamwDownIdeal.main_arg0) = m ((c.tc : Thread Cert.RefAdamwDownIdeal.nD Cert.RefAdamwDownIdeal.τ).loc Cert.RefAdamwDownIdeal.main_arg0)
      ∧ r.2.mem ((c.tc : Thread Cert.RefAdamwDownIdeal.nD Cert.RefAdamwDownIdeal.τ).loc Cert.RefAdamwDownIdeal.main_arg1) = m ((c.tc : Thread Cert.RefAdamwDownIdeal.nD Cert.RefAdamwDownIdeal.τ).loc Cert.RefAdamwDownIdeal.main_arg1)
      ∧ r.2.mem ((c.tc : Thread Cert.RefAdamwDownIdeal.nD Cert.RefAdamwDownIdeal.τ).loc Cert.RefAdamwDownIdeal.main_arg2) = m ((c.tc : Thread Cert.RefAdamwDownIdeal.nD Cert.RefAdamwDownIdeal.τ).loc Cert.RefAdamwDownIdeal.main_arg2)
      ∧ r.2.mem ((c.tc : Thread Cert.RefAdamwDownIdeal.nD Cert.RefAdamwDownIdeal.τ).loc Cert.RefAdamwDownIdeal.main_arg3) = m ((c.tc : Thread Cert.RefAdamwDownIdeal.nD Cert.RefAdamwDownIdeal.τ).loc Cert.RefAdamwDownIdeal.main_arg3)
      ∧ r.2.mem ((c.tc : Thread Cert.RefAdamwDownIdeal.nD Cert.RefAdamwDownIdeal.τ).loc Cert.RefAdamwDownIdeal.main_arg4) = m ((c.tc : Thread Cert.RefAdamwDownIdeal.nD Cert.RefAdamwDownIdeal.τ).loc Cert.RefAdamwDownIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1)
      ∧ r.2.mem ((c.tc : Thread Cert.RefNormIdeal.nD Cert.RefNormIdeal.τ).loc Cert.RefNormIdeal.main_arg2) = m ((c.tc : Thread Cert.RefNormIdeal.nD Cert.RefNormIdeal.τ).loc Cert.RefNormIdeal.main_arg2)
      ∧ r.2.mem ((c.tc : Thread Cert.RefNormIdeal.nD Cert.RefNormIdeal.τ).loc Cert.RefNormIdeal.main_arg3) = m ((c.tc : Thread Cert.RefNormIdeal.nD Cert.RefNormIdeal.τ).loc Cert.RefNormIdeal.main_arg3))
      ∧ r.2.sem = fun _ => 0)

def quiescent_NormMid [hNormMid : Cert.NormMid.Facts] : Prop :=
  ∀ (m : (ℓ : Loc Cert.NormMid.nD Cert.NormMid.τ Cert.NormMid.sig) → Buf (Elt Bits) ℓ) (g : Dev Cert.NormMid.nD → PrngReg), Pre_NormMid m →
    θ_run (Cert.NormMid.defs (F := Bits)) (onTc (τ := Cert.NormMid.τ) (Cert.NormMid.main (F := Bits))) ⟨m, fun _ => 0, g⟩ (fun r => (∀ c : Dev Cert.NormMid.nD,
      r.2.mem ((c.tc : Thread Cert.NormMid.nD Cert.NormMid.τ).loc Cert.NormMid.main_arg0) = m ((c.tc : Thread Cert.NormMid.nD Cert.NormMid.τ).loc Cert.NormMid.main_arg0)
      ∧ r.2.mem ((c.tc : Thread Cert.NormMid.nD Cert.NormMid.τ).loc Cert.NormMid.main_arg1) = m ((c.tc : Thread Cert.NormMid.nD Cert.NormMid.τ).loc Cert.NormMid.main_arg1)
      ∧ r.2.mem ((c.tc : Thread Cert.NormMid.nD Cert.NormMid.τ).loc Cert.NormMid.main_arg2) = m ((c.tc : Thread Cert.NormMid.nD Cert.NormMid.τ).loc Cert.NormMid.main_arg2)
      ∧ r.2.mem ((c.tc : Thread Cert.NormMid.nD Cert.NormMid.τ).loc Cert.NormMid.main_arg3) = m ((c.tc : Thread Cert.NormMid.nD Cert.NormMid.τ).loc Cert.NormMid.main_arg3)
      ∧ r.2.mem ((c.tc : Thread Cert.NormMid.nD Cert.NormMid.τ).loc Cert.NormMid.main_arg4) = m ((c.tc : Thread Cert.NormMid.nD Cert.NormMid.τ).loc Cert.NormMid.main_arg4)
      ∧ r.2.mem ((c.tc : Thread Cert.NormMid.nD Cert.NormMid.τ).loc Cert.NormMid.main_arg5) = m ((c.tc : Thread Cert.NormMid.nD Cert.NormMid.τ).loc Cert.NormMid.main_arg5))
      ∧ r.2.sem = fun _ => 0)

def quiescent_NormMidIdeal [hNormMidIdeal : Cert.NormMidIdeal.Facts] : Prop :=
  ∀ (m : (ℓ : Loc Cert.NormMidIdeal.nD Cert.NormMidIdeal.τ Cert.NormMidIdeal.sig) → Buf (Elt Ideal) ℓ) (g : Dev Cert.NormMidIdeal.nD → PrngReg), Pre_NormMidIdeal m →
    θ_run (Cert.NormMidIdeal.defs (F := Ideal)) (onTc (τ := Cert.NormMidIdeal.τ) (Cert.NormMidIdeal.main (F := Ideal))) ⟨m, fun _ => 0, g⟩ (fun r => (∀ c : Dev Cert.NormMidIdeal.nD,
      r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
      ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
      ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
      ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3)
      ∧ r.2.mem ((c.tc : Thread Cert.NormMidIdeal.nD Cert.NormMidIdeal.τ).loc Cert.NormMidIdeal.main_arg4) = m ((c.tc : Thread Cert.NormMidIdeal.nD Cert.NormMidIdeal.τ).loc Cert.NormMidIdeal.main_arg4)
      ∧ r.2.mem ((c.tc : Thread Cert.NormMidIdeal.nD Cert.NormMidIdeal.τ).loc Cert.NormMidIdeal.main_arg5) = m ((c.tc : Thread Cert.NormMidIdeal.nD Cert.NormMidIdeal.τ).loc Cert.NormMidIdeal.main_arg5))
      ∧ r.2.sem = fun _ => 0)

def quiescent_RefNormMidIdeal [hRefNormMidIdeal : Cert.RefNormMidIdeal.Facts] : Prop :=
  ∀ (m : (ℓ : Loc Cert.RefNormMidIdeal.nD Cert.RefNormMidIdeal.τ Cert.RefNormMidIdeal.sig) → Buf (Elt Ideal) ℓ) (g : Dev Cert.RefNormMidIdeal.nD → PrngReg), Pre_RefNormMidIdeal m →
    θ_run (Cert.RefNormMidIdeal.defs (F := Ideal)) (onTc (τ := Cert.RefNormMidIdeal.τ) (Cert.RefNormMidIdeal.main (F := Ideal))) ⟨m, fun _ => 0, g⟩ (fun r => (∀ c : Dev Cert.RefNormMidIdeal.nD,
      r.2.mem ((c.tc : Thread Cert.RefNormMidIdeal.nD Cert.RefNormMidIdeal.τ).loc Cert.RefNormMidIdeal.main_arg0) = m ((c.tc : Thread Cert.RefNormMidIdeal.nD Cert.RefNormMidIdeal.τ).loc Cert.RefNormMidIdeal.main_arg0)
      ∧ r.2.mem ((c.tc : Thread Cert.RefNormMidIdeal.nD Cert.RefNormMidIdeal.τ).loc Cert.RefNormMidIdeal.main_arg1) = m ((c.tc : Thread Cert.RefNormMidIdeal.nD Cert.RefNormMidIdeal.τ).loc Cert.RefNormMidIdeal.main_arg1)
      ∧ r.2.mem ((c.tc : Thread Cert.RefNormMidIdeal.nD Cert.RefNormMidIdeal.τ).loc Cert.RefNormMidIdeal.main_arg2) = m ((c.tc : Thread Cert.RefNormMidIdeal.nD Cert.RefNormMidIdeal.τ).loc Cert.RefNormMidIdeal.main_arg2)
      ∧ r.2.mem ((c.tc : Thread Cert.RefNormMidIdeal.nD Cert.RefNormMidIdeal.τ).loc Cert.RefNormMidIdeal.main_arg3) = m ((c.tc : Thread Cert.RefNormMidIdeal.nD Cert.RefNormMidIdeal.τ).loc Cert.RefNormMidIdeal.main_arg3)
      ∧ r.2.mem ((c.tc : Thread Cert.RefNormMidIdeal.nD Cert.RefNormMidIdeal.τ).loc Cert.RefNormMidIdeal.main_arg4) = m ((c.tc : Thread Cert.RefNormMidIdeal.nD Cert.RefNormMidIdeal.τ).loc Cert.RefNormMidIdeal.main_arg4)
      ∧ r.2.mem ((c.tc : Thread Cert.RefNormMidIdeal.nD Cert.RefNormMidIdeal.τ).loc Cert.RefNormMidIdeal.main_arg5) = m ((c.tc : Thread Cert.RefNormMidIdeal.nD Cert.RefNormMidIdeal.τ).loc Cert.RefNormMidIdeal.main_arg5))
      ∧ r.2.sem = fun _ => 0)

def quiescent_NormMidTwo [hNormMidTwo : Cert.NormMidTwo.Facts] : Prop :=
  ∀ (m : (ℓ : Loc Cert.NormMidTwo.nD Cert.NormMidTwo.τ Cert.NormMidTwo.sig) → Buf (Elt Bits) ℓ) (g : Dev Cert.NormMidTwo.nD → PrngReg), Pre_NormMidTwo m →
    θ_run (Cert.NormMidTwo.defs (F := Bits)) (onTc (τ := Cert.NormMidTwo.τ) (Cert.NormMidTwo.main (F := Bits))) ⟨m, fun _ => 0, g⟩ (fun r => (∀ c : Dev Cert.NormMidTwo.nD,
      r.2.mem ((c.tc : Thread Cert.NormMidTwo.nD Cert.NormMidTwo.τ).loc Cert.NormMidTwo.main_arg0) = m ((c.tc : Thread Cert.NormMidTwo.nD Cert.NormMidTwo.τ).loc Cert.NormMidTwo.main_arg0)
      ∧ r.2.mem ((c.tc : Thread Cert.NormMidTwo.nD Cert.NormMidTwo.τ).loc Cert.NormMidTwo.main_arg1) = m ((c.tc : Thread Cert.NormMidTwo.nD Cert.NormMidTwo.τ).loc Cert.NormMidTwo.main_arg1)
      ∧ r.2.mem ((c.tc : Thread Cert.NormMidTwo.nD Cert.NormMidTwo.τ).loc Cert.NormMidTwo.main_arg2) = m ((c.tc : Thread Cert.NormMidTwo.nD Cert.NormMidTwo.τ).loc Cert.NormMidTwo.main_arg2)
      ∧ r.2.mem ((c.tc : Thread Cert.NormMidTwo.nD Cert.NormMidTwo.τ).loc Cert.NormMidTwo.main_arg3) = m ((c.tc : Thread Cert.NormMidTwo.nD Cert.NormMidTwo.τ).loc Cert.NormMidTwo.main_arg3)
      ∧ r.2.mem ((c.tc : Thread Cert.NormMidTwo.nD Cert.NormMidTwo.τ).loc Cert.NormMidTwo.main_arg4) = m ((c.tc : Thread Cert.NormMidTwo.nD Cert.NormMidTwo.τ).loc Cert.NormMidTwo.main_arg4)
      ∧ r.2.mem ((c.tc : Thread Cert.NormMidTwo.nD Cert.NormMidTwo.τ).loc Cert.NormMidTwo.main_arg5) = m ((c.tc : Thread Cert.NormMidTwo.nD Cert.NormMidTwo.τ).loc Cert.NormMidTwo.main_arg5)
      ∧ r.2.mem ((c.tc : Thread Cert.NormMidTwo.nD Cert.NormMidTwo.τ).loc Cert.NormMidTwo.main_arg6) = m ((c.tc : Thread Cert.NormMidTwo.nD Cert.NormMidTwo.τ).loc Cert.NormMidTwo.main_arg6))
      ∧ r.2.sem = fun _ => 0)

def quiescent_NormMidTwoIdeal [hNormMidTwoIdeal : Cert.NormMidTwoIdeal.Facts] : Prop :=
  ∀ (m : (ℓ : Loc Cert.NormMidTwoIdeal.nD Cert.NormMidTwoIdeal.τ Cert.NormMidTwoIdeal.sig) → Buf (Elt Ideal) ℓ) (g : Dev Cert.NormMidTwoIdeal.nD → PrngReg), Pre_NormMidTwoIdeal m →
    θ_run (Cert.NormMidTwoIdeal.defs (F := Ideal)) (onTc (τ := Cert.NormMidTwoIdeal.τ) (Cert.NormMidTwoIdeal.main (F := Ideal))) ⟨m, fun _ => 0, g⟩ (fun r => (∀ c : Dev Cert.NormMidTwoIdeal.nD,
      r.2.mem ((c.tc : Thread Cert.NormMidTwoIdeal.nD Cert.NormMidTwoIdeal.τ).loc Cert.NormMidTwoIdeal.main_arg0) = m ((c.tc : Thread Cert.NormMidTwoIdeal.nD Cert.NormMidTwoIdeal.τ).loc Cert.NormMidTwoIdeal.main_arg0)
      ∧ r.2.mem ((c.tc : Thread Cert.NormMidTwoIdeal.nD Cert.NormMidTwoIdeal.τ).loc Cert.NormMidTwoIdeal.main_arg1) = m ((c.tc : Thread Cert.NormMidTwoIdeal.nD Cert.NormMidTwoIdeal.τ).loc Cert.NormMidTwoIdeal.main_arg1)
      ∧ r.2.mem ((c.tc : Thread Cert.NormMidTwoIdeal.nD Cert.NormMidTwoIdeal.τ).loc Cert.NormMidTwoIdeal.main_arg2) = m ((c.tc : Thread Cert.NormMidTwoIdeal.nD Cert.NormMidTwoIdeal.τ).loc Cert.NormMidTwoIdeal.main_arg2)
      ∧ r.2.mem ((c.tc : Thread Cert.NormMidTwoIdeal.nD Cert.NormMidTwoIdeal.τ).loc Cert.NormMidTwoIdeal.main_arg3) = m ((c.tc : Thread Cert.NormMidTwoIdeal.nD Cert.NormMidTwoIdeal.τ).loc Cert.NormMidTwoIdeal.main_arg3)
      ∧ r.2.mem ((c.tc : Thread Cert.NormMidTwoIdeal.nD Cert.NormMidTwoIdeal.τ).loc Cert.NormMidTwoIdeal.main_arg4) = m ((c.tc : Thread Cert.NormMidTwoIdeal.nD Cert.NormMidTwoIdeal.τ).loc Cert.NormMidTwoIdeal.main_arg4)
      ∧ r.2.mem ((c.tc : Thread Cert.NormMidTwoIdeal.nD Cert.NormMidTwoIdeal.τ).loc Cert.NormMidTwoIdeal.main_arg5) = m ((c.tc : Thread Cert.NormMidTwoIdeal.nD Cert.NormMidTwoIdeal.τ).loc Cert.NormMidTwoIdeal.main_arg5)
      ∧ r.2.mem ((c.tc : Thread Cert.NormMidTwoIdeal.nD Cert.NormMidTwoIdeal.τ).loc Cert.NormMidTwoIdeal.main_arg6) = m ((c.tc : Thread Cert.NormMidTwoIdeal.nD Cert.NormMidTwoIdeal.τ).loc Cert.NormMidTwoIdeal.main_arg6))
      ∧ r.2.sem = fun _ => 0)

def quiescent_RefNormMidTwoIdeal [hRefNormMidTwoIdeal : Cert.RefNormMidTwoIdeal.Facts] : Prop :=
  ∀ (m : (ℓ : Loc Cert.RefNormMidTwoIdeal.nD Cert.RefNormMidTwoIdeal.τ Cert.RefNormMidTwoIdeal.sig) → Buf (Elt Ideal) ℓ) (g : Dev Cert.RefNormMidTwoIdeal.nD → PrngReg), Pre_RefNormMidTwoIdeal m →
    θ_run (Cert.RefNormMidTwoIdeal.defs (F := Ideal)) (onTc (τ := Cert.RefNormMidTwoIdeal.τ) (Cert.RefNormMidTwoIdeal.main (F := Ideal))) ⟨m, fun _ => 0, g⟩ (fun r => (∀ c : Dev Cert.RefNormMidTwoIdeal.nD,
      r.2.mem ((c.tc : Thread Cert.RefNormMidTwoIdeal.nD Cert.RefNormMidTwoIdeal.τ).loc Cert.RefNormMidTwoIdeal.main_arg0) = m ((c.tc : Thread Cert.RefNormMidTwoIdeal.nD Cert.RefNormMidTwoIdeal.τ).loc Cert.RefNormMidTwoIdeal.main_arg0)
      ∧ r.2.mem ((c.tc : Thread Cert.RefNormMidTwoIdeal.nD Cert.RefNormMidTwoIdeal.τ).loc Cert.RefNormMidTwoIdeal.main_arg1) = m ((c.tc : Thread Cert.RefNormMidTwoIdeal.nD Cert.RefNormMidTwoIdeal.τ).loc Cert.RefNormMidTwoIdeal.main_arg1)
      ∧ r.2.mem ((c.tc : Thread Cert.RefNormMidTwoIdeal.nD Cert.RefNormMidTwoIdeal.τ).loc Cert.RefNormMidTwoIdeal.main_arg2) = m ((c.tc : Thread Cert.RefNormMidTwoIdeal.nD Cert.RefNormMidTwoIdeal.τ).loc Cert.RefNormMidTwoIdeal.main_arg2)
      ∧ r.2.mem ((c.tc : Thread Cert.RefNormMidTwoIdeal.nD Cert.RefNormMidTwoIdeal.τ).loc Cert.RefNormMidTwoIdeal.main_arg3) = m ((c.tc : Thread Cert.RefNormMidTwoIdeal.nD Cert.RefNormMidTwoIdeal.τ).loc Cert.RefNormMidTwoIdeal.main_arg3)
      ∧ r.2.mem ((c.tc : Thread Cert.RefNormMidTwoIdeal.nD Cert.RefNormMidTwoIdeal.τ).loc Cert.RefNormMidTwoIdeal.main_arg4) = m ((c.tc : Thread Cert.RefNormMidTwoIdeal.nD Cert.RefNormMidTwoIdeal.τ).loc Cert.RefNormMidTwoIdeal.main_arg4)
      ∧ r.2.mem ((c.tc : Thread Cert.RefNormMidTwoIdeal.nD Cert.RefNormMidTwoIdeal.τ).loc Cert.RefNormMidTwoIdeal.main_arg5) = m ((c.tc : Thread Cert.RefNormMidTwoIdeal.nD Cert.RefNormMidTwoIdeal.τ).loc Cert.RefNormMidTwoIdeal.main_arg5)
      ∧ r.2.mem ((c.tc : Thread Cert.RefNormMidTwoIdeal.nD Cert.RefNormMidTwoIdeal.τ).loc Cert.RefNormMidTwoIdeal.main_arg6) = m ((c.tc : Thread Cert.RefNormMidTwoIdeal.nD Cert.RefNormMidTwoIdeal.τ).loc Cert.RefNormMidTwoIdeal.main_arg6))
      ∧ r.2.sem = fun _ => 0)

def quiescent_NormLast [hNormLast : Cert.NormLast.Facts] : Prop :=
  ∀ (m : (ℓ : Loc Cert.NormLast.nD Cert.NormLast.τ Cert.NormLast.sig) → Buf (Elt Bits) ℓ) (g : Dev Cert.NormLast.nD → PrngReg), Pre_NormLast m →
    θ_run (Cert.NormLast.defs (F := Bits)) (onTc (τ := Cert.NormLast.τ) (Cert.NormLast.main (F := Bits))) ⟨m, fun _ => 0, g⟩ (fun r => (∀ c : Dev Cert.NormLast.nD,
      r.2.mem ((c.tc : Thread Cert.NormLast.nD Cert.NormLast.τ).loc Cert.NormLast.main_arg0) = m ((c.tc : Thread Cert.NormLast.nD Cert.NormLast.τ).loc Cert.NormLast.main_arg0)
      ∧ r.2.mem ((c.tc : Thread Cert.NormLast.nD Cert.NormLast.τ).loc Cert.NormLast.main_arg1) = m ((c.tc : Thread Cert.NormLast.nD Cert.NormLast.τ).loc Cert.NormLast.main_arg1)
      ∧ r.2.mem ((c.tc : Thread Cert.NormLast.nD Cert.NormLast.τ).loc Cert.NormLast.main_arg2) = m ((c.tc : Thread Cert.NormLast.nD Cert.NormLast.τ).loc Cert.NormLast.main_arg2))
      ∧ r.2.sem = fun _ => 0)

def quiescent_NormLastIdeal [hNormLastIdeal : Cert.NormLastIdeal.Facts] : Prop :=
  ∀ (m : (ℓ : Loc Cert.NormLastIdeal.nD Cert.NormLastIdeal.τ Cert.NormLastIdeal.sig) → Buf (Elt Ideal) ℓ) (g : Dev Cert.NormLastIdeal.nD → PrngReg), Pre_NormLastIdeal m →
    θ_run (Cert.NormLastIdeal.defs (F := Ideal)) (onTc (τ := Cert.NormLastIdeal.τ) (Cert.NormLastIdeal.main (F := Ideal))) ⟨m, fun _ => 0, g⟩ (fun r => (∀ c : Dev Cert.NormLastIdeal.nD,
      r.2.mem ((c.tc : Thread Cert.NormLastIdeal.nD Cert.NormLastIdeal.τ).loc Cert.NormLastIdeal.main_arg0) = m ((c.tc : Thread Cert.NormLastIdeal.nD Cert.NormLastIdeal.τ).loc Cert.NormLastIdeal.main_arg0)
      ∧ r.2.mem ((c.tc : Thread Cert.NormLastIdeal.nD Cert.NormLastIdeal.τ).loc Cert.NormLastIdeal.main_arg1) = m ((c.tc : Thread Cert.NormLastIdeal.nD Cert.NormLastIdeal.τ).loc Cert.NormLastIdeal.main_arg1)
      ∧ r.2.mem ((c.tc : Thread Cert.NormLastIdeal.nD Cert.NormLastIdeal.τ).loc Cert.NormLastIdeal.main_arg2) = m ((c.tc : Thread Cert.NormLastIdeal.nD Cert.NormLastIdeal.τ).loc Cert.NormLastIdeal.main_arg2))
      ∧ r.2.sem = fun _ => 0)

def quiescent_RefNormLastIdeal [hRefNormLastIdeal : Cert.RefNormLastIdeal.Facts] : Prop :=
  ∀ (m : (ℓ : Loc Cert.RefNormLastIdeal.nD Cert.RefNormLastIdeal.τ Cert.RefNormLastIdeal.sig) → Buf (Elt Ideal) ℓ) (g : Dev Cert.RefNormLastIdeal.nD → PrngReg), Pre_RefNormLastIdeal m →
    θ_run (Cert.RefNormLastIdeal.defs (F := Ideal)) (onTc (τ := Cert.RefNormLastIdeal.τ) (Cert.RefNormLastIdeal.main (F := Ideal))) ⟨m, fun _ => 0, g⟩ (fun r => (∀ c : Dev Cert.RefNormLastIdeal.nD,
      r.2.mem ((c.tc : Thread Cert.RefNormLastIdeal.nD Cert.RefNormLastIdeal.τ).loc Cert.RefNormLastIdeal.main_arg0) = m ((c.tc : Thread Cert.RefNormLastIdeal.nD Cert.RefNormLastIdeal.τ).loc Cert.RefNormLastIdeal.main_arg0)
      ∧ r.2.mem ((c.tc : Thread Cert.RefNormLastIdeal.nD Cert.RefNormLastIdeal.τ).loc Cert.RefNormLastIdeal.main_arg1) = m ((c.tc : Thread Cert.RefNormLastIdeal.nD Cert.RefNormLastIdeal.τ).loc Cert.RefNormLastIdeal.main_arg1)
      ∧ r.2.mem ((c.tc : Thread Cert.RefNormLastIdeal.nD Cert.RefNormLastIdeal.τ).loc Cert.RefNormLastIdeal.main_arg2) = m ((c.tc : Thread Cert.RefNormLastIdeal.nD Cert.RefNormLastIdeal.τ).loc Cert.RefNormLastIdeal.main_arg2))
      ∧ r.2.sem = fun _ => 0)

def quiescent_NormGain [hNormGain : Cert.NormGain.Facts] : Prop :=
  ∀ (m : (ℓ : Loc Cert.NormGain.nD Cert.NormGain.τ Cert.NormGain.sig) → Buf (Elt Bits) ℓ) (g : Dev Cert.NormGain.nD → PrngReg), Pre_NormGain m →
    θ_run (Cert.NormGain.defs (F := Bits)) (onTc (τ := Cert.NormGain.τ) (Cert.NormGain.main (F := Bits))) ⟨m, fun _ => 0, g⟩ (fun r => (∀ c : Dev Cert.NormGain.nD,
      r.2.mem ((c.tc : Thread Cert.NormGain.nD Cert.NormGain.τ).loc Cert.NormGain.main_arg0) = m ((c.tc : Thread Cert.NormGain.nD Cert.NormGain.τ).loc Cert.NormGain.main_arg0)
      ∧ r.2.mem ((c.tc : Thread Cert.NormGain.nD Cert.NormGain.τ).loc Cert.NormGain.main_arg1) = m ((c.tc : Thread Cert.NormGain.nD Cert.NormGain.τ).loc Cert.NormGain.main_arg1)
      ∧ r.2.mem ((c.tc : Thread Cert.NormGain.nD Cert.NormGain.τ).loc Cert.NormGain.main_arg2) = m ((c.tc : Thread Cert.NormGain.nD Cert.NormGain.τ).loc Cert.NormGain.main_arg2))
      ∧ r.2.sem = fun _ => 0)

def quiescent_NormGainIdeal [hNormGainIdeal : Cert.NormGainIdeal.Facts] : Prop :=
  ∀ (m : (ℓ : Loc Cert.NormGainIdeal.nD Cert.NormGainIdeal.τ Cert.NormGainIdeal.sig) → Buf (Elt Ideal) ℓ) (g : Dev Cert.NormGainIdeal.nD → PrngReg), Pre_NormGainIdeal m →
    θ_run (Cert.NormGainIdeal.defs (F := Ideal)) (onTc (τ := Cert.NormGainIdeal.τ) (Cert.NormGainIdeal.main (F := Ideal))) ⟨m, fun _ => 0, g⟩ (fun r => (∀ c : Dev Cert.NormGainIdeal.nD,
      r.2.mem ((c.tc : Thread Cert.NormGainIdeal.nD Cert.NormGainIdeal.τ).loc Cert.NormGainIdeal.main_arg0) = m ((c.tc : Thread Cert.NormGainIdeal.nD Cert.NormGainIdeal.τ).loc Cert.NormGainIdeal.main_arg0)
      ∧ r.2.mem ((c.tc : Thread Cert.NormGainIdeal.nD Cert.NormGainIdeal.τ).loc Cert.NormGainIdeal.main_arg1) = m ((c.tc : Thread Cert.NormGainIdeal.nD Cert.NormGainIdeal.τ).loc Cert.NormGainIdeal.main_arg1)
      ∧ r.2.mem ((c.tc : Thread Cert.NormGainIdeal.nD Cert.NormGainIdeal.τ).loc Cert.NormGainIdeal.main_arg2) = m ((c.tc : Thread Cert.NormGainIdeal.nD Cert.NormGainIdeal.τ).loc Cert.NormGainIdeal.main_arg2))
      ∧ r.2.sem = fun _ => 0)

def quiescent_RefNormGainIdeal [hRefNormGainIdeal : Cert.RefNormGainIdeal.Facts] : Prop :=
  ∀ (m : (ℓ : Loc Cert.RefNormGainIdeal.nD Cert.RefNormGainIdeal.τ Cert.RefNormGainIdeal.sig) → Buf (Elt Ideal) ℓ) (g : Dev Cert.RefNormGainIdeal.nD → PrngReg), Pre_RefNormGainIdeal m →
    θ_run (Cert.RefNormGainIdeal.defs (F := Ideal)) (onTc (τ := Cert.RefNormGainIdeal.τ) (Cert.RefNormGainIdeal.main (F := Ideal))) ⟨m, fun _ => 0, g⟩ (fun r => (∀ c : Dev Cert.RefNormGainIdeal.nD,
      r.2.mem ((c.tc : Thread Cert.RefNormGainIdeal.nD Cert.RefNormGainIdeal.τ).loc Cert.RefNormGainIdeal.main_arg0) = m ((c.tc : Thread Cert.RefNormGainIdeal.nD Cert.RefNormGainIdeal.τ).loc Cert.RefNormGainIdeal.main_arg0)
      ∧ r.2.mem ((c.tc : Thread Cert.RefNormGainIdeal.nD Cert.RefNormGainIdeal.τ).loc Cert.RefNormGainIdeal.main_arg1) = m ((c.tc : Thread Cert.RefNormGainIdeal.nD Cert.RefNormGainIdeal.τ).loc Cert.RefNormGainIdeal.main_arg1)
      ∧ r.2.mem ((c.tc : Thread Cert.RefNormGainIdeal.nD Cert.RefNormGainIdeal.τ).loc Cert.RefNormGainIdeal.main_arg2) = m ((c.tc : Thread Cert.RefNormGainIdeal.nD Cert.RefNormGainIdeal.τ).loc Cert.RefNormGainIdeal.main_arg2))
      ∧ r.2.sem = fun _ => 0)

def quiescent_LossSum [hLossSum : Cert.LossSum.Facts] : Prop :=
  ∀ (m : (ℓ : Loc Cert.LossSum.nD Cert.LossSum.τ Cert.LossSum.sig) → Buf (Elt Bits) ℓ) (g : Dev Cert.LossSum.nD → PrngReg), Pre_LossSum m →
    θ_run (Cert.LossSum.defs (F := Bits)) (onTc (τ := Cert.LossSum.τ) (Cert.LossSum.main (F := Bits))) ⟨m, fun _ => 0, g⟩ (fun r => (∀ c : Dev Cert.LossSum.nD,
      r.2.mem ((c.tc : Thread Cert.LossSum.nD Cert.LossSum.τ).loc Cert.LossSum.main_arg0) = m ((c.tc : Thread Cert.LossSum.nD Cert.LossSum.τ).loc Cert.LossSum.main_arg0))
      ∧ r.2.sem = fun _ => 0)

def quiescent_LossSumIdeal [hLossSumIdeal : Cert.LossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg), Pre_LossSumIdeal m →
    θ_run (Cert.LossSumIdeal.defs (F := Ideal)) (onTc (τ := Cert.LossSumIdeal.τ) (Cert.LossSumIdeal.main (F := Ideal))) ⟨m, fun _ => 0, g⟩ (fun r => (∀ c : Dev Cert.LossSumIdeal.nD,
      r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ r.2.sem = fun _ => 0)

def quiescent_RefLossSumIdeal [hRefLossSumIdeal : Cert.RefLossSumIdeal.Facts] : Prop :=
  ∀ (m : (ℓ : Loc Cert.RefLossSumIdeal.nD Cert.RefLossSumIdeal.τ Cert.RefLossSumIdeal.sig) → Buf (Elt Ideal) ℓ) (g : Dev Cert.RefLossSumIdeal.nD → PrngReg), Pre_RefLossSumIdeal m →
    θ_run (Cert.RefLossSumIdeal.defs (F := Ideal)) (onTc (τ := Cert.RefLossSumIdeal.τ) (Cert.RefLossSumIdeal.main (F := Ideal))) ⟨m, fun _ => 0, g⟩ (fun r => (∀ c : Dev Cert.RefLossSumIdeal.nD,
      r.2.mem ((c.tc : Thread Cert.RefLossSumIdeal.nD Cert.RefLossSumIdeal.τ).loc Cert.RefLossSumIdeal.main_arg0) = m ((c.tc : Thread Cert.RefLossSumIdeal.nD Cert.RefLossSumIdeal.τ).loc Cert.RefLossSumIdeal.main_arg0))
      ∧ r.2.sem = fun _ => 0)

def quiescent_RopeBack [hRopeBack : Cert.RopeBack.Facts] : Prop :=
  ∀ (m : (ℓ : Loc Cert.RopeBack.nD Cert.RopeBack.τ Cert.RopeBack.sig) → Buf (Elt Bits) ℓ) (g : Dev Cert.RopeBack.nD → PrngReg), Pre_RopeBack m →
    θ_run (Cert.RopeBack.defs (F := Bits)) (onTc (τ := Cert.RopeBack.τ) (Cert.RopeBack.main (F := Bits))) ⟨m, fun _ => 0, g⟩ (fun r => (∀ c : Dev Cert.RopeBack.nD,
      r.2.mem ((c.tc : Thread Cert.RopeBack.nD Cert.RopeBack.τ).loc Cert.RopeBack.main_arg0) = m ((c.tc : Thread Cert.RopeBack.nD Cert.RopeBack.τ).loc Cert.RopeBack.main_arg0)
      ∧ r.2.mem ((c.tc : Thread Cert.RopeBack.nD Cert.RopeBack.τ).loc Cert.RopeBack.main_arg1) = m ((c.tc : Thread Cert.RopeBack.nD Cert.RopeBack.τ).loc Cert.RopeBack.main_arg1)
      ∧ r.2.mem ((c.tc : Thread Cert.RopeBack.nD Cert.RopeBack.τ).loc Cert.RopeBack.main_arg2) = m ((c.tc : Thread Cert.RopeBack.nD Cert.RopeBack.τ).loc Cert.RopeBack.main_arg2)
      ∧ r.2.mem ((c.tc : Thread Cert.RopeBack.nD Cert.RopeBack.τ).loc Cert.RopeBack.main_arg3) = m ((c.tc : Thread Cert.RopeBack.nD Cert.RopeBack.τ).loc Cert.RopeBack.main_arg3)
      ∧ r.2.mem ((c.tc : Thread Cert.RopeBack.nD Cert.RopeBack.τ).loc Cert.RopeBack.main_arg4) = m ((c.tc : Thread Cert.RopeBack.nD Cert.RopeBack.τ).loc Cert.RopeBack.main_arg4)
      ∧ r.2.mem ((c.tc : Thread Cert.RopeBack.nD Cert.RopeBack.τ).loc Cert.RopeBack.main_arg5) = m ((c.tc : Thread Cert.RopeBack.nD Cert.RopeBack.τ).loc Cert.RopeBack.main_arg5)
      ∧ r.2.mem ((c.tc : Thread Cert.RopeBack.nD Cert.RopeBack.τ).loc Cert.RopeBack.main_arg6) = m ((c.tc : Thread Cert.RopeBack.nD Cert.RopeBack.τ).loc Cert.RopeBack.main_arg6)
      ∧ r.2.mem ((c.tc : Thread Cert.RopeBack.nD Cert.RopeBack.τ).loc Cert.RopeBack.main_arg7) = m ((c.tc : Thread Cert.RopeBack.nD Cert.RopeBack.τ).loc Cert.RopeBack.main_arg7)
      ∧ r.2.mem ((c.tc : Thread Cert.RopeBack.nD Cert.RopeBack.τ).loc Cert.RopeBack.main_arg8) = m ((c.tc : Thread Cert.RopeBack.nD Cert.RopeBack.τ).loc Cert.RopeBack.main_arg8)
      ∧ r.2.mem ((c.tc : Thread Cert.RopeBack.nD Cert.RopeBack.τ).loc Cert.RopeBack.main_arg9) = m ((c.tc : Thread Cert.RopeBack.nD Cert.RopeBack.τ).loc Cert.RopeBack.main_arg9))
      ∧ r.2.sem = fun _ => 0)

def quiescent_RopeBackIdeal [hRopeBackIdeal : Cert.RopeBackIdeal.Facts] : Prop :=
  ∀ (m : (ℓ : Loc Cert.RopeBackIdeal.nD Cert.RopeBackIdeal.τ Cert.RopeBackIdeal.sig) → Buf (Elt Ideal) ℓ) (g : Dev Cert.RopeBackIdeal.nD → PrngReg), Pre_RopeBackIdeal m →
    θ_run (Cert.RopeBackIdeal.defs (F := Ideal)) (onTc (τ := Cert.RopeBackIdeal.τ) (Cert.RopeBackIdeal.main (F := Ideal))) ⟨m, fun _ => 0, g⟩ (fun r => (∀ c : Dev Cert.RopeBackIdeal.nD,
      r.2.mem ((c.tc : Thread Cert.RopeBackIdeal.nD Cert.RopeBackIdeal.τ).loc Cert.RopeBackIdeal.main_arg0) = m ((c.tc : Thread Cert.RopeBackIdeal.nD Cert.RopeBackIdeal.τ).loc Cert.RopeBackIdeal.main_arg0)
      ∧ r.2.mem ((c.tc : Thread Cert.RopeBackIdeal.nD Cert.RopeBackIdeal.τ).loc Cert.RopeBackIdeal.main_arg1) = m ((c.tc : Thread Cert.RopeBackIdeal.nD Cert.RopeBackIdeal.τ).loc Cert.RopeBackIdeal.main_arg1)
      ∧ r.2.mem ((c.tc : Thread Cert.RopeBackIdeal.nD Cert.RopeBackIdeal.τ).loc Cert.RopeBackIdeal.main_arg2) = m ((c.tc : Thread Cert.RopeBackIdeal.nD Cert.RopeBackIdeal.τ).loc Cert.RopeBackIdeal.main_arg2)
      ∧ r.2.mem ((c.tc : Thread Cert.RopeBackIdeal.nD Cert.RopeBackIdeal.τ).loc Cert.RopeBackIdeal.main_arg3) = m ((c.tc : Thread Cert.RopeBackIdeal.nD Cert.RopeBackIdeal.τ).loc Cert.RopeBackIdeal.main_arg3)
      ∧ r.2.mem ((c.tc : Thread Cert.RopeBackIdeal.nD Cert.RopeBackIdeal.τ).loc Cert.RopeBackIdeal.main_arg4) = m ((c.tc : Thread Cert.RopeBackIdeal.nD Cert.RopeBackIdeal.τ).loc Cert.RopeBackIdeal.main_arg4)
      ∧ r.2.mem ((c.tc : Thread Cert.RopeBackIdeal.nD Cert.RopeBackIdeal.τ).loc Cert.RopeBackIdeal.main_arg5) = m ((c.tc : Thread Cert.RopeBackIdeal.nD Cert.RopeBackIdeal.τ).loc Cert.RopeBackIdeal.main_arg5)
      ∧ r.2.mem ((c.tc : Thread Cert.RopeBackIdeal.nD Cert.RopeBackIdeal.τ).loc Cert.RopeBackIdeal.main_arg6) = m ((c.tc : Thread Cert.RopeBackIdeal.nD Cert.RopeBackIdeal.τ).loc Cert.RopeBackIdeal.main_arg6)
      ∧ r.2.mem ((c.tc : Thread Cert.RopeBackIdeal.nD Cert.RopeBackIdeal.τ).loc Cert.RopeBackIdeal.main_arg7) = m ((c.tc : Thread Cert.RopeBackIdeal.nD Cert.RopeBackIdeal.τ).loc Cert.RopeBackIdeal.main_arg7)
      ∧ r.2.mem ((c.tc : Thread Cert.RopeBackIdeal.nD Cert.RopeBackIdeal.τ).loc Cert.RopeBackIdeal.main_arg8) = m ((c.tc : Thread Cert.RopeBackIdeal.nD Cert.RopeBackIdeal.τ).loc Cert.RopeBackIdeal.main_arg8)
      ∧ r.2.mem ((c.tc : Thread Cert.RopeBackIdeal.nD Cert.RopeBackIdeal.τ).loc Cert.RopeBackIdeal.main_arg9) = m ((c.tc : Thread Cert.RopeBackIdeal.nD Cert.RopeBackIdeal.τ).loc Cert.RopeBackIdeal.main_arg9))
      ∧ r.2.sem = fun _ => 0)

def quiescent_RefRopeBackIdeal [hRefRopeBackIdeal : Cert.RefRopeBackIdeal.Facts] : Prop :=
  ∀ (m : (ℓ : Loc Cert.RefRopeBackIdeal.nD Cert.RefRopeBackIdeal.τ Cert.RefRopeBackIdeal.sig) → Buf (Elt Ideal) ℓ) (g : Dev Cert.RefRopeBackIdeal.nD → PrngReg), Pre_RefRopeBackIdeal m →
    θ_run (Cert.RefRopeBackIdeal.defs (F := Ideal)) (onTc (τ := Cert.RefRopeBackIdeal.τ) (Cert.RefRopeBackIdeal.main (F := Ideal))) ⟨m, fun _ => 0, g⟩ (fun r => (∀ c : Dev Cert.RefRopeBackIdeal.nD,
      r.2.mem ((c.tc : Thread Cert.RefRopeBackIdeal.nD Cert.RefRopeBackIdeal.τ).loc Cert.RefRopeBackIdeal.main_arg0) = m ((c.tc : Thread Cert.RefRopeBackIdeal.nD Cert.RefRopeBackIdeal.τ).loc Cert.RefRopeBackIdeal.main_arg0)
      ∧ r.2.mem ((c.tc : Thread Cert.RefRopeBackIdeal.nD Cert.RefRopeBackIdeal.τ).loc Cert.RefRopeBackIdeal.main_arg1) = m ((c.tc : Thread Cert.RefRopeBackIdeal.nD Cert.RefRopeBackIdeal.τ).loc Cert.RefRopeBackIdeal.main_arg1)
      ∧ r.2.mem ((c.tc : Thread Cert.RefRopeBackIdeal.nD Cert.RefRopeBackIdeal.τ).loc Cert.RefRopeBackIdeal.main_arg2) = m ((c.tc : Thread Cert.RefRopeBackIdeal.nD Cert.RefRopeBackIdeal.τ).loc Cert.RefRopeBackIdeal.main_arg2)
      ∧ r.2.mem ((c.tc : Thread Cert.RefRopeBackIdeal.nD Cert.RefRopeBackIdeal.τ).loc Cert.RefRopeBackIdeal.main_arg3) = m ((c.tc : Thread Cert.RefRopeBackIdeal.nD Cert.RefRopeBackIdeal.τ).loc Cert.RefRopeBackIdeal.main_arg3)
      ∧ r.2.mem ((c.tc : Thread Cert.RefRopeBackIdeal.nD Cert.RefRopeBackIdeal.τ).loc Cert.RefRopeBackIdeal.main_arg4) = m ((c.tc : Thread Cert.RefRopeBackIdeal.nD Cert.RefRopeBackIdeal.τ).loc Cert.RefRopeBackIdeal.main_arg4)
      ∧ r.2.mem ((c.tc : Thread Cert.RefRopeBackIdeal.nD Cert.RefRopeBackIdeal.τ).loc Cert.RefRopeBackIdeal.main_arg5) = m ((c.tc : Thread Cert.RefRopeBackIdeal.nD Cert.RefRopeBackIdeal.τ).loc Cert.RefRopeBackIdeal.main_arg5)
      ∧ r.2.mem ((c.tc : Thread Cert.RefRopeBackIdeal.nD Cert.RefRopeBackIdeal.τ).loc Cert.RefRopeBackIdeal.main_arg6) = m ((c.tc : Thread Cert.RefRopeBackIdeal.nD Cert.RefRopeBackIdeal.τ).loc Cert.RefRopeBackIdeal.main_arg6)
      ∧ r.2.mem ((c.tc : Thread Cert.RefRopeBackIdeal.nD Cert.RefRopeBackIdeal.τ).loc Cert.RefRopeBackIdeal.main_arg7) = m ((c.tc : Thread Cert.RefRopeBackIdeal.nD Cert.RefRopeBackIdeal.τ).loc Cert.RefRopeBackIdeal.main_arg7)
      ∧ r.2.mem ((c.tc : Thread Cert.RefRopeBackIdeal.nD Cert.RefRopeBackIdeal.τ).loc Cert.RefRopeBackIdeal.main_arg8) = m ((c.tc : Thread Cert.RefRopeBackIdeal.nD Cert.RefRopeBackIdeal.τ).loc Cert.RefRopeBackIdeal.main_arg8)
      ∧ r.2.mem ((c.tc : Thread Cert.RefRopeBackIdeal.nD Cert.RefRopeBackIdeal.τ).loc Cert.RefRopeBackIdeal.main_arg9) = m ((c.tc : Thread Cert.RefRopeBackIdeal.nD Cert.RefRopeBackIdeal.τ).loc Cert.RefRopeBackIdeal.main_arg9))
      ∧ r.2.sem = fun _ => 0)

def quiescent_InNorm [hInNorm : Cert.InNorm.Facts] : Prop :=
  ∀ (m : (ℓ : Loc Cert.InNorm.nD Cert.InNorm.τ Cert.InNorm.sig) → Buf (Elt Bits) ℓ) (g : Dev Cert.InNorm.nD → PrngReg), Pre_InNorm m →
    θ_run (Cert.InNorm.defs (F := Bits)) (onTc (τ := Cert.InNorm.τ) (Cert.InNorm.main (F := Bits))) ⟨m, fun _ => 0, g⟩ (fun r => (∀ c : Dev Cert.InNorm.nD,
      r.2.mem ((c.tc : Thread Cert.InNorm.nD Cert.InNorm.τ).loc Cert.InNorm.main_arg0) = m ((c.tc : Thread Cert.InNorm.nD Cert.InNorm.τ).loc Cert.InNorm.main_arg0)
      ∧ r.2.mem ((c.tc : Thread Cert.InNorm.nD Cert.InNorm.τ).loc Cert.InNorm.main_arg1) = m ((c.tc : Thread Cert.InNorm.nD Cert.InNorm.τ).loc Cert.InNorm.main_arg1))
      ∧ r.2.sem = fun _ => 0)

def quiescent_InNormIdeal [hInNormIdeal : Cert.InNormIdeal.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1))
      ∧ r.2.sem = fun _ => 0)

def quiescent_RefInNormIdeal [hRefInNormIdeal : Cert.RefInNormIdeal.Facts] : Prop :=
  ∀ (m : (ℓ : Loc Cert.RefInNormIdeal.nD Cert.RefInNormIdeal.τ Cert.RefInNormIdeal.sig) → Buf (Elt Ideal) ℓ) (g : Dev Cert.RefInNormIdeal.nD → PrngReg), Pre_RefInNormIdeal m →
    θ_run (Cert.RefInNormIdeal.defs (F := Ideal)) (onTc (τ := Cert.RefInNormIdeal.τ) (Cert.RefInNormIdeal.main (F := Ideal))) ⟨m, fun _ => 0, g⟩ (fun r => (∀ c : Dev Cert.RefInNormIdeal.nD,
      r.2.mem ((c.tc : Thread Cert.RefInNormIdeal.nD Cert.RefInNormIdeal.τ).loc Cert.RefInNormIdeal.main_arg0) = m ((c.tc : Thread Cert.RefInNormIdeal.nD Cert.RefInNormIdeal.τ).loc Cert.RefInNormIdeal.main_arg0)
      ∧ r.2.mem ((c.tc : Thread Cert.RefInNormIdeal.nD Cert.RefInNormIdeal.τ).loc Cert.RefInNormIdeal.main_arg1) = m ((c.tc : Thread Cert.RefInNormIdeal.nD Cert.RefInNormIdeal.τ).loc Cert.RefInNormIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_RefMemNormIdeal [hRefMemNormIdeal : Cert.RefMemNormIdeal.Facts] : Prop :=
  ∀ (m : (ℓ : Loc Cert.RefMemNormIdeal.nD Cert.RefMemNormIdeal.τ Cert.RefMemNormIdeal.sig) → Buf (Elt Ideal) ℓ) (g : Dev Cert.RefMemNormIdeal.nD → PrngReg), Pre_RefMemNormIdeal m →
    θ_run (Cert.RefMemNormIdeal.defs (F := Ideal)) (onTc (τ := Cert.RefMemNormIdeal.τ) (Cert.RefMemNormIdeal.main (F := Ideal))) ⟨m, fun _ => 0, g⟩ (fun r => (∀ c : Dev Cert.RefMemNormIdeal.nD,
      r.2.mem ((c.tc : Thread Cert.RefMemNormIdeal.nD Cert.RefMemNormIdeal.τ).loc Cert.RefMemNormIdeal.main_arg0) = m ((c.tc : Thread Cert.RefMemNormIdeal.nD Cert.RefMemNormIdeal.τ).loc Cert.RefMemNormIdeal.main_arg0)
      ∧ r.2.mem ((c.tc : Thread Cert.RefMemNormIdeal.nD Cert.RefMemNormIdeal.τ).loc Cert.RefMemNormIdeal.main_arg1) = m ((c.tc : Thread Cert.RefMemNormIdeal.nD Cert.RefMemNormIdeal.τ).loc Cert.RefMemNormIdeal.main_arg1))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ r.2.sem = fun _ => 0)

def quiescent_RefResNormIdeal [hRefResNormIdeal : Cert.RefResNormIdeal.Facts] : Prop :=
  ∀ (m : (ℓ : Loc Cert.RefResNormIdeal.nD Cert.RefResNormIdeal.τ Cert.RefResNormIdeal.sig) → Buf (Elt Ideal) ℓ) (g : Dev Cert.RefResNormIdeal.nD → PrngReg), Pre_RefResNormIdeal m →
    θ_run (Cert.RefResNormIdeal.defs (F := Ideal)) (onTc (τ := Cert.RefResNormIdeal.τ) (Cert.RefResNormIdeal.main (F := Ideal))) ⟨m, fun _ => 0, g⟩ (fun r => (∀ c : Dev Cert.RefResNormIdeal.nD,
      r.2.mem ((c.tc : Thread Cert.RefResNormIdeal.nD Cert.RefResNormIdeal.τ).loc Cert.RefResNormIdeal.main_arg0) = m ((c.tc : Thread Cert.RefResNormIdeal.nD Cert.RefResNormIdeal.τ).loc Cert.RefResNormIdeal.main_arg0)
      ∧ r.2.mem ((c.tc : Thread Cert.RefResNormIdeal.nD Cert.RefResNormIdeal.τ).loc Cert.RefResNormIdeal.main_arg1) = m ((c.tc : Thread Cert.RefResNormIdeal.nD Cert.RefResNormIdeal.τ).loc Cert.RefResNormIdeal.main_arg1)
      ∧ r.2.mem ((c.tc : Thread Cert.RefResNormIdeal.nD Cert.RefResNormIdeal.τ).loc Cert.RefResNormIdeal.main_arg2) = m ((c.tc : Thread Cert.RefResNormIdeal.nD Cert.RefResNormIdeal.τ).loc Cert.RefResNormIdeal.main_arg2)
      ∧ r.2.mem ((c.tc : Thread Cert.RefResNormIdeal.nD Cert.RefResNormIdeal.τ).loc Cert.RefResNormIdeal.main_arg3) = m ((c.tc : Thread Cert.RefResNormIdeal.nD Cert.RefResNormIdeal.τ).loc Cert.RefResNormIdeal.main_arg3))
      ∧ r.2.sem = fun _ => 0)

def quiescent_ResLast [hResLast : Cert.ResLast.Facts] : Prop :=
  ∀ (m : (ℓ : Loc Cert.ResLast.nD Cert.ResLast.τ Cert.ResLast.sig) → Buf (Elt Bits) ℓ) (g : Dev Cert.ResLast.nD → PrngReg), Pre_ResLast m →
    θ_run (Cert.ResLast.defs (F := Bits)) (onTc (τ := Cert.ResLast.τ) (Cert.ResLast.main (F := Bits))) ⟨m, fun _ => 0, g⟩ (fun r => (∀ c : Dev Cert.ResLast.nD,
      r.2.mem ((c.tc : Thread Cert.ResLast.nD Cert.ResLast.τ).loc Cert.ResLast.main_arg0) = m ((c.tc : Thread Cert.ResLast.nD Cert.ResLast.τ).loc Cert.ResLast.main_arg0)
      ∧ r.2.mem ((c.tc : Thread Cert.ResLast.nD Cert.ResLast.τ).loc Cert.ResLast.main_arg1) = m ((c.tc : Thread Cert.ResLast.nD Cert.ResLast.τ).loc Cert.ResLast.main_arg1)
      ∧ r.2.mem ((c.tc : Thread Cert.ResLast.nD Cert.ResLast.τ).loc Cert.ResLast.main_arg2) = m ((c.tc : Thread Cert.ResLast.nD Cert.ResLast.τ).loc Cert.ResLast.main_arg2))
      ∧ r.2.sem = fun _ => 0)

def quiescent_ResLastIdeal [hResLastIdeal : Cert.ResLastIdeal.Facts] : Prop :=
  ∀ (m : (ℓ : Loc Cert.ResLastIdeal.nD Cert.ResLastIdeal.τ Cert.ResLastIdeal.sig) → Buf (Elt Ideal) ℓ) (g : Dev Cert.ResLastIdeal.nD → PrngReg), Pre_ResLastIdeal m →
    θ_run (Cert.ResLastIdeal.defs (F := Ideal)) (onTc (τ := Cert.ResLastIdeal.τ) (Cert.ResLastIdeal.main (F := Ideal))) ⟨m, fun _ => 0, g⟩ (fun r => (∀ c : Dev Cert.ResLastIdeal.nD,
      r.2.mem ((c.tc : Thread Cert.ResLastIdeal.nD Cert.ResLastIdeal.τ).loc Cert.ResLastIdeal.main_arg0) = m ((c.tc : Thread Cert.ResLastIdeal.nD Cert.ResLastIdeal.τ).loc Cert.ResLastIdeal.main_arg0)
      ∧ r.2.mem ((c.tc : Thread Cert.ResLastIdeal.nD Cert.ResLastIdeal.τ).loc Cert.ResLastIdeal.main_arg1) = m ((c.tc : Thread Cert.ResLastIdeal.nD Cert.ResLastIdeal.τ).loc Cert.ResLastIdeal.main_arg1)
      ∧ r.2.mem ((c.tc : Thread Cert.ResLastIdeal.nD Cert.ResLastIdeal.τ).loc Cert.ResLastIdeal.main_arg2) = m ((c.tc : Thread Cert.ResLastIdeal.nD Cert.ResLastIdeal.τ).loc Cert.ResLastIdeal.main_arg2))
      ∧ r.2.sem = fun _ => 0)

def quiescent_RefResLastIdeal [hRefResLastIdeal : Cert.RefResLastIdeal.Facts] : Prop :=
  ∀ (m : (ℓ : Loc Cert.RefResLastIdeal.nD Cert.RefResLastIdeal.τ Cert.RefResLastIdeal.sig) → Buf (Elt Ideal) ℓ) (g : Dev Cert.RefResLastIdeal.nD → PrngReg), Pre_RefResLastIdeal m →
    θ_run (Cert.RefResLastIdeal.defs (F := Ideal)) (onTc (τ := Cert.RefResLastIdeal.τ) (Cert.RefResLastIdeal.main (F := Ideal))) ⟨m, fun _ => 0, g⟩ (fun r => (∀ c : Dev Cert.RefResLastIdeal.nD,
      r.2.mem ((c.tc : Thread Cert.RefResLastIdeal.nD Cert.RefResLastIdeal.τ).loc Cert.RefResLastIdeal.main_arg0) = m ((c.tc : Thread Cert.RefResLastIdeal.nD Cert.RefResLastIdeal.τ).loc Cert.RefResLastIdeal.main_arg0)
      ∧ r.2.mem ((c.tc : Thread Cert.RefResLastIdeal.nD Cert.RefResLastIdeal.τ).loc Cert.RefResLastIdeal.main_arg1) = m ((c.tc : Thread Cert.RefResLastIdeal.nD Cert.RefResLastIdeal.τ).loc Cert.RefResLastIdeal.main_arg1)
      ∧ r.2.mem ((c.tc : Thread Cert.RefResLastIdeal.nD Cert.RefResLastIdeal.τ).loc Cert.RefResLastIdeal.main_arg2) = m ((c.tc : Thread Cert.RefResLastIdeal.nD Cert.RefResLastIdeal.τ).loc Cert.RefResLastIdeal.main_arg2))
      ∧ r.2.sem = fun _ => 0)

def quiescent_XattnFwd [hXattnFwd : Cert.XattnFwd.Facts] : Prop :=
  ∀ (m : (ℓ : Loc Cert.XattnFwd.nD Cert.XattnFwd.τ Cert.XattnFwd.sig) → Buf (Elt Bits) ℓ) (g : Dev Cert.XattnFwd.nD → PrngReg), Pre_XattnFwd m →
    θ_run (Cert.XattnFwd.defs (F := Bits)) (onTc (τ := Cert.XattnFwd.τ) (Cert.XattnFwd.main (F := Bits))) ⟨m, fun _ => 0, g⟩ (fun r => (∀ c : Dev Cert.XattnFwd.nD,
      r.2.mem ((c.tc : Thread Cert.XattnFwd.nD Cert.XattnFwd.τ).loc Cert.XattnFwd.main_arg0) = m ((c.tc : Thread Cert.XattnFwd.nD Cert.XattnFwd.τ).loc Cert.XattnFwd.main_arg0)
      ∧ r.2.mem ((c.tc : Thread Cert.XattnFwd.nD Cert.XattnFwd.τ).loc Cert.XattnFwd.main_arg1) = m ((c.tc : Thread Cert.XattnFwd.nD Cert.XattnFwd.τ).loc Cert.XattnFwd.main_arg1)
      ∧ r.2.mem ((c.tc : Thread Cert.XattnFwd.nD Cert.XattnFwd.τ).loc Cert.XattnFwd.main_arg2) = m ((c.tc : Thread Cert.XattnFwd.nD Cert.XattnFwd.τ).loc Cert.XattnFwd.main_arg2))
      ∧ r.2.sem = fun _ => 0)

def quiescent_XattnFwdIdeal [hXattnFwdIdeal : Cert.XattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1)
      ∧ r.2.mem ((c.tc : Thread Cert.XattnFwdIdeal.nD Cert.XattnFwdIdeal.τ).loc Cert.XattnFwdIdeal.main_arg2) = m ((c.tc : Thread Cert.XattnFwdIdeal.nD Cert.XattnFwdIdeal.τ).loc Cert.XattnFwdIdeal.main_arg2))
      ∧ r.2.sem = fun _ => 0)

def quiescent_RefXattnFwdIdeal [hRefXattnFwdIdeal : Cert.RefXattnFwdIdeal.Facts] : Prop :=
  ∀ (m : (ℓ : Loc Cert.RefXattnFwdIdeal.nD Cert.RefXattnFwdIdeal.τ Cert.RefXattnFwdIdeal.sig) → Buf (Elt Ideal) ℓ) (g : Dev Cert.RefXattnFwdIdeal.nD → PrngReg), Pre_RefXattnFwdIdeal m →
    θ_run (Cert.RefXattnFwdIdeal.defs (F := Ideal)) (onTc (τ := Cert.RefXattnFwdIdeal.τ) (Cert.RefXattnFwdIdeal.main (F := Ideal))) ⟨m, fun _ => 0, g⟩ (fun r => (∀ c : Dev Cert.RefXattnFwdIdeal.nD,
      r.2.mem ((c.tc : Thread Cert.RefXattnFwdIdeal.nD Cert.RefXattnFwdIdeal.τ).loc Cert.RefXattnFwdIdeal.main_arg0) = m ((c.tc : Thread Cert.RefXattnFwdIdeal.nD Cert.RefXattnFwdIdeal.τ).loc Cert.RefXattnFwdIdeal.main_arg0)
      ∧ r.2.mem ((c.tc : Thread Cert.RefXattnFwdIdeal.nD Cert.RefXattnFwdIdeal.τ).loc Cert.RefXattnFwdIdeal.main_arg1) = m ((c.tc : Thread Cert.RefXattnFwdIdeal.nD Cert.RefXattnFwdIdeal.τ).loc Cert.RefXattnFwdIdeal.main_arg1)
      ∧ r.2.mem ((c.tc : Thread Cert.RefXattnFwdIdeal.nD Cert.RefXattnFwdIdeal.τ).loc Cert.RefXattnFwdIdeal.main_arg2) = m ((c.tc : Thread Cert.RefXattnFwdIdeal.nD Cert.RefXattnFwdIdeal.τ).loc Cert.RefXattnFwdIdeal.main_arg2))
      ∧ r.2.sem = fun _ => 0)

def quiescent_RopeFwd [hRopeFwd : Cert.RopeFwd.Facts] : Prop :=
  ∀ (m : (ℓ : Loc Cert.RopeFwd.nD Cert.RopeFwd.τ Cert.RopeFwd.sig) → Buf (Elt Bits) ℓ) (g : Dev Cert.RopeFwd.nD → PrngReg), Pre_RopeFwd m →
    θ_run (Cert.RopeFwd.defs (F := Bits)) (onTc (τ := Cert.RopeFwd.τ) (Cert.RopeFwd.main (F := Bits))) ⟨m, fun _ => 0, g⟩ (fun r => (∀ c : Dev Cert.RopeFwd.nD,
      r.2.mem ((c.tc : Thread Cert.RopeFwd.nD Cert.RopeFwd.τ).loc Cert.RopeFwd.main_arg0) = m ((c.tc : Thread Cert.RopeFwd.nD Cert.RopeFwd.τ).loc Cert.RopeFwd.main_arg0)
      ∧ r.2.mem ((c.tc : Thread Cert.RopeFwd.nD Cert.RopeFwd.τ).loc Cert.RopeFwd.main_arg1) = m ((c.tc : Thread Cert.RopeFwd.nD Cert.RopeFwd.τ).loc Cert.RopeFwd.main_arg1))
      ∧ r.2.sem = fun _ => 0)

def quiescent_RopeFwdIdeal [hRopeFwdIdeal : Cert.RopeFwdIdeal.Facts] : Prop :=
  ∀ (m : (ℓ : Loc Cert.RopeFwdIdeal.nD Cert.RopeFwdIdeal.τ Cert.RopeFwdIdeal.sig) → Buf (Elt Ideal) ℓ) (g : Dev Cert.RopeFwdIdeal.nD → PrngReg), Pre_RopeFwdIdeal m →
    θ_run (Cert.RopeFwdIdeal.defs (F := Ideal)) (onTc (τ := Cert.RopeFwdIdeal.τ) (Cert.RopeFwdIdeal.main (F := Ideal))) ⟨m, fun _ => 0, g⟩ (fun r => (∀ c : Dev Cert.RopeFwdIdeal.nD,
      r.2.mem ((c.tc : Thread Cert.RopeFwdIdeal.nD Cert.RopeFwdIdeal.τ).loc Cert.RopeFwdIdeal.main_arg0) = m ((c.tc : Thread Cert.RopeFwdIdeal.nD Cert.RopeFwdIdeal.τ).loc Cert.RopeFwdIdeal.main_arg0)
      ∧ r.2.mem ((c.tc : Thread Cert.RopeFwdIdeal.nD Cert.RopeFwdIdeal.τ).loc Cert.RopeFwdIdeal.main_arg1) = m ((c.tc : Thread Cert.RopeFwdIdeal.nD Cert.RopeFwdIdeal.τ).loc Cert.RopeFwdIdeal.main_arg1))
      ∧ r.2.sem = fun _ => 0)

def quiescent_RefRopeFwdIdeal [hRefRopeFwdIdeal : Cert.RefRopeFwdIdeal.Facts] : Prop :=
  ∀ (m : (ℓ : Loc Cert.RefRopeFwdIdeal.nD Cert.RefRopeFwdIdeal.τ Cert.RefRopeFwdIdeal.sig) → Buf (Elt Ideal) ℓ) (g : Dev Cert.RefRopeFwdIdeal.nD → PrngReg), Pre_RefRopeFwdIdeal m →
    θ_run (Cert.RefRopeFwdIdeal.defs (F := Ideal)) (onTc (τ := Cert.RefRopeFwdIdeal.τ) (Cert.RefRopeFwdIdeal.main (F := Ideal))) ⟨m, fun _ => 0, g⟩ (fun r => (∀ c : Dev Cert.RefRopeFwdIdeal.nD,
      r.2.mem ((c.tc : Thread Cert.RefRopeFwdIdeal.nD Cert.RefRopeFwdIdeal.τ).loc Cert.RefRopeFwdIdeal.main_arg0) = m ((c.tc : Thread Cert.RefRopeFwdIdeal.nD Cert.RefRopeFwdIdeal.τ).loc Cert.RefRopeFwdIdeal.main_arg0)
      ∧ r.2.mem ((c.tc : Thread Cert.RefRopeFwdIdeal.nD Cert.RefRopeFwdIdeal.τ).loc Cert.RefRopeFwdIdeal.main_arg1) = m ((c.tc : Thread Cert.RefRopeFwdIdeal.nD Cert.RefRopeFwdIdeal.τ).loc Cert.RefRopeFwdIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4)
      ∧ r.2.mem ((c.tc : Thread Cert.RefMixIdeal.nD Cert.RefMixIdeal.τ).loc Cert.RefMixIdeal.main_arg5) = m ((c.tc : Thread Cert.RefMixIdeal.nD Cert.RefMixIdeal.τ).loc Cert.RefMixIdeal.main_arg5))
      ∧ r.2.sem = fun _ => 0)

def quiescent_ProductMemNn [hProductMemNn : Cert.ProductMemNn.Facts] : Prop :=
  ∀ (m : (ℓ : Loc Cert.ProductMemNn.nD Cert.ProductMemNn.τ Cert.ProductMemNn.sig) → Buf (Elt Bits) ℓ) (g : Dev Cert.ProductMemNn.nD → PrngReg), Pre_ProductMemNn m →
    θ_run (Cert.ProductMemNn.defs (F := Bits)) (onTc (τ := Cert.ProductMemNn.τ) (Cert.ProductMemNn.main (F := Bits))) ⟨m, fun _ => 0, g⟩ (fun r => (∀ c : Dev Cert.ProductMemNn.nD,
      r.2.mem ((c.tc : Thread Cert.ProductMemNn.nD Cert.ProductMemNn.τ).loc Cert.ProductMemNn.main_arg0) = m ((c.tc : Thread Cert.ProductMemNn.nD Cert.ProductMemNn.τ).loc Cert.ProductMemNn.main_arg0)
      ∧ r.2.mem ((c.tc : Thread Cert.ProductMemNn.nD Cert.ProductMemNn.τ).loc Cert.ProductMemNn.main_arg1) = m ((c.tc : Thread Cert.ProductMemNn.nD Cert.ProductMemNn.τ).loc Cert.ProductMemNn.main_arg1))
      ∧ r.2.sem = fun _ => 0)

def quiescent_ProductMemNnIdeal [hProductMemNnIdeal : Cert.ProductMemNnIdeal.Facts] : Prop :=
  ∀ (m : (ℓ : Loc Cert.ProductMemNnIdeal.nD Cert.ProductMemNnIdeal.τ Cert.ProductMemNnIdeal.sig) → Buf (Elt Ideal) ℓ) (g : Dev Cert.ProductMemNnIdeal.nD → PrngReg), Pre_ProductMemNnIdeal m →
    θ_run (Cert.ProductMemNnIdeal.defs (F := Ideal)) (onTc (τ := Cert.ProductMemNnIdeal.τ) (Cert.ProductMemNnIdeal.main (F := Ideal))) ⟨m, fun _ => 0, g⟩ (fun r => (∀ c : Dev Cert.ProductMemNnIdeal.nD,
      r.2.mem ((c.tc : Thread Cert.ProductMemNnIdeal.nD Cert.ProductMemNnIdeal.τ).loc Cert.ProductMemNnIdeal.main_arg0) = m ((c.tc : Thread Cert.ProductMemNnIdeal.nD Cert.ProductMemNnIdeal.τ).loc Cert.ProductMemNnIdeal.main_arg0)
      ∧ r.2.mem ((c.tc : Thread Cert.ProductMemNnIdeal.nD Cert.ProductMemNnIdeal.τ).loc Cert.ProductMemNnIdeal.main_arg1) = m ((c.tc : Thread Cert.ProductMemNnIdeal.nD Cert.ProductMemNnIdeal.τ).loc Cert.ProductMemNnIdeal.main_arg1))
      ∧ r.2.sem = fun _ => 0)

def quiescent_RefMemNnIdeal [hRefMemNnIdeal : Cert.RefMemNnIdeal.Facts] : Prop :=
  ∀ (m : (ℓ : Loc Cert.RefMemNnIdeal.nD Cert.RefMemNnIdeal.τ Cert.RefMemNnIdeal.sig) → Buf (Elt Ideal) ℓ) (g : Dev Cert.RefMemNnIdeal.nD → PrngReg), Pre_RefMemNnIdeal m →
    θ_run (Cert.RefMemNnIdeal.defs (F := Ideal)) (onTc (τ := Cert.RefMemNnIdeal.τ) (Cert.RefMemNnIdeal.main (F := Ideal))) ⟨m, fun _ => 0, g⟩ (fun r => (∀ c : Dev Cert.RefMemNnIdeal.nD,
      r.2.mem ((c.tc : Thread Cert.RefMemNnIdeal.nD Cert.RefMemNnIdeal.τ).loc Cert.RefMemNnIdeal.main_arg0) = m ((c.tc : Thread Cert.RefMemNnIdeal.nD Cert.RefMemNnIdeal.τ).loc Cert.RefMemNnIdeal.main_arg0)
      ∧ r.2.mem ((c.tc : Thread Cert.RefMemNnIdeal.nD Cert.RefMemNnIdeal.τ).loc Cert.RefMemNnIdeal.main_arg1) = m ((c.tc : Thread Cert.RefMemNnIdeal.nD Cert.RefMemNnIdeal.τ).loc Cert.RefMemNnIdeal.main_arg1))
      ∧ r.2.sem = fun _ => 0)

def quiescent_ProductMemTn [hProductMemTn : Cert.ProductMemTn.Facts] : Prop :=
  ∀ (m : (ℓ : Loc Cert.ProductMemTn.nD Cert.ProductMemTn.τ Cert.ProductMemTn.sig) → Buf (Elt Bits) ℓ) (g : Dev Cert.ProductMemTn.nD → PrngReg), Pre_ProductMemTn m →
    θ_run (Cert.ProductMemTn.defs (F := Bits)) (onTc (τ := Cert.ProductMemTn.τ) (Cert.ProductMemTn.main (F := Bits))) ⟨m, fun _ => 0, g⟩ (fun r => (∀ c : Dev Cert.ProductMemTn.nD,
      r.2.mem ((c.tc : Thread Cert.ProductMemTn.nD Cert.ProductMemTn.τ).loc Cert.ProductMemTn.main_arg0) = m ((c.tc : Thread Cert.ProductMemTn.nD Cert.ProductMemTn.τ).loc Cert.ProductMemTn.main_arg0)
      ∧ r.2.mem ((c.tc : Thread Cert.ProductMemTn.nD Cert.ProductMemTn.τ).loc Cert.ProductMemTn.main_arg1) = m ((c.tc : Thread Cert.ProductMemTn.nD Cert.ProductMemTn.τ).loc Cert.ProductMemTn.main_arg1))
      ∧ r.2.sem = fun _ => 0)

def quiescent_ProductMemTnIdeal [hProductMemTnIdeal : Cert.ProductMemTnIdeal.Facts] : Prop :=
  ∀ (m : (ℓ : Loc Cert.ProductMemTnIdeal.nD Cert.ProductMemTnIdeal.τ Cert.ProductMemTnIdeal.sig) → Buf (Elt Ideal) ℓ) (g : Dev Cert.ProductMemTnIdeal.nD → PrngReg), Pre_ProductMemTnIdeal m →
    θ_run (Cert.ProductMemTnIdeal.defs (F := Ideal)) (onTc (τ := Cert.ProductMemTnIdeal.τ) (Cert.ProductMemTnIdeal.main (F := Ideal))) ⟨m, fun _ => 0, g⟩ (fun r => (∀ c : Dev Cert.ProductMemTnIdeal.nD,
      r.2.mem ((c.tc : Thread Cert.ProductMemTnIdeal.nD Cert.ProductMemTnIdeal.τ).loc Cert.ProductMemTnIdeal.main_arg0) = m ((c.tc : Thread Cert.ProductMemTnIdeal.nD Cert.ProductMemTnIdeal.τ).loc Cert.ProductMemTnIdeal.main_arg0)
      ∧ r.2.mem ((c.tc : Thread Cert.ProductMemTnIdeal.nD Cert.ProductMemTnIdeal.τ).loc Cert.ProductMemTnIdeal.main_arg1) = m ((c.tc : Thread Cert.ProductMemTnIdeal.nD Cert.ProductMemTnIdeal.τ).loc Cert.ProductMemTnIdeal.main_arg1))
      ∧ r.2.sem = fun _ => 0)

def quiescent_RefMemTnIdeal [hRefMemTnIdeal : Cert.RefMemTnIdeal.Facts] : Prop :=
  ∀ (m : (ℓ : Loc Cert.RefMemTnIdeal.nD Cert.RefMemTnIdeal.τ Cert.RefMemTnIdeal.sig) → Buf (Elt Ideal) ℓ) (g : Dev Cert.RefMemTnIdeal.nD → PrngReg), Pre_RefMemTnIdeal m →
    θ_run (Cert.RefMemTnIdeal.defs (F := Ideal)) (onTc (τ := Cert.RefMemTnIdeal.τ) (Cert.RefMemTnIdeal.main (F := Ideal))) ⟨m, fun _ => 0, g⟩ (fun r => (∀ c : Dev Cert.RefMemTnIdeal.nD,
      r.2.mem ((c.tc : Thread Cert.RefMemTnIdeal.nD Cert.RefMemTnIdeal.τ).loc Cert.RefMemTnIdeal.main_arg0) = m ((c.tc : Thread Cert.RefMemTnIdeal.nD Cert.RefMemTnIdeal.τ).loc Cert.RefMemTnIdeal.main_arg0)
      ∧ r.2.mem ((c.tc : Thread Cert.RefMemTnIdeal.nD Cert.RefMemTnIdeal.τ).loc Cert.RefMemTnIdeal.main_arg1) = m ((c.tc : Thread Cert.RefMemTnIdeal.nD Cert.RefMemTnIdeal.τ).loc Cert.RefMemTnIdeal.main_arg1))
      ∧ r.2.sem = fun _ => 0)

def quiescent_ProductMemNt [hProductMemNt : Cert.ProductMemNt.Facts] : Prop :=
  ∀ (m : (ℓ : Loc Cert.ProductMemNt.nD Cert.ProductMemNt.τ Cert.ProductMemNt.sig) → Buf (Elt Bits) ℓ) (g : Dev Cert.ProductMemNt.nD → PrngReg), Pre_ProductMemNt m →
    θ_run (Cert.ProductMemNt.defs (F := Bits)) (onTc (τ := Cert.ProductMemNt.τ) (Cert.ProductMemNt.main (F := Bits))) ⟨m, fun _ => 0, g⟩ (fun r => (∀ c : Dev Cert.ProductMemNt.nD,
      r.2.mem ((c.tc : Thread Cert.ProductMemNt.nD Cert.ProductMemNt.τ).loc Cert.ProductMemNt.main_arg0) = m ((c.tc : Thread Cert.ProductMemNt.nD Cert.ProductMemNt.τ).loc Cert.ProductMemNt.main_arg0)
      ∧ r.2.mem ((c.tc : Thread Cert.ProductMemNt.nD Cert.ProductMemNt.τ).loc Cert.ProductMemNt.main_arg1) = m ((c.tc : Thread Cert.ProductMemNt.nD Cert.ProductMemNt.τ).loc Cert.ProductMemNt.main_arg1))
      ∧ r.2.sem = fun _ => 0)

def quiescent_ProductMemNtIdeal [hProductMemNtIdeal : Cert.ProductMemNtIdeal.Facts] : Prop :=
  ∀ (m : (ℓ : Loc Cert.ProductMemNtIdeal.nD Cert.ProductMemNtIdeal.τ Cert.ProductMemNtIdeal.sig) → Buf (Elt Ideal) ℓ) (g : Dev Cert.ProductMemNtIdeal.nD → PrngReg), Pre_ProductMemNtIdeal m →
    θ_run (Cert.ProductMemNtIdeal.defs (F := Ideal)) (onTc (τ := Cert.ProductMemNtIdeal.τ) (Cert.ProductMemNtIdeal.main (F := Ideal))) ⟨m, fun _ => 0, g⟩ (fun r => (∀ c : Dev Cert.ProductMemNtIdeal.nD,
      r.2.mem ((c.tc : Thread Cert.ProductMemNtIdeal.nD Cert.ProductMemNtIdeal.τ).loc Cert.ProductMemNtIdeal.main_arg0) = m ((c.tc : Thread Cert.ProductMemNtIdeal.nD Cert.ProductMemNtIdeal.τ).loc Cert.ProductMemNtIdeal.main_arg0)
      ∧ r.2.mem ((c.tc : Thread Cert.ProductMemNtIdeal.nD Cert.ProductMemNtIdeal.τ).loc Cert.ProductMemNtIdeal.main_arg1) = m ((c.tc : Thread Cert.ProductMemNtIdeal.nD Cert.ProductMemNtIdeal.τ).loc Cert.ProductMemNtIdeal.main_arg1))
      ∧ r.2.sem = fun _ => 0)

def quiescent_RefMemNtIdeal [hRefMemNtIdeal : Cert.RefMemNtIdeal.Facts] : Prop :=
  ∀ (m : (ℓ : Loc Cert.RefMemNtIdeal.nD Cert.RefMemNtIdeal.τ Cert.RefMemNtIdeal.sig) → Buf (Elt Ideal) ℓ) (g : Dev Cert.RefMemNtIdeal.nD → PrngReg), Pre_RefMemNtIdeal m →
    θ_run (Cert.RefMemNtIdeal.defs (F := Ideal)) (onTc (τ := Cert.RefMemNtIdeal.τ) (Cert.RefMemNtIdeal.main (F := Ideal))) ⟨m, fun _ => 0, g⟩ (fun r => (∀ c : Dev Cert.RefMemNtIdeal.nD,
      r.2.mem ((c.tc : Thread Cert.RefMemNtIdeal.nD Cert.RefMemNtIdeal.τ).loc Cert.RefMemNtIdeal.main_arg0) = m ((c.tc : Thread Cert.RefMemNtIdeal.nD Cert.RefMemNtIdeal.τ).loc Cert.RefMemNtIdeal.main_arg0)
      ∧ r.2.mem ((c.tc : Thread Cert.RefMemNtIdeal.nD Cert.RefMemNtIdeal.τ).loc Cert.RefMemNtIdeal.main_arg1) = m ((c.tc : Thread Cert.RefMemNtIdeal.nD Cert.RefMemNtIdeal.τ).loc Cert.RefMemNtIdeal.main_arg1))
      ∧ r.2.sem = fun _ => 0)

def quiescent_ProductPwNn [hProductPwNn : Cert.ProductPwNn.Facts] : Prop :=
  ∀ (m : (ℓ : Loc Cert.ProductPwNn.nD Cert.ProductPwNn.τ Cert.ProductPwNn.sig) → Buf (Elt Bits) ℓ) (g : Dev Cert.ProductPwNn.nD → PrngReg), Pre_ProductPwNn m →
    θ_run (Cert.ProductPwNn.defs (F := Bits)) (onTc (τ := Cert.ProductPwNn.τ) (Cert.ProductPwNn.main (F := Bits))) ⟨m, fun _ => 0, g⟩ (fun r => (∀ c : Dev Cert.ProductPwNn.nD,
      r.2.mem ((c.tc : Thread Cert.ProductPwNn.nD Cert.ProductPwNn.τ).loc Cert.ProductPwNn.main_arg0) = m ((c.tc : Thread Cert.ProductPwNn.nD Cert.ProductPwNn.τ).loc Cert.ProductPwNn.main_arg0)
      ∧ r.2.mem ((c.tc : Thread Cert.ProductPwNn.nD Cert.ProductPwNn.τ).loc Cert.ProductPwNn.main_arg1) = m ((c.tc : Thread Cert.ProductPwNn.nD Cert.ProductPwNn.τ).loc Cert.ProductPwNn.main_arg1)
      ∧ r.2.mem ((c.tc : Thread Cert.ProductPwNn.nD Cert.ProductPwNn.τ).loc Cert.ProductPwNn.main_arg2) = m ((c.tc : Thread Cert.ProductPwNn.nD Cert.ProductPwNn.τ).loc Cert.ProductPwNn.main_arg2))
      ∧ r.2.sem = fun _ => 0)

def quiescent_ProductPwNnIdeal [hProductPwNnIdeal : Cert.ProductPwNnIdeal.Facts] : Prop :=
  ∀ (m : (ℓ : Loc Cert.ProductPwNnIdeal.nD Cert.ProductPwNnIdeal.τ Cert.ProductPwNnIdeal.sig) → Buf (Elt Ideal) ℓ) (g : Dev Cert.ProductPwNnIdeal.nD → PrngReg), Pre_ProductPwNnIdeal m →
    θ_run (Cert.ProductPwNnIdeal.defs (F := Ideal)) (onTc (τ := Cert.ProductPwNnIdeal.τ) (Cert.ProductPwNnIdeal.main (F := Ideal))) ⟨m, fun _ => 0, g⟩ (fun r => (∀ c : Dev Cert.ProductPwNnIdeal.nD,
      r.2.mem ((c.tc : Thread Cert.ProductPwNnIdeal.nD Cert.ProductPwNnIdeal.τ).loc Cert.ProductPwNnIdeal.main_arg0) = m ((c.tc : Thread Cert.ProductPwNnIdeal.nD Cert.ProductPwNnIdeal.τ).loc Cert.ProductPwNnIdeal.main_arg0)
      ∧ r.2.mem ((c.tc : Thread Cert.ProductPwNnIdeal.nD Cert.ProductPwNnIdeal.τ).loc Cert.ProductPwNnIdeal.main_arg1) = m ((c.tc : Thread Cert.ProductPwNnIdeal.nD Cert.ProductPwNnIdeal.τ).loc Cert.ProductPwNnIdeal.main_arg1)
      ∧ r.2.mem ((c.tc : Thread Cert.ProductPwNnIdeal.nD Cert.ProductPwNnIdeal.τ).loc Cert.ProductPwNnIdeal.main_arg2) = m ((c.tc : Thread Cert.ProductPwNnIdeal.nD Cert.ProductPwNnIdeal.τ).loc Cert.ProductPwNnIdeal.main_arg2))
      ∧ r.2.sem = fun _ => 0)

def quiescent_RefPwNnIdeal [hRefPwNnIdeal : Cert.RefPwNnIdeal.Facts] : Prop :=
  ∀ (m : (ℓ : Loc Cert.RefPwNnIdeal.nD Cert.RefPwNnIdeal.τ Cert.RefPwNnIdeal.sig) → Buf (Elt Ideal) ℓ) (g : Dev Cert.RefPwNnIdeal.nD → PrngReg), Pre_RefPwNnIdeal m →
    θ_run (Cert.RefPwNnIdeal.defs (F := Ideal)) (onTc (τ := Cert.RefPwNnIdeal.τ) (Cert.RefPwNnIdeal.main (F := Ideal))) ⟨m, fun _ => 0, g⟩ (fun r => (∀ c : Dev Cert.RefPwNnIdeal.nD,
      r.2.mem ((c.tc : Thread Cert.RefPwNnIdeal.nD Cert.RefPwNnIdeal.τ).loc Cert.RefPwNnIdeal.main_arg0) = m ((c.tc : Thread Cert.RefPwNnIdeal.nD Cert.RefPwNnIdeal.τ).loc Cert.RefPwNnIdeal.main_arg0)
      ∧ r.2.mem ((c.tc : Thread Cert.RefPwNnIdeal.nD Cert.RefPwNnIdeal.τ).loc Cert.RefPwNnIdeal.main_arg1) = m ((c.tc : Thread Cert.RefPwNnIdeal.nD Cert.RefPwNnIdeal.τ).loc Cert.RefPwNnIdeal.main_arg1)
      ∧ r.2.mem ((c.tc : Thread Cert.RefPwNnIdeal.nD Cert.RefPwNnIdeal.τ).loc Cert.RefPwNnIdeal.main_arg2) = m ((c.tc : Thread Cert.RefPwNnIdeal.nD Cert.RefPwNnIdeal.τ).loc Cert.RefPwNnIdeal.main_arg2))
      ∧ r.2.sem = fun _ => 0)

def quiescent_ProductPwTn [hProductPwTn : Cert.ProductPwTn.Facts] : Prop :=
  ∀ (m : (ℓ : Loc Cert.ProductPwTn.nD Cert.ProductPwTn.τ Cert.ProductPwTn.sig) → Buf (Elt Bits) ℓ) (g : Dev Cert.ProductPwTn.nD → PrngReg), Pre_ProductPwTn m →
    θ_run (Cert.ProductPwTn.defs (F := Bits)) (onTc (τ := Cert.ProductPwTn.τ) (Cert.ProductPwTn.main (F := Bits))) ⟨m, fun _ => 0, g⟩ (fun r => (∀ c : Dev Cert.ProductPwTn.nD,
      r.2.mem ((c.tc : Thread Cert.ProductPwTn.nD Cert.ProductPwTn.τ).loc Cert.ProductPwTn.main_arg0) = m ((c.tc : Thread Cert.ProductPwTn.nD Cert.ProductPwTn.τ).loc Cert.ProductPwTn.main_arg0)
      ∧ r.2.mem ((c.tc : Thread Cert.ProductPwTn.nD Cert.ProductPwTn.τ).loc Cert.ProductPwTn.main_arg1) = m ((c.tc : Thread Cert.ProductPwTn.nD Cert.ProductPwTn.τ).loc Cert.ProductPwTn.main_arg1))
      ∧ r.2.sem = fun _ => 0)

def quiescent_ProductPwTnIdeal [hProductPwTnIdeal : Cert.ProductPwTnIdeal.Facts] : Prop :=
  ∀ (m : (ℓ : Loc Cert.ProductPwTnIdeal.nD Cert.ProductPwTnIdeal.τ Cert.ProductPwTnIdeal.sig) → Buf (Elt Ideal) ℓ) (g : Dev Cert.ProductPwTnIdeal.nD → PrngReg), Pre_ProductPwTnIdeal m →
    θ_run (Cert.ProductPwTnIdeal.defs (F := Ideal)) (onTc (τ := Cert.ProductPwTnIdeal.τ) (Cert.ProductPwTnIdeal.main (F := Ideal))) ⟨m, fun _ => 0, g⟩ (fun r => (∀ c : Dev Cert.ProductPwTnIdeal.nD,
      r.2.mem ((c.tc : Thread Cert.ProductPwTnIdeal.nD Cert.ProductPwTnIdeal.τ).loc Cert.ProductPwTnIdeal.main_arg0) = m ((c.tc : Thread Cert.ProductPwTnIdeal.nD Cert.ProductPwTnIdeal.τ).loc Cert.ProductPwTnIdeal.main_arg0)
      ∧ r.2.mem ((c.tc : Thread Cert.ProductPwTnIdeal.nD Cert.ProductPwTnIdeal.τ).loc Cert.ProductPwTnIdeal.main_arg1) = m ((c.tc : Thread Cert.ProductPwTnIdeal.nD Cert.ProductPwTnIdeal.τ).loc Cert.ProductPwTnIdeal.main_arg1))
      ∧ r.2.sem = fun _ => 0)

def quiescent_RefPwTnIdeal [hRefPwTnIdeal : Cert.RefPwTnIdeal.Facts] : Prop :=
  ∀ (m : (ℓ : Loc Cert.RefPwTnIdeal.nD Cert.RefPwTnIdeal.τ Cert.RefPwTnIdeal.sig) → Buf (Elt Ideal) ℓ) (g : Dev Cert.RefPwTnIdeal.nD → PrngReg), Pre_RefPwTnIdeal m →
    θ_run (Cert.RefPwTnIdeal.defs (F := Ideal)) (onTc (τ := Cert.RefPwTnIdeal.τ) (Cert.RefPwTnIdeal.main (F := Ideal))) ⟨m, fun _ => 0, g⟩ (fun r => (∀ c : Dev Cert.RefPwTnIdeal.nD,
      r.2.mem ((c.tc : Thread Cert.RefPwTnIdeal.nD Cert.RefPwTnIdeal.τ).loc Cert.RefPwTnIdeal.main_arg0) = m ((c.tc : Thread Cert.RefPwTnIdeal.nD Cert.RefPwTnIdeal.τ).loc Cert.RefPwTnIdeal.main_arg0)
      ∧ r.2.mem ((c.tc : Thread Cert.RefPwTnIdeal.nD Cert.RefPwTnIdeal.τ).loc Cert.RefPwTnIdeal.main_arg1) = m ((c.tc : Thread Cert.RefPwTnIdeal.nD Cert.RefPwTnIdeal.τ).loc Cert.RefPwTnIdeal.main_arg1))
      ∧ r.2.sem = fun _ => 0)

def quiescent_ProductPwNt [hProductPwNt : Cert.ProductPwNt.Facts] : Prop :=
  ∀ (m : (ℓ : Loc Cert.ProductPwNt.nD Cert.ProductPwNt.τ Cert.ProductPwNt.sig) → Buf (Elt Bits) ℓ) (g : Dev Cert.ProductPwNt.nD → PrngReg), Pre_ProductPwNt m →
    θ_run (Cert.ProductPwNt.defs (F := Bits)) (onTc (τ := Cert.ProductPwNt.τ) (Cert.ProductPwNt.main (F := Bits))) ⟨m, fun _ => 0, g⟩ (fun r => (∀ c : Dev Cert.ProductPwNt.nD,
      r.2.mem ((c.tc : Thread Cert.ProductPwNt.nD Cert.ProductPwNt.τ).loc Cert.ProductPwNt.main_arg0) = m ((c.tc : Thread Cert.ProductPwNt.nD Cert.ProductPwNt.τ).loc Cert.ProductPwNt.main_arg0)
      ∧ r.2.mem ((c.tc : Thread Cert.ProductPwNt.nD Cert.ProductPwNt.τ).loc Cert.ProductPwNt.main_arg1) = m ((c.tc : Thread Cert.ProductPwNt.nD Cert.ProductPwNt.τ).loc Cert.ProductPwNt.main_arg1))
      ∧ r.2.sem = fun _ => 0)

def quiescent_ProductPwNtIdeal [hProductPwNtIdeal : Cert.ProductPwNtIdeal.Facts] : Prop :=
  ∀ (m : (ℓ : Loc Cert.ProductPwNtIdeal.nD Cert.ProductPwNtIdeal.τ Cert.ProductPwNtIdeal.sig) → Buf (Elt Ideal) ℓ) (g : Dev Cert.ProductPwNtIdeal.nD → PrngReg), Pre_ProductPwNtIdeal m →
    θ_run (Cert.ProductPwNtIdeal.defs (F := Ideal)) (onTc (τ := Cert.ProductPwNtIdeal.τ) (Cert.ProductPwNtIdeal.main (F := Ideal))) ⟨m, fun _ => 0, g⟩ (fun r => (∀ c : Dev Cert.ProductPwNtIdeal.nD,
      r.2.mem ((c.tc : Thread Cert.ProductPwNtIdeal.nD Cert.ProductPwNtIdeal.τ).loc Cert.ProductPwNtIdeal.main_arg0) = m ((c.tc : Thread Cert.ProductPwNtIdeal.nD Cert.ProductPwNtIdeal.τ).loc Cert.ProductPwNtIdeal.main_arg0)
      ∧ r.2.mem ((c.tc : Thread Cert.ProductPwNtIdeal.nD Cert.ProductPwNtIdeal.τ).loc Cert.ProductPwNtIdeal.main_arg1) = m ((c.tc : Thread Cert.ProductPwNtIdeal.nD Cert.ProductPwNtIdeal.τ).loc Cert.ProductPwNtIdeal.main_arg1))
      ∧ r.2.sem = fun _ => 0)

def quiescent_RefPwNtIdeal [hRefPwNtIdeal : Cert.RefPwNtIdeal.Facts] : Prop :=
  ∀ (m : (ℓ : Loc Cert.RefPwNtIdeal.nD Cert.RefPwNtIdeal.τ Cert.RefPwNtIdeal.sig) → Buf (Elt Ideal) ℓ) (g : Dev Cert.RefPwNtIdeal.nD → PrngReg), Pre_RefPwNtIdeal m →
    θ_run (Cert.RefPwNtIdeal.defs (F := Ideal)) (onTc (τ := Cert.RefPwNtIdeal.τ) (Cert.RefPwNtIdeal.main (F := Ideal))) ⟨m, fun _ => 0, g⟩ (fun r => (∀ c : Dev Cert.RefPwNtIdeal.nD,
      r.2.mem ((c.tc : Thread Cert.RefPwNtIdeal.nD Cert.RefPwNtIdeal.τ).loc Cert.RefPwNtIdeal.main_arg0) = m ((c.tc : Thread Cert.RefPwNtIdeal.nD Cert.RefPwNtIdeal.τ).loc Cert.RefPwNtIdeal.main_arg0)
      ∧ r.2.mem ((c.tc : Thread Cert.RefPwNtIdeal.nD Cert.RefPwNtIdeal.τ).loc Cert.RefPwNtIdeal.main_arg1) = m ((c.tc : Thread Cert.RefPwNtIdeal.nD Cert.RefPwNtIdeal.τ).loc Cert.RefPwNtIdeal.main_arg1))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_ProductNt_ProductNtIdeal : Prop :=
  True

def algebraic_ProductNtIdeal_RefNtIdeal [hProductNtIdeal : Cert.ProductNtIdeal.Facts] [hRefNtIdeal : Cert.RefNtIdeal.Facts] : Prop :=
  ∀ (m : (ℓ : Loc Cert.ProductNtIdeal.nD Cert.ProductNtIdeal.τ Cert.ProductNtIdeal.sig) → Buf (Elt Ideal) ℓ) (g : Dev Cert.ProductNtIdeal.nD → PrngReg)
    (m' : (ℓ : Loc Cert.RefNtIdeal.nD Cert.RefNtIdeal.τ Cert.RefNtIdeal.sig) → Buf (Elt Ideal) ℓ) (g' : Dev Cert.RefNtIdeal.nD → PrngReg), Pre_ProductNtIdeal m →
    (∀ c : Dev Cert.ProductNtIdeal.nD,
      m' ((c.tc : Thread Cert.RefNtIdeal.nD Cert.RefNtIdeal.τ).loc Cert.RefNtIdeal.main_arg0) = m ((c.tc : Thread Cert.ProductNtIdeal.nD Cert.ProductNtIdeal.τ).loc Cert.ProductNtIdeal.main_arg0)
      ∧ m' ((c.tc : Thread Cert.RefNtIdeal.nD Cert.RefNtIdeal.τ).loc Cert.RefNtIdeal.main_arg1) = m ((c.tc : Thread Cert.ProductNtIdeal.nD Cert.ProductNtIdeal.τ).loc Cert.ProductNtIdeal.main_arg1)) →
    ∃ (v0 : (c : Dev Cert.ProductNtIdeal.nD) → Buf (Elt Ideal) ((c.tc : Thread Cert.ProductNtIdeal.nD Cert.ProductNtIdeal.τ).loc Cert.ProductNtIdeal.main_v0)),
      θ_run (Cert.ProductNtIdeal.defs (F := Ideal)) (onTc (τ := Cert.ProductNtIdeal.τ) (Cert.ProductNtIdeal.main (F := Ideal))) ⟨m, fun _ => 0, g⟩ (fun r => ∀ c : Dev Cert.ProductNtIdeal.nD,
          r.2.mem ((c.tc : Thread Cert.ProductNtIdeal.nD Cert.ProductNtIdeal.τ).loc Cert.ProductNtIdeal.main_v0) = v0 c
          ∧ r.2.mem ((c.tc : Thread Cert.ProductNtIdeal.nD Cert.ProductNtIdeal.τ).loc Cert.ProductNtIdeal.main_arg0) = m ((c.tc : Thread Cert.ProductNtIdeal.nD Cert.ProductNtIdeal.τ).loc Cert.ProductNtIdeal.main_arg0)
          ∧ r.2.mem ((c.tc : Thread Cert.ProductNtIdeal.nD Cert.ProductNtIdeal.τ).loc Cert.ProductNtIdeal.main_arg1) = m ((c.tc : Thread Cert.ProductNtIdeal.nD Cert.ProductNtIdeal.τ).loc Cert.ProductNtIdeal.main_arg1))
      ∧ θ_run (Cert.RefNtIdeal.defs (F := Ideal)) (onTc (τ := Cert.RefNtIdeal.τ) (Cert.RefNtIdeal.main (F := Ideal))) ⟨m', fun _ => 0, g'⟩ (fun r => ∀ c : Dev Cert.RefNtIdeal.nD,
          r.2.mem ((c.tc : Thread Cert.RefNtIdeal.nD Cert.RefNtIdeal.τ).loc Cert.RefNtIdeal.main_v4) = v0 c
          ∧ r.2.mem ((c.tc : Thread Cert.RefNtIdeal.nD Cert.RefNtIdeal.τ).loc Cert.RefNtIdeal.main_arg0) = m' ((c.tc : Thread Cert.RefNtIdeal.nD Cert.RefNtIdeal.τ).loc Cert.RefNtIdeal.main_arg0)
          ∧ r.2.mem ((c.tc : Thread Cert.RefNtIdeal.nD Cert.RefNtIdeal.τ).loc Cert.RefNtIdeal.main_arg1) = m' ((c.tc : Thread Cert.RefNtIdeal.nD Cert.RefNtIdeal.τ).loc Cert.RefNtIdeal.main_arg1))

def preserves_ProductTn_ProductTnIdeal : Prop :=
  True

def algebraic_ProductTnIdeal_RefTnIdeal [hProductTnIdeal : Cert.ProductTnIdeal.Facts] [hRefTnIdeal : Cert.RefTnIdeal.Facts] : Prop :=
  ∀ (m : (ℓ : Loc Cert.ProductTnIdeal.nD Cert.ProductTnIdeal.τ Cert.ProductTnIdeal.sig) → Buf (Elt Ideal) ℓ) (g : Dev Cert.ProductTnIdeal.nD → PrngReg)
    (m' : (ℓ : Loc Cert.RefTnIdeal.nD Cert.RefTnIdeal.τ Cert.RefTnIdeal.sig) → Buf (Elt Ideal) ℓ) (g' : Dev Cert.RefTnIdeal.nD → PrngReg), Pre_ProductTnIdeal m →
    (∀ c : Dev Cert.ProductTnIdeal.nD,
      m' ((c.tc : Thread Cert.RefTnIdeal.nD Cert.RefTnIdeal.τ).loc Cert.RefTnIdeal.main_arg0) = m ((c.tc : Thread Cert.ProductTnIdeal.nD Cert.ProductTnIdeal.τ).loc Cert.ProductTnIdeal.main_arg0)
      ∧ m' ((c.tc : Thread Cert.RefTnIdeal.nD Cert.RefTnIdeal.τ).loc Cert.RefTnIdeal.main_arg1) = m ((c.tc : Thread Cert.ProductTnIdeal.nD Cert.ProductTnIdeal.τ).loc Cert.ProductTnIdeal.main_arg1)) →
    ∃ (v0 : (c : Dev Cert.ProductTnIdeal.nD) → Buf (Elt Ideal) ((c.tc : Thread Cert.ProductTnIdeal.nD Cert.ProductTnIdeal.τ).loc Cert.ProductTnIdeal.main_v0)),
      θ_run (Cert.ProductTnIdeal.defs (F := Ideal)) (onTc (τ := Cert.ProductTnIdeal.τ) (Cert.ProductTnIdeal.main (F := Ideal))) ⟨m, fun _ => 0, g⟩ (fun r => ∀ c : Dev Cert.ProductTnIdeal.nD,
          r.2.mem ((c.tc : Thread Cert.ProductTnIdeal.nD Cert.ProductTnIdeal.τ).loc Cert.ProductTnIdeal.main_v0) = v0 c
          ∧ r.2.mem ((c.tc : Thread Cert.ProductTnIdeal.nD Cert.ProductTnIdeal.τ).loc Cert.ProductTnIdeal.main_arg0) = m ((c.tc : Thread Cert.ProductTnIdeal.nD Cert.ProductTnIdeal.τ).loc Cert.ProductTnIdeal.main_arg0)
          ∧ r.2.mem ((c.tc : Thread Cert.ProductTnIdeal.nD Cert.ProductTnIdeal.τ).loc Cert.ProductTnIdeal.main_arg1) = m ((c.tc : Thread Cert.ProductTnIdeal.nD Cert.ProductTnIdeal.τ).loc Cert.ProductTnIdeal.main_arg1))
      ∧ θ_run (Cert.RefTnIdeal.defs (F := Ideal)) (onTc (τ := Cert.RefTnIdeal.τ) (Cert.RefTnIdeal.main (F := Ideal))) ⟨m', fun _ => 0, g'⟩ (fun r => ∀ c : Dev Cert.RefTnIdeal.nD,
          r.2.mem ((c.tc : Thread Cert.RefTnIdeal.nD Cert.RefTnIdeal.τ).loc Cert.RefTnIdeal.main_v6) = v0 c
          ∧ r.2.mem ((c.tc : Thread Cert.RefTnIdeal.nD Cert.RefTnIdeal.τ).loc Cert.RefTnIdeal.main_arg0) = m' ((c.tc : Thread Cert.RefTnIdeal.nD Cert.RefTnIdeal.τ).loc Cert.RefTnIdeal.main_arg0)
          ∧ r.2.mem ((c.tc : Thread Cert.RefTnIdeal.nD Cert.RefTnIdeal.τ).loc Cert.RefTnIdeal.main_arg1) = m' ((c.tc : Thread Cert.RefTnIdeal.nD Cert.RefTnIdeal.τ).loc Cert.RefTnIdeal.main_arg1))

def preserves_ProductNn_ProductNnIdeal : Prop :=
  True

def algebraic_ProductNnIdeal_RefNnIdeal [hProductNnIdeal : Cert.ProductNnIdeal.Facts] [hRefNnIdeal : Cert.RefNnIdeal.Facts] : Prop :=
  ∀ (m : (ℓ : Loc Cert.ProductNnIdeal.nD Cert.ProductNnIdeal.τ Cert.ProductNnIdeal.sig) → Buf (Elt Ideal) ℓ) (g : Dev Cert.ProductNnIdeal.nD → PrngReg)
    (m' : (ℓ : Loc Cert.RefNnIdeal.nD Cert.RefNnIdeal.τ Cert.RefNnIdeal.sig) → Buf (Elt Ideal) ℓ) (g' : Dev Cert.RefNnIdeal.nD → PrngReg), Pre_ProductNnIdeal m →
    (∀ c : Dev Cert.ProductNnIdeal.nD,
      m' ((c.tc : Thread Cert.RefNnIdeal.nD Cert.RefNnIdeal.τ).loc Cert.RefNnIdeal.main_arg0) = m ((c.tc : Thread Cert.ProductNnIdeal.nD Cert.ProductNnIdeal.τ).loc Cert.ProductNnIdeal.main_arg0)
      ∧ m' ((c.tc : Thread Cert.RefNnIdeal.nD Cert.RefNnIdeal.τ).loc Cert.RefNnIdeal.main_arg1) = m ((c.tc : Thread Cert.ProductNnIdeal.nD Cert.ProductNnIdeal.τ).loc Cert.ProductNnIdeal.main_arg1)) →
    ∃ (v0 : (c : Dev Cert.ProductNnIdeal.nD) → Buf (Elt Ideal) ((c.tc : Thread Cert.ProductNnIdeal.nD Cert.ProductNnIdeal.τ).loc Cert.ProductNnIdeal.main_v0)),
      θ_run (Cert.ProductNnIdeal.defs (F := Ideal)) (onTc (τ := Cert.ProductNnIdeal.τ) (Cert.ProductNnIdeal.main (F := Ideal))) ⟨m, fun _ => 0, g⟩ (fun r => ∀ c : Dev Cert.ProductNnIdeal.nD,
          r.2.mem ((c.tc : Thread Cert.ProductNnIdeal.nD Cert.ProductNnIdeal.τ).loc Cert.ProductNnIdeal.main_v0) = v0 c
          ∧ r.2.mem ((c.tc : Thread Cert.ProductNnIdeal.nD Cert.ProductNnIdeal.τ).loc Cert.ProductNnIdeal.main_arg0) = m ((c.tc : Thread Cert.ProductNnIdeal.nD Cert.ProductNnIdeal.τ).loc Cert.ProductNnIdeal.main_arg0)
          ∧ r.2.mem ((c.tc : Thread Cert.ProductNnIdeal.nD Cert.ProductNnIdeal.τ).loc Cert.ProductNnIdeal.main_arg1) = m ((c.tc : Thread Cert.ProductNnIdeal.nD Cert.ProductNnIdeal.τ).loc Cert.ProductNnIdeal.main_arg1))
      ∧ θ_run (Cert.RefNnIdeal.defs (F := Ideal)) (onTc (τ := Cert.RefNnIdeal.τ) (Cert.RefNnIdeal.main (F := Ideal))) ⟨m', fun _ => 0, g'⟩ (fun r => ∀ c : Dev Cert.RefNnIdeal.nD,
          r.2.mem ((c.tc : Thread Cert.RefNnIdeal.nD Cert.RefNnIdeal.τ).loc Cert.RefNnIdeal.main_v5) = v0 c
          ∧ r.2.mem ((c.tc : Thread Cert.RefNnIdeal.nD Cert.RefNnIdeal.τ).loc Cert.RefNnIdeal.main_arg0) = m' ((c.tc : Thread Cert.RefNnIdeal.nD Cert.RefNnIdeal.τ).loc Cert.RefNnIdeal.main_arg0)
          ∧ r.2.mem ((c.tc : Thread Cert.RefNnIdeal.nD Cert.RefNnIdeal.τ).loc Cert.RefNnIdeal.main_arg1) = m' ((c.tc : Thread Cert.RefNnIdeal.nD Cert.RefNnIdeal.τ).loc Cert.RefNnIdeal.main_arg1))

def preserves_ProductSqNt_ProductSqNtIdeal : Prop :=
  True

def algebraic_ProductSqNtIdeal_RefSqNtIdeal [hProductSqNtIdeal : Cert.ProductSqNtIdeal.Facts] [hRefSqNtIdeal : Cert.RefSqNtIdeal.Facts] : Prop :=
  ∀ (m : (ℓ : Loc Cert.ProductSqNtIdeal.nD Cert.ProductSqNtIdeal.τ Cert.ProductSqNtIdeal.sig) → Buf (Elt Ideal) ℓ) (g : Dev Cert.ProductSqNtIdeal.nD → PrngReg)
    (m' : (ℓ : Loc Cert.RefSqNtIdeal.nD Cert.RefSqNtIdeal.τ Cert.RefSqNtIdeal.sig) → Buf (Elt Ideal) ℓ) (g' : Dev Cert.RefSqNtIdeal.nD → PrngReg), Pre_ProductSqNtIdeal m →
    (∀ c : Dev Cert.ProductSqNtIdeal.nD,
      m' ((c.tc : Thread Cert.RefSqNtIdeal.nD Cert.RefSqNtIdeal.τ).loc Cert.RefSqNtIdeal.main_arg0) = m ((c.tc : Thread Cert.ProductSqNtIdeal.nD Cert.ProductSqNtIdeal.τ).loc Cert.ProductSqNtIdeal.main_arg0)
      ∧ m' ((c.tc : Thread Cert.RefSqNtIdeal.nD Cert.RefSqNtIdeal.τ).loc Cert.RefSqNtIdeal.main_arg1) = m ((c.tc : Thread Cert.ProductSqNtIdeal.nD Cert.ProductSqNtIdeal.τ).loc Cert.ProductSqNtIdeal.main_arg1)) →
    ∃ (v0 : (c : Dev Cert.ProductSqNtIdeal.nD) → Buf (Elt Ideal) ((c.tc : Thread Cert.ProductSqNtIdeal.nD Cert.ProductSqNtIdeal.τ).loc Cert.ProductSqNtIdeal.main_v0)),
      θ_run (Cert.ProductSqNtIdeal.defs (F := Ideal)) (onTc (τ := Cert.ProductSqNtIdeal.τ) (Cert.ProductSqNtIdeal.main (F := Ideal))) ⟨m, fun _ => 0, g⟩ (fun r => ∀ c : Dev Cert.ProductSqNtIdeal.nD,
          r.2.mem ((c.tc : Thread Cert.ProductSqNtIdeal.nD Cert.ProductSqNtIdeal.τ).loc Cert.ProductSqNtIdeal.main_v0) = v0 c
          ∧ r.2.mem ((c.tc : Thread Cert.ProductSqNtIdeal.nD Cert.ProductSqNtIdeal.τ).loc Cert.ProductSqNtIdeal.main_arg0) = m ((c.tc : Thread Cert.ProductSqNtIdeal.nD Cert.ProductSqNtIdeal.τ).loc Cert.ProductSqNtIdeal.main_arg0)
          ∧ r.2.mem ((c.tc : Thread Cert.ProductSqNtIdeal.nD Cert.ProductSqNtIdeal.τ).loc Cert.ProductSqNtIdeal.main_arg1) = m ((c.tc : Thread Cert.ProductSqNtIdeal.nD Cert.ProductSqNtIdeal.τ).loc Cert.ProductSqNtIdeal.main_arg1))
      ∧ θ_run (Cert.RefSqNtIdeal.defs (F := Ideal)) (onTc (τ := Cert.RefSqNtIdeal.τ) (Cert.RefSqNtIdeal.main (F := Ideal))) ⟨m', fun _ => 0, g'⟩ (fun r => ∀ c : Dev Cert.RefSqNtIdeal.nD,
          r.2.mem ((c.tc : Thread Cert.RefSqNtIdeal.nD Cert.RefSqNtIdeal.τ).loc Cert.RefSqNtIdeal.main_v4) = v0 c
          ∧ r.2.mem ((c.tc : Thread Cert.RefSqNtIdeal.nD Cert.RefSqNtIdeal.τ).loc Cert.RefSqNtIdeal.main_arg0) = m' ((c.tc : Thread Cert.RefSqNtIdeal.nD Cert.RefSqNtIdeal.τ).loc Cert.RefSqNtIdeal.main_arg0)
          ∧ r.2.mem ((c.tc : Thread Cert.RefSqNtIdeal.nD Cert.RefSqNtIdeal.τ).loc Cert.RefSqNtIdeal.main_arg1) = m' ((c.tc : Thread Cert.RefSqNtIdeal.nD Cert.RefSqNtIdeal.τ).loc Cert.RefSqNtIdeal.main_arg1))

def preserves_ProductSqNtB_ProductSqNtBIdeal : Prop :=
  True

def algebraic_ProductSqNtBIdeal_RefSqNtBIdeal [hProductSqNtBIdeal : Cert.ProductSqNtBIdeal.Facts] [hRefSqNtBIdeal : Cert.RefSqNtBIdeal.Facts] : Prop :=
  ∀ (m : (ℓ : Loc Cert.ProductSqNtBIdeal.nD Cert.ProductSqNtBIdeal.τ Cert.ProductSqNtBIdeal.sig) → Buf (Elt Ideal) ℓ) (g : Dev Cert.ProductSqNtBIdeal.nD → PrngReg)
    (m' : (ℓ : Loc Cert.RefSqNtBIdeal.nD Cert.RefSqNtBIdeal.τ Cert.RefSqNtBIdeal.sig) → Buf (Elt Ideal) ℓ) (g' : Dev Cert.RefSqNtBIdeal.nD → PrngReg), Pre_ProductSqNtBIdeal m →
    (∀ c : Dev Cert.ProductSqNtBIdeal.nD,
      m' ((c.tc : Thread Cert.RefSqNtBIdeal.nD Cert.RefSqNtBIdeal.τ).loc Cert.RefSqNtBIdeal.main_arg0) = m ((c.tc : Thread Cert.ProductSqNtBIdeal.nD Cert.ProductSqNtBIdeal.τ).loc Cert.ProductSqNtBIdeal.main_arg0)
      ∧ m' ((c.tc : Thread Cert.RefSqNtBIdeal.nD Cert.RefSqNtBIdeal.τ).loc Cert.RefSqNtBIdeal.main_arg1) = m ((c.tc : Thread Cert.ProductSqNtBIdeal.nD Cert.ProductSqNtBIdeal.τ).loc Cert.ProductSqNtBIdeal.main_arg1)) →
    ∃ (v0 : (c : Dev Cert.ProductSqNtBIdeal.nD) → Buf (Elt Ideal) ((c.tc : Thread Cert.ProductSqNtBIdeal.nD Cert.ProductSqNtBIdeal.τ).loc Cert.ProductSqNtBIdeal.main_v0)),
      θ_run (Cert.ProductSqNtBIdeal.defs (F := Ideal)) (onTc (τ := Cert.ProductSqNtBIdeal.τ) (Cert.ProductSqNtBIdeal.main (F := Ideal))) ⟨m, fun _ => 0, g⟩ (fun r => ∀ c : Dev Cert.ProductSqNtBIdeal.nD,
          r.2.mem ((c.tc : Thread Cert.ProductSqNtBIdeal.nD Cert.ProductSqNtBIdeal.τ).loc Cert.ProductSqNtBIdeal.main_v0) = v0 c
          ∧ r.2.mem ((c.tc : Thread Cert.ProductSqNtBIdeal.nD Cert.ProductSqNtBIdeal.τ).loc Cert.ProductSqNtBIdeal.main_arg0) = m ((c.tc : Thread Cert.ProductSqNtBIdeal.nD Cert.ProductSqNtBIdeal.τ).loc Cert.ProductSqNtBIdeal.main_arg0)
          ∧ r.2.mem ((c.tc : Thread Cert.ProductSqNtBIdeal.nD Cert.ProductSqNtBIdeal.τ).loc Cert.ProductSqNtBIdeal.main_arg1) = m ((c.tc : Thread Cert.ProductSqNtBIdeal.nD Cert.ProductSqNtBIdeal.τ).loc Cert.ProductSqNtBIdeal.main_arg1))
      ∧ θ_run (Cert.RefSqNtBIdeal.defs (F := Ideal)) (onTc (τ := Cert.RefSqNtBIdeal.τ) (Cert.RefSqNtBIdeal.main (F := Ideal))) ⟨m', fun _ => 0, g'⟩ (fun r => ∀ c : Dev Cert.RefSqNtBIdeal.nD,
          r.2.mem ((c.tc : Thread Cert.RefSqNtBIdeal.nD Cert.RefSqNtBIdeal.τ).loc Cert.RefSqNtBIdeal.main_v5) = v0 c
          ∧ r.2.mem ((c.tc : Thread Cert.RefSqNtBIdeal.nD Cert.RefSqNtBIdeal.τ).loc Cert.RefSqNtBIdeal.main_arg0) = m' ((c.tc : Thread Cert.RefSqNtBIdeal.nD Cert.RefSqNtBIdeal.τ).loc Cert.RefSqNtBIdeal.main_arg0)
          ∧ r.2.mem ((c.tc : Thread Cert.RefSqNtBIdeal.nD Cert.RefSqNtBIdeal.τ).loc Cert.RefSqNtBIdeal.main_arg1) = m' ((c.tc : Thread Cert.RefSqNtBIdeal.nD Cert.RefSqNtBIdeal.τ).loc Cert.RefSqNtBIdeal.main_arg1))

def preserves_ProductSqTn_ProductSqTnIdeal : Prop :=
  True

def algebraic_ProductSqTnIdeal_RefSqTnIdeal [hProductSqTnIdeal : Cert.ProductSqTnIdeal.Facts] [hRefSqTnIdeal : Cert.RefSqTnIdeal.Facts] : Prop :=
  ∀ (m : (ℓ : Loc Cert.ProductSqTnIdeal.nD Cert.ProductSqTnIdeal.τ Cert.ProductSqTnIdeal.sig) → Buf (Elt Ideal) ℓ) (g : Dev Cert.ProductSqTnIdeal.nD → PrngReg)
    (m' : (ℓ : Loc Cert.RefSqTnIdeal.nD Cert.RefSqTnIdeal.τ Cert.RefSqTnIdeal.sig) → Buf (Elt Ideal) ℓ) (g' : Dev Cert.RefSqTnIdeal.nD → PrngReg), Pre_ProductSqTnIdeal m →
    (∀ c : Dev Cert.ProductSqTnIdeal.nD,
      m' ((c.tc : Thread Cert.RefSqTnIdeal.nD Cert.RefSqTnIdeal.τ).loc Cert.RefSqTnIdeal.main_arg0) = m ((c.tc : Thread Cert.ProductSqTnIdeal.nD Cert.ProductSqTnIdeal.τ).loc Cert.ProductSqTnIdeal.main_arg0)
      ∧ m' ((c.tc : Thread Cert.RefSqTnIdeal.nD Cert.RefSqTnIdeal.τ).loc Cert.RefSqTnIdeal.main_arg1) = m ((c.tc : Thread Cert.ProductSqTnIdeal.nD Cert.ProductSqTnIdeal.τ).loc Cert.ProductSqTnIdeal.main_arg1)) →
    ∃ (v0 : (c : Dev Cert.ProductSqTnIdeal.nD) → Buf (Elt Ideal) ((c.tc : Thread Cert.ProductSqTnIdeal.nD Cert.ProductSqTnIdeal.τ).loc Cert.ProductSqTnIdeal.main_v0)),
      θ_run (Cert.ProductSqTnIdeal.defs (F := Ideal)) (onTc (τ := Cert.ProductSqTnIdeal.τ) (Cert.ProductSqTnIdeal.main (F := Ideal))) ⟨m, fun _ => 0, g⟩ (fun r => ∀ c : Dev Cert.ProductSqTnIdeal.nD,
          r.2.mem ((c.tc : Thread Cert.ProductSqTnIdeal.nD Cert.ProductSqTnIdeal.τ).loc Cert.ProductSqTnIdeal.main_v0) = v0 c
          ∧ r.2.mem ((c.tc : Thread Cert.ProductSqTnIdeal.nD Cert.ProductSqTnIdeal.τ).loc Cert.ProductSqTnIdeal.main_arg0) = m ((c.tc : Thread Cert.ProductSqTnIdeal.nD Cert.ProductSqTnIdeal.τ).loc Cert.ProductSqTnIdeal.main_arg0)
          ∧ r.2.mem ((c.tc : Thread Cert.ProductSqTnIdeal.nD Cert.ProductSqTnIdeal.τ).loc Cert.ProductSqTnIdeal.main_arg1) = m ((c.tc : Thread Cert.ProductSqTnIdeal.nD Cert.ProductSqTnIdeal.τ).loc Cert.ProductSqTnIdeal.main_arg1))
      ∧ θ_run (Cert.RefSqTnIdeal.defs (F := Ideal)) (onTc (τ := Cert.RefSqTnIdeal.τ) (Cert.RefSqTnIdeal.main (F := Ideal))) ⟨m', fun _ => 0, g'⟩ (fun r => ∀ c : Dev Cert.RefSqTnIdeal.nD,
          r.2.mem ((c.tc : Thread Cert.RefSqTnIdeal.nD Cert.RefSqTnIdeal.τ).loc Cert.RefSqTnIdeal.main_v6) = v0 c
          ∧ r.2.mem ((c.tc : Thread Cert.RefSqTnIdeal.nD Cert.RefSqTnIdeal.τ).loc Cert.RefSqTnIdeal.main_arg0) = m' ((c.tc : Thread Cert.RefSqTnIdeal.nD Cert.RefSqTnIdeal.τ).loc Cert.RefSqTnIdeal.main_arg0)
          ∧ r.2.mem ((c.tc : Thread Cert.RefSqTnIdeal.nD Cert.RefSqTnIdeal.τ).loc Cert.RefSqTnIdeal.main_arg1) = m' ((c.tc : Thread Cert.RefSqTnIdeal.nD Cert.RefSqTnIdeal.τ).loc Cert.RefSqTnIdeal.main_arg1))

def preserves_ProductSqNn_ProductSqNnIdeal : Prop :=
  True

def algebraic_ProductSqNnIdeal_RefSqNnIdeal [hProductSqNnIdeal : Cert.ProductSqNnIdeal.Facts] [hRefSqNnIdeal : Cert.RefSqNnIdeal.Facts] : Prop :=
  ∀ (m : (ℓ : Loc Cert.ProductSqNnIdeal.nD Cert.ProductSqNnIdeal.τ Cert.ProductSqNnIdeal.sig) → Buf (Elt Ideal) ℓ) (g : Dev Cert.ProductSqNnIdeal.nD → PrngReg)
    (m' : (ℓ : Loc Cert.RefSqNnIdeal.nD Cert.RefSqNnIdeal.τ Cert.RefSqNnIdeal.sig) → Buf (Elt Ideal) ℓ) (g' : Dev Cert.RefSqNnIdeal.nD → PrngReg), Pre_ProductSqNnIdeal m →
    (∀ c : Dev Cert.ProductSqNnIdeal.nD,
      m' ((c.tc : Thread Cert.RefSqNnIdeal.nD Cert.RefSqNnIdeal.τ).loc Cert.RefSqNnIdeal.main_arg0) = m ((c.tc : Thread Cert.ProductSqNnIdeal.nD Cert.ProductSqNnIdeal.τ).loc Cert.ProductSqNnIdeal.main_arg0)
      ∧ m' ((c.tc : Thread Cert.RefSqNnIdeal.nD Cert.RefSqNnIdeal.τ).loc Cert.RefSqNnIdeal.main_arg1) = m ((c.tc : Thread Cert.ProductSqNnIdeal.nD Cert.ProductSqNnIdeal.τ).loc Cert.ProductSqNnIdeal.main_arg1)) →
    ∃ (v0 : (c : Dev Cert.ProductSqNnIdeal.nD) → Buf (Elt Ideal) ((c.tc : Thread Cert.ProductSqNnIdeal.nD Cert.ProductSqNnIdeal.τ).loc Cert.ProductSqNnIdeal.main_v0)),
      θ_run (Cert.ProductSqNnIdeal.defs (F := Ideal)) (onTc (τ := Cert.ProductSqNnIdeal.τ) (Cert.ProductSqNnIdeal.main (F := Ideal))) ⟨m, fun _ => 0, g⟩ (fun r => ∀ c : Dev Cert.ProductSqNnIdeal.nD,
          r.2.mem ((c.tc : Thread Cert.ProductSqNnIdeal.nD Cert.ProductSqNnIdeal.τ).loc Cert.ProductSqNnIdeal.main_v0) = v0 c
          ∧ r.2.mem ((c.tc : Thread Cert.ProductSqNnIdeal.nD Cert.ProductSqNnIdeal.τ).loc Cert.ProductSqNnIdeal.main_arg0) = m ((c.tc : Thread Cert.ProductSqNnIdeal.nD Cert.ProductSqNnIdeal.τ).loc Cert.ProductSqNnIdeal.main_arg0)
          ∧ r.2.mem ((c.tc : Thread Cert.ProductSqNnIdeal.nD Cert.ProductSqNnIdeal.τ).loc Cert.ProductSqNnIdeal.main_arg1) = m ((c.tc : Thread Cert.ProductSqNnIdeal.nD Cert.ProductSqNnIdeal.τ).loc Cert.ProductSqNnIdeal.main_arg1))
      ∧ θ_run (Cert.RefSqNnIdeal.defs (F := Ideal)) (onTc (τ := Cert.RefSqNnIdeal.τ) (Cert.RefSqNnIdeal.main (F := Ideal))) ⟨m', fun _ => 0, g'⟩ (fun r => ∀ c : Dev Cert.RefSqNnIdeal.nD,
          r.2.mem ((c.tc : Thread Cert.RefSqNnIdeal.nD Cert.RefSqNnIdeal.τ).loc Cert.RefSqNnIdeal.main_v2) = v0 c
          ∧ r.2.mem ((c.tc : Thread Cert.RefSqNnIdeal.nD Cert.RefSqNnIdeal.τ).loc Cert.RefSqNnIdeal.main_arg0) = m' ((c.tc : Thread Cert.RefSqNnIdeal.nD Cert.RefSqNnIdeal.τ).loc Cert.RefSqNnIdeal.main_arg0)
          ∧ r.2.mem ((c.tc : Thread Cert.RefSqNnIdeal.nD Cert.RefSqNnIdeal.τ).loc Cert.RefSqNnIdeal.main_arg1) = m' ((c.tc : Thread Cert.RefSqNnIdeal.nD Cert.RefSqNnIdeal.τ).loc Cert.RefSqNnIdeal.main_arg1))

def preserves_ProductSqNnB_ProductSqNnBIdeal : Prop :=
  True

def algebraic_ProductSqNnBIdeal_RefSqNnBIdeal [hProductSqNnBIdeal : Cert.ProductSqNnBIdeal.Facts] [hRefSqNnBIdeal : Cert.RefSqNnBIdeal.Facts] : Prop :=
  ∀ (m : (ℓ : Loc Cert.ProductSqNnBIdeal.nD Cert.ProductSqNnBIdeal.τ Cert.ProductSqNnBIdeal.sig) → Buf (Elt Ideal) ℓ) (g : Dev Cert.ProductSqNnBIdeal.nD → PrngReg)
    (m' : (ℓ : Loc Cert.RefSqNnBIdeal.nD Cert.RefSqNnBIdeal.τ Cert.RefSqNnBIdeal.sig) → Buf (Elt Ideal) ℓ) (g' : Dev Cert.RefSqNnBIdeal.nD → PrngReg), Pre_ProductSqNnBIdeal m →
    (∀ c : Dev Cert.ProductSqNnBIdeal.nD,
      m' ((c.tc : Thread Cert.RefSqNnBIdeal.nD Cert.RefSqNnBIdeal.τ).loc Cert.RefSqNnBIdeal.main_arg0) = m ((c.tc : Thread Cert.ProductSqNnBIdeal.nD Cert.ProductSqNnBIdeal.τ).loc Cert.ProductSqNnBIdeal.main_arg0)
      ∧ m' ((c.tc : Thread Cert.RefSqNnBIdeal.nD Cert.RefSqNnBIdeal.τ).loc Cert.RefSqNnBIdeal.main_arg1) = m ((c.tc : Thread Cert.ProductSqNnBIdeal.nD Cert.ProductSqNnBIdeal.τ).loc Cert.ProductSqNnBIdeal.main_arg1)) →
    ∃ (v0 : (c : Dev Cert.ProductSqNnBIdeal.nD) → Buf (Elt Ideal) ((c.tc : Thread Cert.ProductSqNnBIdeal.nD Cert.ProductSqNnBIdeal.τ).loc Cert.ProductSqNnBIdeal.main_v0)),
      θ_run (Cert.ProductSqNnBIdeal.defs (F := Ideal)) (onTc (τ := Cert.ProductSqNnBIdeal.τ) (Cert.ProductSqNnBIdeal.main (F := Ideal))) ⟨m, fun _ => 0, g⟩ (fun r => ∀ c : Dev Cert.ProductSqNnBIdeal.nD,
          r.2.mem ((c.tc : Thread Cert.ProductSqNnBIdeal.nD Cert.ProductSqNnBIdeal.τ).loc Cert.ProductSqNnBIdeal.main_v0) = v0 c
          ∧ r.2.mem ((c.tc : Thread Cert.ProductSqNnBIdeal.nD Cert.ProductSqNnBIdeal.τ).loc Cert.ProductSqNnBIdeal.main_arg0) = m ((c.tc : Thread Cert.ProductSqNnBIdeal.nD Cert.ProductSqNnBIdeal.τ).loc Cert.ProductSqNnBIdeal.main_arg0)
          ∧ r.2.mem ((c.tc : Thread Cert.ProductSqNnBIdeal.nD Cert.ProductSqNnBIdeal.τ).loc Cert.ProductSqNnBIdeal.main_arg1) = m ((c.tc : Thread Cert.ProductSqNnBIdeal.nD Cert.ProductSqNnBIdeal.τ).loc Cert.ProductSqNnBIdeal.main_arg1))
      ∧ θ_run (Cert.RefSqNnBIdeal.defs (F := Ideal)) (onTc (τ := Cert.RefSqNnBIdeal.τ) (Cert.RefSqNnBIdeal.main (F := Ideal))) ⟨m', fun _ => 0, g'⟩ (fun r => ∀ c : Dev Cert.RefSqNnBIdeal.nD,
          r.2.mem ((c.tc : Thread Cert.RefSqNnBIdeal.nD Cert.RefSqNnBIdeal.τ).loc Cert.RefSqNnBIdeal.main_v3) = v0 c
          ∧ r.2.mem ((c.tc : Thread Cert.RefSqNnBIdeal.nD Cert.RefSqNnBIdeal.τ).loc Cert.RefSqNnBIdeal.main_arg0) = m' ((c.tc : Thread Cert.RefSqNnBIdeal.nD Cert.RefSqNnBIdeal.τ).loc Cert.RefSqNnBIdeal.main_arg0)
          ∧ r.2.mem ((c.tc : Thread Cert.RefSqNnBIdeal.nD Cert.RefSqNnBIdeal.τ).loc Cert.RefSqNnBIdeal.main_arg1) = m' ((c.tc : Thread Cert.RefSqNnBIdeal.nD Cert.RefSqNnBIdeal.τ).loc Cert.RefSqNnBIdeal.main_arg1))

def preserves_AdamwIn_AdamwInIdeal : Prop :=
  True

def algebraic_AdamwInIdeal_RefAdamwInIdeal [hAdamwInIdeal : Cert.AdamwInIdeal.Facts] [hRefAdamwInIdeal : Cert.RefAdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.RefAdamwInIdeal.nD Cert.RefAdamwInIdeal.τ Cert.RefAdamwInIdeal.sig) → Buf (Elt Ideal) ℓ) (g' : Dev Cert.RefAdamwInIdeal.nD → PrngReg), Pre_AdamwInIdeal m →
    (∀ c : Dev Cert.AdamwInIdeal.nD,
      m' ((c.tc : Thread Cert.RefAdamwInIdeal.nD Cert.RefAdamwInIdeal.τ).loc Cert.RefAdamwInIdeal.main_arg0) = m ((c.tc : Thread Cert.AdamwInIdeal.nD Cert.AdamwInIdeal.τ).loc Cert.AdamwInIdeal.main_arg0)
      ∧ m' ((c.tc : Thread Cert.RefAdamwInIdeal.nD Cert.RefAdamwInIdeal.τ).loc Cert.RefAdamwInIdeal.main_arg1) = m ((c.tc : Thread Cert.AdamwInIdeal.nD Cert.AdamwInIdeal.τ).loc Cert.AdamwInIdeal.main_arg1)
      ∧ m' ((c.tc : Thread Cert.RefAdamwInIdeal.nD Cert.RefAdamwInIdeal.τ).loc Cert.RefAdamwInIdeal.main_arg2) = m ((c.tc : Thread Cert.AdamwInIdeal.nD Cert.AdamwInIdeal.τ).loc Cert.AdamwInIdeal.main_arg2)
      ∧ m' ((c.tc : Thread Cert.RefAdamwInIdeal.nD Cert.RefAdamwInIdeal.τ).loc Cert.RefAdamwInIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.RefAdamwInIdeal.defs (F := Ideal)) (onTc (τ := Cert.RefAdamwInIdeal.τ) (Cert.RefAdamwInIdeal.main (F := Ideal))) ⟨m', fun _ => 0, g'⟩ (fun r => ∀ c : Dev Cert.RefAdamwInIdeal.nD,
          r.2.mem ((c.tc : Thread Cert.RefAdamwInIdeal.nD Cert.RefAdamwInIdeal.τ).loc Cert.RefAdamwInIdeal.main_v1) = v0 c
          ∧ r.2.mem ((c.tc : Thread Cert.RefAdamwInIdeal.nD Cert.RefAdamwInIdeal.τ).loc Cert.RefAdamwInIdeal.main_v25) = v1 c
          ∧ r.2.mem ((c.tc : Thread Cert.RefAdamwInIdeal.nD Cert.RefAdamwInIdeal.τ).loc Cert.RefAdamwInIdeal.main_v6) = v2 c
          ∧ r.2.mem ((c.tc : Thread Cert.RefAdamwInIdeal.nD Cert.RefAdamwInIdeal.τ).loc Cert.RefAdamwInIdeal.main_v12) = v3 c
          ∧ r.2.mem ((c.tc : Thread Cert.RefAdamwInIdeal.nD Cert.RefAdamwInIdeal.τ).loc Cert.RefAdamwInIdeal.main_arg0) = m' ((c.tc : Thread Cert.RefAdamwInIdeal.nD Cert.RefAdamwInIdeal.τ).loc Cert.RefAdamwInIdeal.main_arg0)
          ∧ r.2.mem ((c.tc : Thread Cert.RefAdamwInIdeal.nD Cert.RefAdamwInIdeal.τ).loc Cert.RefAdamwInIdeal.main_arg1) = m' ((c.tc : Thread Cert.RefAdamwInIdeal.nD Cert.RefAdamwInIdeal.τ).loc Cert.RefAdamwInIdeal.main_arg1)
          ∧ r.2.mem ((c.tc : Thread Cert.RefAdamwInIdeal.nD Cert.RefAdamwInIdeal.τ).loc Cert.RefAdamwInIdeal.main_arg2) = m' ((c.tc : Thread Cert.RefAdamwInIdeal.nD Cert.RefAdamwInIdeal.τ).loc Cert.RefAdamwInIdeal.main_arg2)
          ∧ r.2.mem ((c.tc : Thread Cert.RefAdamwInIdeal.nD Cert.RefAdamwInIdeal.τ).loc Cert.RefAdamwInIdeal.main_arg3) = m' ((c.tc : Thread Cert.RefAdamwInIdeal.nD Cert.RefAdamwInIdeal.τ).loc Cert.RefAdamwInIdeal.main_arg3))

def preserves_AdamwUp_AdamwUpIdeal : Prop :=
  True

def algebraic_AdamwUpIdeal_RefAdamwUpIdeal [hAdamwUpIdeal : Cert.AdamwUpIdeal.Facts] [hRefAdamwUpIdeal : Cert.RefAdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.RefAdamwUpIdeal.nD Cert.RefAdamwUpIdeal.τ Cert.RefAdamwUpIdeal.sig) → Buf (Elt Ideal) ℓ) (g' : Dev Cert.RefAdamwUpIdeal.nD → PrngReg), Pre_AdamwUpIdeal m →
    (∀ c : Dev Cert.AdamwUpIdeal.nD,
      m' ((c.tc : Thread Cert.RefAdamwUpIdeal.nD Cert.RefAdamwUpIdeal.τ).loc Cert.RefAdamwUpIdeal.main_arg0) = m ((c.tc : Thread Cert.AdamwUpIdeal.nD Cert.AdamwUpIdeal.τ).loc Cert.AdamwUpIdeal.main_arg0)
      ∧ m' ((c.tc : Thread Cert.RefAdamwUpIdeal.nD Cert.RefAdamwUpIdeal.τ).loc Cert.RefAdamwUpIdeal.main_arg1) = m ((c.tc : Thread Cert.AdamwUpIdeal.nD Cert.AdamwUpIdeal.τ).loc Cert.AdamwUpIdeal.main_arg1)
      ∧ m' ((c.tc : Thread Cert.RefAdamwUpIdeal.nD Cert.RefAdamwUpIdeal.τ).loc Cert.RefAdamwUpIdeal.main_arg2) = m ((c.tc : Thread Cert.AdamwUpIdeal.nD Cert.AdamwUpIdeal.τ).loc Cert.AdamwUpIdeal.main_arg2)
      ∧ m' ((c.tc : Thread Cert.RefAdamwUpIdeal.nD Cert.RefAdamwUpIdeal.τ).loc Cert.RefAdamwUpIdeal.main_arg3) = m ((c.tc : Thread Cert.AdamwUpIdeal.nD Cert.AdamwUpIdeal.τ).loc Cert.AdamwUpIdeal.main_arg3)) →
    ∃ (v0 : (c : Dev Cert.AdamwUpIdeal.nD) → Buf (Elt Ideal) ((c.tc : Thread Cert.AdamwUpIdeal.nD Cert.AdamwUpIdeal.τ).loc Cert.AdamwUpIdeal.main_v0_0)) (v1 : (c : Dev Cert.AdamwUpIdeal.nD) → Buf (Elt Ideal) ((c.tc : Thread Cert.AdamwUpIdeal.nD Cert.AdamwUpIdeal.τ).loc Cert.AdamwUpIdeal.main_v0_1)) (v2 : (c : Dev Cert.AdamwUpIdeal.nD) → Buf (Elt Ideal) ((c.tc : Thread Cert.AdamwUpIdeal.nD Cert.AdamwUpIdeal.τ).loc Cert.AdamwUpIdeal.main_v0_2)) (v3 : (c : Dev Cert.AdamwUpIdeal.nD) → Buf (Elt Ideal) ((c.tc : Thread Cert.AdamwUpIdeal.nD Cert.AdamwUpIdeal.τ).loc Cert.AdamwUpIdeal.main_v0_3)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v0_0) = v0 c
          ∧ r.2.mem ((c.tc : Thread Cert.AdamwUpIdeal.nD Cert.AdamwUpIdeal.τ).loc Cert.AdamwUpIdeal.main_v0_1) = v1 c
          ∧ r.2.mem ((c.tc : Thread Cert.AdamwUpIdeal.nD Cert.AdamwUpIdeal.τ).loc Cert.AdamwUpIdeal.main_v0_2) = v2 c
          ∧ r.2.mem ((c.tc : Thread Cert.AdamwUpIdeal.nD Cert.AdamwUpIdeal.τ).loc Cert.AdamwUpIdeal.main_v0_3) = v3 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ θ_run (Cert.RefAdamwUpIdeal.defs (F := Ideal)) (onTc (τ := Cert.RefAdamwUpIdeal.τ) (Cert.RefAdamwUpIdeal.main (F := Ideal))) ⟨m', fun _ => 0, g'⟩ (fun r => ∀ c : Dev Cert.RefAdamwUpIdeal.nD,
          r.2.mem ((c.tc : Thread Cert.RefAdamwUpIdeal.nD Cert.RefAdamwUpIdeal.τ).loc Cert.RefAdamwUpIdeal.main_v1) = v0 c
          ∧ r.2.mem ((c.tc : Thread Cert.RefAdamwUpIdeal.nD Cert.RefAdamwUpIdeal.τ).loc Cert.RefAdamwUpIdeal.main_v25) = v1 c
          ∧ r.2.mem ((c.tc : Thread Cert.RefAdamwUpIdeal.nD Cert.RefAdamwUpIdeal.τ).loc Cert.RefAdamwUpIdeal.main_v6) = v2 c
          ∧ r.2.mem ((c.tc : Thread Cert.RefAdamwUpIdeal.nD Cert.RefAdamwUpIdeal.τ).loc Cert.RefAdamwUpIdeal.main_v12) = v3 c
          ∧ r.2.mem ((c.tc : Thread Cert.RefAdamwUpIdeal.nD Cert.RefAdamwUpIdeal.τ).loc Cert.RefAdamwUpIdeal.main_arg0) = m' ((c.tc : Thread Cert.RefAdamwUpIdeal.nD Cert.RefAdamwUpIdeal.τ).loc Cert.RefAdamwUpIdeal.main_arg0)
          ∧ r.2.mem ((c.tc : Thread Cert.RefAdamwUpIdeal.nD Cert.RefAdamwUpIdeal.τ).loc Cert.RefAdamwUpIdeal.main_arg1) = m' ((c.tc : Thread Cert.RefAdamwUpIdeal.nD Cert.RefAdamwUpIdeal.τ).loc Cert.RefAdamwUpIdeal.main_arg1)
          ∧ r.2.mem ((c.tc : Thread Cert.RefAdamwUpIdeal.nD Cert.RefAdamwUpIdeal.τ).loc Cert.RefAdamwUpIdeal.main_arg2) = m' ((c.tc : Thread Cert.RefAdamwUpIdeal.nD Cert.RefAdamwUpIdeal.τ).loc Cert.RefAdamwUpIdeal.main_arg2)
          ∧ r.2.mem ((c.tc : Thread Cert.RefAdamwUpIdeal.nD Cert.RefAdamwUpIdeal.τ).loc Cert.RefAdamwUpIdeal.main_arg3) = m' ((c.tc : Thread Cert.RefAdamwUpIdeal.nD Cert.RefAdamwUpIdeal.τ).loc Cert.RefAdamwUpIdeal.main_arg3))

def preserves_AdamwPw_AdamwPwIdeal : Prop :=
  True

def algebraic_AdamwPwIdeal_RefAdamwPwIdeal [hAdamwPwIdeal : Cert.AdamwPwIdeal.Facts] [hRefAdamwPwIdeal : Cert.RefAdamwPwIdeal.Facts] : Prop :=
  ∀ (m : (ℓ : Loc Cert.AdamwPwIdeal.nD Cert.AdamwPwIdeal.τ Cert.AdamwPwIdeal.sig) → Buf (Elt Ideal) ℓ) (g : Dev Cert.AdamwPwIdeal.nD → PrngReg)
    (m' : (ℓ : Loc Cert.RefAdamwPwIdeal.nD Cert.RefAdamwPwIdeal.τ Cert.RefAdamwPwIdeal.sig) → Buf (Elt Ideal) ℓ) (g' : Dev Cert.RefAdamwPwIdeal.nD → PrngReg), Pre_AdamwPwIdeal m →
    (∀ c : Dev Cert.AdamwPwIdeal.nD,
      m' ((c.tc : Thread Cert.RefAdamwPwIdeal.nD Cert.RefAdamwPwIdeal.τ).loc Cert.RefAdamwPwIdeal.main_arg0) = m ((c.tc : Thread Cert.AdamwPwIdeal.nD Cert.AdamwPwIdeal.τ).loc Cert.AdamwPwIdeal.main_arg0)
      ∧ m' ((c.tc : Thread Cert.RefAdamwPwIdeal.nD Cert.RefAdamwPwIdeal.τ).loc Cert.RefAdamwPwIdeal.main_arg1) = m ((c.tc : Thread Cert.AdamwPwIdeal.nD Cert.AdamwPwIdeal.τ).loc Cert.AdamwPwIdeal.main_arg1)
      ∧ m' ((c.tc : Thread Cert.RefAdamwPwIdeal.nD Cert.RefAdamwPwIdeal.τ).loc Cert.RefAdamwPwIdeal.main_arg2) = m ((c.tc : Thread Cert.AdamwPwIdeal.nD Cert.AdamwPwIdeal.τ).loc Cert.AdamwPwIdeal.main_arg2)
      ∧ m' ((c.tc : Thread Cert.RefAdamwPwIdeal.nD Cert.RefAdamwPwIdeal.τ).loc Cert.RefAdamwPwIdeal.main_arg3) = m ((c.tc : Thread Cert.AdamwPwIdeal.nD Cert.AdamwPwIdeal.τ).loc Cert.AdamwPwIdeal.main_arg3)) →
    ∃ (v0 : (c : Dev Cert.AdamwPwIdeal.nD) → Buf (Elt Ideal) ((c.tc : Thread Cert.AdamwPwIdeal.nD Cert.AdamwPwIdeal.τ).loc Cert.AdamwPwIdeal.main_v0_0)) (v1 : (c : Dev Cert.AdamwPwIdeal.nD) → Buf (Elt Ideal) ((c.tc : Thread Cert.AdamwPwIdeal.nD Cert.AdamwPwIdeal.τ).loc Cert.AdamwPwIdeal.main_v0_1)) (v2 : (c : Dev Cert.AdamwPwIdeal.nD) → Buf (Elt Ideal) ((c.tc : Thread Cert.AdamwPwIdeal.nD Cert.AdamwPwIdeal.τ).loc Cert.AdamwPwIdeal.main_v0_2)) (v3 : (c : Dev Cert.AdamwPwIdeal.nD) → Buf (Elt Ideal) ((c.tc : Thread Cert.AdamwPwIdeal.nD Cert.AdamwPwIdeal.τ).loc Cert.AdamwPwIdeal.main_v0_3)),
      θ_run (Cert.AdamwPwIdeal.defs (F := Ideal)) (onTc (τ := Cert.AdamwPwIdeal.τ) (Cert.AdamwPwIdeal.main (F := Ideal))) ⟨m, fun _ => 0, g⟩ (fun r => ∀ c : Dev Cert.AdamwPwIdeal.nD,
          r.2.mem ((c.tc : Thread Cert.AdamwPwIdeal.nD Cert.AdamwPwIdeal.τ).loc Cert.AdamwPwIdeal.main_v0_0) = v0 c
          ∧ r.2.mem ((c.tc : Thread Cert.AdamwPwIdeal.nD Cert.AdamwPwIdeal.τ).loc Cert.AdamwPwIdeal.main_v0_1) = v1 c
          ∧ r.2.mem ((c.tc : Thread Cert.AdamwPwIdeal.nD Cert.AdamwPwIdeal.τ).loc Cert.AdamwPwIdeal.main_v0_2) = v2 c
          ∧ r.2.mem ((c.tc : Thread Cert.AdamwPwIdeal.nD Cert.AdamwPwIdeal.τ).loc Cert.AdamwPwIdeal.main_v0_3) = v3 c
          ∧ r.2.mem ((c.tc : Thread Cert.AdamwPwIdeal.nD Cert.AdamwPwIdeal.τ).loc Cert.AdamwPwIdeal.main_arg0) = m ((c.tc : Thread Cert.AdamwPwIdeal.nD Cert.AdamwPwIdeal.τ).loc Cert.AdamwPwIdeal.main_arg0)
          ∧ r.2.mem ((c.tc : Thread Cert.AdamwPwIdeal.nD Cert.AdamwPwIdeal.τ).loc Cert.AdamwPwIdeal.main_arg1) = m ((c.tc : Thread Cert.AdamwPwIdeal.nD Cert.AdamwPwIdeal.τ).loc Cert.AdamwPwIdeal.main_arg1)
          ∧ r.2.mem ((c.tc : Thread Cert.AdamwPwIdeal.nD Cert.AdamwPwIdeal.τ).loc Cert.AdamwPwIdeal.main_arg2) = m ((c.tc : Thread Cert.AdamwPwIdeal.nD Cert.AdamwPwIdeal.τ).loc Cert.AdamwPwIdeal.main_arg2)
          ∧ r.2.mem ((c.tc : Thread Cert.AdamwPwIdeal.nD Cert.AdamwPwIdeal.τ).loc Cert.AdamwPwIdeal.main_arg3) = m ((c.tc : Thread Cert.AdamwPwIdeal.nD Cert.AdamwPwIdeal.τ).loc Cert.AdamwPwIdeal.main_arg3))
      ∧ θ_run (Cert.RefAdamwPwIdeal.defs (F := Ideal)) (onTc (τ := Cert.RefAdamwPwIdeal.τ) (Cert.RefAdamwPwIdeal.main (F := Ideal))) ⟨m', fun _ => 0, g'⟩ (fun r => ∀ c : Dev Cert.RefAdamwPwIdeal.nD,
          r.2.mem ((c.tc : Thread Cert.RefAdamwPwIdeal.nD Cert.RefAdamwPwIdeal.τ).loc Cert.RefAdamwPwIdeal.main_v1) = v0 c
          ∧ r.2.mem ((c.tc : Thread Cert.RefAdamwPwIdeal.nD Cert.RefAdamwPwIdeal.τ).loc Cert.RefAdamwPwIdeal.main_v25) = v1 c
          ∧ r.2.mem ((c.tc : Thread Cert.RefAdamwPwIdeal.nD Cert.RefAdamwPwIdeal.τ).loc Cert.RefAdamwPwIdeal.main_v6) = v2 c
          ∧ r.2.mem ((c.tc : Thread Cert.RefAdamwPwIdeal.nD Cert.RefAdamwPwIdeal.τ).loc Cert.RefAdamwPwIdeal.main_v12) = v3 c
          ∧ r.2.mem ((c.tc : Thread Cert.RefAdamwPwIdeal.nD Cert.RefAdamwPwIdeal.τ).loc Cert.RefAdamwPwIdeal.main_arg0) = m' ((c.tc : Thread Cert.RefAdamwPwIdeal.nD Cert.RefAdamwPwIdeal.τ).loc Cert.RefAdamwPwIdeal.main_arg0)
          ∧ r.2.mem ((c.tc : Thread Cert.RefAdamwPwIdeal.nD Cert.RefAdamwPwIdeal.τ).loc Cert.RefAdamwPwIdeal.main_arg1) = m' ((c.tc : Thread Cert.RefAdamwPwIdeal.nD Cert.RefAdamwPwIdeal.τ).loc Cert.RefAdamwPwIdeal.main_arg1)
          ∧ r.2.mem ((c.tc : Thread Cert.RefAdamwPwIdeal.nD Cert.RefAdamwPwIdeal.τ).loc Cert.RefAdamwPwIdeal.main_arg2) = m' ((c.tc : Thread Cert.RefAdamwPwIdeal.nD Cert.RefAdamwPwIdeal.τ).loc Cert.RefAdamwPwIdeal.main_arg2)
          ∧ r.2.mem ((c.tc : Thread Cert.RefAdamwPwIdeal.nD Cert.RefAdamwPwIdeal.τ).loc Cert.RefAdamwPwIdeal.main_arg3) = m' ((c.tc : Thread Cert.RefAdamwPwIdeal.nD Cert.RefAdamwPwIdeal.τ).loc Cert.RefAdamwPwIdeal.main_arg3))

def preserves_AdamwSmall_AdamwSmallIdeal : Prop :=
  True

def algebraic_AdamwSmallIdeal_RefAdamwSmallIdeal [hAdamwSmallIdeal : Cert.AdamwSmallIdeal.Facts] [hRefAdamwSmallIdeal : Cert.RefAdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.RefAdamwSmallIdeal.nD Cert.RefAdamwSmallIdeal.τ Cert.RefAdamwSmallIdeal.sig) → Buf (Elt Ideal) ℓ) (g' : Dev Cert.RefAdamwSmallIdeal.nD → PrngReg), Pre_AdamwSmallIdeal m →
    (∀ c : Dev Cert.AdamwSmallIdeal.nD,
      m' ((c.tc : Thread Cert.RefAdamwSmallIdeal.nD Cert.RefAdamwSmallIdeal.τ).loc Cert.RefAdamwSmallIdeal.main_arg0) = m ((c.tc : Thread Cert.AdamwSmallIdeal.nD Cert.AdamwSmallIdeal.τ).loc Cert.AdamwSmallIdeal.main_arg0)
      ∧ m' ((c.tc : Thread Cert.RefAdamwSmallIdeal.nD Cert.RefAdamwSmallIdeal.τ).loc Cert.RefAdamwSmallIdeal.main_arg1) = m ((c.tc : Thread Cert.AdamwSmallIdeal.nD Cert.AdamwSmallIdeal.τ).loc Cert.AdamwSmallIdeal.main_arg1)
      ∧ m' ((c.tc : Thread Cert.RefAdamwSmallIdeal.nD Cert.RefAdamwSmallIdeal.τ).loc Cert.RefAdamwSmallIdeal.main_arg2) = m ((c.tc : Thread Cert.AdamwSmallIdeal.nD Cert.AdamwSmallIdeal.τ).loc Cert.AdamwSmallIdeal.main_arg2)
      ∧ m' ((c.tc : Thread Cert.RefAdamwSmallIdeal.nD Cert.RefAdamwSmallIdeal.τ).loc Cert.RefAdamwSmallIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.RefAdamwSmallIdeal.defs (F := Ideal)) (onTc (τ := Cert.RefAdamwSmallIdeal.τ) (Cert.RefAdamwSmallIdeal.main (F := Ideal))) ⟨m', fun _ => 0, g'⟩ (fun r => ∀ c : Dev Cert.RefAdamwSmallIdeal.nD,
          r.2.mem ((c.tc : Thread Cert.RefAdamwSmallIdeal.nD Cert.RefAdamwSmallIdeal.τ).loc Cert.RefAdamwSmallIdeal.main_v0) = v0 c
          ∧ r.2.mem ((c.tc : Thread Cert.RefAdamwSmallIdeal.nD Cert.RefAdamwSmallIdeal.τ).loc Cert.RefAdamwSmallIdeal.main_v24) = v1 c
          ∧ r.2.mem ((c.tc : Thread Cert.RefAdamwSmallIdeal.nD Cert.RefAdamwSmallIdeal.τ).loc Cert.RefAdamwSmallIdeal.main_v5) = v2 c
          ∧ r.2.mem ((c.tc : Thread Cert.RefAdamwSmallIdeal.nD Cert.RefAdamwSmallIdeal.τ).loc Cert.RefAdamwSmallIdeal.main_v11) = v3 c
          ∧ r.2.mem ((c.tc : Thread Cert.RefAdamwSmallIdeal.nD Cert.RefAdamwSmallIdeal.τ).loc Cert.RefAdamwSmallIdeal.main_arg0) = m' ((c.tc : Thread Cert.RefAdamwSmallIdeal.nD Cert.RefAdamwSmallIdeal.τ).loc Cert.RefAdamwSmallIdeal.main_arg0)
          ∧ r.2.mem ((c.tc : Thread Cert.RefAdamwSmallIdeal.nD Cert.RefAdamwSmallIdeal.τ).loc Cert.RefAdamwSmallIdeal.main_arg1) = m' ((c.tc : Thread Cert.RefAdamwSmallIdeal.nD Cert.RefAdamwSmallIdeal.τ).loc Cert.RefAdamwSmallIdeal.main_arg1)
          ∧ r.2.mem ((c.tc : Thread Cert.RefAdamwSmallIdeal.nD Cert.RefAdamwSmallIdeal.τ).loc Cert.RefAdamwSmallIdeal.main_arg2) = m' ((c.tc : Thread Cert.RefAdamwSmallIdeal.nD Cert.RefAdamwSmallIdeal.τ).loc Cert.RefAdamwSmallIdeal.main_arg2)
          ∧ r.2.mem ((c.tc : Thread Cert.RefAdamwSmallIdeal.nD Cert.RefAdamwSmallIdeal.τ).loc Cert.RefAdamwSmallIdeal.main_arg3) = m' ((c.tc : Thread Cert.RefAdamwSmallIdeal.nD Cert.RefAdamwSmallIdeal.τ).loc Cert.RefAdamwSmallIdeal.main_arg3))

def preserves_AdamwOut_AdamwOutIdeal : Prop :=
  True

def algebraic_AdamwOutIdeal_RefAdamwOutIdeal [hAdamwOutIdeal : Cert.AdamwOutIdeal.Facts] [hRefAdamwOutIdeal : Cert.RefAdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.RefAdamwOutIdeal.nD Cert.RefAdamwOutIdeal.τ Cert.RefAdamwOutIdeal.sig) → Buf (Elt Ideal) ℓ) (g' : Dev Cert.RefAdamwOutIdeal.nD → PrngReg), Pre_AdamwOutIdeal m →
    (∀ c : Dev Cert.AdamwOutIdeal.nD,
      m' ((c.tc : Thread Cert.RefAdamwOutIdeal.nD Cert.RefAdamwOutIdeal.τ).loc Cert.RefAdamwOutIdeal.main_arg0) = m ((c.tc : Thread Cert.AdamwOutIdeal.nD Cert.AdamwOutIdeal.τ).loc Cert.AdamwOutIdeal.main_arg0)
      ∧ m' ((c.tc : Thread Cert.RefAdamwOutIdeal.nD Cert.RefAdamwOutIdeal.τ).loc Cert.RefAdamwOutIdeal.main_arg1) = m ((c.tc : Thread Cert.AdamwOutIdeal.nD Cert.AdamwOutIdeal.τ).loc Cert.AdamwOutIdeal.main_arg1)
      ∧ m' ((c.tc : Thread Cert.RefAdamwOutIdeal.nD Cert.RefAdamwOutIdeal.τ).loc Cert.RefAdamwOutIdeal.main_arg2) = m ((c.tc : Thread Cert.AdamwOutIdeal.nD Cert.AdamwOutIdeal.τ).loc Cert.AdamwOutIdeal.main_arg2)
      ∧ m' ((c.tc : Thread Cert.RefAdamwOutIdeal.nD Cert.RefAdamwOutIdeal.τ).loc Cert.RefAdamwOutIdeal.main_arg3) = m ((c.tc : Thread Cert.AdamwOutIdeal.nD Cert.AdamwOutIdeal.τ).loc Cert.AdamwOutIdeal.main_arg3)
      ∧ m' ((c.tc : Thread Cert.RefAdamwOutIdeal.nD Cert.RefAdamwOutIdeal.τ).loc Cert.RefAdamwOutIdeal.main_arg4) = m ((c.tc : Thread Cert.AdamwOutIdeal.nD Cert.AdamwOutIdeal.τ).loc Cert.AdamwOutIdeal.main_arg4)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
          ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4))
      ∧ θ_run (Cert.RefAdamwOutIdeal.defs (F := Ideal)) (onTc (τ := Cert.RefAdamwOutIdeal.τ) (Cert.RefAdamwOutIdeal.main (F := Ideal))) ⟨m', fun _ => 0, g'⟩ (fun r => ∀ c : Dev Cert.RefAdamwOutIdeal.nD,
          r.2.mem ((c.tc : Thread Cert.RefAdamwOutIdeal.nD Cert.RefAdamwOutIdeal.τ).loc Cert.RefAdamwOutIdeal.main_v4) = v0 c
          ∧ r.2.mem ((c.tc : Thread Cert.RefAdamwOutIdeal.nD Cert.RefAdamwOutIdeal.τ).loc Cert.RefAdamwOutIdeal.main_v28) = v1 c
          ∧ r.2.mem ((c.tc : Thread Cert.RefAdamwOutIdeal.nD Cert.RefAdamwOutIdeal.τ).loc Cert.RefAdamwOutIdeal.main_v9) = v2 c
          ∧ r.2.mem ((c.tc : Thread Cert.RefAdamwOutIdeal.nD Cert.RefAdamwOutIdeal.τ).loc Cert.RefAdamwOutIdeal.main_v15) = v3 c
          ∧ r.2.mem ((c.tc : Thread Cert.RefAdamwOutIdeal.nD Cert.RefAdamwOutIdeal.τ).loc Cert.RefAdamwOutIdeal.main_arg0) = m' ((c.tc : Thread Cert.RefAdamwOutIdeal.nD Cert.RefAdamwOutIdeal.τ).loc Cert.RefAdamwOutIdeal.main_arg0)
          ∧ r.2.mem ((c.tc : Thread Cert.RefAdamwOutIdeal.nD Cert.RefAdamwOutIdeal.τ).loc Cert.RefAdamwOutIdeal.main_arg1) = m' ((c.tc : Thread Cert.RefAdamwOutIdeal.nD Cert.RefAdamwOutIdeal.τ).loc Cert.RefAdamwOutIdeal.main_arg1)
          ∧ r.2.mem ((c.tc : Thread Cert.RefAdamwOutIdeal.nD Cert.RefAdamwOutIdeal.τ).loc Cert.RefAdamwOutIdeal.main_arg2) = m' ((c.tc : Thread Cert.RefAdamwOutIdeal.nD Cert.RefAdamwOutIdeal.τ).loc Cert.RefAdamwOutIdeal.main_arg2)
          ∧ r.2.mem ((c.tc : Thread Cert.RefAdamwOutIdeal.nD Cert.RefAdamwOutIdeal.τ).loc Cert.RefAdamwOutIdeal.main_arg3) = m' ((c.tc : Thread Cert.RefAdamwOutIdeal.nD Cert.RefAdamwOutIdeal.τ).loc Cert.RefAdamwOutIdeal.main_arg3)
          ∧ r.2.mem ((c.tc : Thread Cert.RefAdamwOutIdeal.nD Cert.RefAdamwOutIdeal.τ).loc Cert.RefAdamwOutIdeal.main_arg4) = m' ((c.tc : Thread Cert.RefAdamwOutIdeal.nD Cert.RefAdamwOutIdeal.τ).loc Cert.RefAdamwOutIdeal.main_arg4))

def preserves_AdamwXq_AdamwXqIdeal : Prop :=
  True

def algebraic_AdamwXqIdeal_RefAdamwXqIdeal [hAdamwXqIdeal : Cert.AdamwXqIdeal.Facts] [hRefAdamwXqIdeal : Cert.RefAdamwXqIdeal.Facts] : Prop :=
  ∀ (m : (ℓ : Loc Cert.AdamwXqIdeal.nD Cert.AdamwXqIdeal.τ Cert.AdamwXqIdeal.sig) → Buf (Elt Ideal) ℓ) (g : Dev Cert.AdamwXqIdeal.nD → PrngReg)
    (m' : (ℓ : Loc Cert.RefAdamwXqIdeal.nD Cert.RefAdamwXqIdeal.τ Cert.RefAdamwXqIdeal.sig) → Buf (Elt Ideal) ℓ) (g' : Dev Cert.RefAdamwXqIdeal.nD → PrngReg), Pre_AdamwXqIdeal m →
    (∀ c : Dev Cert.AdamwXqIdeal.nD,
      m' ((c.tc : Thread Cert.RefAdamwXqIdeal.nD Cert.RefAdamwXqIdeal.τ).loc Cert.RefAdamwXqIdeal.main_arg0) = m ((c.tc : Thread Cert.AdamwXqIdeal.nD Cert.AdamwXqIdeal.τ).loc Cert.AdamwXqIdeal.main_arg0)
      ∧ m' ((c.tc : Thread Cert.RefAdamwXqIdeal.nD Cert.RefAdamwXqIdeal.τ).loc Cert.RefAdamwXqIdeal.main_arg1) = m ((c.tc : Thread Cert.AdamwXqIdeal.nD Cert.AdamwXqIdeal.τ).loc Cert.AdamwXqIdeal.main_arg1)
      ∧ m' ((c.tc : Thread Cert.RefAdamwXqIdeal.nD Cert.RefAdamwXqIdeal.τ).loc Cert.RefAdamwXqIdeal.main_arg2) = m ((c.tc : Thread Cert.AdamwXqIdeal.nD Cert.AdamwXqIdeal.τ).loc Cert.AdamwXqIdeal.main_arg2)
      ∧ m' ((c.tc : Thread Cert.RefAdamwXqIdeal.nD Cert.RefAdamwXqIdeal.τ).loc Cert.RefAdamwXqIdeal.main_arg3) = m ((c.tc : Thread Cert.AdamwXqIdeal.nD Cert.AdamwXqIdeal.τ).loc Cert.AdamwXqIdeal.main_arg3)
      ∧ m' ((c.tc : Thread Cert.RefAdamwXqIdeal.nD Cert.RefAdamwXqIdeal.τ).loc Cert.RefAdamwXqIdeal.main_arg4) = m ((c.tc : Thread Cert.AdamwXqIdeal.nD Cert.AdamwXqIdeal.τ).loc Cert.AdamwXqIdeal.main_arg4)) →
    ∃ (v0 : (c : Dev Cert.AdamwXqIdeal.nD) → Buf (Elt Ideal) ((c.tc : Thread Cert.AdamwXqIdeal.nD Cert.AdamwXqIdeal.τ).loc Cert.AdamwXqIdeal.main_v0_0)) (v1 : (c : Dev Cert.AdamwXqIdeal.nD) → Buf (Elt Ideal) ((c.tc : Thread Cert.AdamwXqIdeal.nD Cert.AdamwXqIdeal.τ).loc Cert.AdamwXqIdeal.main_v0_1)) (v2 : (c : Dev Cert.AdamwXqIdeal.nD) → Buf (Elt Ideal) ((c.tc : Thread Cert.AdamwXqIdeal.nD Cert.AdamwXqIdeal.τ).loc Cert.AdamwXqIdeal.main_v0_2)) (v3 : (c : Dev Cert.AdamwXqIdeal.nD) → Buf (Elt Ideal) ((c.tc : Thread Cert.AdamwXqIdeal.nD Cert.AdamwXqIdeal.τ).loc Cert.AdamwXqIdeal.main_v0_3)),
      θ_run (Cert.AdamwXqIdeal.defs (F := Ideal)) (onTc (τ := Cert.AdamwXqIdeal.τ) (Cert.AdamwXqIdeal.main (F := Ideal))) ⟨m, fun _ => 0, g⟩ (fun r => ∀ c : Dev Cert.AdamwXqIdeal.nD,
          r.2.mem ((c.tc : Thread Cert.AdamwXqIdeal.nD Cert.AdamwXqIdeal.τ).loc Cert.AdamwXqIdeal.main_v0_0) = v0 c
          ∧ r.2.mem ((c.tc : Thread Cert.AdamwXqIdeal.nD Cert.AdamwXqIdeal.τ).loc Cert.AdamwXqIdeal.main_v0_1) = v1 c
          ∧ r.2.mem ((c.tc : Thread Cert.AdamwXqIdeal.nD Cert.AdamwXqIdeal.τ).loc Cert.AdamwXqIdeal.main_v0_2) = v2 c
          ∧ r.2.mem ((c.tc : Thread Cert.AdamwXqIdeal.nD Cert.AdamwXqIdeal.τ).loc Cert.AdamwXqIdeal.main_v0_3) = v3 c
          ∧ r.2.mem ((c.tc : Thread Cert.AdamwXqIdeal.nD Cert.AdamwXqIdeal.τ).loc Cert.AdamwXqIdeal.main_arg0) = m ((c.tc : Thread Cert.AdamwXqIdeal.nD Cert.AdamwXqIdeal.τ).loc Cert.AdamwXqIdeal.main_arg0)
          ∧ r.2.mem ((c.tc : Thread Cert.AdamwXqIdeal.nD Cert.AdamwXqIdeal.τ).loc Cert.AdamwXqIdeal.main_arg1) = m ((c.tc : Thread Cert.AdamwXqIdeal.nD Cert.AdamwXqIdeal.τ).loc Cert.AdamwXqIdeal.main_arg1)
          ∧ r.2.mem ((c.tc : Thread Cert.AdamwXqIdeal.nD Cert.AdamwXqIdeal.τ).loc Cert.AdamwXqIdeal.main_arg2) = m ((c.tc : Thread Cert.AdamwXqIdeal.nD Cert.AdamwXqIdeal.τ).loc Cert.AdamwXqIdeal.main_arg2)
          ∧ r.2.mem ((c.tc : Thread Cert.AdamwXqIdeal.nD Cert.AdamwXqIdeal.τ).loc Cert.AdamwXqIdeal.main_arg3) = m ((c.tc : Thread Cert.AdamwXqIdeal.nD Cert.AdamwXqIdeal.τ).loc Cert.AdamwXqIdeal.main_arg3)
          ∧ r.2.mem ((c.tc : Thread Cert.AdamwXqIdeal.nD Cert.AdamwXqIdeal.τ).loc Cert.AdamwXqIdeal.main_arg4) = m ((c.tc : Thread Cert.AdamwXqIdeal.nD Cert.AdamwXqIdeal.τ).loc Cert.AdamwXqIdeal.main_arg4))
      ∧ θ_run (Cert.RefAdamwXqIdeal.defs (F := Ideal)) (onTc (τ := Cert.RefAdamwXqIdeal.τ) (Cert.RefAdamwXqIdeal.main (F := Ideal))) ⟨m', fun _ => 0, g'⟩ (fun r => ∀ c : Dev Cert.RefAdamwXqIdeal.nD,
          r.2.mem ((c.tc : Thread Cert.RefAdamwXqIdeal.nD Cert.RefAdamwXqIdeal.τ).loc Cert.RefAdamwXqIdeal.main_v4) = v0 c
          ∧ r.2.mem ((c.tc : Thread Cert.RefAdamwXqIdeal.nD Cert.RefAdamwXqIdeal.τ).loc Cert.RefAdamwXqIdeal.main_v28) = v1 c
          ∧ r.2.mem ((c.tc : Thread Cert.RefAdamwXqIdeal.nD Cert.RefAdamwXqIdeal.τ).loc Cert.RefAdamwXqIdeal.main_v9) = v2 c
          ∧ r.2.mem ((c.tc : Thread Cert.RefAdamwXqIdeal.nD Cert.RefAdamwXqIdeal.τ).loc Cert.RefAdamwXqIdeal.main_v15) = v3 c
          ∧ r.2.mem ((c.tc : Thread Cert.RefAdamwXqIdeal.nD Cert.RefAdamwXqIdeal.τ).loc Cert.RefAdamwXqIdeal.main_arg0) = m' ((c.tc : Thread Cert.RefAdamwXqIdeal.nD Cert.RefAdamwXqIdeal.τ).loc Cert.RefAdamwXqIdeal.main_arg0)
          ∧ r.2.mem ((c.tc : Thread Cert.RefAdamwXqIdeal.nD Cert.RefAdamwXqIdeal.τ).loc Cert.RefAdamwXqIdeal.main_arg1) = m' ((c.tc : Thread Cert.RefAdamwXqIdeal.nD Cert.RefAdamwXqIdeal.τ).loc Cert.RefAdamwXqIdeal.main_arg1)
          ∧ r.2.mem ((c.tc : Thread Cert.RefAdamwXqIdeal.nD Cert.RefAdamwXqIdeal.τ).loc Cert.RefAdamwXqIdeal.main_arg2) = m' ((c.tc : Thread Cert.RefAdamwXqIdeal.nD Cert.RefAdamwXqIdeal.τ).loc Cert.RefAdamwXqIdeal.main_arg2)
          ∧ r.2.mem ((c.tc : Thread Cert.RefAdamwXqIdeal.nD Cert.RefAdamwXqIdeal.τ).loc Cert.RefAdamwXqIdeal.main_arg3) = m' ((c.tc : Thread Cert.RefAdamwXqIdeal.nD Cert.RefAdamwXqIdeal.τ).loc Cert.RefAdamwXqIdeal.main_arg3)
          ∧ r.2.mem ((c.tc : Thread Cert.RefAdamwXqIdeal.nD Cert.RefAdamwXqIdeal.τ).loc Cert.RefAdamwXqIdeal.main_arg4) = m' ((c.tc : Thread Cert.RefAdamwXqIdeal.nD Cert.RefAdamwXqIdeal.τ).loc Cert.RefAdamwXqIdeal.main_arg4))

def preserves_AdamwXk_AdamwXkIdeal : Prop :=
  True

def algebraic_AdamwXkIdeal_RefAdamwXkIdeal [hAdamwXkIdeal : Cert.AdamwXkIdeal.Facts] [hRefAdamwXkIdeal : Cert.RefAdamwXkIdeal.Facts] : Prop :=
  ∀ (m : (ℓ : Loc Cert.AdamwXkIdeal.nD Cert.AdamwXkIdeal.τ Cert.AdamwXkIdeal.sig) → Buf (Elt Ideal) ℓ) (g : Dev Cert.AdamwXkIdeal.nD → PrngReg)
    (m' : (ℓ : Loc Cert.RefAdamwXkIdeal.nD Cert.RefAdamwXkIdeal.τ Cert.RefAdamwXkIdeal.sig) → Buf (Elt Ideal) ℓ) (g' : Dev Cert.RefAdamwXkIdeal.nD → PrngReg), Pre_AdamwXkIdeal m →
    (∀ c : Dev Cert.AdamwXkIdeal.nD,
      m' ((c.tc : Thread Cert.RefAdamwXkIdeal.nD Cert.RefAdamwXkIdeal.τ).loc Cert.RefAdamwXkIdeal.main_arg0) = m ((c.tc : Thread Cert.AdamwXkIdeal.nD Cert.AdamwXkIdeal.τ).loc Cert.AdamwXkIdeal.main_arg0)
      ∧ m' ((c.tc : Thread Cert.RefAdamwXkIdeal.nD Cert.RefAdamwXkIdeal.τ).loc Cert.RefAdamwXkIdeal.main_arg1) = m ((c.tc : Thread Cert.AdamwXkIdeal.nD Cert.AdamwXkIdeal.τ).loc Cert.AdamwXkIdeal.main_arg1)
      ∧ m' ((c.tc : Thread Cert.RefAdamwXkIdeal.nD Cert.RefAdamwXkIdeal.τ).loc Cert.RefAdamwXkIdeal.main_arg2) = m ((c.tc : Thread Cert.AdamwXkIdeal.nD Cert.AdamwXkIdeal.τ).loc Cert.AdamwXkIdeal.main_arg2)
      ∧ m' ((c.tc : Thread Cert.RefAdamwXkIdeal.nD Cert.RefAdamwXkIdeal.τ).loc Cert.RefAdamwXkIdeal.main_arg3) = m ((c.tc : Thread Cert.AdamwXkIdeal.nD Cert.AdamwXkIdeal.τ).loc Cert.AdamwXkIdeal.main_arg3)
      ∧ m' ((c.tc : Thread Cert.RefAdamwXkIdeal.nD Cert.RefAdamwXkIdeal.τ).loc Cert.RefAdamwXkIdeal.main_arg4) = m ((c.tc : Thread Cert.AdamwXkIdeal.nD Cert.AdamwXkIdeal.τ).loc Cert.AdamwXkIdeal.main_arg4)) →
    ∃ (v0 : (c : Dev Cert.AdamwXkIdeal.nD) → Buf (Elt Ideal) ((c.tc : Thread Cert.AdamwXkIdeal.nD Cert.AdamwXkIdeal.τ).loc Cert.AdamwXkIdeal.main_v0_0)) (v1 : (c : Dev Cert.AdamwXkIdeal.nD) → Buf (Elt Ideal) ((c.tc : Thread Cert.AdamwXkIdeal.nD Cert.AdamwXkIdeal.τ).loc Cert.AdamwXkIdeal.main_v0_1)) (v2 : (c : Dev Cert.AdamwXkIdeal.nD) → Buf (Elt Ideal) ((c.tc : Thread Cert.AdamwXkIdeal.nD Cert.AdamwXkIdeal.τ).loc Cert.AdamwXkIdeal.main_v0_2)) (v3 : (c : Dev Cert.AdamwXkIdeal.nD) → Buf (Elt Ideal) ((c.tc : Thread Cert.AdamwXkIdeal.nD Cert.AdamwXkIdeal.τ).loc Cert.AdamwXkIdeal.main_v0_3)),
      θ_run (Cert.AdamwXkIdeal.defs (F := Ideal)) (onTc (τ := Cert.AdamwXkIdeal.τ) (Cert.AdamwXkIdeal.main (F := Ideal))) ⟨m, fun _ => 0, g⟩ (fun r => ∀ c : Dev Cert.AdamwXkIdeal.nD,
          r.2.mem ((c.tc : Thread Cert.AdamwXkIdeal.nD Cert.AdamwXkIdeal.τ).loc Cert.AdamwXkIdeal.main_v0_0) = v0 c
          ∧ r.2.mem ((c.tc : Thread Cert.AdamwXkIdeal.nD Cert.AdamwXkIdeal.τ).loc Cert.AdamwXkIdeal.main_v0_1) = v1 c
          ∧ r.2.mem ((c.tc : Thread Cert.AdamwXkIdeal.nD Cert.AdamwXkIdeal.τ).loc Cert.AdamwXkIdeal.main_v0_2) = v2 c
          ∧ r.2.mem ((c.tc : Thread Cert.AdamwXkIdeal.nD Cert.AdamwXkIdeal.τ).loc Cert.AdamwXkIdeal.main_v0_3) = v3 c
          ∧ r.2.mem ((c.tc : Thread Cert.AdamwXkIdeal.nD Cert.AdamwXkIdeal.τ).loc Cert.AdamwXkIdeal.main_arg0) = m ((c.tc : Thread Cert.AdamwXkIdeal.nD Cert.AdamwXkIdeal.τ).loc Cert.AdamwXkIdeal.main_arg0)
          ∧ r.2.mem ((c.tc : Thread Cert.AdamwXkIdeal.nD Cert.AdamwXkIdeal.τ).loc Cert.AdamwXkIdeal.main_arg1) = m ((c.tc : Thread Cert.AdamwXkIdeal.nD Cert.AdamwXkIdeal.τ).loc Cert.AdamwXkIdeal.main_arg1)
          ∧ r.2.mem ((c.tc : Thread Cert.AdamwXkIdeal.nD Cert.AdamwXkIdeal.τ).loc Cert.AdamwXkIdeal.main_arg2) = m ((c.tc : Thread Cert.AdamwXkIdeal.nD Cert.AdamwXkIdeal.τ).loc Cert.AdamwXkIdeal.main_arg2)
          ∧ r.2.mem ((c.tc : Thread Cert.AdamwXkIdeal.nD Cert.AdamwXkIdeal.τ).loc Cert.AdamwXkIdeal.main_arg3) = m ((c.tc : Thread Cert.AdamwXkIdeal.nD Cert.AdamwXkIdeal.τ).loc Cert.AdamwXkIdeal.main_arg3)
          ∧ r.2.mem ((c.tc : Thread Cert.AdamwXkIdeal.nD Cert.AdamwXkIdeal.τ).loc Cert.AdamwXkIdeal.main_arg4) = m ((c.tc : Thread Cert.AdamwXkIdeal.nD Cert.AdamwXkIdeal.τ).loc Cert.AdamwXkIdeal.main_arg4))
      ∧ θ_run (Cert.RefAdamwXkIdeal.defs (F := Ideal)) (onTc (τ := Cert.RefAdamwXkIdeal.τ) (Cert.RefAdamwXkIdeal.main (F := Ideal))) ⟨m', fun _ => 0, g'⟩ (fun r => ∀ c : Dev Cert.RefAdamwXkIdeal.nD,
          r.2.mem ((c.tc : Thread Cert.RefAdamwXkIdeal.nD Cert.RefAdamwXkIdeal.τ).loc Cert.RefAdamwXkIdeal.main_v4) = v0 c
          ∧ r.2.mem ((c.tc : Thread Cert.RefAdamwXkIdeal.nD Cert.RefAdamwXkIdeal.τ).loc Cert.RefAdamwXkIdeal.main_v28) = v1 c
          ∧ r.2.mem ((c.tc : Thread Cert.RefAdamwXkIdeal.nD Cert.RefAdamwXkIdeal.τ).loc Cert.RefAdamwXkIdeal.main_v9) = v2 c
          ∧ r.2.mem ((c.tc : Thread Cert.RefAdamwXkIdeal.nD Cert.RefAdamwXkIdeal.τ).loc Cert.RefAdamwXkIdeal.main_v15) = v3 c
          ∧ r.2.mem ((c.tc : Thread Cert.RefAdamwXkIdeal.nD Cert.RefAdamwXkIdeal.τ).loc Cert.RefAdamwXkIdeal.main_arg0) = m' ((c.tc : Thread Cert.RefAdamwXkIdeal.nD Cert.RefAdamwXkIdeal.τ).loc Cert.RefAdamwXkIdeal.main_arg0)
          ∧ r.2.mem ((c.tc : Thread Cert.RefAdamwXkIdeal.nD Cert.RefAdamwXkIdeal.τ).loc Cert.RefAdamwXkIdeal.main_arg1) = m' ((c.tc : Thread Cert.RefAdamwXkIdeal.nD Cert.RefAdamwXkIdeal.τ).loc Cert.RefAdamwXkIdeal.main_arg1)
          ∧ r.2.mem ((c.tc : Thread Cert.RefAdamwXkIdeal.nD Cert.RefAdamwXkIdeal.τ).loc Cert.RefAdamwXkIdeal.main_arg2) = m' ((c.tc : Thread Cert.RefAdamwXkIdeal.nD Cert.RefAdamwXkIdeal.τ).loc Cert.RefAdamwXkIdeal.main_arg2)
          ∧ r.2.mem ((c.tc : Thread Cert.RefAdamwXkIdeal.nD Cert.RefAdamwXkIdeal.τ).loc Cert.RefAdamwXkIdeal.main_arg3) = m' ((c.tc : Thread Cert.RefAdamwXkIdeal.nD Cert.RefAdamwXkIdeal.τ).loc Cert.RefAdamwXkIdeal.main_arg3)
          ∧ r.2.mem ((c.tc : Thread Cert.RefAdamwXkIdeal.nD Cert.RefAdamwXkIdeal.τ).loc Cert.RefAdamwXkIdeal.main_arg4) = m' ((c.tc : Thread Cert.RefAdamwXkIdeal.nD Cert.RefAdamwXkIdeal.τ).loc Cert.RefAdamwXkIdeal.main_arg4))

def preserves_AdamwXv_AdamwXvIdeal : Prop :=
  True

def algebraic_AdamwXvIdeal_RefAdamwXvIdeal [hAdamwXvIdeal : Cert.AdamwXvIdeal.Facts] [hRefAdamwXvIdeal : Cert.RefAdamwXvIdeal.Facts] : Prop :=
  ∀ (m : (ℓ : Loc Cert.AdamwXvIdeal.nD Cert.AdamwXvIdeal.τ Cert.AdamwXvIdeal.sig) → Buf (Elt Ideal) ℓ) (g : Dev Cert.AdamwXvIdeal.nD → PrngReg)
    (m' : (ℓ : Loc Cert.RefAdamwXvIdeal.nD Cert.RefAdamwXvIdeal.τ Cert.RefAdamwXvIdeal.sig) → Buf (Elt Ideal) ℓ) (g' : Dev Cert.RefAdamwXvIdeal.nD → PrngReg), Pre_AdamwXvIdeal m →
    (∀ c : Dev Cert.AdamwXvIdeal.nD,
      m' ((c.tc : Thread Cert.RefAdamwXvIdeal.nD Cert.RefAdamwXvIdeal.τ).loc Cert.RefAdamwXvIdeal.main_arg0) = m ((c.tc : Thread Cert.AdamwXvIdeal.nD Cert.AdamwXvIdeal.τ).loc Cert.AdamwXvIdeal.main_arg0)
      ∧ m' ((c.tc : Thread Cert.RefAdamwXvIdeal.nD Cert.RefAdamwXvIdeal.τ).loc Cert.RefAdamwXvIdeal.main_arg1) = m ((c.tc : Thread Cert.AdamwXvIdeal.nD Cert.AdamwXvIdeal.τ).loc Cert.AdamwXvIdeal.main_arg1)
      ∧ m' ((c.tc : Thread Cert.RefAdamwXvIdeal.nD Cert.RefAdamwXvIdeal.τ).loc Cert.RefAdamwXvIdeal.main_arg2) = m ((c.tc : Thread Cert.AdamwXvIdeal.nD Cert.AdamwXvIdeal.τ).loc Cert.AdamwXvIdeal.main_arg2)
      ∧ m' ((c.tc : Thread Cert.RefAdamwXvIdeal.nD Cert.RefAdamwXvIdeal.τ).loc Cert.RefAdamwXvIdeal.main_arg3) = m ((c.tc : Thread Cert.AdamwXvIdeal.nD Cert.AdamwXvIdeal.τ).loc Cert.AdamwXvIdeal.main_arg3)
      ∧ m' ((c.tc : Thread Cert.RefAdamwXvIdeal.nD Cert.RefAdamwXvIdeal.τ).loc Cert.RefAdamwXvIdeal.main_arg4) = m ((c.tc : Thread Cert.AdamwXvIdeal.nD Cert.AdamwXvIdeal.τ).loc Cert.AdamwXvIdeal.main_arg4)) →
    ∃ (v0 : (c : Dev Cert.AdamwXvIdeal.nD) → Buf (Elt Ideal) ((c.tc : Thread Cert.AdamwXvIdeal.nD Cert.AdamwXvIdeal.τ).loc Cert.AdamwXvIdeal.main_v0_0)) (v1 : (c : Dev Cert.AdamwXvIdeal.nD) → Buf (Elt Ideal) ((c.tc : Thread Cert.AdamwXvIdeal.nD Cert.AdamwXvIdeal.τ).loc Cert.AdamwXvIdeal.main_v0_1)) (v2 : (c : Dev Cert.AdamwXvIdeal.nD) → Buf (Elt Ideal) ((c.tc : Thread Cert.AdamwXvIdeal.nD Cert.AdamwXvIdeal.τ).loc Cert.AdamwXvIdeal.main_v0_2)) (v3 : (c : Dev Cert.AdamwXvIdeal.nD) → Buf (Elt Ideal) ((c.tc : Thread Cert.AdamwXvIdeal.nD Cert.AdamwXvIdeal.τ).loc Cert.AdamwXvIdeal.main_v0_3)),
      θ_run (Cert.AdamwXvIdeal.defs (F := Ideal)) (onTc (τ := Cert.AdamwXvIdeal.τ) (Cert.AdamwXvIdeal.main (F := Ideal))) ⟨m, fun _ => 0, g⟩ (fun r => ∀ c : Dev Cert.AdamwXvIdeal.nD,
          r.2.mem ((c.tc : Thread Cert.AdamwXvIdeal.nD Cert.AdamwXvIdeal.τ).loc Cert.AdamwXvIdeal.main_v0_0) = v0 c
          ∧ r.2.mem ((c.tc : Thread Cert.AdamwXvIdeal.nD Cert.AdamwXvIdeal.τ).loc Cert.AdamwXvIdeal.main_v0_1) = v1 c
          ∧ r.2.mem ((c.tc : Thread Cert.AdamwXvIdeal.nD Cert.AdamwXvIdeal.τ).loc Cert.AdamwXvIdeal.main_v0_2) = v2 c
          ∧ r.2.mem ((c.tc : Thread Cert.AdamwXvIdeal.nD Cert.AdamwXvIdeal.τ).loc Cert.AdamwXvIdeal.main_v0_3) = v3 c
          ∧ r.2.mem ((c.tc : Thread Cert.AdamwXvIdeal.nD Cert.AdamwXvIdeal.τ).loc Cert.AdamwXvIdeal.main_arg0) = m ((c.tc : Thread Cert.AdamwXvIdeal.nD Cert.AdamwXvIdeal.τ).loc Cert.AdamwXvIdeal.main_arg0)
          ∧ r.2.mem ((c.tc : Thread Cert.AdamwXvIdeal.nD Cert.AdamwXvIdeal.τ).loc Cert.AdamwXvIdeal.main_arg1) = m ((c.tc : Thread Cert.AdamwXvIdeal.nD Cert.AdamwXvIdeal.τ).loc Cert.AdamwXvIdeal.main_arg1)
          ∧ r.2.mem ((c.tc : Thread Cert.AdamwXvIdeal.nD Cert.AdamwXvIdeal.τ).loc Cert.AdamwXvIdeal.main_arg2) = m ((c.tc : Thread Cert.AdamwXvIdeal.nD Cert.AdamwXvIdeal.τ).loc Cert.AdamwXvIdeal.main_arg2)
          ∧ r.2.mem ((c.tc : Thread Cert.AdamwXvIdeal.nD Cert.AdamwXvIdeal.τ).loc Cert.AdamwXvIdeal.main_arg3) = m ((c.tc : Thread Cert.AdamwXvIdeal.nD Cert.AdamwXvIdeal.τ).loc Cert.AdamwXvIdeal.main_arg3)
          ∧ r.2.mem ((c.tc : Thread Cert.AdamwXvIdeal.nD Cert.AdamwXvIdeal.τ).loc Cert.AdamwXvIdeal.main_arg4) = m ((c.tc : Thread Cert.AdamwXvIdeal.nD Cert.AdamwXvIdeal.τ).loc Cert.AdamwXvIdeal.main_arg4))
      ∧ θ_run (Cert.RefAdamwXvIdeal.defs (F := Ideal)) (onTc (τ := Cert.RefAdamwXvIdeal.τ) (Cert.RefAdamwXvIdeal.main (F := Ideal))) ⟨m', fun _ => 0, g'⟩ (fun r => ∀ c : Dev Cert.RefAdamwXvIdeal.nD,
          r.2.mem ((c.tc : Thread Cert.RefAdamwXvIdeal.nD Cert.RefAdamwXvIdeal.τ).loc Cert.RefAdamwXvIdeal.main_v4) = v0 c
          ∧ r.2.mem ((c.tc : Thread Cert.RefAdamwXvIdeal.nD Cert.RefAdamwXvIdeal.τ).loc Cert.RefAdamwXvIdeal.main_v28) = v1 c
          ∧ r.2.mem ((c.tc : Thread Cert.RefAdamwXvIdeal.nD Cert.RefAdamwXvIdeal.τ).loc Cert.RefAdamwXvIdeal.main_v9) = v2 c
          ∧ r.2.mem ((c.tc : Thread Cert.RefAdamwXvIdeal.nD Cert.RefAdamwXvIdeal.τ).loc Cert.RefAdamwXvIdeal.main_v15) = v3 c
          ∧ r.2.mem ((c.tc : Thread Cert.RefAdamwXvIdeal.nD Cert.RefAdamwXvIdeal.τ).loc Cert.RefAdamwXvIdeal.main_arg0) = m' ((c.tc : Thread Cert.RefAdamwXvIdeal.nD Cert.RefAdamwXvIdeal.τ).loc Cert.RefAdamwXvIdeal.main_arg0)
          ∧ r.2.mem ((c.tc : Thread Cert.RefAdamwXvIdeal.nD Cert.RefAdamwXvIdeal.τ).loc Cert.RefAdamwXvIdeal.main_arg1) = m' ((c.tc : Thread Cert.RefAdamwXvIdeal.nD Cert.RefAdamwXvIdeal.τ).loc Cert.RefAdamwXvIdeal.main_arg1)
          ∧ r.2.mem ((c.tc : Thread Cert.RefAdamwXvIdeal.nD Cert.RefAdamwXvIdeal.τ).loc Cert.RefAdamwXvIdeal.main_arg2) = m' ((c.tc : Thread Cert.RefAdamwXvIdeal.nD Cert.RefAdamwXvIdeal.τ).loc Cert.RefAdamwXvIdeal.main_arg2)
          ∧ r.2.mem ((c.tc : Thread Cert.RefAdamwXvIdeal.nD Cert.RefAdamwXvIdeal.τ).loc Cert.RefAdamwXvIdeal.main_arg3) = m' ((c.tc : Thread Cert.RefAdamwXvIdeal.nD Cert.RefAdamwXvIdeal.τ).loc Cert.RefAdamwXvIdeal.main_arg3)
          ∧ r.2.mem ((c.tc : Thread Cert.RefAdamwXvIdeal.nD Cert.RefAdamwXvIdeal.τ).loc Cert.RefAdamwXvIdeal.main_arg4) = m' ((c.tc : Thread Cert.RefAdamwXvIdeal.nD Cert.RefAdamwXvIdeal.τ).loc Cert.RefAdamwXvIdeal.main_arg4))

def preserves_AdamwXo_AdamwXoIdeal : Prop :=
  True

def algebraic_AdamwXoIdeal_RefAdamwXoIdeal [hAdamwXoIdeal : Cert.AdamwXoIdeal.Facts] [hRefAdamwXoIdeal : Cert.RefAdamwXoIdeal.Facts] : Prop :=
  ∀ (m : (ℓ : Loc Cert.AdamwXoIdeal.nD Cert.AdamwXoIdeal.τ Cert.AdamwXoIdeal.sig) → Buf (Elt Ideal) ℓ) (g : Dev Cert.AdamwXoIdeal.nD → PrngReg)
    (m' : (ℓ : Loc Cert.RefAdamwXoIdeal.nD Cert.RefAdamwXoIdeal.τ Cert.RefAdamwXoIdeal.sig) → Buf (Elt Ideal) ℓ) (g' : Dev Cert.RefAdamwXoIdeal.nD → PrngReg), Pre_AdamwXoIdeal m →
    (∀ c : Dev Cert.AdamwXoIdeal.nD,
      m' ((c.tc : Thread Cert.RefAdamwXoIdeal.nD Cert.RefAdamwXoIdeal.τ).loc Cert.RefAdamwXoIdeal.main_arg0) = m ((c.tc : Thread Cert.AdamwXoIdeal.nD Cert.AdamwXoIdeal.τ).loc Cert.AdamwXoIdeal.main_arg0)
      ∧ m' ((c.tc : Thread Cert.RefAdamwXoIdeal.nD Cert.RefAdamwXoIdeal.τ).loc Cert.RefAdamwXoIdeal.main_arg1) = m ((c.tc : Thread Cert.AdamwXoIdeal.nD Cert.AdamwXoIdeal.τ).loc Cert.AdamwXoIdeal.main_arg1)
      ∧ m' ((c.tc : Thread Cert.RefAdamwXoIdeal.nD Cert.RefAdamwXoIdeal.τ).loc Cert.RefAdamwXoIdeal.main_arg2) = m ((c.tc : Thread Cert.AdamwXoIdeal.nD Cert.AdamwXoIdeal.τ).loc Cert.AdamwXoIdeal.main_arg2)
      ∧ m' ((c.tc : Thread Cert.RefAdamwXoIdeal.nD Cert.RefAdamwXoIdeal.τ).loc Cert.RefAdamwXoIdeal.main_arg3) = m ((c.tc : Thread Cert.AdamwXoIdeal.nD Cert.AdamwXoIdeal.τ).loc Cert.AdamwXoIdeal.main_arg3)
      ∧ m' ((c.tc : Thread Cert.RefAdamwXoIdeal.nD Cert.RefAdamwXoIdeal.τ).loc Cert.RefAdamwXoIdeal.main_arg4) = m ((c.tc : Thread Cert.AdamwXoIdeal.nD Cert.AdamwXoIdeal.τ).loc Cert.AdamwXoIdeal.main_arg4)) →
    ∃ (v0 : (c : Dev Cert.AdamwXoIdeal.nD) → Buf (Elt Ideal) ((c.tc : Thread Cert.AdamwXoIdeal.nD Cert.AdamwXoIdeal.τ).loc Cert.AdamwXoIdeal.main_v0_0)) (v1 : (c : Dev Cert.AdamwXoIdeal.nD) → Buf (Elt Ideal) ((c.tc : Thread Cert.AdamwXoIdeal.nD Cert.AdamwXoIdeal.τ).loc Cert.AdamwXoIdeal.main_v0_1)) (v2 : (c : Dev Cert.AdamwXoIdeal.nD) → Buf (Elt Ideal) ((c.tc : Thread Cert.AdamwXoIdeal.nD Cert.AdamwXoIdeal.τ).loc Cert.AdamwXoIdeal.main_v0_2)) (v3 : (c : Dev Cert.AdamwXoIdeal.nD) → Buf (Elt Ideal) ((c.tc : Thread Cert.AdamwXoIdeal.nD Cert.AdamwXoIdeal.τ).loc Cert.AdamwXoIdeal.main_v0_3)),
      θ_run (Cert.AdamwXoIdeal.defs (F := Ideal)) (onTc (τ := Cert.AdamwXoIdeal.τ) (Cert.AdamwXoIdeal.main (F := Ideal))) ⟨m, fun _ => 0, g⟩ (fun r => ∀ c : Dev Cert.AdamwXoIdeal.nD,
          r.2.mem ((c.tc : Thread Cert.AdamwXoIdeal.nD Cert.AdamwXoIdeal.τ).loc Cert.AdamwXoIdeal.main_v0_0) = v0 c
          ∧ r.2.mem ((c.tc : Thread Cert.AdamwXoIdeal.nD Cert.AdamwXoIdeal.τ).loc Cert.AdamwXoIdeal.main_v0_1) = v1 c
          ∧ r.2.mem ((c.tc : Thread Cert.AdamwXoIdeal.nD Cert.AdamwXoIdeal.τ).loc Cert.AdamwXoIdeal.main_v0_2) = v2 c
          ∧ r.2.mem ((c.tc : Thread Cert.AdamwXoIdeal.nD Cert.AdamwXoIdeal.τ).loc Cert.AdamwXoIdeal.main_v0_3) = v3 c
          ∧ r.2.mem ((c.tc : Thread Cert.AdamwXoIdeal.nD Cert.AdamwXoIdeal.τ).loc Cert.AdamwXoIdeal.main_arg0) = m ((c.tc : Thread Cert.AdamwXoIdeal.nD Cert.AdamwXoIdeal.τ).loc Cert.AdamwXoIdeal.main_arg0)
          ∧ r.2.mem ((c.tc : Thread Cert.AdamwXoIdeal.nD Cert.AdamwXoIdeal.τ).loc Cert.AdamwXoIdeal.main_arg1) = m ((c.tc : Thread Cert.AdamwXoIdeal.nD Cert.AdamwXoIdeal.τ).loc Cert.AdamwXoIdeal.main_arg1)
          ∧ r.2.mem ((c.tc : Thread Cert.AdamwXoIdeal.nD Cert.AdamwXoIdeal.τ).loc Cert.AdamwXoIdeal.main_arg2) = m ((c.tc : Thread Cert.AdamwXoIdeal.nD Cert.AdamwXoIdeal.τ).loc Cert.AdamwXoIdeal.main_arg2)
          ∧ r.2.mem ((c.tc : Thread Cert.AdamwXoIdeal.nD Cert.AdamwXoIdeal.τ).loc Cert.AdamwXoIdeal.main_arg3) = m ((c.tc : Thread Cert.AdamwXoIdeal.nD Cert.AdamwXoIdeal.τ).loc Cert.AdamwXoIdeal.main_arg3)
          ∧ r.2.mem ((c.tc : Thread Cert.AdamwXoIdeal.nD Cert.AdamwXoIdeal.τ).loc Cert.AdamwXoIdeal.main_arg4) = m ((c.tc : Thread Cert.AdamwXoIdeal.nD Cert.AdamwXoIdeal.τ).loc Cert.AdamwXoIdeal.main_arg4))
      ∧ θ_run (Cert.RefAdamwXoIdeal.defs (F := Ideal)) (onTc (τ := Cert.RefAdamwXoIdeal.τ) (Cert.RefAdamwXoIdeal.main (F := Ideal))) ⟨m', fun _ => 0, g'⟩ (fun r => ∀ c : Dev Cert.RefAdamwXoIdeal.nD,
          r.2.mem ((c.tc : Thread Cert.RefAdamwXoIdeal.nD Cert.RefAdamwXoIdeal.τ).loc Cert.RefAdamwXoIdeal.main_v4) = v0 c
          ∧ r.2.mem ((c.tc : Thread Cert.RefAdamwXoIdeal.nD Cert.RefAdamwXoIdeal.τ).loc Cert.RefAdamwXoIdeal.main_v28) = v1 c
          ∧ r.2.mem ((c.tc : Thread Cert.RefAdamwXoIdeal.nD Cert.RefAdamwXoIdeal.τ).loc Cert.RefAdamwXoIdeal.main_v9) = v2 c
          ∧ r.2.mem ((c.tc : Thread Cert.RefAdamwXoIdeal.nD Cert.RefAdamwXoIdeal.τ).loc Cert.RefAdamwXoIdeal.main_v15) = v3 c
          ∧ r.2.mem ((c.tc : Thread Cert.RefAdamwXoIdeal.nD Cert.RefAdamwXoIdeal.τ).loc Cert.RefAdamwXoIdeal.main_arg0) = m' ((c.tc : Thread Cert.RefAdamwXoIdeal.nD Cert.RefAdamwXoIdeal.τ).loc Cert.RefAdamwXoIdeal.main_arg0)
          ∧ r.2.mem ((c.tc : Thread Cert.RefAdamwXoIdeal.nD Cert.RefAdamwXoIdeal.τ).loc Cert.RefAdamwXoIdeal.main_arg1) = m' ((c.tc : Thread Cert.RefAdamwXoIdeal.nD Cert.RefAdamwXoIdeal.τ).loc Cert.RefAdamwXoIdeal.main_arg1)
          ∧ r.2.mem ((c.tc : Thread Cert.RefAdamwXoIdeal.nD Cert.RefAdamwXoIdeal.τ).loc Cert.RefAdamwXoIdeal.main_arg2) = m' ((c.tc : Thread Cert.RefAdamwXoIdeal.nD Cert.RefAdamwXoIdeal.τ).loc Cert.RefAdamwXoIdeal.main_arg2)
          ∧ r.2.mem ((c.tc : Thread Cert.RefAdamwXoIdeal.nD Cert.RefAdamwXoIdeal.τ).loc Cert.RefAdamwXoIdeal.main_arg3) = m' ((c.tc : Thread Cert.RefAdamwXoIdeal.nD Cert.RefAdamwXoIdeal.τ).loc Cert.RefAdamwXoIdeal.main_arg3)
          ∧ r.2.mem ((c.tc : Thread Cert.RefAdamwXoIdeal.nD Cert.RefAdamwXoIdeal.τ).loc Cert.RefAdamwXoIdeal.main_arg4) = m' ((c.tc : Thread Cert.RefAdamwXoIdeal.nD Cert.RefAdamwXoIdeal.τ).loc Cert.RefAdamwXoIdeal.main_arg4))

def preserves_AdamwDown_AdamwDownIdeal : Prop :=
  True

def algebraic_AdamwDownIdeal_RefAdamwDownIdeal [hAdamwDownIdeal : Cert.AdamwDownIdeal.Facts] [hRefAdamwDownIdeal : Cert.RefAdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.RefAdamwDownIdeal.nD Cert.RefAdamwDownIdeal.τ Cert.RefAdamwDownIdeal.sig) → Buf (Elt Ideal) ℓ) (g' : Dev Cert.RefAdamwDownIdeal.nD → PrngReg), Pre_AdamwDownIdeal m →
    (∀ c : Dev Cert.AdamwDownIdeal.nD,
      m' ((c.tc : Thread Cert.RefAdamwDownIdeal.nD Cert.RefAdamwDownIdeal.τ).loc Cert.RefAdamwDownIdeal.main_arg0) = m ((c.tc : Thread Cert.AdamwDownIdeal.nD Cert.AdamwDownIdeal.τ).loc Cert.AdamwDownIdeal.main_arg0)
      ∧ m' ((c.tc : Thread Cert.RefAdamwDownIdeal.nD Cert.RefAdamwDownIdeal.τ).loc Cert.RefAdamwDownIdeal.main_arg1) = m ((c.tc : Thread Cert.AdamwDownIdeal.nD Cert.AdamwDownIdeal.τ).loc Cert.AdamwDownIdeal.main_arg1)
      ∧ m' ((c.tc : Thread Cert.RefAdamwDownIdeal.nD Cert.RefAdamwDownIdeal.τ).loc Cert.RefAdamwDownIdeal.main_arg2) = m ((c.tc : Thread Cert.AdamwDownIdeal.nD Cert.AdamwDownIdeal.τ).loc Cert.AdamwDownIdeal.main_arg2)
      ∧ m' ((c.tc : Thread Cert.RefAdamwDownIdeal.nD Cert.RefAdamwDownIdeal.τ).loc Cert.RefAdamwDownIdeal.main_arg3) = m ((c.tc : Thread Cert.AdamwDownIdeal.nD Cert.AdamwDownIdeal.τ).loc Cert.AdamwDownIdeal.main_arg3)
      ∧ m' ((c.tc : Thread Cert.RefAdamwDownIdeal.nD Cert.RefAdamwDownIdeal.τ).loc Cert.RefAdamwDownIdeal.main_arg4) = m ((c.tc : Thread Cert.AdamwDownIdeal.nD Cert.AdamwDownIdeal.τ).loc Cert.AdamwDownIdeal.main_arg4)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)) (v3 : (c : Dev Cert.AdamwDownIdeal.nD) → Buf (Elt Ideal) ((c.tc : Thread Cert.AdamwDownIdeal.nD Cert.AdamwDownIdeal.τ).loc Cert.AdamwDownIdeal.main_v0_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_v0_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
          ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4))
      ∧ θ_run (Cert.RefAdamwDownIdeal.defs (F := Ideal)) (onTc (τ := Cert.RefAdamwDownIdeal.τ) (Cert.RefAdamwDownIdeal.main (F := Ideal))) ⟨m', fun _ => 0, g'⟩ (fun r => ∀ c : Dev Cert.RefAdamwDownIdeal.nD,
          r.2.mem ((c.tc : Thread Cert.RefAdamwDownIdeal.nD Cert.RefAdamwDownIdeal.τ).loc Cert.RefAdamwDownIdeal.main_v2) = v0 c
          ∧ r.2.mem ((c.tc : Thread Cert.RefAdamwDownIdeal.nD Cert.RefAdamwDownIdeal.τ).loc Cert.RefAdamwDownIdeal.main_v26) = v1 c
          ∧ r.2.mem ((c.tc : Thread Cert.RefAdamwDownIdeal.nD Cert.RefAdamwDownIdeal.τ).loc Cert.RefAdamwDownIdeal.main_v7) = v2 c
          ∧ r.2.mem ((c.tc : Thread Cert.RefAdamwDownIdeal.nD Cert.RefAdamwDownIdeal.τ).loc Cert.RefAdamwDownIdeal.main_v13) = v3 c
          ∧ r.2.mem ((c.tc : Thread Cert.RefAdamwDownIdeal.nD Cert.RefAdamwDownIdeal.τ).loc Cert.RefAdamwDownIdeal.main_arg0) = m' ((c.tc : Thread Cert.RefAdamwDownIdeal.nD Cert.RefAdamwDownIdeal.τ).loc Cert.RefAdamwDownIdeal.main_arg0)
          ∧ r.2.mem ((c.tc : Thread Cert.RefAdamwDownIdeal.nD Cert.RefAdamwDownIdeal.τ).loc Cert.RefAdamwDownIdeal.main_arg1) = m' ((c.tc : Thread Cert.RefAdamwDownIdeal.nD Cert.RefAdamwDownIdeal.τ).loc Cert.RefAdamwDownIdeal.main_arg1)
          ∧ r.2.mem ((c.tc : Thread Cert.RefAdamwDownIdeal.nD Cert.RefAdamwDownIdeal.τ).loc Cert.RefAdamwDownIdeal.main_arg2) = m' ((c.tc : Thread Cert.RefAdamwDownIdeal.nD Cert.RefAdamwDownIdeal.τ).loc Cert.RefAdamwDownIdeal.main_arg2)
          ∧ r.2.mem ((c.tc : Thread Cert.RefAdamwDownIdeal.nD Cert.RefAdamwDownIdeal.τ).loc Cert.RefAdamwDownIdeal.main_arg3) = m' ((c.tc : Thread Cert.RefAdamwDownIdeal.nD Cert.RefAdamwDownIdeal.τ).loc Cert.RefAdamwDownIdeal.main_arg3)
          ∧ r.2.mem ((c.tc : Thread Cert.RefAdamwDownIdeal.nD Cert.RefAdamwDownIdeal.τ).loc Cert.RefAdamwDownIdeal.main_arg4) = m' ((c.tc : Thread Cert.RefAdamwDownIdeal.nD Cert.RefAdamwDownIdeal.τ).loc Cert.RefAdamwDownIdeal.main_arg4))

def preserves_Loss_LossIdeal : Prop :=
  True

def algebraic_LossIdeal_RefLossIdeal [hLossIdeal : Cert.LossIdeal.Facts] [hRefLossIdeal : Cert.RefLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v9) = v0 c
          ∧ r.2.mem ((c.tc : Thread Cert.RefLossIdeal.nD Cert.RefLossIdeal.τ).loc Cert.RefLossIdeal.main_v15) = v1 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1))

def preserves_Norm_NormIdeal : Prop :=
  True

def algebraic_NormIdeal_RefNormIdeal [hNormIdeal : Cert.NormIdeal.Facts] [hRefNormIdeal : Cert.RefNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)
      ∧ m' ((c.tc : Thread Cert.RefNormIdeal.nD Cert.RefNormIdeal.τ).loc Cert.RefNormIdeal.main_arg2) = m ((c.tc : Thread Cert.NormIdeal.nD Cert.NormIdeal.τ).loc Cert.NormIdeal.main_arg2)
      ∧ m' ((c.tc : Thread Cert.RefNormIdeal.nD Cert.RefNormIdeal.τ).loc Cert.RefNormIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v34) = v0 c
          ∧ r.2.mem ((c.tc : Thread Cert.RefNormIdeal.nD Cert.RefNormIdeal.τ).loc Cert.RefNormIdeal.main_v17) = v1 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1)
          ∧ r.2.mem ((c.tc : Thread Cert.RefNormIdeal.nD Cert.RefNormIdeal.τ).loc Cert.RefNormIdeal.main_arg2) = m' ((c.tc : Thread Cert.RefNormIdeal.nD Cert.RefNormIdeal.τ).loc Cert.RefNormIdeal.main_arg2)
          ∧ r.2.mem ((c.tc : Thread Cert.RefNormIdeal.nD Cert.RefNormIdeal.τ).loc Cert.RefNormIdeal.main_arg3) = m' ((c.tc : Thread Cert.RefNormIdeal.nD Cert.RefNormIdeal.τ).loc Cert.RefNormIdeal.main_arg3))

def preserves_NormMid_NormMidIdeal : Prop :=
  True

def algebraic_NormMidIdeal_RefNormMidIdeal [hNormMidIdeal : Cert.NormMidIdeal.Facts] [hRefNormMidIdeal : Cert.RefNormMidIdeal.Facts] : Prop :=
  ∀ (m : (ℓ : Loc Cert.NormMidIdeal.nD Cert.NormMidIdeal.τ Cert.NormMidIdeal.sig) → Buf (Elt Ideal) ℓ) (g : Dev Cert.NormMidIdeal.nD → PrngReg)
    (m' : (ℓ : Loc Cert.RefNormMidIdeal.nD Cert.RefNormMidIdeal.τ Cert.RefNormMidIdeal.sig) → Buf (Elt Ideal) ℓ) (g' : Dev Cert.RefNormMidIdeal.nD → PrngReg), Pre_NormMidIdeal m →
    (∀ c : Dev Cert.NormMidIdeal.nD,
      m' ((c.tc : Thread Cert.RefNormMidIdeal.nD Cert.RefNormMidIdeal.τ).loc Cert.RefNormMidIdeal.main_arg0) = m ((c.tc : Thread Cert.NormMidIdeal.nD Cert.NormMidIdeal.τ).loc Cert.NormMidIdeal.main_arg0)
      ∧ m' ((c.tc : Thread Cert.RefNormMidIdeal.nD Cert.RefNormMidIdeal.τ).loc Cert.RefNormMidIdeal.main_arg1) = m ((c.tc : Thread Cert.NormMidIdeal.nD Cert.NormMidIdeal.τ).loc Cert.NormMidIdeal.main_arg1)
      ∧ m' ((c.tc : Thread Cert.RefNormMidIdeal.nD Cert.RefNormMidIdeal.τ).loc Cert.RefNormMidIdeal.main_arg2) = m ((c.tc : Thread Cert.NormMidIdeal.nD Cert.NormMidIdeal.τ).loc Cert.NormMidIdeal.main_arg2)
      ∧ m' ((c.tc : Thread Cert.RefNormMidIdeal.nD Cert.RefNormMidIdeal.τ).loc Cert.RefNormMidIdeal.main_arg3) = m ((c.tc : Thread Cert.NormMidIdeal.nD Cert.NormMidIdeal.τ).loc Cert.NormMidIdeal.main_arg3)
      ∧ m' ((c.tc : Thread Cert.RefNormMidIdeal.nD Cert.RefNormMidIdeal.τ).loc Cert.RefNormMidIdeal.main_arg4) = m ((c.tc : Thread Cert.NormMidIdeal.nD Cert.NormMidIdeal.τ).loc Cert.NormMidIdeal.main_arg4)
      ∧ m' ((c.tc : Thread Cert.RefNormMidIdeal.nD Cert.RefNormMidIdeal.τ).loc Cert.RefNormMidIdeal.main_arg5) = m ((c.tc : Thread Cert.NormMidIdeal.nD Cert.NormMidIdeal.τ).loc Cert.NormMidIdeal.main_arg5)) →
    ∃ (v0 : (c : Dev Cert.NormMidIdeal.nD) → Buf (Elt Ideal) ((c.tc : Thread Cert.NormMidIdeal.nD Cert.NormMidIdeal.τ).loc Cert.NormMidIdeal.main_v0_0)) (v1 : (c : Dev Cert.NormMidIdeal.nD) → Buf (Elt Ideal) ((c.tc : Thread Cert.NormMidIdeal.nD Cert.NormMidIdeal.τ).loc Cert.NormMidIdeal.main_v0_1)) (v2 : (c : Dev Cert.NormMidIdeal.nD) → Buf (Elt Ideal) ((c.tc : Thread Cert.NormMidIdeal.nD Cert.NormMidIdeal.τ).loc Cert.NormMidIdeal.main_v0_2)) (v3 : (c : Dev Cert.NormMidIdeal.nD) → Buf (Elt Ideal) ((c.tc : Thread Cert.NormMidIdeal.nD Cert.NormMidIdeal.τ).loc Cert.NormMidIdeal.main_v0_3)),
      θ_run (Cert.NormMidIdeal.defs (F := Ideal)) (onTc (τ := Cert.NormMidIdeal.τ) (Cert.NormMidIdeal.main (F := Ideal))) ⟨m, fun _ => 0, g⟩ (fun r => ∀ c : Dev Cert.NormMidIdeal.nD,
          r.2.mem ((c.tc : Thread Cert.NormMidIdeal.nD Cert.NormMidIdeal.τ).loc Cert.NormMidIdeal.main_v0_0) = v0 c
          ∧ r.2.mem ((c.tc : Thread Cert.NormMidIdeal.nD Cert.NormMidIdeal.τ).loc Cert.NormMidIdeal.main_v0_1) = v1 c
          ∧ r.2.mem ((c.tc : Thread Cert.NormMidIdeal.nD Cert.NormMidIdeal.τ).loc Cert.NormMidIdeal.main_v0_2) = v2 c
          ∧ r.2.mem ((c.tc : Thread Cert.NormMidIdeal.nD Cert.NormMidIdeal.τ).loc Cert.NormMidIdeal.main_v0_3) = v3 c
          ∧ r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
          ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
          ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
          ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3)
          ∧ r.2.mem ((c.tc : Thread Cert.NormMidIdeal.nD Cert.NormMidIdeal.τ).loc Cert.NormMidIdeal.main_arg4) = m ((c.tc : Thread Cert.NormMidIdeal.nD Cert.NormMidIdeal.τ).loc Cert.NormMidIdeal.main_arg4)
          ∧ r.2.mem ((c.tc : Thread Cert.NormMidIdeal.nD Cert.NormMidIdeal.τ).loc Cert.NormMidIdeal.main_arg5) = m ((c.tc : Thread Cert.NormMidIdeal.nD Cert.NormMidIdeal.τ).loc Cert.NormMidIdeal.main_arg5))
      ∧ θ_run (Cert.RefNormMidIdeal.defs (F := Ideal)) (onTc (τ := Cert.RefNormMidIdeal.τ) (Cert.RefNormMidIdeal.main (F := Ideal))) ⟨m', fun _ => 0, g'⟩ (fun r => ∀ c : Dev Cert.RefNormMidIdeal.nD,
          r.2.mem ((c.tc : Thread Cert.RefNormMidIdeal.nD Cert.RefNormMidIdeal.τ).loc Cert.RefNormMidIdeal.main_v34) = v0 c
          ∧ r.2.mem ((c.tc : Thread Cert.RefNormMidIdeal.nD Cert.RefNormMidIdeal.τ).loc Cert.RefNormMidIdeal.main_v69) = v1 c
          ∧ r.2.mem ((c.tc : Thread Cert.RefNormMidIdeal.nD Cert.RefNormMidIdeal.τ).loc Cert.RefNormMidIdeal.main_v17) = v2 c
          ∧ r.2.mem ((c.tc : Thread Cert.RefNormMidIdeal.nD Cert.RefNormMidIdeal.τ).loc Cert.RefNormMidIdeal.main_v52) = v3 c
          ∧ r.2.mem ((c.tc : Thread Cert.RefNormMidIdeal.nD Cert.RefNormMidIdeal.τ).loc Cert.RefNormMidIdeal.main_arg0) = m' ((c.tc : Thread Cert.RefNormMidIdeal.nD Cert.RefNormMidIdeal.τ).loc Cert.RefNormMidIdeal.main_arg0)
          ∧ r.2.mem ((c.tc : Thread Cert.RefNormMidIdeal.nD Cert.RefNormMidIdeal.τ).loc Cert.RefNormMidIdeal.main_arg1) = m' ((c.tc : Thread Cert.RefNormMidIdeal.nD Cert.RefNormMidIdeal.τ).loc Cert.RefNormMidIdeal.main_arg1)
          ∧ r.2.mem ((c.tc : Thread Cert.RefNormMidIdeal.nD Cert.RefNormMidIdeal.τ).loc Cert.RefNormMidIdeal.main_arg2) = m' ((c.tc : Thread Cert.RefNormMidIdeal.nD Cert.RefNormMidIdeal.τ).loc Cert.RefNormMidIdeal.main_arg2)
          ∧ r.2.mem ((c.tc : Thread Cert.RefNormMidIdeal.nD Cert.RefNormMidIdeal.τ).loc Cert.RefNormMidIdeal.main_arg3) = m' ((c.tc : Thread Cert.RefNormMidIdeal.nD Cert.RefNormMidIdeal.τ).loc Cert.RefNormMidIdeal.main_arg3)
          ∧ r.2.mem ((c.tc : Thread Cert.RefNormMidIdeal.nD Cert.RefNormMidIdeal.τ).loc Cert.RefNormMidIdeal.main_arg4) = m' ((c.tc : Thread Cert.RefNormMidIdeal.nD Cert.RefNormMidIdeal.τ).loc Cert.RefNormMidIdeal.main_arg4)
          ∧ r.2.mem ((c.tc : Thread Cert.RefNormMidIdeal.nD Cert.RefNormMidIdeal.τ).loc Cert.RefNormMidIdeal.main_arg5) = m' ((c.tc : Thread Cert.RefNormMidIdeal.nD Cert.RefNormMidIdeal.τ).loc Cert.RefNormMidIdeal.main_arg5))

def preserves_NormMidTwo_NormMidTwoIdeal : Prop :=
  True

def algebraic_NormMidTwoIdeal_RefNormMidTwoIdeal [hNormMidTwoIdeal : Cert.NormMidTwoIdeal.Facts] [hRefNormMidTwoIdeal : Cert.RefNormMidTwoIdeal.Facts] : Prop :=
  ∀ (m : (ℓ : Loc Cert.NormMidTwoIdeal.nD Cert.NormMidTwoIdeal.τ Cert.NormMidTwoIdeal.sig) → Buf (Elt Ideal) ℓ) (g : Dev Cert.NormMidTwoIdeal.nD → PrngReg)
    (m' : (ℓ : Loc Cert.RefNormMidTwoIdeal.nD Cert.RefNormMidTwoIdeal.τ Cert.RefNormMidTwoIdeal.sig) → Buf (Elt Ideal) ℓ) (g' : Dev Cert.RefNormMidTwoIdeal.nD → PrngReg), Pre_NormMidTwoIdeal m →
    (∀ c : Dev Cert.NormMidTwoIdeal.nD,
      m' ((c.tc : Thread Cert.RefNormMidTwoIdeal.nD Cert.RefNormMidTwoIdeal.τ).loc Cert.RefNormMidTwoIdeal.main_arg0) = m ((c.tc : Thread Cert.NormMidTwoIdeal.nD Cert.NormMidTwoIdeal.τ).loc Cert.NormMidTwoIdeal.main_arg0)
      ∧ m' ((c.tc : Thread Cert.RefNormMidTwoIdeal.nD Cert.RefNormMidTwoIdeal.τ).loc Cert.RefNormMidTwoIdeal.main_arg1) = m ((c.tc : Thread Cert.NormMidTwoIdeal.nD Cert.NormMidTwoIdeal.τ).loc Cert.NormMidTwoIdeal.main_arg1)
      ∧ m' ((c.tc : Thread Cert.RefNormMidTwoIdeal.nD Cert.RefNormMidTwoIdeal.τ).loc Cert.RefNormMidTwoIdeal.main_arg2) = m ((c.tc : Thread Cert.NormMidTwoIdeal.nD Cert.NormMidTwoIdeal.τ).loc Cert.NormMidTwoIdeal.main_arg2)
      ∧ m' ((c.tc : Thread Cert.RefNormMidTwoIdeal.nD Cert.RefNormMidTwoIdeal.τ).loc Cert.RefNormMidTwoIdeal.main_arg3) = m ((c.tc : Thread Cert.NormMidTwoIdeal.nD Cert.NormMidTwoIdeal.τ).loc Cert.NormMidTwoIdeal.main_arg3)
      ∧ m' ((c.tc : Thread Cert.RefNormMidTwoIdeal.nD Cert.RefNormMidTwoIdeal.τ).loc Cert.RefNormMidTwoIdeal.main_arg4) = m ((c.tc : Thread Cert.NormMidTwoIdeal.nD Cert.NormMidTwoIdeal.τ).loc Cert.NormMidTwoIdeal.main_arg4)
      ∧ m' ((c.tc : Thread Cert.RefNormMidTwoIdeal.nD Cert.RefNormMidTwoIdeal.τ).loc Cert.RefNormMidTwoIdeal.main_arg5) = m ((c.tc : Thread Cert.NormMidTwoIdeal.nD Cert.NormMidTwoIdeal.τ).loc Cert.NormMidTwoIdeal.main_arg5)
      ∧ m' ((c.tc : Thread Cert.RefNormMidTwoIdeal.nD Cert.RefNormMidTwoIdeal.τ).loc Cert.RefNormMidTwoIdeal.main_arg6) = m ((c.tc : Thread Cert.NormMidTwoIdeal.nD Cert.NormMidTwoIdeal.τ).loc Cert.NormMidTwoIdeal.main_arg6)) →
    ∃ (v0 : (c : Dev Cert.NormMidTwoIdeal.nD) → Buf (Elt Ideal) ((c.tc : Thread Cert.NormMidTwoIdeal.nD Cert.NormMidTwoIdeal.τ).loc Cert.NormMidTwoIdeal.main_v0_0)) (v1 : (c : Dev Cert.NormMidTwoIdeal.nD) → Buf (Elt Ideal) ((c.tc : Thread Cert.NormMidTwoIdeal.nD Cert.NormMidTwoIdeal.τ).loc Cert.NormMidTwoIdeal.main_v0_1)) (v2 : (c : Dev Cert.NormMidTwoIdeal.nD) → Buf (Elt Ideal) ((c.tc : Thread Cert.NormMidTwoIdeal.nD Cert.NormMidTwoIdeal.τ).loc Cert.NormMidTwoIdeal.main_v0_2)) (v3 : (c : Dev Cert.NormMidTwoIdeal.nD) → Buf (Elt Ideal) ((c.tc : Thread Cert.NormMidTwoIdeal.nD Cert.NormMidTwoIdeal.τ).loc Cert.NormMidTwoIdeal.main_v0_3)),
      θ_run (Cert.NormMidTwoIdeal.defs (F := Ideal)) (onTc (τ := Cert.NormMidTwoIdeal.τ) (Cert.NormMidTwoIdeal.main (F := Ideal))) ⟨m, fun _ => 0, g⟩ (fun r => ∀ c : Dev Cert.NormMidTwoIdeal.nD,
          r.2.mem ((c.tc : Thread Cert.NormMidTwoIdeal.nD Cert.NormMidTwoIdeal.τ).loc Cert.NormMidTwoIdeal.main_v0_0) = v0 c
          ∧ r.2.mem ((c.tc : Thread Cert.NormMidTwoIdeal.nD Cert.NormMidTwoIdeal.τ).loc Cert.NormMidTwoIdeal.main_v0_1) = v1 c
          ∧ r.2.mem ((c.tc : Thread Cert.NormMidTwoIdeal.nD Cert.NormMidTwoIdeal.τ).loc Cert.NormMidTwoIdeal.main_v0_2) = v2 c
          ∧ r.2.mem ((c.tc : Thread Cert.NormMidTwoIdeal.nD Cert.NormMidTwoIdeal.τ).loc Cert.NormMidTwoIdeal.main_v0_3) = v3 c
          ∧ r.2.mem ((c.tc : Thread Cert.NormMidTwoIdeal.nD Cert.NormMidTwoIdeal.τ).loc Cert.NormMidTwoIdeal.main_arg0) = m ((c.tc : Thread Cert.NormMidTwoIdeal.nD Cert.NormMidTwoIdeal.τ).loc Cert.NormMidTwoIdeal.main_arg0)
          ∧ r.2.mem ((c.tc : Thread Cert.NormMidTwoIdeal.nD Cert.NormMidTwoIdeal.τ).loc Cert.NormMidTwoIdeal.main_arg1) = m ((c.tc : Thread Cert.NormMidTwoIdeal.nD Cert.NormMidTwoIdeal.τ).loc Cert.NormMidTwoIdeal.main_arg1)
          ∧ r.2.mem ((c.tc : Thread Cert.NormMidTwoIdeal.nD Cert.NormMidTwoIdeal.τ).loc Cert.NormMidTwoIdeal.main_arg2) = m ((c.tc : Thread Cert.NormMidTwoIdeal.nD Cert.NormMidTwoIdeal.τ).loc Cert.NormMidTwoIdeal.main_arg2)
          ∧ r.2.mem ((c.tc : Thread Cert.NormMidTwoIdeal.nD Cert.NormMidTwoIdeal.τ).loc Cert.NormMidTwoIdeal.main_arg3) = m ((c.tc : Thread Cert.NormMidTwoIdeal.nD Cert.NormMidTwoIdeal.τ).loc Cert.NormMidTwoIdeal.main_arg3)
          ∧ r.2.mem ((c.tc : Thread Cert.NormMidTwoIdeal.nD Cert.NormMidTwoIdeal.τ).loc Cert.NormMidTwoIdeal.main_arg4) = m ((c.tc : Thread Cert.NormMidTwoIdeal.nD Cert.NormMidTwoIdeal.τ).loc Cert.NormMidTwoIdeal.main_arg4)
          ∧ r.2.mem ((c.tc : Thread Cert.NormMidTwoIdeal.nD Cert.NormMidTwoIdeal.τ).loc Cert.NormMidTwoIdeal.main_arg5) = m ((c.tc : Thread Cert.NormMidTwoIdeal.nD Cert.NormMidTwoIdeal.τ).loc Cert.NormMidTwoIdeal.main_arg5)
          ∧ r.2.mem ((c.tc : Thread Cert.NormMidTwoIdeal.nD Cert.NormMidTwoIdeal.τ).loc Cert.NormMidTwoIdeal.main_arg6) = m ((c.tc : Thread Cert.NormMidTwoIdeal.nD Cert.NormMidTwoIdeal.τ).loc Cert.NormMidTwoIdeal.main_arg6))
      ∧ θ_run (Cert.RefNormMidTwoIdeal.defs (F := Ideal)) (onTc (τ := Cert.RefNormMidTwoIdeal.τ) (Cert.RefNormMidTwoIdeal.main (F := Ideal))) ⟨m', fun _ => 0, g'⟩ (fun r => ∀ c : Dev Cert.RefNormMidTwoIdeal.nD,
          r.2.mem ((c.tc : Thread Cert.RefNormMidTwoIdeal.nD Cert.RefNormMidTwoIdeal.τ).loc Cert.RefNormMidTwoIdeal.main_v35) = v0 c
          ∧ r.2.mem ((c.tc : Thread Cert.RefNormMidTwoIdeal.nD Cert.RefNormMidTwoIdeal.τ).loc Cert.RefNormMidTwoIdeal.main_v70) = v1 c
          ∧ r.2.mem ((c.tc : Thread Cert.RefNormMidTwoIdeal.nD Cert.RefNormMidTwoIdeal.τ).loc Cert.RefNormMidTwoIdeal.main_v18) = v2 c
          ∧ r.2.mem ((c.tc : Thread Cert.RefNormMidTwoIdeal.nD Cert.RefNormMidTwoIdeal.τ).loc Cert.RefNormMidTwoIdeal.main_v53) = v3 c
          ∧ r.2.mem ((c.tc : Thread Cert.RefNormMidTwoIdeal.nD Cert.RefNormMidTwoIdeal.τ).loc Cert.RefNormMidTwoIdeal.main_arg0) = m' ((c.tc : Thread Cert.RefNormMidTwoIdeal.nD Cert.RefNormMidTwoIdeal.τ).loc Cert.RefNormMidTwoIdeal.main_arg0)
          ∧ r.2.mem ((c.tc : Thread Cert.RefNormMidTwoIdeal.nD Cert.RefNormMidTwoIdeal.τ).loc Cert.RefNormMidTwoIdeal.main_arg1) = m' ((c.tc : Thread Cert.RefNormMidTwoIdeal.nD Cert.RefNormMidTwoIdeal.τ).loc Cert.RefNormMidTwoIdeal.main_arg1)
          ∧ r.2.mem ((c.tc : Thread Cert.RefNormMidTwoIdeal.nD Cert.RefNormMidTwoIdeal.τ).loc Cert.RefNormMidTwoIdeal.main_arg2) = m' ((c.tc : Thread Cert.RefNormMidTwoIdeal.nD Cert.RefNormMidTwoIdeal.τ).loc Cert.RefNormMidTwoIdeal.main_arg2)
          ∧ r.2.mem ((c.tc : Thread Cert.RefNormMidTwoIdeal.nD Cert.RefNormMidTwoIdeal.τ).loc Cert.RefNormMidTwoIdeal.main_arg3) = m' ((c.tc : Thread Cert.RefNormMidTwoIdeal.nD Cert.RefNormMidTwoIdeal.τ).loc Cert.RefNormMidTwoIdeal.main_arg3)
          ∧ r.2.mem ((c.tc : Thread Cert.RefNormMidTwoIdeal.nD Cert.RefNormMidTwoIdeal.τ).loc Cert.RefNormMidTwoIdeal.main_arg4) = m' ((c.tc : Thread Cert.RefNormMidTwoIdeal.nD Cert.RefNormMidTwoIdeal.τ).loc Cert.RefNormMidTwoIdeal.main_arg4)
          ∧ r.2.mem ((c.tc : Thread Cert.RefNormMidTwoIdeal.nD Cert.RefNormMidTwoIdeal.τ).loc Cert.RefNormMidTwoIdeal.main_arg5) = m' ((c.tc : Thread Cert.RefNormMidTwoIdeal.nD Cert.RefNormMidTwoIdeal.τ).loc Cert.RefNormMidTwoIdeal.main_arg5)
          ∧ r.2.mem ((c.tc : Thread Cert.RefNormMidTwoIdeal.nD Cert.RefNormMidTwoIdeal.τ).loc Cert.RefNormMidTwoIdeal.main_arg6) = m' ((c.tc : Thread Cert.RefNormMidTwoIdeal.nD Cert.RefNormMidTwoIdeal.τ).loc Cert.RefNormMidTwoIdeal.main_arg6))

def preserves_NormLast_NormLastIdeal : Prop :=
  True

def algebraic_NormLastIdeal_RefNormLastIdeal [hNormLastIdeal : Cert.NormLastIdeal.Facts] [hRefNormLastIdeal : Cert.RefNormLastIdeal.Facts] : Prop :=
  ∀ (m : (ℓ : Loc Cert.NormLastIdeal.nD Cert.NormLastIdeal.τ Cert.NormLastIdeal.sig) → Buf (Elt Ideal) ℓ) (g : Dev Cert.NormLastIdeal.nD → PrngReg)
    (m' : (ℓ : Loc Cert.RefNormLastIdeal.nD Cert.RefNormLastIdeal.τ Cert.RefNormLastIdeal.sig) → Buf (Elt Ideal) ℓ) (g' : Dev Cert.RefNormLastIdeal.nD → PrngReg), Pre_NormLastIdeal m →
    (∀ c : Dev Cert.NormLastIdeal.nD,
      m' ((c.tc : Thread Cert.RefNormLastIdeal.nD Cert.RefNormLastIdeal.τ).loc Cert.RefNormLastIdeal.main_arg0) = m ((c.tc : Thread Cert.NormLastIdeal.nD Cert.NormLastIdeal.τ).loc Cert.NormLastIdeal.main_arg0)
      ∧ m' ((c.tc : Thread Cert.RefNormLastIdeal.nD Cert.RefNormLastIdeal.τ).loc Cert.RefNormLastIdeal.main_arg1) = m ((c.tc : Thread Cert.NormLastIdeal.nD Cert.NormLastIdeal.τ).loc Cert.NormLastIdeal.main_arg1)
      ∧ m' ((c.tc : Thread Cert.RefNormLastIdeal.nD Cert.RefNormLastIdeal.τ).loc Cert.RefNormLastIdeal.main_arg2) = m ((c.tc : Thread Cert.NormLastIdeal.nD Cert.NormLastIdeal.τ).loc Cert.NormLastIdeal.main_arg2)) →
    ∃ (v0 : (c : Dev Cert.NormLastIdeal.nD) → Buf (Elt Ideal) ((c.tc : Thread Cert.NormLastIdeal.nD Cert.NormLastIdeal.τ).loc Cert.NormLastIdeal.main_v0_0)) (v1 : (c : Dev Cert.NormLastIdeal.nD) → Buf (Elt Ideal) ((c.tc : Thread Cert.NormLastIdeal.nD Cert.NormLastIdeal.τ).loc Cert.NormLastIdeal.main_v0_1)) (v2 : (c : Dev Cert.NormLastIdeal.nD) → Buf (Elt Ideal) ((c.tc : Thread Cert.NormLastIdeal.nD Cert.NormLastIdeal.τ).loc Cert.NormLastIdeal.main_v0_2)),
      θ_run (Cert.NormLastIdeal.defs (F := Ideal)) (onTc (τ := Cert.NormLastIdeal.τ) (Cert.NormLastIdeal.main (F := Ideal))) ⟨m, fun _ => 0, g⟩ (fun r => ∀ c : Dev Cert.NormLastIdeal.nD,
          r.2.mem ((c.tc : Thread Cert.NormLastIdeal.nD Cert.NormLastIdeal.τ).loc Cert.NormLastIdeal.main_v0_0) = v0 c
          ∧ r.2.mem ((c.tc : Thread Cert.NormLastIdeal.nD Cert.NormLastIdeal.τ).loc Cert.NormLastIdeal.main_v0_1) = v1 c
          ∧ r.2.mem ((c.tc : Thread Cert.NormLastIdeal.nD Cert.NormLastIdeal.τ).loc Cert.NormLastIdeal.main_v0_2) = v2 c
          ∧ r.2.mem ((c.tc : Thread Cert.NormLastIdeal.nD Cert.NormLastIdeal.τ).loc Cert.NormLastIdeal.main_arg0) = m ((c.tc : Thread Cert.NormLastIdeal.nD Cert.NormLastIdeal.τ).loc Cert.NormLastIdeal.main_arg0)
          ∧ r.2.mem ((c.tc : Thread Cert.NormLastIdeal.nD Cert.NormLastIdeal.τ).loc Cert.NormLastIdeal.main_arg1) = m ((c.tc : Thread Cert.NormLastIdeal.nD Cert.NormLastIdeal.τ).loc Cert.NormLastIdeal.main_arg1)
          ∧ r.2.mem ((c.tc : Thread Cert.NormLastIdeal.nD Cert.NormLastIdeal.τ).loc Cert.NormLastIdeal.main_arg2) = m ((c.tc : Thread Cert.NormLastIdeal.nD Cert.NormLastIdeal.τ).loc Cert.NormLastIdeal.main_arg2))
      ∧ θ_run (Cert.RefNormLastIdeal.defs (F := Ideal)) (onTc (τ := Cert.RefNormLastIdeal.τ) (Cert.RefNormLastIdeal.main (F := Ideal))) ⟨m', fun _ => 0, g'⟩ (fun r => ∀ c : Dev Cert.RefNormLastIdeal.nD,
          r.2.mem ((c.tc : Thread Cert.RefNormLastIdeal.nD Cert.RefNormLastIdeal.τ).loc Cert.RefNormLastIdeal.main_arg0) = v0 c
          ∧ r.2.mem ((c.tc : Thread Cert.RefNormLastIdeal.nD Cert.RefNormLastIdeal.τ).loc Cert.RefNormLastIdeal.main_v34) = v1 c
          ∧ r.2.mem ((c.tc : Thread Cert.RefNormLastIdeal.nD Cert.RefNormLastIdeal.τ).loc Cert.RefNormLastIdeal.main_v17) = v2 c
          ∧ r.2.mem ((c.tc : Thread Cert.RefNormLastIdeal.nD Cert.RefNormLastIdeal.τ).loc Cert.RefNormLastIdeal.main_arg0) = m' ((c.tc : Thread Cert.RefNormLastIdeal.nD Cert.RefNormLastIdeal.τ).loc Cert.RefNormLastIdeal.main_arg0)
          ∧ r.2.mem ((c.tc : Thread Cert.RefNormLastIdeal.nD Cert.RefNormLastIdeal.τ).loc Cert.RefNormLastIdeal.main_arg1) = m' ((c.tc : Thread Cert.RefNormLastIdeal.nD Cert.RefNormLastIdeal.τ).loc Cert.RefNormLastIdeal.main_arg1)
          ∧ r.2.mem ((c.tc : Thread Cert.RefNormLastIdeal.nD Cert.RefNormLastIdeal.τ).loc Cert.RefNormLastIdeal.main_arg2) = m' ((c.tc : Thread Cert.RefNormLastIdeal.nD Cert.RefNormLastIdeal.τ).loc Cert.RefNormLastIdeal.main_arg2))

def preserves_NormGain_NormGainIdeal : Prop :=
  True

def algebraic_NormGainIdeal_RefNormGainIdeal [hNormGainIdeal : Cert.NormGainIdeal.Facts] [hRefNormGainIdeal : Cert.RefNormGainIdeal.Facts] : Prop :=
  ∀ (m : (ℓ : Loc Cert.NormGainIdeal.nD Cert.NormGainIdeal.τ Cert.NormGainIdeal.sig) → Buf (Elt Ideal) ℓ) (g : Dev Cert.NormGainIdeal.nD → PrngReg)
    (m' : (ℓ : Loc Cert.RefNormGainIdeal.nD Cert.RefNormGainIdeal.τ Cert.RefNormGainIdeal.sig) → Buf (Elt Ideal) ℓ) (g' : Dev Cert.RefNormGainIdeal.nD → PrngReg), Pre_NormGainIdeal m →
    (∀ c : Dev Cert.NormGainIdeal.nD,
      m' ((c.tc : Thread Cert.RefNormGainIdeal.nD Cert.RefNormGainIdeal.τ).loc Cert.RefNormGainIdeal.main_arg0) = m ((c.tc : Thread Cert.NormGainIdeal.nD Cert.NormGainIdeal.τ).loc Cert.NormGainIdeal.main_arg0)
      ∧ m' ((c.tc : Thread Cert.RefNormGainIdeal.nD Cert.RefNormGainIdeal.τ).loc Cert.RefNormGainIdeal.main_arg1) = m ((c.tc : Thread Cert.NormGainIdeal.nD Cert.NormGainIdeal.τ).loc Cert.NormGainIdeal.main_arg1)
      ∧ m' ((c.tc : Thread Cert.RefNormGainIdeal.nD Cert.RefNormGainIdeal.τ).loc Cert.RefNormGainIdeal.main_arg2) = m ((c.tc : Thread Cert.NormGainIdeal.nD Cert.NormGainIdeal.τ).loc Cert.NormGainIdeal.main_arg2)) →
    ∃ (v0 : (c : Dev Cert.NormGainIdeal.nD) → Buf (Elt Ideal) ((c.tc : Thread Cert.NormGainIdeal.nD Cert.NormGainIdeal.τ).loc Cert.NormGainIdeal.main_v0)),
      θ_run (Cert.NormGainIdeal.defs (F := Ideal)) (onTc (τ := Cert.NormGainIdeal.τ) (Cert.NormGainIdeal.main (F := Ideal))) ⟨m, fun _ => 0, g⟩ (fun r => ∀ c : Dev Cert.NormGainIdeal.nD,
          r.2.mem ((c.tc : Thread Cert.NormGainIdeal.nD Cert.NormGainIdeal.τ).loc Cert.NormGainIdeal.main_v0) = v0 c
          ∧ r.2.mem ((c.tc : Thread Cert.NormGainIdeal.nD Cert.NormGainIdeal.τ).loc Cert.NormGainIdeal.main_arg0) = m ((c.tc : Thread Cert.NormGainIdeal.nD Cert.NormGainIdeal.τ).loc Cert.NormGainIdeal.main_arg0)
          ∧ r.2.mem ((c.tc : Thread Cert.NormGainIdeal.nD Cert.NormGainIdeal.τ).loc Cert.NormGainIdeal.main_arg1) = m ((c.tc : Thread Cert.NormGainIdeal.nD Cert.NormGainIdeal.τ).loc Cert.NormGainIdeal.main_arg1)
          ∧ r.2.mem ((c.tc : Thread Cert.NormGainIdeal.nD Cert.NormGainIdeal.τ).loc Cert.NormGainIdeal.main_arg2) = m ((c.tc : Thread Cert.NormGainIdeal.nD Cert.NormGainIdeal.τ).loc Cert.NormGainIdeal.main_arg2))
      ∧ θ_run (Cert.RefNormGainIdeal.defs (F := Ideal)) (onTc (τ := Cert.RefNormGainIdeal.τ) (Cert.RefNormGainIdeal.main (F := Ideal))) ⟨m', fun _ => 0, g'⟩ (fun r => ∀ c : Dev Cert.RefNormGainIdeal.nD,
          r.2.mem ((c.tc : Thread Cert.RefNormGainIdeal.nD Cert.RefNormGainIdeal.τ).loc Cert.RefNormGainIdeal.main_v17) = v0 c
          ∧ r.2.mem ((c.tc : Thread Cert.RefNormGainIdeal.nD Cert.RefNormGainIdeal.τ).loc Cert.RefNormGainIdeal.main_arg0) = m' ((c.tc : Thread Cert.RefNormGainIdeal.nD Cert.RefNormGainIdeal.τ).loc Cert.RefNormGainIdeal.main_arg0)
          ∧ r.2.mem ((c.tc : Thread Cert.RefNormGainIdeal.nD Cert.RefNormGainIdeal.τ).loc Cert.RefNormGainIdeal.main_arg1) = m' ((c.tc : Thread Cert.RefNormGainIdeal.nD Cert.RefNormGainIdeal.τ).loc Cert.RefNormGainIdeal.main_arg1)
          ∧ r.2.mem ((c.tc : Thread Cert.RefNormGainIdeal.nD Cert.RefNormGainIdeal.τ).loc Cert.RefNormGainIdeal.main_arg2) = m' ((c.tc : Thread Cert.RefNormGainIdeal.nD Cert.RefNormGainIdeal.τ).loc Cert.RefNormGainIdeal.main_arg2))

def preserves_LossSum_LossSumIdeal : Prop :=
  True

def algebraic_LossSumIdeal_RefLossSumIdeal [hLossSumIdeal : Cert.LossSumIdeal.Facts] [hRefLossSumIdeal : Cert.RefLossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg)
    (m' : (ℓ : Loc Cert.RefLossSumIdeal.nD Cert.RefLossSumIdeal.τ Cert.RefLossSumIdeal.sig) → Buf (Elt Ideal) ℓ) (g' : Dev Cert.RefLossSumIdeal.nD → PrngReg), Pre_LossSumIdeal m →
    (∀ c : Dev Cert.LossSumIdeal.nD,
      m ((c.tc : Thread Cert.LossSumIdeal.nD Cert.LossSumIdeal.τ).loc Cert.LossSumIdeal.main_arg0) = Layout.block ⟨2, ![1, 128]⟩ ⟨2, ![8, 128]⟩ 0 8 c (m' (((0 : Dev Cert.RefLossSumIdeal.nD).tc : Thread Cert.RefLossSumIdeal.nD Cert.RefLossSumIdeal.τ).loc Cert.RefLossSumIdeal.main_arg0))) →
    ∃ (v0 : Buf (Elt Ideal) (((0 : Dev Cert.RefLossSumIdeal.nD).tc : Thread Cert.RefLossSumIdeal.nD Cert.RefLossSumIdeal.τ).loc Cert.RefLossSumIdeal.main_v2)),
      θ_run (Cert.LossSumIdeal.defs (F := Ideal)) (onTc (τ := Cert.LossSumIdeal.τ) (Cert.LossSumIdeal.main (F := Ideal))) ⟨m, fun _ => 0, g⟩ (fun r => ∀ c : Dev Cert.LossSumIdeal.nD,
          r.2.mem ((c.tc : Thread Cert.LossSumIdeal.nD Cert.LossSumIdeal.τ).loc Cert.LossSumIdeal.main_v3) = v0
          ∧ r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ θ_run (Cert.RefLossSumIdeal.defs (F := Ideal)) (onTc (τ := Cert.RefLossSumIdeal.τ) (Cert.RefLossSumIdeal.main (F := Ideal))) ⟨m', fun _ => 0, g'⟩ (fun r =>
          r.2.mem (((0 : Dev Cert.RefLossSumIdeal.nD).tc : Thread Cert.RefLossSumIdeal.nD Cert.RefLossSumIdeal.τ).loc Cert.RefLossSumIdeal.main_v2) = v0
          ∧ r.2.mem (((0 : Dev Cert.RefLossSumIdeal.nD).tc : Thread Cert.RefLossSumIdeal.nD Cert.RefLossSumIdeal.τ).loc Cert.RefLossSumIdeal.main_arg0) = m' (((0 : Dev Cert.RefLossSumIdeal.nD).tc : Thread Cert.RefLossSumIdeal.nD Cert.RefLossSumIdeal.τ).loc Cert.RefLossSumIdeal.main_arg0))

def preserves_RopeBack_RopeBackIdeal : Prop :=
  True

def algebraic_RopeBackIdeal_RefRopeBackIdeal [hRopeBackIdeal : Cert.RopeBackIdeal.Facts] [hRefRopeBackIdeal : Cert.RefRopeBackIdeal.Facts] : Prop :=
  ∀ (m : (ℓ : Loc Cert.RopeBackIdeal.nD Cert.RopeBackIdeal.τ Cert.RopeBackIdeal.sig) → Buf (Elt Ideal) ℓ) (g : Dev Cert.RopeBackIdeal.nD → PrngReg)
    (m' : (ℓ : Loc Cert.RefRopeBackIdeal.nD Cert.RefRopeBackIdeal.τ Cert.RefRopeBackIdeal.sig) → Buf (Elt Ideal) ℓ) (g' : Dev Cert.RefRopeBackIdeal.nD → PrngReg), Pre_RopeBackIdeal m →
    (∀ c : Dev Cert.RopeBackIdeal.nD,
      m' ((c.tc : Thread Cert.RefRopeBackIdeal.nD Cert.RefRopeBackIdeal.τ).loc Cert.RefRopeBackIdeal.main_arg0) = m ((c.tc : Thread Cert.RopeBackIdeal.nD Cert.RopeBackIdeal.τ).loc Cert.RopeBackIdeal.main_arg0)
      ∧ m' ((c.tc : Thread Cert.RefRopeBackIdeal.nD Cert.RefRopeBackIdeal.τ).loc Cert.RefRopeBackIdeal.main_arg1) = m ((c.tc : Thread Cert.RopeBackIdeal.nD Cert.RopeBackIdeal.τ).loc Cert.RopeBackIdeal.main_arg1)
      ∧ m' ((c.tc : Thread Cert.RefRopeBackIdeal.nD Cert.RefRopeBackIdeal.τ).loc Cert.RefRopeBackIdeal.main_arg2) = m ((c.tc : Thread Cert.RopeBackIdeal.nD Cert.RopeBackIdeal.τ).loc Cert.RopeBackIdeal.main_arg2)
      ∧ m' ((c.tc : Thread Cert.RefRopeBackIdeal.nD Cert.RefRopeBackIdeal.τ).loc Cert.RefRopeBackIdeal.main_arg3) = m ((c.tc : Thread Cert.RopeBackIdeal.nD Cert.RopeBackIdeal.τ).loc Cert.RopeBackIdeal.main_arg3)
      ∧ m' ((c.tc : Thread Cert.RefRopeBackIdeal.nD Cert.RefRopeBackIdeal.τ).loc Cert.RefRopeBackIdeal.main_arg4) = m ((c.tc : Thread Cert.RopeBackIdeal.nD Cert.RopeBackIdeal.τ).loc Cert.RopeBackIdeal.main_arg4)
      ∧ m' ((c.tc : Thread Cert.RefRopeBackIdeal.nD Cert.RefRopeBackIdeal.τ).loc Cert.RefRopeBackIdeal.main_arg5) = m ((c.tc : Thread Cert.RopeBackIdeal.nD Cert.RopeBackIdeal.τ).loc Cert.RopeBackIdeal.main_arg5)
      ∧ m' ((c.tc : Thread Cert.RefRopeBackIdeal.nD Cert.RefRopeBackIdeal.τ).loc Cert.RefRopeBackIdeal.main_arg6) = m ((c.tc : Thread Cert.RopeBackIdeal.nD Cert.RopeBackIdeal.τ).loc Cert.RopeBackIdeal.main_arg6)
      ∧ m' ((c.tc : Thread Cert.RefRopeBackIdeal.nD Cert.RefRopeBackIdeal.τ).loc Cert.RefRopeBackIdeal.main_arg7) = m ((c.tc : Thread Cert.RopeBackIdeal.nD Cert.RopeBackIdeal.τ).loc Cert.RopeBackIdeal.main_arg7)
      ∧ m' ((c.tc : Thread Cert.RefRopeBackIdeal.nD Cert.RefRopeBackIdeal.τ).loc Cert.RefRopeBackIdeal.main_arg8) = m ((c.tc : Thread Cert.RopeBackIdeal.nD Cert.RopeBackIdeal.τ).loc Cert.RopeBackIdeal.main_arg8)
      ∧ m' ((c.tc : Thread Cert.RefRopeBackIdeal.nD Cert.RefRopeBackIdeal.τ).loc Cert.RefRopeBackIdeal.main_arg9) = m ((c.tc : Thread Cert.RopeBackIdeal.nD Cert.RopeBackIdeal.τ).loc Cert.RopeBackIdeal.main_arg9)) →
    ∃ (v0 : (c : Dev Cert.RopeBackIdeal.nD) → Buf (Elt Ideal) ((c.tc : Thread Cert.RopeBackIdeal.nD Cert.RopeBackIdeal.τ).loc Cert.RopeBackIdeal.main_v20)),
      θ_run (Cert.RopeBackIdeal.defs (F := Ideal)) (onTc (τ := Cert.RopeBackIdeal.τ) (Cert.RopeBackIdeal.main (F := Ideal))) ⟨m, fun _ => 0, g⟩ (fun r => ∀ c : Dev Cert.RopeBackIdeal.nD,
          r.2.mem ((c.tc : Thread Cert.RopeBackIdeal.nD Cert.RopeBackIdeal.τ).loc Cert.RopeBackIdeal.main_v20) = v0 c
          ∧ r.2.mem ((c.tc : Thread Cert.RopeBackIdeal.nD Cert.RopeBackIdeal.τ).loc Cert.RopeBackIdeal.main_arg0) = m ((c.tc : Thread Cert.RopeBackIdeal.nD Cert.RopeBackIdeal.τ).loc Cert.RopeBackIdeal.main_arg0)
          ∧ r.2.mem ((c.tc : Thread Cert.RopeBackIdeal.nD Cert.RopeBackIdeal.τ).loc Cert.RopeBackIdeal.main_arg1) = m ((c.tc : Thread Cert.RopeBackIdeal.nD Cert.RopeBackIdeal.τ).loc Cert.RopeBackIdeal.main_arg1)
          ∧ r.2.mem ((c.tc : Thread Cert.RopeBackIdeal.nD Cert.RopeBackIdeal.τ).loc Cert.RopeBackIdeal.main_arg2) = m ((c.tc : Thread Cert.RopeBackIdeal.nD Cert.RopeBackIdeal.τ).loc Cert.RopeBackIdeal.main_arg2)
          ∧ r.2.mem ((c.tc : Thread Cert.RopeBackIdeal.nD Cert.RopeBackIdeal.τ).loc Cert.RopeBackIdeal.main_arg3) = m ((c.tc : Thread Cert.RopeBackIdeal.nD Cert.RopeBackIdeal.τ).loc Cert.RopeBackIdeal.main_arg3)
          ∧ r.2.mem ((c.tc : Thread Cert.RopeBackIdeal.nD Cert.RopeBackIdeal.τ).loc Cert.RopeBackIdeal.main_arg4) = m ((c.tc : Thread Cert.RopeBackIdeal.nD Cert.RopeBackIdeal.τ).loc Cert.RopeBackIdeal.main_arg4)
          ∧ r.2.mem ((c.tc : Thread Cert.RopeBackIdeal.nD Cert.RopeBackIdeal.τ).loc Cert.RopeBackIdeal.main_arg5) = m ((c.tc : Thread Cert.RopeBackIdeal.nD Cert.RopeBackIdeal.τ).loc Cert.RopeBackIdeal.main_arg5)
          ∧ r.2.mem ((c.tc : Thread Cert.RopeBackIdeal.nD Cert.RopeBackIdeal.τ).loc Cert.RopeBackIdeal.main_arg6) = m ((c.tc : Thread Cert.RopeBackIdeal.nD Cert.RopeBackIdeal.τ).loc Cert.RopeBackIdeal.main_arg6)
          ∧ r.2.mem ((c.tc : Thread Cert.RopeBackIdeal.nD Cert.RopeBackIdeal.τ).loc Cert.RopeBackIdeal.main_arg7) = m ((c.tc : Thread Cert.RopeBackIdeal.nD Cert.RopeBackIdeal.τ).loc Cert.RopeBackIdeal.main_arg7)
          ∧ r.2.mem ((c.tc : Thread Cert.RopeBackIdeal.nD Cert.RopeBackIdeal.τ).loc Cert.RopeBackIdeal.main_arg8) = m ((c.tc : Thread Cert.RopeBackIdeal.nD Cert.RopeBackIdeal.τ).loc Cert.RopeBackIdeal.main_arg8)
          ∧ r.2.mem ((c.tc : Thread Cert.RopeBackIdeal.nD Cert.RopeBackIdeal.τ).loc Cert.RopeBackIdeal.main_arg9) = m ((c.tc : Thread Cert.RopeBackIdeal.nD Cert.RopeBackIdeal.τ).loc Cert.RopeBackIdeal.main_arg9))
      ∧ θ_run (Cert.RefRopeBackIdeal.defs (F := Ideal)) (onTc (τ := Cert.RefRopeBackIdeal.τ) (Cert.RefRopeBackIdeal.main (F := Ideal))) ⟨m', fun _ => 0, g'⟩ (fun r => ∀ c : Dev Cert.RefRopeBackIdeal.nD,
          r.2.mem ((c.tc : Thread Cert.RefRopeBackIdeal.nD Cert.RefRopeBackIdeal.τ).loc Cert.RefRopeBackIdeal.main_v106) = v0 c
          ∧ r.2.mem ((c.tc : Thread Cert.RefRopeBackIdeal.nD Cert.RefRopeBackIdeal.τ).loc Cert.RefRopeBackIdeal.main_arg0) = m' ((c.tc : Thread Cert.RefRopeBackIdeal.nD Cert.RefRopeBackIdeal.τ).loc Cert.RefRopeBackIdeal.main_arg0)
          ∧ r.2.mem ((c.tc : Thread Cert.RefRopeBackIdeal.nD Cert.RefRopeBackIdeal.τ).loc Cert.RefRopeBackIdeal.main_arg1) = m' ((c.tc : Thread Cert.RefRopeBackIdeal.nD Cert.RefRopeBackIdeal.τ).loc Cert.RefRopeBackIdeal.main_arg1)
          ∧ r.2.mem ((c.tc : Thread Cert.RefRopeBackIdeal.nD Cert.RefRopeBackIdeal.τ).loc Cert.RefRopeBackIdeal.main_arg2) = m' ((c.tc : Thread Cert.RefRopeBackIdeal.nD Cert.RefRopeBackIdeal.τ).loc Cert.RefRopeBackIdeal.main_arg2)
          ∧ r.2.mem ((c.tc : Thread Cert.RefRopeBackIdeal.nD Cert.RefRopeBackIdeal.τ).loc Cert.RefRopeBackIdeal.main_arg3) = m' ((c.tc : Thread Cert.RefRopeBackIdeal.nD Cert.RefRopeBackIdeal.τ).loc Cert.RefRopeBackIdeal.main_arg3)
          ∧ r.2.mem ((c.tc : Thread Cert.RefRopeBackIdeal.nD Cert.RefRopeBackIdeal.τ).loc Cert.RefRopeBackIdeal.main_arg4) = m' ((c.tc : Thread Cert.RefRopeBackIdeal.nD Cert.RefRopeBackIdeal.τ).loc Cert.RefRopeBackIdeal.main_arg4)
          ∧ r.2.mem ((c.tc : Thread Cert.RefRopeBackIdeal.nD Cert.RefRopeBackIdeal.τ).loc Cert.RefRopeBackIdeal.main_arg5) = m' ((c.tc : Thread Cert.RefRopeBackIdeal.nD Cert.RefRopeBackIdeal.τ).loc Cert.RefRopeBackIdeal.main_arg5)
          ∧ r.2.mem ((c.tc : Thread Cert.RefRopeBackIdeal.nD Cert.RefRopeBackIdeal.τ).loc Cert.RefRopeBackIdeal.main_arg6) = m' ((c.tc : Thread Cert.RefRopeBackIdeal.nD Cert.RefRopeBackIdeal.τ).loc Cert.RefRopeBackIdeal.main_arg6)
          ∧ r.2.mem ((c.tc : Thread Cert.RefRopeBackIdeal.nD Cert.RefRopeBackIdeal.τ).loc Cert.RefRopeBackIdeal.main_arg7) = m' ((c.tc : Thread Cert.RefRopeBackIdeal.nD Cert.RefRopeBackIdeal.τ).loc Cert.RefRopeBackIdeal.main_arg7)
          ∧ r.2.mem ((c.tc : Thread Cert.RefRopeBackIdeal.nD Cert.RefRopeBackIdeal.τ).loc Cert.RefRopeBackIdeal.main_arg8) = m' ((c.tc : Thread Cert.RefRopeBackIdeal.nD Cert.RefRopeBackIdeal.τ).loc Cert.RefRopeBackIdeal.main_arg8)
          ∧ r.2.mem ((c.tc : Thread Cert.RefRopeBackIdeal.nD Cert.RefRopeBackIdeal.τ).loc Cert.RefRopeBackIdeal.main_arg9) = m' ((c.tc : Thread Cert.RefRopeBackIdeal.nD Cert.RefRopeBackIdeal.τ).loc Cert.RefRopeBackIdeal.main_arg9))

def preserves_InNorm_InNormIdeal : Prop :=
  True

def algebraic_InNormIdeal_RefInNormIdeal [hInNormIdeal : Cert.InNormIdeal.Facts] [hRefInNormIdeal : Cert.RefInNormIdeal.Facts] : Prop :=
  ∀ (m : (ℓ : Loc Cert.InNormIdeal.nD Cert.InNormIdeal.τ Cert.InNormIdeal.sig) → Buf (Elt Ideal) ℓ) (g : Dev Cert.InNormIdeal.nD → PrngReg)
    (m' : (ℓ : Loc Cert.RefInNormIdeal.nD Cert.RefInNormIdeal.τ Cert.RefInNormIdeal.sig) → Buf (Elt Ideal) ℓ) (g' : Dev Cert.RefInNormIdeal.nD → PrngReg), Pre_InNormIdeal m →
    (∀ c : Dev Cert.InNormIdeal.nD,
      m' ((c.tc : Thread Cert.RefInNormIdeal.nD Cert.RefInNormIdeal.τ).loc Cert.RefInNormIdeal.main_arg0) = m ((c.tc : Thread Cert.InNormIdeal.nD Cert.InNormIdeal.τ).loc Cert.InNormIdeal.main_arg0)
      ∧ m' ((c.tc : Thread Cert.RefInNormIdeal.nD Cert.RefInNormIdeal.τ).loc Cert.RefInNormIdeal.main_arg1) = m ((c.tc : Thread Cert.InNormIdeal.nD Cert.InNormIdeal.τ).loc Cert.InNormIdeal.main_arg1)) →
    ∃ (v0 : (c : Dev Cert.InNormIdeal.nD) → Buf (Elt Ideal) ((c.tc : Thread Cert.InNormIdeal.nD Cert.InNormIdeal.τ).loc Cert.InNormIdeal.main_v0)),
      θ_run (Cert.InNormIdeal.defs (F := Ideal)) (onTc (τ := Cert.InNormIdeal.τ) (Cert.InNormIdeal.main (F := Ideal))) ⟨m, fun _ => 0, g⟩ (fun r => ∀ c : Dev Cert.InNormIdeal.nD,
          r.2.mem ((c.tc : Thread Cert.InNormIdeal.nD Cert.InNormIdeal.τ).loc Cert.InNormIdeal.main_v0) = v0 c
          ∧ r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
          ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1))
      ∧ θ_run (Cert.RefInNormIdeal.defs (F := Ideal)) (onTc (τ := Cert.RefInNormIdeal.τ) (Cert.RefInNormIdeal.main (F := Ideal))) ⟨m', fun _ => 0, g'⟩ (fun r => ∀ c : Dev Cert.RefInNormIdeal.nD,
          r.2.mem ((c.tc : Thread Cert.RefInNormIdeal.nD Cert.RefInNormIdeal.τ).loc Cert.RefInNormIdeal.main_v12) = v0 c
          ∧ r.2.mem ((c.tc : Thread Cert.RefInNormIdeal.nD Cert.RefInNormIdeal.τ).loc Cert.RefInNormIdeal.main_arg0) = m' ((c.tc : Thread Cert.RefInNormIdeal.nD Cert.RefInNormIdeal.τ).loc Cert.RefInNormIdeal.main_arg0)
          ∧ r.2.mem ((c.tc : Thread Cert.RefInNormIdeal.nD Cert.RefInNormIdeal.τ).loc Cert.RefInNormIdeal.main_arg1) = m' ((c.tc : Thread Cert.RefInNormIdeal.nD Cert.RefInNormIdeal.τ).loc Cert.RefInNormIdeal.main_arg1))

def preserves_MemNorm_MemNormIdeal : Prop :=
  True

def algebraic_MemNormIdeal_RefMemNormIdeal [hMemNormIdeal : Cert.MemNormIdeal.Facts] [hRefMemNormIdeal : Cert.RefMemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.RefMemNormIdeal.nD Cert.RefMemNormIdeal.τ Cert.RefMemNormIdeal.sig) → Buf (Elt Ideal) ℓ) (g' : Dev Cert.RefMemNormIdeal.nD → PrngReg), Pre_MemNormIdeal m →
    (∀ c : Dev Cert.MemNormIdeal.nD,
      m' ((c.tc : Thread Cert.RefMemNormIdeal.nD Cert.RefMemNormIdeal.τ).loc Cert.RefMemNormIdeal.main_arg0) = m ((c.tc : Thread Cert.MemNormIdeal.nD Cert.MemNormIdeal.τ).loc Cert.MemNormIdeal.main_arg0)
      ∧ m' ((c.tc : Thread Cert.RefMemNormIdeal.nD Cert.RefMemNormIdeal.τ).loc Cert.RefMemNormIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.RefMemNormIdeal.defs (F := Ideal)) (onTc (τ := Cert.RefMemNormIdeal.τ) (Cert.RefMemNormIdeal.main (F := Ideal))) ⟨m', fun _ => 0, g'⟩ (fun r => ∀ c : Dev Cert.RefMemNormIdeal.nD,
          r.2.mem ((c.tc : Thread Cert.RefMemNormIdeal.nD Cert.RefMemNormIdeal.τ).loc Cert.RefMemNormIdeal.main_v12) = v0 c
          ∧ r.2.mem ((c.tc : Thread Cert.RefMemNormIdeal.nD Cert.RefMemNormIdeal.τ).loc Cert.RefMemNormIdeal.main_arg0) = m' ((c.tc : Thread Cert.RefMemNormIdeal.nD Cert.RefMemNormIdeal.τ).loc Cert.RefMemNormIdeal.main_arg0)
          ∧ r.2.mem ((c.tc : Thread Cert.RefMemNormIdeal.nD Cert.RefMemNormIdeal.τ).loc Cert.RefMemNormIdeal.main_arg1) = m' ((c.tc : Thread Cert.RefMemNormIdeal.nD Cert.RefMemNormIdeal.τ).loc Cert.RefMemNormIdeal.main_arg1))

def preserves_ResNorm_ResNormIdeal : Prop :=
  True

def algebraic_ResNormIdeal_RefResNormIdeal [hResNormIdeal : Cert.ResNormIdeal.Facts] [hRefResNormIdeal : Cert.RefResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.RefResNormIdeal.nD Cert.RefResNormIdeal.τ Cert.RefResNormIdeal.sig) → Buf (Elt Ideal) ℓ) (g' : Dev Cert.RefResNormIdeal.nD → PrngReg), Pre_ResNormIdeal m →
    (∀ c : Dev Cert.ResNormIdeal.nD,
      m' ((c.tc : Thread Cert.RefResNormIdeal.nD Cert.RefResNormIdeal.τ).loc Cert.RefResNormIdeal.main_arg0) = m ((c.tc : Thread Cert.ResNormIdeal.nD Cert.ResNormIdeal.τ).loc Cert.ResNormIdeal.main_arg0)
      ∧ m' ((c.tc : Thread Cert.RefResNormIdeal.nD Cert.RefResNormIdeal.τ).loc Cert.RefResNormIdeal.main_arg1) = m ((c.tc : Thread Cert.ResNormIdeal.nD Cert.ResNormIdeal.τ).loc Cert.ResNormIdeal.main_arg1)
      ∧ m' ((c.tc : Thread Cert.RefResNormIdeal.nD Cert.RefResNormIdeal.τ).loc Cert.RefResNormIdeal.main_arg2) = m ((c.tc : Thread Cert.ResNormIdeal.nD Cert.ResNormIdeal.τ).loc Cert.ResNormIdeal.main_arg2)
      ∧ m' ((c.tc : Thread Cert.RefResNormIdeal.nD Cert.RefResNormIdeal.τ).loc Cert.RefResNormIdeal.main_arg3) = m ((c.tc : Thread Cert.ResNormIdeal.nD Cert.ResNormIdeal.τ).loc Cert.ResNormIdeal.main_arg3)) →
    ∃ (v0 : (c : Dev Cert.ResNormIdeal.nD) → Buf (Elt Ideal) ((c.tc : Thread Cert.ResNormIdeal.nD Cert.ResNormIdeal.τ).loc Cert.ResNormIdeal.main_v0_0)) (v1 : (c : Dev Cert.ResNormIdeal.nD) → Buf (Elt Ideal) ((c.tc : Thread Cert.ResNormIdeal.nD Cert.ResNormIdeal.τ).loc Cert.ResNormIdeal.main_v0_1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v0_0) = v0 c
          ∧ r.2.mem ((c.tc : Thread Cert.ResNormIdeal.nD Cert.ResNormIdeal.τ).loc Cert.ResNormIdeal.main_v0_1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ θ_run (Cert.RefResNormIdeal.defs (F := Ideal)) (onTc (τ := Cert.RefResNormIdeal.τ) (Cert.RefResNormIdeal.main (F := Ideal))) ⟨m', fun _ => 0, g'⟩ (fun r => ∀ c : Dev Cert.RefResNormIdeal.nD,
          r.2.mem ((c.tc : Thread Cert.RefResNormIdeal.nD Cert.RefResNormIdeal.τ).loc Cert.RefResNormIdeal.main_v12) = v0 c
          ∧ r.2.mem ((c.tc : Thread Cert.RefResNormIdeal.nD Cert.RefResNormIdeal.τ).loc Cert.RefResNormIdeal.main_v25) = v1 c
          ∧ r.2.mem ((c.tc : Thread Cert.RefResNormIdeal.nD Cert.RefResNormIdeal.τ).loc Cert.RefResNormIdeal.main_arg0) = m' ((c.tc : Thread Cert.RefResNormIdeal.nD Cert.RefResNormIdeal.τ).loc Cert.RefResNormIdeal.main_arg0)
          ∧ r.2.mem ((c.tc : Thread Cert.RefResNormIdeal.nD Cert.RefResNormIdeal.τ).loc Cert.RefResNormIdeal.main_arg1) = m' ((c.tc : Thread Cert.RefResNormIdeal.nD Cert.RefResNormIdeal.τ).loc Cert.RefResNormIdeal.main_arg1)
          ∧ r.2.mem ((c.tc : Thread Cert.RefResNormIdeal.nD Cert.RefResNormIdeal.τ).loc Cert.RefResNormIdeal.main_arg2) = m' ((c.tc : Thread Cert.RefResNormIdeal.nD Cert.RefResNormIdeal.τ).loc Cert.RefResNormIdeal.main_arg2)
          ∧ r.2.mem ((c.tc : Thread Cert.RefResNormIdeal.nD Cert.RefResNormIdeal.τ).loc Cert.RefResNormIdeal.main_arg3) = m' ((c.tc : Thread Cert.RefResNormIdeal.nD Cert.RefResNormIdeal.τ).loc Cert.RefResNormIdeal.main_arg3))

def preserves_ResLast_ResLastIdeal : Prop :=
  True

def algebraic_ResLastIdeal_RefResLastIdeal [hResLastIdeal : Cert.ResLastIdeal.Facts] [hRefResLastIdeal : Cert.RefResLastIdeal.Facts] : Prop :=
  ∀ (m : (ℓ : Loc Cert.ResLastIdeal.nD Cert.ResLastIdeal.τ Cert.ResLastIdeal.sig) → Buf (Elt Ideal) ℓ) (g : Dev Cert.ResLastIdeal.nD → PrngReg)
    (m' : (ℓ : Loc Cert.RefResLastIdeal.nD Cert.RefResLastIdeal.τ Cert.RefResLastIdeal.sig) → Buf (Elt Ideal) ℓ) (g' : Dev Cert.RefResLastIdeal.nD → PrngReg), Pre_ResLastIdeal m →
    (∀ c : Dev Cert.ResLastIdeal.nD,
      m' ((c.tc : Thread Cert.RefResLastIdeal.nD Cert.RefResLastIdeal.τ).loc Cert.RefResLastIdeal.main_arg0) = m ((c.tc : Thread Cert.ResLastIdeal.nD Cert.ResLastIdeal.τ).loc Cert.ResLastIdeal.main_arg0)
      ∧ m' ((c.tc : Thread Cert.RefResLastIdeal.nD Cert.RefResLastIdeal.τ).loc Cert.RefResLastIdeal.main_arg1) = m ((c.tc : Thread Cert.ResLastIdeal.nD Cert.ResLastIdeal.τ).loc Cert.ResLastIdeal.main_arg1)
      ∧ m' ((c.tc : Thread Cert.RefResLastIdeal.nD Cert.RefResLastIdeal.τ).loc Cert.RefResLastIdeal.main_arg2) = m ((c.tc : Thread Cert.ResLastIdeal.nD Cert.ResLastIdeal.τ).loc Cert.ResLastIdeal.main_arg2)) →
    ∃ (v0 : (c : Dev Cert.ResLastIdeal.nD) → Buf (Elt Ideal) ((c.tc : Thread Cert.ResLastIdeal.nD Cert.ResLastIdeal.τ).loc Cert.ResLastIdeal.main_v0)),
      θ_run (Cert.ResLastIdeal.defs (F := Ideal)) (onTc (τ := Cert.ResLastIdeal.τ) (Cert.ResLastIdeal.main (F := Ideal))) ⟨m, fun _ => 0, g⟩ (fun r => ∀ c : Dev Cert.ResLastIdeal.nD,
          r.2.mem ((c.tc : Thread Cert.ResLastIdeal.nD Cert.ResLastIdeal.τ).loc Cert.ResLastIdeal.main_v0) = v0 c
          ∧ r.2.mem ((c.tc : Thread Cert.ResLastIdeal.nD Cert.ResLastIdeal.τ).loc Cert.ResLastIdeal.main_arg0) = m ((c.tc : Thread Cert.ResLastIdeal.nD Cert.ResLastIdeal.τ).loc Cert.ResLastIdeal.main_arg0)
          ∧ r.2.mem ((c.tc : Thread Cert.ResLastIdeal.nD Cert.ResLastIdeal.τ).loc Cert.ResLastIdeal.main_arg1) = m ((c.tc : Thread Cert.ResLastIdeal.nD Cert.ResLastIdeal.τ).loc Cert.ResLastIdeal.main_arg1)
          ∧ r.2.mem ((c.tc : Thread Cert.ResLastIdeal.nD Cert.ResLastIdeal.τ).loc Cert.ResLastIdeal.main_arg2) = m ((c.tc : Thread Cert.ResLastIdeal.nD Cert.ResLastIdeal.τ).loc Cert.ResLastIdeal.main_arg2))
      ∧ θ_run (Cert.RefResLastIdeal.defs (F := Ideal)) (onTc (τ := Cert.RefResLastIdeal.τ) (Cert.RefResLastIdeal.main (F := Ideal))) ⟨m', fun _ => 0, g'⟩ (fun r => ∀ c : Dev Cert.RefResLastIdeal.nD,
          r.2.mem ((c.tc : Thread Cert.RefResLastIdeal.nD Cert.RefResLastIdeal.τ).loc Cert.RefResLastIdeal.main_v12) = v0 c
          ∧ r.2.mem ((c.tc : Thread Cert.RefResLastIdeal.nD Cert.RefResLastIdeal.τ).loc Cert.RefResLastIdeal.main_arg0) = m' ((c.tc : Thread Cert.RefResLastIdeal.nD Cert.RefResLastIdeal.τ).loc Cert.RefResLastIdeal.main_arg0)
          ∧ r.2.mem ((c.tc : Thread Cert.RefResLastIdeal.nD Cert.RefResLastIdeal.τ).loc Cert.RefResLastIdeal.main_arg1) = m' ((c.tc : Thread Cert.RefResLastIdeal.nD Cert.RefResLastIdeal.τ).loc Cert.RefResLastIdeal.main_arg1)
          ∧ r.2.mem ((c.tc : Thread Cert.RefResLastIdeal.nD Cert.RefResLastIdeal.τ).loc Cert.RefResLastIdeal.main_arg2) = m' ((c.tc : Thread Cert.RefResLastIdeal.nD Cert.RefResLastIdeal.τ).loc Cert.RefResLastIdeal.main_arg2))

def preserves_XattnFwd_XattnFwdIdeal : Prop :=
  True

def algebraic_XattnFwdIdeal_RefXattnFwdIdeal [hXattnFwdIdeal : Cert.XattnFwdIdeal.Facts] [hRefXattnFwdIdeal : Cert.RefXattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg)
    (m' : (ℓ : Loc Cert.RefXattnFwdIdeal.nD Cert.RefXattnFwdIdeal.τ Cert.RefXattnFwdIdeal.sig) → Buf (Elt Ideal) ℓ) (g' : Dev Cert.RefXattnFwdIdeal.nD → PrngReg), Pre_XattnFwdIdeal m →
    (∀ c : Dev Cert.XattnFwdIdeal.nD,
      m' ((c.tc : Thread Cert.RefXattnFwdIdeal.nD Cert.RefXattnFwdIdeal.τ).loc Cert.RefXattnFwdIdeal.main_arg0) = m ((c.tc : Thread Cert.XattnFwdIdeal.nD Cert.XattnFwdIdeal.τ).loc Cert.XattnFwdIdeal.main_arg0)
      ∧ m' ((c.tc : Thread Cert.RefXattnFwdIdeal.nD Cert.RefXattnFwdIdeal.τ).loc Cert.RefXattnFwdIdeal.main_arg1) = m ((c.tc : Thread Cert.XattnFwdIdeal.nD Cert.XattnFwdIdeal.τ).loc Cert.XattnFwdIdeal.main_arg1)
      ∧ m' ((c.tc : Thread Cert.RefXattnFwdIdeal.nD Cert.RefXattnFwdIdeal.τ).loc Cert.RefXattnFwdIdeal.main_arg2) = m ((c.tc : Thread Cert.XattnFwdIdeal.nD Cert.XattnFwdIdeal.τ).loc Cert.XattnFwdIdeal.main_arg2)) →
    ∃ (v0 : (c : Dev Cert.XattnFwdIdeal.nD) → Buf (Elt Ideal) ((c.tc : Thread Cert.XattnFwdIdeal.nD Cert.XattnFwdIdeal.τ).loc Cert.XattnFwdIdeal.main_v0)),
      θ_run (Cert.XattnFwdIdeal.defs (F := Ideal)) (onTc (τ := Cert.XattnFwdIdeal.τ) (Cert.XattnFwdIdeal.main (F := Ideal))) ⟨m, fun _ => 0, g⟩ (fun r => ∀ c : Dev Cert.XattnFwdIdeal.nD,
          r.2.mem ((c.tc : Thread Cert.XattnFwdIdeal.nD Cert.XattnFwdIdeal.τ).loc Cert.XattnFwdIdeal.main_v0) = v0 c
          ∧ r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
          ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1)
          ∧ r.2.mem ((c.tc : Thread Cert.XattnFwdIdeal.nD Cert.XattnFwdIdeal.τ).loc Cert.XattnFwdIdeal.main_arg2) = m ((c.tc : Thread Cert.XattnFwdIdeal.nD Cert.XattnFwdIdeal.τ).loc Cert.XattnFwdIdeal.main_arg2))
      ∧ θ_run (Cert.RefXattnFwdIdeal.defs (F := Ideal)) (onTc (τ := Cert.RefXattnFwdIdeal.τ) (Cert.RefXattnFwdIdeal.main (F := Ideal))) ⟨m', fun _ => 0, g'⟩ (fun r => ∀ c : Dev Cert.RefXattnFwdIdeal.nD,
          r.2.mem ((c.tc : Thread Cert.RefXattnFwdIdeal.nD Cert.RefXattnFwdIdeal.τ).loc Cert.RefXattnFwdIdeal.main_v23) = v0 c
          ∧ r.2.mem ((c.tc : Thread Cert.RefXattnFwdIdeal.nD Cert.RefXattnFwdIdeal.τ).loc Cert.RefXattnFwdIdeal.main_arg0) = m' ((c.tc : Thread Cert.RefXattnFwdIdeal.nD Cert.RefXattnFwdIdeal.τ).loc Cert.RefXattnFwdIdeal.main_arg0)
          ∧ r.2.mem ((c.tc : Thread Cert.RefXattnFwdIdeal.nD Cert.RefXattnFwdIdeal.τ).loc Cert.RefXattnFwdIdeal.main_arg1) = m' ((c.tc : Thread Cert.RefXattnFwdIdeal.nD Cert.RefXattnFwdIdeal.τ).loc Cert.RefXattnFwdIdeal.main_arg1)
          ∧ r.2.mem ((c.tc : Thread Cert.RefXattnFwdIdeal.nD Cert.RefXattnFwdIdeal.τ).loc Cert.RefXattnFwdIdeal.main_arg2) = m' ((c.tc : Thread Cert.RefXattnFwdIdeal.nD Cert.RefXattnFwdIdeal.τ).loc Cert.RefXattnFwdIdeal.main_arg2))

def preserves_RopeFwd_RopeFwdIdeal : Prop :=
  True

def algebraic_RopeFwdIdeal_RefRopeFwdIdeal [hRopeFwdIdeal : Cert.RopeFwdIdeal.Facts] [hRefRopeFwdIdeal : Cert.RefRopeFwdIdeal.Facts] : Prop :=
  ∀ (m : (ℓ : Loc Cert.RopeFwdIdeal.nD Cert.RopeFwdIdeal.τ Cert.RopeFwdIdeal.sig) → Buf (Elt Ideal) ℓ) (g : Dev Cert.RopeFwdIdeal.nD → PrngReg)
    (m' : (ℓ : Loc Cert.RefRopeFwdIdeal.nD Cert.RefRopeFwdIdeal.τ Cert.RefRopeFwdIdeal.sig) → Buf (Elt Ideal) ℓ) (g' : Dev Cert.RefRopeFwdIdeal.nD → PrngReg), Pre_RopeFwdIdeal m →
    (∀ c : Dev Cert.RopeFwdIdeal.nD,
      m' ((c.tc : Thread Cert.RefRopeFwdIdeal.nD Cert.RefRopeFwdIdeal.τ).loc Cert.RefRopeFwdIdeal.main_arg0) = m ((c.tc : Thread Cert.RopeFwdIdeal.nD Cert.RopeFwdIdeal.τ).loc Cert.RopeFwdIdeal.main_arg0)
      ∧ m' ((c.tc : Thread Cert.RefRopeFwdIdeal.nD Cert.RefRopeFwdIdeal.τ).loc Cert.RefRopeFwdIdeal.main_arg1) = m ((c.tc : Thread Cert.RopeFwdIdeal.nD Cert.RopeFwdIdeal.τ).loc Cert.RopeFwdIdeal.main_arg1)) →
    ∃ (v0 : (c : Dev Cert.RopeFwdIdeal.nD) → Buf (Elt Ideal) ((c.tc : Thread Cert.RopeFwdIdeal.nD Cert.RopeFwdIdeal.τ).loc Cert.RopeFwdIdeal.main_v20)),
      θ_run (Cert.RopeFwdIdeal.defs (F := Ideal)) (onTc (τ := Cert.RopeFwdIdeal.τ) (Cert.RopeFwdIdeal.main (F := Ideal))) ⟨m, fun _ => 0, g⟩ (fun r => ∀ c : Dev Cert.RopeFwdIdeal.nD,
          r.2.mem ((c.tc : Thread Cert.RopeFwdIdeal.nD Cert.RopeFwdIdeal.τ).loc Cert.RopeFwdIdeal.main_v20) = v0 c
          ∧ r.2.mem ((c.tc : Thread Cert.RopeFwdIdeal.nD Cert.RopeFwdIdeal.τ).loc Cert.RopeFwdIdeal.main_arg0) = m ((c.tc : Thread Cert.RopeFwdIdeal.nD Cert.RopeFwdIdeal.τ).loc Cert.RopeFwdIdeal.main_arg0)
          ∧ r.2.mem ((c.tc : Thread Cert.RopeFwdIdeal.nD Cert.RopeFwdIdeal.τ).loc Cert.RopeFwdIdeal.main_arg1) = m ((c.tc : Thread Cert.RopeFwdIdeal.nD Cert.RopeFwdIdeal.τ).loc Cert.RopeFwdIdeal.main_arg1))
      ∧ θ_run (Cert.RefRopeFwdIdeal.defs (F := Ideal)) (onTc (τ := Cert.RefRopeFwdIdeal.τ) (Cert.RefRopeFwdIdeal.main (F := Ideal))) ⟨m', fun _ => 0, g'⟩ (fun r => ∀ c : Dev Cert.RefRopeFwdIdeal.nD,
          r.2.mem ((c.tc : Thread Cert.RefRopeFwdIdeal.nD Cert.RefRopeFwdIdeal.τ).loc Cert.RefRopeFwdIdeal.main_v66) = v0 c
          ∧ r.2.mem ((c.tc : Thread Cert.RefRopeFwdIdeal.nD Cert.RefRopeFwdIdeal.τ).loc Cert.RefRopeFwdIdeal.main_arg0) = m' ((c.tc : Thread Cert.RefRopeFwdIdeal.nD Cert.RefRopeFwdIdeal.τ).loc Cert.RefRopeFwdIdeal.main_arg0)
          ∧ r.2.mem ((c.tc : Thread Cert.RefRopeFwdIdeal.nD Cert.RefRopeFwdIdeal.τ).loc Cert.RefRopeFwdIdeal.main_arg1) = m' ((c.tc : Thread Cert.RefRopeFwdIdeal.nD Cert.RefRopeFwdIdeal.τ).loc Cert.RefRopeFwdIdeal.main_arg1))

def preserves_Mix_MixIdeal : Prop :=
  True

def algebraic_MixIdeal_RefMixIdeal [hMixIdeal : Cert.MixIdeal.Facts] [hRefMixIdeal : Cert.RefMixIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_MixIdeal m →
    (∀ c : Dev Cert.MixIdeal.nD,
      m' ((c.tc : Thread Cert.RefMixIdeal.nD Cert.RefMixIdeal.τ).loc Cert.RefMixIdeal.main_arg0) = m ((c.tc : Thread Cert.MixIdeal.nD Cert.MixIdeal.τ).loc Cert.MixIdeal.main_arg0)
      ∧ m' ((c.tc : Thread Cert.RefMixIdeal.nD Cert.RefMixIdeal.τ).loc Cert.RefMixIdeal.main_arg1) = m ((c.tc : Thread Cert.MixIdeal.nD Cert.MixIdeal.τ).loc Cert.MixIdeal.main_arg1)
      ∧ m' ((c.tc : Thread Cert.RefMixIdeal.nD Cert.RefMixIdeal.τ).loc Cert.RefMixIdeal.main_arg2) = m ((c.tc : Thread Cert.MixIdeal.nD Cert.MixIdeal.τ).loc Cert.MixIdeal.main_arg2)
      ∧ m' ((c.tc : Thread Cert.RefMixIdeal.nD Cert.RefMixIdeal.τ).loc Cert.RefMixIdeal.main_arg3) = m ((c.tc : Thread Cert.MixIdeal.nD Cert.MixIdeal.τ).loc Cert.MixIdeal.main_arg3)
      ∧ m' ((c.tc : Thread Cert.RefMixIdeal.nD Cert.RefMixIdeal.τ).loc Cert.RefMixIdeal.main_arg4) = m ((c.tc : Thread Cert.MixIdeal.nD Cert.MixIdeal.τ).loc Cert.MixIdeal.main_arg4)
      ∧ m' ((c.tc : Thread Cert.RefMixIdeal.nD Cert.RefMixIdeal.τ).loc Cert.RefMixIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)) (v4 : (c : Dev Cert.MixIdeal.nD) → Buf (Elt Ideal) ((c.tc : Thread Cert.MixIdeal.nD Cert.MixIdeal.τ).loc Cert.MixIdeal.main_v0_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_v0_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v20) = v0 c
          ∧ r.2.mem ((c.tc : Thread Cert.RefMixIdeal.nD Cert.RefMixIdeal.τ).loc Cert.RefMixIdeal.main_v19) = v1 c
          ∧ r.2.mem ((c.tc : Thread Cert.RefMixIdeal.nD Cert.RefMixIdeal.τ).loc Cert.RefMixIdeal.main_v22) = v2 c
          ∧ r.2.mem ((c.tc : Thread Cert.RefMixIdeal.nD Cert.RefMixIdeal.τ).loc Cert.RefMixIdeal.main_v24) = v3 c
          ∧ r.2.mem ((c.tc : Thread Cert.RefMixIdeal.nD Cert.RefMixIdeal.τ).loc Cert.RefMixIdeal.main_v26) = v4 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4)
          ∧ r.2.mem ((c.tc : Thread Cert.RefMixIdeal.nD Cert.RefMixIdeal.τ).loc Cert.RefMixIdeal.main_arg5) = m' ((c.tc : Thread Cert.RefMixIdeal.nD Cert.RefMixIdeal.τ).loc Cert.RefMixIdeal.main_arg5))

def preserves_ProductMemNn_ProductMemNnIdeal : Prop :=
  True

def algebraic_ProductMemNnIdeal_RefMemNnIdeal [hProductMemNnIdeal : Cert.ProductMemNnIdeal.Facts] [hRefMemNnIdeal : Cert.RefMemNnIdeal.Facts] : Prop :=
  ∀ (m : (ℓ : Loc Cert.ProductMemNnIdeal.nD Cert.ProductMemNnIdeal.τ Cert.ProductMemNnIdeal.sig) → Buf (Elt Ideal) ℓ) (g : Dev Cert.ProductMemNnIdeal.nD → PrngReg)
    (m' : (ℓ : Loc Cert.RefMemNnIdeal.nD Cert.RefMemNnIdeal.τ Cert.RefMemNnIdeal.sig) → Buf (Elt Ideal) ℓ) (g' : Dev Cert.RefMemNnIdeal.nD → PrngReg), Pre_ProductMemNnIdeal m →
    (∀ c : Dev Cert.ProductMemNnIdeal.nD,
      m' ((c.tc : Thread Cert.RefMemNnIdeal.nD Cert.RefMemNnIdeal.τ).loc Cert.RefMemNnIdeal.main_arg0) = m ((c.tc : Thread Cert.ProductMemNnIdeal.nD Cert.ProductMemNnIdeal.τ).loc Cert.ProductMemNnIdeal.main_arg0)
      ∧ m' ((c.tc : Thread Cert.RefMemNnIdeal.nD Cert.RefMemNnIdeal.τ).loc Cert.RefMemNnIdeal.main_arg1) = m ((c.tc : Thread Cert.ProductMemNnIdeal.nD Cert.ProductMemNnIdeal.τ).loc Cert.ProductMemNnIdeal.main_arg1)) →
    ∃ (v0 : (c : Dev Cert.ProductMemNnIdeal.nD) → Buf (Elt Ideal) ((c.tc : Thread Cert.ProductMemNnIdeal.nD Cert.ProductMemNnIdeal.τ).loc Cert.ProductMemNnIdeal.main_v0)),
      θ_run (Cert.ProductMemNnIdeal.defs (F := Ideal)) (onTc (τ := Cert.ProductMemNnIdeal.τ) (Cert.ProductMemNnIdeal.main (F := Ideal))) ⟨m, fun _ => 0, g⟩ (fun r => ∀ c : Dev Cert.ProductMemNnIdeal.nD,
          r.2.mem ((c.tc : Thread Cert.ProductMemNnIdeal.nD Cert.ProductMemNnIdeal.τ).loc Cert.ProductMemNnIdeal.main_v0) = v0 c
          ∧ r.2.mem ((c.tc : Thread Cert.ProductMemNnIdeal.nD Cert.ProductMemNnIdeal.τ).loc Cert.ProductMemNnIdeal.main_arg0) = m ((c.tc : Thread Cert.ProductMemNnIdeal.nD Cert.ProductMemNnIdeal.τ).loc Cert.ProductMemNnIdeal.main_arg0)
          ∧ r.2.mem ((c.tc : Thread Cert.ProductMemNnIdeal.nD Cert.ProductMemNnIdeal.τ).loc Cert.ProductMemNnIdeal.main_arg1) = m ((c.tc : Thread Cert.ProductMemNnIdeal.nD Cert.ProductMemNnIdeal.τ).loc Cert.ProductMemNnIdeal.main_arg1))
      ∧ θ_run (Cert.RefMemNnIdeal.defs (F := Ideal)) (onTc (τ := Cert.RefMemNnIdeal.τ) (Cert.RefMemNnIdeal.main (F := Ideal))) ⟨m', fun _ => 0, g'⟩ (fun r => ∀ c : Dev Cert.RefMemNnIdeal.nD,
          r.2.mem ((c.tc : Thread Cert.RefMemNnIdeal.nD Cert.RefMemNnIdeal.τ).loc Cert.RefMemNnIdeal.main_v3) = v0 c
          ∧ r.2.mem ((c.tc : Thread Cert.RefMemNnIdeal.nD Cert.RefMemNnIdeal.τ).loc Cert.RefMemNnIdeal.main_arg0) = m' ((c.tc : Thread Cert.RefMemNnIdeal.nD Cert.RefMemNnIdeal.τ).loc Cert.RefMemNnIdeal.main_arg0)
          ∧ r.2.mem ((c.tc : Thread Cert.RefMemNnIdeal.nD Cert.RefMemNnIdeal.τ).loc Cert.RefMemNnIdeal.main_arg1) = m' ((c.tc : Thread Cert.RefMemNnIdeal.nD Cert.RefMemNnIdeal.τ).loc Cert.RefMemNnIdeal.main_arg1))

def preserves_ProductMemTn_ProductMemTnIdeal : Prop :=
  True

def algebraic_ProductMemTnIdeal_RefMemTnIdeal [hProductMemTnIdeal : Cert.ProductMemTnIdeal.Facts] [hRefMemTnIdeal : Cert.RefMemTnIdeal.Facts] : Prop :=
  ∀ (m : (ℓ : Loc Cert.ProductMemTnIdeal.nD Cert.ProductMemTnIdeal.τ Cert.ProductMemTnIdeal.sig) → Buf (Elt Ideal) ℓ) (g : Dev Cert.ProductMemTnIdeal.nD → PrngReg)
    (m' : (ℓ : Loc Cert.RefMemTnIdeal.nD Cert.RefMemTnIdeal.τ Cert.RefMemTnIdeal.sig) → Buf (Elt Ideal) ℓ) (g' : Dev Cert.RefMemTnIdeal.nD → PrngReg), Pre_ProductMemTnIdeal m →
    (∀ c : Dev Cert.ProductMemTnIdeal.nD,
      m' ((c.tc : Thread Cert.RefMemTnIdeal.nD Cert.RefMemTnIdeal.τ).loc Cert.RefMemTnIdeal.main_arg0) = m ((c.tc : Thread Cert.ProductMemTnIdeal.nD Cert.ProductMemTnIdeal.τ).loc Cert.ProductMemTnIdeal.main_arg0)
      ∧ m' ((c.tc : Thread Cert.RefMemTnIdeal.nD Cert.RefMemTnIdeal.τ).loc Cert.RefMemTnIdeal.main_arg1) = m ((c.tc : Thread Cert.ProductMemTnIdeal.nD Cert.ProductMemTnIdeal.τ).loc Cert.ProductMemTnIdeal.main_arg1)) →
    ∃ (v0 : (c : Dev Cert.ProductMemTnIdeal.nD) → Buf (Elt Ideal) ((c.tc : Thread Cert.ProductMemTnIdeal.nD Cert.ProductMemTnIdeal.τ).loc Cert.ProductMemTnIdeal.main_v0)),
      θ_run (Cert.ProductMemTnIdeal.defs (F := Ideal)) (onTc (τ := Cert.ProductMemTnIdeal.τ) (Cert.ProductMemTnIdeal.main (F := Ideal))) ⟨m, fun _ => 0, g⟩ (fun r => ∀ c : Dev Cert.ProductMemTnIdeal.nD,
          r.2.mem ((c.tc : Thread Cert.ProductMemTnIdeal.nD Cert.ProductMemTnIdeal.τ).loc Cert.ProductMemTnIdeal.main_v0) = v0 c
          ∧ r.2.mem ((c.tc : Thread Cert.ProductMemTnIdeal.nD Cert.ProductMemTnIdeal.τ).loc Cert.ProductMemTnIdeal.main_arg0) = m ((c.tc : Thread Cert.ProductMemTnIdeal.nD Cert.ProductMemTnIdeal.τ).loc Cert.ProductMemTnIdeal.main_arg0)
          ∧ r.2.mem ((c.tc : Thread Cert.ProductMemTnIdeal.nD Cert.ProductMemTnIdeal.τ).loc Cert.ProductMemTnIdeal.main_arg1) = m ((c.tc : Thread Cert.ProductMemTnIdeal.nD Cert.ProductMemTnIdeal.τ).loc Cert.ProductMemTnIdeal.main_arg1))
      ∧ θ_run (Cert.RefMemTnIdeal.defs (F := Ideal)) (onTc (τ := Cert.RefMemTnIdeal.τ) (Cert.RefMemTnIdeal.main (F := Ideal))) ⟨m', fun _ => 0, g'⟩ (fun r => ∀ c : Dev Cert.RefMemTnIdeal.nD,
          r.2.mem ((c.tc : Thread Cert.RefMemTnIdeal.nD Cert.RefMemTnIdeal.τ).loc Cert.RefMemTnIdeal.main_v5) = v0 c
          ∧ r.2.mem ((c.tc : Thread Cert.RefMemTnIdeal.nD Cert.RefMemTnIdeal.τ).loc Cert.RefMemTnIdeal.main_arg0) = m' ((c.tc : Thread Cert.RefMemTnIdeal.nD Cert.RefMemTnIdeal.τ).loc Cert.RefMemTnIdeal.main_arg0)
          ∧ r.2.mem ((c.tc : Thread Cert.RefMemTnIdeal.nD Cert.RefMemTnIdeal.τ).loc Cert.RefMemTnIdeal.main_arg1) = m' ((c.tc : Thread Cert.RefMemTnIdeal.nD Cert.RefMemTnIdeal.τ).loc Cert.RefMemTnIdeal.main_arg1))

def preserves_ProductMemNt_ProductMemNtIdeal : Prop :=
  True

def algebraic_ProductMemNtIdeal_RefMemNtIdeal [hProductMemNtIdeal : Cert.ProductMemNtIdeal.Facts] [hRefMemNtIdeal : Cert.RefMemNtIdeal.Facts] : Prop :=
  ∀ (m : (ℓ : Loc Cert.ProductMemNtIdeal.nD Cert.ProductMemNtIdeal.τ Cert.ProductMemNtIdeal.sig) → Buf (Elt Ideal) ℓ) (g : Dev Cert.ProductMemNtIdeal.nD → PrngReg)
    (m' : (ℓ : Loc Cert.RefMemNtIdeal.nD Cert.RefMemNtIdeal.τ Cert.RefMemNtIdeal.sig) → Buf (Elt Ideal) ℓ) (g' : Dev Cert.RefMemNtIdeal.nD → PrngReg), Pre_ProductMemNtIdeal m →
    (∀ c : Dev Cert.ProductMemNtIdeal.nD,
      m' ((c.tc : Thread Cert.RefMemNtIdeal.nD Cert.RefMemNtIdeal.τ).loc Cert.RefMemNtIdeal.main_arg0) = m ((c.tc : Thread Cert.ProductMemNtIdeal.nD Cert.ProductMemNtIdeal.τ).loc Cert.ProductMemNtIdeal.main_arg0)
      ∧ m' ((c.tc : Thread Cert.RefMemNtIdeal.nD Cert.RefMemNtIdeal.τ).loc Cert.RefMemNtIdeal.main_arg1) = m ((c.tc : Thread Cert.ProductMemNtIdeal.nD Cert.ProductMemNtIdeal.τ).loc Cert.ProductMemNtIdeal.main_arg1)) →
    ∃ (v0 : (c : Dev Cert.ProductMemNtIdeal.nD) → Buf (Elt Ideal) ((c.tc : Thread Cert.ProductMemNtIdeal.nD Cert.ProductMemNtIdeal.τ).loc Cert.ProductMemNtIdeal.main_v0)),
      θ_run (Cert.ProductMemNtIdeal.defs (F := Ideal)) (onTc (τ := Cert.ProductMemNtIdeal.τ) (Cert.ProductMemNtIdeal.main (F := Ideal))) ⟨m, fun _ => 0, g⟩ (fun r => ∀ c : Dev Cert.ProductMemNtIdeal.nD,
          r.2.mem ((c.tc : Thread Cert.ProductMemNtIdeal.nD Cert.ProductMemNtIdeal.τ).loc Cert.ProductMemNtIdeal.main_v0) = v0 c
          ∧ r.2.mem ((c.tc : Thread Cert.ProductMemNtIdeal.nD Cert.ProductMemNtIdeal.τ).loc Cert.ProductMemNtIdeal.main_arg0) = m ((c.tc : Thread Cert.ProductMemNtIdeal.nD Cert.ProductMemNtIdeal.τ).loc Cert.ProductMemNtIdeal.main_arg0)
          ∧ r.2.mem ((c.tc : Thread Cert.ProductMemNtIdeal.nD Cert.ProductMemNtIdeal.τ).loc Cert.ProductMemNtIdeal.main_arg1) = m ((c.tc : Thread Cert.ProductMemNtIdeal.nD Cert.ProductMemNtIdeal.τ).loc Cert.ProductMemNtIdeal.main_arg1))
      ∧ θ_run (Cert.RefMemNtIdeal.defs (F := Ideal)) (onTc (τ := Cert.RefMemNtIdeal.τ) (Cert.RefMemNtIdeal.main (F := Ideal))) ⟨m', fun _ => 0, g'⟩ (fun r => ∀ c : Dev Cert.RefMemNtIdeal.nD,
          r.2.mem ((c.tc : Thread Cert.RefMemNtIdeal.nD Cert.RefMemNtIdeal.τ).loc Cert.RefMemNtIdeal.main_v3) = v0 c
          ∧ r.2.mem ((c.tc : Thread Cert.RefMemNtIdeal.nD Cert.RefMemNtIdeal.τ).loc Cert.RefMemNtIdeal.main_arg0) = m' ((c.tc : Thread Cert.RefMemNtIdeal.nD Cert.RefMemNtIdeal.τ).loc Cert.RefMemNtIdeal.main_arg0)
          ∧ r.2.mem ((c.tc : Thread Cert.RefMemNtIdeal.nD Cert.RefMemNtIdeal.τ).loc Cert.RefMemNtIdeal.main_arg1) = m' ((c.tc : Thread Cert.RefMemNtIdeal.nD Cert.RefMemNtIdeal.τ).loc Cert.RefMemNtIdeal.main_arg1))

def preserves_ProductPwNn_ProductPwNnIdeal : Prop :=
  True

def algebraic_ProductPwNnIdeal_RefPwNnIdeal [hProductPwNnIdeal : Cert.ProductPwNnIdeal.Facts] [hRefPwNnIdeal : Cert.RefPwNnIdeal.Facts] : Prop :=
  ∀ (m : (ℓ : Loc Cert.ProductPwNnIdeal.nD Cert.ProductPwNnIdeal.τ Cert.ProductPwNnIdeal.sig) → Buf (Elt Ideal) ℓ) (g : Dev Cert.ProductPwNnIdeal.nD → PrngReg)
    (m' : (ℓ : Loc Cert.RefPwNnIdeal.nD Cert.RefPwNnIdeal.τ Cert.RefPwNnIdeal.sig) → Buf (Elt Ideal) ℓ) (g' : Dev Cert.RefPwNnIdeal.nD → PrngReg), Pre_ProductPwNnIdeal m →
    (∀ c : Dev Cert.ProductPwNnIdeal.nD,
      m' ((c.tc : Thread Cert.RefPwNnIdeal.nD Cert.RefPwNnIdeal.τ).loc Cert.RefPwNnIdeal.main_arg0) = m ((c.tc : Thread Cert.ProductPwNnIdeal.nD Cert.ProductPwNnIdeal.τ).loc Cert.ProductPwNnIdeal.main_arg0)
      ∧ m' ((c.tc : Thread Cert.RefPwNnIdeal.nD Cert.RefPwNnIdeal.τ).loc Cert.RefPwNnIdeal.main_arg1) = m ((c.tc : Thread Cert.ProductPwNnIdeal.nD Cert.ProductPwNnIdeal.τ).loc Cert.ProductPwNnIdeal.main_arg1)
      ∧ m' ((c.tc : Thread Cert.RefPwNnIdeal.nD Cert.RefPwNnIdeal.τ).loc Cert.RefPwNnIdeal.main_arg2) = m ((c.tc : Thread Cert.ProductPwNnIdeal.nD Cert.ProductPwNnIdeal.τ).loc Cert.ProductPwNnIdeal.main_arg2)) →
    ∃ (v0 : (c : Dev Cert.ProductPwNnIdeal.nD) → Buf (Elt Ideal) ((c.tc : Thread Cert.ProductPwNnIdeal.nD Cert.ProductPwNnIdeal.τ).loc Cert.ProductPwNnIdeal.main_v0)),
      θ_run (Cert.ProductPwNnIdeal.defs (F := Ideal)) (onTc (τ := Cert.ProductPwNnIdeal.τ) (Cert.ProductPwNnIdeal.main (F := Ideal))) ⟨m, fun _ => 0, g⟩ (fun r => ∀ c : Dev Cert.ProductPwNnIdeal.nD,
          r.2.mem ((c.tc : Thread Cert.ProductPwNnIdeal.nD Cert.ProductPwNnIdeal.τ).loc Cert.ProductPwNnIdeal.main_v0) = v0 c
          ∧ r.2.mem ((c.tc : Thread Cert.ProductPwNnIdeal.nD Cert.ProductPwNnIdeal.τ).loc Cert.ProductPwNnIdeal.main_arg0) = m ((c.tc : Thread Cert.ProductPwNnIdeal.nD Cert.ProductPwNnIdeal.τ).loc Cert.ProductPwNnIdeal.main_arg0)
          ∧ r.2.mem ((c.tc : Thread Cert.ProductPwNnIdeal.nD Cert.ProductPwNnIdeal.τ).loc Cert.ProductPwNnIdeal.main_arg1) = m ((c.tc : Thread Cert.ProductPwNnIdeal.nD Cert.ProductPwNnIdeal.τ).loc Cert.ProductPwNnIdeal.main_arg1)
          ∧ r.2.mem ((c.tc : Thread Cert.ProductPwNnIdeal.nD Cert.ProductPwNnIdeal.τ).loc Cert.ProductPwNnIdeal.main_arg2) = m ((c.tc : Thread Cert.ProductPwNnIdeal.nD Cert.ProductPwNnIdeal.τ).loc Cert.ProductPwNnIdeal.main_arg2))
      ∧ θ_run (Cert.RefPwNnIdeal.defs (F := Ideal)) (onTc (τ := Cert.RefPwNnIdeal.τ) (Cert.RefPwNnIdeal.main (F := Ideal))) ⟨m', fun _ => 0, g'⟩ (fun r => ∀ c : Dev Cert.RefPwNnIdeal.nD,
          r.2.mem ((c.tc : Thread Cert.RefPwNnIdeal.nD Cert.RefPwNnIdeal.τ).loc Cert.RefPwNnIdeal.main_v5) = v0 c
          ∧ r.2.mem ((c.tc : Thread Cert.RefPwNnIdeal.nD Cert.RefPwNnIdeal.τ).loc Cert.RefPwNnIdeal.main_arg0) = m' ((c.tc : Thread Cert.RefPwNnIdeal.nD Cert.RefPwNnIdeal.τ).loc Cert.RefPwNnIdeal.main_arg0)
          ∧ r.2.mem ((c.tc : Thread Cert.RefPwNnIdeal.nD Cert.RefPwNnIdeal.τ).loc Cert.RefPwNnIdeal.main_arg1) = m' ((c.tc : Thread Cert.RefPwNnIdeal.nD Cert.RefPwNnIdeal.τ).loc Cert.RefPwNnIdeal.main_arg1)
          ∧ r.2.mem ((c.tc : Thread Cert.RefPwNnIdeal.nD Cert.RefPwNnIdeal.τ).loc Cert.RefPwNnIdeal.main_arg2) = m' ((c.tc : Thread Cert.RefPwNnIdeal.nD Cert.RefPwNnIdeal.τ).loc Cert.RefPwNnIdeal.main_arg2))

def preserves_ProductPwTn_ProductPwTnIdeal : Prop :=
  True

def algebraic_ProductPwTnIdeal_RefPwTnIdeal [hProductPwTnIdeal : Cert.ProductPwTnIdeal.Facts] [hRefPwTnIdeal : Cert.RefPwTnIdeal.Facts] : Prop :=
  ∀ (m : (ℓ : Loc Cert.ProductPwTnIdeal.nD Cert.ProductPwTnIdeal.τ Cert.ProductPwTnIdeal.sig) → Buf (Elt Ideal) ℓ) (g : Dev Cert.ProductPwTnIdeal.nD → PrngReg)
    (m' : (ℓ : Loc Cert.RefPwTnIdeal.nD Cert.RefPwTnIdeal.τ Cert.RefPwTnIdeal.sig) → Buf (Elt Ideal) ℓ) (g' : Dev Cert.RefPwTnIdeal.nD → PrngReg), Pre_ProductPwTnIdeal m →
    (∀ c : Dev Cert.ProductPwTnIdeal.nD,
      m' ((c.tc : Thread Cert.RefPwTnIdeal.nD Cert.RefPwTnIdeal.τ).loc Cert.RefPwTnIdeal.main_arg0) = m ((c.tc : Thread Cert.ProductPwTnIdeal.nD Cert.ProductPwTnIdeal.τ).loc Cert.ProductPwTnIdeal.main_arg0)
      ∧ m' ((c.tc : Thread Cert.RefPwTnIdeal.nD Cert.RefPwTnIdeal.τ).loc Cert.RefPwTnIdeal.main_arg1) = m ((c.tc : Thread Cert.ProductPwTnIdeal.nD Cert.ProductPwTnIdeal.τ).loc Cert.ProductPwTnIdeal.main_arg1)) →
    ∃ (v0 : (c : Dev Cert.ProductPwTnIdeal.nD) → Buf (Elt Ideal) ((c.tc : Thread Cert.ProductPwTnIdeal.nD Cert.ProductPwTnIdeal.τ).loc Cert.ProductPwTnIdeal.main_v0)),
      θ_run (Cert.ProductPwTnIdeal.defs (F := Ideal)) (onTc (τ := Cert.ProductPwTnIdeal.τ) (Cert.ProductPwTnIdeal.main (F := Ideal))) ⟨m, fun _ => 0, g⟩ (fun r => ∀ c : Dev Cert.ProductPwTnIdeal.nD,
          r.2.mem ((c.tc : Thread Cert.ProductPwTnIdeal.nD Cert.ProductPwTnIdeal.τ).loc Cert.ProductPwTnIdeal.main_v0) = v0 c
          ∧ r.2.mem ((c.tc : Thread Cert.ProductPwTnIdeal.nD Cert.ProductPwTnIdeal.τ).loc Cert.ProductPwTnIdeal.main_arg0) = m ((c.tc : Thread Cert.ProductPwTnIdeal.nD Cert.ProductPwTnIdeal.τ).loc Cert.ProductPwTnIdeal.main_arg0)
          ∧ r.2.mem ((c.tc : Thread Cert.ProductPwTnIdeal.nD Cert.ProductPwTnIdeal.τ).loc Cert.ProductPwTnIdeal.main_arg1) = m ((c.tc : Thread Cert.ProductPwTnIdeal.nD Cert.ProductPwTnIdeal.τ).loc Cert.ProductPwTnIdeal.main_arg1))
      ∧ θ_run (Cert.RefPwTnIdeal.defs (F := Ideal)) (onTc (τ := Cert.RefPwTnIdeal.τ) (Cert.RefPwTnIdeal.main (F := Ideal))) ⟨m', fun _ => 0, g'⟩ (fun r => ∀ c : Dev Cert.RefPwTnIdeal.nD,
          r.2.mem ((c.tc : Thread Cert.RefPwTnIdeal.nD Cert.RefPwTnIdeal.τ).loc Cert.RefPwTnIdeal.main_v5) = v0 c
          ∧ r.2.mem ((c.tc : Thread Cert.RefPwTnIdeal.nD Cert.RefPwTnIdeal.τ).loc Cert.RefPwTnIdeal.main_arg0) = m' ((c.tc : Thread Cert.RefPwTnIdeal.nD Cert.RefPwTnIdeal.τ).loc Cert.RefPwTnIdeal.main_arg0)
          ∧ r.2.mem ((c.tc : Thread Cert.RefPwTnIdeal.nD Cert.RefPwTnIdeal.τ).loc Cert.RefPwTnIdeal.main_arg1) = m' ((c.tc : Thread Cert.RefPwTnIdeal.nD Cert.RefPwTnIdeal.τ).loc Cert.RefPwTnIdeal.main_arg1))

def preserves_ProductPwNt_ProductPwNtIdeal : Prop :=
  True

def algebraic_ProductPwNtIdeal_RefPwNtIdeal [hProductPwNtIdeal : Cert.ProductPwNtIdeal.Facts] [hRefPwNtIdeal : Cert.RefPwNtIdeal.Facts] : Prop :=
  ∀ (m : (ℓ : Loc Cert.ProductPwNtIdeal.nD Cert.ProductPwNtIdeal.τ Cert.ProductPwNtIdeal.sig) → Buf (Elt Ideal) ℓ) (g : Dev Cert.ProductPwNtIdeal.nD → PrngReg)
    (m' : (ℓ : Loc Cert.RefPwNtIdeal.nD Cert.RefPwNtIdeal.τ Cert.RefPwNtIdeal.sig) → Buf (Elt Ideal) ℓ) (g' : Dev Cert.RefPwNtIdeal.nD → PrngReg), Pre_ProductPwNtIdeal m →
    (∀ c : Dev Cert.ProductPwNtIdeal.nD,
      m' ((c.tc : Thread Cert.RefPwNtIdeal.nD Cert.RefPwNtIdeal.τ).loc Cert.RefPwNtIdeal.main_arg0) = m ((c.tc : Thread Cert.ProductPwNtIdeal.nD Cert.ProductPwNtIdeal.τ).loc Cert.ProductPwNtIdeal.main_arg0)
      ∧ m' ((c.tc : Thread Cert.RefPwNtIdeal.nD Cert.RefPwNtIdeal.τ).loc Cert.RefPwNtIdeal.main_arg1) = m ((c.tc : Thread Cert.ProductPwNtIdeal.nD Cert.ProductPwNtIdeal.τ).loc Cert.ProductPwNtIdeal.main_arg1)) →
    ∃ (v0 : (c : Dev Cert.ProductPwNtIdeal.nD) → Buf (Elt Ideal) ((c.tc : Thread Cert.ProductPwNtIdeal.nD Cert.ProductPwNtIdeal.τ).loc Cert.ProductPwNtIdeal.main_v0)),
      θ_run (Cert.ProductPwNtIdeal.defs (F := Ideal)) (onTc (τ := Cert.ProductPwNtIdeal.τ) (Cert.ProductPwNtIdeal.main (F := Ideal))) ⟨m, fun _ => 0, g⟩ (fun r => ∀ c : Dev Cert.ProductPwNtIdeal.nD,
          r.2.mem ((c.tc : Thread Cert.ProductPwNtIdeal.nD Cert.ProductPwNtIdeal.τ).loc Cert.ProductPwNtIdeal.main_v0) = v0 c
          ∧ r.2.mem ((c.tc : Thread Cert.ProductPwNtIdeal.nD Cert.ProductPwNtIdeal.τ).loc Cert.ProductPwNtIdeal.main_arg0) = m ((c.tc : Thread Cert.ProductPwNtIdeal.nD Cert.ProductPwNtIdeal.τ).loc Cert.ProductPwNtIdeal.main_arg0)
          ∧ r.2.mem ((c.tc : Thread Cert.ProductPwNtIdeal.nD Cert.ProductPwNtIdeal.τ).loc Cert.ProductPwNtIdeal.main_arg1) = m ((c.tc : Thread Cert.ProductPwNtIdeal.nD Cert.ProductPwNtIdeal.τ).loc Cert.ProductPwNtIdeal.main_arg1))
      ∧ θ_run (Cert.RefPwNtIdeal.defs (F := Ideal)) (onTc (τ := Cert.RefPwNtIdeal.τ) (Cert.RefPwNtIdeal.main (F := Ideal))) ⟨m', fun _ => 0, g'⟩ (fun r => ∀ c : Dev Cert.RefPwNtIdeal.nD,
          r.2.mem ((c.tc : Thread Cert.RefPwNtIdeal.nD Cert.RefPwNtIdeal.τ).loc Cert.RefPwNtIdeal.main_v3) = v0 c
          ∧ r.2.mem ((c.tc : Thread Cert.RefPwNtIdeal.nD Cert.RefPwNtIdeal.τ).loc Cert.RefPwNtIdeal.main_arg0) = m' ((c.tc : Thread Cert.RefPwNtIdeal.nD Cert.RefPwNtIdeal.τ).loc Cert.RefPwNtIdeal.main_arg0)
          ∧ r.2.mem ((c.tc : Thread Cert.RefPwNtIdeal.nD Cert.RefPwNtIdeal.τ).loc Cert.RefPwNtIdeal.main_arg1) = m' ((c.tc : Thread Cert.RefPwNtIdeal.nD Cert.RefPwNtIdeal.τ).loc Cert.RefPwNtIdeal.main_arg1))

def Claim : Prop :=
  ∃ (hKernel : Cert.Kernel.Facts) (hKernelIdeal : Cert.KernelIdeal.Facts) (hReferenceIdeal : Cert.ReferenceIdeal.Facts) (hProductNt : Cert.ProductNt.Facts) (hProductNtIdeal : Cert.ProductNtIdeal.Facts) (hRefNtIdeal : Cert.RefNtIdeal.Facts) (hProductTn : Cert.ProductTn.Facts) (hProductTnIdeal : Cert.ProductTnIdeal.Facts) (hRefTnIdeal : Cert.RefTnIdeal.Facts) (hProductNn : Cert.ProductNn.Facts) (hProductNnIdeal : Cert.ProductNnIdeal.Facts) (hRefNnIdeal : Cert.RefNnIdeal.Facts) (hProductSqNt : Cert.ProductSqNt.Facts) (hProductSqNtIdeal : Cert.ProductSqNtIdeal.Facts) (hRefSqNtIdeal : Cert.RefSqNtIdeal.Facts) (hProductSqNtB : Cert.ProductSqNtB.Facts) (hProductSqNtBIdeal : Cert.ProductSqNtBIdeal.Facts) (hRefSqNtBIdeal : Cert.RefSqNtBIdeal.Facts) (hProductSqTn : Cert.ProductSqTn.Facts) (hProductSqTnIdeal : Cert.ProductSqTnIdeal.Facts) (hRefSqTnIdeal : Cert.RefSqTnIdeal.Facts) (hProductSqNn : Cert.ProductSqNn.Facts) (hProductSqNnIdeal : Cert.ProductSqNnIdeal.Facts) (hRefSqNnIdeal : Cert.RefSqNnIdeal.Facts) (hProductSqNnB : Cert.ProductSqNnB.Facts) (hProductSqNnBIdeal : Cert.ProductSqNnBIdeal.Facts) (hRefSqNnBIdeal : Cert.RefSqNnBIdeal.Facts) (hAdamwIn : Cert.AdamwIn.Facts) (hAdamwInIdeal : Cert.AdamwInIdeal.Facts) (hRefAdamwInIdeal : Cert.RefAdamwInIdeal.Facts) (hAdamwUp : Cert.AdamwUp.Facts) (hAdamwUpIdeal : Cert.AdamwUpIdeal.Facts) (hRefAdamwUpIdeal : Cert.RefAdamwUpIdeal.Facts) (hAdamwPw : Cert.AdamwPw.Facts) (hAdamwPwIdeal : Cert.AdamwPwIdeal.Facts) (hRefAdamwPwIdeal : Cert.RefAdamwPwIdeal.Facts) (hAdamwSmall : Cert.AdamwSmall.Facts) (hAdamwSmallIdeal : Cert.AdamwSmallIdeal.Facts) (hRefAdamwSmallIdeal : Cert.RefAdamwSmallIdeal.Facts) (hAdamwOut : Cert.AdamwOut.Facts) (hAdamwOutIdeal : Cert.AdamwOutIdeal.Facts) (hRefAdamwOutIdeal : Cert.RefAdamwOutIdeal.Facts) (hAdamwXq : Cert.AdamwXq.Facts) (hAdamwXqIdeal : Cert.AdamwXqIdeal.Facts) (hRefAdamwXqIdeal : Cert.RefAdamwXqIdeal.Facts) (hAdamwXk : Cert.AdamwXk.Facts) (hAdamwXkIdeal : Cert.AdamwXkIdeal.Facts) (hRefAdamwXkIdeal : Cert.RefAdamwXkIdeal.Facts) (hAdamwXv : Cert.AdamwXv.Facts) (hAdamwXvIdeal : Cert.AdamwXvIdeal.Facts) (hRefAdamwXvIdeal : Cert.RefAdamwXvIdeal.Facts) (hAdamwXo : Cert.AdamwXo.Facts) (hAdamwXoIdeal : Cert.AdamwXoIdeal.Facts) (hRefAdamwXoIdeal : Cert.RefAdamwXoIdeal.Facts) (hAdamwDown : Cert.AdamwDown.Facts) (hAdamwDownIdeal : Cert.AdamwDownIdeal.Facts) (hRefAdamwDownIdeal : Cert.RefAdamwDownIdeal.Facts) (hLoss : Cert.Loss.Facts) (hLossIdeal : Cert.LossIdeal.Facts) (hRefLossIdeal : Cert.RefLossIdeal.Facts) (hNorm : Cert.Norm.Facts) (hNormIdeal : Cert.NormIdeal.Facts) (hRefNormIdeal : Cert.RefNormIdeal.Facts) (hNormMid : Cert.NormMid.Facts) (hNormMidIdeal : Cert.NormMidIdeal.Facts) (hRefNormMidIdeal : Cert.RefNormMidIdeal.Facts) (hNormMidTwo : Cert.NormMidTwo.Facts) (hNormMidTwoIdeal : Cert.NormMidTwoIdeal.Facts) (hRefNormMidTwoIdeal : Cert.RefNormMidTwoIdeal.Facts) (hNormLast : Cert.NormLast.Facts) (hNormLastIdeal : Cert.NormLastIdeal.Facts) (hRefNormLastIdeal : Cert.RefNormLastIdeal.Facts) (hNormGain : Cert.NormGain.Facts) (hNormGainIdeal : Cert.NormGainIdeal.Facts) (hRefNormGainIdeal : Cert.RefNormGainIdeal.Facts) (hLossSum : Cert.LossSum.Facts) (hLossSumIdeal : Cert.LossSumIdeal.Facts) (hRefLossSumIdeal : Cert.RefLossSumIdeal.Facts) (hRopeBack : Cert.RopeBack.Facts) (hRopeBackIdeal : Cert.RopeBackIdeal.Facts) (hRefRopeBackIdeal : Cert.RefRopeBackIdeal.Facts) (hInNorm : Cert.InNorm.Facts) (hInNormIdeal : Cert.InNormIdeal.Facts) (hRefInNormIdeal : Cert.RefInNormIdeal.Facts) (hMemNorm : Cert.MemNorm.Facts) (hMemNormIdeal : Cert.MemNormIdeal.Facts) (hRefMemNormIdeal : Cert.RefMemNormIdeal.Facts) (hResNorm : Cert.ResNorm.Facts) (hResNormIdeal : Cert.ResNormIdeal.Facts) (hRefResNormIdeal : Cert.RefResNormIdeal.Facts) (hResLast : Cert.ResLast.Facts) (hResLastIdeal : Cert.ResLastIdeal.Facts) (hRefResLastIdeal : Cert.RefResLastIdeal.Facts) (hXattnFwd : Cert.XattnFwd.Facts) (hXattnFwdIdeal : Cert.XattnFwdIdeal.Facts) (hRefXattnFwdIdeal : Cert.RefXattnFwdIdeal.Facts) (hRopeFwd : Cert.RopeFwd.Facts) (hRopeFwdIdeal : Cert.RopeFwdIdeal.Facts) (hRefRopeFwdIdeal : Cert.RefRopeFwdIdeal.Facts) (hMix : Cert.Mix.Facts) (hMixIdeal : Cert.MixIdeal.Facts) (hRefMixIdeal : Cert.RefMixIdeal.Facts) (hProductMemNn : Cert.ProductMemNn.Facts) (hProductMemNnIdeal : Cert.ProductMemNnIdeal.Facts) (hRefMemNnIdeal : Cert.RefMemNnIdeal.Facts) (hProductMemTn : Cert.ProductMemTn.Facts) (hProductMemTnIdeal : Cert.ProductMemTnIdeal.Facts) (hRefMemTnIdeal : Cert.RefMemTnIdeal.Facts) (hProductMemNt : Cert.ProductMemNt.Facts) (hProductMemNtIdeal : Cert.ProductMemNtIdeal.Facts) (hRefMemNtIdeal : Cert.RefMemNtIdeal.Facts) (hProductPwNn : Cert.ProductPwNn.Facts) (hProductPwNnIdeal : Cert.ProductPwNnIdeal.Facts) (hRefPwNnIdeal : Cert.RefPwNnIdeal.Facts) (hProductPwTn : Cert.ProductPwTn.Facts) (hProductPwTnIdeal : Cert.ProductPwTnIdeal.Facts) (hRefPwTnIdeal : Cert.RefPwTnIdeal.Facts) (hProductPwNt : Cert.ProductPwNt.Facts) (hProductPwNtIdeal : Cert.ProductPwNtIdeal.Facts) (hRefPwNtIdeal : Cert.RefPwNtIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_ProductNt (hProductNt := hProductNt)
    ∧ quiescent_ProductNtIdeal (hProductNtIdeal := hProductNtIdeal)
    ∧ quiescent_RefNtIdeal (hRefNtIdeal := hRefNtIdeal)
    ∧ quiescent_ProductTn (hProductTn := hProductTn)
    ∧ quiescent_ProductTnIdeal (hProductTnIdeal := hProductTnIdeal)
    ∧ quiescent_RefTnIdeal (hRefTnIdeal := hRefTnIdeal)
    ∧ quiescent_ProductNn (hProductNn := hProductNn)
    ∧ quiescent_ProductNnIdeal (hProductNnIdeal := hProductNnIdeal)
    ∧ quiescent_RefNnIdeal (hRefNnIdeal := hRefNnIdeal)
    ∧ quiescent_ProductSqNt (hProductSqNt := hProductSqNt)
    ∧ quiescent_ProductSqNtIdeal (hProductSqNtIdeal := hProductSqNtIdeal)
    ∧ quiescent_RefSqNtIdeal (hRefSqNtIdeal := hRefSqNtIdeal)
    ∧ quiescent_ProductSqNtB (hProductSqNtB := hProductSqNtB)
    ∧ quiescent_ProductSqNtBIdeal (hProductSqNtBIdeal := hProductSqNtBIdeal)
    ∧ quiescent_RefSqNtBIdeal (hRefSqNtBIdeal := hRefSqNtBIdeal)
    ∧ quiescent_ProductSqTn (hProductSqTn := hProductSqTn)
    ∧ quiescent_ProductSqTnIdeal (hProductSqTnIdeal := hProductSqTnIdeal)
    ∧ quiescent_RefSqTnIdeal (hRefSqTnIdeal := hRefSqTnIdeal)
    ∧ quiescent_ProductSqNn (hProductSqNn := hProductSqNn)
    ∧ quiescent_ProductSqNnIdeal (hProductSqNnIdeal := hProductSqNnIdeal)
    ∧ quiescent_RefSqNnIdeal (hRefSqNnIdeal := hRefSqNnIdeal)
    ∧ quiescent_ProductSqNnB (hProductSqNnB := hProductSqNnB)
    ∧ quiescent_ProductSqNnBIdeal (hProductSqNnBIdeal := hProductSqNnBIdeal)
    ∧ quiescent_RefSqNnBIdeal (hRefSqNnBIdeal := hRefSqNnBIdeal)
    ∧ quiescent_AdamwIn (hAdamwIn := hAdamwIn)
    ∧ quiescent_AdamwInIdeal (hAdamwInIdeal := hAdamwInIdeal)
    ∧ quiescent_RefAdamwInIdeal (hRefAdamwInIdeal := hRefAdamwInIdeal)
    ∧ quiescent_AdamwUp (hAdamwUp := hAdamwUp)
    ∧ quiescent_AdamwUpIdeal (hAdamwUpIdeal := hAdamwUpIdeal)
    ∧ quiescent_RefAdamwUpIdeal (hRefAdamwUpIdeal := hRefAdamwUpIdeal)
    ∧ quiescent_AdamwPw (hAdamwPw := hAdamwPw)
    ∧ quiescent_AdamwPwIdeal (hAdamwPwIdeal := hAdamwPwIdeal)
    ∧ quiescent_RefAdamwPwIdeal (hRefAdamwPwIdeal := hRefAdamwPwIdeal)
    ∧ quiescent_AdamwSmall (hAdamwSmall := hAdamwSmall)
    ∧ quiescent_AdamwSmallIdeal (hAdamwSmallIdeal := hAdamwSmallIdeal)
    ∧ quiescent_RefAdamwSmallIdeal (hRefAdamwSmallIdeal := hRefAdamwSmallIdeal)
    ∧ quiescent_AdamwOut (hAdamwOut := hAdamwOut)
    ∧ quiescent_AdamwOutIdeal (hAdamwOutIdeal := hAdamwOutIdeal)
    ∧ quiescent_RefAdamwOutIdeal (hRefAdamwOutIdeal := hRefAdamwOutIdeal)
    ∧ quiescent_AdamwXq (hAdamwXq := hAdamwXq)
    ∧ quiescent_AdamwXqIdeal (hAdamwXqIdeal := hAdamwXqIdeal)
    ∧ quiescent_RefAdamwXqIdeal (hRefAdamwXqIdeal := hRefAdamwXqIdeal)
    ∧ quiescent_AdamwXk (hAdamwXk := hAdamwXk)
    ∧ quiescent_AdamwXkIdeal (hAdamwXkIdeal := hAdamwXkIdeal)
    ∧ quiescent_RefAdamwXkIdeal (hRefAdamwXkIdeal := hRefAdamwXkIdeal)
    ∧ quiescent_AdamwXv (hAdamwXv := hAdamwXv)
    ∧ quiescent_AdamwXvIdeal (hAdamwXvIdeal := hAdamwXvIdeal)
    ∧ quiescent_RefAdamwXvIdeal (hRefAdamwXvIdeal := hRefAdamwXvIdeal)
    ∧ quiescent_AdamwXo (hAdamwXo := hAdamwXo)
    ∧ quiescent_AdamwXoIdeal (hAdamwXoIdeal := hAdamwXoIdeal)
    ∧ quiescent_RefAdamwXoIdeal (hRefAdamwXoIdeal := hRefAdamwXoIdeal)
    ∧ quiescent_AdamwDown (hAdamwDown := hAdamwDown)
    ∧ quiescent_AdamwDownIdeal (hAdamwDownIdeal := hAdamwDownIdeal)
    ∧ quiescent_RefAdamwDownIdeal (hRefAdamwDownIdeal := hRefAdamwDownIdeal)
    ∧ quiescent_Loss (hLoss := hLoss)
    ∧ quiescent_LossIdeal (hLossIdeal := hLossIdeal)
    ∧ quiescent_RefLossIdeal (hRefLossIdeal := hRefLossIdeal)
    ∧ quiescent_Norm (hNorm := hNorm)
    ∧ quiescent_NormIdeal (hNormIdeal := hNormIdeal)
    ∧ quiescent_RefNormIdeal (hRefNormIdeal := hRefNormIdeal)
    ∧ quiescent_NormMid (hNormMid := hNormMid)
    ∧ quiescent_NormMidIdeal (hNormMidIdeal := hNormMidIdeal)
    ∧ quiescent_RefNormMidIdeal (hRefNormMidIdeal := hRefNormMidIdeal)
    ∧ quiescent_NormMidTwo (hNormMidTwo := hNormMidTwo)
    ∧ quiescent_NormMidTwoIdeal (hNormMidTwoIdeal := hNormMidTwoIdeal)
    ∧ quiescent_RefNormMidTwoIdeal (hRefNormMidTwoIdeal := hRefNormMidTwoIdeal)
    ∧ quiescent_NormLast (hNormLast := hNormLast)
    ∧ quiescent_NormLastIdeal (hNormLastIdeal := hNormLastIdeal)
    ∧ quiescent_RefNormLastIdeal (hRefNormLastIdeal := hRefNormLastIdeal)
    ∧ quiescent_NormGain (hNormGain := hNormGain)
    ∧ quiescent_NormGainIdeal (hNormGainIdeal := hNormGainIdeal)
    ∧ quiescent_RefNormGainIdeal (hRefNormGainIdeal := hRefNormGainIdeal)
    ∧ quiescent_LossSum (hLossSum := hLossSum)
    ∧ quiescent_LossSumIdeal (hLossSumIdeal := hLossSumIdeal)
    ∧ quiescent_RefLossSumIdeal (hRefLossSumIdeal := hRefLossSumIdeal)
    ∧ quiescent_RopeBack (hRopeBack := hRopeBack)
    ∧ quiescent_RopeBackIdeal (hRopeBackIdeal := hRopeBackIdeal)
    ∧ quiescent_RefRopeBackIdeal (hRefRopeBackIdeal := hRefRopeBackIdeal)
    ∧ quiescent_InNorm (hInNorm := hInNorm)
    ∧ quiescent_InNormIdeal (hInNormIdeal := hInNormIdeal)
    ∧ quiescent_RefInNormIdeal (hRefInNormIdeal := hRefInNormIdeal)
    ∧ quiescent_MemNorm (hMemNorm := hMemNorm)
    ∧ quiescent_MemNormIdeal (hMemNormIdeal := hMemNormIdeal)
    ∧ quiescent_RefMemNormIdeal (hRefMemNormIdeal := hRefMemNormIdeal)
    ∧ quiescent_ResNorm (hResNorm := hResNorm)
    ∧ quiescent_ResNormIdeal (hResNormIdeal := hResNormIdeal)
    ∧ quiescent_RefResNormIdeal (hRefResNormIdeal := hRefResNormIdeal)
    ∧ quiescent_ResLast (hResLast := hResLast)
    ∧ quiescent_ResLastIdeal (hResLastIdeal := hResLastIdeal)
    ∧ quiescent_RefResLastIdeal (hRefResLastIdeal := hRefResLastIdeal)
    ∧ quiescent_XattnFwd (hXattnFwd := hXattnFwd)
    ∧ quiescent_XattnFwdIdeal (hXattnFwdIdeal := hXattnFwdIdeal)
    ∧ quiescent_RefXattnFwdIdeal (hRefXattnFwdIdeal := hRefXattnFwdIdeal)
    ∧ quiescent_RopeFwd (hRopeFwd := hRopeFwd)
    ∧ quiescent_RopeFwdIdeal (hRopeFwdIdeal := hRopeFwdIdeal)
    ∧ quiescent_RefRopeFwdIdeal (hRefRopeFwdIdeal := hRefRopeFwdIdeal)
    ∧ quiescent_Mix (hMix := hMix)
    ∧ quiescent_MixIdeal (hMixIdeal := hMixIdeal)
    ∧ quiescent_RefMixIdeal (hRefMixIdeal := hRefMixIdeal)
    ∧ quiescent_ProductMemNn (hProductMemNn := hProductMemNn)
    ∧ quiescent_ProductMemNnIdeal (hProductMemNnIdeal := hProductMemNnIdeal)
    ∧ quiescent_RefMemNnIdeal (hRefMemNnIdeal := hRefMemNnIdeal)
    ∧ quiescent_ProductMemTn (hProductMemTn := hProductMemTn)
    ∧ quiescent_ProductMemTnIdeal (hProductMemTnIdeal := hProductMemTnIdeal)
    ∧ quiescent_RefMemTnIdeal (hRefMemTnIdeal := hRefMemTnIdeal)
    ∧ quiescent_ProductMemNt (hProductMemNt := hProductMemNt)
    ∧ quiescent_ProductMemNtIdeal (hProductMemNtIdeal := hProductMemNtIdeal)
    ∧ quiescent_RefMemNtIdeal (hRefMemNtIdeal := hRefMemNtIdeal)
    ∧ quiescent_ProductPwNn (hProductPwNn := hProductPwNn)
    ∧ quiescent_ProductPwNnIdeal (hProductPwNnIdeal := hProductPwNnIdeal)
    ∧ quiescent_RefPwNnIdeal (hRefPwNnIdeal := hRefPwNnIdeal)
    ∧ quiescent_ProductPwTn (hProductPwTn := hProductPwTn)
    ∧ quiescent_ProductPwTnIdeal (hProductPwTnIdeal := hProductPwTnIdeal)
    ∧ quiescent_RefPwTnIdeal (hRefPwTnIdeal := hRefPwTnIdeal)
    ∧ quiescent_ProductPwNt (hProductPwNt := hProductPwNt)
    ∧ quiescent_ProductPwNtIdeal (hProductPwNtIdeal := hProductPwNtIdeal)
    ∧ quiescent_RefPwNtIdeal (hRefPwNtIdeal := hRefPwNtIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_ProductNt_ProductNtIdeal
    ∧ algebraic_ProductNtIdeal_RefNtIdeal (hProductNtIdeal := hProductNtIdeal) (hRefNtIdeal := hRefNtIdeal)
    ∧ preserves_ProductTn_ProductTnIdeal
    ∧ algebraic_ProductTnIdeal_RefTnIdeal (hProductTnIdeal := hProductTnIdeal) (hRefTnIdeal := hRefTnIdeal)
    ∧ preserves_ProductNn_ProductNnIdeal
    ∧ algebraic_ProductNnIdeal_RefNnIdeal (hProductNnIdeal := hProductNnIdeal) (hRefNnIdeal := hRefNnIdeal)
    ∧ preserves_ProductSqNt_ProductSqNtIdeal
    ∧ algebraic_ProductSqNtIdeal_RefSqNtIdeal (hProductSqNtIdeal := hProductSqNtIdeal) (hRefSqNtIdeal := hRefSqNtIdeal)
    ∧ preserves_ProductSqNtB_ProductSqNtBIdeal
    ∧ algebraic_ProductSqNtBIdeal_RefSqNtBIdeal (hProductSqNtBIdeal := hProductSqNtBIdeal) (hRefSqNtBIdeal := hRefSqNtBIdeal)
    ∧ preserves_ProductSqTn_ProductSqTnIdeal
    ∧ algebraic_ProductSqTnIdeal_RefSqTnIdeal (hProductSqTnIdeal := hProductSqTnIdeal) (hRefSqTnIdeal := hRefSqTnIdeal)
    ∧ preserves_ProductSqNn_ProductSqNnIdeal
    ∧ algebraic_ProductSqNnIdeal_RefSqNnIdeal (hProductSqNnIdeal := hProductSqNnIdeal) (hRefSqNnIdeal := hRefSqNnIdeal)
    ∧ preserves_ProductSqNnB_ProductSqNnBIdeal
    ∧ algebraic_ProductSqNnBIdeal_RefSqNnBIdeal (hProductSqNnBIdeal := hProductSqNnBIdeal) (hRefSqNnBIdeal := hRefSqNnBIdeal)
    ∧ preserves_AdamwIn_AdamwInIdeal
    ∧ algebraic_AdamwInIdeal_RefAdamwInIdeal (hAdamwInIdeal := hAdamwInIdeal) (hRefAdamwInIdeal := hRefAdamwInIdeal)
    ∧ preserves_AdamwUp_AdamwUpIdeal
    ∧ algebraic_AdamwUpIdeal_RefAdamwUpIdeal (hAdamwUpIdeal := hAdamwUpIdeal) (hRefAdamwUpIdeal := hRefAdamwUpIdeal)
    ∧ preserves_AdamwPw_AdamwPwIdeal
    ∧ algebraic_AdamwPwIdeal_RefAdamwPwIdeal (hAdamwPwIdeal := hAdamwPwIdeal) (hRefAdamwPwIdeal := hRefAdamwPwIdeal)
    ∧ preserves_AdamwSmall_AdamwSmallIdeal
    ∧ algebraic_AdamwSmallIdeal_RefAdamwSmallIdeal (hAdamwSmallIdeal := hAdamwSmallIdeal) (hRefAdamwSmallIdeal := hRefAdamwSmallIdeal)
    ∧ preserves_AdamwOut_AdamwOutIdeal
    ∧ algebraic_AdamwOutIdeal_RefAdamwOutIdeal (hAdamwOutIdeal := hAdamwOutIdeal) (hRefAdamwOutIdeal := hRefAdamwOutIdeal)
    ∧ preserves_AdamwXq_AdamwXqIdeal
    ∧ algebraic_AdamwXqIdeal_RefAdamwXqIdeal (hAdamwXqIdeal := hAdamwXqIdeal) (hRefAdamwXqIdeal := hRefAdamwXqIdeal)
    ∧ preserves_AdamwXk_AdamwXkIdeal
    ∧ algebraic_AdamwXkIdeal_RefAdamwXkIdeal (hAdamwXkIdeal := hAdamwXkIdeal) (hRefAdamwXkIdeal := hRefAdamwXkIdeal)
    ∧ preserves_AdamwXv_AdamwXvIdeal
    ∧ algebraic_AdamwXvIdeal_RefAdamwXvIdeal (hAdamwXvIdeal := hAdamwXvIdeal) (hRefAdamwXvIdeal := hRefAdamwXvIdeal)
    ∧ preserves_AdamwXo_AdamwXoIdeal
    ∧ algebraic_AdamwXoIdeal_RefAdamwXoIdeal (hAdamwXoIdeal := hAdamwXoIdeal) (hRefAdamwXoIdeal := hRefAdamwXoIdeal)
    ∧ preserves_AdamwDown_AdamwDownIdeal
    ∧ algebraic_AdamwDownIdeal_RefAdamwDownIdeal (hAdamwDownIdeal := hAdamwDownIdeal) (hRefAdamwDownIdeal := hRefAdamwDownIdeal)
    ∧ preserves_Loss_LossIdeal
    ∧ algebraic_LossIdeal_RefLossIdeal (hLossIdeal := hLossIdeal) (hRefLossIdeal := hRefLossIdeal)
    ∧ preserves_Norm_NormIdeal
    ∧ algebraic_NormIdeal_RefNormIdeal (hNormIdeal := hNormIdeal) (hRefNormIdeal := hRefNormIdeal)
    ∧ preserves_NormMid_NormMidIdeal
    ∧ algebraic_NormMidIdeal_RefNormMidIdeal (hNormMidIdeal := hNormMidIdeal) (hRefNormMidIdeal := hRefNormMidIdeal)
    ∧ preserves_NormMidTwo_NormMidTwoIdeal
    ∧ algebraic_NormMidTwoIdeal_RefNormMidTwoIdeal (hNormMidTwoIdeal := hNormMidTwoIdeal) (hRefNormMidTwoIdeal := hRefNormMidTwoIdeal)
    ∧ preserves_NormLast_NormLastIdeal
    ∧ algebraic_NormLastIdeal_RefNormLastIdeal (hNormLastIdeal := hNormLastIdeal) (hRefNormLastIdeal := hRefNormLastIdeal)
    ∧ preserves_NormGain_NormGainIdeal
    ∧ algebraic_NormGainIdeal_RefNormGainIdeal (hNormGainIdeal := hNormGainIdeal) (hRefNormGainIdeal := hRefNormGainIdeal)
    ∧ preserves_LossSum_LossSumIdeal
    ∧ algebraic_LossSumIdeal_RefLossSumIdeal (hLossSumIdeal := hLossSumIdeal) (hRefLossSumIdeal := hRefLossSumIdeal)
    ∧ preserves_RopeBack_RopeBackIdeal
    ∧ algebraic_RopeBackIdeal_RefRopeBackIdeal (hRopeBackIdeal := hRopeBackIdeal) (hRefRopeBackIdeal := hRefRopeBackIdeal)
    ∧ preserves_InNorm_InNormIdeal
    ∧ algebraic_InNormIdeal_RefInNormIdeal (hInNormIdeal := hInNormIdeal) (hRefInNormIdeal := hRefInNormIdeal)
    ∧ preserves_MemNorm_MemNormIdeal
    ∧ algebraic_MemNormIdeal_RefMemNormIdeal (hMemNormIdeal := hMemNormIdeal) (hRefMemNormIdeal := hRefMemNormIdeal)
    ∧ preserves_ResNorm_ResNormIdeal
    ∧ algebraic_ResNormIdeal_RefResNormIdeal (hResNormIdeal := hResNormIdeal) (hRefResNormIdeal := hRefResNormIdeal)
    ∧ preserves_ResLast_ResLastIdeal
    ∧ algebraic_ResLastIdeal_RefResLastIdeal (hResLastIdeal := hResLastIdeal) (hRefResLastIdeal := hRefResLastIdeal)
    ∧ preserves_XattnFwd_XattnFwdIdeal
    ∧ algebraic_XattnFwdIdeal_RefXattnFwdIdeal (hXattnFwdIdeal := hXattnFwdIdeal) (hRefXattnFwdIdeal := hRefXattnFwdIdeal)
    ∧ preserves_RopeFwd_RopeFwdIdeal
    ∧ algebraic_RopeFwdIdeal_RefRopeFwdIdeal (hRopeFwdIdeal := hRopeFwdIdeal) (hRefRopeFwdIdeal := hRefRopeFwdIdeal)
    ∧ preserves_Mix_MixIdeal
    ∧ algebraic_MixIdeal_RefMixIdeal (hMixIdeal := hMixIdeal) (hRefMixIdeal := hRefMixIdeal)
    ∧ preserves_ProductMemNn_ProductMemNnIdeal
    ∧ algebraic_ProductMemNnIdeal_RefMemNnIdeal (hProductMemNnIdeal := hProductMemNnIdeal) (hRefMemNnIdeal := hRefMemNnIdeal)
    ∧ preserves_ProductMemTn_ProductMemTnIdeal
    ∧ algebraic_ProductMemTnIdeal_RefMemTnIdeal (hProductMemTnIdeal := hProductMemTnIdeal) (hRefMemTnIdeal := hRefMemTnIdeal)
    ∧ preserves_ProductMemNt_ProductMemNtIdeal
    ∧ algebraic_ProductMemNtIdeal_RefMemNtIdeal (hProductMemNtIdeal := hProductMemNtIdeal) (hRefMemNtIdeal := hRefMemNtIdeal)
    ∧ preserves_ProductPwNn_ProductPwNnIdeal
    ∧ algebraic_ProductPwNnIdeal_RefPwNnIdeal (hProductPwNnIdeal := hProductPwNnIdeal) (hRefPwNnIdeal := hRefPwNnIdeal)
    ∧ preserves_ProductPwTn_ProductPwTnIdeal
    ∧ algebraic_ProductPwTnIdeal_RefPwTnIdeal (hProductPwTnIdeal := hProductPwTnIdeal) (hRefPwTnIdeal := hRefPwTnIdeal)
    ∧ preserves_ProductPwNt_ProductPwNtIdeal
    ∧ algebraic_ProductPwNtIdeal_RefPwNtIdeal (hProductPwNtIdeal := hProductPwNtIdeal) (hRefPwNtIdeal := hRefPwNtIdeal)
-- ==== Pre_finite_qk.lean ====
abbrev S4096x1024 : Shape := ⟨2, ![4096, 1024]⟩
abbrev S256x1024 : Shape := ⟨2, ![256, 1024]⟩
abbrev S_ : Shape := ⟨0, ![]⟩
abbrev S1024 : Shape := ⟨1, ![1024]⟩

class Facts : Prop where
  bitsLt_bf16_f32 : FTy.bits .bf16 < FTy.bits .f32
  reducesTo_S4096x1024_S1024_d0 : S4096x1024.ReducesTo [0] S1024
  h_S_ : 0 < S_.numel
  bcast_S_S1024 : S_.BroadcastsInDim S1024 (![] : Fin 0 → Fin S1024.rank)
  reducesTo_S256x1024_S1024_d0 : S256x1024.ReducesTo [0] S1024

variable [Facts]

def fn {F : FTy → Type} [FloatOps F] (main_arg0 : FVec F S4096x1024 .bf16) (main_arg1 : FVec F S256x1024 .bf16) (main_arg2 : FVec F S256x1024 .bf16) (main_arg3 : FVec F S4096x1024 .bf16) : IVec S1024 1 :=
  let main_v0 : FVec F S4096x1024 .f32 := (extf .f32 · bitsLt_bf16_f32) main_arg0
  let main_v1 : FVec F S256x1024 .f32 := (extf .f32 · bitsLt_bf16_f32) main_arg1
  let main_v2 : FVec F S4096x1024 .f32 := Host.absf main_v0
  let main_cst : FVec F S_ .f32 := constant S_ .f32 0xFF800000#32
  let main_v3 : FVec F S1024 .f32 := (fun x v => Host.reduce FloatOps.maximumf x v reducesTo_S4096x1024_S1024_d0 h_S_) main_v2 main_cst
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S256x1024 .f32 := Host.absf main_v1
  let main_cst_1 : FVec F S_ .f32 := constant S_ .f32 0xFF800000#32
  let main_v7 : FVec F S1024 .f32 := (fun x v => Host.reduce FloatOps.maximumf x v reducesTo_S256x1024_S1024_d0 h_S_) main_v6 main_cst_1
  let main_cst_2 : FVec F S_ .f32 := constant S_ .f32 0x7F800000#32
  let main_v8 : FVec F S1024 .f32 := broadcastInDim S1024 ![] bcast_S_S1024 main_cst_2
  let main_v9 : IVec S1024 1 := cmpf .olt main_v7 main_v8
  let main_v10 : IVec S1024 1 := andi main_v5 main_v9
  main_v10
-- ==== Kernel.lean ====
abbrev S4096x1024 : Shape := ⟨2, ![4096, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .hbm, ⟨4, _⟩ => ⟨S4096x1024, .bf16⟩
  | .hbm, ⟨5, _⟩ => ⟨S256x1024, .f32⟩
  | .hbm, ⟨6, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .hbm, ⟨4, _⟩ => ⟨S4096x1024, .f32⟩
  | .hbm, ⟨5, _⟩ => ⟨S256x1024, .f32⟩
  | .hbm, ⟨6, _⟩ => ⟨S256x1024, .f32⟩
  | .hbm, ⟨7, _⟩ => ⟨S4096x1024, .f32⟩
  | .hbm, ⟨8, _⟩ => ⟨S4096x4x256, .f32⟩
  | .hbm, ⟨9, _⟩ => ⟨S256x4x256, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x256x4096, .f32⟩
  | .hbm, ⟨54, _⟩ => ⟨S4096x4x256, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S256x1024, .f32⟩
  | .hbm, ⟨84, _⟩ => ⟨S4096x1024, .f32⟩
  | .hbm, ⟨85, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== ProductNt.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefNtIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProductTn.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefTnIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProductNn.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefNnIdeal.lean ====
abbrev S4096x2816 : Shape := ⟨2, ![4096, 2816]⟩
abbrev S2816x1024 : Shape := ⟨2, ![2816, 1024]⟩
abbrev S1024x2816 : Shape := ⟨2, ![1024, 2816]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1024x2816, .bf16⟩
  | .hbm, ⟨3, _⟩ => ⟨S4096x2816, .f32⟩
  | .hbm, ⟨4, _⟩ => ⟨S1024x2816, .f32⟩
  | .hbm, ⟨5, _⟩ => ⟨S_, .f32⟩
  | .hbm, ⟨6, _⟩ => ⟨S4096x1024, .f32⟩
  | .hbm, ⟨7, _⟩ => ⟨S4096x2816, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProductSqNt.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSqNtIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProductSqNtB.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSqNtBIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProductSqTn.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefSqTnIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProductSqNn.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSqNnIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductSqNnB.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSqNnBIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamwIn.lean ====
abbrev S8x2048x352 : Shape := ⟨3, ![8, 2048, 352]⟩
abbrev S2048x352 : Shape := ⟨2, ![2048, 352]⟩
abbrev S8x512x352 : Shape := ⟨3, ![8, 512, 352]⟩
abbrev S512x352 : Shape := ⟨2, ![512, 352]⟩
abbrev S1x512x352 : Shape := ⟨3, ![1, 512, 352]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x352, .bf16⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .hbm, ⟨7, _⟩ => ⟨S2048x352, .f32⟩
  | .local _ .vmem, ⟨0, _⟩ => ⟨S8x512x352, .bf16⟩
  | .local _ .vmem, ⟨1, _⟩ => ⟨S8x512x352, .bf16⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | .local _ .vmem, ⟨14, _⟩ => ⟨S512x352, .f32⟩
  | .local _ .vmem, ⟨15, _⟩ => ⟨S512x352, .f32⟩
  | _, _ => ⟨S8x2048x352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInIdeal.lean ====
abbrev S8x2048x352 : Shape := ⟨3, ![8, 2048, 352]⟩
abbrev S2048x352 : Shape := ⟨2, ![2048, 352]⟩
abbrev S8x512x352 : Shape := ⟨3, ![8, 512, 352]⟩
abbrev S512x352 : Shape := ⟨2, ![512, 352]⟩
abbrev S1x512x352 : Shape := ⟨3, ![1, 512, 352]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x352, .bf16⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .hbm, ⟨7, _⟩ => ⟨S2048x352, .f32⟩
  | .local _ .vmem, ⟨0, _⟩ => ⟨S8x512x352, .bf16⟩
  | .local _ .vmem, ⟨1, _⟩ => ⟨S8x512x352, .bf16⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | .local _ .vmem, ⟨14, _⟩ => ⟨S512x352, .f32⟩
  | .local _ .vmem, ⟨15, _⟩ => ⟨S512x352, .f32⟩
  | _, _ => ⟨S8x2048x352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamwInIdeal.lean ====
abbrev S8x2048x352 : Shape := ⟨3, ![8, 2048, 352]⟩
abbrev S2048x352 : Shape := ⟨2, ![2048, 352]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x352, .bf16⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S8x2048x352, .f32⟩
  | .hbm, ⟨5, _⟩ => ⟨S_, .f32⟩
  | .hbm, ⟨6, _⟩ => ⟨S2048x352, .f32⟩
  | .hbm, ⟨7, _⟩ => ⟨S_, .f32⟩
  | .hbm, ⟨8, _⟩ => ⟨S2048x352, .f32⟩
  | .hbm, ⟨9, _⟩ => ⟨S2048x352, .f32⟩
  | .hbm, ⟨10, _⟩ => ⟨S_, .f32⟩
  | .hbm, ⟨11, _⟩ => ⟨S2048x352, .f32⟩
  | .hbm, ⟨12, _⟩ => ⟨S2048x352, .f32⟩
  | .hbm, ⟨13, _⟩ => ⟨S2048x352, .f32⟩
  | .hbm, ⟨14, _⟩ => ⟨S_, .f32⟩
  | .hbm, ⟨15, _⟩ => ⟨S2048x352, .f32⟩
  | .hbm, ⟨16, _⟩ => ⟨S2048x352, .f32⟩
  | .hbm, ⟨17, _⟩ => ⟨S2048x352, .f32⟩
  | .hbm, ⟨18, _⟩ => ⟨S_, .f32⟩
  | .hbm, ⟨19, _⟩ => ⟨S2048x352, .f32⟩
  | .hbm, ⟨20, _⟩ => ⟨S2048x352, .f32⟩
  | .hbm, ⟨21, _⟩ => ⟨S2048x352, .f32⟩
  | .hbm, ⟨22, _⟩ => ⟨S_, .f32⟩
  | .hbm, ⟨23, _⟩ => ⟨S2048x352, .f32⟩
  | .hbm, ⟨24, _⟩ => ⟨S2048x352, .f32⟩
  | .hbm, ⟨25, _⟩ => ⟨S_, .f32⟩
  | .hbm, ⟨26, _⟩ => ⟨S2048x352, .f32⟩
  | .hbm, ⟨27, _⟩ => ⟨S2048x352, .f32⟩
  | .hbm, ⟨28, _⟩ => ⟨S2048x352, .f32⟩
  | .hbm, ⟨29, _⟩ => ⟨S_, .f32⟩
  | .hbm, ⟨30, _⟩ => ⟨S2048x352, .f32⟩
  | .hbm, ⟨31, _⟩ => ⟨S2048x352, .f32⟩
  | .hbm, ⟨32, _⟩ => ⟨S2048x352, .f32⟩
  | .hbm, ⟨33, _⟩ => ⟨S_, .f32⟩
  | .hbm, ⟨34, _⟩ => ⟨S2048x352, .f32⟩
  | .hbm, ⟨35, _⟩ => ⟨S2048x352, .f32⟩
  | .hbm, ⟨36, _⟩ => ⟨S2048x352, .f32⟩
  | .hbm, ⟨37, _⟩ => ⟨S_, .f32⟩
  | .hbm, ⟨38, _⟩ => ⟨S2048x352, .f32⟩
  | .hbm, ⟨39, _⟩ => ⟨S2048x352, .f32⟩
  | _, _ => ⟨S8x2048x352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwUp.lean ====
abbrev S8x2048x704 : Shape := ⟨3, ![8, 2048, 704]⟩
abbrev S2048x704 : Shape := ⟨2, ![2048, 704]⟩
abbrev S8x512x704 : Shape := ⟨3, ![8, 512, 704]⟩
abbrev S512x704 : Shape := ⟨2, ![512, 704]⟩
abbrev S1x512x704 : Shape := ⟨3, ![1, 512, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S8x512x704, .bf16⟩
  | .local _ .vmem, ⟨1, _⟩ => ⟨S8x512x704, .bf16⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwUpIdeal.lean ====
abbrev S8x2048x704 : Shape := ⟨3, ![8, 2048, 704]⟩
abbrev S2048x704 : Shape := ⟨2, ![2048, 704]⟩
abbrev S8x512x704 : Shape := ⟨3, ![8, 512, 704]⟩
abbrev S512x704 : Shape := ⟨2, ![512, 704]⟩
abbrev S1x512x704 : Shape := ⟨3, ![1, 512, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S8x512x704, .bf16⟩
  | .local _ .vmem, ⟨1, _⟩ => ⟨S8x512x704, .bf16⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamwUpIdeal.lean ====
abbrev S8x2048x704 : Shape := ⟨3, ![8, 2048, 704]⟩
abbrev S2048x704 : Shape := ⟨2, ![2048, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S8x2048x704, .f32⟩
  | .hbm, ⟨5, _⟩ => ⟨S_, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S_, .f32⟩
  | .hbm, ⟨11, _⟩ => ⟨S2048x704, .f32⟩
  | .hbm, ⟨12, _⟩ => ⟨S2048x704, .f32⟩
  | .hbm, ⟨13, _⟩ => ⟨S2048x704, .f32⟩
  | .hbm, ⟨14, _⟩ => ⟨S_, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S_, .f32⟩
  | .hbm, ⟨19, _⟩ => ⟨S2048x704, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S_, .f32⟩
  | .hbm, ⟨26, _⟩ => ⟨S2048x704, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S2048x704, .f32⟩
  | .hbm, ⟨37, _⟩ => ⟨S_, .f32⟩
  | .hbm, ⟨38, _⟩ => ⟨S2048x704, .f32⟩
  | .hbm, ⟨39, _⟩ => ⟨S2048x704, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwPw.lean ====
abbrev S8x64x256 : Shape := ⟨3, ![8, 64, 256]⟩
abbrev S64x256 : Shape := ⟨2, ![64, 256]⟩
abbrev S1x64x256 : Shape := ⟨3, ![1, 64, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x64x256, .bf16⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S64x256, .f32⟩
  | .local _ .vmem, ⟨0, _⟩ => ⟨S8x64x256, .bf16⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | _, _ => ⟨S8x64x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwPwIdeal.lean ====
abbrev S8x64x256 : Shape := ⟨3, ![8, 64, 256]⟩
abbrev S64x256 : Shape := ⟨2, ![64, 256]⟩
abbrev S1x64x256 : Shape := ⟨3, ![1, 64, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x64x256, .bf16⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S64x256, .f32⟩
  | .local _ .vmem, ⟨0, _⟩ => ⟨S8x64x256, .bf16⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | _, _ => ⟨S8x64x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdamwPwIdeal.lean ====
abbrev S8x64x256 : Shape := ⟨3, ![8, 64, 256]⟩
abbrev S64x256 : Shape := ⟨2, ![64, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x64x256, .bf16⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S8x64x256, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S_, .f32⟩
  | .hbm, ⟨11, _⟩ => ⟨S64x256, .f32⟩
  | .hbm, ⟨12, _⟩ => ⟨S64x256, .f32⟩
  | .hbm, ⟨13, _⟩ => ⟨S64x256, .f32⟩
  | .hbm, ⟨14, _⟩ => ⟨S_, .f32⟩
  | .hbm, ⟨15, _⟩ => ⟨S64x256, .f32⟩
  | .hbm, ⟨16, _⟩ => ⟨S64x256, .f32⟩
  | .hbm, ⟨17, _⟩ => ⟨S64x256, .f32⟩
  | .hbm, ⟨18, _⟩ => ⟨S_, .f32⟩
  | .hbm, ⟨19, _⟩ => ⟨S64x256, .f32⟩
  | .hbm, ⟨20, _⟩ => ⟨S64x256, .f32⟩
  | .hbm, ⟨21, _⟩ => ⟨S64x256, .f32⟩
  | .hbm, ⟨22, _⟩ => ⟨S_, .f32⟩
  | .hbm, ⟨23, _⟩ => ⟨S64x256, .f32⟩
  | .hbm, ⟨24, _⟩ => ⟨S64x256, .f32⟩
  | .hbm, ⟨25, _⟩ => ⟨S_, .f32⟩
  | .hbm, ⟨26, _⟩ => ⟨S64x256, .f32⟩
  | .hbm, ⟨27, _⟩ => ⟨S64x256, .f32⟩
  | .hbm, ⟨28, _⟩ => ⟨S64x256, .f32⟩
  | .hbm, ⟨29, _⟩ => ⟨S_, .f32⟩
  | .hbm, ⟨30, _⟩ => ⟨S64x256, .f32⟩
  | .hbm, ⟨31, _⟩ => ⟨S64x256, .f32⟩
  | .hbm, ⟨32, _⟩ => ⟨S64x256, .f32⟩
  | .hbm, ⟨33, _⟩ => ⟨S_, .f32⟩
  | .hbm, ⟨34, _⟩ => ⟨S64x256, .f32⟩
  | .hbm, ⟨35, _⟩ => ⟨S64x256, .f32⟩
  | .hbm, ⟨36, _⟩ => ⟨S64x256, .f32⟩
  | .hbm, ⟨37, _⟩ => ⟨S_, .f32⟩
  | .hbm, ⟨38, _⟩ => ⟨S64x256, .f32⟩
  | .hbm, ⟨39, _⟩ => ⟨S64x256, .f32⟩
  | _, _ => ⟨S8x64x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwSmall.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .hbm, ⟨7, _⟩ => ⟨S48x1024, .f32⟩
  | .local _ .vmem, ⟨0, _⟩ => ⟨S8x48x1024, .f32⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | .local _ .vmem, ⟨7, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S48x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSmallIdeal.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .hbm, ⟨7, _⟩ => ⟨S48x1024, .f32⟩
  | .local _ .vmem, ⟨0, _⟩ => ⟨S8x48x1024, .f32⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | .local _ .vmem, ⟨7, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S48x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdamwSmallIdeal.lean ====
abbrev S8x48x1024 : Shape := ⟨3, ![8, 48, 1024]⟩
abbrev S48x1024 : Shape := ⟨2, ![48, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S_, .f32⟩
  | .hbm, ⟨5, _⟩ => ⟨S48x1024, .f32⟩
  | .hbm, ⟨6, _⟩ => ⟨S_, .f32⟩
  | .hbm, ⟨7, _⟩ => ⟨S48x1024, .f32⟩
  | .hbm, ⟨8, _⟩ => ⟨S48x1024, .f32⟩
  | .hbm, ⟨9, _⟩ => ⟨S_, .f32⟩
  | .hbm, ⟨10, _⟩ => ⟨S48x1024, .f32⟩
  | .hbm, ⟨11, _⟩ => ⟨S48x1024, .f32⟩
  | .hbm, ⟨12, _⟩ => ⟨S48x1024, .f32⟩
  | .hbm, ⟨13, _⟩ => ⟨S_, .f32⟩
  | .hbm, ⟨14, _⟩ => ⟨S48x1024, .f32⟩
  | .hbm, ⟨15, _⟩ => ⟨S48x1024, .f32⟩
  | .hbm, ⟨16, _⟩ => ⟨S48x1024, .f32⟩
  | .hbm, ⟨17, _⟩ => ⟨S_, .f32⟩
  | .hbm, ⟨18, _⟩ => ⟨S48x1024, .f32⟩
  | .hbm, ⟨19, _⟩ => ⟨S48x1024, .f32⟩
  | .hbm, ⟨20, _⟩ => ⟨S48x1024, .f32⟩
  | .hbm, ⟨21, _⟩ => ⟨S_, .f32⟩
  | .hbm, ⟨22, _⟩ => ⟨S48x1024, .f32⟩
  | .hbm, ⟨23, _⟩ => ⟨S48x1024, .f32⟩
  | .hbm, ⟨24, _⟩ => ⟨S_, .f32⟩
  | .hbm, ⟨25, _⟩ => ⟨S48x1024, .f32⟩
  | .hbm, ⟨26, _⟩ => ⟨S48x1024, .f32⟩
  | .hbm, ⟨27, _⟩ => ⟨S48x1024, .f32⟩
  | .hbm, ⟨28, _⟩ => ⟨S_, .f32⟩
  | .hbm, ⟨29, _⟩ => ⟨S48x1024, .f32⟩
  | .hbm, ⟨30, _⟩ => ⟨S48x1024, .f32⟩
  | .hbm, ⟨31, _⟩ => ⟨S48x1024, .f32⟩
  | .hbm, ⟨32, _⟩ => ⟨S_, .f32⟩
  | .hbm, ⟨33, _⟩ => ⟨S48x1024, .f32⟩
  | .hbm, ⟨34, _⟩ => ⟨S48x1024, .f32⟩
  | .hbm, ⟨35, _⟩ => ⟨S48x1024, .f32⟩
  | .hbm, ⟨36, _⟩ => ⟨S_, .f32⟩
  | .hbm, ⟨37, _⟩ => ⟨S48x1024, .f32⟩
  | .hbm, ⟨38, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamwOut.lean ====
abbrev S8x144x1024 : Shape := ⟨3, ![8, 144, 1024]⟩
abbrev S8x480x1024 : Shape := ⟨3, ![8, 480, 1024]⟩
abbrev S256x1024 : Shape := ⟨2, ![256, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x144x1024, .bf16⟩
  | .hbm, ⟨1, _⟩ => ⟨S8x480x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let v2 : BitVec 32 := Scalar.addi c0_i32 v1
  let c3_i32 : BitVec 32 := 3#32
  let v3 : BitVec 32 := Scalar.muli c3_i32 arg0
  let v4 : BitVec 32 := Scalar.addi v2 v3
  let c0_i32_0 : BitVec 32 := 0#32
  let c0_i32_1 : BitVec 32 := 0#32
  let c0_i32_2 : BitVec 32 := 0#32
  ![c0_i32_0.toNat, v4.toNat, c0_i32_1.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c11_i32 : BitVec 32 := 11#32
  let v1 : BitVec 32 := Scalar.addi c11_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwOutIdeal.lean ====
abbrev S8x144x1024 : Shape := ⟨3, ![8, 144, 1024]⟩
abbrev S8x480x1024 : Shape := ⟨3, ![8, 480, 1024]⟩
abbrev S256x1024 : Shape := ⟨2, ![256, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x144x1024, .bf16⟩
  | .hbm, ⟨1, _⟩ => ⟨S8x480x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let v2 : BitVec 32 := Scalar.addi c0_i32 v1
  let c3_i32 : BitVec 32 := 3#32
  let v3 : BitVec 32 := Scalar.muli c3_i32 arg0
  let v4 : BitVec 32 := Scalar.addi v2 v3
  let c0_i32_0 : BitVec 32 := 0#32
  let c0_i32_1 : BitVec 32 := 0#32
  let c0_i32_2 : BitVec 32 := 0#32
  ![c0_i32_0.toNat, v4.toNat, c0_i32_1.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c11_i32 : BitVec 32 := 11#32
  let v1 : BitVec 32 := Scalar.addi c11_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdamwOutIdeal.lean ====
abbrev S8x144x1024 : Shape := ⟨3, ![8, 144, 1024]⟩
abbrev S8x480x1024 : Shape := ⟨3, ![8, 480, 1024]⟩
abbrev S256x1024 : Shape := ⟨2, ![256, 1024]⟩
abbrev S8x128x1024 : Shape := ⟨3, ![8, 128, 1024]⟩
abbrev S8x256x1024 : Shape := ⟨3, ![8, 256, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x144x1024, .bf16⟩
  | .hbm, ⟨1, _⟩ => ⟨S8x480x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x128x1024, .bf16⟩
  | .hbm, ⟨6, _⟩ => ⟨S8x128x1024, .bf16⟩
  | .hbm, ⟨7, _⟩ => ⟨S8x256x1024, .bf16⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | _, _ => ⟨S8x144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamwXq.lean ====
abbrev S8x512x1024 : Shape := ⟨3, ![8, 512, 1024]⟩
abbrev S256x1024 : Shape := ⟨2, ![256, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let v2 : BitVec 32 := Scalar.addi c0_i32 v1
  let c3_i32 : BitVec 32 := 3#32
  let v3 : BitVec 32 := Scalar.muli c3_i32 arg0
  let v4 : BitVec 32 := Scalar.addi v2 v3
  let c0_i32_0 : BitVec 32 := 0#32
  let c0_i32_1 : BitVec 32 := 0#32
  let c0_i32_2 : BitVec 32 := 0#32
  ![c0_i32_0.toNat, v4.toNat, c0_i32_1.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwXqIdeal.lean ====
abbrev S8x512x1024 : Shape := ⟨3, ![8, 512, 1024]⟩
abbrev S256x1024 : Shape := ⟨2, ![256, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let v2 : BitVec 32 := Scalar.addi c0_i32 v1
  let c3_i32 : BitVec 32 := 3#32
  let v3 : BitVec 32 := Scalar.muli c3_i32 arg0
  let v4 : BitVec 32 := Scalar.addi v2 v3
  let c0_i32_0 : BitVec 32 := 0#32
  let c0_i32_1 : BitVec 32 := 0#32
  let c0_i32_2 : BitVec 32 := 0#32
  ![c0_i32_0.toNat, v4.toNat, c0_i32_1.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdamwXqIdeal.lean ====
abbrev S8x512x1024 : Shape := ⟨3, ![8, 512, 1024]⟩
abbrev S256x1024 : Shape := ⟨2, ![256, 1024]⟩
abbrev S8x128x1024 : Shape := ⟨3, ![8, 128, 1024]⟩
abbrev S8x256x1024 : Shape := ⟨3, ![8, 256, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x128x1024, .bf16⟩
  | .hbm, ⟨6, _⟩ => ⟨S8x128x1024, .bf16⟩
  | .hbm, ⟨7, _⟩ => ⟨S8x256x1024, .bf16⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamwXk.lean ====
abbrev S8x512x1024 : Shape := ⟨3, ![8, 512, 1024]⟩
abbrev S256x1024 : Shape := ⟨2, ![256, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c4_i32 : BitVec 32 := 4#32
  let v2 : BitVec 32 := Scalar.addi c4_i32 v1
  let c3_i32 : BitVec 32 := 3#32
  let v3 : BitVec 32 := Scalar.muli c3_i32 arg0
  let v4 : BitVec 32 := Scalar.addi v2 v3
  let c0_i32 : BitVec 32 := 0#32
  let c0_i32_0 : BitVec 32 := 0#32
  let c0_i32_1 : BitVec 32 := 0#32
  ![c0_i32.toNat, v4.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c4_i32 : BitVec 32 := 4#32
  let v1 : BitVec 32 := Scalar.addi c4_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwXkIdeal.lean ====
abbrev S8x512x1024 : Shape := ⟨3, ![8, 512, 1024]⟩
abbrev S256x1024 : Shape := ⟨2, ![256, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c4_i32 : BitVec 32 := 4#32
  let v2 : BitVec 32 := Scalar.addi c4_i32 v1
  let c3_i32 : BitVec 32 := 3#32
  let v3 : BitVec 32 := Scalar.muli c3_i32 arg0
  let v4 : BitVec 32 := Scalar.addi v2 v3
  let c0_i32 : BitVec 32 := 0#32
  let c0_i32_0 : BitVec 32 := 0#32
  let c0_i32_1 : BitVec 32 := 0#32
  ![c0_i32.toNat, v4.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c4_i32 : BitVec 32 := 4#32
  let v1 : BitVec 32 := Scalar.addi c4_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdamwXkIdeal.lean ====
abbrev S8x512x1024 : Shape := ⟨3, ![8, 512, 1024]⟩
abbrev S256x1024 : Shape := ⟨2, ![256, 1024]⟩
abbrev S8x128x1024 : Shape := ⟨3, ![8, 128, 1024]⟩
abbrev S8x256x1024 : Shape := ⟨3, ![8, 256, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x128x1024, .bf16⟩
  | .hbm, ⟨6, _⟩ => ⟨S8x128x1024, .bf16⟩
  | .hbm, ⟨7, _⟩ => ⟨S8x256x1024, .bf16⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamwXv.lean ====
abbrev S8x512x1024 : Shape := ⟨3, ![8, 512, 1024]⟩
abbrev S256x1024 : Shape := ⟨2, ![256, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c8_i32 : BitVec 32 := 8#32
  let v2 : BitVec 32 := Scalar.addi c8_i32 v1
  let c3_i32 : BitVec 32 := 3#32
  let v3 : BitVec 32 := Scalar.muli c3_i32 arg0
  let v4 : BitVec 32 := Scalar.addi v2 v3
  let c0_i32 : BitVec 32 := 0#32
  let c0_i32_0 : BitVec 32 := 0#32
  let c0_i32_1 : BitVec 32 := 0#32
  ![c0_i32.toNat, v4.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c8_i32 : BitVec 32 := 8#32
  let v1 : BitVec 32 := Scalar.addi c8_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwXvIdeal.lean ====
abbrev S8x512x1024 : Shape := ⟨3, ![8, 512, 1024]⟩
abbrev S256x1024 : Shape := ⟨2, ![256, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c8_i32 : BitVec 32 := 8#32
  let v2 : BitVec 32 := Scalar.addi c8_i32 v1
  let c3_i32 : BitVec 32 := 3#32
  let v3 : BitVec 32 := Scalar.muli c3_i32 arg0
  let v4 : BitVec 32 := Scalar.addi v2 v3
  let c0_i32 : BitVec 32 := 0#32
  let c0_i32_0 : BitVec 32 := 0#32
  let c0_i32_1 : BitVec 32 := 0#32
  ![c0_i32.toNat, v4.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c8_i32 : BitVec 32 := 8#32
  let v1 : BitVec 32 := Scalar.addi c8_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdamwXvIdeal.lean ====
abbrev S8x512x1024 : Shape := ⟨3, ![8, 512, 1024]⟩
abbrev S256x1024 : Shape := ⟨2, ![256, 1024]⟩
abbrev S8x128x1024 : Shape := ⟨3, ![8, 128, 1024]⟩
abbrev S8x256x1024 : Shape := ⟨3, ![8, 256, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x128x1024, .bf16⟩
  | .hbm, ⟨6, _⟩ => ⟨S8x128x1024, .bf16⟩
  | .hbm, ⟨7, _⟩ => ⟨S8x256x1024, .bf16⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamwXo.lean ====
abbrev S8x512x1024 : Shape := ⟨3, ![8, 512, 1024]⟩
abbrev S256x1024 : Shape := ⟨2, ![256, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c12_i32 : BitVec 32 := 12#32
  let v2 : BitVec 32 := Scalar.addi c12_i32 v1
  let c3_i32 : BitVec 32 := 3#32
  let v3 : BitVec 32 := Scalar.muli c3_i32 arg0
  let v4 : BitVec 32 := Scalar.addi v2 v3
  let c0_i32 : BitVec 32 := 0#32
  let c0_i32_0 : BitVec 32 := 0#32
  let c0_i32_1 : BitVec 32 := 0#32
  ![c0_i32.toNat, v4.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c12_i32 : BitVec 32 := 12#32
  let v1 : BitVec 32 := Scalar.addi c12_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwXoIdeal.lean ====
abbrev S8x512x1024 : Shape := ⟨3, ![8, 512, 1024]⟩
abbrev S256x1024 : Shape := ⟨2, ![256, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c12_i32 : BitVec 32 := 12#32
  let v2 : BitVec 32 := Scalar.addi c12_i32 v1
  let c3_i32 : BitVec 32 := 3#32
  let v3 : BitVec 32 := Scalar.muli c3_i32 arg0
  let v4 : BitVec 32 := Scalar.addi v2 v3
  let c0_i32 : BitVec 32 := 0#32
  let c0_i32_0 : BitVec 32 := 0#32
  let c0_i32_1 : BitVec 32 := 0#32
  ![c0_i32.toNat, v4.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c12_i32 : BitVec 32 := 12#32
  let v1 : BitVec 32 := Scalar.addi c12_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdamwXoIdeal.lean ====
abbrev S8x512x1024 : Shape := ⟨3, ![8, 512, 1024]⟩
abbrev S256x1024 : Shape := ⟨2, ![256, 1024]⟩
abbrev S8x128x1024 : Shape := ⟨3, ![8, 128, 1024]⟩
abbrev S8x256x1024 : Shape := ⟨3, ![8, 256, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x128x1024, .bf16⟩
  | .hbm, ⟨6, _⟩ => ⟨S8x128x1024, .bf16⟩
  | .hbm, ⟨7, _⟩ => ⟨S8x256x1024, .bf16⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamwDown.lean ====
abbrev S8x352x1024 : Shape := ⟨3, ![8, 352, 1024]⟩
abbrev S704x1024 : Shape := ⟨2, ![704, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let v2 : BitVec 32 := Scalar.addi c0_i32 v1
  let c10_i32 : BitVec 32 := 10#32
  let v3 : BitVec 32 := Scalar.muli c10_i32 arg0
  let v4 : BitVec 32 := Scalar.addi v2 v3
  let c0_i32_0 : BitVec 32 := 0#32
  let c0_i32_1 : BitVec 32 := 0#32
  let c0_i32_2 : BitVec 32 := 0#32
  ![c0_i32_0.toNat, v4.toNat, c0_i32_1.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdamwDownIdeal.lean ====
abbrev S8x352x1024 : Shape := ⟨3, ![8, 352, 1024]⟩
abbrev S704x1024 : Shape := ⟨2, ![704, 1024]⟩
abbrev S8x704x1024 : Shape := ⟨3, ![8, 704, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S8x704x1024, .bf16⟩
  | .hbm, ⟨6, _⟩ => ⟨S8x704x1024, .f32⟩
  | .hbm, ⟨7, _⟩ => ⟨S_, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Loss.lean ====
abbrev S4096x1024 : Shape := ⟨2, ![4096, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefLossIdeal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefNormIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== NormMid.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefNormMidIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== NormMidTwo.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RefNormMidTwoIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== NormLast.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefNormLastIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== NormGain.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== RefNormGainIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== LossSum.lean ====
abbrev S1x128 : Shape := ⟨2, ![1, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S1x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== RefLossSumIdeal.lean ====
abbrev S8x128 : Shape := ⟨2, ![8, 128]⟩
abbrev S8x1 : Shape := ⟨2, ![8, 1]⟩
abbrev S8 : Shape := ⟨1, ![8]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x1, .f32⟩
  | .hbm, ⟨2, _⟩ => ⟨S8, .f32⟩
  | .hbm, ⟨3, _⟩ => ⟨S_, .f32⟩
  | .hbm, ⟨4, _⟩ => ⟨S_, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RopeBack.lean ====
abbrev S4096x512 : Shape := ⟨2, ![4096, 512]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x1536 : Shape := ⟨2, ![4096, 1536]⟩
abbrev S256x512 : Shape := ⟨2, ![256, 512]⟩
abbrev S256x128 : Shape := ⟨2, ![256, 128]⟩
abbrev S256x1536 : Shape := ⟨2, ![256, 1536]⟩

abbrev nBuf : Space → Nat
  | .hbm => 33
  | .vmem => 24
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096, .i32⟩
  | .hbm, ⟨10, _⟩ => ⟨S4096, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S1x4096x1x32, .f32⟩
  | .hbm, ⟨26, _⟩ => ⟨S1x4096x4x32, .f32⟩
  | .hbm, ⟨27, _⟩ => ⟨S4096x128, .f32⟩
  | .hbm, ⟨28, _⟩ => ⟨S4096x32, .f32⟩
  | .hbm, ⟨29, _⟩ => ⟨S1x4096x1x32, .f32⟩
  | .hbm, ⟨30, _⟩ => ⟨S1x4096x4x32, .f32⟩
  | .hbm, ⟨31, _⟩ => ⟨S4096x128, .f32⟩
  | .hbm, ⟨32, _⟩ => ⟨S4096x1536, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x1536, .bf16⟩
  | .local _ .vmem, ⟨23, _⟩ => ⟨S256x1536, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefRopeBackIdeal.lean ====
abbrev S4096x512 : Shape := ⟨2, ![4096, 512]⟩
abbrev S4096 : Shape := ⟨1, ![4096]⟩
abbrev S_ : Shape := ⟨0, ![]⟩
abbrev S4096x8x64 : Shape := ⟨3, ![4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x1536 : Shape := ⟨2, ![4096, 1536]⟩

abbrev nBuf : Space → Nat
  | .hbm => 126
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096, .i32⟩
  | .hbm, ⟨10, _⟩ => ⟨S_, .f32⟩
  | .hbm, ⟨11, _⟩ => ⟨S4096x512, .f32⟩
  | .hbm, ⟨12, _⟩ => ⟨S4096x8x64, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x1x32, .f32⟩
  | .hbm, ⟨29, _⟩ => ⟨S4096x32, .f32⟩
  | .hbm, ⟨30, _⟩ => ⟨S4096x1x32, .f32⟩
  | .hbm, ⟨31, _⟩ => ⟨S4096x8x32, .f32⟩
  | .hbm, ⟨32, _⟩ => ⟨S4096x8x32, .f32⟩
  | .hbm, ⟨33, _⟩ => ⟨S4096x8x32, .f32⟩
  | .hbm, ⟨34, _⟩ => ⟨S4096x8x32, .f32⟩
  | .hbm, ⟨35, _⟩ => ⟨S4096x8x32, .f32⟩
  | .hbm, ⟨36, _⟩ => ⟨S4096x8x32, .f32⟩
  | .hbm, ⟨37, _⟩ => ⟨S4096x8x32, .f32⟩
  | .hbm, ⟨38, _⟩ => ⟨S4096x8x32, .f32⟩
  | .hbm, ⟨39, _⟩ => ⟨S4096x8x32, .f32⟩
  | .hbm, ⟨40, _⟩ => ⟨S4096x8x32, .f32⟩
  | .hbm, ⟨41, _⟩ => ⟨S4096x8x32, .f32⟩
  | .hbm, ⟨42, _⟩ => ⟨S4096x8x32, .f32⟩
  | .hbm, ⟨43, _⟩ => ⟨S4096x8x64, .f32⟩
  | .hbm, ⟨44, _⟩ => ⟨S4096x512, .f32⟩
  | .hbm, ⟨45, _⟩ => ⟨S4096x8x64, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S4096, .f32⟩
  | .hbm, ⟨55, _⟩ => ⟨S4096x1, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x32, .f32⟩
  | .hbm, ⟨61, _⟩ => ⟨S4096x1x32, .f32⟩
  | .hbm, ⟨62, _⟩ => ⟨S4096x32, .f32⟩
  | .hbm, ⟨63, _⟩ => ⟨S4096x1x32, .f32⟩
  | .hbm, ⟨64, _⟩ => ⟨S4096x8x32, .f32⟩
  | .hbm, ⟨65, _⟩ => ⟨S4096x8x32, .f32⟩
  | .hbm, ⟨66, _⟩ => ⟨S4096x8x32, .f32⟩
  | .hbm, ⟨67, _⟩ => ⟨S4096x8x32, .f32⟩
  | .hbm, ⟨68, _⟩ => ⟨S4096x8x32, .f32⟩
  | .hbm, ⟨69, _⟩ => ⟨S4096x8x32, .f32⟩
  | .hbm, ⟨70, _⟩ => ⟨S4096x8x32, .f32⟩
  | .hbm, ⟨71, _⟩ => ⟨S4096x8x32, .f32⟩
  | .hbm, ⟨72, _⟩ => ⟨S4096x8x32, .f32⟩
  | .hbm, ⟨73, _⟩ => ⟨S4096x8x32, .f32⟩
  | .hbm, ⟨74, _⟩ => ⟨S4096x8x32, .f32⟩
  | .hbm, ⟨75, _⟩ => ⟨S4096x8x32, .f32⟩
  | .hbm, ⟨76, _⟩ => ⟨S4096x8x64, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x8x64, .f32⟩
  | .hbm, ⟨85, _⟩ => ⟨S4096x8x32, .f32⟩
  | .hbm, ⟨86, _⟩ => ⟨S4096x8x32, .f32⟩
  | .hbm, ⟨87, _⟩ => ⟨S4096x8x32, .f32⟩
  | .hbm, ⟨88, _⟩ => ⟨S4096x8x32, .f32⟩
  | .hbm, ⟨89, _⟩ => ⟨S4096x8x32, .f32⟩
  | .hbm, ⟨90, _⟩ => ⟨S4096x8x32, .f32⟩
  | .hbm, ⟨91, _⟩ => ⟨S4096x8x32, .f32⟩
  | .hbm, ⟨92, _⟩ => ⟨S4096x8x32, .f32⟩
  | .hbm, ⟨93, _⟩ => ⟨S4096x8x32, .f32⟩
  | .hbm, ⟨94, _⟩ => ⟨S4096x8x32, .f32⟩
  | .hbm, ⟨95, _⟩ => ⟨S4096x8x32, .f32⟩
  | .hbm, ⟨96, _⟩ => ⟨S4096x8x32, .f32⟩
  | .hbm, ⟨97, _⟩ => ⟨S4096x8x32, .f32⟩
  | .hbm, ⟨98, _⟩ => ⟨S_, .f32⟩
  | .hbm, ⟨99, _⟩ => ⟨S4096x8x64, .f32⟩
  | .hbm, ⟨100, _⟩ => ⟨S_, .f32⟩
  | .hbm, ⟨101, _⟩ => ⟨S4096x8x64, .f32⟩
  | .hbm, ⟨102, _⟩ => ⟨S4096x8x64, .f32⟩
  | .hbm, ⟨103, _⟩ => ⟨S4096x512, .f32⟩
  | .hbm, ⟨104, _⟩ => ⟨S4096x8x64, .f32⟩
  | .hbm, ⟨105, _⟩ => ⟨S4096x8x32, .f32⟩
  | .hbm, ⟨106, _⟩ => ⟨S4096x8x32, .f32⟩
  | .hbm, ⟨107, _⟩ => ⟨S4096x8x32, .f32⟩
  | .hbm, ⟨108, _⟩ => ⟨S4096x8x32, .f32⟩
  | .hbm, ⟨109, _⟩ => ⟨S4096x8x32, .f32⟩
  | .hbm, ⟨110, _⟩ => ⟨S4096x8x32, .f32⟩
  | .hbm, ⟨111, _⟩ => ⟨S4096x8x32, .f32⟩
  | .hbm, ⟨112, _⟩ => ⟨S4096x8x32, .f32⟩
  | .hbm, ⟨113, _⟩ => ⟨S4096x8x32, .f32⟩
  | .hbm, ⟨114, _⟩ => ⟨S4096x8x32, .f32⟩
  | .hbm, ⟨115, _⟩ => ⟨S4096x8x32, .f32⟩
  | .hbm, ⟨116, _⟩ => ⟨S4096x8x32, .f32⟩
  | .hbm, ⟨117, _⟩ => ⟨S4096x8x32, .f32⟩
  | .hbm, ⟨118, _⟩ => ⟨S_, .f32⟩
  | .hbm, ⟨119, _⟩ => ⟨S4096x8x64, .f32⟩
  | .hbm, ⟨120, _⟩ => ⟨S_, .f32⟩
  | .hbm, ⟨121, _⟩ => ⟨S4096x8x64, .f32⟩
  | .hbm, ⟨122, _⟩ => ⟨S4096x8x64, .f32⟩
  | .hbm, ⟨123, _⟩ => ⟨S4096x512, .f32⟩
  | .hbm, ⟨124, _⟩ => ⟨S4096x1536, .f32⟩
  | .hbm, ⟨125, _⟩ => ⟨S4096x1536, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_4 : Ref sig .tc := ⟨.hbm, 98, rfl⟩
abbrev main_v83 : Ref sig .tc := ⟨.hbm, 99, rfl⟩
abbrev main_cst_5 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_6 : Ref sig .tc := ⟨.hbm, 118, rfl⟩
abbrev main_v101 : Ref sig .tc := ⟨.hbm, 119, rfl⟩
abbrev main_cst_7 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩

abbrev nD : Nat := 1
abbrev τ : Topo := Topo.v7x

variable {F : FTy → Type} [FloatOps F]
-- ==== InNorm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefInNormIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemNorm.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RefMemNormIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ResNorm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefResNormIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== ResLast.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefResLastIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== XattnFwd.lean ====
abbrev S4096x1024 : Shape := ⟨2, ![4096, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefXattnFwdIdeal.lean ====
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .f32⟩
  | .hbm, ⟨4, _⟩ => ⟨S256x1024, .f32⟩
  | .hbm, ⟨5, _⟩ => ⟨S256x1024, .f32⟩
  | .hbm, ⟨6, _⟩ => ⟨S4096x4x256, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== RopeFwd.lean ====
abbrev S4096x2816 : Shape := ⟨2, ![4096, 2816]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x1024 : Shape := ⟨2, ![4096, 1024]⟩
abbrev S512x256 : Shape := ⟨2, ![512, 256]⟩
abbrev S512x128 : Shape := ⟨2, ![512, 128]⟩

abbrev nBuf : Space → Nat
  | .hbm => 25
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S4096, .i32⟩
  | .hbm, ⟨2, _⟩ => ⟨S4096, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S4096x1, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S1x4096x1x32, .f32⟩
  | .hbm, ⟨18, _⟩ => ⟨S1x4096x4x32, .f32⟩
  | .hbm, ⟨19, _⟩ => ⟨S4096x128, .f32⟩
  | .hbm, ⟨20, _⟩ => ⟨S4096x32, .f32⟩
  | .hbm, ⟨21, _⟩ => ⟨S1x4096x1x32, .f32⟩
  | .hbm, ⟨22, _⟩ => ⟨S1x4096x4x32, .f32⟩
  | .hbm, ⟨23, _⟩ => ⟨S4096x128, .f32⟩
  | .hbm, ⟨24, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x256, .f32⟩
  | .local _ .vmem, ⟨7, _⟩ => ⟨S512x256, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefRopeFwdIdeal.lean ====
abbrev S4096x2816 : Shape := ⟨2, ![4096, 2816]⟩
abbrev S4096 : Shape := ⟨1, ![4096]⟩
abbrev S4096x1536 : Shape := ⟨2, ![4096, 1536]⟩
abbrev S4096x3x8x64 : Shape := ⟨4, ![4096, 3, 8, 64]⟩
abbrev S4096x1x8x64 : Shape := ⟨4, ![4096, 1, 8, 64]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x512 : Shape := ⟨2, ![4096, 512]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096, .i32⟩
  | .hbm, ⟨2, _⟩ => ⟨S4096x1536, .f32⟩
  | .hbm, ⟨3, _⟩ => ⟨S4096x3x8x64, .f32⟩
  | .hbm, ⟨4, _⟩ => ⟨S4096x1x8x64, .f32⟩
  | .hbm, ⟨5, _⟩ => ⟨S4096x8x64, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x1x32, .f32⟩
  | .hbm, ⟨22, _⟩ => ⟨S4096x32, .f32⟩
  | .hbm, ⟨23, _⟩ => ⟨S4096x1x32, .f32⟩
  | .hbm, ⟨24, _⟩ => ⟨S4096x8x32, .f32⟩
  | .hbm, ⟨25, _⟩ => ⟨S4096x8x32, .f32⟩
  | .hbm, ⟨26, _⟩ => ⟨S4096x8x32, .f32⟩
  | .hbm, ⟨27, _⟩ => ⟨S4096x8x32, .f32⟩
  | .hbm, ⟨28, _⟩ => ⟨S4096x8x32, .f32⟩
  | .hbm, ⟨29, _⟩ => ⟨S4096x8x32, .f32⟩
  | .hbm, ⟨30, _⟩ => ⟨S4096x8x32, .f32⟩
  | .hbm, ⟨31, _⟩ => ⟨S4096x8x32, .f32⟩
  | .hbm, ⟨32, _⟩ => ⟨S4096x8x32, .f32⟩
  | .hbm, ⟨33, _⟩ => ⟨S4096x8x32, .f32⟩
  | .hbm, ⟨34, _⟩ => ⟨S4096x8x32, .f32⟩
  | .hbm, ⟨35, _⟩ => ⟨S4096x8x32, .f32⟩
  | .hbm, ⟨36, _⟩ => ⟨S4096x8x64, .f32⟩
  | .hbm, ⟨37, _⟩ => ⟨S4096x1x8x64, .f32⟩
  | .hbm, ⟨38, _⟩ => ⟨S4096x8x64, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S4096, .f32⟩
  | .hbm, ⟨48, _⟩ => ⟨S4096x1, .f32⟩
  | .hbm, ⟨49, _⟩ => ⟨S1x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x1x32, .f32⟩
  | .hbm, ⟨55, _⟩ => ⟨S4096x32, .f32⟩
  | .hbm, ⟨56, _⟩ => ⟨S4096x1x32, .f32⟩
  | .hbm, ⟨57, _⟩ => ⟨S4096x8x32, .f32⟩
  | .hbm, ⟨58, _⟩ => ⟨S4096x8x32, .f32⟩
  | .hbm, ⟨59, _⟩ => ⟨S4096x8x32, .f32⟩
  | .hbm, ⟨60, _⟩ => ⟨S4096x8x32, .f32⟩
  | .hbm, ⟨61, _⟩ => ⟨S4096x8x32, .f32⟩
  | .hbm, ⟨62, _⟩ => ⟨S4096x8x32, .f32⟩
  | .hbm, ⟨63, _⟩ => ⟨S4096x8x32, .f32⟩
  | .hbm, ⟨64, _⟩ => ⟨S4096x8x32, .f32⟩
  | .hbm, ⟨65, _⟩ => ⟨S4096x8x32, .f32⟩
  | .hbm, ⟨66, _⟩ => ⟨S4096x8x32, .f32⟩
  | .hbm, ⟨67, _⟩ => ⟨S4096x8x32, .f32⟩
  | .hbm, ⟨68, _⟩ => ⟨S4096x8x32, .f32⟩
  | .hbm, ⟨69, _⟩ => ⟨S4096x8x64, .f32⟩
  | .hbm, ⟨70, _⟩ => ⟨S4096x512, .f32⟩
  | .hbm, ⟨71, _⟩ => ⟨S4096x512, .f32⟩
  | .hbm, ⟨72, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩

abbrev nD : Nat := 1
abbrev τ : Topo := Topo.v7x

variable {F : FTy → Type} [FloatOps F]
-- ==== Mix.lean ====
abbrev S4096x512 : Shape := ⟨2, ![4096, 512]⟩
abbrev S256x512 : Shape := ⟨2, ![256, 512]⟩

abbrev nBuf : Space → Nat
  | .hbm => 11
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefMixIdeal.lean ====
abbrev S4096x512 : Shape := ⟨2, ![4096, 512]⟩
abbrev S4096x512x1 : Shape := ⟨3, ![4096, 512, 1]⟩
abbrev S4096x512x3 : Shape := ⟨3, ![4096, 512, 3]⟩
abbrev S_ : Shape := ⟨0, ![]⟩
abbrev S1x4096x512 : Shape := ⟨3, ![1, 4096, 512]⟩
abbrev S3x4096x512 : Shape := ⟨3, ![3, 4096, 512]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512x1, .f32⟩
  | .hbm, ⟨7, _⟩ => ⟨S4096x512x1, .f32⟩
  | .hbm, ⟨8, _⟩ => ⟨S4096x512x1, .f32⟩
  | .hbm, ⟨9, _⟩ => ⟨S4096x512x3, .f32⟩
  | .hbm, ⟨10, _⟩ => ⟨S_, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512x1, .f32⟩
  | .hbm, ⟨16, _⟩ => ⟨S4096x512x3, .f32⟩
  | .hbm, ⟨17, _⟩ => ⟨S4096x512x3, .f32⟩
  | .hbm, ⟨18, _⟩ => ⟨S4096x512x3, .f32⟩
  | .hbm, ⟨19, _⟩ => ⟨S_, .f32⟩
  | .hbm, ⟨20, _⟩ => ⟨S4096x512, .f32⟩
  | .hbm, ⟨21, _⟩ => ⟨S4096x512x1, .f32⟩
  | .hbm, ⟨22, _⟩ => ⟨S4096x512x3, .f32⟩
  | .hbm, ⟨23, _⟩ => ⟨S4096x512x3, .f32⟩
  | .hbm, ⟨24, _⟩ => ⟨S1x4096x512, .f32⟩
  | .hbm, ⟨25, _⟩ => ⟨S1x4096x512, .f32⟩
  | .hbm, ⟨26, _⟩ => ⟨S1x4096x512, .f32⟩
  | .hbm, ⟨27, _⟩ => ⟨S3x4096x512, .f32⟩
  | .hbm, ⟨28, _⟩ => ⟨S4096x512, .f32⟩
  | .hbm, ⟨29, _⟩ => ⟨S4096x512, .bf16⟩
  | .hbm, ⟨30, _⟩ => ⟨S4096x512x1, .f32⟩
  | .hbm, ⟨31, _⟩ => ⟨S4096x512, .f32⟩
  | .hbm, ⟨32, _⟩ => ⟨S4096x512x1, .f32⟩
  | .hbm, ⟨33, _⟩ => ⟨S4096x512, .f32⟩
  | .hbm, ⟨34, _⟩ => ⟨S4096x512x1, .f32⟩
  | .hbm, ⟨35, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== ProductMemNn.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .bf16⟩
  | .local _ .vmem, ⟨0, _⟩ => ⟨S256x1024, .bf16⟩
  | .local _ .vmem, ⟨1, _⟩ => ⟨S1024x1024, .bf16⟩
  | .local _ .vmem, ⟨2, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefMemNnIdeal.lean ====
abbrev S256x1024 : Shape := ⟨2, ![256, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | .hbm, ⟨5, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductMemTn.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .bf16⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefMemTnIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S256x1024, .f32⟩
  | .hbm, ⟨3, _⟩ => ⟨S_, .f32⟩
  | .hbm, ⟨4, _⟩ => ⟨S1024x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProductMemNt.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefMemNtIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S256x1024, .f32⟩
  | .hbm, ⟨5, _⟩ => ⟨S256x1024, .f32⟩
  | .hbm, ⟨6, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProductPwNn.lean ====
abbrev S4096x256 : Shape := ⟨2, ![4096, 256]⟩
abbrev S256x256 : Shape := ⟨2, ![256, 256]⟩
abbrev S1x256 : Shape := ⟨2, ![1, 256]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x256, .bf16⟩
  | .hbm, ⟨2, _⟩ => ⟨S1x256, .f32⟩
  | .hbm, ⟨3, _⟩ => ⟨S4096x256, .bf16⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S1x256, .f32⟩
  | .local _ .vmem, ⟨4, _⟩ => ⟨S1024x256, .bf16⟩
  | .local _ .vmem, ⟨5, _⟩ => ⟨S1024x256, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefPwNnIdeal.lean ====
abbrev S4096x256 : Shape := ⟨2, ![4096, 256]⟩
abbrev S256x256 : Shape := ⟨2, ![256, 256]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x256, .bf16⟩
  | .hbm, ⟨2, _⟩ => ⟨S1x256, .f32⟩
  | .hbm, ⟨3, _⟩ => ⟨S4096x256, .f32⟩
  | .hbm, ⟨4, _⟩ => ⟨S256x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProductPwTn.lean ====
abbrev S4096x256 : Shape := ⟨2, ![4096, 256]⟩
abbrev S256x256 : Shape := ⟨2, ![256, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x256, .f32⟩
  | .hbm, ⟨2, _⟩ => ⟨S256x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .f32⟩
  | .local _ .vmem, ⟨3, _⟩ => ⟨S2048x256, .f32⟩
  | .local _ .vmem, ⟨4, _⟩ => ⟨S256x256, .bf16⟩
  | .local _ .vmem, ⟨5, _⟩ => ⟨S256x256, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefPwTnIdeal.lean ====
abbrev S4096x256 : Shape := ⟨2, ![4096, 256]⟩
abbrev S_ : Shape := ⟨0, ![]⟩
abbrev S256x256 : Shape := ⟨2, ![256, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S256x256, .f32⟩
  | .hbm, ⟨5, _⟩ => ⟨S4096x256, .f32⟩
  | .hbm, ⟨6, _⟩ => ⟨S256x256, .f32⟩
  | .hbm, ⟨7, _⟩ => ⟨S256x256, .f32⟩
  | .hbm, ⟨8, _⟩ => ⟨S256x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProductPwNt.lean ====
abbrev S4096x256 : Shape := ⟨2, ![4096, 256]⟩
abbrev S256x256 : Shape := ⟨2, ![256, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x256, .bf16⟩
  | .hbm, ⟨2, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S256x256, .bf16⟩
  | .local _ .vmem, ⟨3, _⟩ => ⟨S1024x256, .f32⟩
  | .local _ .vmem, ⟨4, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefPwNtIdeal.lean ====
abbrev S4096x256 : Shape := ⟨2, ![4096, 256]⟩
abbrev S256x256 : Shape := ⟨2, ![256, 256]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x256, .bf16⟩
  | .hbm, ⟨2, _⟩ => ⟨S256x256, .f32⟩
  | .hbm, ⟨3, _⟩ => ⟨S_, .f32⟩
  | .hbm, ⟨4, _⟩ => ⟨S4096x256, .f32⟩
  | .hbm, ⟨5, _⟩ => ⟨S4096x256, .f32⟩
  | .hbm, ⟨6, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Softmax.lean ====
/- The gradient of a softmax row over the extended reals: the two ways it is written here (the probabilities times
   the centred cotangent; the derivative of the quotient) agree when the scores are real numbers. The cotangents may be infinite. -/
module

public import Idealize.ShloMosaic.PureOps.Ideal

@[expose] public section

noncomputable section

namespace Cert.Softmax

open Idealize.ShloMosaic

variable {n : ℕ}

/-- The row's maximum. -/
def top (s : Fin n → EReal) : EReal := Finset.univ.fold max ⊥ s
/-- The row's unnormalised weights. -/
def weight (s : Fin n → EReal) (m : Fin n) : EReal := Ideal.exp (s m - top s)
/-- Their sum. -/
def total (s : Fin n → EReal) : EReal := ∑ l, weight s l
/-- The row's probabilities. -/
def prob (s : Fin n → EReal) (m : Fin n) : EReal := Ideal.div (weight s m) (total s)
/-- The scores' gradient as the probabilities times the centred cotangent, before the scale. -/
def dscore (s d : Fin n → EReal) (m : Fin n) : EReal := prob s m * (d m - ∑ l, prob s l * d l)
/-- The same gradient as the derivative of the quotient `weight / total`. -/
def dquot (s d : Fin n → EReal) (m : Fin n) : EReal :=
  (Ideal.div (d m) (total s) + -(∑ l, d l * Ideal.div 1 (total s * total s) * weight s l)) * weight s m

/-- A nonnegative real factor leaves a sum of extended reals. -/
theorem sum_mul_real {ι : Type*} (S : Finset ι) (f : ι → EReal) {t : ℝ} (ht : 0 ≤ t) :
    (∑ l ∈ S, f l) * (t : EReal) = ∑ l ∈ S, f l * (t : EReal) := by
  classical
  induction S using Finset.induction_on with
  | empty => simp
  | insert a S ha ih =>
    rw [Finset.sum_insert ha, Finset.sum_insert ha, ← ih]
    exact EReal.right_distrib_of_nonneg_of_ne_top (by exact_mod_cast ht) (EReal.coe_ne_top t) _ _

/-- The maximum of a nonempty row is one of its entries. -/
theorem exists_top_eq [NeZero n] (s : Fin n → EReal) : ∃ m, top s = s m := by
  obtain ⟨m, -, h⟩ := Finset.exists_mem_eq_sup Finset.univ ⟨(0 : Fin n), Finset.mem_univ _⟩ s
  exact ⟨m, h⟩

/-- Real scores have positive real weights. -/
theorem exists_weight [NeZero n] {s : Fin n → EReal} (hs : ∀ m, ∃ r : ℝ, s m = r) :
    ∃ a : Fin n → ℝ, (∀ m, 0 < a m) ∧ ∀ m, weight s m = (a m : EReal) := by
  choose r hr using hs
  obtain ⟨m₀, h₀⟩ := exists_top_eq s
  refine ⟨fun m => Real.exp (r m - r m₀), fun m => Real.exp_pos _, fun m => ?_⟩
  rw [weight, h₀, hr, hr, ← EReal.coe_sub, Ideal.exp_coe]

/-- The total of real weights. -/
theorem total_eq {s : Fin n → EReal} {a : Fin n → ℝ} (h : ∀ m, weight s m = (a m : EReal)) : total s = ((∑ m, a m : ℝ) : EReal) := by
  rw [total, Finset.sum_congr rfl fun m _ => h m]
  induction (Finset.univ : Finset (Fin n)) using Finset.induction_on with
  | empty => simp
  | insert b S hb ih => rw [Finset.sum_insert hb, Finset.sum_insert hb, ih, EReal.coe_add]

/-- The two gradients agree at real scores. -/
theorem dquot_eq_dscore [NeZero n] {s : Fin n → EReal} (hs : ∀ m, ∃ r : ℝ, s m = r) (d : Fin n → EReal) (m : Fin n) :
    dquot s d m = dscore s d m := by
  obtain ⟨a, ha, hw⟩ := exists_weight hs
  have hA : 0 < ∑ m, a m := Finset.sum_pos (fun m _ => ha m) ⟨m, Finset.mem_univ _⟩
  have ht := total_eq hw
  generalize (∑ m, a m) = A at hA ht
  have hi : 0 ≤ 1 / A := (one_div_pos.2 hA).le
  have hp (l : Fin n) : prob s l = ((a l * (1 / A) : ℝ) : EReal) := by
    rw [prob, ht, hw, Ideal.div_coe hA.ne', ← EReal.coe_mul]
  have hsum : (∑ l, d l * Ideal.div 1 (total s * total s) * weight s l) = (∑ l, prob s l * d l) * ((1 / A : ℝ) : EReal) := by
    rw [sum_mul_real _ _ hi]
    refine Finset.sum_congr rfl fun l _ => ?_
    rw [ht, ← EReal.coe_mul, Ideal.div_coe (mul_pos hA hA).ne', one_mul, hw, hp, mul_comm _ (d l), mul_assoc, mul_assoc, ← EReal.coe_mul,
      ← EReal.coe_mul]
    congr 2
    field_simp
  rw [dquot, dscore, hsum, ht, Ideal.div_coe hA.ne', hp, hw, ← EReal.neg_mul,
    ← EReal.right_distrib_of_nonneg_of_ne_top (by exact_mod_cast hi) (EReal.coe_ne_top _), mul_assoc, ← EReal.coe_mul, mul_comm (1 / A) (a m),
    mul_comm, sub_eq_add_neg]

end Cert.Softmax

end
-- ==== Proof.Heads.lean ====
/- What one grid point computes for one head, read at an index: the probabilities, the scores' gradient and the three products made of them. -/
module

public import proofs.«01_k».proof.Proof.Softmax
public import proofs.«01_k».proof.Proof.Gen.KernelIdeal.Skeleton
public import proofs.«01_k».proof.Proof.Gen.KernelIdeal
public import Idealize.ShloMosaic.Lib.Pointwise

@[expose] public section

set_option maxRecDepth 16384

noncomputable section

namespace Cert.Heads

open Idealize.ShloMosaic Idealize.ShloMosaic.TcCoe Idealize.SL.Sem
open Cert.KernelIdeal Cert.KernelIdeal.Gen Cert.Softmax

/-- The scale of the scores, `1 / 16`. -/
abbrev scale : EReal := Ideal.ofBits .f32 0x3D800000#32

/-- Row `i` of a product of `x` with the rows of `y`. -/
def rows {a : ℕ} (x : FVec Ideal ⟨2, ![a, 256]⟩ .bf16) (y : FVec Ideal S256x256 .bf16) (i : Fin a) (m : Fin 256) : EReal :=
  ∑ c : Fin 256, x (ix2 i c) * y (ix2 m c)

section
variable {a : ℕ} (q : FVec Ideal ⟨2, ![a, 256]⟩ .bf16) (k v : FVec Ideal S256x256 .bf16) (d : FVec Ideal ⟨2, ![a, 256]⟩ .bf16)

/-- The scaled scores of query row `i`. -/
def scores (i : Fin a) (m : Fin 256) : EReal := rows q k i m * scale
/-- The scores' gradient at query row `i`. -/
def dsc (i : Fin a) (m : Fin 256) : EReal := dscore (scores q k i) (rows d v i) m * scale
/-- The gradient of the queries. -/
def dq (i : Fin a) (c : Fin 256) : EReal := ∑ m : Fin 256, dsc q k v d i m * k (ix2 m c)
/-- The rows' share of the gradient of the keys. -/
def dk (m c : Fin 256) : EReal := ∑ i : Fin a, dsc q k v d i m * q (ix2 i c)
/-- The rows' share of the gradient of the values. -/
def dv (m c : Fin 256) : EReal := ∑ i : Fin a, prob (scores q k i) m * d (ix2 i c)
end

/-- The pattern of minus infinity. -/
theorem bits_bot : Ideal.ofBits .f32 0xFF800000#32 = ⊥ := by simp [Ideal.ofBits, Ideal.ieee]

section
variable (q : FVec Ideal S512x256 .bf16) (k v : FVec Ideal S256x256 .bf16) (d : FVec Ideal S512x256 .bf16) (acc : FVec Ideal S256x256 .f32)
variable (i : Fin 512) (m c : Fin 256)

theorem prob0 : k0_pay8 (F := Ideal) q k (ix2 i m) = prob (scores q k i) m := by
  pointwise [k0_pay8, prob, total, weight, top, scores, rows, bits_bot]
theorem prob1 : k0_pay14 (F := Ideal) q k (ix2 i m) = prob (scores q k i) m := prob0 q k i m
theorem prob2 : k0_pay19 (F := Ideal) q k (ix2 i m) = prob (scores q k i) m := prob0 q k i m
theorem prob3 : k0_pay1 (F := Ideal) (k0_pay26 q k) (k0_pay27 q k) (ix2 i m) = prob (scores q k i) m := prob0 q k i m

theorem ds0 : k0_pay9 (F := Ideal) q k v d (ix2 i m) = dsc q k v d i m := by
  pointwise [k0_pay9, dsc, dscore, rows, prob0]
theorem ds1 : k0_pay15 (F := Ideal) q k v d (ix2 i m) = dsc q k v d i m := ds0 q k v d i m
theorem ds2 : k0_pay22 (F := Ideal) (k0_pay19 q k) (k0_pay20 v d) (k0_pay21 q k v d) (ix2 i m) = dsc q k v d i m := ds0 q k v d i m
theorem ds3 : k0_pay2 (F := Ideal) v d (k0_pay26 q k) (k0_pay27 q k) (ix2 i m) = dsc q k v d i m := ds0 q k v d i m

theorem dq0 : k0_pay10 (F := Ideal) q k v d (ix2 i c) = dq q k v d i c := by
  pointwise [k0_pay10, dq, ds0]
theorem dq1 : k0_pay16 (F := Ideal) k (k0_pay15 q k v d) (constant S512x256 .f32 0x00000000#32) (ix2 i c) = dq q k v d i c := dq0 q k v d i c
theorem dq2 : k0_pay23 (F := Ideal) k (k0_pay19 q k) (k0_pay20 v d) (k0_pay21 q k v d) (ix2 i c) = dq q k v d i c := dq0 q k v d i c
theorem dq3 : k0_pay3 (F := Ideal) k v d (k0_pay26 q k) (k0_pay27 q k) (ix2 i c) = dq q k v d i c := dq0 q k v d i c

theorem dk0 : k0_pay12 (F := Ideal) q (k0_pay9 q k v d) (k0_pay11 acc) (constant S256x256 .f32 0x00000000#32) (ix2 m c) = acc (ix2 m c) + dk q k v d m c := by
  pointwise [k0_pay12, k0_pay11, dk, ds0]
theorem dk1 : k0_pay17 (F := Ideal) q (k0_pay15 q k v d) acc (ix2 m c) = acc (ix2 m c) + dk q k v d m c := dk0 q k v d acc m c
theorem dk2 : k0_pay24 (F := Ideal) q (k0_pay19 q k) (k0_pay20 v d) (k0_pay21 q k v d) acc (ix2 m c) = acc (ix2 m c) + dk q k v d m c := dk0 q k v d acc m c
theorem dk3 : k0_pay4 (F := Ideal) q v d (k0_pay26 q k) (k0_pay27 q k) acc (ix2 m c) = acc (ix2 m c) + dk q k v d m c := dk0 q k v d acc m c

theorem dv0 : k0_pay13 (F := Ideal) d (k0_pay8 q k) acc (ix2 m c) = acc (ix2 m c) + dv q k d m c := by
  pointwise [k0_pay13, dv, prob0]
theorem dv1 : k0_pay18 (F := Ideal) d (k0_pay14 q k) acc (ix2 m c) = acc (ix2 m c) + dv q k d m c := dv0 q k d acc m c
theorem dv2 : k0_pay25 (F := Ideal) d (k0_pay19 q k) acc (ix2 m c) = acc (ix2 m c) + dv q k d m c := dv0 q k d acc m c
theorem dv3 : k0_pay5 (F := Ideal) d (k0_pay26 q k) (k0_pay27 q k) acc (ix2 m c) = acc (ix2 m c) + dv q k d m c := dv0 q k d acc m c
end

end Cert.Heads

end
-- ==== Proof.Blocks.lean ====
/- What one grid point leaves in its three output blocks, read at an index. -/
module

public import proofs.«01_k».proof.Proof.Heads
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Blocks

open Idealize.ShloMosaic Idealize.ShloMosaic.TcCoe Idealize.SL.Sem
open Cert.KernelIdeal Cert.KernelIdeal.Gen Cert.Softmax Cert.Heads

variable (m : (ℓ : Loc nD τ sig) → Buf (Elt Ideal) ℓ)

/-- The columns of head `h`. -/
def head {a : ℕ} {φ : FTy} (X : FVec Ideal ⟨2, ![a, 1024]⟩ φ) (h : ℕ) (hh : h < 4) : FVec Ideal ⟨2, ![a, 256]⟩ φ :=
  fun j => X (ix2 (j 0) ⟨h * 256 + (j 1).val, by have : (j 1).val < 256 := (j 1).isLt; omega⟩)

theorem lt_four {n : ℕ} (h : n < 1024) : n / 256 < 4 := by omega

/-- A column's head and its column within the head. -/
def hd (c : Fin 1024) : ℕ := c.val / 256
theorem hd_lt (c : Fin 1024) : hd c < 4 := lt_four c.isLt
def lane (c : Fin 1024) : Fin 256 := ⟨c.val % 256, Nat.mod_lt _ (by decide)⟩

section
variable {a : ℕ} (X0 : FVec Ideal ⟨2, ![a, 1024]⟩ .bf16) (X1 X2 : FVec Ideal S256x1024 .bf16) (X3 : FVec Ideal ⟨2, ![a, 1024]⟩ .bf16) (r : Fin 256) (c : Fin 1024)

/-- The block of the queries' gradient. -/
def blkDq (i : Fin a) : EReal := dq (head X0 (hd c) (hd_lt c)) (head X1 (hd c) (hd_lt c)) (head X2 (hd c) (hd_lt c)) (head X3 (hd c) (hd_lt c)) i (lane c)
/-- The block's share of the keys' gradient. -/
def blkDk : EReal := dk (head X0 (hd c) (hd_lt c)) (head X1 (hd c) (hd_lt c)) (head X2 (hd c) (hd_lt c)) (head X3 (hd c) (hd_lt c)) r (lane c)
/-- The block's share of the values' gradient. -/
def blkDv : EReal := dv (head X0 (hd c) (hd_lt c)) (head X1 (hd c) (hd_lt c)) (head X3 (hd c) (hd_lt c)) r (lane c)
end

theorem lane_eq {c : Fin 1024} {l : Fin 256} (e : c.val = c.val / 256 * 256 + l.val) : lane c = l := Fin.ext (show c.val % 256 = l.val by omega)

theorem head_eq {a : ℕ} {φ : FTy} (X : FVec Ideal ⟨2, ![a, 1024]⟩ φ) (c : Fin 1024) (Y : FVec Ideal ⟨2, ![a, 256]⟩ φ)
    (e : ∀ (i : Fin a) (l : Fin 256), Y (ix2 i l) = X (ix2 i ⟨c.val / 256 * 256 + l.val, by omega⟩)) : head X (hd c) (hd_lt c) = Y := by
  funext j; exact (e (j 0) (j 1)).symm.trans (congrArg Y (eq_ix2 j).symm)

section
variable (X0 : FVec Ideal S512x1024 .bf16) (X1 X2 : FVec Ideal S256x1024 .bf16) (X3 : FVec Ideal S512x1024 .bf16)
variable (q : FVec Ideal S512x256 .bf16) (k v : FVec Ideal S256x256 .bf16) (d : FVec Ideal S512x256 .bf16)
variable (c : Fin 1024) (l : Fin 256) (e : c.val = c.val / 256 * 256 + l.val)
variable (eq : ∀ (i : Fin 512) (l : Fin 256), q (ix2 i l) = X0 (ix2 i ⟨c.val / 256 * 256 + l.val, by omega⟩))
variable (ek : ∀ (i : Fin 256) (l : Fin 256), k (ix2 i l) = X1 (ix2 i ⟨c.val / 256 * 256 + l.val, by omega⟩))
variable (ev : ∀ (i : Fin 256) (l : Fin 256), v (ix2 i l) = X2 (ix2 i ⟨c.val / 256 * 256 + l.val, by omega⟩))
variable (ed : ∀ (i : Fin 512) (l : Fin 256), d (ix2 i l) = X3 (ix2 i ⟨c.val / 256 * 256 + l.val, by omega⟩))
include e eq ek ed

/-- Blocks read a head at a time, for the three gradients. -/
theorem dv_eq (r : Fin 256) : dv q k d r l = blkDv X0 X1 X3 r c := by
  unfold blkDv; rw [lane_eq e, head_eq X0 c q eq, head_eq X1 c k ek, head_eq X3 c d ed]
include ev
theorem dq_eq (i : Fin 512) : dq q k v d i l = blkDq X0 X1 X2 X3 c i := by
  unfold blkDq; rw [lane_eq e, head_eq X0 c q eq, head_eq X1 c k ek, head_eq X2 c v ev, head_eq X3 c d ed]
theorem dk_eq (r : Fin 256) : dk q k v d r l = blkDk X0 X1 X2 X3 r c := by
  unfold blkDk; rw [lane_eq e, head_eq X0 c q eq, head_eq X1 c k ek, head_eq X2 c v ev, head_eq X3 c d ed]
end

theorem point4 (c : Dev nD) (t : Fin cfg0.N) (y : S512x1024.Idx) :
    (outsAt0 m c t.val t.isLt).1 y = blkDq (iblk m c 0 t) (iblk m c 1 t) (iblk m c 2 t) (iblk m c 3 t) (y 1) (y 0) := by
  by_cases h0 : t.val % 8 = 0
  on_goal 1 => rw [outsAt0_A m c t h0]
  on_goal 2 => rw [outsAt0_B m c t h0]
  all_goals
    frame_out
    idx_vars y
    canon_tiles x h
    all_goals
      idx_vars x
      obtain rfl : y0 = x0 := Fin.ext (by omega)
      first | rw [dq3] | rw [dq2] | rw [dq1] | rw [dq0]
      refine dq_eq (iblk m c 0 t) (iblk m c 1 t) (iblk m c 2 t) (iblk m c 3 t) _ _ _ _ y1 x1 (by omega) (fun i l => ?_) (fun i l => ?_)
        (fun i l => ?_) (fun i l => ?_) y0
      all_goals (pointwise; blk_ext)

/-- Stores under others that cover the index are not read. -/
theorem canon_append_of_cover {s : Shape} {e : EltTy} (L' : List (View.Piece (Elt Ideal) s e)) :
    ∀ (L : List (View.Piece (Elt Ideal) s e)) (y : s.Idx) (_ : ∃ p ∈ L, y ∈ p.1.set), View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      exact (View.canon_cons_emb p.1 p.2 _ x).trans (View.canon_cons_emb p.1 p.2 _ x).symm
    · refine (View.canon_cons_of_not_mem p _ hm).trans ((canon_append_of_cover L' L y ?_).trans (View.canon_cons_of_not_mem p _ hm).symm)
      obtain ⟨q, hq, hy⟩ := h
      rcases List.mem_cons.1 hq with rfl | hq
      · exact absurd hy hm
      · exact ⟨q, hq, hy⟩

/-! Every point adds its rows' share to the keys' and the values' gradients, the first one to zero. -/

theorem point5_A (c : Dev nD) (t : Fin cfg0.N) (h0 : t.val % 8 = 0) (y : S256x1024.Idx) :
    (outsAt0 m c t.val t.isLt).2.1 y = 0
      + blkDk (iblk m c 0 t) (iblk m c 1 t) (iblk m c 2 t) (iblk m c 3 t) (y 0) (y 1) := by
  rw [outsAt0_A m c t h0]
  frame_open
  simp (disch := decide) only [↓ View.readCov_skip, ↓ View.readCov_cons_toLoadRect, ↓ View.readCov_fill]
  frame_out
  refine (canon_append_of_cover (s := S256x1024) (e := .f32) [_] [_, _, _, _] y (View.cover_of_tiledL (s := S256x1024) _ ![256, 256] (by sl_kernel_rfl) y)).trans ?_
  idx_vars y
  canon_tiles x h
  all_goals
    idx_vars x
    obtain rfl : y0 = x0 := Fin.ext (by omega)
    first | rw [dk3] | rw [dk2] | rw [dk1] | rw [dk0]
    rw [dk_eq (iblk m c 0 t) (iblk m c 1 t) (iblk m c 2 t) (iblk m c 3 t) _ _ _ _ y1 x1 (by omega) (fun i l => ?_) (fun i l => ?_)
      (fun i l => ?_) (fun i l => ?_) y0]
    all_goals pointwise [k0_pay6]
    all_goals blk_ext

theorem point5_B (c : Dev nD) (t : Fin cfg0.N) (h0 : ¬ t.val % 8 = 0) (y : S256x1024.Idx) :
    (outsAt0 m c t.val t.isLt).2.1 y = (outsAt0 m c (t.val - 1) (Nat.lt_of_le_of_lt (Nat.sub_le _ _) t.isLt)).2.1 y
      + blkDk (iblk m c 0 t) (iblk m c 1 t) (iblk m c 2 t) (iblk m c 3 t) (y 0) (y 1) := by
  rw [outsAt0_B m c t h0]
  frame_open
  simp (disch := decide) only [↓ View.readCov_skip, ↓ View.readCov_cons_toLoadRect, ↓ View.readCov_fill]
  frame_out
  idx_vars y
  canon_tiles x h
  all_goals
    idx_vars x
    obtain rfl : y0 = x0 := Fin.ext (by omega)
    first | rw [dk3] | rw [dk2] | rw [dk1] | rw [dk0]
    rw [dk_eq (iblk m c 0 t) (iblk m c 1 t) (iblk m c 2 t) (iblk m c 3 t) _ _ _ _ y1 x1 (by omega) (fun i l => ?_) (fun i l => ?_)
      (fun i l => ?_) (fun i l => ?_) y0]
    all_goals pointwise
    all_goals first | blk_ext | exact congrArg (· + _) (by blk_ext)

theorem point6_A (c : Dev nD) (t : Fin cfg0.N) (h0 : t.val % 8 = 0) (y : S256x1024.Idx) :
    (outsAt0 m c t.val t.isLt).2.2 y = 0
      + blkDv (iblk m c 0 t) (iblk m c 1 t) (iblk m c 3 t) (y 0) (y 1) := by
  rw [outsAt0_A m c t h0]
  frame_open
  simp (disch := decide) only [↓ View.readCov_skip, ↓ View.readCov_cons_toLoadRect, ↓ View.readCov_fill]
  frame_out
  refine (canon_append_of_cover (s := S256x1024) (e := .f32) [_] [_, _, _, _] y (View.cover_of_tiledL (s := S256x1024) _ ![256, 256] (by sl_kernel_rfl) y)).trans ?_
  idx_vars y
  canon_tiles x h
  all_goals
    idx_vars x
    obtain rfl : y0 = x0 := Fin.ext (by omega)
    first | rw [dv3] | rw [dv2] | rw [dv1] | rw [dv0]
    rw [dv_eq (iblk m c 0 t) (iblk m c 1 t) (iblk m c 3 t) _ _ _ y1 x1 (by omega) (fun i l => ?_) (fun i l => ?_)
      (fun i l => ?_) y0]
    all_goals pointwise [k0_pay7]
    all_goals blk_ext

theorem point6_B (c : Dev nD) (t : Fin cfg0.N) (h0 : ¬ t.val % 8 = 0) (y : S256x1024.Idx) :
    (outsAt0 m c t.val t.isLt).2.2 y = (outsAt0 m c (t.val - 1) (Nat.lt_of_le_of_lt (Nat.sub_le _ _) t.isLt)).2.2 y
      + blkDv (iblk m c 0 t) (iblk m c 1 t) (iblk m c 3 t) (y 0) (y 1) := by
  rw [outsAt0_B m c t h0]
  frame_open
  simp (disch := decide) only [↓ View.readCov_skip, ↓ View.readCov_cons_toLoadRect, ↓ View.readCov_fill]
  frame_out
  idx_vars y
  canon_tiles x h
  all_goals
    idx_vars x
    obtain rfl : y0 = x0 := Fin.ext (by omega)
    first | rw [dv3] | rw [dv2] | rw [dv1] | rw [dv0]
    rw [dv_eq (iblk m c 0 t) (iblk m c 1 t) (iblk m c 3 t) _ _ _ y1 x1 (by omega) (fun i l => ?_) (fun i l => ?_)
      (fun i l => ?_) y0]
    all_goals pointwise
    all_goals first | blk_ext | exact congrArg (· + _) (by blk_ext)

end Cert.Blocks

end
-- ==== Proof.Final.lean ====
/- The three arrays after the run: one function of the whole arguments each. -/
module

public import proofs.«01_k».proof.Proof.Blocks

@[expose] public section

set_option maxRecDepth 16384

noncomputable section

namespace Cert.Final

open Idealize.ShloMosaic Idealize.ShloMosaic.TcCoe Idealize.SL.Sem
open Cert.KernelIdeal Cert.KernelIdeal.Gen Cert.Softmax Cert.Heads Cert.Blocks

variable (m : (ℓ : Loc nD τ sig) → Buf (Elt Ideal) ℓ)

/-- Where the blocks lie. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, _)

/-- The arguments, as arrays of extended reals. -/
abbrev A0 (c : Dev nD) : FVec Ideal S4096x1024 .bf16 := m ((c.tc : Thread nD τ).loc main_arg0)
abbrev A1 (c : Dev nD) : FVec Ideal S256x1024 .bf16 := m ((c.tc : Thread nD τ).loc main_arg1)
abbrev A2 (c : Dev nD) : FVec Ideal S256x1024 .bf16 := m ((c.tc : Thread nD τ).loc main_arg2)
abbrev A3 (c : Dev nD) : FVec Ideal S4096x1024 .bf16 := m ((c.tc : Thread nD τ).loc main_arg3)

theorem row_lt (t : Fin cfg0.N) (i : Fin 512) : t.val * 512 + i.val < 4096 := by
  have : t.val < 8 := lt_of_lt_of_eq t.isLt N_0
  omega

/-- The blocks staged at a point, in terms of the arguments. -/
theorem in0 (c : Dev nD) (t : Fin cfg0.N) (i : Fin 512) (l : Fin 1024) : iblk m c 0 t (ix2 i l) = A0 m c (ix2 ⟨t.val * 512 + i.val, row_lt t i⟩ l) := by
  blk_point [iblk, V, idx t]
theorem in3 (c : Dev nD) (t : Fin cfg0.N) (i : Fin 512) (l : Fin 1024) : iblk m c 3 t (ix2 i l) = A3 m c (ix2 ⟨t.val * 512 + i.val, row_lt t i⟩ l) := by
  blk_point [iblk, V, idx t]
theorem in1 (c : Dev nD) (t : Fin cfg0.N) : iblk m c 1 t = A1 m c := by
  funext j; blk_point [iblk, V, idx t]
theorem in2 (c : Dev nD) (t : Fin cfg0.N) : iblk m c 2 t = A2 m c := by
  funext j; blk_point [iblk, V, idx t]

section
variable {a b : ℕ} {q : FVec Ideal ⟨2, ![a, 256]⟩ .bf16} {q' : FVec Ideal ⟨2, ![b, 256]⟩ .bf16} (k v : FVec Ideal S256x256 .bf16)
variable {d : FVec Ideal ⟨2, ![a, 256]⟩ .bf16} {d' : FVec Ideal ⟨2, ![b, 256]⟩ .bf16} {i : Fin a} {j : Fin b}
variable (hq : ∀ l, q (ix2 i l) = q' (ix2 j l)) (hd : ∀ l, d (ix2 i l) = d' (ix2 j l))

/-- A row's scores and their gradient depend on that row of the queries and the cotangent. -/
theorem rows_row (hq : ∀ l, q (ix2 i l) = q' (ix2 j l)) : rows q k i = rows q' k j := by
  funext r; simp only [rows, hq]
include hq
theorem scores_row : scores q k i = scores q' k j := by
  funext r; simp only [scores, rows_row k hq]
include hd
theorem dsc_row (r : Fin 256) : dsc q k v d i r = dsc q' k v d' j r := by
  simp only [dsc, scores_row k hq, rows_row v hd]
end

/-- The queries' gradient, whole. -/
def allDq (c : Dev nD) : FVec Ideal S4096x1024 .bf16 := fun j => blkDq (A0 m c) (A1 m c) (A2 m c) (A3 m c) (j 1) (j 0)
/-- The keys' gradient, whole. -/
def allDk (c : Dev nD) : FVec Ideal S256x1024 .f32 := fun j => blkDk (A0 m c) (A1 m c) (A2 m c) (A3 m c) (j 0) (j 1)
/-- The values' gradient, whole. -/
def allDv (c : Dev nD) : FVec Ideal S256x1024 .f32 := fun j => blkDv (A0 m c) (A1 m c) (A3 m c) (j 0) (j 1)

/-- A head of a staged block is the rows of that head of the argument. -/
theorem head0 (c : Dev nD) (t : Fin cfg0.N) (h : ℕ) (hh : h < 4) (i : Fin 512) (l : Fin 256) :
    head (iblk m c 0 t) h hh (ix2 i l) = head (A0 m c) h hh (ix2 ⟨t.val * 512 + i.val, row_lt t i⟩ l) := in0 m c t i _
theorem head3 (c : Dev nD) (t : Fin cfg0.N) (h : ℕ) (hh : h < 4) (i : Fin 512) (l : Fin 256) :
    head (iblk m c 3 t) h hh (ix2 i l) = head (A3 m c) h hh (ix2 ⟨t.val * 512 + i.val, row_lt t i⟩ l) := in3 m c t i _

theorem row4 (c : Dev nD) (t : Fin cfg0.N) (i : Fin 512) (l : Fin 1024) (j : S4096x1024.Idx) (h0 : (j 0).val = t.val * 512 + i.val)
    (h1 : (j 1).val = l.val) : blkDq (iblk m c 0 t) (iblk m c 1 t) (iblk m c 2 t) (iblk m c 3 t) l i = allDq m c j := by
  obtain rfl : j 1 = l := Fin.ext h1
  have e : j 0 = ⟨t.val * 512 + i.val, row_lt t i⟩ := Fin.ext h0
  unfold allDq blkDq dq
  rw [in1, in2, e]
  refine Finset.sum_congr rfl fun r _ => ?_
  exact congrArg (· * _) (dsc_row _ _ (head0 m c t _ _ i) (head3 m c t _ _ i) r)

theorem final4 (c : Dev nD) : (dats m 0 c).arrAt 4 cfg0.N = allDq m c := by
  refine (dats m 0 c).arrAt_eq_of_covers 4 _ (by decide +kernel) fun t hf y => ?_
  blk_simp
  rw [after0_4, point4]
  refine row4 m c t _ _ _ ?_ ?_
  all_goals (blk_simp [idx t] <;> try omega)

theorem final5 (c : Dev nD) : (dats m 0 c).arrAt 5 cfg0.N = allDk m c := by
  refine (dats m 0 c).arrAt_eq_of_after_last 5 t0_7 (by decide +kernel) _ fun j => ?_
  blk_simp
  rw [after0_5, Pipeline.eq_sum_fin_of_reset_step_apply_last (fun n h => (outsAt0 m c n h).2.1) 8 (fun _ => 0)
    (fun p j => blkDk (iblk m c 0 p) (iblk m c 1 p) (iblk m c 2 p) (iblk m c 3 p) (j 0) (j 1))
    (fun t h j => point5_A m c t h j) (fun t h j => point5_B m c t h j) (le_of_eq N_0) t0_7 rfl j, zero_add]
  unfold allDk blkDk dk
  refine Fin.sum_mul_add_congr fun s k hl => ?_
  rw [in1, in2]
  exact congrArg₂ (· * ·) (dsc_row _ _ (head0 m c s _ _ k) (head3 m c s _ _ k) (j 0)) (head0 m c s _ _ k _)

theorem final6 (c : Dev nD) : (dats m 0 c).arrAt 6 cfg0.N = allDv m c := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0)
    (fun p j => blkDv (iblk m c 0 p) (iblk m c 1 p) (iblk m c 3 p) (j 0) (j 1))
    (fun t h j => point6_A m c t h j) (fun t h j => point6_B m c t h j) (le_of_eq N_0) t0_7 rfl j, zero_add]
  unfold allDv blkDv dv
  refine Fin.sum_mul_add_congr fun s k hl => ?_
  rw [in1]
  exact congrArg₂ (· * ·) (congrArg (prob · (j 0)) (scores_row _ (head0 m c s _ _ k))) (head3 m c s _ _ k _)

end Cert.Final

end
-- ==== Proof.Ref.lean ====
/- The reference's stages read at an index, head by head. -/
module

public import proofs.«01_k».proof.Proof.Blocks
public import proofs.«01_k».proof.Proof.Gen.ReferenceIdeal.Read

@[expose] public section

set_option maxRecDepth 16384

noncomputable section

namespace Cert.Ref

open Idealize.ShloMosaic Idealize.ShloMosaic.TcCoe Idealize.SL.Sem
open Cert.ReferenceIdeal Cert.ReferenceIdeal.Read Cert.Softmax Cert.Heads Cert.Blocks

variable (x0 : FVec Ideal S4096x1024 .bf16) (x1 x2 : FVec Ideal S256x1024 .bf16) (x3 : FVec Ideal S4096x1024 .bf16)
variable (h : Fin 4) (r : Fin 4096) (k l : Fin 256)

/-- The scores. -/
theorem v9 : val_main_v9 (F := Ideal) x0 x1 (ix3 h r k) = scores (head x0 h h.isLt) (head x1 h h.isLt) r k := by
  pointwise [val_main_v9, val_main_v8, val_main_v7, val_main_v5, val_main_v4, val_main_v1, val_main_v0, val_main_cst, scores, rows, head]
/-- The maximum over the last axis, from minus infinity. -/
theorem fold_last (y : FVec Ideal S4x4096x256 .f32) :
    Host.reduce FloatOps.maximumf y (val_main_cst_0 (F := Ideal)) Gen.reducesTo_S4x4096x256_S4x4096_d2 Gen.h_S_ (ix2 h r) = top fun k => y (ix3 h r k) := by
  rw [Host.reduce_eq_fold_single _ _ _ _ (by decide)]
  unfold top
  refine congrArg₂ (fun b f => Finset.fold max b f Finset.univ) bits_bot (funext fun k => congrArg y ?_)
  blk_ext
  all_goals rfl
/-- The scores' maximum. -/
theorem v17 : val_main_v17 (F := Ideal) x0 x1 (ix2 h r) = top (scores (head x0 h h.isLt) (head x1 h h.isLt) r) := by
  have e : val_main_v10 (F := Ideal) x0 x1 (ix2 h r) = top (scores (head x0 h h.isLt) (head x1 h h.isLt) r) :=
    (fold_last h r _).trans (congrArg top (funext fun k => v9 x0 x1 h r k))
  have b : val_main_v16 (F := Ideal) (ix2 h r) = ⊥ := by rw [val_main_v16_apply]; exact bits_bot
  rw [val_main_v17_apply, e, b]; exact max_eq_right bot_le
theorem v30 : val_main_v30 (F := Ideal) x0 x1 (ix3 h r k) = weight (scores (head x0 h h.isLt) (head x1 h h.isLt) r) k := by
  pointwise [val_main_v30, val_main_v29, val_main_v28, val_main_v27, v9, v17, weight]
theorem v31 : val_main_v31 (F := Ideal) x0 x1 (ix2 h r) = total (scores (head x0 h h.isLt) (head x1 h h.isLt) r) := by
  pointwise [val_main_v31, val_main_cst_8, v30, total]
/-- The probabilities. -/
theorem v34 : val_main_v34 (F := Ideal) x0 x1 (ix3 h r k) = prob (scores (head x0 h h.isLt) (head x1 h h.isLt) r) k := by
  pointwise [val_main_v34, val_main_v33, val_main_v32, v31, v30, prob]
/-- The probabilities' gradient. -/
theorem v43 : val_main_v43 (F := Ideal) x2 x3 (ix3 h r k) = rows (head x3 h h.isLt) (head x2 h h.isLt) r k := by
  pointwise [val_main_v43, val_main_v42, val_main_v41, val_main_v6, val_main_v3, val_main_v2, rows, head]
/-- The scores' gradient, as the derivative of a quotient. -/
theorem v59 : val_main_v59 (F := Ideal) x0 x1 x2 x3 (ix3 h r k)
    = dquot (scores (head x0 h h.isLt) (head x1 h h.isLt) r) (rows (head x3 h h.isLt) (head x2 h h.isLt) r) k * scale := by
  pointwise [val_main_v59, val_main_v58, val_main_v57, val_main_v56, val_main_v55, val_main_v54, val_main_v53, val_main_v52, val_main_v51, val_main_v50,
    val_main_v49, val_main_v48, val_main_v47, val_main_v46, val_main_v37, val_main_v36, val_main_v35, val_main_v32, val_main_cst_9, val_main_cst_10,
    val_main_cst_11, val_main_cst_12, v43, v30, v31, dquot, Fin.sum_univ_one, scale]

section
variable (hs : ∀ r k, ∃ x : ℝ, scores (head x0 h h.isLt) (head x1 h h.isLt) r k = x)
include hs
/-- The same over finite scores. -/
theorem v59_eq : val_main_v59 (F := Ideal) x0 x1 x2 x3 (ix3 h r k) = dsc (head x0 h h.isLt) (head x1 h h.isLt) (head x2 h h.isLt) (head x3 h h.isLt) r k := by
  rw [v59]; exact congrArg (· * scale) (dquot_eq_dscore (hs r) _ k)
theorem v61 (i : Fin 256) : val_main_v61 (F := Ideal) x0 x1 x2 x3 (ix3 i h l) = dk (head x0 h h.isLt) (head x1 h h.isLt) (head x2 h h.isLt) (head x3 h h.isLt) i l := by
  pointwise [val_main_v61, val_main_v60, val_main_v4, val_main_v0, v59_eq x0 x1 x2 x3 _ _ _ hs, dk, head]
theorem v63 : val_main_v63 (F := Ideal) x0 x1 x2 x3 (ix3 r h l) = dq (head x0 h h.isLt) (head x1 h h.isLt) (head x2 h h.isLt) (head x3 h h.isLt) r l := by
  pointwise [val_main_v63, val_main_v62, val_main_v5, val_main_v1, v59_eq x0 x1 x2 x3 _ _ _ hs, dq, head]
end
theorem v45 (i : Fin 256) : val_main_v45 (F := Ideal) x0 x1 x3 (ix3 i h l) = dv (head x0 h h.isLt) (head x1 h h.isLt) (head x3 h h.isLt) i l := by
  pointwise [val_main_v45, val_main_v44, val_main_v42, val_main_v41, val_main_v3, v34, dv, head]
  all_goals exact Finset.sum_congr rfl fun _ _ => mul_comm _ _

variable (c : Fin 1024)
/-- A reshaped column's index. -/
theorem split_index {a : ℕ} (i : Fin a) (j : (⟨3, ![a, 4, 256]⟩ : Shape).Idx) (h0 : (j 0).val = (i.val * 1024 + c.val) / 1024)
    (h1 : (j 1).val = (i.val * 1024 + c.val) / 256 % 4) (h2 : (j 2).val = (i.val * 1024 + c.val) % 256) : j = ix3 i ⟨hd c, hd_lt c⟩ (lane c) := by
  have := c.isLt
  funext b
  match b with
  | ⟨0, _⟩ => exact Fin.ext (h0.trans (show _ = i.val by omega))
  | ⟨1, _⟩ => exact Fin.ext (h1.trans (show _ = c.val / 256 by omega))
  | ⟨2, _⟩ => exact Fin.ext (h2.trans (show _ = c.val % 256 by omega))

/-- The values' gradient. -/
theorem ref_dv (i : Fin 256) : val_main_v64 (F := Ideal) x0 x1 x3 (ix2 i c) = blkDv x0 x1 x3 i c := by
  rw [val_main_v64_apply]; exact (congrArg _ (split_index c i _ rfl rfl rfl)).trans (v45 x0 x1 x3 ⟨hd c, hd_lt c⟩ (lane c) i)

section
variable (hs : ∀ (h : Fin 4) r k, ∃ x : ℝ, scores (head x0 h h.isLt) (head x1 h h.isLt) r k = x)
include hs
/-- The keys' gradient. -/
theorem ref_dk (i : Fin 256) : val_main_v65 (F := Ideal) x0 x1 x2 x3 (ix2 i c) = blkDk x0 x1 x2 x3 i c := by
  rw [val_main_v65_apply]; exact (congrArg _ (split_index c i _ rfl rfl rfl)).trans (v61 x0 x1 x2 x3 ⟨hd c, hd_lt c⟩ (lane c) (hs _) i)
/-- The queries' gradient. -/
theorem ref_dq : val_main_v67 (F := Ideal) x0 x1 x2 x3 (ix2 r c) = blkDq x0 x1 x2 x3 c r := by
  have e : val_main_v66 (F := Ideal) x0 x1 x2 x3 (ix2 r c) = blkDq x0 x1 x2 x3 c r := by
    rw [val_main_v66_apply]; exact (congrArg _ (split_index c r _ rfl rfl rfl)).trans (v63 x0 x1 x2 x3 ⟨hd c, hd_lt c⟩ r (lane c) (hs _))
  exact e
end

section
variable {x0 x1 x2 x3}
variable (m : (ℓ : Loc nD τ sig) → Buf (Elt Ideal) ℓ) (c : Dev nD) (e0 : m ((c.tc : Thread nD τ).loc main_arg0) = x0) (e1 : m ((c.tc : Thread nD τ).loc main_arg1) = x1)
  (e2 : m ((c.tc : Thread nD τ).loc main_arg2) = x2) (e3 : m ((c.tc : Thread nD τ).loc main_arg3) = x3)
include e0 e1 e3

/-- The reference's results over the argument arrays. -/
theorem res_dv : val_main_v64 (F := Ideal) (m ((c.tc : Thread nD τ).loc main_arg0)) (m ((c.tc : Thread nD τ).loc main_arg1)) (m ((c.tc : Thread nD τ).loc main_arg3))
    = fun j => blkDv x0 x1 x3 (j 0) (j 1) := by
  subst e0 e1 e3
  funext j
  exact (congrArg (val_main_v64 (F := Ideal) _ _ _) (eq_ix2 j)).trans (ref_dv _ _ _ _ _)

include e2
variable (real : ∀ (h : Fin 4) r k, ∃ x : ℝ, scores (head x0 h h.isLt) (head x1 h h.isLt) r k = x)
include real
theorem res_dk : Value.res_main_v65 m c = fun j => blkDk x0 x1 x2 x3 (j 0) (j 1) := by
  subst e0 e1 e2 e3
  rw [val_main_v65_eq]
  funext j
  exact (congrArg (val_main_v65 (F := Ideal) _ _ _ _) (eq_ix2 j)).trans (ref_dk _ _ _ _ _ real _)
theorem res_dq : Value.res_main_v67 m c = fun j => blkDq x0 x1 x2 x3 (j 1) (j 0) := by
  subst e0 e1 e2 e3
  rw [val_main_v67_eq]
  funext j
  exact (congrArg (val_main_v67 (F := Ideal) _ _ _ _) (eq_ix2 j)).trans (ref_dq _ _ _ _ _ _ real)
end

end Cert.Ref

end
-- ==== Proof.Finite.lean ====
/- The precondition makes every score a real number. -/
module

public import proofs.«01_k».proof.Proof.Blocks
public import proofs.«01_k».proof.Pre_finite_qk

@[expose] public section

set_option maxRecDepth 16384

noncomputable section

namespace Cert.Finite

open Idealize.ShloMosaic Idealize.ShloMosaic.TcCoe
open Cert.Softmax Cert.Heads Cert.Blocks

/-- The precondition's shape relations. -/
theorem facts : Cert.Pre_finite_qk.Facts where
  bitsLt_bf16_f32 := by decide
  reducesTo_S4096x1024_S1024_d0 := by decide
  h_S_ := by decide
  bcast_S_S1024 := by decide
  reducesTo_S256x1024_S1024_d0 := by decide

/-- A value whose absolute value is below infinity is real. -/
theorem real_of_abs {x : EReal} (h : max x (-x) < ⊤) : ∃ r : ℝ, x = r := by
  obtain ⟨h1, h2⟩ := max_lt_iff.1 h
  lift x to ℝ using ⟨h1.ne, fun e => h2.ne (by rw [e]; rfl)⟩
  exact ⟨x, rfl⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem sum_coe {ι : Type*} (s : Finset ι) (g : ι → ℝ) : ((∑ i ∈ s, g i : ℝ) : EReal) = ∑ i ∈ s, (g i : EReal) :=
  map_sum (⟨⟨(↑), EReal.coe_zero⟩, EReal.coe_add⟩ : ℝ →+ EReal) g s

theorem real_sum {ι : Type*} (s : Finset ι) (f : ι → EReal) (h : ∀ i, ∃ r : ℝ, f i = r) : ∃ r : ℝ, ∑ i ∈ s, f i = r := by
  choose g hg using h
  exact ⟨∑ i ∈ s, g i, by simp only [hg]; exact (sum_coe s g).symm⟩

theorem real_scale : ∃ r : ℝ, scale = r := by
  exact ⟨_, by simp [scale, Ideal.ofBits, Ideal.ieee]; rfl⟩

/-- Real queries and keys have real scores. -/
theorem real_scores {a : ℕ} (q : FVec Ideal ⟨2, ![a, 256]⟩ .bf16) (k : FVec Ideal ⟨2, ![256, 256]⟩ .bf16)
    (hq : ∀ i, ∃ r : ℝ, q i = r) (hk : ∀ i, ∃ r : ℝ, k i = r) (i : Fin a) (m : Fin 256) : ∃ r : ℝ, scores q k i m = r :=
  real_mul (real_sum _ _ fun _ => real_mul (hq _) (hk _)) real_scale

/-- A column whose largest absolute value is below infinity holds real numbers. -/
theorem real_of_column {n : ℕ} (x : FVec Ideal ⟨2, ![n, 1024]⟩ .f32) (h' : (⟨2, ![n, 1024]⟩ : Shape).ReducesTo [0] ⟨1, ![1024]⟩)
    (h : (⟨2, ![n, 1024]⟩ : Shape).Reduces [0] ⟨1, ![1024]⟩) (init : (⟨0, ![]⟩ : Shape).Idx → EReal) (hu : 0 < (⟨0, ![]⟩ : Shape).numel) (c : Fin 1024)
    (e : Host.reduce (FloatOps.maximumf (F := Ideal) (φ := .f32)) (Host.absf x) init h' hu (ix1 c) < ⊤) (i : Fin n) : ∃ r : ℝ, x (ix2 i c) = r := by
  rw [Host.reduce_eq_fold_single _ _ _ _ h] at e
  have e2 := (Finset.fold_max_lt (c := (⊤ : EReal))).1 e
  have e3 := e2.2 i (Finset.mem_univ _)
  have e4 : h.lift (ix1 c) i = ix2 i c := by blk_ext <;> rfl
  have e5 : max (x (h.lift (ix1 c) i)) (-x (h.lift (ix1 c) i)) < ⊤ := e3
  rw [e4] at e5
  exact real_of_abs e5

/-- Both halves of a conjunction of comparisons. -/
theorem both {p q : Prop} [Decidable p] [Decidable q] (h : IntOp.andi (BitVec.ofBool (decide p)) (BitVec.ofBool (decide q)) = 1#1) : p ∧ q := by
  by_cases hp : p <;> by_cases hq : q <;> simp_all [IntOp.andi]

/-- The pattern of infinity. -/
theorem bits_top : Ideal.ofBits .f32 0x7F800000#32 = ⊤ := by simp [Ideal.ofBits, Ideal.ieee]

section
variable [Cert.Pre_finite_qk.Facts] (x0 : FVec Ideal Pre_finite_qk.S4096x1024 .bf16) (x1 x2 : FVec Ideal Pre_finite_qk.S256x1024 .bf16)
  (x3 : FVec Ideal Pre_finite_qk.S4096x1024 .bf16)
open Cert.Pre_finite_qk Cert.Pre_finite_qk.Facts

theorem cmp_at {s : Shape} (x y : FVec Ideal s .f32) (j : s.Idx) : cmpf .olt x y j = BitVec.ofBool (decide (x j < y j)) := by rfl

/-- What the precondition says of the two arrays. -/
theorem real_args (h : fn (F := Ideal) x0 x1 x2 x3 = fun _ => 1#1) :
    (∀ i c, ∃ r : ℝ, x0 (ix2 i c) = r) ∧ ∀ i c, ∃ r : ℝ, x1 (ix2 i c) = r := by
  unfold fn at h
  have key := fun c : Fin 1024 => congrFun h (ix1 c)
  simp only [andi, cmp_at] at key
  have b : ∀ c : Fin 1024, broadcastInDim S1024 ![] bcast_S_S1024 (constant (F := Ideal) S_ .f32 0x7F800000#32) (ix1 c) = ⊤ := fun c => bits_top
  simp only [b] at key
  exact ⟨fun i c => real_of_column (extf .f32 x0 bitsLt_bf16_f32) _ (by decide) _ _ c (both (key c)).1 i,
    fun i c => real_of_column (extf .f32 x1 bitsLt_bf16_f32) _ (by decide) _ _ c (both (key c)).2 i⟩
end

/-- Under it, every head's scores are real. -/
theorem real_head_scores [Cert.Pre_finite_qk.Facts] (x0 : FVec Ideal Pre_finite_qk.S4096x1024 .bf16) (x1 x2 : FVec Ideal Pre_finite_qk.S256x1024 .bf16)
    (x3 : FVec Ideal Pre_finite_qk.S4096x1024 .bf16) (e : Cert.Pre_finite_qk.fn (F := Ideal) x0 x1 x2 x3 = fun _ => 1#1)
    (h : Fin 4) (r : Fin 4096) (k : Fin 256) : ∃ x : ℝ, scores (head x0 h h.isLt) (head x1 h h.isLt) r k = x :=
  real_scores _ _ (fun _ => (real_args x0 x1 x2 x3 e).1 _ _) (fun _ => (real_args x0 x1 x2 x3 e).2 _ _) r k

end Cert.Finite

end
-- ==== Proof.Products.lean ====
/- Products of two matrices over the extended reals, in the three orientations, and how their blocks make them up. -/
module

public import Idealize.ShloMosaic.Lib.Pipeline.ValueKit
public import Idealize.ShloMosaic.Lib.Pipeline.ReadBack

@[expose] public section

noncomputable section

namespace Cert.Products

open Idealize.ShloMosaic

variable {a b k a' b' k' : ℕ} {φ ψ χ φ' ψ' χ' : FTy}

/-- Rows against rows. -/
def nt (χ : FTy) (X : FVec Ideal ⟨2, ![a, k]⟩ φ) (Y : FVec Ideal ⟨2, ![b, k]⟩ ψ) : FVec Ideal ⟨2, ![a, b]⟩ χ :=
  fun j => ∑ l : Fin k, X (ix2 (j 0) l) * Y (ix2 (j 1) l)
/-- Columns against columns. -/
def tn (χ : FTy) (X : FVec Ideal ⟨2, ![k, a]⟩ φ) (Y : FVec Ideal ⟨2, ![k, b]⟩ ψ) : FVec Ideal ⟨2, ![a, b]⟩ χ :=
  fun j => ∑ l : Fin k, X (ix2 l (j 0)) * Y (ix2 l (j 1))
/-- Rows against columns. -/
def nn (χ : FTy) (X : FVec Ideal ⟨2, ![a, k]⟩ φ) (Y : FVec Ideal ⟨2, ![k, b]⟩ ψ) : FVec Ideal ⟨2, ![a, b]⟩ χ :=
  fun j => ∑ l : Fin k, X (ix2 (j 0) l) * Y (ix2 l (j 1))

section
variable {i : Shape.Idx ⟨2, ![a', b']⟩} {j : Shape.Idx ⟨2, ![a, b]⟩}

/-- A block of rows against a block of rows, whole rows. -/
theorem nt_block {x : FVec Ideal ⟨2, ![a', k]⟩ φ} {y : FVec Ideal ⟨2, ![b', k]⟩ ψ} {X : FVec Ideal ⟨2, ![a, k]⟩ φ} {Y : FVec Ideal ⟨2, ![b, k]⟩ ψ}
    (hx : ∀ l, x (ix2 (i 0) l) = X (ix2 (j 0) l)) (hy : ∀ l, y (ix2 (i 1) l) = Y (ix2 (j 1) l)) : nt χ x y i = nt χ X Y j :=
  Finset.sum_congr rfl fun l _ => congrArg₂ (· * ·) (hx l) (hy l)

/-- A block of rows against a block of columns, whole ones. -/
theorem nn_block {x : FVec Ideal ⟨2, ![a', k]⟩ φ} {y : FVec Ideal ⟨2, ![k, b']⟩ ψ} {X : FVec Ideal ⟨2, ![a, k]⟩ φ} {Y : FVec Ideal ⟨2, ![k, b]⟩ ψ}
    (hx : ∀ l, x (ix2 (i 0) l) = X (ix2 (j 0) l)) (hy : ∀ l, y (ix2 l (i 1)) = Y (ix2 l (j 1))) : nn χ x y i = nn χ X Y j :=
  Finset.sum_congr rfl fun l _ => congrArg₂ (· * ·) (hx l) (hy l)

/-- A sum in two halves. -/
theorem halves (h : k' + k' = k) (f g : Fin k' → EReal) (F : Fin k → EReal) (hf : ∀ (l : Fin k') (p : Fin k), p.val = l.val → f l = F p)
    (hg : ∀ (l : Fin k') (p : Fin k), p.val = k' + l.val → g l = F p) : ∑ l, f l + ∑ l, g l = ∑ l, F l := by
  subst h
  rw [Fin.sum_univ_add]
  exact congrArg₂ (· + ·) (Finset.sum_congr rfl fun l _ => hf l _ rfl) (Finset.sum_congr rfl fun l _ => hg l _ rfl)

/-- Two halves of the columns against columns. -/
theorem tn_halves (h : k' + k' = k) {x u : FVec Ideal ⟨2, ![k', a']⟩ φ} {y v : FVec Ideal ⟨2, ![k', b']⟩ ψ} {X : FVec Ideal ⟨2, ![k, a]⟩ φ}
    {Y : FVec Ideal ⟨2, ![k, b]⟩ ψ} (hx : ∀ (l : Fin k') (p : Fin k), p.val = l.val → x (ix2 l (i 0)) = X (ix2 p (j 0)))
    (hy : ∀ (l : Fin k') (p : Fin k), p.val = l.val → y (ix2 l (i 1)) = Y (ix2 p (j 1)))
    (hu : ∀ (l : Fin k') (p : Fin k), p.val = k' + l.val → u (ix2 l (i 0)) = X (ix2 p (j 0)))
    (hv : ∀ (l : Fin k') (p : Fin k), p.val = k' + l.val → v (ix2 l (i 1)) = Y (ix2 p (j 1))) : tn χ x y i + tn χ u v i = tn χ' X Y j :=
  halves h _ _ _ (fun l p e => congrArg₂ (· * ·) (hx l p e) (hy l p e)) fun l p e => congrArg₂ (· * ·) (hu l p e) (hv l p e)

/-- Two halves of the rows against columns. -/
theorem nn_halves (h : k' + k' = k) {x u : FVec Ideal ⟨2, ![a', k']⟩ φ} {y v : FVec Ideal ⟨2, ![k', b']⟩ ψ} {X : FVec Ideal ⟨2, ![a, k]⟩ φ}
    {Y : FVec Ideal ⟨2, ![k, b]⟩ ψ} (hx : ∀ (l : Fin k') (p : Fin k), p.val = l.val → x (ix2 (i 0) l) = X (ix2 (j 0) p))
    (hy : ∀ (l : Fin k') (p : Fin k), p.val = l.val → y (ix2 l (i 1)) = Y (ix2 p (j 1)))
    (hu : ∀ (l : Fin k') (p : Fin k), p.val = k' + l.val → u (ix2 (i 0) l) = X (ix2 (j 0) p))
    (hv : ∀ (l : Fin k') (p : Fin k), p.val = k' + l.val → v (ix2 l (i 1)) = Y (ix2 p (j 1))) : nn χ x y i + nn χ u v i = nn χ' X Y j :=
  halves h _ _ _ (fun l p e => congrArg₂ (· * ·) (hx l p e) (hy l p e)) fun l p e => congrArg₂ (· * ·) (hu l p e) (hv l p e)
end

end Cert.Products

end
-- ==== Proof.Wide.lean ====
/- The products with the wide weights: the arrays after the run, and the references'. -/
module

public import proofs.«01_k».proof.Proof.Products
public import proofs.«01_k».proof.Proof.Gen.ProductNtIdeal.Value
public import proofs.«01_k».proof.Proof.Gen.RefNtIdeal.Read
public import proofs.«01_k».proof.Proof.Gen.ProductTnIdeal.Value
public import proofs.«01_k».proof.Proof.Gen.RefTnIdeal.Read
public import proofs.«01_k».proof.Proof.Gen.ProductNnIdeal.Value
public import proofs.«01_k».proof.Proof.Gen.RefNnIdeal.Read

@[expose] public section

set_option maxRecDepth 16384

noncomputable section

/-! ## Rows against rows -/
namespace Cert.ProdNt

open Idealize.ShloMosaic Idealize.ShloMosaic.TcCoe Idealize.SL.Sem Cert.Products
open Cert.ProductNtIdeal Cert.ProductNtIdeal.Gen

variable (m : (ℓ : Loc nD τ sig) → Buf (Elt Ideal) ℓ) (c : Dev nD)

/-- Where the blocks lie. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The arguments, as arrays of extended reals. -/
abbrev A0 : FVec Ideal S4096x1024 .bf16 := m ((c.tc : Thread nD τ).loc main_arg0)
abbrev A1 : FVec Ideal S2816x1024 .bf16 := m ((c.tc : Thread nD τ).loc main_arg1)

/-- The blocks staged at a point, in terms of the arguments. -/
theorem in0 (t : Fin cfg0.N) (i : Fin 1024) (l : Fin 1024) (i' : Fin 4096) (hi : i'.val = t.val / 2 * 1024 + i.val) :
    iblk m c 0 t (ix2 i l) = A0 m c (ix2 i' l) := by
  blk_point [iblk, V, idx t, hi]
theorem in1 (t : Fin cfg0.N) (i : Fin 1408) (l : Fin 1024) (i' : Fin 2816) (hi : i'.val = t.val % 2 * 1408 + i.val) :
    iblk m c 1 t (ix2 i l) = A1 m c (ix2 i' l) := by
  blk_point [iblk, V, idx t, hi]

/-- What a point leaves in its output block. -/
theorem point (x0 : FVec Ideal S1024x1024 .bf16) (x1 : FVec Ideal S1408x1024 .bf16) (y : S1024x1408.Idx) :
    out0_2 (F := Ideal) x0 x1 y = nt .f32 x0 x1 y := by
  unfold out0_2 nt
  idx_vars y
  canon_tiles x h
  idx_vars x
  obtain rfl : y0 = x0 := Fin.ext (by omega)
  obtain rfl : y1 = x1 := Fin.ext (by omega)
  pointwise [k0_pay1]
  all_goals blk_ext

theorem final : (dats m 0 c).arrAt 2 cfg0.N = nt .f32 (A0 m c) (A1 m c) := by
  refine (dats m 0 c).arrAt_eq_of_covers 2 _ (by decide +kernel) fun t hf y => ?_
  blk_simp
  rw [after0_2, point]
  refine nt_block (fun l => in0 m c t _ l _ ?_) fun l => in1 m c t _ _ _ ?_
  all_goals (blk_simp [idx t] <;> try omega)

/-- The reference's result is the same product. -/
theorem ref (X : FVec Ideal S4096x1024 .bf16) (Y : FVec Ideal S2816x1024 .bf16) : RefNtIdeal.Read.val_main_v4 (F := Ideal) X Y = nt .f32 X Y := by
  funext j
  rw [RefNtIdeal.Read.val_main_v4_apply]
  refine Finset.sum_congr rfl fun l _ => ?_
  rw [RefNtIdeal.Read.val_main_v0_apply, RefNtIdeal.Read.val_main_v1_apply]
  refine congrArg₂ (· * ·) (congrArg X ?_) (congrArg Y ?_)
  all_goals blk_ext

end Cert.ProdNt

/-! ## Columns against columns, in two halves of the rows -/
namespace Cert.ProdTn

open Idealize.ShloMosaic Idealize.ShloMosaic.TcCoe Idealize.SL.Sem Cert.Products
open Cert.ProductTnIdeal Cert.ProductTnIdeal.Gen

variable (m : (ℓ : Loc nD τ sig) → Buf (Elt Ideal) ℓ) (c : Dev nD)

/-- Where the blocks lie. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The arguments, as arrays of extended reals. -/
abbrev A0 : FVec Ideal S4096x2816 .bf16 := m ((c.tc : Thread nD τ).loc main_arg0)
abbrev A1 : FVec Ideal S4096x1024 .bf16 := m ((c.tc : Thread nD τ).loc main_arg1)

/-- The blocks staged at a point, in terms of the arguments. -/
theorem in0 (t : Fin cfg0.N) (i : Fin 2048) (l : Fin 1408) (i' : Fin 4096) (l' : Fin 2816) (hi : i'.val = t.val % 2 * 2048 + i.val) (hl : l'.val = t.val / 2 * 1408 + l.val) :
    iblk m c 0 t (ix2 i l) = A0 m c (ix2 i' l') := by
  blk_point [iblk, V, idx t, hi, hl]
theorem in1 (t : Fin cfg0.N) (i : Fin 2048) (l : Fin 1024) (i' : Fin 4096) (hi : i'.val = t.val % 2 * 2048 + i.val) :
    iblk m c 1 t (ix2 i l) = A1 m c (ix2 i' l) := by
  blk_point [iblk, V, idx t, hi]

/-- The body's product. -/
theorem pay (x : FVec Ideal S2048x1408 .bf16) (y : FVec Ideal S2048x1024 .bf16) (j : S1408x1024.Idx) : k0_pay1 (F := Ideal) x y j = tn .f32 x y j := by
  unfold tn
  idx_vars j
  pointwise [k0_pay1]
  all_goals blk_ext

/-- The first half's point leaves its blocks' product in the accumulator. -/
theorem point_A (t : Fin cfg0.N) (h : t.val % 2 = 0) (y : S1408x1024.Idx) :
    (outsAt0 m c t.val t.isLt).2 y = tn (φ := .bf16) (ψ := .bf16) .f32 (iblk m c 0 t) (iblk m c 1 t) y := by
  rw [outsAt0_A m c t h (by omega) (by omega)]
  frame_open
  simp (disch := decide) only [↓ View.readCov_skip, ↓ View.readCov_cons_toLoadRect, ↓ View.readCov_fill]
  frame_out
  idx_vars y
  rw [← pay]
  pointwise [k0_pay2]
  all_goals blk_ext

/-- The second half's point adds its blocks' product and stores the sum. -/
theorem point_B (t : Fin cfg0.N) (h : t.val % 2 = 1) (y : S1408x1024.Idx) :
    (outsAt0 m c t.val t.isLt).1 y
      = (outsAt0 m c (t.val - 1) (Nat.lt_of_le_of_lt (Nat.sub_le _ _) t.isLt)).2 y + tn (φ := .bf16) (ψ := .bf16) .f32 (iblk m c 0 t) (iblk m c 1 t) y := by
  rw [outsAt0_B m c t (by omega) h h]
  frame_open
  simp (disch := decide) only [↓ View.readCov_skip, ↓ View.readCov_cons_toLoadRect, ↓ View.readCov_fill]
  frame_out
  idx_vars y
  rw [← pay]
  pointwise [k0_pay3, k0_pay4]
  exact congrArg (· + _) (congrFun (Memref.IsWhole.read_unread _ _) _)

theorem final : (dats m 0 c).arrAt 2 cfg0.N = tn .bf16 (A0 m c) (A1 m c) := by
  refine (dats m 0 c).arrAt_eq_of_covers 2 _ (by decide +kernel) fun t hf y => ?_
  have ht : t.val % 2 = 1 := (by decide +kernel : ∀ t : Fin cfg0.N, (cfg0.win 2).flush t = true → t.val % 2 = 1) t hf
  obtain ⟨s, hs⟩ : ∃ s : Fin cfg0.N, s.val = t.val - 1 := ⟨⟨t.val - 1, Nat.lt_of_le_of_lt (Nat.sub_le _ _) t.isLt⟩, rfl⟩
  have hr : s.val / 2 = t.val / 2 := by omega
  blk_simp
  rw [after0_2, point_B m c t ht]
  simp only [← hs]
  rw [point_A m c s (by omega)]
  refine tn_halves (by decide) (fun l p e => in0 m c s l _ p _ ?_ ?_)
    (fun l p e => (in1 m c s l _ p ?_).trans (congrArg (A1 m c) ?_)) (fun l p e => in0 m c t l _ p _ ?_ ?_)
    (fun l p e => (in1 m c t l _ p ?_).trans (congrArg (A1 m c) ?_))
  all_goals first | omega | (blk_ext [idx t, hr] <;> omega)

/-- The reference's result is the same product. -/
theorem ref (X : FVec Ideal S4096x2816 .bf16) (Y : FVec Ideal S4096x1024 .bf16) : RefTnIdeal.Read.val_main_v6 (F := Ideal) X Y = tn .bf16 X Y := by
  funext j
  rw [RefTnIdeal.Read.val_main_v6_apply, RefTnIdeal.Read.val_main_v5_apply, RefTnIdeal.Read.val_main_v4_apply]
  refine Finset.sum_congr rfl fun l _ => ?_
  rw [RefTnIdeal.Read.val_main_v0_apply, RefTnIdeal.Read.val_main_v1_apply, mul_comm]
  refine congrArg₂ (· * ·) (congrArg X ?_) (congrArg Y ?_)
  all_goals blk_ext

end Cert.ProdTn

/-! ## Rows against columns, in two halves of the columns -/
namespace Cert.ProdNn

open Idealize.ShloMosaic Idealize.ShloMosaic.TcCoe Idealize.SL.Sem Cert.Products
open Cert.ProductNnIdeal Cert.ProductNnIdeal.Gen

variable (m : (ℓ : Loc nD τ sig) → Buf (Elt Ideal) ℓ) (c : Dev nD)

/-- Where the blocks lie. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The arguments, as arrays of extended reals. -/
abbrev A0 : FVec Ideal S4096x2816 .bf16 := m ((c.tc : Thread nD τ).loc main_arg0)
abbrev A1 : FVec Ideal S2816x1024 .bf16 := m ((c.tc : Thread nD τ).loc main_arg1)

/-- The blocks staged at a point, in terms of the arguments. -/
theorem in0 (t : Fin cfg0.N) (i : Fin 1024) (l : Fin 1408) (i' : Fin 4096) (l' : Fin 2816) (hi : i'.val = t.val / 2 * 1024 + i.val) (hl : l'.val = t.val % 2 * 1408 + l.val) :
    iblk m c 0 t (ix2 i l) = A0 m c (ix2 i' l') := by
  blk_point [iblk, V, idx t, hi, hl]
theorem in1 (t : Fin cfg0.N) (i : Fin 1408) (l : Fin 1024) (i' : Fin 2816) (hi : i'.val = t.val % 2 * 1408 + i.val) :
    iblk m c 1 t (ix2 i l) = A1 m c (ix2 i' l) := by
  blk_point [iblk, V, idx t, hi]

/-- The body's product. -/
theorem pay (x : FVec Ideal S1024x1408 .bf16) (y : FVec Ideal S1408x1024 .bf16) (j : S1024x1024.Idx) : k0_pay1 (F := Ideal) x y j = nn .f32 x y j := by
  unfold nn
  idx_vars j
  pointwise [k0_pay1]
  all_goals blk_ext

/-- The first half's point leaves its blocks' product in the accumulator. -/
theorem point_A (t : Fin cfg0.N) (h : t.val % 2 = 0) (y : S1024x1024.Idx) :
    (outsAt0 m c t.val t.isLt).2 y = nn (φ := .bf16) (ψ := .bf16) .f32 (iblk m c 0 t) (iblk m c 1 t) y := by
  rw [outsAt0_A m c t h (by omega) (by omega)]
  frame_open
  simp (disch := decide) only [↓ View.readCov_skip, ↓ View.readCov_cons_toLoadRect, ↓ View.readCov_fill]
  frame_out
  idx_vars y
  rw [← pay]
  pointwise [k0_pay2]
  all_goals blk_ext

/-- The second half's point adds its blocks' product and stores the sum. -/
theorem point_B (t : Fin cfg0.N) (h : t.val % 2 = 1) (y : S1024x1024.Idx) :
    (outsAt0 m c t.val t.isLt).1 y
      = (outsAt0 m c (t.val - 1) (Nat.lt_of_le_of_lt (Nat.sub_le _ _) t.isLt)).2 y + nn (φ := .bf16) (ψ := .bf16) .f32 (iblk m c 0 t) (iblk m c 1 t) y := by
  rw [outsAt0_B m c t (by omega) h h]
  frame_open
  simp (disch := decide) only [↓ View.readCov_skip, ↓ View.readCov_cons_toLoadRect, ↓ View.readCov_fill]
  frame_out
  idx_vars y
  rw [← pay]
  pointwise [k0_pay3]
  exact congrArg (· + _) (congrFun (Memref.IsWhole.read_unread _ _) _)

theorem final : (dats m 0 c).arrAt 2 cfg0.N = nn .f32 (A0 m c) (A1 m c) := by
  refine (dats m 0 c).arrAt_eq_of_covers 2 _ (by decide +kernel) fun t hf y => ?_
  have ht : t.val % 2 = 1 := (by decide +kernel : ∀ t : Fin cfg0.N, (cfg0.win 2).flush t = true → t.val % 2 = 1) t hf
  obtain ⟨s, hs⟩ : ∃ s : Fin cfg0.N, s.val = t.val - 1 := ⟨⟨t.val - 1, Nat.lt_of_le_of_lt (Nat.sub_le _ _) t.isLt⟩, rfl⟩
  have hr : s.val / 2 = t.val / 2 := by omega
  blk_simp
  rw [after0_2, point_B m c t ht]
  simp only [← hs]
  rw [point_A m c s (by omega)]
  refine nn_halves (by decide) (fun l p e => in0 m c s _ l _ p ?_ ?_)
    (fun l p e => (in1 m c s l _ p ?_).trans (congrArg (A1 m c) ?_)) (fun l p e => in0 m c t _ l _ p ?_ ?_)
    (fun l p e => (in1 m c t l _ p ?_).trans (congrArg (A1 m c) ?_))
  all_goals first | omega | (blk_ext [idx t, hr] <;> omega)

/-- The reference's result is the same product. -/
theorem ref (X : FVec Ideal S4096x2816 .bf16) (Y : FVec Ideal S2816x1024 .bf16) : RefNnIdeal.Read.val_main_v5 (F := Ideal) X Y = nn .f32 X Y := by
  funext j
  rw [RefNnIdeal.Read.val_main_v5_apply]
  refine Finset.sum_congr rfl fun l _ => ?_
  rw [RefNnIdeal.Read.val_main_v1_apply, RefNnIdeal.Read.val_main_v2_apply, RefNnIdeal.Read.val_main_v0_apply]
  refine congrArg₂ (· * ·) (congrArg X ?_) (congrArg Y ?_)
  all_goals blk_ext

end Cert.ProdNn

end
-- ==== Proof.Square.lean ====
/- The products with the square weights: the arrays after the run, and the references'. -/
module

public import proofs.«01_k».proof.Proof.Products
public import proofs.«01_k».proof.Proof.Gen.ProductSqNtIdeal.Value
public import proofs.«01_k».proof.Proof.Gen.RefSqNtIdeal.Read
public import proofs.«01_k».proof.Proof.Gen.ProductSqNtBIdeal.Value
public import proofs.«01_k».proof.Proof.Gen.RefSqNtBIdeal.Read
public import proofs.«01_k».proof.Proof.Gen.ProductSqTnIdeal.Value
public import proofs.«01_k».proof.Proof.Gen.RefSqTnIdeal.Read
public import proofs.«01_k».proof.Proof.Gen.ProductSqNnIdeal.Value
public import proofs.«01_k».proof.Proof.Gen.RefSqNnIdeal.Read
public import proofs.«01_k».proof.Proof.Gen.ProductSqNnBIdeal.Value
public import proofs.«01_k».proof.Proof.Gen.RefSqNnBIdeal.Read

@[expose] public section

set_option maxRecDepth 16384

noncomputable section

/-! ## Rows against rows -/
namespace Cert.ProdSqNt

open Idealize.ShloMosaic Idealize.ShloMosaic.TcCoe Idealize.SL.Sem Cert.Products
open Cert.ProductSqNtIdeal Cert.ProductSqNtIdeal.Gen

variable (m : (ℓ : Loc nD τ sig) → Buf (Elt Ideal) ℓ) (c : Dev nD)

/-- Where the blocks lie. -/
theorem idx : ∀ t : Fin cfg0.N, win0_0.index t = ![t.val, 0] ∧ win0_1.index t = ![0, 0] ∧ win0_2.index t = ![t.val, 0] :=
  (by decide +kernel : ∀ t : Fin grid0.N, _)

/-- The arguments, as arrays of extended reals. -/
abbrev A0 : FVec Ideal S4096x1024 .bf16 := m ((c.tc : Thread nD τ).loc main_arg0)
abbrev A1 : FVec Ideal S1024x1024 .bf16 := m ((c.tc : Thread nD τ).loc main_arg1)

/-- The blocks staged at a point, in terms of the arguments. -/
theorem in0 (t : Fin cfg0.N) (i : Fin 1024) (l : Fin 1024) (i' : Fin 4096) (hi : i'.val = t.val * 1024 + i.val) :
    iblk m c 0 t (ix2 i l) = A0 m c (ix2 i' l) := by
  blk_point [iblk, V, idx t, hi]
theorem in1 (t : Fin cfg0.N) : iblk m c 1 t = A1 m c := by
  funext j; blk_point [iblk, V, idx t]

/-- What a point leaves in its output block. -/
theorem point (x0 : FVec Ideal S1024x1024 .bf16) (x1 : FVec Ideal S1024x1024 .bf16) (y : S1024x1024.Idx) :
    out0_2 (F := Ideal) x0 x1 y = nt .f32 x0 x1 y := by
  unfold out0_2 nt
  idx_vars y
  canon_tiles x h
  idx_vars x
  obtain rfl : y0 = x0 := Fin.ext (by omega)
  obtain rfl : y1 = x1 := Fin.ext (by omega)
  pointwise [k0_pay1]
  all_goals blk_ext

theorem final : (dats m 0 c).arrAt 2 cfg0.N = nt .f32 (A0 m c) (A1 m c) := by
  refine (dats m 0 c).arrAt_eq_of_covers 2 _ (by decide +kernel) fun t hf y => ?_
  blk_simp
  rw [after0_2, point, in1]
  refine nt_block (fun l => in0 m c t _ l _ ?_) fun l => congrArg (A1 m c) ?_
  all_goals (blk_ext [idx t] <;> try omega)

/-- The reference's result is the same product. -/
theorem ref (X : FVec Ideal S4096x1024 .bf16) (Y : FVec Ideal S1024x1024 .bf16) : RefSqNtIdeal.Read.val_main_v4 (F := Ideal) X Y = nt .f32 X Y := by
  funext j
  rw [RefSqNtIdeal.Read.val_main_v4_apply]
  refine Finset.sum_congr rfl fun l _ => ?_
  rw [RefSqNtIdeal.Read.val_main_v0_apply, RefSqNtIdeal.Read.val_main_v1_apply]
  refine congrArg₂ (· * ·) (congrArg X ?_) (congrArg Y ?_)
  all_goals blk_ext

end Cert.ProdSqNt

/-! ## Rows against rows, rounded -/
namespace Cert.ProdSqNtB

open Idealize.ShloMosaic Idealize.ShloMosaic.TcCoe Idealize.SL.Sem Cert.Products
open Cert.ProductSqNtBIdeal Cert.ProductSqNtBIdeal.Gen

variable (m : (ℓ : Loc nD τ sig) → Buf (Elt Ideal) ℓ) (c : Dev nD)

/-- Where the blocks lie. -/
theorem idx : ∀ t : Fin cfg0.N, win0_0.index t = ![t.val, 0] ∧ win0_1.index t = ![0, 0] ∧ win0_2.index t = ![t.val, 0] :=
  (by decide +kernel : ∀ t : Fin grid0.N, _)

/-- The arguments, as arrays of extended reals. -/
abbrev A0 : FVec Ideal S4096x1024 .bf16 := m ((c.tc : Thread nD τ).loc main_arg0)
abbrev A1 : FVec Ideal S1024x1024 .bf16 := m ((c.tc : Thread nD τ).loc main_arg1)

/-- The blocks staged at a point, in terms of the arguments. -/
theorem in0 (t : Fin cfg0.N) (i : Fin 1024) (l : Fin 1024) (i' : Fin 4096) (hi : i'.val = t.val * 1024 + i.val) :
    iblk m c 0 t (ix2 i l) = A0 m c (ix2 i' l) := by
  blk_point [iblk, V, idx t, hi]
theorem in1 (t : Fin cfg0.N) : iblk m c 1 t = A1 m c := by
  funext j; blk_point [iblk, V, idx t]

/-- What a point leaves in its output block. -/
theorem point (x0 : FVec Ideal S1024x1024 .bf16) (x1 : FVec Ideal S1024x1024 .bf16) (y : S1024x1024.Idx) :
    out0_2 (F := Ideal) x0 x1 y = nt .bf16 x0 x1 y := by
  unfold out0_2 nt
  idx_vars y
  canon_tiles x h
  idx_vars x
  obtain rfl : y0 = x0 := Fin.ext (by omega)
  obtain rfl : y1 = x1 := Fin.ext (by omega)
  pointwise [k0_pay1]
  all_goals blk_ext

theorem final : (dats m 0 c).arrAt 2 cfg0.N = nt .bf16 (A0 m c) (A1 m c) := by
  refine (dats m 0 c).arrAt_eq_of_covers 2 _ (by decide +kernel) fun t hf y => ?_
  blk_simp
  rw [after0_2, point, in1]
  refine nt_block (fun l => in0 m c t _ l _ ?_) fun l => congrArg (A1 m c) ?_
  all_goals (blk_ext [idx t] <;> try omega)

/-- The reference's result is the same product. -/
theorem ref (X : FVec Ideal S4096x1024 .bf16) (Y : FVec Ideal S1024x1024 .bf16) : RefSqNtBIdeal.Read.val_main_v5 (F := Ideal) X Y = nt .bf16 X Y := by
  funext j
  rw [RefSqNtBIdeal.Read.val_main_v5_apply, RefSqNtBIdeal.Read.val_main_v4_apply]
  refine Finset.sum_congr rfl fun l _ => ?_
  rw [RefSqNtBIdeal.Read.val_main_v0_apply, RefSqNtBIdeal.Read.val_main_v1_apply]
  refine congrArg₂ (· * ·) (congrArg X ?_) (congrArg Y ?_)
  all_goals blk_ext

end Cert.ProdSqNtB

/-! ## Columns against columns, in two halves of the rows -/
namespace Cert.ProdSqTn

open Idealize.ShloMosaic Idealize.ShloMosaic.TcCoe Idealize.SL.Sem Cert.Products
open Cert.ProductSqTnIdeal Cert.ProductSqTnIdeal.Gen

variable (m : (ℓ : Loc nD τ sig) → Buf (Elt Ideal) ℓ) (c : Dev nD)

/-- Where the blocks lie. -/
theorem idx : ∀ t : Fin cfg0.N, win0_0.index t = ![t.val % 2, 0] ∧ win0_1.index t = ![t.val % 2, 0] ∧ win0_2.index t = ![0, 0] :=
  (by decide +kernel : ∀ t : Fin grid0.N, _)

/-- The arguments, as arrays of extended reals. -/
abbrev A0 : FVec Ideal S4096x1024 .bf16 := m ((c.tc : Thread nD τ).loc main_arg0)
abbrev A1 : FVec Ideal S4096x1024 .bf16 := m ((c.tc : Thread nD τ).loc main_arg1)

/-- The blocks staged at a point, in terms of the arguments. -/
theorem in0 (t : Fin cfg0.N) (i : Fin 2048) (l : Fin 1024) (i' : Fin 4096) (hi : i'.val = t.val % 2 * 2048 + i.val) :
    iblk m c 0 t (ix2 i l) = A0 m c (ix2 i' l) := by
  blk_point [iblk, V, idx t, hi]
theorem in1 (t : Fin cfg0.N) (i : Fin 2048) (l : Fin 1024) (i' : Fin 4096) (hi : i'.val = t.val % 2 * 2048 + i.val) :
    iblk m c 1 t (ix2 i l) = A1 m c (ix2 i' l) := by
  blk_point [iblk, V, idx t, hi]

/-- The body's product. -/
theorem pay (x : FVec Ideal S2048x1024 .bf16) (y : FVec Ideal S2048x1024 .bf16) (j : S1024x1024.Idx) : k0_pay1 (F := Ideal) x y j = tn .f32 x y j := by
  unfold tn
  idx_vars j
  pointwise [k0_pay1]
  all_goals blk_ext

/-- The first half's point leaves its blocks' product in the accumulator. -/
theorem point_A (t : Fin cfg0.N) (h : t.val % 2 = 0) (y : S1024x1024.Idx) :
    (outsAt0 m c t.val t.isLt).2 y = tn (φ := .bf16) (ψ := .bf16) .f32 (iblk m c 0 t) (iblk m c 1 t) y := by
  rw [outsAt0_A m c t h (by omega) (by omega)]
  frame_open
  simp (disch := decide) only [↓ View.readCov_skip, ↓ View.readCov_cons_toLoadRect, ↓ View.readCov_fill]
  frame_out
  idx_vars y
  rw [← pay]
  pointwise [k0_pay2]
  all_goals blk_ext

/-- The second half's point adds its blocks' product and stores the sum. -/
theorem point_B (t : Fin cfg0.N) (h : t.val % 2 = 1) (y : S1024x1024.Idx) :
    (outsAt0 m c t.val t.isLt).1 y
      = (outsAt0 m c (t.val - 1) (Nat.lt_of_le_of_lt (Nat.sub_le _ _) t.isLt)).2 y + tn (φ := .bf16) (ψ := .bf16) .f32 (iblk m c 0 t) (iblk m c 1 t) y := by
  rw [outsAt0_B m c t (by omega) h h]
  frame_open
  simp (disch := decide) only [↓ View.readCov_skip, ↓ View.readCov_cons_toLoadRect, ↓ View.readCov_fill]
  frame_out
  idx_vars y
  rw [← pay]
  pointwise [k0_pay3, k0_pay4]
  exact congrArg (· + _) (congrFun (Memref.IsWhole.read_unread _ _) _)

theorem final : (dats m 0 c).arrAt 2 cfg0.N = tn .bf16 (A0 m c) (A1 m c) := by
  refine (dats m 0 c).arrAt_eq_of_covers 2 _ (by decide +kernel) fun t hf y => ?_
  have ht : t.val % 2 = 1 := (by decide +kernel : ∀ t : Fin cfg0.N, (cfg0.win 2).flush t = true → t.val % 2 = 1) t hf
  obtain ⟨s, hs⟩ : ∃ s : Fin cfg0.N, s.val = t.val - 1 := ⟨⟨t.val - 1, Nat.lt_of_le_of_lt (Nat.sub_le _ _) t.isLt⟩, rfl⟩
  have hr : s.val / 2 = t.val / 2 := by omega
  blk_simp
  rw [after0_2, point_B m c t ht]
  simp only [← hs]
  rw [point_A m c s (by omega)]
  refine tn_halves (by decide) (fun l p e => (in0 m c s l _ p ?_).trans (congrArg (A0 m c) ?_))
    (fun l p e => (in1 m c s l _ p ?_).trans (congrArg (A1 m c) ?_)) (fun l p e => (in0 m c t l _ p ?_).trans (congrArg (A0 m c) ?_))
    (fun l p e => (in1 m c t l _ p ?_).trans (congrArg (A1 m c) ?_))
  all_goals first | omega | (blk_ext [idx t, hr] <;> omega)

/-- The reference's result is the same product. -/
theorem ref (X : FVec Ideal S4096x1024 .bf16) (Y : FVec Ideal S4096x1024 .bf16) : RefSqTnIdeal.Read.val_main_v6 (F := Ideal) X Y = tn .bf16 X Y := by
  funext j
  rw [RefSqTnIdeal.Read.val_main_v6_apply, RefSqTnIdeal.Read.val_main_v5_apply, RefSqTnIdeal.Read.val_main_v4_apply]
  refine Finset.sum_congr rfl fun l _ => ?_
  rw [RefSqTnIdeal.Read.val_main_v0_apply, RefSqTnIdeal.Read.val_main_v1_apply, mul_comm]
  refine congrArg₂ (· * ·) (congrArg X ?_) (congrArg Y ?_)
  all_goals blk_ext

end Cert.ProdSqTn

/-! ## Rows against columns -/
namespace Cert.ProdSqNn

open Idealize.ShloMosaic Idealize.ShloMosaic.TcCoe Idealize.SL.Sem Cert.Products
open Cert.ProductSqNnIdeal Cert.ProductSqNnIdeal.Gen

variable (m : (ℓ : Loc nD τ sig) → Buf (Elt Ideal) ℓ) (c : Dev nD)

/-- Where the blocks lie. -/
theorem idx : ∀ t : Fin cfg0.N, win0_0.index t = ![t.val, 0] ∧ win0_1.index t = ![0, 0] ∧ win0_2.index t = ![t.val, 0] :=
  (by decide +kernel : ∀ t : Fin grid0.N, _)

/-- The arguments, as arrays of extended reals. -/
abbrev A0 : FVec Ideal S4096x1024 .bf16 := m ((c.tc : Thread nD τ).loc main_arg0)
abbrev A1 : FVec Ideal S1024x1024 .bf16 := m ((c.tc : Thread nD τ).loc main_arg1)

/-- The blocks staged at a point, in terms of the arguments. -/
theorem in0 (t : Fin cfg0.N) (i : Fin 1024) (l : Fin 1024) (i' : Fin 4096) (hi : i'.val = t.val * 1024 + i.val) :
    iblk m c 0 t (ix2 i l) = A0 m c (ix2 i' l) := by
  blk_point [iblk, V, idx t, hi]
theorem in1 (t : Fin cfg0.N) : iblk m c 1 t = A1 m c := by
  funext j; blk_point [iblk, V, idx t]

/-- What a point leaves in its output block. -/
theorem point (x0 : FVec Ideal S1024x1024 .bf16) (x1 : FVec Ideal S1024x1024 .bf16) (y : S1024x1024.Idx) :
    out0_2 (F := Ideal) x0 x1 y = nn .f32 x0 x1 y := by
  unfold out0_2 nn
  idx_vars y
  canon_tiles x h
  idx_vars x
  obtain rfl : y0 = x0 := Fin.ext (by omega)
  obtain rfl : y1 = x1 := Fin.ext (by omega)
  pointwise [k0_pay1]
  all_goals blk_ext

theorem final : (dats m 0 c).arrAt 2 cfg0.N = nn .f32 (A0 m c) (A1 m c) := by
  refine (dats m 0 c).arrAt_eq_of_covers 2 _ (by decide +kernel) fun t hf y => ?_
  blk_simp
  rw [after0_2, point, in1]
  refine nn_block (fun l => in0 m c t _ l _ ?_) fun l => congrArg (A1 m c) ?_
  all_goals (blk_ext [idx t] <;> try omega)

/-- The reference's result is the same product. -/
theorem ref (X : FVec Ideal S4096x1024 .bf16) (Y : FVec Ideal S1024x1024 .bf16) : RefSqNnIdeal.Read.val_main_v2 (F := Ideal) X Y = nn .f32 X Y := by
  funext j
  rw [RefSqNnIdeal.Read.val_main_v2_apply]
  refine Finset.sum_congr rfl fun l _ => ?_
  rw [RefSqNnIdeal.Read.val_main_v0_apply, RefSqNnIdeal.Read.val_main_v1_apply]
  refine congrArg₂ (· * ·) (congrArg X ?_) (congrArg Y ?_)
  all_goals blk_ext

end Cert.ProdSqNn

/-! ## Rows against columns, rounded -/
namespace Cert.ProdSqNnB

open Idealize.ShloMosaic Idealize.ShloMosaic.TcCoe Idealize.SL.Sem Cert.Products
open Cert.ProductSqNnBIdeal Cert.ProductSqNnBIdeal.Gen

variable (m : (ℓ : Loc nD τ sig) → Buf (Elt Ideal) ℓ) (c : Dev nD)

/-- Where the blocks lie. -/
theorem idx : ∀ t : Fin cfg0.N, win0_0.index t = ![t.val, 0] ∧ win0_1.index t = ![0, 0] ∧ win0_2.index t = ![t.val, 0] :=
  (by decide +kernel : ∀ t : Fin grid0.N, _)

/-- The arguments, as arrays of extended reals. -/
abbrev A0 : FVec Ideal S4096x1024 .bf16 := m ((c.tc : Thread nD τ).loc main_arg0)
abbrev A1 : FVec Ideal S1024x1024 .bf16 := m ((c.tc : Thread nD τ).loc main_arg1)

/-- The blocks staged at a point, in terms of the arguments. -/
theorem in0 (t : Fin cfg0.N) (i : Fin 1024) (l : Fin 1024) (i' : Fin 4096) (hi : i'.val = t.val * 1024 + i.val) :
    iblk m c 0 t (ix2 i l) = A0 m c (ix2 i' l) := by
  blk_point [iblk, V, idx t, hi]
theorem in1 (t : Fin cfg0.N) : iblk m c 1 t = A1 m c := by
  funext j; blk_point [iblk, V, idx t]

/-- What a point leaves in its output block. -/
theorem point (x0 : FVec Ideal S1024x1024 .bf16) (x1 : FVec Ideal S1024x1024 .bf16) (y : S1024x1024.Idx) :
    out0_2 (F := Ideal) x0 x1 y = nn .bf16 x0 x1 y := by
  unfold out0_2 nn
  idx_vars y
  canon_tiles x h
  idx_vars x
  obtain rfl : y0 = x0 := Fin.ext (by omega)
  obtain rfl : y1 = x1 := Fin.ext (by omega)
  pointwise [k0_pay1]
  all_goals blk_ext

theorem final : (dats m 0 c).arrAt 2 cfg0.N = nn .bf16 (A0 m c) (A1 m c) := by
  refine (dats m 0 c).arrAt_eq_of_covers 2 _ (by decide +kernel) fun t hf y => ?_
  blk_simp
  rw [after0_2, point, in1]
  refine nn_block (fun l => in0 m c t _ l _ ?_) fun l => congrArg (A1 m c) ?_
  all_goals (blk_ext [idx t] <;> try omega)

/-- The reference's result is the same product. -/
theorem ref (X : FVec Ideal S4096x1024 .bf16) (Y : FVec Ideal S1024x1024 .bf16) : RefSqNnBIdeal.Read.val_main_v3 (F := Ideal) X Y = nn .bf16 X Y := by
  funext j
  rw [RefSqNnBIdeal.Read.val_main_v3_apply, RefSqNnBIdeal.Read.val_main_v2_apply]
  refine Finset.sum_congr rfl fun l _ => ?_
  rw [RefSqNnBIdeal.Read.val_main_v0_apply, RefSqNnBIdeal.Read.val_main_v1_apply]
  refine congrArg₂ (· * ·) (congrArg X ?_) (congrArg Y ?_)
  all_goals blk_ext

end Cert.ProdSqNnB

end
-- ==== Proof.Adamw.lean ====
/- The weight update of one optimiser step over the extended reals: the summed gradient, the two moments, the change of the weight. -/
module

public import Idealize.ShloMosaic.Lib.Pipeline.ValueKit
public import Idealize.ShloMosaic.Lib.Pipeline.ReadBack

@[expose] public section

noncomputable section

namespace Cert.Adamw

open Idealize.ShloMosaic

/-- The new first moment of a weight. -/
def mean (m g : EReal) : EReal := Ideal.ofBits .f32 0x3F666666#32 * m + Ideal.ofBits .f32 0x3DCCCCCD#32 * g

/-- The new second moment of a weight. -/
def square (v g : EReal) : EReal := Ideal.ofBits .f32 0x3F7FBE77#32 * v + Ideal.ofBits .f32 0x3A83126F#32 * (g * g)

/-- The change of a weight: the corrected first moment over the root of the corrected second, and the decay. -/
def delta (w m v g : EReal) : EReal :=
  Ideal.ofBits .f32 0xBA83126F#32 *
    (Ideal.div (Ideal.div (mean m g) (Ideal.ofBits .f32 0x3F26BD02#32))
      (Ideal.sqrt (Ideal.div (square v g) (Ideal.ofBits .f32 0x3C231ACC#32)) + Ideal.ofBits .f32 0x322BCC77#32) +
    Ideal.ofBits .f32 0x3C23D70A#32 * w)

theorem delta_at {w m v g w' m' v' g' : EReal} (hw : w = w') (hm : m = m') (hv : v = v') (hg : g = g') : delta w m v g = delta w' m' v' g' := by
  rw [hw, hm, hv, hg]

variable {a b : ℕ} {φ : FTy}

/-- The gradient: the eight devices' parts summed. -/
def total (P : FVec Ideal ⟨3, ![8, a, b]⟩ φ) : FVec Ideal ⟨2, ![a, b]⟩ .f32 := fun j => ∑ k : Fin 8, P (ix3 k (j 0) (j 1))

variable {s : Shape}

/-- The new first moments. -/
def means (m g : FVec Ideal s .f32) : FVec Ideal s .f32 := fun j => mean (m j) (g j)

/-- The new second moments. -/
def squares (v g : FVec Ideal s .f32) : FVec Ideal s .f32 := fun j => square (v j) (g j)

/-- The changes of the weights. -/
def deltas (w m v g : FVec Ideal s .f32) : FVec Ideal s .f32 := fun j => delta (w j) (m j) (v j) (g j)

/-- The gradient at a place, from the parts there. -/
theorem total_at {a' b' : ℕ} {ψ : FTy} {p : FVec Ideal ⟨3, ![8, a', b']⟩ ψ} {P : FVec Ideal ⟨3, ![8, a, b]⟩ φ} {i : Shape.Idx ⟨2, ![a', b']⟩}
    {j : Shape.Idx ⟨2, ![a, b]⟩} (h : ∀ k, p (ix3 k (i 0) (i 1)) = P (ix3 k (j 0) (j 1))) : total p i = total P j :=
  Finset.sum_congr rfl fun k _ => h k

/-- A sum over the devices from zero. -/
theorem total_of {P : FVec Ideal ⟨3, ![8, a, b]⟩ φ} {j : Shape.Idx ⟨2, ![a, b]⟩} {f : Fin 8 → EReal} (h : ∀ k, f k = P (ix3 k (j 0) (j 1))) :
    Ideal.ofBits .f32 0x00000000#32 + ∑ k, f k = total P j := by
  rw [show Ideal.ofBits .f32 0x00000000#32 = 0 by simp [Ideal.ofBits, Ideal.ieee], zero_add]
  exact Finset.sum_congr rfl fun k _ => h k

theorem deltas_eq {w m v g w' m' v' g' : FVec Ideal s .f32} (hw : w = w') (hm : m = m') (hv : v = v') (hg : g = g') :
    deltas w m v g = deltas w' m' v' g' := by
  rw [hw, hm, hv, hg]

variable {c d n : ℕ}

/-- Parts of two layers one after the other: `r` rows of the first array from row `o`, then `r` rows of the second from row `q`. -/
def layers (o q r : ℕ) (ho : o + r ≤ a) (hq : q + r ≤ c) (hn : n ≤ r + r) (P : FVec Ideal ⟨3, ![8, a, d]⟩ φ) (Q : FVec Ideal ⟨3, ![8, c, d]⟩ φ) :
    FVec Ideal ⟨3, ![8, n, d]⟩ φ := fun j =>
  if h : (j 1).val < r then P (ix3 (j 0) ⟨o + (j 1).val, by omega⟩ (j 2))
  else Q (ix3 (j 0) ⟨q + ((j 1).val - r), by have : (j 1).val < n := (j 1).isLt; omega⟩ (j 2))

section
variable {o q r : ℕ} {ho : o + r ≤ a} {hq : q + r ≤ c} {hn : n ≤ r + r} {P : FVec Ideal ⟨3, ![8, a, d]⟩ φ} {Q : FVec Ideal ⟨3, ![8, c, d]⟩ φ}

/-- The gradient in the first layer, and in the second. -/
theorem total_fst {a' d' : ℕ} {p : FVec Ideal ⟨3, ![8, a', d']⟩ φ} {i : Shape.Idx ⟨2, ![a', d']⟩} {j : Shape.Idx ⟨2, ![n, d]⟩} (h : (j 0).val < r)
    (hp : ∀ k (l : Fin a) (z : Fin d), l.val = o + (j 0).val → z.val = (j 1).val → p (ix3 k (i 0) (i 1)) = P (ix3 k l z)) :
    total p i = total (layers o q r ho hq hn P Q) j :=
  total_at fun k => (hp k ⟨o + (j 0).val, by omega⟩ (j 1) rfl rfl).trans (by unfold layers; rw [dif_pos (show ((ix3 k (j 0) (j 1) : Shape.Idx ⟨3, ![8, n, d]⟩) 1).val < r from h)]; rfl)
theorem total_snd {a' d' : ℕ} {p : FVec Ideal ⟨3, ![8, a', d']⟩ φ} {i : Shape.Idx ⟨2, ![a', d']⟩} {j : Shape.Idx ⟨2, ![n, d]⟩} (h : ¬ (j 0).val < r)
    (hp : ∀ k (l : Fin c) (z : Fin d), l.val = q + ((j 0).val - r) → z.val = (j 1).val → p (ix3 k (i 0) (i 1)) = Q (ix3 k l z)) :
    total p i = total (layers o q r ho hq hn P Q) j :=
  total_at fun k => (hp k ⟨q + ((j 0).val - r), by have : (j 0).val < n := (j 0).isLt; omega⟩ (j 1) rfl rfl).trans (by unfold layers; rw [dif_neg (show ¬ ((ix3 k (j 0) (j 1) : Shape.Idx ⟨3, ![8, n, d]⟩) 1).val < r from h)]; rfl)

/-- Two slices of rows joined are the two layers one after the other. -/
theorem layers_of {p p' : FVec Ideal ⟨3, ![8, r, d]⟩ φ} (h : Shape.Concatenates [⟨3, ![8, r, d]⟩, ⟨3, ![8, r, d]⟩] ⟨3, ![8, n, d]⟩ 1)
    (hp : ∀ k (i : Fin r) (y : Fin d) (i' : Fin a), i'.val = o + i.val → p (ix3 k i y) = P (ix3 k i' y))
    (hp' : ∀ k (i : Fin r) (y : Fin d) (i' : Fin c), i'.val = q + i.val → p' (ix3 k i y) = Q (ix3 k i' y)) :
    concatenate ⟨3, ![8, n, d]⟩ 1 [⟨⟨3, ![8, r, d]⟩, p⟩, ⟨⟨3, ![8, r, d]⟩, p'⟩] h = layers o q r ho hq hn P Q := by
  funext j
  by_cases hj : (j 1).val < r
  · refine (concatenate_pair_apply_left 1 p p' h j rfl (ix3 (j 0) ⟨(j 1).val, hj⟩ (j 2)) ?_).trans ?_
    · intro x
      match x with | ⟨0, _⟩ => rfl | ⟨1, _⟩ => rfl | ⟨2, _⟩ => rfl
    · exact (hp _ _ _ ⟨o + (j 1).val, by omega⟩ rfl).trans (by unfold layers; rw [dif_pos hj])
  · have hb : (j 1).val < n := (j 1).isLt
    refine (concatenate_pair_apply_right 1 p p' h j rfl rfl (ix3 (j 0) ⟨(j 1).val - r, by omega⟩ (j 2)) ?_ ?_).trans ?_
    · intro x
      match x with | ⟨0, _⟩ => exact fun _ => rfl | ⟨1, _⟩ => exact fun h => absurd rfl h | ⟨2, _⟩ => exact fun _ => rfl
    · show (j 1).val - r + r = (j 1).val
      omega
    · exact (hp' _ _ _ ⟨q + ((j 1).val - r), by omega⟩ rfl).trans (by unfold layers; rw [dif_neg hj])

end

end Cert.Adamw

end
-- ==== Proof.AdamIn.lean ====
/- The update of the block's input weight: rows in blocks. -/
module

public import proofs.«01_k».proof.Proof.Adamw
public import proofs.«01_k».proof.Proof.Gen.AdamwInIdeal.Frame
public import proofs.«01_k».proof.Proof.Gen.RefAdamwInIdeal.Read

@[expose] public section

set_option maxRecDepth 16384

noncomputable section

namespace Cert.AdamIn

open Cert.AdamwInIdeal Cert.AdamwInIdeal.Gen Idealize.ShloMosaic Idealize.ShloMosaic.Pipeline Cert.Adamw
open Idealize.ShloMosaic.TcCoe Idealize.SL.Sem

variable (m : (ℓ : Loc nD τ sig) → Buf (Elt Ideal) ℓ) (c : Dev nD)

/-- The gradient's parts, the weight and its two moments as the program is given them. -/
def P0 : FVec Ideal S8x2048x352 .bf16 := V m c (Pipeline.arrRef spec0 0)
def W0 : FVec Ideal S2048x352 .f32 := V m c (Pipeline.arrRef spec0 1)
def M0 : FVec Ideal S2048x352 .f32 := V m c (Pipeline.arrRef spec0 2)
def N0 : FVec Ideal S2048x352 .f32 := V m c (Pipeline.arrRef spec0 3)

/-- Each grid point has its own block of rows. -/
theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

/-- The kernel's sum of the eight slices. -/
theorem pay2 (x : Vec Ideal S8x512x352 .bf16) : k0_pay2 x = total (φ := .bf16) x := by
  funext y
  idx_vars y
  pointwise [k0_pay2, total, Fin.sum_univ_eight]
  all_goals blk_ext

variable (x0 : Vec Ideal S8x512x352 .bf16) (x1 x2 x3 : Vec Ideal S512x352 .f32)

/-- The body's results. -/
theorem out4 : out0_4 x0 x1 x2 x3 = total (φ := .bf16) x0 := by
  unfold out0_4
  rw [View.canon_cons_unit_lit _ _ _ (by decide), View.ld_unit_lit _ _ (by decide), pay2]
theorem out5 : out0_5 x0 x1 x2 x3 = deltas (s := S512x352) x1 x2 x3 (total (φ := .bf16) x0) := by
  unfold out0_5 k0_pay6
  rw [View.canon_cons_unit_lit _ _ _ (by decide), View.ld_unit_lit _ _ (by decide), View.ld_unit_lit _ _ (by decide),
    View.ld_unit_lit _ _ (by decide), View.ld_unit_lit _ _ (by decide), ← pay2]
  rfl
theorem out6 : out0_6 x0 x1 x2 x3 = means (s := S512x352) x2 (total (φ := .bf16) x0) := by
  unfold out0_6
  rw [View.canon_cons_unit_lit _ _ _ (by decide), View.ld_unit_lit _ _ (by decide), View.ld_unit_lit _ _ (by decide), ← pay2]
  rfl
theorem out7 : out0_7 x0 x1 x2 x3 = squares (s := S512x352) x3 (total (φ := .bf16) x0) := by
  unfold out0_7 k0_pay6
  rw [View.canon_cons_unit_lit _ _ _ (by decide), View.ld_unit_lit _ _ (by decide), View.ld_unit_lit _ _ (by decide), ← pay2]
  rfl

variable (t : Fin cfg0.N) (y : S512x352.Idx) (j : S2048x352.Idx) (h : (j 0).val = 512 * t.val + (y 0).val) (h' : (j 1).val = (y 1).val)
include h h'

/-- The blocks at a point. -/
theorem in0 : total (φ := .bf16) (iblk m c 0 t) y = total (φ := .bf16) (P0 m c) j := by
  refine total_at fun k => ?_
  idx_vars y
  blk_point [iblk, V, idx t, h, h']
theorem in1 : iblk m c 1 t y = W0 m c j := by
  idx_vars y
  blk_point [iblk, V, idx t, h, h']
theorem in2 : iblk m c 2 t y = M0 m c j := by
  idx_vars y
  blk_point [iblk, V, idx t, h, h']
theorem in3 : iblk m c 3 t y = N0 m c j := by
  idx_vars y
  blk_point [iblk, V, idx t, h, h']

omit h h'
/-- The gradient. -/
abbrev G0 : FVec Ideal S2048x352 .f32 := total (φ := .bf16) (P0 m c)

/-- The arrays after the last point. -/
theorem final4 : (dats m 0 c).arrAt 4 cfg0.N = total (φ := .bf16) (P0 m c) := by
  refine (dats m 0 c).arrAt_eq_of_covers 4 _ (by decide +kernel) fun t _ y => ?_
  blk_simp
  rw [after0_4, out4]
  refine in0 m c t y _ ?_ ?_
  all_goals (blk_simp [idx t] <;> try omega)
theorem final5 : (dats m 0 c).arrAt 5 cfg0.N = deltas (s := S2048x352) (W0 m c) (M0 m c) (N0 m c) (total (φ := .bf16) (P0 m c)) := by
  refine (dats m 0 c).arrAt_eq_of_covers 5 _ (by decide +kernel) fun t _ y => ?_
  blk_simp
  rw [after0_5, out5]
  refine delta_at (in1 m c t y _ ?_ ?_) (in2 m c t y _ ?_ ?_) (in3 m c t y _ ?_ ?_) (in0 m c t y _ ?_ ?_)
  all_goals (blk_simp [idx t] <;> try omega)
theorem final6 : (dats m 0 c).arrAt 6 cfg0.N = means (s := S2048x352) (M0 m c) (total (φ := .bf16) (P0 m c)) := by
  refine (dats m 0 c).arrAt_eq_of_covers 6 _ (by decide +kernel) fun t _ y => ?_
  blk_simp
  rw [after0_6, out6]
  refine congrArg₂ mean (in2 m c t y _ ?_ ?_) (in0 m c t y _ ?_ ?_)
  all_goals (blk_simp [idx t] <;> try omega)
theorem final7 : (dats m 0 c).arrAt 7 cfg0.N = squares (s := S2048x352) (N0 m c) (total (φ := .bf16) (P0 m c)) := by
  refine (dats m 0 c).arrAt_eq_of_covers 7 _ (by decide +kernel) fun t _ y => ?_
  blk_simp
  rw [after0_7, out7]
  refine congrArg₂ square (in3 m c t y _ ?_ ?_) (in0 m c t y _ ?_ ?_)
  all_goals (blk_simp [idx t] <;> try omega)

/-- The reference's results. -/
theorem refG (x : FVec Ideal S8x2048x352 .bf16) : RefAdamwInIdeal.Read.val_main_v1 (F := Ideal) x = total (φ := .bf16) x := by
  funext j
  rw [RefAdamwInIdeal.Read.val_main_v1_apply]
  refine total_of fun k => congrArg x ?_
  blk_ext
theorem refM (x : FVec Ideal S8x2048x352 .bf16) (u : FVec Ideal S2048x352 .f32) : RefAdamwInIdeal.Read.val_main_v6 (F := Ideal) x u = means u (total (φ := .bf16) x) := by
  rw [← refG]
  rfl
theorem refN (x : FVec Ideal S8x2048x352 .bf16) (u : FVec Ideal S2048x352 .f32) : RefAdamwInIdeal.Read.val_main_v12 (F := Ideal) x u = squares u (total (φ := .bf16) x) := by
  rw [← refG]
  rfl
theorem refD (x : FVec Ideal S8x2048x352 .bf16) (w u v : FVec Ideal S2048x352 .f32) : RefAdamwInIdeal.Read.val_main_v25 (F := Ideal) x w u v = deltas w u v (total (φ := .bf16) x) := by
  rw [← refG]
  rfl

end Cert.AdamIn

end
-- ==== Proof.AdamUp.lean ====
/- The update of the first weight of the feed-forward part: rows in blocks. -/
module

public import proofs.«01_k».proof.Proof.Adamw
public import proofs.«01_k».proof.Proof.Gen.AdamwUpIdeal.Frame
public import proofs.«01_k».proof.Proof.Gen.RefAdamwUpIdeal.Read

@[expose] public section

set_option maxRecDepth 16384

noncomputable section

namespace Cert.AdamUp

open Cert.AdamwUpIdeal Cert.AdamwUpIdeal.Gen Idealize.ShloMosaic Idealize.ShloMosaic.Pipeline Cert.Adamw
open Idealize.ShloMosaic.TcCoe Idealize.SL.Sem

variable (m : (ℓ : Loc nD τ sig) → Buf (Elt Ideal) ℓ) (c : Dev nD)

/-- The gradient's parts, the weight and its two moments as the program is given them. -/
def P0 : FVec Ideal S8x2048x704 .bf16 := V m c (Pipeline.arrRef spec0 0)
def W0 : FVec Ideal S2048x704 .f32 := V m c (Pipeline.arrRef spec0 1)
def M0 : FVec Ideal S2048x704 .f32 := V m c (Pipeline.arrRef spec0 2)
def N0 : FVec Ideal S2048x704 .f32 := V m c (Pipeline.arrRef spec0 3)

/-- Each grid point has its own block of rows. -/
theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

/-- The kernel's sum of the eight slices. -/
theorem pay2 (x : Vec Ideal S8x512x704 .bf16) : k0_pay2 x = total (φ := .bf16) x := by
  funext y
  idx_vars y
  pointwise [k0_pay2, total, Fin.sum_univ_eight]
  all_goals blk_ext

variable (x0 : Vec Ideal S8x512x704 .bf16) (x1 x2 x3 : Vec Ideal S512x704 .f32)

/-- The body's results. -/
theorem out4 : out0_4 x0 x1 x2 x3 = total (φ := .bf16) x0 := by
  unfold out0_4
  rw [View.canon_cons_unit_lit _ _ _ (by decide), View.ld_unit_lit _ _ (by decide), pay2]
theorem out5 : out0_5 x0 x1 x2 x3 = deltas (s := S512x704) x1 x2 x3 (total (φ := .bf16) x0) := by
  unfold out0_5 k0_pay6
  rw [View.canon_cons_unit_lit _ _ _ (by decide), View.ld_unit_lit _ _ (by decide), View.ld_unit_lit _ _ (by decide),
    View.ld_unit_lit _ _ (by decide), View.ld_unit_lit _ _ (by decide), ← pay2]
  rfl
theorem out6 : out0_6 x0 x1 x2 x3 = means (s := S512x704) x2 (total (φ := .bf16) x0) := by
  unfold out0_6
  rw [View.canon_cons_unit_lit _ _ _ (by decide), View.ld_unit_lit _ _ (by decide), View.ld_unit_lit _ _ (by decide), ← pay2]
  rfl
theorem out7 : out0_7 x0 x1 x2 x3 = squares (s := S512x704) x3 (total (φ := .bf16) x0) := by
  unfold out0_7 k0_pay6
  rw [View.canon_cons_unit_lit _ _ _ (by decide), View.ld_unit_lit _ _ (by decide), View.ld_unit_lit _ _ (by decide), ← pay2]
  rfl

variable (t : Fin cfg0.N) (y : S512x704.Idx) (j : S2048x704.Idx) (h : (j 0).val = 512 * t.val + (y 0).val) (h' : (j 1).val = (y 1).val)
include h h'

/-- The blocks at a point. -/
theorem in0 : total (φ := .bf16) (iblk m c 0 t) y = total (φ := .bf16) (P0 m c) j := by
  refine total_at fun k => ?_
  idx_vars y
  blk_point [iblk, V, idx t, h, h']
theorem in1 : iblk m c 1 t y = W0 m c j := by
  idx_vars y
  blk_point [iblk, V, idx t, h, h']
theorem in2 : iblk m c 2 t y = M0 m c j := by
  idx_vars y
  blk_point [iblk, V, idx t, h, h']
theorem in3 : iblk m c 3 t y = N0 m c j := by
  idx_vars y
  blk_point [iblk, V, idx t, h, h']

omit h h'
/-- The gradient. -/
abbrev G0 : FVec Ideal S2048x704 .f32 := total (φ := .bf16) (P0 m c)

/-- The arrays after the last point. -/
theorem final4 : (dats m 0 c).arrAt 4 cfg0.N = total (φ := .bf16) (P0 m c) := by
  refine (dats m 0 c).arrAt_eq_of_covers 4 _ (by decide +kernel) fun t _ y => ?_
  blk_simp
  rw [after0_4, out4]
  refine in0 m c t y _ ?_ ?_
  all_goals (blk_simp [idx t] <;> try omega)
theorem final5 : (dats m 0 c).arrAt 5 cfg0.N = deltas (s := S2048x704) (W0 m c) (M0 m c) (N0 m c) (total (φ := .bf16) (P0 m c)) := by
  refine (dats m 0 c).arrAt_eq_of_covers 5 _ (by decide +kernel) fun t _ y => ?_
  blk_simp
  rw [after0_5, out5]
  refine delta_at (in1 m c t y _ ?_ ?_) (in2 m c t y _ ?_ ?_) (in3 m c t y _ ?_ ?_) (in0 m c t y _ ?_ ?_)
  all_goals (blk_simp [idx t] <;> try omega)
theorem final6 : (dats m 0 c).arrAt 6 cfg0.N = means (s := S2048x704) (M0 m c) (total (φ := .bf16) (P0 m c)) := by
  refine (dats m 0 c).arrAt_eq_of_covers 6 _ (by decide +kernel) fun t _ y => ?_
  blk_simp
  rw [after0_6, out6]
  refine congrArg₂ mean (in2 m c t y _ ?_ ?_) (in0 m c t y _ ?_ ?_)
  all_goals (blk_simp [idx t] <;> try omega)
theorem final7 : (dats m 0 c).arrAt 7 cfg0.N = squares (s := S2048x704) (N0 m c) (total (φ := .bf16) (P0 m c)) := by
  refine (dats m 0 c).arrAt_eq_of_covers 7 _ (by decide +kernel) fun t _ y => ?_
  blk_simp
  rw [after0_7, out7]
  refine congrArg₂ square (in3 m c t y _ ?_ ?_) (in0 m c t y _ ?_ ?_)
  all_goals (blk_simp [idx t] <;> try omega)

/-- The reference's results. -/
theorem refG (x : FVec Ideal S8x2048x704 .bf16) : RefAdamwUpIdeal.Read.val_main_v1 (F := Ideal) x = total (φ := .bf16) x := by
  funext j
  rw [RefAdamwUpIdeal.Read.val_main_v1_apply]
  refine total_of fun k => congrArg x ?_
  blk_ext
theorem refM (x : FVec Ideal S8x2048x704 .bf16) (u : FVec Ideal S2048x704 .f32) : RefAdamwUpIdeal.Read.val_main_v6 (F := Ideal) x u = means u (total (φ := .bf16) x) := by
  rw [← refG]
  rfl
theorem refN (x : FVec Ideal S8x2048x704 .bf16) (u : FVec Ideal S2048x704 .f32) : RefAdamwUpIdeal.Read.val_main_v12 (F := Ideal) x u = squares u (total (φ := .bf16) x) := by
  rw [← refG]
  rfl
theorem refD (x : FVec Ideal S8x2048x704 .bf16) (w u v : FVec Ideal S2048x704 .f32) : RefAdamwUpIdeal.Read.val_main_v25 (F := Ideal) x w u v = deltas w u v (total (φ := .bf16) x) := by
  rw [← refG]
  rfl

end Cert.AdamUp

end
-- ==== Proof.AdamPw.lean ====
/- The update of the convolution's projection: rows in blocks. -/
module

public import proofs.«01_k».proof.Proof.Adamw
public import proofs.«01_k».proof.Proof.Gen.AdamwPwIdeal.Frame
public import proofs.«01_k».proof.Proof.Gen.RefAdamwPwIdeal.Read

@[expose] public section

set_option maxRecDepth 16384

noncomputable section

namespace Cert.AdamPw

open Cert.AdamwPwIdeal Cert.AdamwPwIdeal.Gen Idealize.ShloMosaic Idealize.ShloMosaic.Pipeline Cert.Adamw
open Idealize.ShloMosaic.TcCoe Idealize.SL.Sem

variable (m : (ℓ : Loc nD τ sig) → Buf (Elt Ideal) ℓ) (c : Dev nD)

/-- The gradient's parts, the weight and its two moments as the program is given them. -/
def P0 : FVec Ideal S8x64x256 .bf16 := V m c (Pipeline.arrRef spec0 0)
def W0 : FVec Ideal S64x256 .f32 := V m c (Pipeline.arrRef spec0 1)
def M0 : FVec Ideal S64x256 .f32 := V m c (Pipeline.arrRef spec0 2)
def N0 : FVec Ideal S64x256 .f32 := V m c (Pipeline.arrRef spec0 3)

/-- Each grid point has its own block of rows. -/
theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

/-- The kernel's sum of the eight slices. -/
theorem pay2 (x : Vec Ideal S8x64x256 .bf16) : k0_pay2 x = total (φ := .bf16) x := by
  funext y
  idx_vars y
  pointwise [k0_pay2, total, Fin.sum_univ_eight]
  all_goals blk_ext

variable (x0 : Vec Ideal S8x64x256 .bf16) (x1 x2 x3 : Vec Ideal S64x256 .f32)

/-- The body's results. -/
theorem out4 : out0_4 x0 x1 x2 x3 = total (φ := .bf16) x0 := by
  unfold out0_4
  rw [View.canon_cons_unit_lit _ _ _ (by decide), View.ld_unit_lit _ _ (by decide), pay2]
theorem out5 : out0_5 x0 x1 x2 x3 = deltas (s := S64x256) x1 x2 x3 (total (φ := .bf16) x0) := by
  unfold out0_5 k0_pay6
  rw [View.canon_cons_unit_lit _ _ _ (by decide), View.ld_unit_lit _ _ (by decide), View.ld_unit_lit _ _ (by decide),
    View.ld_unit_lit _ _ (by decide), View.ld_unit_lit _ _ (by decide), ← pay2]
  rfl
theorem out6 : out0_6 x0 x1 x2 x3 = means (s := S64x256) x2 (total (φ := .bf16) x0) := by
  unfold out0_6
  rw [View.canon_cons_unit_lit _ _ _ (by decide), View.ld_unit_lit _ _ (by decide), View.ld_unit_lit _ _ (by decide), ← pay2]
  rfl
theorem out7 : out0_7 x0 x1 x2 x3 = squares (s := S64x256) x3 (total (φ := .bf16) x0) := by
  unfold out0_7 k0_pay6
  rw [View.canon_cons_unit_lit _ _ _ (by decide), View.ld_unit_lit _ _ (by decide), View.ld_unit_lit _ _ (by decide), ← pay2]
  rfl

variable (t : Fin cfg0.N) (y : S64x256.Idx) (j : S64x256.Idx) (h : (j 0).val = 64 * t.val + (y 0).val) (h' : (j 1).val = (y 1).val)
include h h'

/-- The blocks at a point. -/
theorem in0 : total (φ := .bf16) (iblk m c 0 t) y = total (φ := .bf16) (P0 m c) j := by
  refine total_at fun k => ?_
  idx_vars y
  blk_point [iblk, V, idx t, h, h']
theorem in1 : iblk m c 1 t y = W0 m c j := by
  idx_vars y
  blk_point [iblk, V, idx t, h, h']
theorem in2 : iblk m c 2 t y = M0 m c j := by
  idx_vars y
  blk_point [iblk, V, idx t, h, h']
theorem in3 : iblk m c 3 t y = N0 m c j := by
  idx_vars y
  blk_point [iblk, V, idx t, h, h']

omit h h'
/-- The gradient. -/
abbrev G0 : FVec Ideal S64x256 .f32 := total (φ := .bf16) (P0 m c)

/-- The arrays after the last point. -/
theorem final4 : (dats m 0 c).arrAt 4 cfg0.N = total (φ := .bf16) (P0 m c) := by
  refine (dats m 0 c).arrAt_eq_of_covers 4 _ (by decide +kernel) fun t _ y => ?_
  blk_simp
  rw [after0_4, out4]
  refine in0 m c t y _ ?_ ?_
  all_goals (blk_simp [idx t] <;> try omega)
theorem final5 : (dats m 0 c).arrAt 5 cfg0.N = deltas (s := S64x256) (W0 m c) (M0 m c) (N0 m c) (total (φ := .bf16) (P0 m c)) := by
  refine (dats m 0 c).arrAt_eq_of_covers 5 _ (by decide +kernel) fun t _ y => ?_
  blk_simp
  rw [after0_5, out5]
  refine delta_at (in1 m c t y _ ?_ ?_) (in2 m c t y _ ?_ ?_) (in3 m c t y _ ?_ ?_) (in0 m c t y _ ?_ ?_)
  all_goals (blk_simp [idx t] <;> try omega)
theorem final6 : (dats m 0 c).arrAt 6 cfg0.N = means (s := S64x256) (M0 m c) (total (φ := .bf16) (P0 m c)) := by
  refine (dats m 0 c).arrAt_eq_of_covers 6 _ (by decide +kernel) fun t _ y => ?_
  blk_simp
  rw [after0_6, out6]
  refine congrArg₂ mean (in2 m c t y _ ?_ ?_) (in0 m c t y _ ?_ ?_)
  all_goals (blk_simp [idx t] <;> try omega)
theorem final7 : (dats m 0 c).arrAt 7 cfg0.N = squares (s := S64x256) (N0 m c) (total (φ := .bf16) (P0 m c)) := by
  refine (dats m 0 c).arrAt_eq_of_covers 7 _ (by decide +kernel) fun t _ y => ?_
  blk_simp
  rw [after0_7, out7]
  refine congrArg₂ square (in3 m c t y _ ?_ ?_) (in0 m c t y _ ?_ ?_)
  all_goals (blk_simp [idx t] <;> try omega)

/-- The reference's results. -/
theorem refG (x : FVec Ideal S8x64x256 .bf16) : RefAdamwPwIdeal.Read.val_main_v1 (F := Ideal) x = total (φ := .bf16) x := by
  funext j
  rw [RefAdamwPwIdeal.Read.val_main_v1_apply]
  refine total_of fun k => congrArg x ?_
  blk_ext
theorem refM (x : FVec Ideal S8x64x256 .bf16) (u : FVec Ideal S64x256 .f32) : RefAdamwPwIdeal.Read.val_main_v6 (F := Ideal) x u = means u (total (φ := .bf16) x) := by
  rw [← refG]
  rfl
theorem refN (x : FVec Ideal S8x64x256 .bf16) (u : FVec Ideal S64x256 .f32) : RefAdamwPwIdeal.Read.val_main_v12 (F := Ideal) x u = squares u (total (φ := .bf16) x) := by
  rw [← refG]
  rfl
theorem refD (x : FVec Ideal S8x64x256 .bf16) (w u v : FVec Ideal S64x256 .f32) : RefAdamwPwIdeal.Read.val_main_v25 (F := Ideal) x w u v = deltas w u v (total (φ := .bf16) x) := by
  rw [← refG]
  rfl

end Cert.AdamPw

end
-- ==== Proof.AdamSmall.lean ====
/- The update of the small weights, packed together: one block. -/
module

public import proofs.«01_k».proof.Proof.Adamw
public import proofs.«01_k».proof.Proof.Gen.AdamwSmallIdeal.Frame
public import proofs.«01_k».proof.Proof.Gen.RefAdamwSmallIdeal.Read

@[expose] public section

set_option maxRecDepth 16384

noncomputable section

namespace Cert.AdamSmall

open Cert.AdamwSmallIdeal Cert.AdamwSmallIdeal.Gen Idealize.ShloMosaic Idealize.ShloMosaic.Pipeline Cert.Adamw
open Idealize.ShloMosaic.TcCoe Idealize.SL.Sem

variable (m : (ℓ : Loc nD τ sig) → Buf (Elt Ideal) ℓ) (c : Dev nD)

/-- The gradient's parts, the weight and its two moments as the program is given them. -/
def P0 : FVec Ideal S8x48x1024 .f32 := V m c (Pipeline.arrRef spec0 0)
def W0 : FVec Ideal S48x1024 .f32 := V m c (Pipeline.arrRef spec0 1)
def M0 : FVec Ideal S48x1024 .f32 := V m c (Pipeline.arrRef spec0 2)
def N0 : FVec Ideal S48x1024 .f32 := V m c (Pipeline.arrRef spec0 3)

/-- Each grid point has its own block of rows. -/
theorem idx : ∀ t : Fin cfg0.N, win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

/-- The kernel's sum of the eight slices. -/
theorem pay2 (x : Vec Ideal S8x48x1024 .f32) : k0_pay2 x = total (φ := .f32) x := by
  funext y
  idx_vars y
  pointwise [k0_pay2, total, Fin.sum_univ_eight]
  all_goals blk_ext

variable (x0 : Vec Ideal S8x48x1024 .f32) (x1 x2 x3 : Vec Ideal S48x1024 .f32)

/-- The body's results. -/
theorem out4 : out0_4 x0 x1 x2 x3 = total (φ := .f32) x0 := by
  unfold out0_4
  rw [View.canon_cons_unit_lit _ _ _ (by decide), View.ld_unit_lit _ _ (by decide), pay2]
theorem out5 : out0_5 x0 x1 x2 x3 = deltas (s := S48x1024) x1 x2 x3 (total (φ := .f32) x0) := by
  unfold out0_5
  rw [View.canon_cons_unit_lit _ _ _ (by decide), View.ld_unit_lit _ _ (by decide), View.ld_unit_lit _ _ (by decide),
    View.ld_unit_lit _ _ (by decide), View.ld_unit_lit _ _ (by decide), ← pay2]
  rfl
theorem out6 : out0_6 x0 x1 x2 x3 = means (s := S48x1024) x2 (total (φ := .f32) x0) := by
  unfold out0_6
  rw [View.canon_cons_unit_lit _ _ _ (by decide), View.ld_unit_lit _ _ (by decide), View.ld_unit_lit _ _ (by decide), ← pay2]
  rfl
theorem out7 : out0_7 x0 x1 x2 x3 = squares (s := S48x1024) x3 (total (φ := .f32) x0) := by
  unfold out0_7
  rw [View.canon_cons_unit_lit _ _ _ (by decide), View.ld_unit_lit _ _ (by decide), View.ld_unit_lit _ _ (by decide), ← pay2]
  rfl

variable (t : Fin cfg0.N) (y : S48x1024.Idx) (j : S48x1024.Idx) (h : (j 0).val = 48 * t.val + (y 0).val) (h' : (j 1).val = (y 1).val)
include h h'

/-- The blocks at a point. -/
theorem in0 : total (φ := .f32) (iblk m c 0 t) y = total (φ := .f32) (P0 m c) j := by
  refine total_at fun k => ?_
  idx_vars y
  blk_point [iblk, V, idx t, h, h']
theorem in1 : iblk m c 1 t y = W0 m c j := by
  idx_vars y
  blk_point [iblk, V, idx t, h, h']
theorem in2 : iblk m c 2 t y = M0 m c j := by
  idx_vars y
  blk_point [iblk, V, idx t, h, h']
theorem in3 : iblk m c 3 t y = N0 m c j := by
  idx_vars y
  blk_point [iblk, V, idx t, h, h']

omit h h'
/-- The gradient. -/
abbrev G0 : FVec Ideal S48x1024 .f32 := total (φ := .f32) (P0 m c)

/-- The arrays after the last point. -/
theorem final4 : (dats m 0 c).arrAt 4 cfg0.N = total (φ := .f32) (P0 m c) := by
  refine (dats m 0 c).arrAt_eq_of_covers 4 _ (by decide +kernel) fun t _ y => ?_
  blk_simp
  rw [after0_4, out4]
  refine in0 m c t y _ ?_ ?_
  all_goals (blk_simp [idx t] <;> try omega)
theorem final5 : (dats m 0 c).arrAt 5 cfg0.N = deltas (s := S48x1024) (W0 m c) (M0 m c) (N0 m c) (total (φ := .f32) (P0 m c)) := by
  refine (dats m 0 c).arrAt_eq_of_covers 5 _ (by decide +kernel) fun t _ y => ?_
  blk_simp
  rw [after0_5, out5]
  refine delta_at (in1 m c t y _ ?_ ?_) (in2 m c t y _ ?_ ?_) (in3 m c t y _ ?_ ?_) (in0 m c t y _ ?_ ?_)
  all_goals (blk_simp [idx t] <;> try omega)
theorem final6 : (dats m 0 c).arrAt 6 cfg0.N = means (s := S48x1024) (M0 m c) (total (φ := .f32) (P0 m c)) := by
  refine (dats m 0 c).arrAt_eq_of_covers 6 _ (by decide +kernel) fun t _ y => ?_
  blk_simp
  rw [after0_6, out6]
  refine congrArg₂ mean (in2 m c t y _ ?_ ?_) (in0 m c t y _ ?_ ?_)
  all_goals (blk_simp [idx t] <;> try omega)
theorem final7 : (dats m 0 c).arrAt 7 cfg0.N = squares (s := S48x1024) (N0 m c) (total (φ := .f32) (P0 m c)) := by
  refine (dats m 0 c).arrAt_eq_of_covers 7 _ (by decide +kernel) fun t _ y => ?_
  blk_simp
  rw [after0_7, out7]
  refine congrArg₂ square (in3 m c t y _ ?_ ?_) (in0 m c t y _ ?_ ?_)
  all_goals (blk_simp [idx t] <;> try omega)

/-- The reference's results. -/
theorem refG (x : FVec Ideal S8x48x1024 .f32) : RefAdamwSmallIdeal.Read.val_main_v0 (F := Ideal) x = total (φ := .f32) x := by
  funext j
  rw [RefAdamwSmallIdeal.Read.val_main_v0_apply]
  refine total_of fun k => congrArg x ?_
  blk_ext
theorem refM (x : FVec Ideal S8x48x1024 .f32) (u : FVec Ideal S48x1024 .f32) : RefAdamwSmallIdeal.Read.val_main_v5 (F := Ideal) x u = means u (total (φ := .f32) x) := by
  rw [← refG]
  rfl
theorem refN (x : FVec Ideal S8x48x1024 .f32) (u : FVec Ideal S48x1024 .f32) : RefAdamwSmallIdeal.Read.val_main_v11 (F := Ideal) x u = squares u (total (φ := .f32) x) := by
  rw [← refG]
  rfl
theorem refD (x : FVec Ideal S8x48x1024 .f32) (w u v : FVec Ideal S48x1024 .f32) : RefAdamwSmallIdeal.Read.val_main_v24 (F := Ideal) x w u v = deltas w u v (total (φ := .f32) x) := by
  rw [← refG]
  rfl

end Cert.AdamSmall

end
-- ==== Proof.AdamOut.lean ====
/- The update of the block's output weight: two layers of rows in blocks. -/
module

public import proofs.«01_k».proof.Proof.Adamw
public import proofs.«01_k».proof.Proof.Gen.AdamwOutIdeal.Frame
public import proofs.«01_k».proof.Proof.Gen.RefAdamwOutIdeal.Read

@[expose] public section

set_option maxRecDepth 16384

noncomputable section

namespace Cert.AdamOut

open Cert.AdamwOutIdeal Cert.AdamwOutIdeal.Gen Idealize.ShloMosaic Idealize.ShloMosaic.Pipeline Cert.Adamw
open Idealize.ShloMosaic.TcCoe Idealize.SL.Sem

variable (m : (ℓ : Loc nD τ sig) → Buf (Elt Ideal) ℓ) (c : Dev nD)

/-- The two layers' parts. -/
abbrev parts (P : FVec Ideal S8x144x1024 .bf16) (Q : FVec Ideal S8x480x1024 .bf16) : FVec Ideal ⟨3, ![8, 256, 1024]⟩ .bf16 :=
  layers 0 352 128 (by decide) (by decide) (by decide) P Q

/-- The parts, the weight and its two moments as the program is given them. -/
def P0 : FVec Ideal S8x144x1024 .bf16 := V m c (Pipeline.arrRef spec0 0)
def Q0 : FVec Ideal S8x480x1024 .bf16 := V m c (Pipeline.arrRef spec0 1)
def W0 : FVec Ideal S256x1024 .f32 := V m c (Pipeline.arrRef spec0 2)
def M0 : FVec Ideal S256x1024 .f32 := V m c (Pipeline.arrRef spec0 3)
def N0 : FVec Ideal S256x1024 .f32 := V m c (Pipeline.arrRef spec0 4)

/-- Each grid point has its own block of rows; the first half of the points take the first layer's parts, the others the second's. -/
theorem idx : ∀ t : Fin cfg0.N, win0_2.index t = ![t.val, 0] ∧ win0_3.index t = ![t.val, 0] ∧ win0_4.index t = ![t.val, 0] ∧
    win0_5.index t = ![t.val, 0] ∧ win0_6.index t = ![t.val, 0] ∧ win0_7.index t = ![t.val, 0] ∧ win0_8.index t = ![t.val, 0] :=
  (by decide +kernel : ∀ t : Fin grid0.N, _)
theorem idxA : ∀ t : Fin cfg0.N, t.val < 4 → (grid0.coords t 0).val = 0 ∧ win0_0.index t = ![0, 0 + t.val, 0] :=
  (by decide +kernel : ∀ t : Fin grid0.N, _)
theorem idxB : ∀ t : Fin cfg0.N, ¬ t.val < 4 → (grid0.coords t 0).val = 1 ∧ win0_1.index t = ![0, 11 + (t.val - 4), 0] :=
  (by decide +kernel : ∀ t : Fin grid0.N, _)

/-- The kernel's sum of the eight slices of the layer at hand. -/
theorem pay3_A {i : grid0.Coords} (h : (i 0).val = 0) (x x' : Vec Ideal S8x32x1024 .bf16) : k0_pay3 i x x' = total (φ := .bf16) x := by
  funext y
  idx_vars y
  pointwise [k0_pay3, total, Fin.sum_univ_eight, h]
theorem pay3_B {i : grid0.Coords} (h : (i 0).val = 1) (x x' : Vec Ideal S8x32x1024 .bf16) : k0_pay3 i x x' = total (φ := .bf16) x' := by
  funext y
  idx_vars y
  pointwise [k0_pay3, total, Fin.sum_univ_eight, h]
  all_goals rfl

/-- The body's results at a point. -/
theorem out5 (t : Fin cfg0.N) : (outsAt0 m c t).1 = k0_pay3 (grid0.coords t) (X0_0 m c t) (iblk m c 1 t) := by
  unfold outsAt0
  frame_open
  frame_out
theorem out6 (t : Fin cfg0.N) : (outsAt0 m c t).2.1 = deltas (s := S32x1024) (iblk m c 2 t) (iblk m c 3 t) (iblk m c 4 t) (k0_pay3 (grid0.coords t) (X0_0 m c t) (iblk m c 1 t)) := by
  unfold outsAt0
  frame_open
  frame_out
  rfl
theorem out7 (t : Fin cfg0.N) : (outsAt0 m c t).2.2.1 = means (s := S32x1024) (iblk m c 3 t) (k0_pay3 (grid0.coords t) (X0_0 m c t) (iblk m c 1 t)) := by
  unfold outsAt0
  frame_open
  frame_out
  rfl
theorem out8 (t : Fin cfg0.N) : (outsAt0 m c t).2.2.2 = squares (s := S32x1024) (iblk m c 4 t) (k0_pay3 (grid0.coords t) (X0_0 m c t) (iblk m c 1 t)) := by
  unfold outsAt0
  frame_open
  frame_out
  rfl

section
variable (t : Fin cfg0.N) (y : S32x1024.Idx) (j : S256x1024.Idx) (h : (j 0).val = 32 * t.val + (y 0).val) (h' : (j 1).val = (y 1).val)
include h h'

/-- The blocks at a point. -/
theorem in0 : k0_pay3 (grid0.coords t) (X0_0 m c t) (iblk m c 1 t) y = total (φ := .bf16) (parts (P0 m c) (Q0 m c)) j := by
  by_cases ht : t.val < 4
  · rw [pay3_A (idxA t ht).1]
    idx_vars y
    refine total_fst (by have := y0.isLt; show (j 0).val < 128; rw [h]; show 32 * t.val + y0.val < 128; omega) fun k l z hl hz => ?_
    unfold X0_0 Pipeline.Window.fill
    rw [dif_pos (moved0_0 t _)]
    blk_point [iblk, V, (idxA t ht).2, h, h', hl, hz]
  · rw [pay3_B (idxB t ht).1]
    idx_vars y
    refine total_snd (by show ¬ (j 0).val < 128; rw [h]; show ¬ 32 * t.val + y0.val < 128; omega) fun k l z hl hz => ?_
    blk_point [iblk, V, (idxB t ht).2, h, h', hl, hz]
theorem in2 : iblk m c 2 t y = W0 m c j := by
  idx_vars y
  blk_point [iblk, V, idx t, h, h']
theorem in3 : iblk m c 3 t y = M0 m c j := by
  idx_vars y
  blk_point [iblk, V, idx t, h, h']
theorem in4 : iblk m c 4 t y = N0 m c j := by
  idx_vars y
  blk_point [iblk, V, idx t, h, h']
end

/-- The gradient. -/
abbrev G0 : FVec Ideal S256x1024 .f32 := total (φ := .bf16) (parts (P0 m c) (Q0 m c))

/-- The arrays after the last point. -/
theorem final5 : (dats m 0 c).arrAt 5 cfg0.N = G0 m c := by
  refine (dats m 0 c).arrAt_eq_of_covers 5 _ (by decide +kernel) fun t _ y => ?_
  blk_simp
  rw [after0_5, out5]
  refine in0 m c t y _ ?_ ?_
  all_goals (blk_simp [idx t] <;> try omega)
theorem final6 : (dats m 0 c).arrAt 6 cfg0.N = deltas (s := S256x1024) (W0 m c) (M0 m c) (N0 m c) (G0 m c) := by
  refine (dats m 0 c).arrAt_eq_of_covers 6 _ (by decide +kernel) fun t _ y => ?_
  blk_simp
  rw [after0_6, out6]
  refine delta_at (in2 m c t y _ ?_ ?_) (in3 m c t y _ ?_ ?_) (in4 m c t y _ ?_ ?_) (in0 m c t y _ ?_ ?_)
  all_goals (blk_simp [idx t] <;> try omega)
theorem final7 : (dats m 0 c).arrAt 7 cfg0.N = means (s := S256x1024) (M0 m c) (G0 m c) := by
  refine (dats m 0 c).arrAt_eq_of_covers 7 _ (by decide +kernel) fun t _ y => ?_
  blk_simp
  rw [after0_7, out7]
  refine congrArg₂ mean (in3 m c t y _ ?_ ?_) (in0 m c t y _ ?_ ?_)
  all_goals (blk_simp [idx t] <;> try omega)
theorem final8 : (dats m 0 c).arrAt 8 cfg0.N = squares (s := S256x1024) (N0 m c) (G0 m c) := by
  refine (dats m 0 c).arrAt_eq_of_covers 8 _ (by decide +kernel) fun t _ y => ?_
  blk_simp
  rw [after0_8, out8]
  refine congrArg₂ square (in4 m c t y _ ?_ ?_) (in0 m c t y _ ?_ ?_)
  all_goals (blk_simp [idx t] <;> try omega)

section
variable (x : FVec Ideal S8x144x1024 .bf16) (x' : FVec Ideal S8x480x1024 .bf16) (w u v : FVec Ideal S256x1024 .f32)

/-- The reference's results. -/
theorem refG : RefAdamwOutIdeal.Read.val_main_v4 (F := Ideal) x x' = total (φ := .bf16) (parts x x') := by
  funext j
  rw [RefAdamwOutIdeal.Read.val_main_v4_apply]
  refine total_of fun k => ?_
  have e : RefAdamwOutIdeal.Read.val_main_v2 (F := Ideal) x x' = parts x x' := by
    refine layers_of _ (fun k i y i' h => ?_) fun k i y i' h => ?_
    · rw [RefAdamwOutIdeal.Read.val_main_v0_apply]
      refine congrArg x ?_
      blk_ext [h]
    · rw [RefAdamwOutIdeal.Read.val_main_v1_apply]
      refine congrArg x' ?_
      blk_ext [h]
  rw [← e, RefAdamwOutIdeal.Read.val_main_v3_apply]
  refine congrArg (RefAdamwOutIdeal.Read.val_main_v2 (F := Ideal) x x') ?_
  blk_ext
theorem refM : RefAdamwOutIdeal.Read.val_main_v9 (F := Ideal) x x' u = means (s := S256x1024) u (total (φ := .bf16) (parts x x')) := by
  rw [← refG]
  rfl
theorem refN : RefAdamwOutIdeal.Read.val_main_v15 (F := Ideal) x x' u = squares (s := S256x1024) u (total (φ := .bf16) (parts x x')) := by
  rw [← refG]
  rfl
theorem refD : RefAdamwOutIdeal.Read.val_main_v28 (F := Ideal) x x' w u v = deltas (s := S256x1024) w u v (total (φ := .bf16) (parts x x')) := by
  rw [← refG]
  rfl
end

end Cert.AdamOut

end
-- ==== Proof.AdamXq.lean ====
/- The update of the attention's query weight: two layers of rows in blocks. -/
module

public import proofs.«01_k».proof.Proof.Adamw
public import proofs.«01_k».proof.Proof.Gen.AdamwXqIdeal.Frame
public import proofs.«01_k».proof.Proof.Gen.RefAdamwXqIdeal.Read

@[expose] public section

set_option maxRecDepth 16384

noncomputable section

namespace Cert.AdamXq

open Cert.AdamwXqIdeal Cert.AdamwXqIdeal.Gen Idealize.ShloMosaic Idealize.ShloMosaic.Pipeline Cert.Adamw
open Idealize.ShloMosaic.TcCoe Idealize.SL.Sem

variable (m : (ℓ : Loc nD τ sig) → Buf (Elt Ideal) ℓ) (c : Dev nD)

/-- The two layers' parts. -/
abbrev parts (P : FVec Ideal S8x512x1024 .bf16) (Q : FVec Ideal S8x512x1024 .bf16) : FVec Ideal ⟨3, ![8, 256, 1024]⟩ .bf16 :=
  layers 0 0 128 (by decide) (by decide) (by decide) P Q

/-- The parts, the weight and its two moments as the program is given them. -/
def P0 : FVec Ideal S8x512x1024 .bf16 := V m c (Pipeline.arrRef spec0 0)
def Q0 : FVec Ideal S8x512x1024 .bf16 := V m c (Pipeline.arrRef spec0 1)
def W0 : FVec Ideal S256x1024 .f32 := V m c (Pipeline.arrRef spec0 2)
def M0 : FVec Ideal S256x1024 .f32 := V m c (Pipeline.arrRef spec0 3)
def N0 : FVec Ideal S256x1024 .f32 := V m c (Pipeline.arrRef spec0 4)

/-- Each grid point has its own block of rows; the first half of the points take the first layer's parts, the others the second's. -/
theorem idx : ∀ t : Fin cfg0.N, win0_2.index t = ![t.val, 0] ∧ win0_3.index t = ![t.val, 0] ∧ win0_4.index t = ![t.val, 0] ∧
    win0_5.index t = ![t.val, 0] ∧ win0_6.index t = ![t.val, 0] ∧ win0_7.index t = ![t.val, 0] ∧ win0_8.index t = ![t.val, 0] :=
  (by decide +kernel : ∀ t : Fin grid0.N, _)
theorem idxA : ∀ t : Fin cfg0.N, t.val < 4 → (grid0.coords t 0).val = 0 ∧ win0_0.index t = ![0, 0 + t.val, 0] :=
  (by decide +kernel : ∀ t : Fin grid0.N, _)
theorem idxB : ∀ t : Fin cfg0.N, ¬ t.val < 4 → (grid0.coords t 0).val = 1 ∧ win0_1.index t = ![0, 0 + (t.val - 4), 0] :=
  (by decide +kernel : ∀ t : Fin grid0.N, _)

/-- The kernel's sum of the eight slices of the layer at hand. -/
theorem pay3_A {i : grid0.Coords} (h : (i 0).val = 0) (x x' : Vec Ideal S8x32x1024 .bf16) : k0_pay3 i x x' = total (φ := .bf16) x := by
  funext y
  idx_vars y
  pointwise [k0_pay3, total, Fin.sum_univ_eight, h]
theorem pay3_B {i : grid0.Coords} (h : (i 0).val = 1) (x x' : Vec Ideal S8x32x1024 .bf16) : k0_pay3 i x x' = total (φ := .bf16) x' := by
  funext y
  idx_vars y
  pointwise [k0_pay3, total, Fin.sum_univ_eight, h]
  all_goals rfl

section
variable (i : grid0.Coords) (x0 x1 : Vec Ideal S8x32x1024 .bf16) (x2 x3 x4 : Vec Ideal S32x1024 .f32)

/-- The body's results. -/
theorem out5 : out0_5 i x0 x1 x2 x3 x4 = k0_pay3 i x0 x1 := by
  unfold out0_5 k0_pay6
  rw [View.canon_cons_unit_lit _ _ _ (by decide), View.ld_unit_lit _ _ (by decide), View.ld_unit_lit _ _ (by decide)]
theorem out6 : out0_6 i x0 x1 x2 x3 x4 = deltas (s := S32x1024) x2 x3 x4 (k0_pay3 i x0 x1) := by
  unfold out0_6 k0_pay8 k0_pay7 k0_pay6
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  rfl
theorem out7 : out0_7 i x0 x1 x2 x3 x4 = means (s := S32x1024) x3 (k0_pay3 i x0 x1) := by
  unfold out0_7 k0_pay7
  rw [View.canon_cons_unit_lit _ _ _ (by decide), View.ld_unit_lit _ _ (by decide), View.ld_unit_lit _ _ (by decide),
    View.ld_unit_lit _ _ (by decide)]
  rfl
theorem out8 : out0_8 i x0 x1 x2 x3 x4 = squares (s := S32x1024) x4 (k0_pay3 i x0 x1) := by
  unfold out0_8 k0_pay8 k0_pay6
  rw [View.canon_cons_unit_lit _ _ _ (by decide), View.ld_unit_lit _ _ (by decide), View.ld_unit_lit _ _ (by decide),
    View.ld_unit_lit _ _ (by decide)]
  rfl
end

section
variable (t : Fin cfg0.N) (y : S32x1024.Idx) (j : S256x1024.Idx) (h : (j 0).val = 32 * t.val + (y 0).val) (h' : (j 1).val = (y 1).val)
include h h'

/-- The blocks at a point. -/
theorem in0 : k0_pay3 (grid0.coords t) (iblk m c 0 t) (iblk m c 1 t) y = total (φ := .bf16) (parts (P0 m c) (Q0 m c)) j := by
  by_cases ht : t.val < 4
  · rw [pay3_A (idxA t ht).1]
    idx_vars y
    refine total_fst (by have := y0.isLt; show (j 0).val < 128; rw [h]; show 32 * t.val + y0.val < 128; omega) fun k l z hl hz => ?_
    blk_point [iblk, V, (idxA t ht).2, h, h', hl, hz]
  · rw [pay3_B (idxB t ht).1]
    idx_vars y
    refine total_snd (by show ¬ (j 0).val < 128; rw [h]; show ¬ 32 * t.val + y0.val < 128; omega) fun k l z hl hz => ?_
    blk_point [iblk, V, (idxB t ht).2, h, h', hl, hz]
theorem in2 : iblk m c 2 t y = W0 m c j := by
  idx_vars y
  blk_point [iblk, V, idx t, h, h']
theorem in3 : iblk m c 3 t y = M0 m c j := by
  idx_vars y
  blk_point [iblk, V, idx t, h, h']
theorem in4 : iblk m c 4 t y = N0 m c j := by
  idx_vars y
  blk_point [iblk, V, idx t, h, h']
end

/-- The gradient. -/
abbrev G0 : FVec Ideal S256x1024 .f32 := total (φ := .bf16) (parts (P0 m c) (Q0 m c))

/-- The arrays after the last point. -/
theorem final5 : (dats m 0 c).arrAt 5 cfg0.N = G0 m c := by
  refine (dats m 0 c).arrAt_eq_of_covers 5 _ (by decide +kernel) fun t _ y => ?_
  blk_simp
  rw [after0_5, out5]
  refine in0 m c t y _ ?_ ?_
  all_goals (blk_simp [idx t] <;> try omega)
theorem final6 : (dats m 0 c).arrAt 6 cfg0.N = deltas (s := S256x1024) (W0 m c) (M0 m c) (N0 m c) (G0 m c) := by
  refine (dats m 0 c).arrAt_eq_of_covers 6 _ (by decide +kernel) fun t _ y => ?_
  blk_simp
  rw [after0_6, out6]
  refine delta_at (in2 m c t y _ ?_ ?_) (in3 m c t y _ ?_ ?_) (in4 m c t y _ ?_ ?_) (in0 m c t y _ ?_ ?_)
  all_goals (blk_simp [idx t] <;> try omega)
theorem final7 : (dats m 0 c).arrAt 7 cfg0.N = means (s := S256x1024) (M0 m c) (G0 m c) := by
  refine (dats m 0 c).arrAt_eq_of_covers 7 _ (by decide +kernel) fun t _ y => ?_
  blk_simp
  rw [after0_7, out7]
  refine congrArg₂ mean (in3 m c t y _ ?_ ?_) (in0 m c t y _ ?_ ?_)
  all_goals (blk_simp [idx t] <;> try omega)
theorem final8 : (dats m 0 c).arrAt 8 cfg0.N = squares (s := S256x1024) (N0 m c) (G0 m c) := by
  refine (dats m 0 c).arrAt_eq_of_covers 8 _ (by decide +kernel) fun t _ y => ?_
  blk_simp
  rw [after0_8, out8]
  refine congrArg₂ square (in4 m c t y _ ?_ ?_) (in0 m c t y _ ?_ ?_)
  all_goals (blk_simp [idx t] <;> try omega)

section
variable (x : FVec Ideal S8x512x1024 .bf16) (x' : FVec Ideal S8x512x1024 .bf16) (w u v : FVec Ideal S256x1024 .f32)

/-- The reference's results. -/
theorem refG : RefAdamwXqIdeal.Read.val_main_v4 (F := Ideal) x x' = total (φ := .bf16) (parts x x') := by
  funext j
  rw [RefAdamwXqIdeal.Read.val_main_v4_apply]
  refine total_of fun k => ?_
  have e : RefAdamwXqIdeal.Read.val_main_v2 (F := Ideal) x x' = parts x x' := by
    refine layers_of _ (fun k i y i' h => ?_) fun k i y i' h => ?_
    · rw [RefAdamwXqIdeal.Read.val_main_v0_apply]
      refine congrArg x ?_
      blk_ext [h]
    · rw [RefAdamwXqIdeal.Read.val_main_v1_apply]
      refine congrArg x' ?_
      blk_ext [h]
  rw [← e, RefAdamwXqIdeal.Read.val_main_v3_apply]
  refine congrArg (RefAdamwXqIdeal.Read.val_main_v2 (F := Ideal) x x') ?_
  blk_ext
theorem refM : RefAdamwXqIdeal.Read.val_main_v9 (F := Ideal) x x' u = means (s := S256x1024) u (total (φ := .bf16) (parts x x')) := by
  rw [← refG]
  rfl
theorem refN : RefAdamwXqIdeal.Read.val_main_v15 (F := Ideal) x x' u = squares (s := S256x1024) u (total (φ := .bf16) (parts x x')) := by
  rw [← refG]
  rfl
theorem refD : RefAdamwXqIdeal.Read.val_main_v28 (F := Ideal) x x' w u v = deltas (s := S256x1024) w u v (total (φ := .bf16) (parts x x')) := by
  rw [← refG]
  rfl
end

end Cert.AdamXq

end
-- ==== Proof.AdamXk.lean ====
/- The update of the attention's key weight: two layers of rows in blocks. -/
module

public import proofs.«01_k».proof.Proof.Adamw
public import proofs.«01_k».proof.Proof.Gen.AdamwXkIdeal.Frame
public import proofs.«01_k».proof.Proof.Gen.RefAdamwXkIdeal.Read

@[expose] public section

set_option maxRecDepth 16384

noncomputable section

namespace Cert.AdamXk

open Cert.AdamwXkIdeal Cert.AdamwXkIdeal.Gen Idealize.ShloMosaic Idealize.ShloMosaic.Pipeline Cert.Adamw
open Idealize.ShloMosaic.TcCoe Idealize.SL.Sem

variable (m : (ℓ : Loc nD τ sig) → Buf (Elt Ideal) ℓ) (c : Dev nD)

/-- The two layers' parts. -/
abbrev parts (P : FVec Ideal S8x512x1024 .bf16) (Q : FVec Ideal S8x512x1024 .bf16) : FVec Ideal ⟨3, ![8, 256, 1024]⟩ .bf16 :=
  layers 128 128 128 (by decide) (by decide) (by decide) P Q

/-- The parts, the weight and its two moments as the program is given them. -/
def P0 : FVec Ideal S8x512x1024 .bf16 := V m c (Pipeline.arrRef spec0 0)
def Q0 : FVec Ideal S8x512x1024 .bf16 := V m c (Pipeline.arrRef spec0 1)
def W0 : FVec Ideal S256x1024 .f32 := V m c (Pipeline.arrRef spec0 2)
def M0 : FVec Ideal S256x1024 .f32 := V m c (Pipeline.arrRef spec0 3)
def N0 : FVec Ideal S256x1024 .f32 := V m c (Pipeline.arrRef spec0 4)

/-- Each grid point has its own block of rows; the first half of the points take the first layer's parts, the others the second's. -/
theorem idx : ∀ t : Fin cfg0.N, win0_2.index t = ![t.val, 0] ∧ win0_3.index t = ![t.val, 0] ∧ win0_4.index t = ![t.val, 0] ∧
    win0_5.index t = ![t.val, 0] ∧ win0_6.index t = ![t.val, 0] ∧ win0_7.index t = ![t.val, 0] ∧ win0_8.index t = ![t.val, 0] :=
  (by decide +kernel : ∀ t : Fin grid0.N, _)
theorem idxA : ∀ t : Fin cfg0.N, t.val < 4 → (grid0.coords t 0).val = 0 ∧ win0_0.index t = ![0, 4 + t.val, 0] :=
  (by decide +kernel : ∀ t : Fin grid0.N, _)
theorem idxB : ∀ t : Fin cfg0.N, ¬ t.val < 4 → (grid0.coords t 0).val = 1 ∧ win0_1.index t = ![0, 4 + (t.val - 4), 0] :=
  (by decide +kernel : ∀ t : Fin grid0.N, _)

/-- The kernel's sum of the eight slices of the layer at hand. -/
theorem pay3_A {i : grid0.Coords} (h : (i 0).val = 0) (x x' : Vec Ideal S8x32x1024 .bf16) : k0_pay3 i x x' = total (φ := .bf16) x := by
  funext y
  idx_vars y
  pointwise [k0_pay3, total, Fin.sum_univ_eight, h]
theorem pay3_B {i : grid0.Coords} (h : (i 0).val = 1) (x x' : Vec Ideal S8x32x1024 .bf16) : k0_pay3 i x x' = total (φ := .bf16) x' := by
  funext y
  idx_vars y
  pointwise [k0_pay3, total, Fin.sum_univ_eight, h]
  all_goals rfl

section
variable (i : grid0.Coords) (x0 x1 : Vec Ideal S8x32x1024 .bf16) (x2 x3 x4 : Vec Ideal S32x1024 .f32)

/-- The body's results. -/
theorem out5 : out0_5 i x0 x1 x2 x3 x4 = k0_pay3 i x0 x1 := by
  unfold out0_5 k0_pay6
  rw [View.canon_cons_unit_lit _ _ _ (by decide), View.ld_unit_lit _ _ (by decide), View.ld_unit_lit _ _ (by decide)]
theorem out6 : out0_6 i x0 x1 x2 x3 x4 = deltas (s := S32x1024) x2 x3 x4 (k0_pay3 i x0 x1) := by
  unfold out0_6 k0_pay8 k0_pay7 k0_pay6
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  rfl
theorem out7 : out0_7 i x0 x1 x2 x3 x4 = means (s := S32x1024) x3 (k0_pay3 i x0 x1) := by
  unfold out0_7 k0_pay7
  rw [View.canon_cons_unit_lit _ _ _ (by decide), View.ld_unit_lit _ _ (by decide), View.ld_unit_lit _ _ (by decide),
    View.ld_unit_lit _ _ (by decide)]
  rfl
theorem out8 : out0_8 i x0 x1 x2 x3 x4 = squares (s := S32x1024) x4 (k0_pay3 i x0 x1) := by
  unfold out0_8 k0_pay8 k0_pay6
  rw [View.canon_cons_unit_lit _ _ _ (by decide), View.ld_unit_lit _ _ (by decide), View.ld_unit_lit _ _ (by decide),
    View.ld_unit_lit _ _ (by decide)]
  rfl
end

section
variable (t : Fin cfg0.N) (y : S32x1024.Idx) (j : S256x1024.Idx) (h : (j 0).val = 32 * t.val + (y 0).val) (h' : (j 1).val = (y 1).val)
include h h'

/-- The blocks at a point. -/
theorem in0 : k0_pay3 (grid0.coords t) (iblk m c 0 t) (iblk m c 1 t) y = total (φ := .bf16) (parts (P0 m c) (Q0 m c)) j := by
  by_cases ht : t.val < 4
  · rw [pay3_A (idxA t ht).1]
    idx_vars y
    refine total_fst (by have := y0.isLt; show (j 0).val < 128; rw [h]; show 32 * t.val + y0.val < 128; omega) fun k l z hl hz => ?_
    blk_point [iblk, V, (idxA t ht).2, h, h', hl, hz]
  · rw [pay3_B (idxB t ht).1]
    idx_vars y
    refine total_snd (by show ¬ (j 0).val < 128; rw [h]; show ¬ 32 * t.val + y0.val < 128; omega) fun k l z hl hz => ?_
    blk_point [iblk, V, (idxB t ht).2, h, h', hl, hz]
theorem in2 : iblk m c 2 t y = W0 m c j := by
  idx_vars y
  blk_point [iblk, V, idx t, h, h']
theorem in3 : iblk m c 3 t y = M0 m c j := by
  idx_vars y
  blk_point [iblk, V, idx t, h, h']
theorem in4 : iblk m c 4 t y = N0 m c j := by
  idx_vars y
  blk_point [iblk, V, idx t, h, h']
end

/-- The gradient. -/
abbrev G0 : FVec Ideal S256x1024 .f32 := total (φ := .bf16) (parts (P0 m c) (Q0 m c))

/-- The arrays after the last point. -/
theorem final5 : (dats m 0 c).arrAt 5 cfg0.N = G0 m c := by
  refine (dats m 0 c).arrAt_eq_of_covers 5 _ (by decide +kernel) fun t _ y => ?_
  blk_simp
  rw [after0_5, out5]
  refine in0 m c t y _ ?_ ?_
  all_goals (blk_simp [idx t] <;> try omega)
theorem final6 : (dats m 0 c).arrAt 6 cfg0.N = deltas (s := S256x1024) (W0 m c) (M0 m c) (N0 m c) (G0 m c) := by
  refine (dats m 0 c).arrAt_eq_of_covers 6 _ (by decide +kernel) fun t _ y => ?_
  blk_simp
  rw [after0_6, out6]
  refine delta_at (in2 m c t y _ ?_ ?_) (in3 m c t y _ ?_ ?_) (in4 m c t y _ ?_ ?_) (in0 m c t y _ ?_ ?_)
  all_goals (blk_simp [idx t] <;> try omega)
theorem final7 : (dats m 0 c).arrAt 7 cfg0.N = means (s := S256x1024) (M0 m c) (G0 m c) := by
  refine (dats m 0 c).arrAt_eq_of_covers 7 _ (by decide +kernel) fun t _ y => ?_
  blk_simp
  rw [after0_7, out7]
  refine congrArg₂ mean (in3 m c t y _ ?_ ?_) (in0 m c t y _ ?_ ?_)
  all_goals (blk_simp [idx t] <;> try omega)
theorem final8 : (dats m 0 c).arrAt 8 cfg0.N = squares (s := S256x1024) (N0 m c) (G0 m c) := by
  refine (dats m 0 c).arrAt_eq_of_covers 8 _ (by decide +kernel) fun t _ y => ?_
  blk_simp
  rw [after0_8, out8]
  refine congrArg₂ square (in4 m c t y _ ?_ ?_) (in0 m c t y _ ?_ ?_)
  all_goals (blk_simp [idx t] <;> try omega)

section
variable (x : FVec Ideal S8x512x1024 .bf16) (x' : FVec Ideal S8x512x1024 .bf16) (w u v : FVec Ideal S256x1024 .f32)

/-- The reference's results. -/
theorem refG : RefAdamwXkIdeal.Read.val_main_v4 (F := Ideal) x x' = total (φ := .bf16) (parts x x') := by
  funext j
  rw [RefAdamwXkIdeal.Read.val_main_v4_apply]
  refine total_of fun k => ?_
  have e : RefAdamwXkIdeal.Read.val_main_v2 (F := Ideal) x x' = parts x x' := by
    refine layers_of _ (fun k i y i' h => ?_) fun k i y i' h => ?_
    · rw [RefAdamwXkIdeal.Read.val_main_v0_apply]
      refine congrArg x ?_
      blk_ext [h]
    · rw [RefAdamwXkIdeal.Read.val_main_v1_apply]
      refine congrArg x' ?_
      blk_ext [h]
  rw [← e, RefAdamwXkIdeal.Read.val_main_v3_apply]
  refine congrArg (RefAdamwXkIdeal.Read.val_main_v2 (F := Ideal) x x') ?_
  blk_ext
theorem refM : RefAdamwXkIdeal.Read.val_main_v9 (F := Ideal) x x' u = means (s := S256x1024) u (total (φ := .bf16) (parts x x')) := by
  rw [← refG]
  rfl
theorem refN : RefAdamwXkIdeal.Read.val_main_v15 (F := Ideal) x x' u = squares (s := S256x1024) u (total (φ := .bf16) (parts x x')) := by
  rw [← refG]
  rfl
theorem refD : RefAdamwXkIdeal.Read.val_main_v28 (F := Ideal) x x' w u v = deltas (s := S256x1024) w u v (total (φ := .bf16) (parts x x')) := by
  rw [← refG]
  rfl
end

end Cert.AdamXk

end
-- ==== Proof.AdamXv.lean ====
/- The update of the attention's value weight: two layers of rows in blocks. -/
module

public import proofs.«01_k».proof.Proof.Adamw
public import proofs.«01_k».proof.Proof.Gen.AdamwXvIdeal.Frame
public import proofs.«01_k».proof.Proof.Gen.RefAdamwXvIdeal.Read

@[expose] public section

set_option maxRecDepth 16384

noncomputable section

namespace Cert.AdamXv

open Cert.AdamwXvIdeal Cert.AdamwXvIdeal.Gen Idealize.ShloMosaic Idealize.ShloMosaic.Pipeline Cert.Adamw
open Idealize.ShloMosaic.TcCoe Idealize.SL.Sem

variable (m : (ℓ : Loc nD τ sig) → Buf (Elt Ideal) ℓ) (c : Dev nD)

/-- The two layers' parts. -/
abbrev parts (P : FVec Ideal S8x512x1024 .bf16) (Q : FVec Ideal S8x512x1024 .bf16) : FVec Ideal ⟨3, ![8, 256, 1024]⟩ .bf16 :=
  layers 256 256 128 (by decide) (by decide) (by decide) P Q

/-- The parts, the weight and its two moments as the program is given them. -/
def P0 : FVec Ideal S8x512x1024 .bf16 := V m c (Pipeline.arrRef spec0 0)
def Q0 : FVec Ideal S8x512x1024 .bf16 := V m c (Pipeline.arrRef spec0 1)
def W0 : FVec Ideal S256x1024 .f32 := V m c (Pipeline.arrRef spec0 2)
def M0 : FVec Ideal S256x1024 .f32 := V m c (Pipeline.arrRef spec0 3)
def N0 : FVec Ideal S256x1024 .f32 := V m c (Pipeline.arrRef spec0 4)

/-- Each grid point has its own block of rows; the first half of the points take the first layer's parts, the others the second's. -/
theorem idx : ∀ t : Fin cfg0.N, win0_2.index t = ![t.val, 0] ∧ win0_3.index t = ![t.val, 0] ∧ win0_4.index t = ![t.val, 0] ∧
    win0_5.index t = ![t.val, 0] ∧ win0_6.index t = ![t.val, 0] ∧ win0_7.index t = ![t.val, 0] ∧ win0_8.index t = ![t.val, 0] :=
  (by decide +kernel : ∀ t : Fin grid0.N, _)
theorem idxA : ∀ t : Fin cfg0.N, t.val < 4 → (grid0.coords t 0).val = 0 ∧ win0_0.index t = ![0, 8 + t.val, 0] :=
  (by decide +kernel : ∀ t : Fin grid0.N, _)
theorem idxB : ∀ t : Fin cfg0.N, ¬ t.val < 4 → (grid0.coords t 0).val = 1 ∧ win0_1.index t = ![0, 8 + (t.val - 4), 0] :=
  (by decide +kernel : ∀ t : Fin grid0.N, _)

/-- The kernel's sum of the eight slices of the layer at hand. -/
theorem pay3_A {i : grid0.Coords} (h : (i 0).val = 0) (x x' : Vec Ideal S8x32x1024 .bf16) : k0_pay3 i x x' = total (φ := .bf16) x := by
  funext y
  idx_vars y
  pointwise [k0_pay3, total, Fin.sum_univ_eight, h]
theorem pay3_B {i : grid0.Coords} (h : (i 0).val = 1) (x x' : Vec Ideal S8x32x1024 .bf16) : k0_pay3 i x x' = total (φ := .bf16) x' := by
  funext y
  idx_vars y
  pointwise [k0_pay3, total, Fin.sum_univ_eight, h]
  all_goals rfl

section
variable (i : grid0.Coords) (x0 x1 : Vec Ideal S8x32x1024 .bf16) (x2 x3 x4 : Vec Ideal S32x1024 .f32)

/-- The body's results. -/
theorem out5 : out0_5 i x0 x1 x2 x3 x4 = k0_pay3 i x0 x1 := by
  unfold out0_5 k0_pay6
  rw [View.canon_cons_unit_lit _ _ _ (by decide), View.ld_unit_lit _ _ (by decide), View.ld_unit_lit _ _ (by decide)]
theorem out6 : out0_6 i x0 x1 x2 x3 x4 = deltas (s := S32x1024) x2 x3 x4 (k0_pay3 i x0 x1) := by
  unfold out0_6 k0_pay8 k0_pay7 k0_pay6
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  rfl
theorem out7 : out0_7 i x0 x1 x2 x3 x4 = means (s := S32x1024) x3 (k0_pay3 i x0 x1) := by
  unfold out0_7 k0_pay7
  rw [View.canon_cons_unit_lit _ _ _ (by decide), View.ld_unit_lit _ _ (by decide), View.ld_unit_lit _ _ (by decide),
    View.ld_unit_lit _ _ (by decide)]
  rfl
theorem out8 : out0_8 i x0 x1 x2 x3 x4 = squares (s := S32x1024) x4 (k0_pay3 i x0 x1) := by
  unfold out0_8 k0_pay8 k0_pay6
  rw [View.canon_cons_unit_lit _ _ _ (by decide), View.ld_unit_lit _ _ (by decide), View.ld_unit_lit _ _ (by decide),
    View.ld_unit_lit _ _ (by decide)]
  rfl
end

section
variable (t : Fin cfg0.N) (y : S32x1024.Idx) (j : S256x1024.Idx) (h : (j 0).val = 32 * t.val + (y 0).val) (h' : (j 1).val = (y 1).val)
include h h'

/-- The blocks at a point. -/
theorem in0 : k0_pay3 (grid0.coords t) (iblk m c 0 t) (iblk m c 1 t) y = total (φ := .bf16) (parts (P0 m c) (Q0 m c)) j := by
  by_cases ht : t.val < 4
  · rw [pay3_A (idxA t ht).1]
    idx_vars y
    refine total_fst (by have := y0.isLt; show (j 0).val < 128; rw [h]; show 32 * t.val + y0.val < 128; omega) fun k l z hl hz => ?_
    blk_point [iblk, V, (idxA t ht).2, h, h', hl, hz]
  · rw [pay3_B (idxB t ht).1]
    idx_vars y
    refine total_snd (by show ¬ (j 0).val < 128; rw [h]; show ¬ 32 * t.val + y0.val < 128; omega) fun k l z hl hz => ?_
    blk_point [iblk, V, (idxB t ht).2, h, h', hl, hz]
theorem in2 : iblk m c 2 t y = W0 m c j := by
  idx_vars y
  blk_point [iblk, V, idx t, h, h']
theorem in3 : iblk m c 3 t y = M0 m c j := by
  idx_vars y
  blk_point [iblk, V, idx t, h, h']
theorem in4 : iblk m c 4 t y = N0 m c j := by
  idx_vars y
  blk_point [iblk, V, idx t, h, h']
end

/-- The gradient. -/
abbrev G0 : FVec Ideal S256x1024 .f32 := total (φ := .bf16) (parts (P0 m c) (Q0 m c))

/-- The arrays after the last point. -/
theorem final5 : (dats m 0 c).arrAt 5 cfg0.N = G0 m c := by
  refine (dats m 0 c).arrAt_eq_of_covers 5 _ (by decide +kernel) fun t _ y => ?_
  blk_simp
  rw [after0_5, out5]
  refine in0 m c t y _ ?_ ?_
  all_goals (blk_simp [idx t] <;> try omega)
theorem final6 : (dats m 0 c).arrAt 6 cfg0.N = deltas (s := S256x1024) (W0 m c) (M0 m c) (N0 m c) (G0 m c) := by
  refine (dats m 0 c).arrAt_eq_of_covers 6 _ (by decide +kernel) fun t _ y => ?_
  blk_simp
  rw [after0_6, out6]
  refine delta_at (in2 m c t y _ ?_ ?_) (in3 m c t y _ ?_ ?_) (in4 m c t y _ ?_ ?_) (in0 m c t y _ ?_ ?_)
  all_goals (blk_simp [idx t] <;> try omega)
theorem final7 : (dats m 0 c).arrAt 7 cfg0.N = means (s := S256x1024) (M0 m c) (G0 m c) := by
  refine (dats m 0 c).arrAt_eq_of_covers 7 _ (by decide +kernel) fun t _ y => ?_
  blk_simp
  rw [after0_7, out7]
  refine congrArg₂ mean (in3 m c t y _ ?_ ?_) (in0 m c t y _ ?_ ?_)
  all_goals (blk_simp [idx t] <;> try omega)
theorem final8 : (dats m 0 c).arrAt 8 cfg0.N = squares (s := S256x1024) (N0 m c) (G0 m c) := by
  refine (dats m 0 c).arrAt_eq_of_covers 8 _ (by decide +kernel) fun t _ y => ?_
  blk_simp
  rw [after0_8, out8]
  refine congrArg₂ square (in4 m c t y _ ?_ ?_) (in0 m c t y _ ?_ ?_)
  all_goals (blk_simp [idx t] <;> try omega)

section
variable (x : FVec Ideal S8x512x1024 .bf16) (x' : FVec Ideal S8x512x1024 .bf16) (w u v : FVec Ideal S256x1024 .f32)

/-- The reference's results. -/
theorem refG : RefAdamwXvIdeal.Read.val_main_v4 (F := Ideal) x x' = total (φ := .bf16) (parts x x') := by
  funext j
  rw [RefAdamwXvIdeal.Read.val_main_v4_apply]
  refine total_of fun k => ?_
  have e : RefAdamwXvIdeal.Read.val_main_v2 (F := Ideal) x x' = parts x x' := by
    refine layers_of _ (fun k i y i' h => ?_) fun k i y i' h => ?_
    · rw [RefAdamwXvIdeal.Read.val_main_v0_apply]
      refine congrArg x ?_
      blk_ext [h]
    · rw [RefAdamwXvIdeal.Read.val_main_v1_apply]
      refine congrArg x' ?_
      blk_ext [h]
  rw [← e, RefAdamwXvIdeal.Read.val_main_v3_apply]
  refine congrArg (RefAdamwXvIdeal.Read.val_main_v2 (F := Ideal) x x') ?_
  blk_ext
theorem refM : RefAdamwXvIdeal.Read.val_main_v9 (F := Ideal) x x' u = means (s := S256x1024) u (total (φ := .bf16) (parts x x')) := by
  rw [← refG]
  rfl
theorem refN : RefAdamwXvIdeal.Read.val_main_v15 (F := Ideal) x x' u = squares (s := S256x1024) u (total (φ := .bf16) (parts x x')) := by
  rw [← refG]
  rfl
theorem refD : RefAdamwXvIdeal.Read.val_main_v28 (F := Ideal) x x' w u v = deltas (s := S256x1024) w u v (total (φ := .bf16) (parts x x')) := by
  rw [← refG]
  rfl
end

end Cert.AdamXv

end
-- ==== Proof.AdamXo.lean ====
/- The update of the attention's output weight: two layers of rows in blocks. -/
module

public import proofs.«01_k».proof.Proof.Adamw
public import proofs.«01_k».proof.Proof.Gen.AdamwXoIdeal.Frame
public import proofs.«01_k».proof.Proof.Gen.RefAdamwXoIdeal.Read

@[expose] public section

set_option maxRecDepth 16384

noncomputable section

namespace Cert.AdamXo

open Cert.AdamwXoIdeal Cert.AdamwXoIdeal.Gen Idealize.ShloMosaic Idealize.ShloMosaic.Pipeline Cert.Adamw
open Idealize.ShloMosaic.TcCoe Idealize.SL.Sem

variable (m : (ℓ : Loc nD τ sig) → Buf (Elt Ideal) ℓ) (c : Dev nD)

/-- The two layers' parts. -/
abbrev parts (P : FVec Ideal S8x512x1024 .bf16) (Q : FVec Ideal S8x512x1024 .bf16) : FVec Ideal ⟨3, ![8, 256, 1024]⟩ .bf16 :=
  layers 384 384 128 (by decide) (by decide) (by decide) P Q

/-- The parts, the weight and its two moments as the program is given them. -/
def P0 : FVec Ideal S8x512x1024 .bf16 := V m c (Pipeline.arrRef spec0 0)
def Q0 : FVec Ideal S8x512x1024 .bf16 := V m c (Pipeline.arrRef spec0 1)
def W0 : FVec Ideal S256x1024 .f32 := V m c (Pipeline.arrRef spec0 2)
def M0 : FVec Ideal S256x1024 .f32 := V m c (Pipeline.arrRef spec0 3)
def N0 : FVec Ideal S256x1024 .f32 := V m c (Pipeline.arrRef spec0 4)

/-- Each grid point has its own block of rows; the first half of the points take the first layer's parts, the others the second's. -/
theorem idx : ∀ t : Fin cfg0.N, win0_2.index t = ![t.val, 0] ∧ win0_3.index t = ![t.val, 0] ∧ win0_4.index t = ![t.val, 0] ∧
    win0_5.index t = ![t.val, 0] ∧ win0_6.index t = ![t.val, 0] ∧ win0_7.index t = ![t.val, 0] ∧ win0_8.index t = ![t.val, 0] :=
  (by decide +kernel : ∀ t : Fin grid0.N, _)
theorem idxA : ∀ t : Fin cfg0.N, t.val < 4 → (grid0.coords t 0).val = 0 ∧ win0_0.index t = ![0, 12 + t.val, 0] :=
  (by decide +kernel : ∀ t : Fin grid0.N, _)
theorem idxB : ∀ t : Fin cfg0.N, ¬ t.val < 4 → (grid0.coords t 0).val = 1 ∧ win0_1.index t = ![0, 12 + (t.val - 4), 0] :=
  (by decide +kernel : ∀ t : Fin grid0.N, _)

/-- The kernel's sum of the eight slices of the layer at hand. -/
theorem pay3_A {i : grid0.Coords} (h : (i 0).val = 0) (x x' : Vec Ideal S8x32x1024 .bf16) : k0_pay3 i x x' = total (φ := .bf16) x := by
  funext y
  idx_vars y
  pointwise [k0_pay3, total, Fin.sum_univ_eight, h]
theorem pay3_B {i : grid0.Coords} (h : (i 0).val = 1) (x x' : Vec Ideal S8x32x1024 .bf16) : k0_pay3 i x x' = total (φ := .bf16) x' := by
  funext y
  idx_vars y
  pointwise [k0_pay3, total, Fin.sum_univ_eight, h]
  all_goals rfl

section
variable (i : grid0.Coords) (x0 x1 : Vec Ideal S8x32x1024 .bf16) (x2 x3 x4 : Vec Ideal S32x1024 .f32)

/-- The body's results. -/
theorem out5 : out0_5 i x0 x1 x2 x3 x4 = k0_pay3 i x0 x1 := by
  unfold out0_5 k0_pay6
  rw [View.canon_cons_unit_lit _ _ _ (by decide), View.ld_unit_lit _ _ (by decide), View.ld_unit_lit _ _ (by decide)]
theorem out6 : out0_6 i x0 x1 x2 x3 x4 = deltas (s := S32x1024) x2 x3 x4 (k0_pay3 i x0 x1) := by
  unfold out0_6 k0_pay8 k0_pay7 k0_pay6
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  rfl
theorem out7 : out0_7 i x0 x1 x2 x3 x4 = means (s := S32x1024) x3 (k0_pay3 i x0 x1) := by
  unfold out0_7 k0_pay7
  rw [View.canon_cons_unit_lit _ _ _ (by decide), View.ld_unit_lit _ _ (by decide), View.ld_unit_lit _ _ (by decide),
    View.ld_unit_lit _ _ (by decide)]
  rfl
theorem out8 : out0_8 i x0 x1 x2 x3 x4 = squares (s := S32x1024) x4 (k0_pay3 i x0 x1) := by
  unfold out0_8 k0_pay8 k0_pay6
  rw [View.canon_cons_unit_lit _ _ _ (by decide), View.ld_unit_lit _ _ (by decide), View.ld_unit_lit _ _ (by decide),
    View.ld_unit_lit _ _ (by decide)]
  rfl
end

section
variable (t : Fin cfg0.N) (y : S32x1024.Idx) (j : S256x1024.Idx) (h : (j 0).val = 32 * t.val + (y 0).val) (h' : (j 1).val = (y 1).val)
include h h'

/-- The blocks at a point. -/
theorem in0 : k0_pay3 (grid0.coords t) (iblk m c 0 t) (iblk m c 1 t) y = total (φ := .bf16) (parts (P0 m c) (Q0 m c)) j := by
  by_cases ht : t.val < 4
  · rw [pay3_A (idxA t ht).1]
    idx_vars y
    refine total_fst (by have := y0.isLt; show (j 0).val < 128; rw [h]; show 32 * t.val + y0.val < 128; omega) fun k l z hl hz => ?_
    blk_point [iblk, V, (idxA t ht).2, h, h', hl, hz]
  · rw [pay3_B (idxB t ht).1]
    idx_vars y
    refine total_snd (by show ¬ (j 0).val < 128; rw [h]; show ¬ 32 * t.val + y0.val < 128; omega) fun k l z hl hz => ?_
    blk_point [iblk, V, (idxB t ht).2, h, h', hl, hz]
theorem in2 : iblk m c 2 t y = W0 m c j := by
  idx_vars y
  blk_point [iblk, V, idx t, h, h']
theorem in3 : iblk m c 3 t y = M0 m c j := by
  idx_vars y
  blk_point [iblk, V, idx t, h, h']
theorem in4 : iblk m c 4 t y = N0 m c j := by
  idx_vars y
  blk_point [iblk, V, idx t, h, h']
end

/-- The gradient. -/
abbrev G0 : FVec Ideal S256x1024 .f32 := total (φ := .bf16) (parts (P0 m c) (Q0 m c))

/-- The arrays after the last point. -/
theorem final5 : (dats m 0 c).arrAt 5 cfg0.N = G0 m c := by
  refine (dats m 0 c).arrAt_eq_of_covers 5 _ (by decide +kernel) fun t _ y => ?_
  blk_simp
  rw [after0_5, out5]
  refine in0 m c t y _ ?_ ?_
  all_goals (blk_simp [idx t] <;> try omega)
theorem final6 : (dats m 0 c).arrAt 6 cfg0.N = deltas (s := S256x1024) (W0 m c) (M0 m c) (N0 m c) (G0 m c) := by
  refine (dats m 0 c).arrAt_eq_of_covers 6 _ (by decide +kernel) fun t _ y => ?_
  blk_simp
  rw [after0_6, out6]
  refine delta_at (in2 m c t y _ ?_ ?_) (in3 m c t y _ ?_ ?_) (in4 m c t y _ ?_ ?_) (in0 m c t y _ ?_ ?_)
  all_goals (blk_simp [idx t] <;> try omega)
theorem final7 : (dats m 0 c).arrAt 7 cfg0.N = means (s := S256x1024) (M0 m c) (G0 m c) := by
  refine (dats m 0 c).arrAt_eq_of_covers 7 _ (by decide +kernel) fun t _ y => ?_
  blk_simp
  rw [after0_7, out7]
  refine congrArg₂ mean (in3 m c t y _ ?_ ?_) (in0 m c t y _ ?_ ?_)
  all_goals (blk_simp [idx t] <;> try omega)
theorem final8 : (dats m 0 c).arrAt 8 cfg0.N = squares (s := S256x1024) (N0 m c) (G0 m c) := by
  refine (dats m 0 c).arrAt_eq_of_covers 8 _ (by decide +kernel) fun t _ y => ?_
  blk_simp
  rw [after0_8, out8]
  refine congrArg₂ square (in4 m c t y _ ?_ ?_) (in0 m c t y _ ?_ ?_)
  all_goals (blk_simp [idx t] <;> try omega)

section
variable (x : FVec Ideal S8x512x1024 .bf16) (x' : FVec Ideal S8x512x1024 .bf16) (w u v : FVec Ideal S256x1024 .f32)

/-- The reference's results. -/
theorem refG : RefAdamwXoIdeal.Read.val_main_v4 (F := Ideal) x x' = total (φ := .bf16) (parts x x') := by
  funext j
  rw [RefAdamwXoIdeal.Read.val_main_v4_apply]
  refine total_of fun k => ?_
  have e : RefAdamwXoIdeal.Read.val_main_v2 (F := Ideal) x x' = parts x x' := by
    refine layers_of _ (fun k i y i' h => ?_) fun k i y i' h => ?_
    · rw [RefAdamwXoIdeal.Read.val_main_v0_apply]
      refine congrArg x ?_
      blk_ext [h]
    · rw [RefAdamwXoIdeal.Read.val_main_v1_apply]
      refine congrArg x' ?_
      blk_ext [h]
  rw [← e, RefAdamwXoIdeal.Read.val_main_v3_apply]
  refine congrArg (RefAdamwXoIdeal.Read.val_main_v2 (F := Ideal) x x') ?_
  blk_ext
theorem refM : RefAdamwXoIdeal.Read.val_main_v9 (F := Ideal) x x' u = means (s := S256x1024) u (total (φ := .bf16) (parts x x')) := by
  rw [← refG]
  rfl
theorem refN : RefAdamwXoIdeal.Read.val_main_v15 (F := Ideal) x x' u = squares (s := S256x1024) u (total (φ := .bf16) (parts x x')) := by
  rw [← refG]
  rfl
theorem refD : RefAdamwXoIdeal.Read.val_main_v28 (F := Ideal) x x' w u v = deltas (s := S256x1024) w u v (total (φ := .bf16) (parts x x')) := by
  rw [← refG]
  rfl
end

end Cert.AdamXo

end
-- ==== Proof.AdamDown.lean ====
/- The update of the second weight of the feed-forward part: two layers of rows in blocks. -/
module

public import proofs.«01_k».proof.Proof.Adamw
public import proofs.«01_k».proof.Proof.Gen.AdamwDownIdeal.Frame
public import proofs.«01_k».proof.Proof.Gen.RefAdamwDownIdeal.Read

@[expose] public section

set_option maxRecDepth 16384

noncomputable section

namespace Cert.AdamDown

open Cert.AdamwDownIdeal Cert.AdamwDownIdeal.Gen Idealize.ShloMosaic Idealize.ShloMosaic.Pipeline Cert.Adamw
open Idealize.ShloMosaic.TcCoe Idealize.SL.Sem

variable (m : (ℓ : Loc nD τ sig) → Buf (Elt Ideal) ℓ) (c : Dev nD)

/-- The two layers' parts. -/
abbrev parts (P : FVec Ideal S8x352x1024 .bf16) (Q : FVec Ideal S8x352x1024 .bf16) : FVec Ideal ⟨3, ![8, 704, 1024]⟩ .bf16 :=
  layers 0 0 352 (by decide) (by decide) (by decide) P Q

/-- The parts, the weight and its two moments as the program is given them. -/
def P0 : FVec Ideal S8x352x1024 .bf16 := V m c (Pipeline.arrRef spec0 0)
def Q0 : FVec Ideal S8x352x1024 .bf16 := V m c (Pipeline.arrRef spec0 1)
def W0 : FVec Ideal S704x1024 .f32 := V m c (Pipeline.arrRef spec0 2)
def M0 : FVec Ideal S704x1024 .f32 := V m c (Pipeline.arrRef spec0 3)
def N0 : FVec Ideal S704x1024 .f32 := V m c (Pipeline.arrRef spec0 4)

/-- Each grid point has its own block of rows; the first half of the points take the first layer's parts, the others the second's. -/
theorem idx : ∀ t : Fin cfg0.N, win0_2.index t = ![t.val, 0] ∧ win0_3.index t = ![t.val, 0] ∧ win0_4.index t = ![t.val, 0] ∧
    win0_5.index t = ![t.val, 0] ∧ win0_6.index t = ![t.val, 0] ∧ win0_7.index t = ![t.val, 0] ∧ win0_8.index t = ![t.val, 0] :=
  (by decide +kernel : ∀ t : Fin grid0.N, _)
theorem idxA : ∀ t : Fin cfg0.N, t.val < 11 → (grid0.coords t 0).val = 0 ∧ win0_0.index t = ![0, 0 + t.val, 0] :=
  (by decide +kernel : ∀ t : Fin grid0.N, _)
theorem idxB : ∀ t : Fin cfg0.N, ¬ t.val < 11 → (grid0.coords t 0).val = 1 ∧ win0_1.index t = ![0, 0 + (t.val - 11), 0] :=
  (by decide +kernel : ∀ t : Fin grid0.N, _)

/-- The kernel's sum of the eight slices of the layer at hand. -/
theorem pay3_A {i : grid0.Coords} (h : (i 0).val = 0) (x x' : Vec Ideal S8x32x1024 .bf16) : k0_pay3 i x x' = total (φ := .bf16) x := by
  funext y
  idx_vars y
  pointwise [k0_pay3, total, Fin.sum_univ_eight, h]
theorem pay3_B {i : grid0.Coords} (h : (i 0).val = 1) (x x' : Vec Ideal S8x32x1024 .bf16) : k0_pay3 i x x' = total (φ := .bf16) x' := by
  funext y
  idx_vars y
  pointwise [k0_pay3, total, Fin.sum_univ_eight, h]
  all_goals rfl

section
variable (i : grid0.Coords) (x0 x1 : Vec Ideal S8x32x1024 .bf16) (x2 x3 x4 : Vec Ideal S32x1024 .f32)

/-- The body's results. -/
theorem out5 : out0_5 i x0 x1 x2 x3 x4 = k0_pay3 i x0 x1 := by
  unfold out0_5 k0_pay6
  rw [View.canon_cons_unit_lit _ _ _ (by decide), View.ld_unit_lit _ _ (by decide), View.ld_unit_lit _ _ (by decide)]
theorem out6 : out0_6 i x0 x1 x2 x3 x4 = deltas (s := S32x1024) x2 x3 x4 (k0_pay3 i x0 x1) := by
  unfold out0_6 k0_pay8 k0_pay7 k0_pay6
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  rfl
theorem out7 : out0_7 i x0 x1 x2 x3 x4 = means (s := S32x1024) x3 (k0_pay3 i x0 x1) := by
  unfold out0_7 k0_pay7
  rw [View.canon_cons_unit_lit _ _ _ (by decide), View.ld_unit_lit _ _ (by decide), View.ld_unit_lit _ _ (by decide),
    View.ld_unit_lit _ _ (by decide)]
  rfl
theorem out8 : out0_8 i x0 x1 x2 x3 x4 = squares (s := S32x1024) x4 (k0_pay3 i x0 x1) := by
  unfold out0_8 k0_pay8 k0_pay6
  rw [View.canon_cons_unit_lit _ _ _ (by decide), View.ld_unit_lit _ _ (by decide), View.ld_unit_lit _ _ (by decide),
    View.ld_unit_lit _ _ (by decide)]
  rfl
end

section
variable (t : Fin cfg0.N) (y : S32x1024.Idx) (j : S704x1024.Idx) (h : (j 0).val = 32 * t.val + (y 0).val) (h' : (j 1).val = (y 1).val)
include h h'

/-- The blocks at a point. -/
theorem in0 : k0_pay3 (grid0.coords t) (iblk m c 0 t) (iblk m c 1 t) y = total (φ := .bf16) (parts (P0 m c) (Q0 m c)) j := by
  by_cases ht : t.val < 11
  · rw [pay3_A (idxA t ht).1]
    idx_vars y
    refine total_fst (by have := y0.isLt; show (j 0).val < 352; rw [h]; show 32 * t.val + y0.val < 352; omega) fun k l z hl hz => ?_
    blk_point [iblk, V, (idxA t ht).2, h, h', hl, hz]
  · rw [pay3_B (idxB t ht).1]
    idx_vars y
    refine total_snd (by show ¬ (j 0).val < 352; rw [h]; show ¬ 32 * t.val + y0.val < 352; omega) fun k l z hl hz => ?_
    blk_point [iblk, V, (idxB t ht).2, h, h', hl, hz]
theorem in2 : iblk m c 2 t y = W0 m c j := by
  idx_vars y
  blk_point [iblk, V, idx t, h, h']
theorem in3 : iblk m c 3 t y = M0 m c j := by
  idx_vars y
  blk_point [iblk, V, idx t, h, h']
theorem in4 : iblk m c 4 t y = N0 m c j := by
  idx_vars y
  blk_point [iblk, V, idx t, h, h']
end

/-- The gradient. -/
abbrev G0 : FVec Ideal S704x1024 .f32 := total (φ := .bf16) (parts (P0 m c) (Q0 m c))

/-- The arrays after the last point. -/
theorem final5 : (dats m 0 c).arrAt 5 cfg0.N = G0 m c := by
  refine (dats m 0 c).arrAt_eq_of_covers 5 _ (by decide +kernel) fun t _ y => ?_
  blk_simp
  rw [after0_5, out5]
  refine in0 m c t y _ ?_ ?_
  all_goals (blk_simp [idx t] <;> try omega)
theorem final6 : (dats m 0 c).arrAt 6 cfg0.N = deltas (s := S704x1024) (W0 m c) (M0 m c) (N0 m c) (G0 m c) := by
  refine (dats m 0 c).arrAt_eq_of_covers 6 _ (by decide +kernel) fun t _ y => ?_
  blk_simp
  rw [after0_6, out6]
  refine delta_at (in2 m c t y _ ?_ ?_) (in3 m c t y _ ?_ ?_) (in4 m c t y _ ?_ ?_) (in0 m c t y _ ?_ ?_)
  all_goals (blk_simp [idx t] <;> try omega)
theorem final7 : (dats m 0 c).arrAt 7 cfg0.N = means (s := S704x1024) (M0 m c) (G0 m c) := by
  refine (dats m 0 c).arrAt_eq_of_covers 7 _ (by decide +kernel) fun t _ y => ?_
  blk_simp
  rw [after0_7, out7]
  refine congrArg₂ mean (in3 m c t y _ ?_ ?_) (in0 m c t y _ ?_ ?_)
  all_goals (blk_simp [idx t] <;> try omega)
theorem final8 : (dats m 0 c).arrAt 8 cfg0.N = squares (s := S704x1024) (N0 m c) (G0 m c) := by
  refine (dats m 0 c).arrAt_eq_of_covers 8 _ (by decide +kernel) fun t _ y => ?_
  blk_simp
  rw [after0_8, out8]
  refine congrArg₂ square (in4 m c t y _ ?_ ?_) (in0 m c t y _ ?_ ?_)
  all_goals (blk_simp [idx t] <;> try omega)

section
variable (x : FVec Ideal S8x352x1024 .bf16) (x' : FVec Ideal S8x352x1024 .bf16) (w u v : FVec Ideal S704x1024 .f32)

/-- The reference's results. -/
theorem refG : RefAdamwDownIdeal.Read.val_main_v2 (F := Ideal) x x' = total (φ := .bf16) (parts x x') := by
  funext j
  rw [RefAdamwDownIdeal.Read.val_main_v2_apply]
  refine total_of fun k => ?_
  have e : RefAdamwDownIdeal.Read.val_main_v0 (F := Ideal) x x' = parts x x' := by
    refine layers_of _ (fun k i y i' h => congrArg x ?_) fun k i y i' h => congrArg x' ?_
    all_goals blk_ext [h]
  rw [← e, RefAdamwDownIdeal.Read.val_main_v1_apply]
  refine congrArg (RefAdamwDownIdeal.Read.val_main_v0 (F := Ideal) x x') ?_
  blk_ext
theorem refM : RefAdamwDownIdeal.Read.val_main_v7 (F := Ideal) x x' u = means (s := S704x1024) u (total (φ := .bf16) (parts x x')) := by
  rw [← refG]
  rfl
theorem refN : RefAdamwDownIdeal.Read.val_main_v13 (F := Ideal) x x' u = squares (s := S704x1024) u (total (φ := .bf16) (parts x x')) := by
  rw [← refG]
  rfl
theorem refD : RefAdamwDownIdeal.Read.val_main_v26 (F := Ideal) x x' w u v = deltas (s := S704x1024) w u v (total (φ := .bf16) (parts x x')) := by
  rw [← refG]
  rfl
end

end Cert.AdamDown

end
-- ==== Proof.Scaled.lean ====
/- Sums of extended reals under a nonnegative real factor, sums in blocks, and the two forms of a norm's derivative. -/
module

public import Idealize.ShloMosaic.Lib.Pipeline.ValueKit
public import Idealize.ShloMosaic.Lib.Pipeline.ReadBack

@[expose] public section

noncomputable section

namespace Cert.Scaled

open Idealize.ShloMosaic

/-- The constants of the two calls. -/
theorem bits_zero : Ideal.ofBits .f32 0x00000000#32 = 0 := by simp [Ideal.ofBits, Ideal.ieee]
theorem bits_one : Ideal.ofBits .f32 0x3F800000#32 = ((1 : ℝ) : EReal) := by
  simp [Ideal.ofBits, Ideal.ieee]
  rw [← EReal.coe_one, ← EReal.coe_mul, EReal.coe_eq_coe_iff]
  norm_num
theorem bits_two : Ideal.ofBits .f32 0x40000000#32 = ((2 : ℝ) : EReal) := by
  simp [Ideal.ofBits, Ideal.ieee]
  rw [← EReal.coe_mul, EReal.coe_eq_coe_iff]
  norm_num
theorem bits_half : Ideal.ofBits .f32 0x3F000000#32 = ((1 / 2 : ℝ) : EReal) := by
  simp [Ideal.ofBits, Ideal.ieee]
  rw [← EReal.coe_mul, EReal.coe_eq_coe_iff]
  norm_num
theorem bits_neg_half : Ideal.ofBits .f32 0xBF000000#32 = ((-(1 / 2) : ℝ) : EReal) := by
  simp [Ideal.ofBits, Ideal.ieee]
  rw [← EReal.coe_mul, EReal.coe_eq_coe_iff]
  norm_num
theorem bits_len : Ideal.ofBits .f32 0x44800000#32 = ((1024 : ℝ) : EReal) := by
  simp [Ideal.ofBits, Ideal.ieee]
  rw [← EReal.coe_mul, EReal.coe_eq_coe_iff]
  norm_num
theorem bits_inv : Ideal.ofBits .f32 0x3A800000#32 = ((1 / 1024 : ℝ) : EReal) := by
  simp [Ideal.ofBits, Ideal.ieee]
  rw [← EReal.coe_mul, EReal.coe_eq_coe_iff]
  norm_num
theorem bits_half_inv : Ideal.ofBits .f32 0x3A000000#32 = ((1 / 2048 : ℝ) : EReal) := by
  simp [Ideal.ofBits, Ideal.ieee]
  rw [← EReal.coe_mul, EReal.coe_eq_coe_iff]
  norm_num
theorem bits_eps : 0 < Ideal.ofBits .f32 0x358637BD#32 := by
  simp [Ideal.ofBits, Ideal.ieee]
  rw [← EReal.coe_mul, ← EReal.coe_zero, EReal.coe_lt_coe_iff]
  norm_num

/-- A quotient by a row's length. -/
theorem div_len (x : EReal) : Ideal.div x (Ideal.ofBits .f32 0x44800000#32) = x * ((1 / 1024 : ℝ) : EReal) := by
  rw [bits_len, Ideal.div, if_neg (by norm_num), ← EReal.coe_inv]
  norm_num

/-- A nonnegative real factor comes out of a sum of any extended reals. -/
theorem sum_scaled {ι : Type*} (s : Finset ι) (f : ι → EReal) {r : EReal} (h : 0 ≤ r) (h' : r ≠ ⊤) : (∑ i ∈ s, f i) * r = ∑ i ∈ s, f i * r := by
  classical
  induction s using Finset.induction_on with
  | empty => simp
  | insert a s ha ih => rw [Finset.sum_insert ha, Finset.sum_insert ha, EReal.right_distrib_of_nonneg_of_ne_top h h', ih]

/-- An accumulator that takes one block's sum at each point ends with the sum of all. -/
theorem blocks {n b N : ℕ} (hN : N = n * b) (F : Fin N → EReal) (f : Fin n → Fin b → EReal)
    (hf : ∀ t i (p : Fin N), p.val = b * t.val + i.val → f t i = F p) (acc : ∀ t, t < n → EReal)
    (h0 : ∀ h, acc 0 h = ∑ i, f ⟨0, h⟩ i) (hs : ∀ t h h', acc (t + 1) h' = acc t h + ∑ i, f ⟨t + 1, h'⟩ i) (t : ℕ) (h : t < n) (ht : t + 1 = n) :
    acc t h = ∑ p, F p := by
  have key : ∀ t (h : t < n), acc t h = ∑ s : Fin (t + 1), ∑ i, f ⟨s.val, lt_of_lt_of_le s.isLt h⟩ i := by
    intro t
    induction t with
    | zero => intro h; rw [h0, Fin.sum_univ_one]; rfl
    | succ t ih => intro h; rw [hs t (by omega) h, ih (by omega), Fin.sum_univ_castSucc (n := t + 1)]; rfl
  rw [key t h]
  subst ht
  subst hN
  rw [← finProdFinEquiv.sum_comp, Fintype.sum_prod_type]
  exact Finset.sum_congr rfl fun s _ => Finset.sum_congr rfl fun i _ => hf _ _ _ (by simp [finProdFinEquiv]; omega)

/-- The inverse root of a positive value is a nonnegative real, and divided by the value it is its own cube. -/
theorem root {v : EReal} (h : 0 < v) : 0 ≤ Ideal.rsqrt v ∧ Ideal.rsqrt v ≠ ⊤ ∧ Ideal.div (Ideal.rsqrt v) v = Ideal.rsqrt v * Ideal.rsqrt v * Ideal.rsqrt v := by
  induction v with
  | bot => exact absurd h (by simp)
  | top => simp [Ideal.div]
  | coe x =>
    have hx : 0 < x := by exact_mod_cast h
    rw [Ideal.rsqrt_coe, if_neg hx.not_gt, if_neg hx.ne']
    refine ⟨by exact_mod_cast inv_nonneg.2 (Real.sqrt_nonneg x), EReal.coe_ne_top _, ?_⟩
    rw [Ideal.div, if_neg (by exact_mod_cast hx.ne'), ← EReal.coe_inv, ← EReal.coe_mul, ← EReal.coe_mul, ← EReal.coe_mul, EReal.coe_eq_coe_iff,
      mul_assoc, ← mul_inv (Real.sqrt x) (Real.sqrt x), Real.mul_self_sqrt hx.le]

/-- Minus a half, twice. -/
theorem twice (x : EReal) : x * ((-(1 / 2) : ℝ) : EReal) + x * ((-(1 / 2) : ℝ) : EReal) = -x := by
  induction x with
  | bot => rw [EReal.bot_mul_coe_of_neg (by norm_num)]; rfl
  | top => rw [EReal.top_mul_coe_of_neg (by norm_num)]; rfl
  | coe x => rw [← EReal.coe_mul, ← EReal.coe_add, ← EReal.coe_neg, EReal.coe_eq_coe_iff]; ring

/-- The derivative of a row's norm at one place: the kernel's form and the reference's. -/
theorem norm_forms {n : ℕ} (x d : Fin n → EReal) (v e a b : EReal) (h : 0 < v) :
    e + Ideal.rsqrt v * (b - a * Ideal.rsqrt v * ((∑ l, d l * (x l * Ideal.rsqrt v)) * ((1 / 1024 : ℝ) : EReal))) =
      e + b * Ideal.rsqrt v +
        a * ((∑ l, x l * d l) * (((-(1 / 2) : ℝ) : EReal) * Ideal.div (Ideal.rsqrt v) v) * ((1 / 1024 : ℝ) : EReal)) +
        (∑ l, x l * d l) * (((-(1 / 2) : ℝ) : EReal) * Ideal.div (Ideal.rsqrt v) v) * ((1 / 1024 : ℝ) : EReal) * a := by
  obtain ⟨h0, h1, h2⟩ := root h
  rw [h2]
  generalize Ideal.rsqrt v = r at h0 h1
  have hS : ∑ l, d l * (x l * r) = (∑ l, x l * d l) * r := by
    rw [sum_scaled _ _ h0 h1]
    exact Finset.sum_congr rfl fun l _ => by ac_rfl
  rw [hS]
  generalize ∑ l, x l * d l = S
  generalize ((1 / 1024 : ℝ) : EReal) = k
  rw [sub_eq_add_neg, EReal.left_distrib_of_nonneg_of_ne_top h0 h1, mul_neg, ← twice]
  generalize ((-(1 / 2) : ℝ) : EReal) = u
  rw [add_assoc, add_assoc]
  refine congrArg (e + ·) ?_
  refine congrArg₂ (· + ·) (mul_comm _ _) (congrArg₂ (· + ·) ?_ ?_) <;> ac_rfl

end Cert.Scaled

end
-- ==== Proof.LossSum.lean ====
/- The loss and its gradient at the output: the blocks of rows summed one after the other. -/
module

public import proofs.«01_k».proof.Proof.Scaled
public import proofs.«01_k».proof.Proof.Gen.LossIdeal.Value
public import proofs.«01_k».proof.Proof.Gen.RefLossIdeal.Read

@[expose] public section

set_option maxRecDepth 16384

noncomputable section

namespace Cert.LossSum

open Cert.LossIdeal Cert.LossIdeal.Gen Idealize.ShloMosaic Idealize.ShloMosaic.Pipeline Cert.Scaled
open Idealize.ShloMosaic.TcCoe Idealize.SL.Sem

variable (m : (ℓ : Loc nD τ sig) → Buf (Elt Ideal) ℓ) (c : Dev nD)

/-- The output of the model and the target, as the program is given them. -/
def X0 : FVec Ideal S4096x1024 .f32 := V m c (Pipeline.arrRef spec0 0)
def T0 : FVec Ideal S4096x1024 .f32 := V m c (Pipeline.arrRef spec0 1)

/-- One row's part of the loss: half the mean of the squares. -/
def row {a : ℕ} (X T : FVec Ideal ⟨2, ![a, 1024]⟩ .f32) (i : Fin a) : EReal :=
  (∑ l : Fin 1024, (X (ix2 i l) - T (ix2 i l)) * (X (ix2 i l) - T (ix2 i l))) * ((1 / 2048 : ℝ) : EReal)

/-- The loss, in every lane. -/
def loss (X T : FVec Ideal S4096x1024 .f32) : FVec Ideal S1x128 .f32 := fun _ => ∑ i : Fin 4096, row X T i

/-- The loss's gradient. -/
def grad {s : Shape} (X T : FVec Ideal s .f32) : FVec Ideal s .f32 := fun j => (X j - T j) * ((1 / 1024 : ℝ) : EReal)

/-- Where the blocks lie. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem in0 (t : Fin cfg0.N) (i : Fin 512) (l : Fin 1024) (i' : Fin 4096) (h : i'.val = 512 * t.val + i.val) :
    iblk m c 0 t (ix2 i l) = X0 m c (ix2 i' l) := by
  blk_point [iblk, V, idx t, h]
theorem in1 (t : Fin cfg0.N) (i : Fin 512) (l : Fin 1024) (i' : Fin 4096) (h : i'.val = 512 * t.val + i.val) :
    iblk m c 1 t (ix2 i l) = T0 m c (ix2 i' l) := by
  blk_point [iblk, V, idx t, h]

theorem blk0 (t : Fin cfg0.N) (y : S512x1024.Idx) (j : S4096x1024.Idx) (h : (j 0).val = 512 * t.val + (y 0).val) (h' : (j 1).val = (y 1).val) :
    iblk m c 0 t y = X0 m c j := by
  idx_vars y
  blk_point [iblk, V, idx t, h, h']
theorem blk1 (t : Fin cfg0.N) (y : S512x1024.Idx) (j : S4096x1024.Idx) (h : (j 0).val = 512 * t.val + (y 0).val) (h' : (j 1).val = (y 1).val) :
    iblk m c 1 t y = T0 m c j := by
  idx_vars y
  blk_point [iblk, V, idx t, h, h']

/-- What a point adds to the loss. -/
theorem pay (x0 x1 : Vec Ideal S512x1024 .f32) (u : Vec Ideal S1x128 .f32) (y : S1x128.Idx) :
    k0_pay4 (F := Ideal) x0 x1 u y = u y + ∑ i : Fin 512, row x0 x1 i := by
  idx_vars y
  unfold row
  rw [← sum_scaled _ _ (by norm_num) (EReal.coe_ne_top _), ← bits_half_inv]
  pointwise [k0_pay4, k0_pay1]

theorem point_A (t : Fin cfg0.N) (h : t.val % 8 = 0) (y : S1x128.Idx) :
    (outsAt0 m c t.val t.isLt).1 y = ∑ i : Fin 512, row (iblk m c 0 t) (iblk m c 1 t) i := by
  rw [outsAt0_A m c t h]
  frame_open
  simp (disch := decide) only [↓ View.readCov_cons_toLoadRect]
  frame_out
  rw [pay]
  exact (congrArg (· + _) bits_zero).trans (zero_add _)

theorem point_B (t : Fin cfg0.N) (h : ¬ t.val % 8 = 0) (y : S1x128.Idx) :
    (outsAt0 m c t.val t.isLt).1 y
      = (outsAt0 m c (t.val - 1) (Nat.lt_of_le_of_lt (Nat.sub_le _ _) t.isLt)).1 y + ∑ i : Fin 512, row (iblk m c 0 t) (iblk m c 1 t) i := by
  rw [outsAt0_B m c t h]
  frame_open
  frame_out
  rw [pay]

/-- The gradient a point leaves in its block. -/
theorem pointG (t : Fin cfg0.N) : (outsAt0 m c t.val t.isLt).2 = grad (s := S512x1024) (iblk m c 0 t) (iblk m c 1 t) := by
  unfold grad
  rw [← bits_inv]
  by_cases h : t.val % 8 = 0
  · rw [outsAt0_A m c t h]
    frame_open
    frame_out
    rfl
  · rw [outsAt0_B m c t h]
    frame_open
    frame_out
    rfl

/-- The arrays after the last point. -/
theorem final2 : (dats m 0 c).arrAt 2 cfg0.N = loss (X0 m c) (T0 m c) := by
  refine (dats m 0 c).arrAt_eq_of_covers 2 _ (by decide +kernel) fun t hf y => ?_
  have ht : t.val = 7 := (by decide +kernel : ∀ t : Fin cfg0.N, (cfg0.win 2).flush t = true → t.val = 7) t hf
  blk_simp
  rw [after0_2]
  refine blocks (n := 8) (b := 512) rfl (row (X0 m c) (T0 m c)) (fun s => row (iblk m c 0 s) (iblk m c 1 s)) (fun s i p e => ?_)
    (fun s h => (outsAt0 m c s h).1 y) (fun h => point_A m c ⟨0, h⟩ rfl y) (fun s h h' => ?_) t.val t.isLt (by omega)
  · unfold row
    exact congrArg (· * _) (Finset.sum_congr rfl fun l _ => by rw [in0 m c s i l p e, in1 m c s i l p e])
  · exact point_B m c ⟨s + 1, h'⟩ (by show ¬ (s + 1) % 8 = 0; omega) y
theorem final3 : (dats m 0 c).arrAt 3 cfg0.N = grad (X0 m c) (T0 m c) := by
  refine (dats m 0 c).arrAt_eq_of_covers 3 _ (by decide +kernel) fun t _ y => ?_
  blk_simp
  rw [after0_3, pointG]
  refine congrArg (· * _) (congrArg₂ (· - ·) (blk0 m c t y _ ?_ ?_) (blk1 m c t y _ ?_ ?_))
  all_goals (blk_simp [idx t] <;> try omega)

/-- The reference's results. -/
theorem refL (X T : FVec Ideal S4096x1024 .f32) : RefLossIdeal.Read.val_main_v9 (F := Ideal) X T = loss X T := by
  funext j
  rw [RefLossIdeal.Read.val_main_v9_apply, RefLossIdeal.Read.val_main_v8_apply, RefLossIdeal.Read.val_main_v7_apply]
  simp only [RefLossIdeal.Read.val_main_v6_apply, RefLossIdeal.Read.val_main_v5_apply, RefLossIdeal.Read.val_main_v4_apply]
  show Ideal.ofBits .f32 0x3F000000#32 * (Ideal.ofBits .f32 0x00000000#32 + ∑ p : RefLossIdeal.S4096.Idx, Ideal.div (Ideal.ofBits .f32 0x00000000#32 +
    ∑ k : Fin 1024, RefLossIdeal.Read.val_main_v1 (F := Ideal) X T (RefLossIdeal.Read.idx_main_v4 p k)) (Ideal.ofBits .f32 0x44800000#32)) = ∑ i : Fin 4096, row X T i
  rw [bits_zero, zero_add, mul_comm, bits_half, sum_scaled _ _ (by norm_num) (EReal.coe_ne_top _)]
  refine Fintype.sum_equiv ⟨fun p => p 0, fun i => ix1 i, fun p => by blk_ext, fun _ => rfl⟩ _ _ fun p => ?_
  rw [div_len, zero_add, mul_assoc, ← EReal.coe_mul]
  refine congrArg₂ (· * ·) (Finset.sum_congr rfl fun l _ => ?_) (by norm_num)
  rw [show RefLossIdeal.Read.idx_main_v4 p l = ix2 (p 0) l by blk_ext]
  rfl
theorem refG (X T : FVec Ideal S4096x1024 .f32) : RefLossIdeal.Read.val_main_v15 (F := Ideal) X T = grad X T := by
  funext j
  show Ideal.div (Ideal.ofBits .f32 0x3F000000#32 * Ideal.ofBits .f32 0x3F800000#32) (Ideal.ofBits .f32 0x44800000#32) *
    (Ideal.ofBits .f32 0x40000000#32 * (X j - T j)) = (X j - T j) * ((1 / 1024 : ℝ) : EReal)
  rw [div_len, bits_half, bits_one, bits_two, ← mul_assoc, mul_comm, ← EReal.coe_mul, ← EReal.coe_mul, ← EReal.coe_mul]
  norm_num

end Cert.LossSum

end
-- ==== Proof.NormGrad.lean ====
/- The backward pass of the block's first norm: the input's gradient row by row, the gain's gradient in blocks of rows. -/
module

public import proofs.«01_k».proof.Proof.Scaled
public import proofs.«01_k».proof.Proof.Gen.NormIdeal.Value
public import proofs.«01_k».proof.Proof.Gen.RefNormIdeal.Read

@[expose] public section

set_option maxRecDepth 16384

noncomputable section

namespace Cert.NormGrad

open Cert.NormIdeal Cert.NormIdeal.Gen Idealize.ShloMosaic Idealize.ShloMosaic.Pipeline Cert.Scaled
open Idealize.ShloMosaic.TcCoe Idealize.SL.Sem

variable (m : (ℓ : Loc nD τ sig) → Buf (Elt Ideal) ℓ) (c : Dev nD)

/-- The gradient beside the norm, the norm's input, its gain, and the gradient behind the norm, as the program is given them. -/
def E0 : FVec Ideal S4096x1024 .f32 := V m c (Pipeline.arrRef spec0 0)
def X0 : FVec Ideal S4096x1024 .f32 := V m c (Pipeline.arrRef spec0 1)
def G0 : FVec Ideal S1x1024 .f32 := V m c (Pipeline.arrRef spec0 2)
def D0 : FVec Ideal S4096x1024 .f32 := V m c (Pipeline.arrRef spec0 3)

/-- A row's mean square, and what is added to it. -/
def power (f : Fin 1024 → EReal) : EReal := (∑ l, f l * f l) * ((1 / 1024 : ℝ) : EReal) + Ideal.ofBits .f32 0x358637BD#32

theorem power_pos (f : Fin 1024 → EReal) : 0 < power f := by
  have sq : ∀ x : EReal, 0 ≤ x * x := fun x => by
    rcases le_total 0 x with h | h
    · exact mul_nonneg h h
    · rw [← neg_mul_neg]
      exact mul_nonneg (EReal.neg_nonneg.2 h) (EReal.neg_nonneg.2 h)
  exact lt_of_lt_of_le bits_eps (le_add_of_nonneg_left (mul_nonneg (Finset.sum_nonneg fun l _ => sq (f l)) (by norm_num)))

/-- The input's gradient at one place of a row. -/
def place (x d : Fin 1024 → EReal) (e a b : EReal) : EReal :=
  e + Ideal.rsqrt (power x) * (b - a * Ideal.rsqrt (power x) * ((∑ l, d l * (x l * Ideal.rsqrt (power x))) * ((1 / 1024 : ℝ) : EReal)))

section
variable {n : ℕ} (E X : FVec Ideal ⟨2, ![n, 1024]⟩ .f32) (G : FVec Ideal S1x1024 .f32) (D : FVec Ideal ⟨2, ![n, 1024]⟩ .f32)

/-- The input's gradient. -/
def grad : FVec Ideal ⟨2, ![n, 1024]⟩ .f32 := fun j =>
  place (fun l => X (ix2 (j 0) l)) (fun l => D (ix2 (j 0) l) * G (ix2 0 l)) (E j) (X j) (D j * G (ix2 0 (j 1)))

/-- A row's part of the gain's gradient. -/
def gain (i : Fin n) (l : Fin 1024) : EReal := D (ix2 i l) * (X (ix2 i l) * Ideal.rsqrt (power fun l => X (ix2 i l)))

/-- The gain's gradient. -/
def gains : FVec Ideal S1x1024 .f32 := fun j => ∑ i : Fin n, gain X D i (j 1)
end

theorem grad_eq {n : ℕ} {E X D E' X' D' : FVec Ideal ⟨2, ![n, 1024]⟩ .f32} {G G' : FVec Ideal S1x1024 .f32} (hE : E = E') (hX : X = X') (hG : G = G')
    (hD : D = D') : grad E X G D = grad E' X' G' D' := by
  rw [hE, hX, hG, hD]

/-- Both look at one row only. -/
theorem gain_congr {n n' : ℕ} {X D : FVec Ideal ⟨2, ![n, 1024]⟩ .f32} {X' D' : FVec Ideal ⟨2, ![n', 1024]⟩ .f32} {i : Fin n} {i' : Fin n'}
    (hX : ∀ l, X (ix2 i l) = X' (ix2 i' l)) (hD : ∀ l, D (ix2 i l) = D' (ix2 i' l)) : gain X D i = gain X' D' i' := by
  unfold gain
  simp only [hX, hD]
theorem grad_congr {n n' : ℕ} {E X D : FVec Ideal ⟨2, ![n, 1024]⟩ .f32} {E' X' D' : FVec Ideal ⟨2, ![n', 1024]⟩ .f32} (G : FVec Ideal S1x1024 .f32)
    {i : Fin n} {i' : Fin n'} (hE : ∀ l, E (ix2 i l) = E' (ix2 i' l)) (hX : ∀ l, X (ix2 i l) = X' (ix2 i' l)) (hD : ∀ l, D (ix2 i l) = D' (ix2 i' l))
    (l : Fin 1024) : grad E X G D (ix2 i l) = grad E' X' G D' (ix2 i' l) := by
  show place (fun k => X (ix2 i k)) (fun k => D (ix2 i k) * G (ix2 0 k)) (E (ix2 i l)) (X (ix2 i l)) (D (ix2 i l) * G (ix2 0 l)) = _
  simp only [hE, hX, hD]
  rfl

/-- Where the blocks lie. -/
theorem idx : ∀ t : Fin cfg0.N, win0_0.index t = ![t.val, 0] ∧ win0_1.index t = ![t.val, 0] ∧ win0_2.index t = ![0, 0] ∧ win0_3.index t = ![t.val, 0] ∧
    win0_4.index t = ![t.val, 0] ∧ win0_5.index t = ![0, 0] :=
  (by decide +kernel : ∀ t : Fin grid0.N, _)

section
variable (t : Fin cfg0.N) (i : Fin 512) (l : Fin 1024) (i' : Fin 4096) (h : i'.val = 512 * t.val + i.val)
include h
theorem in0 : iblk m c 0 t (ix2 i l) = E0 m c (ix2 i' l) := by
  blk_point [iblk, V, idx t, h]
theorem in1 : iblk m c 1 t (ix2 i l) = X0 m c (ix2 i' l) := by
  blk_point [iblk, V, idx t, h]
theorem in3 : iblk m c 3 t (ix2 i l) = D0 m c (ix2 i' l) := by
  blk_point [iblk, V, idx t, h]
end
theorem in2 (t : Fin cfg0.N) : iblk m c 2 t = G0 m c := by
  funext j; blk_point [iblk, V, idx t]

/-- The inverse root of a row's mean square. -/
theorem pay1 (x : Vec Ideal S512x1024 .f32) (y : S512x1.Idx) : k0_pay1 (F := Ideal) x y = Ideal.rsqrt (power fun l => x (ix2 (y 0) l)) := by
  idx_vars y
  unfold power
  rw [← div_len]
  pointwise [k0_pay1]

/-- A normed row. -/
theorem pay2 (x : Vec Ideal S512x1024 .f32) (y : S512x1024.Idx) :
    k0_pay2 (F := Ideal) x y = x y * Ideal.rsqrt (power fun l => x (ix2 (y 0) l)) := by
  idx_vars y
  pointwise [k0_pay2, pay1]

theorem pay3 (d e x : Vec Ideal S512x1024 .f32) (g : Vec Ideal S1x1024 .f32) : k0_pay3 (F := Ideal) e d x g = grad e x g d := by
  funext y
  idx_vars y
  unfold grad place
  rw [← div_len]
  pointwise [k0_pay3, pay1, pay2]

theorem pay5 (d x : Vec Ideal S512x1024 .f32) (u : Vec Ideal S1x1024 .f32) (y : S1x1024.Idx) :
    k0_pay5 (F := Ideal) d x u y = u y + ∑ i : Fin 512, gain x d i (y 1) := by
  idx_vars y
  unfold gain
  pointwise [k0_pay5, pay2]

/-- What a point leaves in its blocks. -/
theorem point4 (t : Fin cfg0.N) : (outsAt0 m c t.val t.isLt).1 = grad (iblk m c 0 t) (iblk m c 1 t) (G0 m c) (iblk m c 3 t) := by
  rw [← in2 m c t, ← pay3]
  by_cases h : t.val % 8 = 0
  · rw [outsAt0_A m c t h]
    frame_open
    frame_out
  · rw [outsAt0_B m c t h]
    frame_open
    frame_out
theorem point_A (t : Fin cfg0.N) (h : t.val % 8 = 0) (y : S1x1024.Idx) :
    (outsAt0 m c t.val t.isLt).2 y = ∑ i : Fin 512, gain (iblk m c 1 t) (iblk m c 3 t) i (y 1) := by
  rw [outsAt0_A m c t h]
  frame_open
  simp (disch := decide) only [↓ View.readCov_cons_toLoadRect]
  frame_out
  rw [pay5]
  exact (congrArg (· + _) bits_zero).trans (zero_add _)
theorem point_B (t : Fin cfg0.N) (h : ¬ t.val % 8 = 0) (y : S1x1024.Idx) :
    (outsAt0 m c t.val t.isLt).2 y
      = (outsAt0 m c (t.val - 1) (Nat.lt_of_le_of_lt (Nat.sub_le _ _) t.isLt)).2 y + ∑ i : Fin 512, gain (iblk m c 1 t) (iblk m c 3 t) i (y 1) := by
  rw [outsAt0_B m c t h]
  frame_open
  frame_out
  rw [pay5]

/-- A block's rows are rows of the whole. -/
theorem grad_block (t : Fin cfg0.N) (y : S512x1024.Idx) (j : S4096x1024.Idx) (h : (j 0).val = 512 * t.val + (y 0).val) (h' : (j 1).val = (y 1).val) :
    grad (iblk m c 0 t) (iblk m c 1 t) (G0 m c) (iblk m c 3 t) y = grad (E0 m c) (X0 m c) (G0 m c) (D0 m c) j := by
  obtain ⟨i, l, rfl⟩ : ∃ i l, y = ix2 i l := ⟨y 0, y 1, by blk_ext⟩
  obtain ⟨i', l', rfl⟩ : ∃ i l, j = ix2 i l := ⟨j 0, j 1, by blk_ext⟩
  obtain rfl : l' = l := Fin.ext h'
  exact grad_congr _ (fun k => in0 m c t i k i' h) (fun k => in1 m c t i k i' h) (fun k => in3 m c t i k i' h) l'

/-- The arrays after the last point. -/
theorem final4 : (dats m 0 c).arrAt 4 cfg0.N = grad (E0 m c) (X0 m c) (G0 m c) (D0 m c) := by
  refine (dats m 0 c).arrAt_eq_of_covers 4 _ (by decide +kernel) fun t _ y => ?_
  blk_simp
  rw [after0_4, point4]
  refine grad_block m c t y _ ?_ ?_
  all_goals (blk_simp [idx t] <;> try omega)
theorem final5 : (dats m 0 c).arrAt 5 cfg0.N = gains (X0 m c) (D0 m c) := by
  refine (dats m 0 c).arrAt_eq_of_covers 5 _ (by decide +kernel) fun t hf y => ?_
  have ht : t.val = 7 := (by decide +kernel : ∀ t : Fin cfg0.N, (cfg0.win 5).flush t = true → t.val = 7) t hf
  blk_simp
  rw [after0_5]
  refine (blocks (n := 8) (b := 512) rfl (fun i => gain (X0 m c) (D0 m c) i (y 1)) (fun s i => gain (iblk m c 1 s) (iblk m c 3 s) i (y 1))
    (fun s i p e => ?_) (fun s h => (outsAt0 m c s h).2 y) (fun h => point_A m c ⟨0, h⟩ rfl y) (fun s h h' => ?_) t.val t.isLt (by omega)).trans ?_
  · exact congrFun (gain_congr (fun k => in1 m c s i k p e) fun k => in3 m c s i k p e) (y 1)
  · exact point_B m c ⟨s + 1, h'⟩ (by show ¬ (s + 1) % 8 = 0; omega) y
  · refine Finset.sum_congr rfl fun i _ => congrArg (gain (X0 m c) (D0 m c) i) (Fin.ext ?_)
    blk_simp [idx t]

section
open RefNormIdeal.Read
variable (E X : FVec Ideal S4096x1024 .f32) (G : FVec Ideal S1x1024 .f32) (D : FVec Ideal S4096x1024 .f32)

/-- The reference's rows. -/
theorem ref_power (i : RefNormIdeal.S4096x1.Idx) : val_main_v6 (F := Ideal) X i = power fun l => X (ix2 (i 0) l) := by
  rw [val_main_v6_apply, val_main_v4_apply, val_main_v2_apply, val_main_v1_apply]
  show Ideal.div (Ideal.ofBits .f32 0x00000000#32 + ∑ k : Fin 1024, val_main_v0 (F := Ideal) X (idx_main_v1 (idx_main_v2 i) k)) (Ideal.ofBits .f32 0x44800000#32) +
    Ideal.ofBits .f32 0x358637BD#32 = _
  rw [bits_zero, zero_add, div_len]
  refine congrArg (· * _ + _) (Finset.sum_congr rfl fun l _ => ?_)
  rw [show idx_main_v1 (idx_main_v2 i) l = ix2 (i 0) l by blk_ext]
  rfl
theorem ref_root (i : RefNormIdeal.S4096x1.Idx) : val_main_v7 (F := Ideal) X i = Ideal.rsqrt (power fun l => X (ix2 (i 0) l)) :=
  congrArg Ideal.rsqrt (ref_power X i)

theorem ref_mean (j : S4096x1024.Idx) : val_main_v30 (F := Ideal) X G D j =
    (∑ l, X (ix2 (j 0) l) * (D (ix2 (j 0) l) * G (ix2 0 l))) * (((-(1 / 2) : ℝ) : EReal) *
      Ideal.div (Ideal.rsqrt (power fun l => X (ix2 (j 0) l))) (power fun l => X (ix2 (j 0) l))) * ((1 / 1024 : ℝ) : EReal) := by
  rw [val_main_v30_apply, val_main_v29_apply, Fin.sum_univ_one, val_main_v28_apply, val_main_v26_apply, val_main_v22_apply, val_main_v21_apply]
  show Ideal.ofBits .f32 0x00000000#32 + Ideal.div ((Ideal.ofBits .f32 0x00000000#32 + ∑ k : Fin 1024, _) * (Ideal.ofBits .f32 0xBF000000#32 *
    Ideal.div (val_main_v7 (F := Ideal) X _) (val_main_v6 (F := Ideal) X _))) (Ideal.ofBits .f32 0x44800000#32) = _
  rw [bits_zero, zero_add, zero_add, div_len, bits_neg_half, ref_root, ref_power]
  refine congrArg (· * _ * _) (Finset.sum_congr rfl fun l _ => ?_)
  rw [val_main_v20_apply, val_main_v19_apply, val_main_v18_apply]
  refine congrArg₂ (· * ·) (congrArg X (by blk_ext)) (congrArg₂ (· * ·) (congrArg D (by blk_ext)) (congrArg G (by blk_ext)))

/-- The reference's results. -/
theorem refX : val_main_v34 (F := Ideal) E X G D = grad E X G D := by
  funext j
  rw [val_main_v34_apply, val_main_v32_apply, val_main_v25_apply, val_main_v24_apply, val_main_v31_apply, val_main_v33_apply, val_main_v19_apply,
    val_main_v18_apply, val_main_v23_apply, ref_mean, ref_root]
  refine Eq.trans ?_ (norm_forms _ _ _ _ _ _ (power_pos _)).symm
  rw [show idx_main_v18 j = ix2 0 (j 1) by blk_ext]
  rfl
theorem refG : val_main_v17 (F := Ideal) X D = gains X D := by
  funext j
  rw [val_main_v17_apply, val_main_v16_apply]
  refine (congrArg (· + _) bits_zero).trans ((zero_add _).trans (Finset.sum_congr rfl fun i _ => ?_))
  rw [val_main_v15_apply, val_main_v12_apply, val_main_v11_apply, ref_root, show idx_main_v16 (idx_main_v17 j) i = ix2 i (j 1) by blk_ext]
  exact mul_comm _ _
end

end Cert.NormGrad

end
-- ==== Proof.NormRows.lean ====
/- What the norm's backward pass does with a block of rows, for any call that runs it: the gain's gradient over all the blocks, and the gradient
   where nothing goes on beside the norm. -/
module

public import proofs.«01_k».proof.Proof.NormGrad

@[expose] public section

set_option maxRecDepth 16384

noncomputable section

namespace Cert.NormGrad

open Cert.NormIdeal Cert.NormIdeal.Gen Idealize.ShloMosaic Idealize.ShloMosaic.Pipeline Cert.Scaled
open RefNormIdeal.Read

/-- Rows `512 * t + i` of the whole are row `i` of the block `t`. -/
def Rows (A : FVec Ideal S4096x1024 .f32) (t : ℕ) (a : FVec Ideal S512x1024 .f32) : Prop :=
  ∀ (i : Fin 512) (l : Fin 1024) (p : Fin 4096), p.val = 512 * t + i.val → a (ix2 i l) = A (ix2 p l)

/-- Nothing beside the norm. -/
theorem rows_zero (t : ℕ) : Rows (fun _ => 0) t fun _ => 0 := fun _ _ _ _ => rfl

theorem rows_grad {E X D : FVec Ideal S4096x1024 .f32} {e x d : FVec Ideal S512x1024 .f32} {t : ℕ} (G : FVec Ideal S1x1024 .f32)
    (he : Rows E t e) (hx : Rows X t x) (hd : Rows D t d) : Rows (grad E X G D) t (grad e x G d) :=
  fun i l p h => grad_congr G (fun k => he i k p h) (fun k => hx i k p h) (fun k => hd i k p h) l

theorem Rows.at {A : FVec Ideal S4096x1024 .f32} {t : ℕ} {a : FVec Ideal S512x1024 .f32} (h : Rows A t a) (y : S512x1024.Idx) (j : S4096x1024.Idx)
    (h0 : (j 0).val = 512 * t + (y 0).val) (h1 : (j 1).val = (y 1).val) : a y = A j := by
  rw [show y = ix2 (y 0) (y 1) by blk_ext, show j = ix2 (j 0) (y 1) by blk_ext]
  exact h _ _ _ h0

/-- A gain's gradient, gathered from the blocks. -/
theorem gains_blocks {X D : FVec Ideal S4096x1024 .f32} {x d : Fin 8 → FVec Ideal S512x1024 .f32} (hx : ∀ s, Rows X s.val (x s))
    (hd : ∀ s, Rows D s.val (d s)) (acc : ∀ t, t < 8 → FVec Ideal S1x1024 .f32) (y : S1x1024.Idx)
    (h0 : ∀ h, acc 0 h y = ∑ i, gain (x ⟨0, h⟩) (d ⟨0, h⟩) i (y 1))
    (hs : ∀ t h h', acc (t + 1) h' y = acc t h y + ∑ i, gain (x ⟨t + 1, h'⟩) (d ⟨t + 1, h'⟩) i (y 1))
    (t : ℕ) (h : t < 8) (ht : t = 7) (j : S1x1024.Idx) (hj : (j 1).val = (y 1).val) : acc t h y = gains X D j := by
  refine (blocks (n := 8) (b := 512) rfl (fun i => gain X D i (y 1)) (fun s i => gain (x s) (d s) i (y 1)) (fun s i p e => ?_)
    (fun s h => acc s h y) h0 hs t h (by omega)).trans (Finset.sum_congr rfl fun i _ => congrArg (gain X D i) (Fin.ext hj.symm))
  exact congrFun (gain_congr (fun k => hx s i k p e) fun k => hd s i k p e) (y 1)

/-- The reference's derivative of the norm alone: nothing is added to it. -/
theorem refY (Y : FVec Ideal S4096x1024 .f32) (P : FVec Ideal S1x1024 .f32) (D : FVec Ideal S4096x1024 .f32) :
    (fun j => val_main_v24 (F := Ideal) Y P D j + val_main_v31 (F := Ideal) Y P D j + val_main_v33 (F := Ideal) Y P D j : FVec Ideal S4096x1024 .f32)
      = grad (fun _ => 0) Y P D := by
  rw [← refX]
  funext j
  rw [val_main_v34_apply, val_main_v32_apply, val_main_v25_apply]
  exact congrArg (· + _ + _) (zero_add _).symm

end Cert.NormGrad

end
-- ==== Proof.NormStream.lean ====
/- The residual stream's gradient between two blocks: into the next norm and beside it, then through the norm of the block before. -/
module

public import proofs.«01_k».proof.Proof.NormRows
public import proofs.«01_k».proof.Proof.Gen.NormMidIdeal.Value
public import proofs.«01_k».proof.Proof.Gen.RefNormMidIdeal.Read

@[expose] public section

set_option maxRecDepth 16384

noncomputable section

namespace Cert.NormStream

open Cert.NormMidIdeal Cert.NormMidIdeal.Gen Idealize.ShloMosaic Idealize.ShloMosaic.Pipeline Cert.Scaled
open Idealize.ShloMosaic.TcCoe Idealize.SL.Sem
open Cert.NormGrad (grad gain gains Rows rows_zero rows_grad gains_blocks)

variable (m : (ℓ : Loc nD τ sig) → Buf (Elt Ideal) ℓ) (c : Dev nD)

/-- The gradient beside the norm, the norm's input, its gain, the gradient behind it; the input and the gain of the norm before. -/
def E0 : FVec Ideal S4096x1024 .f32 := V m c (Pipeline.arrRef spec0 0)
def X0 : FVec Ideal S4096x1024 .f32 := V m c (Pipeline.arrRef spec0 1)
def G0 : FVec Ideal S1x1024 .f32 := V m c (Pipeline.arrRef spec0 2)
def D0 : FVec Ideal S4096x1024 .f32 := V m c (Pipeline.arrRef spec0 3)
def Y0 : FVec Ideal S4096x1024 .f32 := V m c (Pipeline.arrRef spec0 4)
def P0 : FVec Ideal S1x1024 .f32 := V m c (Pipeline.arrRef spec0 5)

/-- Where the blocks lie. -/
theorem idx : ∀ t : Fin cfg0.N, win0_0.index t = ![t.val, 0] ∧ win0_1.index t = ![t.val, 0] ∧ win0_2.index t = ![0, 0] ∧ win0_3.index t = ![t.val, 0] ∧
    win0_4.index t = ![t.val, 0] ∧ win0_5.index t = ![0, 0] ∧ win0_6.index t = ![t.val, 0] ∧ win0_7.index t = ![t.val, 0] ∧
    win0_8.index t = ![0, 0] ∧ win0_9.index t = ![0, 0] :=
  (by decide +kernel : ∀ t : Fin grid0.N, _)

theorem in0 (t : Fin cfg0.N) : Rows (E0 m c) t.val (iblk m c 0 t) := fun i l p h => by blk_point [iblk, V, idx t, h]
theorem in1 (t : Fin cfg0.N) : Rows (X0 m c) t.val (iblk m c 1 t) := fun i l p h => by blk_point [iblk, V, idx t, h]
theorem in2 (t : Fin cfg0.N) : iblk m c 2 t = G0 m c := by funext j; blk_point [iblk, V, idx t]
theorem in3 (t : Fin cfg0.N) : Rows (D0 m c) t.val (iblk m c 3 t) := fun i l p h => by blk_point [iblk, V, idx t, h]
theorem in4 (t : Fin cfg0.N) : Rows (Y0 m c) t.val (iblk m c 4 t) := fun i l p h => by blk_point [iblk, V, idx t, h]
theorem in5 (t : Fin cfg0.N) : iblk m c 5 t = P0 m c := by funext j; blk_point [iblk, V, idx t]

/-- The same operations on a block as in the block's first norm. -/
theorem pay3 (e d x : Vec Ideal S512x1024 .f32) (g : Vec Ideal S1x1024 .f32) : k0_pay3 (F := Ideal) e d x g = grad e x g d :=
  NormGrad.pay3 d e x g
theorem pay5 (d x : Vec Ideal S512x1024 .f32) (u : Vec Ideal S1x1024 .f32) (y : S1x1024.Idx) :
    k0_pay5 (F := Ideal) d x u y = u y + ∑ i : Fin 512, gain x d i (y 1) :=
  NormGrad.pay5 d x u y
theorem pay8 (d y : Vec Ideal S512x1024 .f32) (p : Vec Ideal S1x1024 .f32) : k0_pay8 (F := Ideal) d y p = grad (fun _ => 0) y p d :=
  funext fun j => (zero_add _).symm.trans (congrFun (NormGrad.pay3 d (fun _ => 0) y p) j)
theorem pay10 (d x : Vec Ideal S512x1024 .f32) (u : Vec Ideal S1x1024 .f32) (y : S1x1024.Idx) :
    k0_pay10 (F := Ideal) d x u y = u y + ∑ i : Fin 512, gain x d i (y 1) :=
  NormGrad.pay5 d x u y

/-- The stream's gradient: a block of it, and all of it. -/
def part (t : Fin cfg0.N) : FVec Ideal S512x1024 .f32 := grad (iblk m c 0 t) (iblk m c 1 t) (G0 m c) (iblk m c 3 t)
def stream : FVec Ideal S4096x1024 .f32 := grad (E0 m c) (X0 m c) (G0 m c) (D0 m c)
theorem part_rows (t : Fin cfg0.N) : Rows (stream m c) t.val (part m c t) := rows_grad _ (in0 m c t) (in1 m c t) (in3 m c t)

/-- What a point leaves in its blocks. -/
theorem point6 (t : Fin cfg0.N) : (outsAt0 m c t.val t.isLt).1 = part m c t := by
  unfold part
  rw [← in2 m c t, ← pay3]
  by_cases h : t.val % 8 = 0
  · rw [outsAt0_A m c t h h]
    frame_open
    frame_out
  · rw [outsAt0_B m c t h h]
    frame_open
    frame_out
theorem point7 (t : Fin cfg0.N) : (outsAt0 m c t.val t.isLt).2.1 = grad (fun _ => 0) (iblk m c 4 t) (P0 m c) (part m c t) := by
  unfold part
  rw [← in2 m c t, ← in5 m c t, ← pay8, ← pay3]
  by_cases h : t.val % 8 = 0
  · rw [outsAt0_A m c t h h]
    frame_open
    frame_out
  · rw [outsAt0_B m c t h h]
    frame_open
    frame_out
theorem point_A (t : Fin cfg0.N) (h : t.val % 8 = 0) (y : S1x1024.Idx) :
    (outsAt0 m c t.val t.isLt).2.2.1 y = ∑ i : Fin 512, gain (iblk m c 1 t) (iblk m c 3 t) i (y 1) ∧
    (outsAt0 m c t.val t.isLt).2.2.2 y = ∑ i : Fin 512, gain (iblk m c 4 t) (part m c t) i (y 1) := by
  unfold part
  rw [← in2 m c t, ← pay3, outsAt0_A m c t h h]
  frame_open
  simp (disch := decide) only [↓ View.readCov_cons_toLoadRect]
  frame_out
  rw [pay5, pay10]
  exact ⟨(congrArg (· + _) bits_zero).trans (zero_add _), (congrArg (· + _) bits_zero).trans (zero_add _)⟩
theorem point_B (t : Fin cfg0.N) (h : ¬ t.val % 8 = 0) (y : S1x1024.Idx) :
    (outsAt0 m c t.val t.isLt).2.2.1 y = (outsAt0 m c (t.val - 1) (Nat.lt_of_le_of_lt (Nat.sub_le _ _) t.isLt)).2.2.1 y +
      ∑ i : Fin 512, gain (iblk m c 1 t) (iblk m c 3 t) i (y 1) ∧
    (outsAt0 m c t.val t.isLt).2.2.2 y = (outsAt0 m c (t.val - 1) (Nat.lt_of_le_of_lt (Nat.sub_le _ _) t.isLt)).2.2.2 y +
      ∑ i : Fin 512, gain (iblk m c 4 t) (part m c t) i (y 1) := by
  unfold part
  rw [← in2 m c t, ← pay3, outsAt0_B m c t h h]
  frame_open
  frame_out
  rw [pay5, pay10]
  exact ⟨rfl, rfl⟩

/-- The arrays after the last point. -/
theorem final6 : (dats m 0 c).arrAt 6 cfg0.N = stream m c := by
  refine (dats m 0 c).arrAt_eq_of_covers 6 _ (by decide +kernel) fun t _ y => ?_
  blk_simp
  rw [after0_6, point6]
  refine (part_rows m c t).at y _ ?_ ?_
  all_goals (blk_simp [idx t] <;> try omega)
theorem final7 : (dats m 0 c).arrAt 7 cfg0.N = grad (fun _ => 0) (Y0 m c) (P0 m c) (stream m c) := by
  refine (dats m 0 c).arrAt_eq_of_covers 7 _ (by decide +kernel) fun t _ y => ?_
  blk_simp
  rw [after0_7, point7]
  refine (rows_grad _ (rows_zero _) (in4 m c t) (part_rows m c t)).at y _ ?_ ?_
  all_goals (blk_simp [idx t] <;> try omega)
theorem final8 : (dats m 0 c).arrAt 8 cfg0.N = gains (X0 m c) (D0 m c) := by
  refine (dats m 0 c).arrAt_eq_of_covers 8 _ (by decide +kernel) fun t hf y => ?_
  have ht : t.val = 7 := (by decide +kernel : ∀ t : Fin cfg0.N, (cfg0.win 8).flush t = true → t.val = 7) t hf
  blk_simp
  rw [after0_8]
  refine gains_blocks (x := fun s => iblk m c 1 s) (d := fun s => iblk m c 3 s) (in1 m c) (in3 m c) (fun s h => (outsAt0 m c s h).2.2.1) y
    (fun h => (point_A m c ⟨0, h⟩ rfl y).1) (fun s h h' => (point_B m c ⟨s + 1, h'⟩ ?_ y).1) t.val t.isLt ht _ ?_
  · show ¬ (s + 1) % 8 = 0
    omega
  · blk_simp [idx t]
theorem final9 : (dats m 0 c).arrAt 9 cfg0.N = gains (Y0 m c) (stream m c) := by
  refine (dats m 0 c).arrAt_eq_of_covers 9 _ (by decide +kernel) fun t hf y => ?_
  have ht : t.val = 7 := (by decide +kernel : ∀ t : Fin cfg0.N, (cfg0.win 9).flush t = true → t.val = 7) t hf
  blk_simp
  rw [after0_9]
  refine gains_blocks (x := fun s => iblk m c 4 s) (d := part m c) (in4 m c) (part_rows m c) (fun s h => (outsAt0 m c s h).2.2.2) y
    (fun h => (point_A m c ⟨0, h⟩ rfl y).2) (fun s h h' => (point_B m c ⟨s + 1, h'⟩ ?_ y).2) t.val t.isLt ht _ ?_
  · show ¬ (s + 1) % 8 = 0
    omega
  · blk_simp [idx t]

section
open RefNormMidIdeal.Read
variable (E X : FVec Ideal S4096x1024 .f32) (G : FVec Ideal S1x1024 .f32) (D Y : FVec Ideal S4096x1024 .f32) (P : FVec Ideal S1x1024 .f32)

/-- The reference's results: the first norm's operations, twice. -/
theorem refX : val_main_v34 (F := Ideal) E X G D = grad E X G D := NormGrad.refX E X G D
theorem refG : val_main_v17 (F := Ideal) X D = gains X D := NormGrad.refG X D
theorem refY : val_main_v69 (F := Ideal) E X G D Y P = grad (fun _ => 0) Y P (grad E X G D) :=
  (NormGrad.refY Y P (val_main_v34 (F := Ideal) E X G D)).trans (congrArg (grad _ Y P) (refX E X G D))
theorem refP : val_main_v52 (F := Ideal) E X G D Y = gains Y (grad E X G D) :=
  (NormGrad.refG Y (val_main_v34 (F := Ideal) E X G D)).trans (congrArg (gains Y) (refX E X G D))
end

end Cert.NormStream

end
-- ==== Proof.NormStreamTwo.lean ====
/- The same where two gradients come back from behind the next norm: the feed-forward's gate and value. -/
module

public import proofs.«01_k».proof.Proof.NormRows
public import proofs.«01_k».proof.Proof.Gen.NormMidTwoIdeal.Value
public import proofs.«01_k».proof.Proof.Gen.RefNormMidTwoIdeal.Read

@[expose] public section

set_option maxRecDepth 16384

noncomputable section

namespace Cert.NormStreamTwo

open Cert.NormMidTwoIdeal Cert.NormMidTwoIdeal.Gen Idealize.ShloMosaic Idealize.ShloMosaic.Pipeline Cert.Scaled
open Idealize.ShloMosaic.TcCoe Idealize.SL.Sem
open Cert.NormGrad (grad gain gains Rows rows_zero rows_grad gains_blocks)

variable (m : (ℓ : Loc nD τ sig) → Buf (Elt Ideal) ℓ) (c : Dev nD)

/-- The gradient beside the norm, the norm's input, its gain, the two gradients behind it; the input and the gain of the norm before. -/
def E0 : FVec Ideal S4096x1024 .f32 := V m c (Pipeline.arrRef spec0 0)
def X0 : FVec Ideal S4096x1024 .f32 := V m c (Pipeline.arrRef spec0 1)
def G0 : FVec Ideal S1x1024 .f32 := V m c (Pipeline.arrRef spec0 2)
def D0 : FVec Ideal S4096x1024 .f32 := V m c (Pipeline.arrRef spec0 3)
def D1 : FVec Ideal S4096x1024 .f32 := V m c (Pipeline.arrRef spec0 4)
def Y0 : FVec Ideal S4096x1024 .f32 := V m c (Pipeline.arrRef spec0 5)
def P0 : FVec Ideal S1x1024 .f32 := V m c (Pipeline.arrRef spec0 6)

/-- The two together. -/
def both {n : ℕ} (d d' : FVec Ideal ⟨2, ![n, 1024]⟩ .f32) : FVec Ideal ⟨2, ![n, 1024]⟩ .f32 := fun j => d j + d' j

/-- Where the blocks lie. -/
theorem idx : ∀ t : Fin cfg0.N, win0_0.index t = ![t.val, 0] ∧ win0_1.index t = ![t.val, 0] ∧ win0_2.index t = ![0, 0] ∧ win0_3.index t = ![t.val, 0] ∧
    win0_4.index t = ![t.val, 0] ∧ win0_5.index t = ![t.val, 0] ∧ win0_6.index t = ![0, 0] ∧ win0_7.index t = ![t.val, 0] ∧
    win0_8.index t = ![t.val, 0] ∧ win0_9.index t = ![0, 0] ∧ win0_10.index t = ![0, 0] :=
  (by decide +kernel : ∀ t : Fin grid0.N, _)

theorem in0 (t : Fin cfg0.N) : Rows (E0 m c) t.val (iblk m c 0 t) := fun i l p h => by blk_point [iblk, V, idx t, h]
theorem in1 (t : Fin cfg0.N) : Rows (X0 m c) t.val (iblk m c 1 t) := fun i l p h => by blk_point [iblk, V, idx t, h]
theorem in2 (t : Fin cfg0.N) : iblk m c 2 t = G0 m c := by funext j; blk_point [iblk, V, idx t]
theorem in3 (t : Fin cfg0.N) : Rows (D0 m c) t.val (iblk m c 3 t) := fun i l p h => by blk_point [iblk, V, idx t, h]
theorem in4 (t : Fin cfg0.N) : Rows (D1 m c) t.val (iblk m c 4 t) := fun i l p h => by blk_point [iblk, V, idx t, h]
theorem in5 (t : Fin cfg0.N) : Rows (Y0 m c) t.val (iblk m c 5 t) := fun i l p h => by blk_point [iblk, V, idx t, h]
theorem in6 (t : Fin cfg0.N) : iblk m c 6 t = P0 m c := by funext j; blk_point [iblk, V, idx t]
theorem rows_both {D D' : FVec Ideal S4096x1024 .f32} {d d' : FVec Ideal S512x1024 .f32} {t : ℕ} (h : Rows D t d) (h' : Rows D' t d') :
    Rows (both D D') t (both d d') := fun i l p e => congrArg₂ (· + ·) (h i l p e) (h' i l p e)

/-- The same operations on a block as in the block's first norm. -/
theorem pay5 (e d d' x : Vec Ideal S512x1024 .f32) (g : Vec Ideal S1x1024 .f32) : k0_pay5 (F := Ideal) e d d' x g = grad e x g (both d d') :=
  NormGrad.pay3 (both d d') e x g
theorem pay7 (d d' x : Vec Ideal S512x1024 .f32) (u : Vec Ideal S1x1024 .f32) (y : S1x1024.Idx) :
    k0_pay7 (F := Ideal) d d' x u y = u y + ∑ i : Fin 512, gain x (both d d') i (y 1) :=
  NormGrad.pay5 (both d d') x u y
theorem pay10 (d y : Vec Ideal S512x1024 .f32) (p : Vec Ideal S1x1024 .f32) : k0_pay10 (F := Ideal) d y p = grad (fun _ => 0) y p d :=
  funext fun j => (zero_add _).symm.trans (congrFun (NormGrad.pay3 d (fun _ => 0) y p) j)
theorem pay1 (d x : Vec Ideal S512x1024 .f32) (u : Vec Ideal S1x1024 .f32) (y : S1x1024.Idx) :
    k0_pay1 (F := Ideal) (k0_pay12 u) (k0_pay13 d x) y = u y + ∑ i : Fin 512, gain x d i (y 1) :=
  NormGrad.pay5 d x u y

/-- The stream's gradient: a block of it, and all of it. -/
def part (t : Fin cfg0.N) : FVec Ideal S512x1024 .f32 := grad (iblk m c 0 t) (iblk m c 1 t) (G0 m c) (both (iblk m c 3 t) (iblk m c 4 t))
def stream : FVec Ideal S4096x1024 .f32 := grad (E0 m c) (X0 m c) (G0 m c) (both (D0 m c) (D1 m c))
theorem part_rows (t : Fin cfg0.N) : Rows (stream m c) t.val (part m c t) := rows_grad _ (in0 m c t) (in1 m c t) (rows_both (in3 m c t) (in4 m c t))

/-- What a point leaves in its blocks. -/
theorem point7 (t : Fin cfg0.N) : (outsAt0 m c t.val t.isLt).1 = part m c t := by
  unfold part
  rw [← in2 m c t, ← pay5]
  by_cases h : t.val % 8 = 0
  · rw [outsAt0_A m c t h h]
    frame_open
    frame_out
  · rw [outsAt0_B m c t h h]
    frame_open
    frame_out
theorem point8 (t : Fin cfg0.N) : (outsAt0 m c t.val t.isLt).2.1 = grad (fun _ => 0) (iblk m c 5 t) (P0 m c) (part m c t) := by
  unfold part
  rw [← in2 m c t, ← in6 m c t, ← pay10, ← pay5]
  by_cases h : t.val % 8 = 0
  · rw [outsAt0_A m c t h h]
    frame_open
    frame_out
  · rw [outsAt0_B m c t h h]
    frame_open
    frame_out
theorem point_A (t : Fin cfg0.N) (h : t.val % 8 = 0) (y : S1x1024.Idx) :
    (outsAt0 m c t.val t.isLt).2.2.1 y = ∑ i : Fin 512, gain (iblk m c 1 t) (both (iblk m c 3 t) (iblk m c 4 t)) i (y 1) ∧
    (outsAt0 m c t.val t.isLt).2.2.2 y = ∑ i : Fin 512, gain (iblk m c 5 t) (part m c t) i (y 1) := by
  unfold part
  rw [← in2 m c t, ← pay5, outsAt0_A m c t h h]
  frame_open
  simp (disch := decide) only [↓ View.readCov_cons_toLoadRect]
  frame_out
  rw [pay7, pay1]
  exact ⟨(congrArg (· + _) bits_zero).trans (zero_add _), (congrArg (· + _) bits_zero).trans (zero_add _)⟩
theorem point_B (t : Fin cfg0.N) (h : ¬ t.val % 8 = 0) (y : S1x1024.Idx) :
    (outsAt0 m c t.val t.isLt).2.2.1 y = (outsAt0 m c (t.val - 1) (Nat.lt_of_le_of_lt (Nat.sub_le _ _) t.isLt)).2.2.1 y +
      ∑ i : Fin 512, gain (iblk m c 1 t) (both (iblk m c 3 t) (iblk m c 4 t)) i (y 1) ∧
    (outsAt0 m c t.val t.isLt).2.2.2 y = (outsAt0 m c (t.val - 1) (Nat.lt_of_le_of_lt (Nat.sub_le _ _) t.isLt)).2.2.2 y +
      ∑ i : Fin 512, gain (iblk m c 5 t) (part m c t) i (y 1) := by
  unfold part
  rw [← in2 m c t, ← pay5, outsAt0_B m c t h h]
  frame_open
  frame_out
  rw [pay7, pay1]
  exact ⟨rfl, rfl⟩

/-- The arrays after the last point. -/
theorem final7 : (dats m 0 c).arrAt 7 cfg0.N = stream m c := by
  refine (dats m 0 c).arrAt_eq_of_covers 7 _ (by decide +kernel) fun t _ y => ?_
  blk_simp
  rw [after0_7, point7]
  refine (part_rows m c t).at y _ ?_ ?_
  all_goals (blk_simp [idx t] <;> try omega)
theorem final8 : (dats m 0 c).arrAt 8 cfg0.N = grad (fun _ => 0) (Y0 m c) (P0 m c) (stream m c) := by
  refine (dats m 0 c).arrAt_eq_of_covers 8 _ (by decide +kernel) fun t _ y => ?_
  blk_simp
  rw [after0_8, point8]
  refine (rows_grad _ (rows_zero _) (in5 m c t) (part_rows m c t)).at y _ ?_ ?_
  all_goals (blk_simp [idx t] <;> try omega)
theorem final9 : (dats m 0 c).arrAt 9 cfg0.N = gains (X0 m c) (both (D0 m c) (D1 m c)) := by
  refine (dats m 0 c).arrAt_eq_of_covers 9 _ (by decide +kernel) fun t hf y => ?_
  have ht : t.val = 7 := (by decide +kernel : ∀ t : Fin cfg0.N, (cfg0.win 9).flush t = true → t.val = 7) t hf
  blk_simp
  rw [after0_9]
  refine gains_blocks (x := fun s => iblk m c 1 s) (d := fun s => both (iblk m c 3 s) (iblk m c 4 s)) (in1 m c)
    (fun s => rows_both (in3 m c s) (in4 m c s)) (fun s h => (outsAt0 m c s h).2.2.1) y
    (fun h => (point_A m c ⟨0, h⟩ rfl y).1) (fun s h h' => (point_B m c ⟨s + 1, h'⟩ ?_ y).1) t.val t.isLt ht _ ?_
  · show ¬ (s + 1) % 8 = 0
    omega
  · blk_simp [idx t]
theorem final10 : (dats m 0 c).arrAt 10 cfg0.N = gains (Y0 m c) (stream m c) := by
  refine (dats m 0 c).arrAt_eq_of_covers 10 _ (by decide +kernel) fun t hf y => ?_
  have ht : t.val = 7 := (by decide +kernel : ∀ t : Fin cfg0.N, (cfg0.win 10).flush t = true → t.val = 7) t hf
  blk_simp
  rw [after0_10]
  refine gains_blocks (x := fun s => iblk m c 5 s) (d := part m c) (in5 m c) (part_rows m c) (fun s h => (outsAt0 m c s h).2.2.2) y
    (fun h => (point_A m c ⟨0, h⟩ rfl y).2) (fun s h h' => (point_B m c ⟨s + 1, h'⟩ ?_ y).2) t.val t.isLt ht _ ?_
  · show ¬ (s + 1) % 8 = 0
    omega
  · blk_simp [idx t]

section
open RefNormMidTwoIdeal.Read
variable (E X : FVec Ideal S4096x1024 .f32) (G : FVec Ideal S1x1024 .f32) (D D' Y : FVec Ideal S4096x1024 .f32) (P : FVec Ideal S1x1024 .f32)

/-- The reference's results: the first norm's operations, twice. -/
theorem refX : val_main_v35 (F := Ideal) E X G D D' = grad E X G (both D D') := NormGrad.refX E X G (both D D')
theorem refG : val_main_v18 (F := Ideal) X D D' = gains X (both D D') := NormGrad.refG X (both D D')
theorem refY : val_main_v70 (F := Ideal) E X G D D' Y P = grad (fun _ => 0) Y P (grad E X G (both D D')) :=
  (NormGrad.refY Y P (val_main_v35 (F := Ideal) E X G D D')).trans (congrArg (grad _ Y P) (refX E X G D D'))
theorem refP : val_main_v53 (F := Ideal) E X G D D' Y = gains Y (grad E X G (both D D')) :=
  (NormGrad.refG Y (val_main_v35 (F := Ideal) E X G D D')).trans (congrArg (gains Y) (refX E X G D D'))
end

end Cert.NormStreamTwo

end
-- ==== Proof.NormEnds.lean ====
/- The two ends: the last block's own norm, behind which nothing follows, and the gain of the memory's norm, whose input needs no gradient. -/
module

public import proofs.«01_k».proof.Proof.NormRows
public import proofs.«01_k».proof.Proof.Gen.NormLastIdeal.Value
public import proofs.«01_k».proof.Proof.Gen.RefNormLastIdeal.Read
public import proofs.«01_k».proof.Proof.Gen.NormGainIdeal.Value
public import proofs.«01_k».proof.Proof.Gen.RefNormGainIdeal.Read

@[expose] public section

set_option maxRecDepth 16384

noncomputable section

namespace Cert.NormEnds

open Idealize.ShloMosaic Idealize.ShloMosaic.Pipeline Cert.Scaled
open Idealize.ShloMosaic.TcCoe Idealize.SL.Sem
open Cert.NormGrad (grad gain gains power Rows rows_zero rows_grad gains_blocks)

section
open Cert.NormLastIdeal Cert.NormLastIdeal.Gen
variable (m : (ℓ : Loc nD τ sig) → Buf (Elt Ideal) ℓ) (c : Dev nD)

/-- The stream's gradient, the norm's input and its gain. -/
def D0 : FVec Ideal S4096x1024 .f32 := V m c (Pipeline.arrRef spec0 0)
def Y0 : FVec Ideal S4096x1024 .f32 := V m c (Pipeline.arrRef spec0 1)
def P0 : FVec Ideal S1x1024 .f32 := V m c (Pipeline.arrRef spec0 2)

/-- Where the blocks lie. -/
theorem idx : ∀ t : Fin cfg0.N, win0_0.index t = ![t.val, 0] ∧ win0_1.index t = ![t.val, 0] ∧ win0_2.index t = ![0, 0] ∧ win0_3.index t = ![t.val, 0] ∧
    win0_4.index t = ![t.val, 0] ∧ win0_5.index t = ![0, 0] :=
  (by decide +kernel : ∀ t : Fin grid0.N, _)

theorem in0 (t : Fin cfg0.N) : Rows (D0 m c) t.val (iblk m c 0 t) := fun i l p h => by blk_point [iblk, V, idx t, h]
theorem in1 (t : Fin cfg0.N) : Rows (Y0 m c) t.val (iblk m c 1 t) := fun i l p h => by blk_point [iblk, V, idx t, h]
theorem in2 (t : Fin cfg0.N) : iblk m c 2 t = P0 m c := by funext j; blk_point [iblk, V, idx t]

/-- The same operations on a block as in the block's first norm. -/
theorem pay4 (d y : Vec Ideal S512x1024 .f32) (p : Vec Ideal S1x1024 .f32) : k0_pay4 (F := Ideal) d y p = grad (fun _ => 0) y p d :=
  funext fun j => (zero_add _).symm.trans (congrFun (NormGrad.pay3 d (fun _ => 0) y p) j)
theorem pay1 (d x : Vec Ideal S512x1024 .f32) (u : Vec Ideal S1x1024 .f32) (y : S1x1024.Idx) :
    k0_pay1 (F := Ideal) (k0_pay6 u) (k0_pay7 d x) y = u y + ∑ i : Fin 512, gain x d i (y 1) :=
  NormGrad.pay5 d x u y

/-- What a point leaves in its blocks. -/
theorem point (t : Fin cfg0.N) : (outsAt0 m c t.val t.isLt).1 = iblk m c 0 t ∧
    (outsAt0 m c t.val t.isLt).2.1 = grad (fun _ => 0) (iblk m c 1 t) (P0 m c) (iblk m c 0 t) := by
  rw [← in2 m c t, ← pay4]
  by_cases h : t.val % 8 = 0
  · rw [outsAt0_A m c t h]
    frame_open
    frame_out
    exact ⟨trivial, trivial⟩
  · rw [outsAt0_B m c t h]
    frame_open
    frame_out
    exact ⟨trivial, trivial⟩
theorem point_A (t : Fin cfg0.N) (h : t.val % 8 = 0) (y : S1x1024.Idx) :
    (outsAt0 m c t.val t.isLt).2.2 y = ∑ i : Fin 512, gain (iblk m c 1 t) (iblk m c 0 t) i (y 1) := by
  rw [outsAt0_A m c t h]
  frame_open
  simp (disch := decide) only [↓ View.readCov_cons_toLoadRect]
  frame_out
  rw [pay1]
  exact (congrArg (· + _) bits_zero).trans (zero_add _)
theorem point_B (t : Fin cfg0.N) (h : ¬ t.val % 8 = 0) (y : S1x1024.Idx) :
    (outsAt0 m c t.val t.isLt).2.2 y = (outsAt0 m c (t.val - 1) (Nat.lt_of_le_of_lt (Nat.sub_le _ _) t.isLt)).2.2 y +
      ∑ i : Fin 512, gain (iblk m c 1 t) (iblk m c 0 t) i (y 1) := by
  rw [outsAt0_B m c t h]
  frame_open
  frame_out
  rw [pay1]

/-- The arrays after the last point. -/
theorem final3 : (dats m 0 c).arrAt 3 cfg0.N = D0 m c := by
  refine (dats m 0 c).arrAt_eq_of_covers 3 _ (by decide +kernel) fun t _ y => ?_
  blk_simp
  rw [after0_3, (point m c t).1]
  refine (in0 m c t).at y _ ?_ ?_
  all_goals (blk_simp [idx t] <;> try omega)
theorem final4 : (dats m 0 c).arrAt 4 cfg0.N = grad (fun _ => 0) (Y0 m c) (P0 m c) (D0 m c) := by
  refine (dats m 0 c).arrAt_eq_of_covers 4 _ (by decide +kernel) fun t _ y => ?_
  blk_simp
  rw [after0_4, (point m c t).2]
  refine (rows_grad _ (rows_zero _) (in1 m c t) (in0 m c t)).at y _ ?_ ?_
  all_goals (blk_simp [idx t] <;> try omega)
theorem final5 : (dats m 0 c).arrAt 5 cfg0.N = gains (Y0 m c) (D0 m c) := by
  refine (dats m 0 c).arrAt_eq_of_covers 5 _ (by decide +kernel) fun t hf y => ?_
  have ht : t.val = 7 := (by decide +kernel : ∀ t : Fin cfg0.N, (cfg0.win 5).flush t = true → t.val = 7) t hf
  blk_simp
  rw [after0_5]
  refine gains_blocks (x := fun s => iblk m c 1 s) (d := fun s => iblk m c 0 s) (in1 m c) (in0 m c) (fun s h => (outsAt0 m c s h).2.2) y
    (fun h => point_A m c ⟨0, h⟩ rfl y) (fun s h h' => point_B m c ⟨s + 1, h'⟩ ?_ y) t.val t.isLt ht _ ?_
  · show ¬ (s + 1) % 8 = 0
    omega
  · blk_simp [idx t]

open RefNormLastIdeal.Read in
/-- The reference's results. -/
theorem last_refY (D Y : FVec Ideal S4096x1024 .f32) (P : FVec Ideal S1x1024 .f32) : val_main_v34 (F := Ideal) D Y P = grad (fun _ => 0) Y P D :=
  NormGrad.refY Y P D
open RefNormLastIdeal.Read in
theorem last_refP (D Y : FVec Ideal S4096x1024 .f32) : val_main_v17 (F := Ideal) D Y = gains Y D := NormGrad.refG Y D
end

section
open Cert.NormGainIdeal Cert.NormGainIdeal.Gen
variable (m : (ℓ : Loc nD τ sig) → Buf (Elt Ideal) ℓ) (c : Dev nD)

/-- The memory and the gradient behind its norm. -/
def M0 : FVec Ideal S256x1024 .f32 := V m c (Pipeline.arrRef spec0 0)
def N0 : FVec Ideal S256x1024 .f32 := V m c (Pipeline.arrRef spec0 2)

/-- One block holds the whole memory. -/
theorem mem (x d : Vec Ideal S256x1024 .f32) : k0_pay1 (F := Ideal) x d = gains x d := by
  funext y
  idx_vars y
  unfold gains gain power
  simp only [← div_len]
  pointwise [k0_pay1]

theorem mem_final : (dats m 0 c).arrAt 3 cfg0.N = gains (M0 m c) (N0 m c) := by
  rw [NormGainIdeal.Value.final3, ← mem]
  rfl

open RefNormGainIdeal.Read in
/-- The reference's result. -/
theorem mem_ref (X D : FVec Ideal S256x1024 .f32) : val_main_v17 (F := Ideal) X D = gains X D := by
  have root : ∀ i : RefNormGainIdeal.S256x1.Idx, val_main_v7 (F := Ideal) X i = Ideal.rsqrt (power fun l => X (ix2 (i 0) l)) := fun i => by
    refine congrArg Ideal.rsqrt ?_
    rw [val_main_v6_apply, val_main_v4_apply, val_main_v2_apply, val_main_v1_apply]
    refine (congrArg (fun s => Ideal.div s _ + _) ((congrArg (· + _) bits_zero).trans (zero_add _))).trans ?_
    unfold power
    rw [← div_len]
    refine congrArg (fun s => Ideal.div s _ + _) (Finset.sum_congr rfl fun l _ => ?_)
    rw [show idx_main_v1 (idx_main_v2 i) l = ix2 (i 0) l by blk_ext]
    rfl
  funext j
  rw [val_main_v17_apply, val_main_v16_apply]
  refine (congrArg (· + _) bits_zero).trans ((zero_add _).trans (Finset.sum_congr rfl fun i _ => ?_))
  rw [val_main_v15_apply, val_main_v12_apply, val_main_v11_apply, root, show idx_main_v16 (idx_main_v17 j) i = ix2 i (j 1) by blk_ext]
  exact mul_comm _ _
end

end Cert.NormEnds

end
-- ==== Proof.LossMesh.lean ====
/- The sum of the devices' parts of the loss: the run of the all-reduce on the eight devices, and what it leaves on each. -/
module

public import proofs.«01_k».proof.Proof.Gen.LossSumIdeal
public import proofs.«01_k».proof.Proof.Gen.LossSumIdeal.Launch
public import Idealize.ShloMosaic.Lib.StableHlo.CollectiveRules
public import Idealize.ShloMosaic.Lib.Pipeline.Regions
public import Idealize.ShloMosaic.Lib.Pipeline.RegionsOwned
public import Idealize.ShloMosaic.Lib.Pipeline.FrameSuffix
public import Idealize.ShloMosaic.Lib.Pipeline.CollectiveSegs
public import Idealize.ShloMosaic.Lib.Pipeline.Kit
public import Idealize.ShloMosaic.Lib.Tactic

@[expose] public section

noncomputable section

namespace Cert.LossMesh

open Cert.LossSumIdeal Cert.LossSumIdeal.Gen
open Cert.LossSumIdeal.Gen.Sites (L lv)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipelines' component, which no call uses here, beside the all-reduce's. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

/-- A device's buffers at launch. -/
abbrev start (c : Dev nD) : Valuation τ sig (Elt F) := fun b => m ((c : Dev nD), b)
/-- They after the slice and the reshape, when the all-reduce begins. -/
abbrev entry (c : Dev nD) : Valuation τ sig (Elt F) := StableHlo.after (hostOps0 (F := F)) (start m c)
/-- They after the all-reduce. -/
abbrev exit (c : Dev nD) : Valuation τ sig (Elt F) := (ar0 (F := F)).after₀ (entry m) c

abbrev adm : (p : Fin 0) → (pcfgs (F := F) p).Adm := fun p => p.elim0
abbrev dats : (p : Fin 0) → (c : Dev nD) → Pipeline.Dat τ (Elt F) ℕ ℕ UU ℕ (Pipeline.pin (pcfgs (F := F)) adm p) c := fun p => p.elim0

/-- The all-reduce's cells stand under their invariants. -/
abbrev invs : sProp 𝕄 := iprop(∃ κ, (AllReduce.Dat.once (ar0 (F := F)) (entry m)).cellInvs (Sites.E0 EC) κ)

/-- The device's buffers, all of them, held at a valuation. -/
abbrev all (c : Dev nD) (W : Valuation τ sig (Elt F)) : sProp 𝕄 := StableHlo.held (c : Thread nD τ) (Pipeline.ucRefs τ sig) W

theorem ops_sub : ∀ op ∈ (hostOps0 : List (HloOp τ sig (Elt F))), op.bufs ⊆ Pipeline.ucRefs τ sig := fun op h =>
  Pipeline.sub_ucRefs op (List.forall_iff_forall_mem.mp hostOps0_sub op h)

omit [FloatOps F] in
theorem ops_fresh : ∀ op ∈ (hostOps0 : List (HloOp τ sig (Elt F))), op.fresh = ∅ := fun op h => by
  rcases List.mem_cons.mp h with rfl | h
  · rfl
  · obtain rfl := List.mem_singleton.mp h; rfl

local notation "ℍ" => Pipeline.HostSeg (Name := ℕ) (U := UU) (pcfgs (F := F)) defs₀ Variants.none L lv

/-- The slice and the reshape, everything the all-reduce needs from the launch riding along. -/
def seg0 : ℍ := Pipeline.HostSeg.ofOps _ _ _ _ _ (Pipeline.ucRefs τ sig) (hostOps0 (F := F)) ops_sub ops_fresh (start m)
  (fun c => iprop(Sites.Es EC (entry m) 0 c ∗ invs m))
/-- The all-reduce. -/
def seg1 : ℍ := Sites.seg0 EC Variants.none (entry m) (Sites.Rest0 (entry m) fun _ => invs m)

def segs : List (Pipeline.Seg (pcfgs (F := F)) adm dats 0 defs₀ Variants.none L lv) := [.host (seg0 m), .host (seg1 m)]

theorem main_eq (c : Dev nD) : main (F := F) c = Pipeline.Seg.run (segs m) :=
  main_segs adm dats 0 Variants.none L lv (seg0 m) (seg1 m) rfl rfl c

/-- What a device holds at the start, and at the end. -/
abbrev first (c : Dev nD) : sProp 𝕄 := iprop(all c (start m c) ∗ Sites.Es EC (entry m) 0 c)
abbrev last (c : Dev nD) : sProp 𝕄 := iprop(all c (exit m c) ∗ invs m ∗ Sites.Ghost0 EC c)

theorem first_seg0 (c : Dev nD) : first m c ⊢ (seg0 (F := F) m).pre c := by
  show first m c ⊢ iprop(all c (start m c) ∗ (Sites.Es EC (entry m) 0 c ∗ invs m))
  unfold first; rw [Sites.Es_0]
  iintro ⟨Hb, HO, Hp, Hr⟩
  ihave #Hi := (show Sites.rides0 EC (entry m) c ⊢ invs m from by unfold Sites.rides0 AllReduce.Dat.rides; iintro ⟨Hi, -⟩; iexact Hi) $$ Hr
  isplitl [Hb]; · iexact Hb
  isplitl [HO Hp Hr]
  · isplitl [HO]; · iexact HO
    isplitl [Hp] <;> iassumption
  iexact Hi

theorem seg0_seg1 (c : Dev nD) : (seg0 m).post c ⊢ (seg1 (F := F) m).pre c :=
  Sites.pre0 EC Variants.none (entry m) (fun _ => invs m) c

theorem seg1_last (c : Dev nD) : (seg1 m).post c ⊢ iprop(last (F := F) m c ∗ ∃ W, owes (c : Thread nD τ) (0 : CellTallies nD τ sig ℕ) W) := by
  refine (Sites.post0 EC Variants.none (entry m) (fun _ => invs m) c).trans ?_
  iintro ⟨Hb, He, Hg, Hi⟩
  isplitl [Hb Hg Hi]
  · isplitl [Hb]; · iexact Hb
    isplitl [Hi] <;> iassumption
  iapply (Sites.hE_last EC (entry m) c); iexact He

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (entry m) c)) ∗ levAts L lv)
      ⊢ (|={Set.univ}=> bigSep Finset.univ (first m) : sProp 𝕄) := by
  have h (c : Dev nD) : (unscopedBufs c (fun b => m ((c : Thread nD τ).loc b)) : sProp 𝕄) = all c (start m c) :=
    Pipeline.unscopedBufs_held (Ix := ℕ) (Name := ℕ) (U := UU) (Lvl := ℕ) c (start m c)
  rw [show (bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (entry m) c))
      = iprop((bigSep Finset.univ fun c : Dev nD => all c (start m c)) ∗ bigSep Finset.univ fun c : Dev nD => iprop(unscopedSems0 c
          ∗ owes (c : Thread nD τ) (Sites.O0 (F := F) c) ∅ ∗ Pipeline.launchCred (Sites.O0 (F := F)) c ∗ prngReg c (ρ c) ∗ Sites.G EC (entry m) c)) from by
    rw [← bigSep_sep']; exact bigSep_congr fun c _ => by rw [h c]]
  iintro ⟨⟨Hb, Hr⟩, Hl⟩
  imod (Sites.hE0 EC (entry m) ρ) $$ [Hr Hl] with He
  · isplitl [Hr] <;> iassumption
  imodintro
  iapply (show iprop((bigSep Finset.univ fun c : Dev nD => all c (start m c)) ∗ bigSep Finset.univ (Sites.Es EC (entry m) 0)) ⊢ bigSep Finset.univ (first m)
    from by rw [← bigSep_sep'])
  isplitl [Hb] <;> iassumption

set_option backward.isDefEq.respectTransparency.types false in
/-- Every fair run ends, with each buffer of a device at the contents after the all-reduce and every semaphore counter at zero. -/
theorem run : θ_run defs (onTc (τ := τ) (main (F := F))) ⟨m, fun _ => 0, ρ⟩
    (fun r => (∀ (c : Dev nD) (b : DevRef τ sig), b ∈ Pipeline.ucRefs τ sig → r.2.mem (c, b) = exit m c b) ∧ r.2.sem = fun _ => 0) :=
  Pipeline.θ_run_regions_kit_sems (pcfgs (F := F)) adm dats 0 cellOf_inj EP defs₀ Variants.none L lv m ρ main (segs m)
    (fun c Q => by rw [main_eq m c])
    (by simp only [segs, Pipeline.Seg.pipes_host, Pipeline.Seg.pipes_nil]; exact List.nodup_nil)
    (O₀ := Sites.O0 (F := F)) (hL := Sites.hL) (G := Sites.G EC (entry m))
    (u₀ := (initOf (Pipeline.cells (Pipeline.pin (pcfgs (F := F)) adm) cellOf_inj) (Pipeline.launchToks (Pipeline.pin (pcfgs (F := F)) adm) cellOf_inj),
      Sites.uC (U := UU) (entry m)))
    (hu₀ := by
      iintro Hu
      ihave H := (ownU_pair _ _) $$ Hu
      icases H with ⟨HP, HX⟩
      imodintro
      isplitl [HP]; · iexact HP
      rw [Sites.bigSep_G]; iexact HX)
    (T₀ := first m) (Tₙ := last m)
    (hch := ⟨first_seg0 m, seg0_seg1 m, seg1_last m⟩)
    (hinit := init m ρ)
    (QY := fun c s => (∀ b ∈ Pipeline.ucRefs τ sig, s.mem (c, b) = exit m c b)
      ∧ s.sem ((ar0 (F := F)).barrierCell c) = 0 ∧ s.sem ((ar0 (F := F)).recvCell c) = 0 ∧ s.sem ((ar0 (F := F)).sendCell c) = 0)
    (hfin := fun c s' => by
      refine Laws.pure_elim _ ((sep_mono_left sep_elim_left).trans (sep_comm.1.trans (SI_pointsTo_bufs_agree (qs := fun _ => fullShare) (Pipeline.ucRefs τ sig)))) fun h => ?_
      iintro ⟨⟨-, He⟩, HSI⟩
      imod ((AllReduce.Dat.once (ar0 (F := F)) (entry m)).ghostAfter_read (Sites.E0 EC) c (k := 0) le_rfl s') $$ [He HSI] with ⟨%ha, HSI⟩
      · isplitl [He] <;> iassumption
      imodintro
      isplitr; · ipureintro; exact ⟨h, ha⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-- The argument is no buffer of the all-reduce. -/
theorem arg_off : (main_arg0 : DevRef τ sig) ∉ (ar0 (F := F)).siteRefs := by
  have h (b : Ref sig .tc) (hb : main_arg0 ≠ b) : (main_arg0 : DevRef τ sig) ≠ b := fun e => hb (Proc.devRef_injective _ e)
  have hs : ∀ j : Fin 8, main_arg0 ≠ ar0_stage j := by decide
  intro hm
  rcases (ar0 (F := F)).mem_siteRefs.mp hm with e | e | ⟨j, e⟩
  · exact h main_v3 (by decide) e
  · exact h main_v2 (by decide) e
  · exact h _ (hs j) e

/-- The argument ends as it began. -/
theorem kept (c : Dev nD) : exit m c main_arg0 = m ((c.tc : Thread nD τ).loc main_arg0) := by
  have h : exit m c main_arg0 = entry m c main_arg0 := (ar0 (F := F)).after₀_off_siteRefs (entry m) c (arg_off (F := F))
  rw [h]
  unfold entry
  after_results

/-- A buffer a claim names is one of those that `run` speaks of. -/
theorem mem_uc {b : Ref sig .tc} (h : (b : DevRef τ sig).isScoped = false) : (b : DevRef τ sig) ∈ Pipeline.ucRefs τ sig :=
  Finset.mem_filter.mpr ⟨StableHlo.devRef_mem_tcRefs b, by simp [h]⟩

end Cert.LossMesh

end
-- ==== Proof.LossMeshSum.lean ====
/- What the all-reduce leaves on every device: the sum of the eight parts, which is the sum of the whole array of parts. -/
module

public import proofs.«01_k».proof.Proof.LossMesh
public import proofs.«01_k».proof.Proof.Gen.RefLossSumIdeal.Read
public import Idealize.ShloMosaic.Lib.Layout
public import Idealize.ShloMosaic.Lib.StableHlo.AllReduceFold
public import Idealize.ShloMosaic.Lib.Pipeline.Value

@[expose] public section

noncomputable section

namespace Cert.LossMeshSum

open Cert.LossSumIdeal Cert.LossSumIdeal.Gen
open Idealize.ShloMosaic Idealize.ShloMosaic.TcCoe
open Cert.LossMesh

/-- Where a device's row holds its part. -/
def at0 : S1x128.Idx := fun b => match b with
  | ⟨0, _⟩ => (0 : Fin 1)
  | ⟨1, _⟩ => (0 : Fin 128)

variable (m : (ℓ : Loc nD τ sig) → Buf (Elt Ideal) ℓ)

/-- Device `c`'s part. -/
def part (c : Dev nD) : EReal := m ((c.tc : Thread nD τ).loc main_arg0) at0

/-- What device `c` sends: its part. -/
theorem entry_part (c : Dev nD) (i : S_.Idx) : entry m c main_v2 i = part m c := by
  have h : entry m c main_v2 = shapeCast S_ (extractStridedSlice S1x1 ![0, 0] (m ((c.tc : Thread nD τ).loc main_arg0)) slices_S1x128_S1x1_0_0) shapeCasts_S1x1_S_ := by
    unfold entry
    after_results
    rfl
  rw [h]
  have hz (k : S1x1.Idx) : extractStridedSlice S1x1 ![0, 0] (m ((c.tc : Thread nD τ).loc main_arg0)) slices_S1x128_S1x1_0_0 k
      = m ((c.tc : Thread nD τ).loc main_arg0) at0 :=
    extractStridedSlice_apply ![0, 0] (m ((c.tc : Thread nD τ).loc main_arg0)) slices_S1x128_S1x1_0_0 k at0 fun b => by
      have h0 : (k b).val = 0 := by
        fin_cases b
        · exact congrArg Fin.val (Subsingleton.elim (α := Fin 1) (k 0) 0)
        · exact congrArg Fin.val (Subsingleton.elim (α := Fin 1) (k 1) 0)
      fin_cases b <;> simp [at0] <;> exact h0.symm
  exact hz _

/-- The devices' group lists them in order. -/
theorem peer_eq (c : Dev nD) (j : Fin 8) : (ar0 (F := Ideal)).peer c j = j := by
  revert c j; decide

/-- The left fold over the group is the sum. -/
theorem fold_sum (v : Fin 8 → (⟨S_, .f32⟩ : BufTy).Contents (Elt Ideal)) (i : S_.Idx) :
    (ar0 (F := Ideal)).foldGroup v i = ∑ j : Fin 8, (v j i : EReal) := by
  rw [Fin.sum_univ_eight]
  rfl

/-- What the all-reduce leaves is its fold of what the devices send. -/
theorem exit_fold (c : Dev nD) :
    exit m c main_v3 = (ar0 (F := Ideal)).foldGroup fun j => entry m ((ar0 (F := Ideal)).peer c j) main_v2 :=
  ((ar0 (F := Ideal)).after₀_result (entry m) c).trans (cast_eq _ _)

/-- What the all-reduce leaves: the sum of the parts. -/
theorem exit_sum (c : Dev nD) (i : S_.Idx) : exit m c main_v3 i = ∑ j : Fin 8, part m j := by
  refine (congrFun (exit_fold m c) i).trans ((fold_sum (fun j => entry m ((ar0 (F := Ideal)).peer c j) main_v2) i).trans ?_)
  have h : ∀ j : Fin 8, (entry m ((ar0 (F := Ideal)).peer c j) main_v2 i : EReal) = part m j :=
    fun j => (entry_part m _ i).trans (congrArg (part m) (peer_eq c j))
  exact congrArg (fun f : Fin 8 → EReal => ∑ j, f j) (funext h)

/-- The devices are the indices that the reference sums over. -/
def rows : Fin 8 ≃ Cert.RefLossSumIdeal.S8.Idx where
  toFun j := fun b => match b with
    | ⟨0, _⟩ => j
  invFun i := i 0
  left_inv _ := rfl
  right_inv i := by funext b; fin_cases b; rfl

/-- Where each device holds its block of the array of parts, the all-reduce leaves the reference's sum. -/
theorem value (x : (⟨Cert.RefLossSumIdeal.S8x128, .f32⟩ : BufTy).Contents (Elt Ideal))
    (hx : ∀ c : Dev nD, m ((c.tc : Thread nD τ).loc main_arg0) = Layout.block ⟨2, ![1, 128]⟩ ⟨2, ![8, 128]⟩ 0 8 c x) (c : Dev nD) :
    exit m c main_v3 = Cert.RefLossSumIdeal.Read.val_main_v2 (F := Ideal) x := by
  funext i
  have h0 : (FloatOps.ofBits (F := Ideal) .f32 0x00000000#32) = (0 : EReal) := by simp [Ideal.ofBits, Ideal.ieee]
  refine (exit_sum m c i).trans (Eq.symm ?_)
  rw [Cert.RefLossSumIdeal.Read.val_main_v2_apply, Cert.RefLossSumIdeal.Read.val_main_cst_apply, h0]
  refine (zero_add (∑ k : Cert.RefLossSumIdeal.S8.Idx, (Cert.RefLossSumIdeal.Read.val_main_v1 (F := Ideal) x k : EReal))).trans ?_
  refine (Equiv.sum_comp rows (fun k => (Cert.RefLossSumIdeal.Read.val_main_v1 (F := Ideal) x k : EReal))).symm.trans (Eq.symm ?_)
  refine Finset.sum_congr rfl fun j _ => ?_
  rw [Cert.RefLossSumIdeal.Read.val_main_v1_apply, Cert.RefLossSumIdeal.Read.val_main_v0_apply]
  unfold part
  rw [hx j, Layout.block_apply]
  refine congrArg x (funext fun b => ?_)
  fin_cases b
  · exact Fin.ext (by rw [Layout.Tiles.idx_val]; simp [at0]; rfl)
  · exact Fin.ext (by rw [Layout.Tiles.idx_val]; simp [at0])

end Cert.LossMeshSum

end
-- ==== Proof.RopeTurn.lean ====
/- The turn of the rotary embedding taken back, row by row, and the backward kernel's block of 256 rows read that way. -/
module

public import proofs.«01_k».proof.Proof.Gen.RopeBackIdeal.Value
public import Idealize.ShloMosaic.Lib.Pipeline.ValueKit
public import Idealize.ShloMosaic.Lib.KernelVsHost
public import proofs.«01_k».proof.Proof.Scaled

@[expose] public section

set_option maxRecDepth 16384

noncomputable section

namespace Cert.RopeTurn

open Idealize.ShloMosaic Idealize.ShloMosaic.Pipeline
open Cert.RopeBackIdeal Cert.RopeBackIdeal.Gen

/-- The lane `k` further along a row, around its end. -/
def lane (l : Fin 512) (k : Nat) : Fin 512 := ⟨(l.val + k) % 512, Nat.mod_lt _ (by decide)⟩

/-- A row turned back: in each head's 64 lanes, the first half takes the second half of the row and the second half takes the first with
    its sign changed, each by the sine, and the row itself by the cosine. -/
def turned (x c s : Fin 512 → EReal) (l : Fin 512) : EReal :=
  x l * c l + (if l.val % 64 < 32 then x (lane l 32) else -x (lane l 480)) * s l

/-- A row of the result: the queries' gradient turned back, the keys' turned back, the values'. -/
def row (q k v c s : Fin 512 → EReal) (l : Fin 1536) : EReal :=
  let u : Fin 512 := ⟨l.val % 512, Nat.mod_lt _ (by decide)⟩
  if l.val < 512 then turned q c s u else if l.val < 1024 then turned k c s u else v u

/-- The lane of a table of 128 lanes, laid four times along a row. -/
def wrap (l : Fin 512) : Fin 128 := ⟨l.val % 128, Nat.mod_lt _ (by decide)⟩

/-- All rows, from the nine gradients and the two tables. -/
def whole {n : Nat} (x0 x1 x2 x3 x4 x5 x6 x7 x8 : (⟨2, ![n, 512]⟩ : Shape).Idx → EReal) (x9 x10 : (⟨2, ![n, 128]⟩ : Shape).Idx → EReal)
    (i : Fin n) (l : Fin 1536) : EReal :=
  row (fun l => x0 (ix2 i l) + x1 (ix2 i l) + x2 (ix2 i l)) (fun l => x3 (ix2 i l) + x4 (ix2 i l) + x5 (ix2 i l))
    (fun l => x6 (ix2 i l) + x7 (ix2 i l) + x8 (ix2 i l)) (fun l => x9 (ix2 i (wrap l))) (fun l => x10 (ix2 i (wrap l))) l

/-- The factor of the half turned with its sign changed. -/
theorem bits_neg_one : Ideal.ofBits .f32 0xBF800000#32 = ((-1 : ℝ) : EReal) := by
  simp [Ideal.ofBits, Ideal.ieee]
  rw [← EReal.coe_one, ← EReal.coe_mul, EReal.coe_eq_coe_iff]
  norm_num

/-- The mask marks the first half of every head's lanes. -/
theorem mask_lane : ∀ l : Fin 512, k0_pay14 (ix2 (0 : Fin 256) l) = if l.val % 64 < 32 then 1#1 else 0#1 := by decide +kernel
theorem mask (i : Fin 256) (l : Fin 512) : k0_pay14 (ix2 i l) = if l.val % 64 < 32 then 1#1 else 0#1 := mask_lane l

/-- A table's row laid out four times. -/
theorem table (x : Vec Ideal S256x128 .f32) (i : Fin 256) (l : Fin 512) : (k0_pay3 (F := Ideal) x : FVec Ideal S256x512 .f32) (ix2 i l) = x (ix2 i (wrap l)) := by
  unfold k0_pay3
  rw [shapeCast_self]
  exact concatenate_replicate_apply (t := S256x512) (1 : Fin 2) 4 x _ rfl (ix2 i l) (ix2 i (wrap l)) rfl fun b hb => by
    fin_cases b
    · rfl
    · exact absurd rfl hb

/-- The row's lanes moved around by 480 and by 32. -/
theorem move (x : Vec Ideal S256x512 .f32) (i : Fin 256) (l : Fin 512) (k d : Nat) (hd : d < 512) (hk : k = 512 - d) (h0 : 0 < d) :
    dynamicRotate 1 (BitVec.ofNat 32 d) none x rotates_S256x512_d1 (ix2 i l) = x (ix2 i (lane l k)) :=
  dynamicRotate_apply (1 : Fin 2) _ x _ _ _ fun b => by
    fin_cases b
    · rfl
    · show (l.val + k) % 512 = (l.val + 512 - (BitVec.ofNat 32 d).toNat % 512) % 512
      rw [BitVec.toNat_ofNat]
      omega

/-- A block's queries and keys turned back. -/
theorem pay1 (c s : Vec Ideal S256x128 .f32) (x : Vec Ideal S256x512 .f32) (i : Fin 256) (l : Fin 512) :
    k0_pay1 (F := Ideal) (k0_pay4 s) x (k0_pay13 (k0_pay3 c) x) k0_pay14 (k0_pay15 x) k0_pay16 (ix2 i l) =
      turned (fun l => x (ix2 i l)) (fun l => c (ix2 i (wrap l))) (fun l => s (ix2 i (wrap l))) l := by
  have h480 := move x i l 32 480 (by decide) rfl (by decide)
  have h32 := move x i l 480 32 (by decide) rfl (by decide)
  show x (ix2 i l) * k0_pay3 (F := Ideal) c (ix2 i l) + (if k0_pay14 (ix2 i l) = 1#1 then
      Ideal.ofBits .f32 0x3F800000#32 * dynamicRotate 1 480#32 none x rotates_S256x512_d1 (ix2 i l)
      else Ideal.ofBits .f32 0xBF800000#32 * dynamicRotate 1 32#32 none x rotates_S256x512_d1 (ix2 i l)) * k0_pay3 (F := Ideal) s (ix2 i l) = _
  rw [table, table, mask, h480, h32]
  unfold turned
  congr 2
  by_cases h : l.val % 64 < 32
  · rw [if_pos h, if_pos h, if_pos rfl, Scaled.bits_one, EReal.coe_one, one_mul]
  · rw [if_neg h, if_neg h, if_neg (by decide), bits_neg_one, EReal.coe_neg, EReal.coe_one, EReal.neg_mul, one_mul]

/-- The three pieces of a row. -/
theorem row_q (q k v c s : Fin 512 → EReal) (l : Fin 512) (u : Fin 1536) (h : u.val = l.val) : row q k v c s u = turned q c s l := by
  have hu : (⟨u.val % 512, Nat.mod_lt _ (by decide)⟩ : Fin 512) = l := Fin.ext (by show u.val % 512 = l.val; omega)
  unfold row
  simp only [hu]
  rw [if_pos (by omega)]
theorem row_k (q k v c s : Fin 512 → EReal) (l : Fin 512) (u : Fin 1536) (h : u.val = 512 + l.val) : row q k v c s u = turned k c s l := by
  have hu : (⟨u.val % 512, Nat.mod_lt _ (by decide)⟩ : Fin 512) = l := Fin.ext (by show u.val % 512 = l.val; omega)
  unfold row
  simp only [hu]
  rw [if_neg (by omega), if_pos (by omega)]
theorem row_v (q k v c s : Fin 512 → EReal) (l : Fin 512) (u : Fin 1536) (h : u.val = 1024 + l.val) : row q k v c s u = v l := by
  have hu : (⟨u.val % 512, Nat.mod_lt _ (by decide)⟩ : Fin 512) = l := Fin.ext (by show u.val % 512 = l.val; omega)
  unfold row
  simp only [hu]
  rw [if_neg (by omega), if_neg (by omega)]

/-- What a point leaves in its block. -/
theorem block (x0 x1 x2 x3 x4 x5 x6 x7 x8 : Vec Ideal S256x512 .f32) (x9 x10 : Vec Ideal S256x128 .f32) (y : S256x1536.Idx) :
    out0_11 (F := Ideal) x0 x1 x2 x3 x4 x5 x6 x7 x8 x9 x10 y = whole x0 x1 x2 x3 x4 x5 x6 x7 x8 x9 x10 (y 0) (y 1) := by
  unfold_out out0_11
  have h0 : ∀ X : Vec Ideal S256x128 .f32, View.ld X r0_0 = X := fun X => View.ld_unit_lit _ X (by decide)
  have h1 : ∀ X : Vec Ideal S256x512 .f32, View.ld X r0_1 = X := fun X => View.ld_unit_lit _ X (by decide)
  rw [h0, h0, h1, h1, h1, h1, h1, h1, h1, h1, h1]
  refine View.canon_append_of_pieces (Val := Elt Ideal) (e := .bf16) (fun y : S256x1536.Idx => whole x0 x1 x2 x3 x4 x5 x6 x7 x8 x9 x10 (y 0) (y 1))
    [] _ ?_ y (cover0_11 _ _ _ y)
  have row0 : ∀ (o : Nat) inb (x : S256x512.Idx), ((Rect.unit (s := S256x1536) ![0, o] S256x512.size inb).emb x) 0 = x 0 := fun o inb x =>
    Fin.ext (by show 0 + 1 * (x 0).val = (x 0).val; omega)
  have lane1 : ∀ (o : Nat) inb (x : S256x512.Idx), (((Rect.unit (s := S256x1536) ![0, o] S256x512.size inb).emb x) 1).val = o + (x 1).val :=
    fun o inb x => by show o + 1 * (x 1).val = o + (x 1).val; omega
  intro p hp x
  simp only [List.mem_cons, List.mem_nil_iff, or_false] at hp
  rcases hp with rfl | rfl | rfl
  · refine Eq.trans ?_ (row_v _ _ _ _ _ (x 1) _ (lane1 1024 inb_S256x1536_S256x512_0_1024 x)).symm
    rw [row0 1024 inb_S256x1536_S256x512_0_1024 x]
    exact congrArg (k0_pay2 (F := Ideal) (k0_pay7 x6 x7 x8)) (ix2_eta x).symm
  · refine Eq.trans ?_ (row_k _ _ _ _ _ (x 1) _ (lane1 512 inb_S256x1536_S256x512_0_512 x)).symm
    rw [row0 512 inb_S256x1536_S256x512_0_512 x]
    refine (congrArg _ (ix2_eta x).symm).trans (pay1 x9 x10 (k0_pay6 x3 x4 x5) (x 0) (x 1))
  · refine Eq.trans ?_ (row_q _ _ _ _ _ (x 1) _ ((lane1 0 inb_S256x1536_S256x512_0_0 x).trans (Nat.zero_add _))).symm
    rw [row0 0 inb_S256x1536_S256x512_0_0 x]
    refine (congrArg _ (ix2_eta x).symm).trans (pay1 x9 x10 (k0_pay5 x0 x1 x2) (x 0) (x 1))

end Cert.RopeTurn

end
-- ==== Proof.RopeBack.lean ====
/- The backward rotary call over the whole arrays, and its reference. -/
module

public import proofs.«01_k».proof.Proof.RopeTurn
public import proofs.«01_k».proof.Proof.Gen.RefRopeBackIdeal.Read

@[expose] public section

set_option maxRecDepth 16384

noncomputable section

namespace Cert.RopeBack

open Idealize.ShloMosaic Idealize.ShloMosaic.Pipeline
open Idealize.ShloMosaic.TcCoe Idealize.SL.Sem
open Cert.RopeTurn

/-- The lane of a table of 32 lanes that a lane of a row takes. -/
def angle (l : Fin 512) : Fin 32 := ⟨l.val % 32, Nat.mod_lt _ (by decide)⟩

section
open Cert.RefRopeBackIdeal Cert.RefRopeBackIdeal.Read

variable (x y z : FVec Ideal S4096x512 .f32) (p : IVec S4096 32)

/-- The cosines and sines of the rows' angles. -/
def cosines : FVec Ideal S4096x32 .f32 := val_main_v45 (F := Ideal) p
def sines : FVec Ideal S4096x32 .f32 := val_main_v47 (F := Ideal) p

/-- A lane's head and its place in the head's half. -/
def head (l : Fin 512) : Fin 8 := ⟨l.val / 64, by omega⟩

/-- The halves of a head, turned back. -/
theorem half_lo (r : Fin 4096) (l : Fin 512) (h : l.val % 64 < 32) : val_main_v82 (F := Ideal) x y z p (ix3 r (head l) (angle l)) =
    (x (ix2 r (lane l 32)) + y (ix2 r (lane l 32)) + z (ix2 r (lane l 32))) * sines p (ix2 r (angle l)) +
      (x (ix2 r l) + y (ix2 r l) + z (ix2 r l)) * cosines p (ix2 r (angle l)) := by
  rw [val_main_v82_apply, val_main_v73_apply, val_main_v81_apply, val_main_v71_apply, val_main_v70_apply, val_main_v72_apply, val_main_v80_apply,
    val_main_v69_apply, val_main_v69_apply, val_main_v48_apply, val_main_v46_apply]
  rw [show idx_main_v69 (idx_main_v71 (ix3 r (head l) (angle l))) = ix2 r (lane l 32) by blk_ext; simp only [head, angle, lane]; omega,
    show idx_main_v69 (idx_main_v70 (ix3 r (head l) (angle l))) = ix2 r l by blk_ext; simp only [head, angle]; omega,
    show idx_main_v48 (idx_main_v72 (ix3 r (head l) (angle l))) = ix2 r (angle l) by blk_ext,
    show idx_main_v46 (idx_main_v80 (ix3 r (head l) (angle l))) = ix2 r (angle l) by blk_ext]
  rfl
theorem half_hi (r : Fin 4096) (l : Fin 512) (h : ¬ l.val % 64 < 32) : val_main_v79 (F := Ideal) x y z p (ix3 r (head l) (angle l)) =
    (x (ix2 r l) + y (ix2 r l) + z (ix2 r l)) * cosines p (ix2 r (angle l)) +
      -(x (ix2 r (lane l 480)) + y (ix2 r (lane l 480)) + z (ix2 r (lane l 480))) * sines p (ix2 r (angle l)) := by
  rw [val_main_v79_apply, val_main_v75_apply, val_main_v78_apply, val_main_v76_apply, val_main_v71_apply, val_main_v70_apply, val_main_v74_apply,
    val_main_v77_apply, val_main_v69_apply, val_main_v69_apply, val_main_v48_apply, val_main_v46_apply]
  rw [show idx_main_v69 (idx_main_v71 (ix3 r (head l) (angle l))) = ix2 r l by blk_ext; simp only [head, angle]; omega,
    show idx_main_v69 (idx_main_v70 (ix3 r (head l) (angle l))) = ix2 r (lane l 480) by blk_ext; simp only [head, angle, lane]; omega,
    show idx_main_v48 (idx_main_v77 (ix3 r (head l) (angle l))) = ix2 r (angle l) by blk_ext,
    show idx_main_v46 (idx_main_v74 (ix3 r (head l) (angle l))) = ix2 r (angle l) by blk_ext]
  rfl

/-- The reference's keys, turned back. -/
theorem ref_k (r : Fin 4096) (l : Fin 512) : val_main_v86 (F := Ideal) x y z p (ix2 r l) =
    turned (fun l => x (ix2 r l) + y (ix2 r l) + z (ix2 r l)) (fun l => cosines p (ix2 r (angle l))) (fun l => sines p (ix2 r (angle l))) l := by
  rw [val_main_v86_apply, val_main_v85_apply]
  unfold turned
  by_cases h : l.val % 64 < 32
  · rw [if_pos h]
    refine (congrArg₂ (· + ·) (pad_apply_of_not_inside _ _ _ _ _ _ _ (idx_main_v86 (ix2 r l)) (2 : Fin 3) ?_)
      (pad_apply_of_inside _ _ _ _ _ _ _ (idx_main_v86 (ix2 r l)) (ix3 r (head l) (angle l)) ?_)).trans ?_
    · show ¬(32 ≤ (r.val * 512 + l.val) % 64 ∧ _)
      omega
    · intro a
      fin_cases a
      · show (r.val * 512 + l.val) / 512 = 0 + r.val * (0 + 1)
        omega
      · show (r.val * 512 + l.val) / 64 % 8 = 0 + l.val / 64 * (0 + 1)
        omega
      · show (r.val * 512 + l.val) % 64 = 0 + l.val % 32 * (0 + 1)
        omega
    · rw [half_lo x y z p r l h]
      exact (congrArg (· + _) Scaled.bits_zero).trans ((zero_add _).trans (add_comm _ _))
  · rw [if_neg h]
    refine (congrArg₂ (· + ·) (pad_apply_of_inside _ _ _ _ _ _ _ (idx_main_v86 (ix2 r l)) (ix3 r (head l) (angle l)) ?_)
      (pad_apply_of_not_inside _ _ _ _ _ _ _ (idx_main_v86 (ix2 r l)) (2 : Fin 3) ?_)).trans ?_
    · intro a
      fin_cases a
      · show (r.val * 512 + l.val) / 512 = 0 + r.val * (0 + 1)
        omega
      · show (r.val * 512 + l.val) / 64 % 8 = 0 + l.val / 64 * (0 + 1)
        omega
      · show (r.val * 512 + l.val) % 64 = 32 + l.val % 32 * (0 + 1)
        omega
    · show ¬(0 ≤ (r.val * 512 + l.val) % 64 ∧ ((r.val * 512 + l.val) % 64 - 0) % (0 + 1) = 0 ∧ ((r.val * 512 + l.val) % 64 - 0) / (0 + 1) < 32)
      omega
    · rw [half_hi x y z p r l h]
      exact (congrArg (_ + ·) Scaled.bits_zero).trans (add_zero _)

/-- The queries' operations are the keys'. -/
theorem ref_q : val_main_v104 (F := Ideal) x y z p = val_main_v86 (F := Ideal) x y z p := rfl

/-- The reference's result. -/
theorem ref (x0 x1 x2 x3 x4 x5 x6 x7 x8 : FVec Ideal S4096x512 .f32) (r : Fin 4096) (l : Fin 1536) :
    val_main_v106 (F := Ideal) x0 x1 x2 x3 x4 x5 x6 x7 x8 p (ix2 r l) =
      row (fun l => x0 (ix2 r l) + x1 (ix2 r l) + x2 (ix2 r l)) (fun l => x3 (ix2 r l) + x4 (ix2 r l) + x5 (ix2 r l))
        (fun l => x6 (ix2 r l) + x7 (ix2 r l) + x8 (ix2 r l)) (fun l => cosines p (ix2 r (angle l))) (fun l => sines p (ix2 r (angle l))) l := by
  rw [val_main_v106_apply]
  refine (?_ : val_main_v105 (F := Ideal) x0 x1 x2 x3 x4 x5 x6 x7 x8 p (ix2 r l) = _)
  unfold val_main_v105
  have piece : ∀ (k : Nat) (hk : k < 3) (u : Fin 512), l.val = 512 * k + u.val → ∀ i : S4096x512.Idx, i = ix2 r u →
      ∀ b : Fin 2, b ≠ 1 → (i b).val = ((ix2 r l : S4096x1536.Idx) b).val := fun k hk u hu i hi b hb => by
    subst hi
    fin_cases b
    · rfl
    · exact absurd rfl hb
  by_cases h0 : l.val < 512
  · rw [row_q _ _ _ _ _ (⟨l.val, h0⟩ : Fin 512) l rfl, ← ref_k, ← ref_q]
    exact concatenate_apply_piece (t := S4096x1536) (1 : Fin 2) _ _ (ix2 r l) 0 (by simp) S4096x512 _ rfl rfl 0 rfl (ix2 r ⟨l.val, h0⟩)
      (piece 0 (by decide) ⟨l.val, h0⟩ (by show l.val = 512 * 0 + l.val; omega) _ rfl) (Nat.zero_add _)
  by_cases h1 : l.val < 1024
  · have hl : l.val = 512 + (⟨l.val - 512, by omega⟩ : Fin 512).val := by show l.val = 512 + (l.val - 512); omega
    rw [row_k _ _ _ _ _ (⟨l.val - 512, by omega⟩ : Fin 512) l hl, ← ref_k]
    exact concatenate_apply_piece (t := S4096x1536) (1 : Fin 2) _ _ (ix2 r l) 1 (by simp) S4096x512 _ rfl rfl 512 rfl (ix2 r ⟨l.val - 512, by omega⟩)
      (piece 1 (by decide) _ hl _ rfl) hl.symm
  · have hl : l.val = 1024 + (⟨l.val - 1024, by omega⟩ : Fin 512).val := by show l.val = 1024 + (l.val - 1024); omega
    rw [row_v _ _ _ _ _ (⟨l.val - 1024, by omega⟩ : Fin 512) l hl]
    exact concatenate_apply_piece (t := S4096x1536) (1 : Fin 2) _ _ (ix2 r l) 2 (by simp) S4096x512 (val_main_v68 (F := Ideal) x6 x7 x8) rfl rfl 1024 rfl (ix2 r ⟨l.val - 1024, by omega⟩)
      (piece 2 (by decide) _ hl _ rfl) hl.symm
end

section
open Cert.RopeBackIdeal Cert.RopeBackIdeal.Gen
variable (m : (ℓ : Loc nD τ sig) → Buf (Elt Ideal) ℓ) (c : Dev nD)

/-- A table of 32 lanes laid four times along 128. -/
def tiled (x : FVec Ideal S4096x32 .f32) : FVec Ideal S4096x128 .f32 :=
  shapeCast S4096x128 (broadcastInDim S1x4096x4x32 ![0, 1, 2, 3] bcast_S1x4096x1x32_S1x4096x4x32_0_1_2_3
    (shapeCast S1x4096x1x32 x shapeCasts_S4096x32_S1x4096x1x32)) shapeCasts_S1x4096x4x32_S4096x128
theorem tiled_apply (x : FVec Ideal S4096x32 .f32) (r : Fin 4096) (l : Fin 512) : tiled x (ix2 r (wrap l)) = x (ix2 r (angle l)) := by
  unfold tiled
  rw [shapeCast_apply _ shapeCasts_S1x4096x4x32_S4096x128 (ix2 r (wrap l))
    (ix4 (0 : Fin 1) r (⟨l.val % 128 / 32, by omega⟩ : Fin 4) (angle l)) ?_]
  · refine (?_ : shapeCast S1x4096x1x32 x shapeCasts_S4096x32_S1x4096x1x32 (ix4 (0 : Fin 1) r (0 : Fin 1) (angle l)) = _)
    rw [shapeCast_apply _ shapeCasts_S4096x32_S1x4096x1x32 _ (ix2 r (angle l)) ?_]
    rw [Shape.rowMajor_val_four, Shape.rowMajor_val_two]
    show r.val * 32 + l.val % 32 = ((0 * 4096 + r.val) * 1 + 0) * 32 + l.val % 32
    omega
  · rw [Shape.rowMajor_val_four, Shape.rowMajor_val_two]
    show ((0 * 4096 + r.val) * 4 + l.val % 128 / 32) * 32 + l.val % 32 = r.val * 128 + l.val % 128
    omega

/-- The tables the call takes: each angle's cosine and sine. -/
theorem tab9 : V m c main_v15 = tiled (cosines (m ((c : Thread nD τ).loc main_arg9))) := by
  unfold V
  after_results_simp
  rfl
theorem tab10 : V m c main_v19 = tiled (sines (m ((c : Thread nD τ).loc main_arg9))) := by
  unfold V
  after_results_simp
  rfl

/-- The call's arguments: nine gradients, three of the queries, of the keys and of the values. -/
def X0 : FVec Ideal S4096x512 .f32 := V m c (Pipeline.arrRef spec0 0)
def X1 : FVec Ideal S4096x512 .f32 := V m c (Pipeline.arrRef spec0 1)
def X2 : FVec Ideal S4096x512 .f32 := V m c (Pipeline.arrRef spec0 2)
def X3 : FVec Ideal S4096x512 .f32 := V m c (Pipeline.arrRef spec0 3)
def X4 : FVec Ideal S4096x512 .f32 := V m c (Pipeline.arrRef spec0 4)
def X5 : FVec Ideal S4096x512 .f32 := V m c (Pipeline.arrRef spec0 5)
def X6 : FVec Ideal S4096x512 .f32 := V m c (Pipeline.arrRef spec0 6)
def X7 : FVec Ideal S4096x512 .f32 := V m c (Pipeline.arrRef spec0 7)
def X8 : FVec Ideal S4096x512 .f32 := V m c (Pipeline.arrRef spec0 8)
def X9 : FVec Ideal S4096x128 .f32 := V m c (Pipeline.arrRef spec0 9)
def X10 : FVec Ideal S4096x128 .f32 := V m c (Pipeline.arrRef spec0 10)

/-- The call's array. -/
def G : FVec Ideal S4096x1536 .bf16 := fun j => whole (X0 m c) (X1 m c) (X2 m c) (X3 m c) (X4 m c) (X5 m c) (X6 m c) (X7 m c) (X8 m c)
  (X9 m c) (X10 m c) (j 0) (j 1)

/-- Where the blocks lie. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] ∧ win0_9.index t = ![t.val, 0] ∧ win0_10.index t = ![t.val, 0] ∧
    win0_11.index t = ![t.val, 0] :=
  (by decide +kernel : ∀ t : Fin grid0.N, _)

/-- A block's rows are the array's. -/
def Rows {w : ℕ} (A : (⟨2, ![4096, w]⟩ : Shape).Idx → EReal) (t : ℕ) (a : (⟨2, ![256, w]⟩ : Shape).Idx → EReal) : Prop :=
  ∀ (i : Fin 256) (p : Fin 4096), p.val = 256 * t + i.val → ∀ l : Fin w, a (ix2 i l) = A (ix2 p l)

theorem in0 (t : Fin cfg0.N) : Rows (X0 m c) t.val (iblk m c 0 t) := fun i p h l => by blk_point [iblk, V, idx t, h]
theorem in1 (t : Fin cfg0.N) : Rows (X1 m c) t.val (iblk m c 1 t) := fun i p h l => by blk_point [iblk, V, idx t, h]
theorem in2 (t : Fin cfg0.N) : Rows (X2 m c) t.val (iblk m c 2 t) := fun i p h l => by blk_point [iblk, V, idx t, h]
theorem in3 (t : Fin cfg0.N) : Rows (X3 m c) t.val (iblk m c 3 t) := fun i p h l => by blk_point [iblk, V, idx t, h]
theorem in4 (t : Fin cfg0.N) : Rows (X4 m c) t.val (iblk m c 4 t) := fun i p h l => by blk_point [iblk, V, idx t, h]
theorem in5 (t : Fin cfg0.N) : Rows (X5 m c) t.val (iblk m c 5 t) := fun i p h l => by blk_point [iblk, V, idx t, h]
theorem in6 (t : Fin cfg0.N) : Rows (X6 m c) t.val (iblk m c 6 t) := fun i p h l => by blk_point [iblk, V, idx t, h]
theorem in7 (t : Fin cfg0.N) : Rows (X7 m c) t.val (iblk m c 7 t) := fun i p h l => by blk_point [iblk, V, idx t, h]
theorem in8 (t : Fin cfg0.N) : Rows (X8 m c) t.val (iblk m c 8 t) := fun i p h l => by blk_point [iblk, V, idx t, h]
theorem in9 (t : Fin cfg0.N) : Rows (X9 m c) t.val (iblk m c 9 t) := fun i p h l => by blk_point [iblk, V, idx t, h]
theorem in10 (t : Fin cfg0.N) : Rows (X10 m c) t.val (iblk m c 10 t) := fun i p h l => by blk_point [iblk, V, idx t, h]

/-- What a point leaves in its block is the array's. -/
theorem point (t : Fin cfg0.N) (y : S256x1536.Idx) (j : S4096x1536.Idx) (h0 : (j 0).val = 256 * t.val + (y 0).val) (h1 : (j 1).val = (y 1).val) :
    (dats m 0 c).after 11 t y = G m c j := by
  rw [after0_11]
  refine (block _ _ _ _ _ _ _ _ _ _ _ y).trans ?_
  unfold G whole
  rw [show j 1 = y 1 from Fin.ext h1]
  simp only [in0 m c t (y 0) (j 0) h0, in1 m c t (y 0) (j 0) h0, in2 m c t (y 0) (j 0) h0, in3 m c t (y 0) (j 0) h0, in4 m c t (y 0) (j 0) h0, in5 m c t (y 0) (j 0) h0, in6 m c t (y 0) (j 0) h0, in7 m c t (y 0) (j 0) h0, in8 m c t (y 0) (j 0) h0, in9 m c t (y 0) (j 0) h0, in10 m c t (y 0) (j 0) h0]

/-- The array after the last point. -/
theorem final : (dats m 0 c).arrAt 11 cfg0.N = G m c := by
  refine (dats m 0 c).arrAt_eq_of_covers 11 _ (by decide +kernel) fun t _ y => ?_
  blk_simp
  refine point m c t y _ ?_ ?_
  all_goals (blk_simp [idx t] <;> try omega)

/-- The call's array is the reference's of the same arguments. -/
theorem value (x0 x1 x2 x3 x4 x5 x6 x7 x8 : FVec Ideal S4096x512 .f32) (p : IVec S4096 32)
    (h : x0 = m ((c : Thread nD τ).loc main_arg0) ∧ x1 = m ((c : Thread nD τ).loc main_arg1) ∧ x2 = m ((c : Thread nD τ).loc main_arg2) ∧ x3 = m ((c : Thread nD τ).loc main_arg3) ∧ x4 = m ((c : Thread nD τ).loc main_arg4) ∧ x5 = m ((c : Thread nD τ).loc main_arg5) ∧ x6 = m ((c : Thread nD τ).loc main_arg6) ∧ x7 = m ((c : Thread nD τ).loc main_arg7) ∧ x8 = m ((c : Thread nD τ).loc main_arg8) ∧
      p = m ((c : Thread nD τ).loc main_arg9)) :
    RefRopeBackIdeal.Read.val_main_v106 (F := Ideal) x0 x1 x2 x3 x4 x5 x6 x7 x8 p = G m c := by
  obtain ⟨rfl, rfl, rfl, rfl, rfl, rfl, rfl, rfl, rfl, rfl⟩ := h
  funext j
  refine (congrArg (RefRopeBackIdeal.Read.val_main_v106 (F := Ideal) _ _ _ _ _ _ _ _ _ _) (ix2_eta j).symm).trans ((ref _ _ _ _ _ _ _ _ _ _ (j 0) (j 1)).trans ?_)
  unfold G whole
  have hc : ∀ r l, X9 m c (ix2 r (wrap l)) = cosines (m ((c : Thread nD τ).loc main_arg9)) (ix2 r (angle l)) := fun r l =>
    (congrFun (tab9 m c) _).trans (tiled_apply _ r l)
  have hs : ∀ r l, X10 m c (ix2 r (wrap l)) = sines (m ((c : Thread nD τ).loc main_arg9)) (ix2 r (angle l)) := fun r l =>
    (congrFun (tab10 m c) _).trans (tiled_apply _ r l)
  rw [show X0 m c = m ((c : Thread nD τ).loc main_arg0) from V_main_arg0 m c, show X1 m c = m ((c : Thread nD τ).loc main_arg1) from V_main_arg1 m c, show X2 m c = m ((c : Thread nD τ).loc main_arg2) from V_main_arg2 m c, show X3 m c = m ((c : Thread nD τ).loc main_arg3) from V_main_arg3 m c, show X4 m c = m ((c : Thread nD τ).loc main_arg4) from V_main_arg4 m c, show X5 m c = m ((c : Thread nD τ).loc main_arg5) from V_main_arg5 m c, show X6 m c = m ((c : Thread nD τ).loc main_arg6) from V_main_arg6 m c, show X7 m c = m ((c : Thread nD τ).loc main_arg7) from V_main_arg7 m c, show X8 m c = m ((c : Thread nD τ).loc main_arg8) from V_main_arg8 m c]
  exact congrArg₂ (fun c s => row _ _ _ c s (j 1)) (funext fun l => (hc (j 0) l).symm) (funext fun l => (hs (j 0) l).symm)
end

end Cert.RopeBack

end
-- ==== Proof.Normed.lean ====
/- The norms of the forward pass, row by row: alone, and behind a block with the stream that goes on beside it. -/
module

public import proofs.«01_k».proof.Proof.Scaled
public import proofs.«01_k».proof.Proof.Gen.InNormIdeal.Value
public import proofs.«01_k».proof.Proof.Gen.RefInNormIdeal.Read
public import proofs.«01_k».proof.Proof.Gen.MemNormIdeal.Value
public import proofs.«01_k».proof.Proof.Gen.RefMemNormIdeal.Read
public import proofs.«01_k».proof.Proof.Gen.ResNormIdeal.Value
public import proofs.«01_k».proof.Proof.Gen.RefResNormIdeal.Read
public import proofs.«01_k».proof.Proof.Gen.ResLastIdeal.Value
public import proofs.«01_k».proof.Proof.Gen.RefResLastIdeal.Read
public import Idealize.ShloMosaic.Lib.Pipeline.ValueKit
public import Idealize.ShloMosaic.Lib.Pointwise

@[expose] public section

set_option maxRecDepth 16384

noncomputable section

namespace Cert.Normed

open Idealize.ShloMosaic Idealize.ShloMosaic.Pipeline Cert.Scaled
open Idealize.ShloMosaic.TcCoe Idealize.SL.Sem

/-- A row's mean square, and what is added to it. -/
def power (f : Fin 1024 → EReal) : EReal := (∑ l, f l * f l) * ((1 / 1024 : ℝ) : EReal) + Ideal.ofBits .f32 0x358637BD#32

section
variable {n : ℕ} (H X : (⟨2, ![n, 1024]⟩ : Shape).Idx → EReal) (G : (⟨2, ![1, 1024]⟩ : Shape).Idx → EReal)

/-- The normed rows. -/
def normed : (⟨2, ![n, 1024]⟩ : Shape).Idx → EReal := fun j => X (ix2 (j 0) (j 1)) * Ideal.rsqrt (power fun l => X (ix2 (j 0) l)) * G (ix2 0 (j 1))
/-- The stream, with the normed rows added. -/
def stream : (⟨2, ![n, 1024]⟩ : Shape).Idx → EReal := fun j => H (ix2 (j 0) (j 1)) + normed X G j
end

section
variable {n n' : ℕ} {H X : (⟨2, ![n, 1024]⟩ : Shape).Idx → EReal} {H' X' : (⟨2, ![n', 1024]⟩ : Shape).Idx → EReal} (G : (⟨2, ![1, 1024]⟩ : Shape).Idx → EReal)
variable {i : Fin n} {i' : Fin n'} (hH : ∀ l, H (ix2 i l) = H' (ix2 i' l)) (hX : ∀ l, X (ix2 i l) = X' (ix2 i' l)) (l : Fin 1024)
include hX

/-- Both look at one row only. -/
theorem normed_row : normed X G (ix2 i l) = normed X' G (ix2 i' l) :=
  congrArg (· * _) (congrArg₂ (· * ·) (hX l) (congrArg (fun f => Ideal.rsqrt (power f)) (funext hX)))
include hH
theorem stream_row : stream H X G (ix2 i l) = stream H' X' G (ix2 i' l) := congrArg₂ (· + ·) (hH l) (normed_row G hX l)
end

/-- Rows `512 * t + i` of the whole are row `i` of the block `t`. -/
def Rows (A : (⟨2, ![4096, 1024]⟩ : Shape).Idx → EReal) (t : ℕ) (a : (⟨2, ![512, 1024]⟩ : Shape).Idx → EReal) : Prop :=
  ∀ (i : Fin 512) (p : Fin 4096), p.val = 512 * t + i.val → ∀ l : Fin 1024, a (ix2 i l) = A (ix2 p l)

theorem Rows.at {A : (⟨2, ![4096, 1024]⟩ : Shape).Idx → EReal} {t : ℕ} {a : (⟨2, ![512, 1024]⟩ : Shape).Idx → EReal} (h : Rows A t a)
    (y : (⟨2, ![512, 1024]⟩ : Shape).Idx) (j : (⟨2, ![4096, 1024]⟩ : Shape).Idx)
    (h0 : (j 0).val = 512 * t + (y 0).val) (h1 : (j 1).val = (y 1).val) : a y = A j := by
  rw [show y = ix2 (y 0) (y 1) by blk_ext, show j = ix2 (j 0) (y 1) by blk_ext]
  exact h _ _ h0 _

theorem rows_normed {X : (⟨2, ![4096, 1024]⟩ : Shape).Idx → EReal} {t : ℕ} {x : (⟨2, ![512, 1024]⟩ : Shape).Idx → EReal}
    (G : (⟨2, ![1, 1024]⟩ : Shape).Idx → EReal) (h : Rows X t x) : Rows (normed X G) t (normed x G) :=
  fun i p e l => normed_row G (h i p e) l
theorem rows_stream {H X : (⟨2, ![4096, 1024]⟩ : Shape).Idx → EReal} {t : ℕ} {h x : (⟨2, ![512, 1024]⟩ : Shape).Idx → EReal}
    (G : (⟨2, ![1, 1024]⟩ : Shape).Idx → EReal) (hh : Rows H t h) (hx : Rows X t x) : Rows (stream H X G) t (stream h x G) :=
  fun i p e l => stream_row G (hh i p e) (hx i p e) l

/-! ## The norm of the input -/

section
open Cert.InNormIdeal Cert.InNormIdeal.Gen
variable (m : (ℓ : Loc nD τ sig) → Buf (Elt Ideal) ℓ) (c : Dev nD)

def X0 : FVec Ideal S4096x1024 .f32 := V m c (Pipeline.arrRef spec0 0)
def G0 : FVec Ideal S1x1024 .f32 := V m c (Pipeline.arrRef spec0 1)

theorem in_pay (x : Vec Ideal S512x1024 .f32) (g : Vec Ideal S1x1024 .f32) : k0_pay1 (F := Ideal) x g = normed x g := by
  funext y
  idx_vars y
  unfold normed power
  rw [← div_len]
  pointwise [k0_pay1]

theorem in_block (x : Vec Ideal S512x1024 .f32) (g : Vec Ideal S1x1024 .f32) : out0_2 (F := Ideal) x g = normed x g := by
  unfold out0_2
  refine (View.canon_cons_unit_lit (Val := Elt Ideal) _ _ [] (by decide)).trans ?_
  rw [View.ld_unit_lit _ x (by decide), View.ld_unit_lit _ g (by decide)]
  exact in_pay x g

theorem in_idx : ∀ t : Fin cfg0.N, win0_0.index t = ![t.val, 0] ∧ win0_1.index t = ![0, 0] ∧ win0_2.index t = ![t.val, 0] :=
  (by decide +kernel : ∀ t : Fin grid0.N, _)
theorem in_in0 (t : Fin cfg0.N) : Rows (X0 m c) t.val (iblk m c 0 t) := fun i p h l => by blk_point [iblk, V, in_idx t, h]
theorem in_in1 (t : Fin cfg0.N) : iblk m c 1 t = G0 m c := by funext j; blk_point [iblk, V, in_idx t]

/-- The array after the last point. -/
theorem in_final : (dats m 0 c).arrAt 2 cfg0.N = normed (X0 m c) (G0 m c) := by
  refine (dats m 0 c).arrAt_eq_of_covers 2 _ (by decide +kernel) fun t _ y => ?_
  blk_simp
  rw [after0_2, in_block, in_in1]
  refine (rows_normed (G0 m c) (in_in0 m c t)).at y _ ?_ ?_
  all_goals (blk_simp [in_idx t] <;> try omega)

open Cert.RefInNormIdeal.Read in
/-- The reference's result. -/
theorem in_ref (x : FVec Ideal S4096x1024 .f32) (g : FVec Ideal S1x1024 .f32) : val_main_v12 (F := Ideal) x g = normed x g := by
  funext j
  idx_vars j
  unfold normed power
  rw [← div_len]
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
end

/-! ## The norm of the memory -/

section
open Cert.MemNormIdeal Cert.MemNormIdeal.Gen

theorem mem_pay (x : Vec Ideal S256x1024 .f32) (g : Vec Ideal S1x1024 .f32) : k0_pay1 (F := Ideal) x g = normed x g := by
  funext y
  idx_vars y
  unfold normed power
  rw [← div_len]
  pointwise [k0_pay1]

open Cert.RefMemNormIdeal.Read in
theorem mem_ref (x : FVec Ideal S256x1024 .f32) (g : FVec Ideal S1x1024 .f32) : val_main_v12 (F := Ideal) x g = normed x g := by
  funext j
  idx_vars j
  unfold normed power
  rw [← div_len]
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
end

/-! ## The norm behind a block, and the next one's -/

section
open Cert.ResNormIdeal Cert.ResNormIdeal.Gen
variable (m : (ℓ : Loc nD τ sig) → Buf (Elt Ideal) ℓ) (c : Dev nD)

def R0 : FVec Ideal S4096x1024 .f32 := V m c (Pipeline.arrRef spec0 0)
def R1 : FVec Ideal S4096x1024 .f32 := V m c (Pipeline.arrRef spec0 1)
def R2 : FVec Ideal S1x1024 .f32 := V m c (Pipeline.arrRef spec0 2)
def R3 : FVec Ideal S1x1024 .f32 := V m c (Pipeline.arrRef spec0 3)

theorem res_pay1 (h x : Vec Ideal S512x1024 .f32) (g : Vec Ideal S1x1024 .f32) : k0_pay1 (F := Ideal) h x g = stream h x g := by
  funext y
  idx_vars y
  unfold stream normed power
  rw [← div_len]
  pointwise [k0_pay1]
theorem res_pay2 (h x : Vec Ideal S512x1024 .f32) (g u : Vec Ideal S1x1024 .f32) : k0_pay2 (F := Ideal) h x g u = normed (stream h x g) u := by
  funext y
  rw [← res_pay1]
  idx_vars y
  unfold normed power
  rw [← div_len]
  pointwise [k0_pay2]

theorem res_block4 (h x : Vec Ideal S512x1024 .f32) (g u : Vec Ideal S1x1024 .f32) : out0_4 (F := Ideal) h x g u = stream h x g := by
  unfold out0_4
  refine (View.canon_cons_unit_lit (Val := Elt Ideal) _ _ [] (by decide)).trans ?_
  rw [View.ld_unit_lit _ h (by decide), View.ld_unit_lit _ x (by decide), View.ld_unit_lit _ g (by decide)]
  exact res_pay1 h x g
theorem res_block5 (h x : Vec Ideal S512x1024 .f32) (g u : Vec Ideal S1x1024 .f32) : out0_5 (F := Ideal) h x g u = normed (stream h x g) u := by
  unfold out0_5
  refine (View.canon_cons_unit_lit (Val := Elt Ideal) _ _ [] (by decide)).trans ?_
  rw [View.ld_unit_lit _ h (by decide), View.ld_unit_lit _ x (by decide), View.ld_unit_lit _ g (by decide), View.ld_unit_lit _ u (by decide)]
  exact res_pay2 h x g u

theorem res_idx : ∀ t : Fin cfg0.N, win0_0.index t = ![t.val, 0] ∧ win0_1.index t = ![t.val, 0] ∧ win0_2.index t = ![0, 0] ∧ win0_3.index t = ![0, 0] ∧
    win0_4.index t = ![t.val, 0] ∧ win0_5.index t = ![t.val, 0] :=
  (by decide +kernel : ∀ t : Fin grid0.N, _)
theorem res_in0 (t : Fin cfg0.N) : Rows (R0 m c) t.val (iblk m c 0 t) := fun i p h l => by blk_point [iblk, V, res_idx t, h]
theorem res_in1 (t : Fin cfg0.N) : Rows (R1 m c) t.val (iblk m c 1 t) := fun i p h l => by blk_point [iblk, V, res_idx t, h]
theorem res_in2 (t : Fin cfg0.N) : iblk m c 2 t = R2 m c := by funext j; blk_point [iblk, V, res_idx t]
theorem res_in3 (t : Fin cfg0.N) : iblk m c 3 t = R3 m c := by funext j; blk_point [iblk, V, res_idx t]

theorem res_final4 : (dats m 0 c).arrAt 4 cfg0.N = stream (R0 m c) (R1 m c) (R2 m c) := by
  refine (dats m 0 c).arrAt_eq_of_covers 4 _ (by decide +kernel) fun t _ y => ?_
  blk_simp
  rw [after0_4, res_block4, res_in2]
  refine (rows_stream (R2 m c) (res_in0 m c t) (res_in1 m c t)).at y _ ?_ ?_
  all_goals (blk_simp [res_idx t] <;> try omega)
theorem res_final5 : (dats m 0 c).arrAt 5 cfg0.N = normed (stream (R0 m c) (R1 m c) (R2 m c)) (R3 m c) := by
  refine (dats m 0 c).arrAt_eq_of_covers 5 _ (by decide +kernel) fun t _ y => ?_
  blk_simp
  rw [after0_5, res_block5, res_in2, res_in3]
  refine (rows_normed (R3 m c) (rows_stream (R2 m c) (res_in0 m c t) (res_in1 m c t))).at y _ ?_ ?_
  all_goals (blk_simp [res_idx t] <;> try omega)

open Cert.RefResNormIdeal.Read
theorem res_ref4 (h x : FVec Ideal S4096x1024 .f32) (g : FVec Ideal S1x1024 .f32) : val_main_v12 (F := Ideal) h x g = stream h x g := by
  funext j
  idx_vars j
  unfold stream normed power
  rw [← div_len]
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
theorem res_ref5 (h x : FVec Ideal S4096x1024 .f32) (g u : FVec Ideal S1x1024 .f32) :
    val_main_v25 (F := Ideal) h x g u = normed (stream h x g) u := by
  funext j
  rw [← res_ref4]
  idx_vars j
  unfold normed power
  rw [← div_len]
  pointwise [val_main_v25, val_main_v24, val_main_v23, val_main_v22, val_main_v21, val_main_v20, val_main_v19, val_main_v18, val_main_v17, val_main_v16,
    val_main_v15, val_main_v14, val_main_v13, val_main_cst_2, val_main_cst_3, val_main_cst_4]
end

/-! ## The norm behind the last block -/

section
open Cert.ResLastIdeal Cert.ResLastIdeal.Gen
variable (m : (ℓ : Loc nD τ sig) → Buf (Elt Ideal) ℓ) (c : Dev nD)

def L0 : FVec Ideal S4096x1024 .f32 := V m c (Pipeline.arrRef spec0 0)
def L1 : FVec Ideal S4096x1024 .f32 := V m c (Pipeline.arrRef spec0 1)
def L2 : FVec Ideal S1x1024 .f32 := V m c (Pipeline.arrRef spec0 2)

theorem last_block (h x : Vec Ideal S512x1024 .f32) (g : Vec Ideal S1x1024 .f32) : out0_3 (F := Ideal) h x g = stream h x g := by
  unfold out0_3
  refine (View.canon_cons_unit_lit (Val := Elt Ideal) _ _ [] (by decide)).trans ?_
  rw [View.ld_unit_lit _ h (by decide), View.ld_unit_lit _ x (by decide), View.ld_unit_lit _ g (by decide)]
  exact res_pay1 h x g

theorem last_idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)
theorem last_in0 (t : Fin cfg0.N) : Rows (L0 m c) t.val (iblk m c 0 t) := fun i p h l => by blk_point [iblk, V, last_idx t, h]
theorem last_in1 (t : Fin cfg0.N) : Rows (L1 m c) t.val (iblk m c 1 t) := fun i p h l => by blk_point [iblk, V, last_idx t, h]
theorem last_in2 (t : Fin cfg0.N) : iblk m c 2 t = L2 m c := by funext j; blk_point [iblk, V, last_idx t]

theorem last_final : (dats m 0 c).arrAt 3 cfg0.N = stream (L0 m c) (L1 m c) (L2 m c) := by
  refine (dats m 0 c).arrAt_eq_of_covers 3 _ (by decide +kernel) fun t _ y => ?_
  blk_simp
  rw [after0_3, last_block, last_in2]
  refine (rows_stream (L2 m c) (last_in0 m c t) (last_in1 m c t)).at y _ ?_ ?_
  all_goals (blk_simp [last_idx t] <;> try omega)

theorem last_ref (h x : FVec Ideal S4096x1024 .f32) (g : FVec Ideal S1x1024 .f32) :
    RefResLastIdeal.Read.val_main_v12 (F := Ideal) h x g = stream h x g := res_ref4 h x g
end

end Cert.Normed

end
-- ==== Proof.XattnFwd.lean ====
/- The forward cross-attention between its projections: head by head, and the reference's. -/
module

public import proofs.«01_k».proof.Proof.Final
public import proofs.«01_k».proof.Proof.Ref
public import proofs.«01_k».proof.Proof.Gen.XattnFwdIdeal.Value
public import proofs.«01_k».proof.Proof.Gen.RefXattnFwdIdeal.Read

@[expose] public section

set_option maxRecDepth 16384

noncomputable section

namespace Cert.AttnFwd

open Idealize.ShloMosaic Idealize.ShloMosaic.Pipeline Idealize.ShloMosaic.TcCoe Idealize.SL.Sem
open Cert.Softmax Cert.Heads Cert.Blocks
open Cert.XattnFwdIdeal Cert.XattnFwdIdeal.Gen

/-- A head's output. -/
def out {a : ℕ} (q : FVec Ideal ⟨2, ![a, 256]⟩ .bf16) (k v : FVec Ideal S256x256 .bf16) (i : Fin a) (c : Fin 256) : EReal :=
  ∑ m : Fin 256, prob (scores q k i) m * v (ix2 m c)

/-- The heads side by side. -/
def heads {a : ℕ} (Q : FVec Ideal ⟨2, ![a, 1024]⟩ .bf16) (K V : FVec Ideal S256x1024 .bf16) (i : Fin a) (c : Fin 1024) : EReal :=
  out (head Q (hd c) (hd_lt c)) (head K (hd c) (hd_lt c)) (head V (hd c) (hd_lt c)) i (lane c)

section
variable (q : FVec Ideal S512x256 .bf16) (k v : FVec Ideal S256x256 .bf16) (i : Fin 512) (m c : Fin 256)

theorem prob0 : k0_pay3 (F := Ideal) q k (ix2 i m) = prob (scores q k i) m := Heads.prob0 q k i m
theorem out1 : k0_pay4 (F := Ideal) (k0_pay3 q k) v (ix2 i c) = out q k v i c := by
  pointwise [k0_pay4, prob0, out]
theorem out0 : k0_pay2 (F := Ideal) q k v (ix2 i c) = out q k v i c := out1 q k v i c
theorem out2 : k0_pay5 (F := Ideal) q k v (ix2 i c) = out q k v i c := out1 q k v i c
theorem out3 : k0_pay1 (F := Ideal) (k0_pay6 q k) (k0_pay7 q k) v (ix2 i c) = out q k v i c := out1 q k v i c
end

/-- What a point leaves in its block. -/
theorem block (X0 : Vec Ideal S512x1024 .bf16) (X1 X2 : Vec Ideal S256x1024 .bf16) (y : S512x1024.Idx) :
    out0_3 (F := Ideal) X0 X1 X2 y = heads X0 X1 X2 (y 0) (y 1) := by
  unfold out0_3
  idx_vars y
  canon_tiles x h
  all_goals
    idx_vars x
    obtain rfl : y0 = x0 := Fin.ext (by omega)
    first | rw [out3] | rw [out2] | rw [out1] | rw [out0]
    show _ = heads X0 X1 X2 y0 y1
    unfold heads
    rw [lane_eq (c := y1) (l := x1) (by omega), head_eq X0 y1 _ (fun i l => ?_), head_eq X1 y1 _ (fun i l => ?_), head_eq X2 y1 _ (fun i l => ?_)]
    all_goals (pointwise; blk_ext)

section
variable (m : (ℓ : Loc nD τ sig) → Buf (Elt Ideal) ℓ) (c : Dev nD)

def Q0 : FVec Ideal S4096x1024 .bf16 := V m c (Pipeline.arrRef spec0 0)
def K0 : FVec Ideal S256x1024 .bf16 := V m c (Pipeline.arrRef spec0 1)
def V0 : FVec Ideal S256x1024 .bf16 := V m c (Pipeline.arrRef spec0 2)

/-- Where the blocks lie. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem in0 (t : Fin cfg0.N) (i : Fin 512) (p : Fin 4096) (h : p.val = t.val * 512 + i.val) (l : Fin 1024) :
    iblk m c 0 t (ix2 i l) = Q0 m c (ix2 p l) := by
  blk_point [iblk, V, idx t, h]
theorem in1 (t : Fin cfg0.N) : iblk m c 1 t = K0 m c := by funext j; blk_point [iblk, V, idx t]
theorem in2 (t : Fin cfg0.N) : iblk m c 2 t = V0 m c := by funext j; blk_point [iblk, V, idx t]

/-- The call's array. -/
def G : FVec Ideal S4096x1024 .bf16 := fun j => heads (Q0 m c) (K0 m c) (V0 m c) (j 0) (j 1)

theorem point (t : Fin cfg0.N) (y : S512x1024.Idx) (j : S4096x1024.Idx) (h0 : (j 0).val = t.val * 512 + (y 0).val) (h1 : (j 1).val = (y 1).val) :
    (dats m 0 c).after 3 t y = G m c j := by
  rw [after0_3]
  refine (block _ _ _ y).trans ?_
  obtain e : j 1 = y 1 := Fin.ext h1
  unfold G heads out
  rw [in1, in2, e]
  refine Finset.sum_congr rfl fun r _ => congrArg (· * _) (congrArg (prob · r) ?_)
  exact Final.scores_row _ fun l => in0 m c t (y 0) (j 0) h0 _

/-- The array after the last point. -/
theorem final : (dats m 0 c).arrAt 3 cfg0.N = G m c := by
  refine (dats m 0 c).arrAt_eq_of_covers 3 _ (by decide +kernel) fun t _ y => ?_
  blk_simp
  refine point m c t y _ ?_ ?_
  all_goals (blk_simp [idx t] <;> try omega)
end

section
open Cert.RefXattnFwdIdeal.Read
variable (x0 : FVec Ideal S4096x1024 .bf16) (x1 x2 : FVec Ideal S256x1024 .bf16)
variable (h : Fin 4) (r : Fin 4096) (k l : Fin 256)

theorem v8 : val_main_v8 (F := Ideal) x0 x1 (ix3 h r k) = scores (head x0 h h.isLt) (head x1 h h.isLt) r k := by
  pointwise [val_main_v8, val_main_v7, val_main_v6, val_main_v4, val_main_v3, val_main_v1, val_main_v0, val_main_cst, scores, rows, head]
theorem v11 : val_main_v11 (F := Ideal) x0 x1 (ix2 h r) = top (scores (head x0 h h.isLt) (head x1 h h.isLt) r) := by
  have e : val_main_v9 (F := Ideal) x0 x1 (ix2 h r) = top (scores (head x0 h h.isLt) (head x1 h h.isLt) r) :=
    (Ref.fold_last h r _).trans (congrArg top (funext fun k => v8 x0 x1 h r k))
  have b : val_main_v10 (F := Ideal) (ix2 h r) = ⊥ := by rw [val_main_v10_apply]; exact bits_bot
  rw [val_main_v11_apply, e, b]; exact max_eq_right bot_le
theorem v15 : val_main_v15 (F := Ideal) x0 x1 (ix3 h r k) = weight (scores (head x0 h h.isLt) (head x1 h h.isLt) r) k := by
  pointwise [val_main_v15, val_main_v14, val_main_v13, val_main_v12, v8, v11, weight]
theorem v16 : val_main_v16 (F := Ideal) x0 x1 (ix2 h r) = total (scores (head x0 h h.isLt) (head x1 h h.isLt) r) := by
  pointwise [val_main_v16, val_main_cst_2, v15, total]
theorem v19 : val_main_v19 (F := Ideal) x0 x1 (ix3 h r k) = prob (scores (head x0 h h.isLt) (head x1 h h.isLt) r) k := by
  pointwise [val_main_v19, val_main_v18, val_main_v17, v16, v15, prob]
theorem v21 : val_main_v21 (F := Ideal) x0 x1 x2 (ix3 r h l) = out (head x0 h h.isLt) (head x1 h h.isLt) (head x2 h h.isLt) r l := by
  pointwise [val_main_v21, val_main_v20, val_main_v5, val_main_v2, v19, out, head]
  all_goals exact Finset.sum_congr rfl fun _ _ => mul_comm _ _

/-- The reference's result. -/
theorem ref : val_main_v23 (F := Ideal) x0 x1 x2 = fun j => heads x0 x1 x2 (j 0) (j 1) := by
  funext j
  refine (congrArg (val_main_v23 (F := Ideal) _ _ _) (eq_ix2 j)).trans ?_
  refine (?_ : val_main_v22 (F := Ideal) x0 x1 x2 (ix2 (j 0) (j 1)) = _)
  rw [val_main_v22_apply]
  exact (congrArg _ (Ref.split_index (j 1) (j 0) _ rfl rfl rfl)).trans (v21 x0 x1 x2 ⟨hd (j 1), hd_lt (j 1)⟩ (j 0) (lane (j 1)))
end

end Cert.AttnFwd

end
-- ==== Proof.RopeFwd.lean ====
/- The forward rotary call, turning the dilated attention's queries and keys, and its reference. -/
module

public import proofs.«01_k».proof.Proof.Scaled
public import proofs.«01_k».proof.Proof.Gen.RopeFwdIdeal.Value
public import proofs.«01_k».proof.Proof.Gen.RefRopeFwdIdeal.Read
public import Idealize.ShloMosaic.Lib.Pipeline.ValueKit
public import Idealize.ShloMosaic.Lib.KernelVsHost

@[expose] public section

set_option maxRecDepth 16384

noncomputable section

namespace Cert.RopeFore

open Idealize.ShloMosaic Idealize.ShloMosaic.Pipeline
open Idealize.ShloMosaic.TcCoe Idealize.SL.Sem

/-- The lane `k` further along a row of queries and keys, around its end. -/
def lane (l : Fin 1024) (k : Nat) : Fin 1024 := ⟨(l.val + k) % 1024, Nat.mod_lt _ (by decide)⟩
/-- The lane of a table of 32 lanes, and of one of 128, that a lane of a row takes. -/
def angle (l : Fin 1024) : Fin 32 := ⟨l.val % 32, Nat.mod_lt _ (by decide)⟩
def wrap (l : Fin 1024) : Fin 128 := ⟨l.val % 128, Nat.mod_lt _ (by decide)⟩
/-- The lane of the projection's row, behind the other attentions' lanes. -/
def col (l : Fin 1024) : Fin 2816 := ⟨1280 + l.val, by omega⟩

/-- A row turned: in each head's 64 lanes, the first half takes the second half of the row with its sign changed and the second half takes the
    first, each by the sine, and the row itself by the cosine. -/
def turned (x c s : Fin 1024 → EReal) (l : Fin 1024) : EReal :=
  x l * c l + (if l.val % 64 < 32 then -x (lane l 32) else x (lane l 992)) * s l

/-- The factor of the half turned with its sign changed. -/
theorem bits_neg_one : Ideal.ofBits .f32 0xBF800000#32 = ((-1 : ℝ) : EReal) := by
  simp [Ideal.ofBits, Ideal.ieee]
  rw [← EReal.coe_one, ← EReal.coe_mul, EReal.coe_eq_coe_iff]
  norm_num

section
open Cert.RopeFwdIdeal Cert.RopeFwdIdeal.Gen

/-- The kernel's mask of the first half of every head's lanes. -/
def first : IVec S512x256 1 :=
  have v8 : IVec S512x256 32 := iota .tc S512x256 32 [1] iota_S512x256_d1_w32
  let v9 : BitVec 1 := Scalar.cmpi .eq 64#32 0#32
  let v10 : BitVec 32 := Scalar.select v9 1#32 64#32
  have v11 : IVec S512x256 32 := broadcast S512x256 v10
  have v12 : IVec S512x256 32 := remsi v8 v11
  have v13 : IVec S512x256 32 := broadcast S512x256 0#32
  have v14 : IVec S512x256 1 := cmpi .ne v12 v13
  have v15 : IVec S512x256 32 := broadcast S512x256 0#32
  have v16 : IVec S512x256 1 := cmpi .slt v12 v15
  let v17 : BitVec 1 := Scalar.cmpi .slt v10 0#32
  have v18 : IVec S512x256 1 := broadcast S512x256 v17
  have v19 : IVec S512x256 1 := broadcastTo S512x256 v18 broadcasts_S512x256_S512x256
  have v20 : IVec S512x256 1 := xori v16 v19
  have v21 : IVec S512x256 1 := andi v20 v14
  have v22 : IVec S512x256 32 := broadcast S512x256 v10
  have v23 : IVec S512x256 32 := addi v12 v22
  have v24 : IVec S512x256 32 := select v21 v23 v12
  have v25 : IVec S512x256 32 := broadcast S512x256 32#32
  cmpi .slt v24 v25
theorem first_lane : ∀ l : Fin 256, first (ix2 (0 : Fin 512) l) = if l.val % 64 < 32 then 1#1 else 0#1 := by decide +kernel
theorem first_apply (i : Fin 512) (l : Fin 256) : first (ix2 i l) = if l.val % 64 < 32 then 1#1 else 0#1 := first_lane l

/-- A table's row laid out twice. -/
def laid (x : Vec Ideal S512x128 .f32) : FVec Ideal S512x256 .f32 :=
  concatenate S512x256 1 [⟨S512x128, shapeCast S512x128 x shapeCasts_S512x128_S512x128⟩, ⟨S512x128, shapeCast S512x128 x shapeCasts_S512x128_S512x128⟩]
    concatenates_S512x128_S512x128_S512x256_d1
theorem laid_apply (x : Vec Ideal S512x128 .f32) (i : Fin 512) (l : Fin 256) : laid x (ix2 i l) = x (ix2 i ⟨l.val % 128, Nat.mod_lt _ (by decide)⟩) := by
  unfold laid
  rw [shapeCast_self]
  exact concatenate_replicate_apply (t := S512x256) (1 : Fin 2) 2 x _ rfl (ix2 i l) (ix2 i ⟨l.val % 128, Nat.mod_lt _ (by decide)⟩) rfl fun b hb => by
    fin_cases b
    · rfl
    · exact absurd rfl hb

/-- The block's lanes moved around. -/
theorem move (x : Vec Ideal S512x256 .f32) (i : Fin 512) (l : Fin 256) (k d : Nat) (hd : d < 256) (hk : k = 256 - d) (h0 : 0 < d) :
    dynamicRotate 1 (BitVec.ofNat 32 d) none x rotates_S512x256_d1 (ix2 i l) = x (ix2 i ⟨(l.val + k) % 256, Nat.mod_lt _ (by decide)⟩) :=
  dynamicRotate_apply (1 : Fin 2) _ x _ _ _ fun b => by
    fin_cases b
    · rfl
    · show (l.val + k) % 256 = (l.val + 256 - (BitVec.ofNat 32 d).toNat % 256) % 256
      rw [BitVec.toNat_ofNat]
      omega

/-- A block turned. -/
theorem pay1 (x : Vec Ideal S512x256 .f32) (c s : Vec Ideal S512x128 .f32) (i : Fin 512) (l : Fin 256) :
    k0_pay1 (F := Ideal) x c s (ix2 i l) = x (ix2 i l) * c (ix2 i ⟨l.val % 128, Nat.mod_lt _ (by decide)⟩) +
      (if l.val % 64 < 32 then -x (ix2 i ⟨(l.val + 32) % 256, Nat.mod_lt _ (by decide)⟩) else x (ix2 i ⟨(l.val + 224) % 256, Nat.mod_lt _ (by decide)⟩)) *
        s (ix2 i ⟨l.val % 128, Nat.mod_lt _ (by decide)⟩) := by
  have h224 := move x i l 32 224 (by decide) rfl (by decide)
  have h32 := move x i l 224 32 (by decide) rfl (by decide)
  show x (ix2 i l) * laid c (ix2 i l) + (if first (ix2 i l) = 1#1 then
      Ideal.ofBits .f32 0xBF800000#32 * dynamicRotate 1 224#32 none x rotates_S512x256_d1 (ix2 i l)
      else Ideal.ofBits .f32 0x3F800000#32 * dynamicRotate 1 32#32 none x rotates_S512x256_d1 (ix2 i l)) * laid s (ix2 i l) = _
  rw [laid_apply, laid_apply, first_apply, h224, h32]
  congr 2
  by_cases h : l.val % 64 < 32
  · rw [if_pos h, if_pos h, if_pos rfl, bits_neg_one, EReal.coe_neg, EReal.coe_one, EReal.neg_mul, one_mul]
  · rw [if_neg h, if_neg h, if_neg (by decide), Scaled.bits_one, EReal.coe_one, one_mul]

theorem block (x : Vec Ideal S512x256 .f32) (c s : Vec Ideal S512x128 .f32) : out0_3 (F := Ideal) x c s = k0_pay1 x c s := by
  unfold out0_3
  refine (View.canon_cons_unit_lit (Val := Elt Ideal) _ _ [] (by decide)).trans ?_
  rw [View.ld_unit_lit _ x (by decide), View.ld_unit_lit _ c (by decide), View.ld_unit_lit _ s (by decide)]

variable (m : (ℓ : Loc nD τ sig) → Buf (Elt Ideal) ℓ) (c : Dev nD)

/-- The projection's rows and the two tables. -/
def X0 : FVec Ideal S4096x2816 .f32 := V m c (Pipeline.arrRef spec0 0)
def X1 : FVec Ideal S4096x128 .f32 := V m c (Pipeline.arrRef spec0 1)
def X2 : FVec Ideal S4096x128 .f32 := V m c (Pipeline.arrRef spec0 2)

/-- The call's array. -/
def G : FVec Ideal S4096x1024 .f32 := fun j =>
  turned (fun l => X0 m c (ix2 (j 0) (col l))) (fun l => X1 m c (ix2 (j 0) (wrap l))) (fun l => X2 m c (ix2 (j 0) (wrap l))) (j 1)

/-- Where the blocks lie. -/
theorem idx : ∀ t : Fin cfg0.N, win0_0.index t = ![t.val / 4, 5 + t.val % 4] ∧ win0_1.index t = ![t.val / 4, 0] ∧ win0_2.index t = ![t.val / 4, 0] ∧
    win0_3.index t = ![t.val / 4, t.val % 4] :=
  (by decide +kernel : ∀ t : Fin grid0.N, _)

theorem in0 (t : Fin cfg0.N) (i : Fin 512) (l : Fin 256) (p : Fin 4096) (u : Fin 1024) (h : p.val = 512 * (t.val / 4) + i.val)
    (hu : u.val = 256 * (t.val % 4) + l.val) : iblk m c 0 t (ix2 i l) = X0 m c (ix2 p (col u)) := by
  blk_point [iblk, V, idx t, h, hu, col]
theorem in1 (t : Fin cfg0.N) (i : Fin 512) (l : Fin 128) (p : Fin 4096) (h : p.val = 512 * (t.val / 4) + i.val) :
    iblk m c 1 t (ix2 i l) = X1 m c (ix2 p l) := by
  blk_point [iblk, V, idx t, h]
theorem in2 (t : Fin cfg0.N) (i : Fin 512) (l : Fin 128) (p : Fin 4096) (h : p.val = 512 * (t.val / 4) + i.val) :
    iblk m c 2 t (ix2 i l) = X2 m c (ix2 p l) := by
  blk_point [iblk, V, idx t, h]

/-- What a point leaves in its block is the array's. -/
theorem point (t : Fin cfg0.N) (y : S512x256.Idx) (j : S4096x1024.Idx) (h0 : (j 0).val = 512 * (t.val / 4) + (y 0).val)
    (h1 : (j 1).val = 256 * (t.val % 4) + (y 1).val) : (dats m 0 c).after 3 t y = G m c j := by
  rw [after0_3, block]
  refine (congrArg (k0_pay1 (F := Ideal) (iblk m c 0 t) (iblk m c 1 t) (iblk m c 2 t)) (ix2_eta y).symm).trans ((pay1 _ _ _ (y 0) (y 1)).trans ?_)
  have hy : (y 1).val < 256 := (y 1).isLt
  have hw : (⟨(y 1).val % 128, Nat.mod_lt _ (by decide)⟩ : Fin 128) = wrap (j 1) := Fin.ext (by show (y 1).val % 128 = (j 1).val % 128; omega)
  unfold G turned
  rw [hw, in0 m c t (y 0) (y 1) (j 0) (j 1) h0 h1, in1 m c t (y 0) (wrap (j 1)) (j 0) h0, in2 m c t (y 0) (wrap (j 1)) (j 0) h0]
  congr 2
  by_cases h : (y 1).val % 64 < 32
  · rw [if_pos h, if_pos (by omega), in0 m c t (y 0) _ (j 0) (lane (j 1) 32) h0 (by
      show ((j 1).val + 32) % 1024 = 256 * (t.val % 4) + ((y 1).val + 32) % 256
      omega)]
  · rw [if_neg h, if_neg (by omega), in0 m c t (y 0) _ (j 0) (lane (j 1) 992) h0 (by
      show ((j 1).val + 992) % 1024 = 256 * (t.val % 4) + ((y 1).val + 224) % 256
      omega)]

/-- The array after the last point. -/
theorem final : (dats m 0 c).arrAt 3 cfg0.N = G m c := by
  refine (dats m 0 c).arrAt_eq_of_covers 3 _ (by decide +kernel) fun t _ y => ?_
  blk_simp
  refine point m c t y _ ?_ ?_
  all_goals (blk_simp [idx t] <;> try omega)

/-- A table of 32 lanes laid four times along 128. -/
def tiled (x : FVec Ideal S4096x32 .f32) : FVec Ideal S4096x128 .f32 :=
  shapeCast S4096x128 (broadcastInDim S1x4096x4x32 ![0, 1, 2, 3] bcast_S1x4096x1x32_S1x4096x4x32_0_1_2_3
    (shapeCast S1x4096x1x32 x shapeCasts_S4096x32_S1x4096x1x32)) shapeCasts_S1x4096x4x32_S4096x128
theorem tiled_apply (x : FVec Ideal S4096x32 .f32) (r : Fin 4096) (l : Fin 1024) : tiled x (ix2 r (wrap l)) = x (ix2 r (angle l)) := by
  unfold tiled
  rw [shapeCast_apply _ shapeCasts_S1x4096x4x32_S4096x128 (ix2 r (wrap l))
    (ix4 (0 : Fin 1) r (⟨l.val % 128 / 32, by omega⟩ : Fin 4) (angle l)) ?_]
  · refine (?_ : shapeCast S1x4096x1x32 x shapeCasts_S4096x32_S1x4096x1x32 (ix4 (0 : Fin 1) r (0 : Fin 1) (angle l)) = _)
    rw [shapeCast_apply _ shapeCasts_S4096x32_S1x4096x1x32 _ (ix2 r (angle l)) ?_]
    rw [Shape.rowMajor_val_four, Shape.rowMajor_val_two]
    show r.val * 32 + l.val % 32 = ((0 * 4096 + r.val) * 1 + 0) * 32 + l.val % 32
    omega
  · rw [Shape.rowMajor_val_four, Shape.rowMajor_val_two]
    show ((0 * 4096 + r.val) * 4 + l.val % 128 / 32) * 32 + l.val % 32 = r.val * 128 + l.val % 128
    omega

open Cert.RefRopeFwdIdeal.Read in
/-- The tables the call takes: each angle's cosine and sine. -/
theorem tab1 : X1 m c = tiled (val_main_v16 (F := Ideal) (m ((c : Thread nD τ).loc main_arg1))) := by
  unfold X1
  refine (?_ : V m c main_v15 = _)
  unfold V
  after_results_simp
  rfl
open Cert.RefRopeFwdIdeal.Read in
theorem tab2 : X2 m c = tiled (val_main_v18 (F := Ideal) (m ((c : Thread nD τ).loc main_arg1))) := by
  unfold X2
  refine (?_ : V m c main_v19 = _)
  unfold V
  after_results_simp
  rfl
end

section
open Cert.RefRopeFwdIdeal Cert.RefRopeFwdIdeal.Read
variable (x : FVec Ideal S4096x2816 .f32) (p : IVec S4096 32)

/-- The row of the queries, and of the keys, turned. -/
def row (r : Fin 4096) (l : Fin 1024) : EReal :=
  turned (fun l => x (ix2 r (col l))) (fun l => val_main_v16 (F := Ideal) p (ix2 r (angle l))) (fun l => val_main_v18 (F := Ideal) p (ix2 r (angle l))) l

/-- A lane's head within its half of the row. -/
def head (l : Fin 1024) : Fin 8 := ⟨l.val % 512 / 64, by omega⟩

/-- The queries' and the keys' halves of a head. -/
theorem q_lo (r : Fin 4096) (l : Fin 1024) (hl : l.val < 512) (h : l.val % 64 < 32) :
    val_main_v26 (F := Ideal) x p (ix3 r (head l) (angle l)) = row x p r l := by
  rw [val_main_v26_apply, val_main_v23_apply, val_main_v25_apply, val_main_v20_apply, val_main_v21_apply, val_main_v22_apply, val_main_v24_apply,
    val_main_v17_apply, val_main_v19_apply, val_main_v3_apply, val_main_v3_apply, val_main_v2_apply, val_main_v2_apply, val_main_v1_apply,
    val_main_v1_apply, val_main_v0_apply, val_main_v0_apply]
  unfold row turned
  rw [if_pos h, EReal.neg_mul, ← sub_eq_add_neg]
  refine congrArg₂ (· - ·) (congrArg₂ (· * ·) (congrArg x ?_) (congrArg (val_main_v16 (F := Ideal) p) ?_))
    (congrArg₂ (· * ·) (congrArg x ?_) (congrArg (val_main_v18 (F := Ideal) p) ?_))
  all_goals
    blk_ext
    all_goals (simp only [head, angle, lane, col]; try omega)
theorem q_hi (r : Fin 4096) (l : Fin 1024) (hl : l.val < 512) (h : ¬ l.val % 64 < 32) :
    val_main_v31 (F := Ideal) x p (ix3 r (head l) (angle l)) = row x p r l := by
  rw [val_main_v31_apply, val_main_v28_apply, val_main_v30_apply, val_main_v20_apply, val_main_v21_apply, val_main_v27_apply, val_main_v29_apply,
    val_main_v17_apply, val_main_v19_apply, val_main_v3_apply, val_main_v3_apply, val_main_v2_apply, val_main_v2_apply, val_main_v1_apply,
    val_main_v1_apply, val_main_v0_apply, val_main_v0_apply]
  unfold row turned
  rw [if_neg h]
  refine congrArg₂ (· + ·) (congrArg₂ (· * ·) (congrArg x ?_) (congrArg (val_main_v16 (F := Ideal) p) ?_))
    (congrArg₂ (· * ·) (congrArg x ?_) (congrArg (val_main_v18 (F := Ideal) p) ?_))
  all_goals
    blk_ext
    all_goals (simp only [head, angle, lane, col]; try omega)
theorem k_lo (r : Fin 4096) (l : Fin 1024) (hl : ¬ l.val < 512) (h : l.val % 64 < 32) :
    val_main_v57 (F := Ideal) x p (ix3 r (head l) (angle l)) = row x p r l := by
  rw [val_main_v57_apply, val_main_v54_apply, val_main_v56_apply, val_main_v51_apply, val_main_v52_apply, val_main_v53_apply, val_main_v55_apply,
    val_main_v48_apply, val_main_v50_apply, val_main_v34_apply, val_main_v34_apply, val_main_v33_apply, val_main_v33_apply, val_main_v1_apply,
    val_main_v1_apply, val_main_v0_apply, val_main_v0_apply]
  unfold row turned
  rw [if_pos h, EReal.neg_mul, ← sub_eq_add_neg]
  refine congrArg₂ (· - ·) (congrArg₂ (· * ·) (congrArg x ?_) (congrArg (val_main_v16 (F := Ideal) p) ?_))
    (congrArg₂ (· * ·) (congrArg x ?_) (congrArg (val_main_v18 (F := Ideal) p) ?_))
  all_goals
    blk_ext
    all_goals (simp only [head, angle, lane, col]; try omega)
theorem k_hi (r : Fin 4096) (l : Fin 1024) (hl : ¬ l.val < 512) (h : ¬ l.val % 64 < 32) :
    val_main_v62 (F := Ideal) x p (ix3 r (head l) (angle l)) = row x p r l := by
  rw [val_main_v62_apply, val_main_v59_apply, val_main_v61_apply, val_main_v51_apply, val_main_v52_apply, val_main_v58_apply, val_main_v60_apply,
    val_main_v48_apply, val_main_v50_apply, val_main_v34_apply, val_main_v34_apply, val_main_v33_apply, val_main_v33_apply, val_main_v1_apply,
    val_main_v1_apply, val_main_v0_apply, val_main_v0_apply]
  unfold row turned
  rw [if_neg h]
  refine congrArg₂ (· + ·) (congrArg₂ (· * ·) (congrArg x ?_) (congrArg (val_main_v16 (F := Ideal) p) ?_))
    (congrArg₂ (· * ·) (congrArg x ?_) (congrArg (val_main_v18 (F := Ideal) p) ?_))
  all_goals
    blk_ext
    all_goals (simp only [head, angle, lane, col]; try omega)

/-- Two halves of a head side by side. -/
theorem halves (a b : FVec Ideal S4096x8x32 .f32) (r : Fin 4096) (l : Fin 1024) (i : S4096x8x64.Idx) (h0 : (i 0).val = r.val)
    (h1 : (i 1).val = (head l).val) (h2 : (i 2).val = l.val % 64) (v : EReal) (ha : l.val % 64 < 32 → a (ix3 r (head l) (angle l)) = v)
    (hb : ¬ l.val % 64 < 32 → b (ix3 r (head l) (angle l)) = v) :
    concatenate S4096x8x64 2 [⟨S4096x8x32, a⟩, ⟨S4096x8x32, b⟩] Cert.RefRopeFwdIdeal.Gen.facts.concatenates_S4096x8x32_S4096x8x32_S4096x8x64_d2 i = v := by
  have other : ∀ d : Fin 3, d ≠ 2 → ((ix3 r (head l) (angle l) : S4096x8x32.Idx) d).val = (i d).val := fun d hd => by
    fin_cases d
    · exact h0.symm
    · exact h1.symm
    · exact absurd rfl hd
  by_cases h : l.val % 64 < 32
  · rw [← ha h]
    exact concatenate_apply_piece (t := S4096x8x64) (2 : Fin 3) _ _ i 0 (by simp) S4096x8x32 a rfl rfl 0 rfl (ix3 r (head l) (angle l)) other
      (by show 0 + l.val % 32 = (i 2).val; omega)
  · rw [← hb h]
    exact concatenate_apply_piece (t := S4096x8x64) (2 : Fin 3) _ _ i 1 (by simp) S4096x8x32 b rfl rfl 32 rfl (ix3 r (head l) (angle l)) other
      (by show 32 + l.val % 32 = (i 2).val; omega)

/-- The reference's result. -/
theorem ref (r : Fin 4096) (l : Fin 1024) : val_main_v66 (F := Ideal) x p (ix2 r l) = row x p r l := by
  unfold val_main_v66
  by_cases hl : l.val < 512
  · refine (concatenate_apply_piece (t := S4096x1024) (1 : Fin 2) _ _ (ix2 r l) 0 (by simp) S4096x512 (val_main_v64 (F := Ideal) x p) rfl rfl 0 rfl
      (ix2 r (⟨l.val, hl⟩ : Fin 512)) (fun b hb => ?_) (Nat.zero_add _)).trans ?_
    · fin_cases b
      · rfl
      · exact absurd rfl hb
    · rw [val_main_v64_apply]
      unfold val_main_v32
      refine halves _ _ r l _ ?_ ?_ ?_ _ (q_lo x p r l hl) (q_hi x p r l hl)
      · show (r.val * 512 + l.val) / 512 = r.val
        omega
      · show (r.val * 512 + l.val) / 64 % 8 = l.val % 512 / 64
        omega
      · show (r.val * 512 + l.val) % 64 = l.val % 64
        omega
  · refine (concatenate_apply_piece (t := S4096x1024) (1 : Fin 2) _ _ (ix2 r l) 1 (by simp) S4096x512 (val_main_v65 (F := Ideal) x p) rfl rfl 512 rfl
      (ix2 r (⟨l.val - 512, by omega⟩ : Fin 512)) (fun b hb => ?_) (by show 512 + (l.val - 512) = l.val; omega)).trans ?_
    · fin_cases b
      · rfl
      · exact absurd rfl hb
    · rw [val_main_v65_apply]
      unfold val_main_v63
      refine halves _ _ r l _ ?_ ?_ ?_ _ (k_lo x p r l hl) (k_hi x p r l hl)
      · show (r.val * 512 + (l.val - 512)) / 512 = r.val
        omega
      · show (r.val * 512 + (l.val - 512)) / 64 % 8 = l.val % 512 / 64
        omega
      · show (r.val * 512 + (l.val - 512)) % 64 = l.val % 64
        omega
end

section
open Cert.RopeFwdIdeal Cert.RopeFwdIdeal.Gen
variable (m : (ℓ : Loc nD τ sig) → Buf (Elt Ideal) ℓ) (c : Dev nD)

/-- The call's array is the reference's of the same arguments. -/
theorem value (x : FVec Ideal S4096x2816 .f32) (p : IVec S4096 32)
    (h : x = m ((c : Thread nD τ).loc main_arg0) ∧ p = m ((c : Thread nD τ).loc main_arg1)) :
    RefRopeFwdIdeal.Read.val_main_v66 (F := Ideal) x p = G m c := by
  obtain ⟨rfl, rfl⟩ := h
  funext j
  refine (congrArg (RefRopeFwdIdeal.Read.val_main_v66 (F := Ideal) _ _) (ix2_eta j).symm).trans ((ref _ _ (j 0) (j 1)).trans ?_)
  unfold G row
  rw [show X0 m c = m ((c : Thread nD τ).loc main_arg0) from V_main_arg0 m c]
  exact congrArg₂ (fun c s => turned _ c s (j 1)) (funext fun l => ((congrFun (tab1 m c) _).trans (tiled_apply _ (j 0) l)).symm)
    (funext fun l => ((congrFun (tab2 m c) _).trans (tiled_apply _ (j 0) l)).symm)
end

end Cert.RopeFore

end
-- ==== Proof.Mixed.lean ====
/- The mixture of the dilated attention's three branches: the weights are a softmax over the branches, lane by lane. -/
module

public import proofs.«01_k».proof.Proof.Softmax
public import proofs.«01_k».proof.Proof.Scaled
public import proofs.«01_k».proof.Proof.Gen.MixIdeal.Frame
public import proofs.«01_k».proof.Proof.Gen.RefMixIdeal.Read
public import Idealize.ShloMosaic.Lib.Pipeline.ValueKit
public import Idealize.ShloMosaic.Lib.KernelVsHost
public import Idealize.ShloMosaic.Lib.Pointwise

@[expose] public section

set_option maxRecDepth 16384

noncomputable section

namespace Cert.Mixed

open Idealize.ShloMosaic Idealize.ShloMosaic.TcCoe Idealize.SL.Sem Cert.Softmax

/-- The maximum, the total and the weights of three scores. -/
theorem top_three (s : Fin 3 → EReal) : top s = max (max (s 0) (s 1)) (s 2) := by
  show Finset.univ.sup s = _
  refine le_antisymm (Finset.sup_le fun k _ => ?_) (max_le (max_le ?_ ?_) ?_)
  · fin_cases k
    · exact le_max_of_le_left (le_max_left _ _)
    · exact le_max_of_le_left (le_max_right _ _)
    · exact le_max_right _ _
  all_goals exact Finset.le_sup (f := s) (Finset.mem_univ _)
theorem prob_three (s : Fin 3 → EReal) (k : Fin 3) : prob s k = Ideal.div (Ideal.exp (s k - max (max (s 0) (s 1)) (s 2)))
    (Ideal.exp (s 0 - max (max (s 0) (s 1)) (s 2)) + Ideal.exp (s 1 - max (max (s 0) (s 1)) (s 2)) + Ideal.exp (s 2 - max (max (s 0) (s 1)) (s 2))) := by
  rw [← top_three]
  exact congrArg (Ideal.div _) (Fin.sum_univ_three _)

/-- The pattern of minus infinity. -/
theorem bits_bot : Ideal.ofBits .f32 0xFF800000#32 = ⊥ := by simp [Ideal.ofBits, Ideal.ieee]

section
open Cert.RefMixIdeal Cert.RefMixIdeal.Read
variable (x0 x1 x2 x3 x4 x5 : FVec Ideal S4096x512 .f32) (r : Fin 4096) (l : Fin 512) (k : Fin 3)

/-- The three arrays' entries at one place. -/
def three : Fin 3 → EReal := ![x3 (ix2 r l), x4 (ix2 r l), x5 (ix2 r l)]

theorem v3 : val_main_v3 (F := Ideal) x3 x4 x5 (ix3 r l k) = three x3 x4 x5 r l k := by
  unfold val_main_v3
  have other : ∀ b : Fin 3, b ≠ 2 → ((ix3 r l (0 : Fin 1) : S4096x512x1.Idx) b).val = ((ix3 r l k : S4096x512x3.Idx) b).val := fun b hb => by
    fin_cases b
    · rfl
    · rfl
    · exact absurd rfl hb
  fin_cases k
  · refine (concatenate_apply_piece (t := S4096x512x3) (2 : Fin 3) _ _ _ 0 (by simp) S4096x512x1 _ rfl rfl 0 rfl (ix3 r l (0 : Fin 1)) other rfl).trans ?_
    rw [val_main_v0_apply]
    exact congrArg x3 (by blk_ext)
  · refine (concatenate_apply_piece (t := S4096x512x3) (2 : Fin 3) _ _ _ 1 (by simp) S4096x512x1 _ rfl rfl 1 rfl (ix3 r l (0 : Fin 1)) other rfl).trans ?_
    rw [val_main_v1_apply]
    exact congrArg x4 (by blk_ext)
  · refine (concatenate_apply_piece (t := S4096x512x3) (2 : Fin 3) _ _ _ 2 (by simp) S4096x512x1 _ rfl rfl 2 rfl (ix3 r l (0 : Fin 1)) other rfl).trans ?_
    rw [val_main_v2_apply]
    exact congrArg x5 (by blk_ext)

theorem v18 : val_main_v18 (F := Ideal) x0 x1 x2 (ix3 k r l) = three x0 x1 x2 r l k := by
  unfold val_main_v18
  have other : ∀ b : Fin 3, b ≠ 0 → ((ix3 (0 : Fin 1) r l : S1x4096x512.Idx) b).val = ((ix3 k r l : S3x4096x512.Idx) b).val := fun b hb => by
    fin_cases b
    · exact absurd rfl hb
    · rfl
    · rfl
  fin_cases k
  · refine (concatenate_apply_piece (t := S3x4096x512) (0 : Fin 3) _ _ _ 0 (by simp) S1x4096x512 _ rfl rfl 0 rfl (ix3 (0 : Fin 1) r l) other rfl).trans ?_
    rw [val_main_v15_apply]
    exact congrArg x0 (by blk_ext)
  · refine (concatenate_apply_piece (t := S3x4096x512) (0 : Fin 3) _ _ _ 1 (by simp) S1x4096x512 _ rfl rfl 1 rfl (ix3 (0 : Fin 1) r l) other rfl).trans ?_
    rw [val_main_v16_apply]
    exact congrArg x1 (by blk_ext)
  · refine (concatenate_apply_piece (t := S3x4096x512) (0 : Fin 3) _ _ _ 2 (by simp) S1x4096x512 _ rfl rfl 2 rfl (ix3 (0 : Fin 1) r l) other rfl).trans ?_
    rw [val_main_v17_apply]
    exact congrArg x2 (by blk_ext)

theorem v6 : val_main_v6 (F := Ideal) x3 x4 x5 (ix2 r l) = top (three x3 x4 x5 r l) := by
  have e : val_main_v4 (F := Ideal) x3 x4 x5 (ix2 r l) = top (three x3 x4 x5 r l) := by
    unfold val_main_v4
    rw [Host.reduce_eq_fold_single _ _ _ _ (by decide)]
    unfold top
    refine congrArg₂ (fun b f => Finset.fold max b f Finset.univ) bits_bot (funext fun k => (congrArg (val_main_v3 (F := Ideal) x3 x4 x5) ?_).trans (v3 x3 x4 x5 r l k))
    blk_ext
    all_goals rfl
  have b : val_main_v5 (F := Ideal) (ix2 r l) = ⊥ := by rw [val_main_v5_apply]; exact bits_bot
  rw [val_main_v6_apply, e, b]; exact max_eq_right bot_le
theorem v10 : val_main_v10 (F := Ideal) x3 x4 x5 (ix3 r l k) = weight (three x3 x4 x5 r l) k := by
  pointwise [val_main_v10, val_main_v9, val_main_v8, val_main_v7, v3, v6, weight]
theorem v11 : val_main_v11 (F := Ideal) x3 x4 x5 (ix2 r l) = total (three x3 x4 x5 r l) := by
  pointwise [val_main_v11, val_main_cst_1, v10, total]
/-- The weights. -/
theorem v14 : val_main_v14 (F := Ideal) x3 x4 x5 (ix3 r l k) = prob (three x3 x4 x5 r l) k := by
  pointwise [val_main_v14, val_main_v13, val_main_v12, v11, v10, prob]
/-- The mixture. -/
theorem v19 : val_main_v19 (F := Ideal) x0 x1 x2 x3 x4 x5 (ix2 r l) = ∑ k, prob (three x3 x4 x5 r l) k * three x0 x1 x2 r l k := by
  pointwise [val_main_v19, v14, v18]

end

/-! The call's blocks. -/

section
open Cert.MixIdeal Cert.MixIdeal.Gen
variable (a b c x y z : Vec Ideal S256x512 .f32) (j : S256x512.Idx)

theorem pay0 : k0_pay6 (F := Ideal) a b c j = prob ![a j, b j, c j] 0 := by rw [prob_three]; rfl
theorem pay1 : k0_pay7 (F := Ideal) a b c j = prob ![a j, b j, c j] 1 := by rw [prob_three]; rfl
theorem pay2 : k0_pay8 (F := Ideal) a b c j = prob ![a j, b j, c j] 2 := by rw [prob_three]; rfl
theorem pay9 : k0_pay9 (F := Ideal) a b c x y z j = ∑ k, prob ![a j, b j, c j] k * ![x j, y j, z j] k := by
  rw [Fin.sum_univ_three, ← pay0 a b c j, ← pay1 a b c j, ← pay2 a b c j]; rfl

theorem block8 : out0_8 (F := Ideal) x y z a b c j = prob ![a j, b j, c j] 0 := by
  unfold out0_8
  rw [View.ld_unit_lit _ a (by decide), View.ld_unit_lit _ b (by decide), View.ld_unit_lit _ c (by decide)]
  exact (congrFun (View.canon_cons_unit_lit (Val := Elt Ideal) _ _ [] (by decide)) j).trans (pay0 a b c j)
theorem block9 : out0_9 (F := Ideal) x y z a b c j = prob ![a j, b j, c j] 1 := by
  unfold out0_9
  rw [View.ld_unit_lit _ a (by decide), View.ld_unit_lit _ b (by decide), View.ld_unit_lit _ c (by decide)]
  exact (congrFun (View.canon_cons_unit_lit (Val := Elt Ideal) _ _ [] (by decide)) j).trans (pay1 a b c j)
theorem block10 : out0_10 (F := Ideal) x y z a b c j = prob ![a j, b j, c j] 2 := by
  unfold out0_10
  rw [View.ld_unit_lit _ a (by decide), View.ld_unit_lit _ b (by decide), View.ld_unit_lit _ c (by decide)]
  exact (congrFun (View.canon_cons_unit_lit (Val := Elt Ideal) _ _ [] (by decide)) j).trans (pay2 a b c j)
theorem block7 : out0_7 (F := Ideal) x y z a b c j = ∑ k, prob ![a j, b j, c j] k * ![x j, y j, z j] k := by
  unfold out0_7
  rw [View.ld_unit_lit _ a (by decide), View.ld_unit_lit _ b (by decide), View.ld_unit_lit _ c (by decide), View.ld_unit_lit _ x (by decide),
    View.ld_unit_lit _ y (by decide), View.ld_unit_lit _ z (by decide)]
  exact (congrFun (View.canon_cons_unit_lit (Val := Elt Ideal) _ _ [] (by decide)) j).trans (pay9 a b c x y z j)
theorem block6 : out0_6 (F := Ideal) x y z a b c j = ∑ k, prob ![a j, b j, c j] k * ![x j, y j, z j] k := by
  unfold out0_6
  rw [View.ld_unit_lit _ a (by decide), View.ld_unit_lit _ b (by decide), View.ld_unit_lit _ c (by decide), View.ld_unit_lit _ x (by decide),
    View.ld_unit_lit _ y (by decide), View.ld_unit_lit _ z (by decide)]
  exact (congrFun (View.canon_cons_unit_lit (Val := Elt Ideal) _ _ [] (by decide)) j).trans (pay9 a b c x y z j)
end

/-! The call's arrays. -/

/-- The mixture and a branch's weights, from the three branches and the three logarithms. -/
def mixture (x0 x1 x2 x3 x4 x5 : (⟨2, ![4096, 512]⟩ : Shape).Idx → EReal) : (⟨2, ![4096, 512]⟩ : Shape).Idx → EReal :=
  fun i => ∑ k, prob ![x3 i, x4 i, x5 i] k * ![x0 i, x1 i, x2 i] k
def weights (k : Fin 3) (x3 x4 x5 : (⟨2, ![4096, 512]⟩ : Shape).Idx → EReal) : (⟨2, ![4096, 512]⟩ : Shape).Idx → EReal :=
  fun i => prob ![x3 i, x4 i, x5 i] k

/-- Rows `256 * t + i` of the whole are row `i` of the block `t`. -/
def Rows (A : (⟨2, ![4096, 512]⟩ : Shape).Idx → EReal) (t : ℕ) (a : (⟨2, ![256, 512]⟩ : Shape).Idx → EReal) : Prop :=
  ∀ (i : Fin 256) (p : Fin 4096), p.val = 256 * t + i.val → ∀ l : Fin 512, a (ix2 i l) = A (ix2 p l)
theorem Rows.at {A : (⟨2, ![4096, 512]⟩ : Shape).Idx → EReal} {t : ℕ} {a : (⟨2, ![256, 512]⟩ : Shape).Idx → EReal} (h : Rows A t a)
    (y : (⟨2, ![256, 512]⟩ : Shape).Idx) (j : (⟨2, ![4096, 512]⟩ : Shape).Idx)
    (h0 : (j 0).val = 256 * t + (y 0).val) (h1 : (j 1).val = (y 1).val) : a y = A j := by
  rw [show y = ix2 (y 0) (y 1) by blk_ext, show j = ix2 (j 0) (y 1) by blk_ext]
  exact h _ _ h0 _

section
open Cert.MixIdeal Cert.MixIdeal.Gen
variable (m : (ℓ : Loc nD τ sig) → Buf (Elt Ideal) ℓ) (c : Dev nD)

def X0 : FVec Ideal S4096x512 .f32 := V m c (Pipeline.arrRef spec0 0)
def X1 : FVec Ideal S4096x512 .f32 := V m c (Pipeline.arrRef spec0 1)
def X2 : FVec Ideal S4096x512 .f32 := V m c (Pipeline.arrRef spec0 2)
def X3 : FVec Ideal S4096x512 .f32 := V m c (Pipeline.arrRef spec0 3)
def X4 : FVec Ideal S4096x512 .f32 := V m c (Pipeline.arrRef spec0 4)
def X5 : FVec Ideal S4096x512 .f32 := V m c (Pipeline.arrRef spec0 5)

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] ∧ win0_9.index t = ![t.val, 0] ∧ win0_10.index t = ![t.val, 0] :=
  (by decide +kernel : ∀ t : Fin grid0.N, _)
theorem in0 (t : Fin cfg0.N) : Rows (X0 m c) t.val (iblk m c 0 t) := fun i p h l => by blk_point [iblk, V, idx t, h]
theorem in1 (t : Fin cfg0.N) : Rows (X1 m c) t.val (iblk m c 1 t) := fun i p h l => by blk_point [iblk, V, idx t, h]
theorem in2 (t : Fin cfg0.N) : Rows (X2 m c) t.val (iblk m c 2 t) := fun i p h l => by blk_point [iblk, V, idx t, h]
theorem in3 (t : Fin cfg0.N) : Rows (X3 m c) t.val (iblk m c 3 t) := fun i p h l => by blk_point [iblk, V, idx t, h]
theorem in4 (t : Fin cfg0.N) : Rows (X4 m c) t.val (iblk m c 4 t) := fun i p h l => by blk_point [iblk, V, idx t, h]
theorem in5 (t : Fin cfg0.N) : Rows (X5 m c) t.val (iblk m c 5 t) := fun i p h l => by blk_point [iblk, V, idx t, h]

theorem rows_mix (t : Fin cfg0.N) : Rows (mixture (X0 m c) (X1 m c) (X2 m c) (X3 m c) (X4 m c) (X5 m c)) t.val
    (fun j => ∑ k, prob ![iblk m c 3 t j, iblk m c 4 t j, iblk m c 5 t j] k * ![iblk m c 0 t j, iblk m c 1 t j, iblk m c 2 t j] k) := fun i p h l => by
  unfold mixture
  rw [← in0 m c t i p h l, ← in1 m c t i p h l, ← in2 m c t i p h l, ← in3 m c t i p h l, ← in4 m c t i p h l, ← in5 m c t i p h l]
theorem rows_weights (k : Fin 3) (t : Fin cfg0.N) : Rows (weights k (X3 m c) (X4 m c) (X5 m c)) t.val
    (fun j => prob ![iblk m c 3 t j, iblk m c 4 t j, iblk m c 5 t j] k) := fun i p h l => by
  unfold weights
  rw [← in3 m c t i p h l, ← in4 m c t i p h l, ← in5 m c t i p h l]
theorem final6 : (dats m 0 c).arrAt 6 cfg0.N = mixture (X0 m c) (X1 m c) (X2 m c) (X3 m c) (X4 m c) (X5 m c) := by
  refine (dats m 0 c).arrAt_eq_of_covers 6 _ (by decide +kernel) fun t _ y => ?_
  blk_simp
  rw [after0_6]
  refine (block6 _ _ _ _ _ _ y).trans ((rows_mix m c t).at y _ ?_ ?_)
  all_goals (blk_simp [idx t] <;> try omega)
theorem final7 : (dats m 0 c).arrAt 7 cfg0.N = mixture (X0 m c) (X1 m c) (X2 m c) (X3 m c) (X4 m c) (X5 m c) := by
  refine (dats m 0 c).arrAt_eq_of_covers 7 _ (by decide +kernel) fun t _ y => ?_
  blk_simp
  rw [after0_7]
  refine (block7 _ _ _ _ _ _ y).trans ((rows_mix m c t).at y _ ?_ ?_)
  all_goals (blk_simp [idx t] <;> try omega)
theorem final8 : (dats m 0 c).arrAt 8 cfg0.N = weights 0 (X3 m c) (X4 m c) (X5 m c) := by
  refine (dats m 0 c).arrAt_eq_of_covers 8 _ (by decide +kernel) fun t _ y => ?_
  blk_simp
  rw [after0_8]
  refine (block8 _ _ _ _ _ _ y).trans ((rows_weights m c 0 t).at y _ ?_ ?_)
  all_goals (blk_simp [idx t] <;> try omega)
theorem final9 : (dats m 0 c).arrAt 9 cfg0.N = weights 1 (X3 m c) (X4 m c) (X5 m c) := by
  refine (dats m 0 c).arrAt_eq_of_covers 9 _ (by decide +kernel) fun t _ y => ?_
  blk_simp
  rw [after0_9]
  refine (block9 _ _ _ _ _ _ y).trans ((rows_weights m c 1 t).at y _ ?_ ?_)
  all_goals (blk_simp [idx t] <;> try omega)
theorem final10 : (dats m 0 c).arrAt 10 cfg0.N = weights 2 (X3 m c) (X4 m c) (X5 m c) := by
  refine (dats m 0 c).arrAt_eq_of_covers 10 _ (by decide +kernel) fun t _ y => ?_
  blk_simp
  rw [after0_10]
  refine (block10 _ _ _ _ _ _ y).trans ((rows_weights m c 2 t).at y _ ?_ ?_)
  all_goals (blk_simp [idx t] <;> try omega)

/-- After the run each result's array is its window's, and the arguments are as before. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_v0_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8, (h c).1 9, (h c).1 10,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩)
    (run_main m ρ)
end

/-! The reference's results. -/

section
open Cert.RefMixIdeal Cert.RefMixIdeal.Read
variable (x0 x1 x2 x3 x4 x5 : FVec Ideal S4096x512 .f32)

theorem ref7 : val_main_v19 (F := Ideal) x0 x1 x2 x3 x4 x5 = mixture x0 x1 x2 x3 x4 x5 := by
  funext j
  refine (congrArg (val_main_v19 (F := Ideal) x0 x1 x2 x3 x4 x5) (eq_ix2 j)).trans ((v19 x0 x1 x2 x3 x4 x5 (j 0) (j 1)).trans ?_)
  exact congrArg (mixture x0 x1 x2 x3 x4 x5) (eq_ix2 j).symm
theorem ref6 : val_main_v20 (F := Ideal) x0 x1 x2 x3 x4 x5 = mixture x0 x1 x2 x3 x4 x5 := ref7 x0 x1 x2 x3 x4 x5
theorem ref8 : val_main_v22 (F := Ideal) x3 x4 x5 = weights 0 x3 x4 x5 := by
  funext j
  rw [val_main_v22_apply, val_main_v21_apply]
  refine (congrArg (val_main_v14 (F := Ideal) x3 x4 x5) (?_ : _ = ix3 (j 0) (j 1) (0 : Fin 3))).trans ((v14 x3 x4 x5 (j 0) (j 1) 0).trans ?_)
  · blk_ext
  · exact congrArg (weights 0 x3 x4 x5) (eq_ix2 j).symm
theorem ref9 : val_main_v24 (F := Ideal) x3 x4 x5 = weights 1 x3 x4 x5 := by
  funext j
  rw [val_main_v24_apply, val_main_v23_apply]
  refine (congrArg (val_main_v14 (F := Ideal) x3 x4 x5) (?_ : _ = ix3 (j 0) (j 1) (1 : Fin 3))).trans ((v14 x3 x4 x5 (j 0) (j 1) 1).trans ?_)
  · blk_ext
  · exact congrArg (weights 1 x3 x4 x5) (eq_ix2 j).symm
theorem ref10 : val_main_v26 (F := Ideal) x3 x4 x5 = weights 2 x3 x4 x5 := by
  funext j
  rw [val_main_v26_apply, val_main_v25_apply]
  refine (congrArg (val_main_v14 (F := Ideal) x3 x4 x5) (?_ : _ = ix3 (j 0) (j 1) (2 : Fin 3))).trans ((v14 x3 x4 x5 (j 0) (j 1) 2).trans ?_)
  · blk_ext
  · exact congrArg (weights 2 x3 x4 x5) (eq_ix2 j).symm
end

end Cert.Mixed

end
-- ==== Proof.Small.lean ====
/- The products of the memory's rows with the square weights, and of the convolution's channels with the pointwise weights: the arrays after
   the run, and the references'. -/
module

public import proofs.«01_k».proof.Proof.Products
public import proofs.«01_k».proof.Proof.Gen.ProductMemNnIdeal.Value
public import proofs.«01_k».proof.Proof.Gen.RefMemNnIdeal.Read
public import proofs.«01_k».proof.Proof.Gen.ProductMemTnIdeal.Value
public import proofs.«01_k».proof.Proof.Gen.RefMemTnIdeal.Read
public import proofs.«01_k».proof.Proof.Gen.ProductMemNtIdeal.Value
public import proofs.«01_k».proof.Proof.Gen.RefMemNtIdeal.Read
public import proofs.«01_k».proof.Proof.Gen.ProductPwNnIdeal.Value
public import proofs.«01_k».proof.Proof.Gen.RefPwNnIdeal.Read
public import proofs.«01_k».proof.Proof.Gen.ProductPwTnIdeal.Value
public import proofs.«01_k».proof.Proof.Gen.RefPwTnIdeal.Read
public import proofs.«01_k».proof.Proof.Gen.ProductPwNtIdeal.Value
public import proofs.«01_k».proof.Proof.Gen.RefPwNtIdeal.Read

@[expose] public section

set_option maxRecDepth 16384

noncomputable section

/-! ## The memory, rows against columns -/
namespace Cert.ProdMemNn

open Idealize.ShloMosaic Idealize.ShloMosaic.TcCoe Idealize.SL.Sem Cert.Products
open Cert.ProductMemNnIdeal Cert.ProductMemNnIdeal.Gen

variable (m : (ℓ : Loc nD τ sig) → Buf (Elt Ideal) ℓ) (c : Dev nD)

/-- Where the blocks lie: there is one point, and it takes the arrays whole. -/
theorem idx : ∀ t : Fin cfg0.N, win0_0.index t = ![0, 0] ∧ win0_1.index t = ![0, 0] ∧ win0_2.index t = ![0, 0] :=
  (by decide +kernel : ∀ t : Fin grid0.N, _)

/-- The arguments, as arrays of extended reals. -/
abbrev A0 : FVec Ideal S256x1024 .bf16 := m ((c.tc : Thread nD τ).loc main_arg0)
abbrev A1 : FVec Ideal S1024x1024 .bf16 := m ((c.tc : Thread nD τ).loc main_arg1)

/-- The blocks staged at the point, in terms of the arguments. -/
theorem in0 (t : Fin cfg0.N) : iblk m c 0 t = A0 m c := by
  funext j; blk_point [iblk, V, idx t]
theorem in1 (t : Fin cfg0.N) : iblk m c 1 t = A1 m c := by
  funext j; blk_point [iblk, V, idx t]

/-- What the point leaves in its output block. -/
theorem point (x0 : FVec Ideal S256x1024 .bf16) (x1 : FVec Ideal S1024x1024 .bf16) (y : S256x1024.Idx) :
    out0_2 (F := Ideal) x0 x1 y = nn .bf16 x0 x1 y := by
  unfold out0_2 nn
  idx_vars y
  canon_tiles x h
  idx_vars x
  obtain rfl : y0 = x0 := Fin.ext (by omega)
  obtain rfl : y1 = x1 := Fin.ext (by omega)
  pointwise [k0_pay1]
  all_goals blk_ext

theorem final : (dats m 0 c).arrAt 2 cfg0.N = nn .bf16 (A0 m c) (A1 m c) := by
  refine (dats m 0 c).arrAt_eq_of_covers 2 _ (by decide +kernel) fun t hf y => ?_
  blk_simp
  rw [after0_2, point, in0, in1]
  refine congrArg (nn .bf16 (A0 m c) (A1 m c)) ?_
  all_goals (blk_ext [idx t] <;> try omega)

/-- The reference's result is the same product. -/
theorem ref (X : FVec Ideal S256x1024 .bf16) (Y : FVec Ideal S1024x1024 .bf16) : RefMemNnIdeal.Read.val_main_v3 (F := Ideal) X Y = nn .bf16 X Y := by
  funext j
  rw [RefMemNnIdeal.Read.val_main_v3_apply, RefMemNnIdeal.Read.val_main_v2_apply]
  refine Finset.sum_congr rfl fun l _ => ?_
  rw [RefMemNnIdeal.Read.val_main_v0_apply, RefMemNnIdeal.Read.val_main_v1_apply]
  refine congrArg₂ (· * ·) (congrArg X ?_) (congrArg Y ?_)
  all_goals blk_ext

end Cert.ProdMemNn

/-! ## The memory, columns against columns -/
namespace Cert.ProdMemTn

open Idealize.ShloMosaic Idealize.ShloMosaic.TcCoe Idealize.SL.Sem Cert.Products
open Cert.ProductMemTnIdeal Cert.ProductMemTnIdeal.Gen

variable (m : (ℓ : Loc nD τ sig) → Buf (Elt Ideal) ℓ) (c : Dev nD)

/-- Where the blocks lie: there is one point, and it takes the arrays whole. -/
theorem idx : ∀ t : Fin cfg0.N, win0_0.index t = ![0, 0] ∧ win0_1.index t = ![0, 0] ∧ win0_2.index t = ![0, 0] :=
  (by decide +kernel : ∀ t : Fin grid0.N, _)

/-- The arguments, as arrays of extended reals. -/
abbrev A0 : FVec Ideal S256x1024 .bf16 := m ((c.tc : Thread nD τ).loc main_arg0)
abbrev A1 : FVec Ideal S256x1024 .f32 := m ((c.tc : Thread nD τ).loc main_arg1)

/-- The blocks staged at the point, in terms of the arguments. -/
theorem in0 (t : Fin cfg0.N) : iblk m c 0 t = A0 m c := by
  funext j; blk_point [iblk, V, idx t]
theorem in1 (t : Fin cfg0.N) : iblk m c 1 t = A1 m c := by
  funext j; blk_point [iblk, V, idx t]

/-- What the point leaves in its output block. -/
theorem point (x0 : FVec Ideal S256x1024 .bf16) (x1 : FVec Ideal S256x1024 .f32) (y : S1024x1024.Idx) :
    out0_2 (F := Ideal) x0 x1 y = tn .bf16 x0 x1 y := by
  unfold out0_2 tn
  idx_vars y
  canon_tiles x h
  idx_vars x
  obtain rfl : y0 = x0 := Fin.ext (by omega)
  obtain rfl : y1 = x1 := Fin.ext (by omega)
  pointwise [k0_pay1]
  all_goals blk_ext

theorem final : (dats m 0 c).arrAt 2 cfg0.N = tn .bf16 (A0 m c) (A1 m c) := by
  refine (dats m 0 c).arrAt_eq_of_covers 2 _ (by decide +kernel) fun t hf y => ?_
  blk_simp
  rw [after0_2, point, in0, in1]
  refine congrArg (tn .bf16 (A0 m c) (A1 m c)) ?_
  all_goals (blk_ext [idx t] <;> try omega)

/-- The reference's result is the same product. -/
theorem ref (X : FVec Ideal S256x1024 .bf16) (Y : FVec Ideal S256x1024 .f32) : RefMemTnIdeal.Read.val_main_v5 (F := Ideal) X Y = tn .bf16 X Y := by
  funext j
  rw [RefMemTnIdeal.Read.val_main_v5_apply, RefMemTnIdeal.Read.val_main_v4_apply, RefMemTnIdeal.Read.val_main_v3_apply]
  refine Finset.sum_congr rfl fun l _ => ?_
  rw [RefMemTnIdeal.Read.val_main_v0_apply, mul_comm]
  refine congrArg₂ (· * ·) (congrArg X ?_) (congrArg Y ?_)
  all_goals blk_ext

end Cert.ProdMemTn

/-! ## The memory, rows against rows -/
namespace Cert.ProdMemNt

open Idealize.ShloMosaic Idealize.ShloMosaic.TcCoe Idealize.SL.Sem Cert.Products
open Cert.ProductMemNtIdeal Cert.ProductMemNtIdeal.Gen

variable (m : (ℓ : Loc nD τ sig) → Buf (Elt Ideal) ℓ) (c : Dev nD)

/-- Where the blocks lie: there is one point, and it takes the arrays whole. -/
theorem idx : ∀ t : Fin cfg0.N, win0_0.index t = ![0, 0] ∧ win0_1.index t = ![0, 0] ∧ win0_2.index t = ![0, 0] :=
  (by decide +kernel : ∀ t : Fin grid0.N, _)

/-- The arguments, as arrays of extended reals. -/
abbrev A0 : FVec Ideal S256x1024 .f32 := m ((c.tc : Thread nD τ).loc main_arg0)
abbrev A1 : FVec Ideal S1024x1024 .bf16 := m ((c.tc : Thread nD τ).loc main_arg1)

/-- The blocks staged at the point, in terms of the arguments. -/
theorem in0 (t : Fin cfg0.N) : iblk m c 0 t = A0 m c := by
  funext j; blk_point [iblk, V, idx t]
theorem in1 (t : Fin cfg0.N) : iblk m c 1 t = A1 m c := by
  funext j; blk_point [iblk, V, idx t]

/-- What the point leaves in its output block. -/
theorem point (x0 : FVec Ideal S256x1024 .f32) (x1 : FVec Ideal S1024x1024 .bf16) (y : S256x1024.Idx) :
    out0_2 (F := Ideal) x0 x1 y = nt .f32 x0 x1 y := by
  unfold out0_2 nt
  idx_vars y
  canon_tiles x h
  idx_vars x
  obtain rfl : y0 = x0 := Fin.ext (by omega)
  obtain rfl : y1 = x1 := Fin.ext (by omega)
  pointwise [k0_pay1]
  all_goals blk_ext

theorem final : (dats m 0 c).arrAt 2 cfg0.N = nt .f32 (A0 m c) (A1 m c) := by
  refine (dats m 0 c).arrAt_eq_of_covers 2 _ (by decide +kernel) fun t hf y => ?_
  blk_simp
  rw [after0_2, point, in0, in1]
  refine congrArg (nt .f32 (A0 m c) (A1 m c)) ?_
  all_goals (blk_ext [idx t] <;> try omega)

/-- The reference's result is the same product. -/
theorem ref (X : FVec Ideal S256x1024 .f32) (Y : FVec Ideal S1024x1024 .bf16) : RefMemNtIdeal.Read.val_main_v3 (F := Ideal) X Y = nt .f32 X Y := by
  funext j
  rw [RefMemNtIdeal.Read.val_main_v3_apply]
  refine Finset.sum_congr rfl fun l _ => ?_
  rw [RefMemNtIdeal.Read.val_main_v0_apply]
  refine congrArg₂ (· * ·) (congrArg X ?_) (congrArg Y ?_)
  all_goals blk_ext

end Cert.ProdMemNt

/-! ## The channels, rows against columns, with the bias -/
namespace Cert.ProdPwNn

open Idealize.ShloMosaic Idealize.ShloMosaic.TcCoe Idealize.SL.Sem Cert.Products
open Cert.ProductPwNnIdeal Cert.ProductPwNnIdeal.Gen

variable (m : (ℓ : Loc nD τ sig) → Buf (Elt Ideal) ℓ) (c : Dev nD)

/-- Where the blocks lie. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The arguments, as arrays of extended reals. -/
abbrev A0 : FVec Ideal S4096x256 .bf16 := m ((c.tc : Thread nD τ).loc main_arg0)
abbrev A1 : FVec Ideal S256x256 .bf16 := m ((c.tc : Thread nD τ).loc main_arg1)
abbrev A2 : FVec Ideal S1x256 .f32 := m ((c.tc : Thread nD τ).loc main_arg2)

/-- The blocks staged at a point, in terms of the arguments. -/
theorem in0 (t : Fin cfg0.N) (i : Fin 1024) (l : Fin 256) (i' : Fin 4096) (hi : i'.val = t.val * 1024 + i.val) :
    iblk m c 0 t (ix2 i l) = A0 m c (ix2 i' l) := by
  blk_point [iblk, V, idx t, hi]
theorem in1 (t : Fin cfg0.N) : iblk m c 1 t = A1 m c := by
  funext j; blk_point [iblk, V, idx t]
theorem in2 (t : Fin cfg0.N) : iblk m c 2 t = A2 m c := by
  funext j; blk_point [iblk, V, idx t]

/-- A product with one row added to each of its rows. -/
def biased {a k : ℕ} (X : FVec Ideal ⟨2, ![a, k]⟩ .bf16) (Y : FVec Ideal ⟨2, ![k, 256]⟩ .bf16) (B : FVec Ideal S1x256 .f32) : FVec Ideal ⟨2, ![a, 256]⟩ .bf16 :=
  fun j => nn .f32 X Y j + B (ix2 0 (j 1))

/-- What a point leaves in its output block. -/
theorem point (x0 : FVec Ideal S1024x256 .bf16) (x1 : FVec Ideal S256x256 .bf16) (x2 : FVec Ideal S1x256 .f32) (y : S1024x256.Idx) :
    out0_3 (F := Ideal) x0 x1 x2 y = biased x0 x1 x2 y := by
  unfold out0_3 biased nn
  idx_vars y
  canon_tiles x h
  idx_vars x
  obtain rfl : y0 = x0 := Fin.ext (by omega)
  obtain rfl : y1 = x1 := Fin.ext (by omega)
  pointwise [k0_pay1]
  all_goals blk_ext

theorem final : (dats m 0 c).arrAt 3 cfg0.N = biased (A0 m c) (A1 m c) (A2 m c) := by
  refine (dats m 0 c).arrAt_eq_of_covers 3 _ (by decide +kernel) fun t hf y => ?_
  blk_simp
  rw [after0_3, point, in1, in2]
  refine congrArg₂ (· + ·) (nn_block (fun l => in0 m c t _ l _ ?_) fun l => congrArg (A1 m c) ?_) (congrArg (A2 m c) ?_)
  all_goals (blk_ext [idx t] <;> try omega)

/-- The reference's result is the same product with the row added. -/
theorem ref (X : FVec Ideal S4096x256 .bf16) (Y : FVec Ideal S256x256 .bf16) (B : FVec Ideal S1x256 .f32) :
    RefPwNnIdeal.Read.val_main_v5 (F := Ideal) X Y B = biased X Y B := by
  funext j
  rw [RefPwNnIdeal.Read.val_main_v5_apply, RefPwNnIdeal.Read.val_main_v4_apply, RefPwNnIdeal.Read.val_main_v3_apply, RefPwNnIdeal.Read.val_main_v2_apply]
  refine congrArg₂ (· + ·) (Finset.sum_congr rfl fun l _ => ?_) (congrArg B ?_)
  · rw [RefPwNnIdeal.Read.val_main_v0_apply, RefPwNnIdeal.Read.val_main_v1_apply]
    refine congrArg₂ (· * ·) (congrArg X ?_) (congrArg Y ?_)
    all_goals blk_ext
  · blk_ext

end Cert.ProdPwNn

/-! ## The channels, columns against columns, in two halves of the rows -/
namespace Cert.ProdPwTn

open Idealize.ShloMosaic Idealize.ShloMosaic.TcCoe Idealize.SL.Sem Cert.Products
open Cert.ProductPwTnIdeal Cert.ProductPwTnIdeal.Gen

variable (m : (ℓ : Loc nD τ sig) → Buf (Elt Ideal) ℓ) (c : Dev nD)

/-- Where the blocks lie. -/
theorem idx : ∀ t : Fin cfg0.N, win0_0.index t = ![t.val % 2, 0] ∧ win0_1.index t = ![t.val % 2, 0] ∧ win0_2.index t = ![0, 0] :=
  (by decide +kernel : ∀ t : Fin grid0.N, _)

/-- The arguments, as arrays of extended reals. -/
abbrev A0 : FVec Ideal S4096x256 .bf16 := m ((c.tc : Thread nD τ).loc main_arg0)
abbrev A1 : FVec Ideal S4096x256 .f32 := m ((c.tc : Thread nD τ).loc main_arg1)

/-- The blocks staged at a point, in terms of the arguments. -/
theorem in0 (t : Fin cfg0.N) (i : Fin 2048) (l : Fin 256) (i' : Fin 4096) (hi : i'.val = t.val % 2 * 2048 + i.val) :
    iblk m c 0 t (ix2 i l) = A0 m c (ix2 i' l) := by
  blk_point [iblk, V, idx t, hi]
theorem in1 (t : Fin cfg0.N) (i : Fin 2048) (l : Fin 256) (i' : Fin 4096) (hi : i'.val = t.val % 2 * 2048 + i.val) :
    iblk m c 1 t (ix2 i l) = A1 m c (ix2 i' l) := by
  blk_point [iblk, V, idx t, hi]

/-- The body's product. -/
theorem pay (x : FVec Ideal S2048x256 .bf16) (y : FVec Ideal S2048x256 .f32) (j : S256x256.Idx) : k0_pay1 (F := Ideal) x y j = tn .f32 x y j := by
  unfold tn
  idx_vars j
  pointwise [k0_pay1]
  all_goals blk_ext

/-- The first half's point leaves its blocks' product in the accumulator. -/
theorem point_A (t : Fin cfg0.N) (h : t.val % 2 = 0) (y : S256x256.Idx) :
    (outsAt0 m c t.val t.isLt).2 y = tn (φ := .bf16) (ψ := .f32) .f32 (iblk m c 0 t) (iblk m c 1 t) y := by
  rw [outsAt0_A m c t h (by omega) (by omega)]
  frame_open
  simp (disch := decide) only [↓ View.readCov_skip, ↓ View.readCov_cons_toLoadRect, ↓ View.readCov_fill]
  frame_out
  idx_vars y
  rw [← pay]
  pointwise [k0_pay2]
  all_goals blk_ext

/-- The second half's point adds its blocks' product and stores the sum. -/
theorem point_B (t : Fin cfg0.N) (h : t.val % 2 = 1) (y : S256x256.Idx) :
    (outsAt0 m c t.val t.isLt).1 y
      = (outsAt0 m c (t.val - 1) (Nat.lt_of_le_of_lt (Nat.sub_le _ _) t.isLt)).2 y + tn (φ := .bf16) (ψ := .f32) .f32 (iblk m c 0 t) (iblk m c 1 t) y := by
  rw [outsAt0_B m c t (by omega) h h]
  frame_open
  simp (disch := decide) only [↓ View.readCov_skip, ↓ View.readCov_cons_toLoadRect, ↓ View.readCov_fill]
  frame_out
  idx_vars y
  rw [← pay]
  pointwise [k0_pay3, k0_pay4]
  exact congrArg (· + _) (congrFun (Memref.IsWhole.read_unread _ _) _)

theorem final : (dats m 0 c).arrAt 2 cfg0.N = tn .bf16 (A0 m c) (A1 m c) := by
  refine (dats m 0 c).arrAt_eq_of_covers 2 _ (by decide +kernel) fun t hf y => ?_
  have ht : t.val % 2 = 1 := (by decide +kernel : ∀ t : Fin cfg0.N, (cfg0.win 2).flush t = true → t.val % 2 = 1) t hf
  obtain ⟨s, hs⟩ : ∃ s : Fin cfg0.N, s.val = t.val - 1 := ⟨⟨t.val - 1, Nat.lt_of_le_of_lt (Nat.sub_le _ _) t.isLt⟩, rfl⟩
  have hr : s.val / 2 = t.val / 2 := by omega
  blk_simp
  rw [after0_2, point_B m c t ht]
  simp only [← hs]
  rw [point_A m c s (by omega)]
  refine tn_halves (by decide) (fun l p e => (in0 m c s l _ p ?_).trans (congrArg (A0 m c) ?_))
    (fun l p e => (in1 m c s l _ p ?_).trans (congrArg (A1 m c) ?_)) (fun l p e => (in0 m c t l _ p ?_).trans (congrArg (A0 m c) ?_))
    (fun l p e => (in1 m c t l _ p ?_).trans (congrArg (A1 m c) ?_))
  all_goals first | omega | (blk_ext [idx t, hr] <;> omega)

/-- The reference's result is the same product. -/
theorem ref (X : FVec Ideal S4096x256 .bf16) (Y : FVec Ideal S4096x256 .f32) : RefPwTnIdeal.Read.val_main_v5 (F := Ideal) X Y = tn .bf16 X Y := by
  funext j
  rw [RefPwTnIdeal.Read.val_main_v5_apply, RefPwTnIdeal.Read.val_main_v4_apply, RefPwTnIdeal.Read.val_main_v3_apply]
  refine Finset.sum_congr rfl fun l _ => ?_
  rw [RefPwTnIdeal.Read.val_main_v0_apply, mul_comm]
  refine congrArg₂ (· * ·) (congrArg X ?_) (congrArg Y ?_)
  all_goals blk_ext

end Cert.ProdPwTn

/-! ## The channels, rows against rows -/
namespace Cert.ProdPwNt

open Idealize.ShloMosaic Idealize.ShloMosaic.TcCoe Idealize.SL.Sem Cert.Products
open Cert.ProductPwNtIdeal Cert.ProductPwNtIdeal.Gen

variable (m : (ℓ : Loc nD τ sig) → Buf (Elt Ideal) ℓ) (c : Dev nD)

/-- Where the blocks lie. -/
theorem idx : ∀ t : Fin cfg0.N, win0_0.index t = ![t.val, 0] ∧ win0_1.index t = ![0, 0] ∧ win0_2.index t = ![t.val, 0] :=
  (by decide +kernel : ∀ t : Fin grid0.N, _)

/-- The arguments, as arrays of extended reals. -/
abbrev A0 : FVec Ideal S4096x256 .f32 := m ((c.tc : Thread nD τ).loc main_arg0)
abbrev A1 : FVec Ideal S256x256 .bf16 := m ((c.tc : Thread nD τ).loc main_arg1)

/-- The blocks staged at a point, in terms of the arguments. -/
theorem in0 (t : Fin cfg0.N) (i : Fin 1024) (l : Fin 256) (i' : Fin 4096) (hi : i'.val = t.val * 1024 + i.val) :
    iblk m c 0 t (ix2 i l) = A0 m c (ix2 i' l) := by
  blk_point [iblk, V, idx t, hi]
theorem in1 (t : Fin cfg0.N) : iblk m c 1 t = A1 m c := by
  funext j; blk_point [iblk, V, idx t]

/-- What a point leaves in its output block. -/
theorem point (x0 : FVec Ideal S1024x256 .f32) (x1 : FVec Ideal S256x256 .bf16) (y : S1024x256.Idx) :
    out0_2 (F := Ideal) x0 x1 y = nt .f32 x0 x1 y := by
  unfold out0_2 nt
  idx_vars y
  canon_tiles x h
  idx_vars x
  obtain rfl : y0 = x0 := Fin.ext (by omega)
  obtain rfl : y1 = x1 := Fin.ext (by omega)
  pointwise [k0_pay1]
  all_goals blk_ext

theorem final : (dats m 0 c).arrAt 2 cfg0.N = nt .f32 (A0 m c) (A1 m c) := by
  refine (dats m 0 c).arrAt_eq_of_covers 2 _ (by decide +kernel) fun t hf y => ?_
  blk_simp
  rw [after0_2, point, in1]
  refine nt_block (fun l => in0 m c t _ l _ ?_) fun l => congrArg (A1 m c) ?_
  all_goals (blk_ext [idx t] <;> try omega)

/-- The reference's result is the same product. -/
theorem ref (X : FVec Ideal S4096x256 .f32) (Y : FVec Ideal S256x256 .bf16) : RefPwNtIdeal.Read.val_main_v3 (F := Ideal) X Y = nt .f32 X Y := by
  funext j
  rw [RefPwNtIdeal.Read.val_main_v3_apply]
  refine Finset.sum_congr rfl fun l _ => ?_
  rw [RefPwNtIdeal.Read.val_main_v0_apply]
  refine congrArg₂ (· * ·) (congrArg X ?_) (congrArg Y ?_)
  all_goals blk_ext

end Cert.ProdPwNt

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.AdamwIn
public import proofs.«01_k».proof.Proof.Gen.AdamwIn.Skeleton
public import proofs.«01_k».proof.Proof.Gen.AdamwIn.Launch
public import proofs.«01_k».proof.Proof.Gen.AdamwIn.Points
public import proofs.«01_k».proof.Proof.Gen.AdamwIn.Frame
public import proofs.«01_k».proof.Proof.Gen.AdamwInIdeal
public import proofs.«01_k».proof.Proof.Gen.AdamwInIdeal.Skeleton
public import proofs.«01_k».proof.Proof.Gen.AdamwInIdeal.Launch
public import proofs.«01_k».proof.Proof.Gen.AdamwInIdeal.Points
public import proofs.«01_k».proof.Proof.Gen.AdamwInIdeal.Frame
public import proofs.«01_k».proof.Proof.Gen.AdamwInIdeal.Value
public import proofs.«01_k».proof.Proof.Gen.RefAdamwInIdeal
public import proofs.«01_k».proof.Proof.Gen.RefAdamwInIdeal.Run
public import proofs.«01_k».proof.Proof.Gen.RefAdamwInIdeal.Read
public import proofs.«01_k».proof.Proof.Gen.AdamwUp
public import proofs.«01_k».proof.Proof.Gen.AdamwUp.Skeleton
public import proofs.«01_k».proof.Proof.Gen.AdamwUp.Launch
public import proofs.«01_k».proof.Proof.Gen.AdamwUp.Points
public import proofs.«01_k».proof.Proof.Gen.AdamwUp.Frame
public import proofs.«01_k».proof.Proof.Gen.AdamwUpIdeal
public import proofs.«01_k».proof.Proof.Gen.AdamwUpIdeal.Skeleton
public import proofs.«01_k».proof.Proof.Gen.AdamwUpIdeal.Launch
public import proofs.«01_k».proof.Proof.Gen.AdamwUpIdeal.Points
public import proofs.«01_k».proof.Proof.Gen.AdamwUpIdeal.Frame
public import proofs.«01_k».proof.Proof.Gen.AdamwUpIdeal.Value
public import proofs.«01_k».proof.Proof.Gen.RefAdamwUpIdeal
public import proofs.«01_k».proof.Proof.Gen.RefAdamwUpIdeal.Run
public import proofs.«01_k».proof.Proof.Gen.RefAdamwUpIdeal.Read
public import proofs.«01_k».proof.Proof.Gen.AdamwPw
public import proofs.«01_k».proof.Proof.Gen.AdamwPw.Skeleton
public import proofs.«01_k».proof.Proof.Gen.AdamwPw.Launch
public import proofs.«01_k».proof.Proof.Gen.AdamwPw.Points
public import proofs.«01_k».proof.Proof.Gen.AdamwPw.Frame
public import proofs.«01_k».proof.Proof.Gen.AdamwPwIdeal
public import proofs.«01_k».proof.Proof.Gen.AdamwPwIdeal.Skeleton
public import proofs.«01_k».proof.Proof.Gen.AdamwPwIdeal.Launch
public import proofs.«01_k».proof.Proof.Gen.AdamwPwIdeal.Points
public import proofs.«01_k».proof.Proof.Gen.AdamwPwIdeal.Frame
public import proofs.«01_k».proof.Proof.Gen.AdamwPwIdeal.Value
public import proofs.«01_k».proof.Proof.Gen.RefAdamwPwIdeal
public import proofs.«01_k».proof.Proof.Gen.RefAdamwPwIdeal.Run
public import proofs.«01_k».proof.Proof.Gen.RefAdamwPwIdeal.Read
public import proofs.«01_k».proof.Proof.Gen.AdamwSmall
public import proofs.«01_k».proof.Proof.Gen.AdamwSmall.Skeleton
public import proofs.«01_k».proof.Proof.Gen.AdamwSmall.Launch
public import proofs.«01_k».proof.Proof.Gen.AdamwSmall.Points
public import proofs.«01_k».proof.Proof.Gen.AdamwSmall.Frame
public import proofs.«01_k».proof.Proof.Gen.AdamwSmallIdeal
public import proofs.«01_k».proof.Proof.Gen.AdamwSmallIdeal.Skeleton
public import proofs.«01_k».proof.Proof.Gen.AdamwSmallIdeal.Launch
public import proofs.«01_k».proof.Proof.Gen.AdamwSmallIdeal.Points
public import proofs.«01_k».proof.Proof.Gen.AdamwSmallIdeal.Frame
public import proofs.«01_k».proof.Proof.Gen.AdamwSmallIdeal.Value
public import proofs.«01_k».proof.Proof.Gen.RefAdamwSmallIdeal
public import proofs.«01_k».proof.Proof.Gen.RefAdamwSmallIdeal.Run
public import proofs.«01_k».proof.Proof.Gen.RefAdamwSmallIdeal.Read
public import proofs.«01_k».proof.Proof.Gen.AdamwOut
public import proofs.«01_k».proof.Proof.Gen.AdamwOut.Skeleton
public import proofs.«01_k».proof.Proof.Gen.AdamwOut.Launch
public import proofs.«01_k».proof.Proof.Gen.AdamwOut.Points
public import proofs.«01_k».proof.Proof.Gen.AdamwOut.Frame
public import proofs.«01_k».proof.Proof.Gen.AdamwOutIdeal
public import proofs.«01_k».proof.Proof.Gen.AdamwOutIdeal.Skeleton
public import proofs.«01_k».proof.Proof.Gen.AdamwOutIdeal.Launch
public import proofs.«01_k».proof.Proof.Gen.AdamwOutIdeal.Points
public import proofs.«01_k».proof.Proof.Gen.AdamwOutIdeal.Frame
public import proofs.«01_k».proof.Proof.Gen.AdamwOutIdeal.Value
public import proofs.«01_k».proof.Proof.Gen.RefAdamwOutIdeal
public import proofs.«01_k».proof.Proof.Gen.RefAdamwOutIdeal.Run
public import proofs.«01_k».proof.Proof.Gen.RefAdamwOutIdeal.Read
public import proofs.«01_k».proof.Proof.Gen.AdamwXq
public import proofs.«01_k».proof.Proof.Gen.AdamwXq.Skeleton
public import proofs.«01_k».proof.Proof.Gen.AdamwXq.Launch
public import proofs.«01_k».proof.Proof.Gen.AdamwXq.Points
public import proofs.«01_k».proof.Proof.Gen.AdamwXq.Frame
public import proofs.«01_k».proof.Proof.Gen.AdamwXqIdeal
public import proofs.«01_k».proof.Proof.Gen.AdamwXqIdeal.Skeleton
public import proofs.«01_k».proof.Proof.Gen.AdamwXqIdeal.Launch
public import proofs.«01_k».proof.Proof.Gen.AdamwXqIdeal.Points
public import proofs.«01_k».proof.Proof.Gen.AdamwXqIdeal.Frame
public import proofs.«01_k».proof.Proof.Gen.AdamwXqIdeal.Value
public import proofs.«01_k».proof.Proof.Gen.RefAdamwXqIdeal
public import proofs.«01_k».proof.Proof.Gen.RefAdamwXqIdeal.Run
public import proofs.«01_k».proof.Proof.Gen.RefAdamwXqIdeal.Read
public import proofs.«01_k».proof.Proof.Gen.AdamwXk
public import proofs.«01_k».proof.Proof.Gen.AdamwXk.Skeleton
public import proofs.«01_k».proof.Proof.Gen.AdamwXk.Launch
public import proofs.«01_k».proof.Proof.Gen.AdamwXk.Points
public import proofs.«01_k».proof.Proof.Gen.AdamwXk.Frame
public import proofs.«01_k».proof.Proof.Gen.AdamwXkIdeal
public import proofs.«01_k».proof.Proof.Gen.AdamwXkIdeal.Skeleton
public import proofs.«01_k».proof.Proof.Gen.AdamwXkIdeal.Launch
public import proofs.«01_k».proof.Proof.Gen.AdamwXkIdeal.Points
public import proofs.«01_k».proof.Proof.Gen.AdamwXkIdeal.Frame
public import proofs.«01_k».proof.Proof.Gen.AdamwXkIdeal.Value
public import proofs.«01_k».proof.Proof.Gen.RefAdamwXkIdeal
public import proofs.«01_k».proof.Proof.Gen.RefAdamwXkIdeal.Run
public import proofs.«01_k».proof.Proof.Gen.RefAdamwXkIdeal.Read
public import proofs.«01_k».proof.Proof.Gen.AdamwXv
public import proofs.«01_k».proof.Proof.Gen.AdamwXv.Skeleton
public import proofs.«01_k».proof.Proof.Gen.AdamwXv.Launch
public import proofs.«01_k».proof.Proof.Gen.AdamwXv.Points
public import proofs.«01_k».proof.Proof.Gen.AdamwXv.Frame
public import proofs.«01_k».proof.Proof.Gen.AdamwXvIdeal
public import proofs.«01_k».proof.Proof.Gen.AdamwXvIdeal.Skeleton
public import proofs.«01_k».proof.Proof.Gen.AdamwXvIdeal.Launch
public import proofs.«01_k».proof.Proof.Gen.AdamwXvIdeal.Points
public import proofs.«01_k».proof.Proof.Gen.AdamwXvIdeal.Frame
public import proofs.«01_k».proof.Proof.Gen.AdamwXvIdeal.Value
public import proofs.«01_k».proof.Proof.Gen.RefAdamwXvIdeal
public import proofs.«01_k».proof.Proof.Gen.RefAdamwXvIdeal.Run
public import proofs.«01_k».proof.Proof.Gen.RefAdamwXvIdeal.Read
public import proofs.«01_k».proof.Proof.Gen.AdamwXo
public import proofs.«01_k».proof.Proof.Gen.AdamwXo.Skeleton
public import proofs.«01_k».proof.Proof.Gen.AdamwXo.Launch
public import proofs.«01_k».proof.Proof.Gen.AdamwXo.Points
public import proofs.«01_k».proof.Proof.Gen.AdamwXo.Frame
public import proofs.«01_k».proof.Proof.Gen.AdamwXoIdeal
public import proofs.«01_k».proof.Proof.Gen.AdamwXoIdeal.Skeleton
public import proofs.«01_k».proof.Proof.Gen.AdamwXoIdeal.Launch
public import proofs.«01_k».proof.Proof.Gen.AdamwXoIdeal.Points
public import proofs.«01_k».proof.Proof.Gen.AdamwXoIdeal.Frame
public import proofs.«01_k».proof.Proof.Gen.AdamwXoIdeal.Value
public import proofs.«01_k».proof.Proof.Gen.RefAdamwXoIdeal
public import proofs.«01_k».proof.Proof.Gen.RefAdamwXoIdeal.Run
public import proofs.«01_k».proof.Proof.Gen.RefAdamwXoIdeal.Read
public import proofs.«01_k».proof.Proof.Gen.AdamwDown
public import proofs.«01_k».proof.Proof.Gen.AdamwDown.Skeleton
public import proofs.«01_k».proof.Proof.Gen.AdamwDown.Launch
public import proofs.«01_k».proof.Proof.Gen.AdamwDown.Points
public import proofs.«01_k».proof.Proof.Gen.AdamwDown.Frame
public import proofs.«01_k».proof.Proof.Gen.AdamwDownIdeal
public import proofs.«01_k».proof.Proof.Gen.AdamwDownIdeal.Skeleton
public import proofs.«01_k».proof.Proof.Gen.AdamwDownIdeal.Launch
public import proofs.«01_k».proof.Proof.Gen.AdamwDownIdeal.Points
public import proofs.«01_k».proof.Proof.Gen.AdamwDownIdeal.Frame
public import proofs.«01_k».proof.Proof.Gen.AdamwDownIdeal.Value
public import proofs.«01_k».proof.Proof.Gen.RefAdamwDownIdeal
public import proofs.«01_k».proof.Proof.Gen.RefAdamwDownIdeal.Run
public import proofs.«01_k».proof.Proof.Gen.RefAdamwDownIdeal.Read
public import proofs.«01_k».proof.Proof.Gen.ProductNt
public import proofs.«01_k».proof.Proof.Gen.ProductNt.Skeleton
public import proofs.«01_k».proof.Proof.Gen.ProductNt.Launch
public import proofs.«01_k».proof.Proof.Gen.ProductNt.Points
public import proofs.«01_k».proof.Proof.Gen.ProductNt.Frame
public import proofs.«01_k».proof.Proof.Gen.ProductNtIdeal
public import proofs.«01_k».proof.Proof.Gen.ProductNtIdeal.Skeleton
public import proofs.«01_k».proof.Proof.Gen.ProductNtIdeal.Launch
public import proofs.«01_k».proof.Proof.Gen.ProductNtIdeal.Points
public import proofs.«01_k».proof.Proof.Gen.ProductNtIdeal.Frame
public import proofs.«01_k».proof.Proof.Gen.ProductNtIdeal.Value
public import proofs.«01_k».proof.Proof.Gen.RefNtIdeal
public import proofs.«01_k».proof.Proof.Gen.RefNtIdeal.Run
public import proofs.«01_k».proof.Proof.Gen.RefNtIdeal.Read
public import proofs.«01_k».proof.Proof.Gen.ProductTn
public import proofs.«01_k».proof.Proof.Gen.ProductTn.Skeleton
public import proofs.«01_k».proof.Proof.Gen.ProductTn.Launch
public import proofs.«01_k».proof.Proof.Gen.ProductTn.Points
public import proofs.«01_k».proof.Proof.Gen.ProductTn.Frame
public import proofs.«01_k».proof.Proof.Gen.ProductTnIdeal
public import proofs.«01_k».proof.Proof.Gen.ProductTnIdeal.Skeleton
public import proofs.«01_k».proof.Proof.Gen.ProductTnIdeal.Launch
public import proofs.«01_k».proof.Proof.Gen.ProductTnIdeal.Points
public import proofs.«01_k».proof.Proof.Gen.ProductTnIdeal.Frame
public import proofs.«01_k».proof.Proof.Gen.ProductTnIdeal.Value
public import proofs.«01_k».proof.Proof.Gen.RefTnIdeal
public import proofs.«01_k».proof.Proof.Gen.RefTnIdeal.Run
public import proofs.«01_k».proof.Proof.Gen.RefTnIdeal.Read
public import proofs.«01_k».proof.Proof.Gen.ProductNn
public import proofs.«01_k».proof.Proof.Gen.ProductNn.Skeleton
public import proofs.«01_k».proof.Proof.Gen.ProductNn.Launch
public import proofs.«01_k».proof.Proof.Gen.ProductNn.Points
public import proofs.«01_k».proof.Proof.Gen.ProductNn.Frame
public import proofs.«01_k».proof.Proof.Gen.ProductNnIdeal
public import proofs.«01_k».proof.Proof.Gen.ProductNnIdeal.Skeleton
public import proofs.«01_k».proof.Proof.Gen.ProductNnIdeal.Launch
public import proofs.«01_k».proof.Proof.Gen.ProductNnIdeal.Points
public import proofs.«01_k».proof.Proof.Gen.ProductNnIdeal.Frame
public import proofs.«01_k».proof.Proof.Gen.ProductNnIdeal.Value
public import proofs.«01_k».proof.Proof.Gen.RefNnIdeal
public import proofs.«01_k».proof.Proof.Gen.RefNnIdeal.Run
public import proofs.«01_k».proof.Proof.Gen.RefNnIdeal.Read
public import proofs.«01_k».proof.Proof.Gen.ProductSqNt
public import proofs.«01_k».proof.Proof.Gen.ProductSqNt.Skeleton
public import proofs.«01_k».proof.Proof.Gen.ProductSqNt.Launch
public import proofs.«01_k».proof.Proof.Gen.ProductSqNt.Points
public import proofs.«01_k».proof.Proof.Gen.ProductSqNt.Frame
public import proofs.«01_k».proof.Proof.Gen.ProductSqNtIdeal
public import proofs.«01_k».proof.Proof.Gen.ProductSqNtIdeal.Skeleton
public import proofs.«01_k».proof.Proof.Gen.ProductSqNtIdeal.Launch
public import proofs.«01_k».proof.Proof.Gen.ProductSqNtIdeal.Points
public import proofs.«01_k».proof.Proof.Gen.ProductSqNtIdeal.Frame
public import proofs.«01_k».proof.Proof.Gen.ProductSqNtIdeal.Value
public import proofs.«01_k».proof.Proof.Gen.RefSqNtIdeal
public import proofs.«01_k».proof.Proof.Gen.RefSqNtIdeal.Run
public import proofs.«01_k».proof.Proof.Gen.RefSqNtIdeal.Read
public import proofs.«01_k».proof.Proof.Gen.ProductSqNtB
public import proofs.«01_k».proof.Proof.Gen.ProductSqNtB.Skeleton
public import proofs.«01_k».proof.Proof.Gen.ProductSqNtB.Launch
public import proofs.«01_k».proof.Proof.Gen.ProductSqNtB.Points
public import proofs.«01_k».proof.Proof.Gen.ProductSqNtB.Frame
public import proofs.«01_k».proof.Proof.Gen.ProductSqNtBIdeal
public import proofs.«01_k».proof.Proof.Gen.ProductSqNtBIdeal.Skeleton
public import proofs.«01_k».proof.Proof.Gen.ProductSqNtBIdeal.Launch
public import proofs.«01_k».proof.Proof.Gen.ProductSqNtBIdeal.Points
public import proofs.«01_k».proof.Proof.Gen.ProductSqNtBIdeal.Frame
public import proofs.«01_k».proof.Proof.Gen.ProductSqNtBIdeal.Value
public import proofs.«01_k».proof.Proof.Gen.RefSqNtBIdeal
public import proofs.«01_k».proof.Proof.Gen.RefSqNtBIdeal.Run
public import proofs.«01_k».proof.Proof.Gen.RefSqNtBIdeal.Read
public import proofs.«01_k».proof.Proof.Gen.ProductSqTn
public import proofs.«01_k».proof.Proof.Gen.ProductSqTn.Skeleton
public import proofs.«01_k».proof.Proof.Gen.ProductSqTn.Launch
public import proofs.«01_k».proof.Proof.Gen.ProductSqTn.Points
public import proofs.«01_k».proof.Proof.Gen.ProductSqTn.Frame
public import proofs.«01_k».proof.Proof.Gen.ProductSqTnIdeal
public import proofs.«01_k».proof.Proof.Gen.ProductSqTnIdeal.Skeleton
public import proofs.«01_k».proof.Proof.Gen.ProductSqTnIdeal.Launch
public import proofs.«01_k».proof.Proof.Gen.ProductSqTnIdeal.Points
public import proofs.«01_k».proof.Proof.Gen.ProductSqTnIdeal.Frame
public import proofs.«01_k».proof.Proof.Gen.ProductSqTnIdeal.Value
public import proofs.«01_k».proof.Proof.Gen.RefSqTnIdeal
public import proofs.«01_k».proof.Proof.Gen.RefSqTnIdeal.Run
public import proofs.«01_k».proof.Proof.Gen.RefSqTnIdeal.Read
public import proofs.«01_k».proof.Proof.Gen.ProductSqNn
public import proofs.«01_k».proof.Proof.Gen.ProductSqNn.Skeleton
public import proofs.«01_k».proof.Proof.Gen.ProductSqNn.Launch
public import proofs.«01_k».proof.Proof.Gen.ProductSqNn.Points
public import proofs.«01_k».proof.Proof.Gen.ProductSqNn.Frame
public import proofs.«01_k».proof.Proof.Gen.ProductSqNnIdeal
public import proofs.«01_k».proof.Proof.Gen.ProductSqNnIdeal.Skeleton
public import proofs.«01_k».proof.Proof.Gen.ProductSqNnIdeal.Launch
public import proofs.«01_k».proof.Proof.Gen.ProductSqNnIdeal.Points
public import proofs.«01_k».proof.Proof.Gen.ProductSqNnIdeal.Frame
public import proofs.«01_k».proof.Proof.Gen.ProductSqNnIdeal.Value
public import proofs.«01_k».proof.Proof.Gen.RefSqNnIdeal
public import proofs.«01_k».proof.Proof.Gen.RefSqNnIdeal.Run
public import proofs.«01_k».proof.Proof.Gen.RefSqNnIdeal.Read
public import proofs.«01_k».proof.Proof.Gen.ProductSqNnB
public import proofs.«01_k».proof.Proof.Gen.ProductSqNnB.Skeleton
public import proofs.«01_k».proof.Proof.Gen.ProductSqNnB.Launch
public import proofs.«01_k».proof.Proof.Gen.ProductSqNnB.Points
public import proofs.«01_k».proof.Proof.Gen.ProductSqNnB.Frame
public import proofs.«01_k».proof.Proof.Gen.ProductSqNnBIdeal
public import proofs.«01_k».proof.Proof.Gen.ProductSqNnBIdeal.Skeleton
public import proofs.«01_k».proof.Proof.Gen.ProductSqNnBIdeal.Launch
public import proofs.«01_k».proof.Proof.Gen.ProductSqNnBIdeal.Points
public import proofs.«01_k».proof.Proof.Gen.ProductSqNnBIdeal.Frame
public import proofs.«01_k».proof.Proof.Gen.ProductSqNnBIdeal.Value
public import proofs.«01_k».proof.Proof.Gen.RefSqNnBIdeal
public import proofs.«01_k».proof.Proof.Gen.RefSqNnBIdeal.Run
public import proofs.«01_k».proof.Proof.Gen.RefSqNnBIdeal.Read
public import proofs.«01_k».proof.Proof.Final
public import proofs.«01_k».proof.Proof.Ref
public import proofs.«01_k».proof.Proof.Finite
public import proofs.«01_k».proof.Proof.Wide
public import proofs.«01_k».proof.Proof.Square
public import proofs.«01_k».proof.Proof.AdamIn
public import proofs.«01_k».proof.Proof.AdamUp
public import proofs.«01_k».proof.Proof.AdamPw
public import proofs.«01_k».proof.Proof.AdamSmall
public import proofs.«01_k».proof.Proof.AdamOut
public import proofs.«01_k».proof.Proof.AdamXq
public import proofs.«01_k».proof.Proof.AdamXk
public import proofs.«01_k».proof.Proof.AdamXv
public import proofs.«01_k».proof.Proof.AdamXo
public import proofs.«01_k».proof.Proof.AdamDown
public import Idealize.ShloMosaic.Adequacy
public import Idealize.ShloMosaic.Init
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.RefLossIdeal
public import proofs.«01_k».proof.Proof.Gen.RefLossIdeal.Run
public import proofs.«01_k».proof.Proof.Gen.RefLossIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.RefNormIdeal
public import proofs.«01_k».proof.Proof.Gen.RefNormIdeal.Run
public import proofs.«01_k».proof.Proof.Gen.RefNormIdeal.Read
public import proofs.«01_k».proof.Proof.LossSum
public import proofs.«01_k».proof.Proof.NormGrad
public import proofs.«01_k».proof.Proof.NormStream
public import proofs.«01_k».proof.Proof.NormStreamTwo
public import proofs.«01_k».proof.Proof.NormEnds
public import proofs.«01_k».proof.Proof.Gen.NormMid
public import proofs.«01_k».proof.Proof.Gen.NormMid.Skeleton
public import proofs.«01_k».proof.Proof.Gen.NormMid.Launch
public import proofs.«01_k».proof.Proof.Gen.NormMid.Points
public import proofs.«01_k».proof.Proof.Gen.NormMid.Frame
public import proofs.«01_k».proof.Proof.Gen.NormMidIdeal
public import proofs.«01_k».proof.Proof.Gen.NormMidIdeal.Skeleton
public import proofs.«01_k».proof.Proof.Gen.NormMidIdeal.Launch
public import proofs.«01_k».proof.Proof.Gen.NormMidIdeal.Points
public import proofs.«01_k».proof.Proof.Gen.NormMidIdeal.Frame
public import proofs.«01_k».proof.Proof.Gen.NormMidIdeal.Value
public import proofs.«01_k».proof.Proof.Gen.RefNormMidIdeal
public import proofs.«01_k».proof.Proof.Gen.RefNormMidIdeal.Run
public import proofs.«01_k».proof.Proof.Gen.RefNormMidIdeal.Read
public import proofs.«01_k».proof.Proof.Gen.NormMidTwo
public import proofs.«01_k».proof.Proof.Gen.NormMidTwo.Skeleton
public import proofs.«01_k».proof.Proof.Gen.NormMidTwo.Launch
public import proofs.«01_k».proof.Proof.Gen.NormMidTwo.Points
public import proofs.«01_k».proof.Proof.Gen.NormMidTwo.Frame
public import proofs.«01_k».proof.Proof.Gen.NormMidTwoIdeal
public import proofs.«01_k».proof.Proof.Gen.NormMidTwoIdeal.Skeleton
public import proofs.«01_k».proof.Proof.Gen.NormMidTwoIdeal.Launch
public import proofs.«01_k».proof.Proof.Gen.NormMidTwoIdeal.Points
public import proofs.«01_k».proof.Proof.Gen.NormMidTwoIdeal.Frame
public import proofs.«01_k».proof.Proof.Gen.NormMidTwoIdeal.Value
public import proofs.«01_k».proof.Proof.Gen.RefNormMidTwoIdeal
public import proofs.«01_k».proof.Proof.Gen.RefNormMidTwoIdeal.Run
public import proofs.«01_k».proof.Proof.Gen.RefNormMidTwoIdeal.Read
public import proofs.«01_k».proof.Proof.Gen.NormLast
public import proofs.«01_k».proof.Proof.Gen.NormLast.Skeleton
public import proofs.«01_k».proof.Proof.Gen.NormLast.Launch
public import proofs.«01_k».proof.Proof.Gen.NormLast.Points
public import proofs.«01_k».proof.Proof.Gen.NormLast.Frame
public import proofs.«01_k».proof.Proof.Gen.NormLastIdeal
public import proofs.«01_k».proof.Proof.Gen.NormLastIdeal.Skeleton
public import proofs.«01_k».proof.Proof.Gen.NormLastIdeal.Launch
public import proofs.«01_k».proof.Proof.Gen.NormLastIdeal.Points
public import proofs.«01_k».proof.Proof.Gen.NormLastIdeal.Frame
public import proofs.«01_k».proof.Proof.Gen.NormLastIdeal.Value
public import proofs.«01_k».proof.Proof.Gen.RefNormLastIdeal
public import proofs.«01_k».proof.Proof.Gen.RefNormLastIdeal.Run
public import proofs.«01_k».proof.Proof.Gen.RefNormLastIdeal.Read
public import proofs.«01_k».proof.Proof.Gen.NormGain
public import proofs.«01_k».proof.Proof.Gen.NormGain.Skeleton
public import proofs.«01_k».proof.Proof.Gen.NormGain.Launch
public import proofs.«01_k».proof.Proof.Gen.NormGain.Points
public import proofs.«01_k».proof.Proof.Gen.NormGain.Frame
public import proofs.«01_k».proof.Proof.Gen.NormGainIdeal
public import proofs.«01_k».proof.Proof.Gen.NormGainIdeal.Skeleton
public import proofs.«01_k».proof.Proof.Gen.NormGainIdeal.Launch
public import proofs.«01_k».proof.Proof.Gen.NormGainIdeal.Points
public import proofs.«01_k».proof.Proof.Gen.NormGainIdeal.Frame
public import proofs.«01_k».proof.Proof.Gen.NormGainIdeal.Value
public import proofs.«01_k».proof.Proof.Gen.RefNormGainIdeal
public import proofs.«01_k».proof.Proof.Gen.RefNormGainIdeal.Run
public import proofs.«01_k».proof.Proof.Gen.RefNormGainIdeal.Read
public import proofs.«01_k».proof.Proof.Gen.LossSum
public import proofs.«01_k».proof.Proof.Gen.LossSumIdeal
public import proofs.«01_k».proof.Proof.Gen.LossSumIdeal.Launch
public import proofs.«01_k».proof.Proof.Gen.RefLossSumIdeal
public import proofs.«01_k».proof.Proof.Gen.RefLossSumIdeal.Run
public import proofs.«01_k».proof.Proof.Gen.RefLossSumIdeal.Read
public import proofs.«01_k».proof.Proof.LossMeshSum
public import proofs.«01_k».proof.Proof.Gen.RopeBack
public import proofs.«01_k».proof.Proof.Gen.RopeBack.Skeleton
public import proofs.«01_k».proof.Proof.Gen.RopeBack.Launch
public import proofs.«01_k».proof.Proof.Gen.RopeBack.Points
public import proofs.«01_k».proof.Proof.Gen.RopeBack.Frame
public import proofs.«01_k».proof.Proof.Gen.RopeBackIdeal
public import proofs.«01_k».proof.Proof.Gen.RopeBackIdeal.Skeleton
public import proofs.«01_k».proof.Proof.Gen.RopeBackIdeal.Launch
public import proofs.«01_k».proof.Proof.Gen.RopeBackIdeal.Points
public import proofs.«01_k».proof.Proof.Gen.RopeBackIdeal.Frame
public import proofs.«01_k».proof.Proof.Gen.RopeBackIdeal.Value
public import proofs.«01_k».proof.Proof.Gen.RefRopeBackIdeal
public import proofs.«01_k».proof.Proof.Gen.RefRopeBackIdeal.Run
public import proofs.«01_k».proof.Proof.Gen.RefRopeBackIdeal.Read
public import proofs.«01_k».proof.Proof.RopeBack
public import proofs.«01_k».proof.Proof.Gen.InNorm
public import proofs.«01_k».proof.Proof.Gen.InNorm.Skeleton
public import proofs.«01_k».proof.Proof.Gen.InNorm.Launch
public import proofs.«01_k».proof.Proof.Gen.InNorm.Points
public import proofs.«01_k».proof.Proof.Gen.InNorm.Frame
public import proofs.«01_k».proof.Proof.Gen.InNormIdeal
public import proofs.«01_k».proof.Proof.Gen.InNormIdeal.Skeleton
public import proofs.«01_k».proof.Proof.Gen.InNormIdeal.Launch
public import proofs.«01_k».proof.Proof.Gen.InNormIdeal.Points
public import proofs.«01_k».proof.Proof.Gen.InNormIdeal.Frame
public import proofs.«01_k».proof.Proof.Gen.InNormIdeal.Value
public import proofs.«01_k».proof.Proof.Gen.RefInNormIdeal
public import proofs.«01_k».proof.Proof.Gen.RefInNormIdeal.Run
public import proofs.«01_k».proof.Proof.Gen.RefInNormIdeal.Read
public import proofs.«01_k».proof.Proof.Gen.MemNorm
public import proofs.«01_k».proof.Proof.Gen.MemNorm.Skeleton
public import proofs.«01_k».proof.Proof.Gen.MemNorm.Launch
public import proofs.«01_k».proof.Proof.Gen.MemNorm.Points
public import proofs.«01_k».proof.Proof.Gen.MemNorm.Frame
public import proofs.«01_k».proof.Proof.Gen.MemNormIdeal
public import proofs.«01_k».proof.Proof.Gen.MemNormIdeal.Skeleton
public import proofs.«01_k».proof.Proof.Gen.MemNormIdeal.Launch
public import proofs.«01_k».proof.Proof.Gen.MemNormIdeal.Points
public import proofs.«01_k».proof.Proof.Gen.MemNormIdeal.Frame
public import proofs.«01_k».proof.Proof.Gen.MemNormIdeal.Value
public import proofs.«01_k».proof.Proof.Gen.RefMemNormIdeal
public import proofs.«01_k».proof.Proof.Gen.RefMemNormIdeal.Run
public import proofs.«01_k».proof.Proof.Gen.RefMemNormIdeal.Read
public import proofs.«01_k».proof.Proof.Gen.ResNorm
public import proofs.«01_k».proof.Proof.Gen.ResNorm.Skeleton
public import proofs.«01_k».proof.Proof.Gen.ResNorm.Launch
public import proofs.«01_k».proof.Proof.Gen.ResNorm.Points
public import proofs.«01_k».proof.Proof.Gen.ResNorm.Frame
public import proofs.«01_k».proof.Proof.Gen.ResNormIdeal
public import proofs.«01_k».proof.Proof.Gen.ResNormIdeal.Skeleton
public import proofs.«01_k».proof.Proof.Gen.ResNormIdeal.Launch
public import proofs.«01_k».proof.Proof.Gen.ResNormIdeal.Points
public import proofs.«01_k».proof.Proof.Gen.ResNormIdeal.Frame
public import proofs.«01_k».proof.Proof.Gen.ResNormIdeal.Value
public import proofs.«01_k».proof.Proof.Gen.RefResNormIdeal
public import proofs.«01_k».proof.Proof.Gen.RefResNormIdeal.Run
public import proofs.«01_k».proof.Proof.Gen.RefResNormIdeal.Read
public import proofs.«01_k».proof.Proof.Gen.ResLast
public import proofs.«01_k».proof.Proof.Gen.ResLast.Skeleton
public import proofs.«01_k».proof.Proof.Gen.ResLast.Launch
public import proofs.«01_k».proof.Proof.Gen.ResLast.Points
public import proofs.«01_k».proof.Proof.Gen.ResLast.Frame
public import proofs.«01_k».proof.Proof.Gen.ResLastIdeal
public import proofs.«01_k».proof.Proof.Gen.ResLastIdeal.Skeleton
public import proofs.«01_k».proof.Proof.Gen.ResLastIdeal.Launch
public import proofs.«01_k».proof.Proof.Gen.ResLastIdeal.Points
public import proofs.«01_k».proof.Proof.Gen.ResLastIdeal.Frame
public import proofs.«01_k».proof.Proof.Gen.ResLastIdeal.Value
public import proofs.«01_k».proof.Proof.Gen.RefResLastIdeal
public import proofs.«01_k».proof.Proof.Gen.RefResLastIdeal.Run
public import proofs.«01_k».proof.Proof.Gen.RefResLastIdeal.Read
public import proofs.«01_k».proof.Proof.Gen.XattnFwd
public import proofs.«01_k».proof.Proof.Gen.XattnFwd.Skeleton
public import proofs.«01_k».proof.Proof.Gen.XattnFwd.Launch
public import proofs.«01_k».proof.Proof.Gen.XattnFwd.Points
public import proofs.«01_k».proof.Proof.Gen.XattnFwd.Frame
public import proofs.«01_k».proof.Proof.Gen.XattnFwdIdeal
public import proofs.«01_k».proof.Proof.Gen.XattnFwdIdeal.Skeleton
public import proofs.«01_k».proof.Proof.Gen.XattnFwdIdeal.Launch
public import proofs.«01_k».proof.Proof.Gen.XattnFwdIdeal.Points
public import proofs.«01_k».proof.Proof.Gen.XattnFwdIdeal.Frame
public import proofs.«01_k».proof.Proof.Gen.XattnFwdIdeal.Value
public import proofs.«01_k».proof.Proof.Gen.RefXattnFwdIdeal
public import proofs.«01_k».proof.Proof.Gen.RefXattnFwdIdeal.Run
public import proofs.«01_k».proof.Proof.Gen.RefXattnFwdIdeal.Read
public import proofs.«01_k».proof.Proof.Gen.RopeFwd
public import proofs.«01_k».proof.Proof.Gen.RopeFwd.Skeleton
public import proofs.«01_k».proof.Proof.Gen.RopeFwd.Launch
public import proofs.«01_k».proof.Proof.Gen.RopeFwd.Points
public import proofs.«01_k».proof.Proof.Gen.RopeFwd.Frame
public import proofs.«01_k».proof.Proof.Gen.RopeFwdIdeal
public import proofs.«01_k».proof.Proof.Gen.RopeFwdIdeal.Skeleton
public import proofs.«01_k».proof.Proof.Gen.RopeFwdIdeal.Launch
public import proofs.«01_k».proof.Proof.Gen.RopeFwdIdeal.Points
public import proofs.«01_k».proof.Proof.Gen.RopeFwdIdeal.Frame
public import proofs.«01_k».proof.Proof.Gen.RopeFwdIdeal.Value
public import proofs.«01_k».proof.Proof.Gen.RefRopeFwdIdeal
public import proofs.«01_k».proof.Proof.Gen.RefRopeFwdIdeal.Run
public import proofs.«01_k».proof.Proof.Gen.RefRopeFwdIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.RefMixIdeal
public import proofs.«01_k».proof.Proof.Gen.RefMixIdeal.Run
public import proofs.«01_k».proof.Proof.Gen.RefMixIdeal.Read
public import proofs.«01_k».proof.Proof.Normed
public import proofs.«01_k».proof.Proof.XattnFwd
public import proofs.«01_k».proof.Proof.RopeFwd
public import proofs.«01_k».proof.Proof.Mixed
public import proofs.«01_k».proof.Proof.Gen.ProductMemNn
public import proofs.«01_k».proof.Proof.Gen.ProductMemNn.Skeleton
public import proofs.«01_k».proof.Proof.Gen.ProductMemNn.Launch
public import proofs.«01_k».proof.Proof.Gen.ProductMemNn.Points
public import proofs.«01_k».proof.Proof.Gen.ProductMemNn.Frame
public import proofs.«01_k».proof.Proof.Gen.ProductMemNnIdeal
public import proofs.«01_k».proof.Proof.Gen.ProductMemNnIdeal.Skeleton
public import proofs.«01_k».proof.Proof.Gen.ProductMemNnIdeal.Launch
public import proofs.«01_k».proof.Proof.Gen.ProductMemNnIdeal.Points
public import proofs.«01_k».proof.Proof.Gen.ProductMemNnIdeal.Frame
public import proofs.«01_k».proof.Proof.Gen.ProductMemNnIdeal.Value
public import proofs.«01_k».proof.Proof.Gen.RefMemNnIdeal
public import proofs.«01_k».proof.Proof.Gen.RefMemNnIdeal.Run
public import proofs.«01_k».proof.Proof.Gen.RefMemNnIdeal.Read
public import proofs.«01_k».proof.Proof.Gen.ProductMemTn
public import proofs.«01_k».proof.Proof.Gen.ProductMemTn.Skeleton
public import proofs.«01_k».proof.Proof.Gen.ProductMemTn.Launch
public import proofs.«01_k».proof.Proof.Gen.ProductMemTn.Points
public import proofs.«01_k».proof.Proof.Gen.ProductMemTn.Frame
public import proofs.«01_k».proof.Proof.Gen.ProductMemTnIdeal
public import proofs.«01_k».proof.Proof.Gen.ProductMemTnIdeal.Skeleton
public import proofs.«01_k».proof.Proof.Gen.ProductMemTnIdeal.Launch
public import proofs.«01_k».proof.Proof.Gen.ProductMemTnIdeal.Points
public import proofs.«01_k».proof.Proof.Gen.ProductMemTnIdeal.Frame
public import proofs.«01_k».proof.Proof.Gen.ProductMemTnIdeal.Value
public import proofs.«01_k».proof.Proof.Gen.RefMemTnIdeal
public import proofs.«01_k».proof.Proof.Gen.RefMemTnIdeal.Run
public import proofs.«01_k».proof.Proof.Gen.RefMemTnIdeal.Read
public import proofs.«01_k».proof.Proof.Gen.ProductMemNt
public import proofs.«01_k».proof.Proof.Gen.ProductMemNt.Skeleton
public import proofs.«01_k».proof.Proof.Gen.ProductMemNt.Launch
public import proofs.«01_k».proof.Proof.Gen.ProductMemNt.Points
public import proofs.«01_k».proof.Proof.Gen.ProductMemNt.Frame
public import proofs.«01_k».proof.Proof.Gen.ProductMemNtIdeal
public import proofs.«01_k».proof.Proof.Gen.ProductMemNtIdeal.Skeleton
public import proofs.«01_k».proof.Proof.Gen.ProductMemNtIdeal.Launch
public import proofs.«01_k».proof.Proof.Gen.ProductMemNtIdeal.Points
public import proofs.«01_k».proof.Proof.Gen.ProductMemNtIdeal.Frame
public import proofs.«01_k».proof.Proof.Gen.ProductMemNtIdeal.Value
public import proofs.«01_k».proof.Proof.Gen.RefMemNtIdeal
public import proofs.«01_k».proof.Proof.Gen.RefMemNtIdeal.Run
public import proofs.«01_k».proof.Proof.Gen.RefMemNtIdeal.Read
public import proofs.«01_k».proof.Proof.Gen.ProductPwNn
public import proofs.«01_k».proof.Proof.Gen.ProductPwNn.Skeleton
public import proofs.«01_k».proof.Proof.Gen.ProductPwNn.Launch
public import proofs.«01_k».proof.Proof.Gen.ProductPwNn.Points
public import proofs.«01_k».proof.Proof.Gen.ProductPwNn.Frame
public import proofs.«01_k».proof.Proof.Gen.ProductPwNnIdeal
public import proofs.«01_k».proof.Proof.Gen.ProductPwNnIdeal.Skeleton
public import proofs.«01_k».proof.Proof.Gen.ProductPwNnIdeal.Launch
public import proofs.«01_k».proof.Proof.Gen.ProductPwNnIdeal.Points
public import proofs.«01_k».proof.Proof.Gen.ProductPwNnIdeal.Frame
public import proofs.«01_k».proof.Proof.Gen.ProductPwNnIdeal.Value
public import proofs.«01_k».proof.Proof.Gen.RefPwNnIdeal
public import proofs.«01_k».proof.Proof.Gen.RefPwNnIdeal.Run
public import proofs.«01_k».proof.Proof.Gen.RefPwNnIdeal.Read
public import proofs.«01_k».proof.Proof.Gen.ProductPwTn
public import proofs.«01_k».proof.Proof.Gen.ProductPwTn.Skeleton
public import proofs.«01_k».proof.Proof.Gen.ProductPwTn.Launch
public import proofs.«01_k».proof.Proof.Gen.ProductPwTn.Points
public import proofs.«01_k».proof.Proof.Gen.ProductPwTn.Frame
public import proofs.«01_k».proof.Proof.Gen.ProductPwTnIdeal
public import proofs.«01_k».proof.Proof.Gen.ProductPwTnIdeal.Skeleton
public import proofs.«01_k».proof.Proof.Gen.ProductPwTnIdeal.Launch
public import proofs.«01_k».proof.Proof.Gen.ProductPwTnIdeal.Points
public import proofs.«01_k».proof.Proof.Gen.ProductPwTnIdeal.Frame
public import proofs.«01_k».proof.Proof.Gen.ProductPwTnIdeal.Value
public import proofs.«01_k».proof.Proof.Gen.RefPwTnIdeal
public import proofs.«01_k».proof.Proof.Gen.RefPwTnIdeal.Run
public import proofs.«01_k».proof.Proof.Gen.RefPwTnIdeal.Read
public import proofs.«01_k».proof.Proof.Gen.ProductPwNt
public import proofs.«01_k».proof.Proof.Gen.ProductPwNt.Skeleton
public import proofs.«01_k».proof.Proof.Gen.ProductPwNt.Launch
public import proofs.«01_k».proof.Proof.Gen.ProductPwNt.Points
public import proofs.«01_k».proof.Proof.Gen.ProductPwNt.Frame
public import proofs.«01_k».proof.Proof.Gen.ProductPwNtIdeal
public import proofs.«01_k».proof.Proof.Gen.ProductPwNtIdeal.Skeleton
public import proofs.«01_k».proof.Proof.Gen.ProductPwNtIdeal.Launch
public import proofs.«01_k».proof.Proof.Gen.ProductPwNtIdeal.Points
public import proofs.«01_k».proof.Proof.Gen.ProductPwNtIdeal.Frame
public import proofs.«01_k».proof.Proof.Gen.ProductPwNtIdeal.Value
public import proofs.«01_k».proof.Proof.Gen.RefPwNtIdeal
public import proofs.«01_k».proof.Proof.Gen.RefPwNtIdeal.Run
public import proofs.«01_k».proof.Proof.Gen.RefPwNtIdeal.Read
public import proofs.«01_k».proof.Proof.Small

@[expose] public section

noncomputable section

namespace Cert.Proof

open Idealize.ShloMosaic Idealize.SL.Sem

/-- The reference leaves its arguments alone; it has no semaphore. -/
theorem frameR (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run _ _ _).mono (fun r h => ⟨fun c => (h c).2.2.2, sem_eq_zero_of_no_sems (by decide) _⟩) (ReferenceIdeal.Value.run m g)

/-- The cross-attention's gradient: both programs end with the three gradients of `Cert.Final`. -/
theorem xattn : @algebraic_KernelIdeal_ReferenceIdeal_pre_finite_qk Cert.KernelIdeal.Gen.facts Cert.ReferenceIdeal.Gen.facts Cert.Finite.facts := by
  intro m g m' g' pre same
  have real := fun c => @Cert.Finite.real_head_scores Cert.Finite.facts (Final.A0 m c) (Final.A1 m c) (Final.A2 m c) (Final.A3 m c) (pre c)
  refine ⟨fun c => Final.allDq m c, fun c => Final.allDk m c, fun c => Final.allDv m c, ?_, ?_⟩
  · exact (θ_run _ _ _).mono (fun r h c => ⟨(h c).1.trans (Final.final4 m c), (h c).2.1.trans (Final.final5 m c),
      (h c).2.2.1.trans (Final.final6 m c), (h c).2.2.2⟩) (KernelIdeal.Value.run_blocks m g)
  · exact (θ_run _ _ _).mono (fun r h c => ⟨(h c).1.trans (Ref.res_dq m' c (same c).1 (same c).2.1 (same c).2.2.1 (same c).2.2.2 (real c)),
      (h c).2.1.trans (Ref.res_dk m' c (same c).1 (same c).2.1 (same c).2.2.1 (same c).2.2.2 (real c)),
      ((h c).2.2.1.trans (ReferenceIdeal.Read.val_main_v64_eq _ _ _)).trans (Ref.res_dv m' c (same c).1 (same c).2.1 (same c).2.2.2), (h c).2.2.2⟩)
      (ReferenceIdeal.Value.run m' g')

/-! The products: both programs end with the product of `Cert.Products`. -/

theorem productNt : @algebraic_ProductNtIdeal_RefNtIdeal Cert.ProductNtIdeal.Gen.facts Cert.RefNtIdeal.Gen.facts := by
  intro m g m' g' _ same
  refine ⟨fun c => Products.nt .f32 (ProdNt.A0 m c) (ProdNt.A1 m c), ?_, ?_⟩
  · exact (θ_run _ _ _).mono (fun r h c => ⟨(h c).1.trans (ProdNt.final m c), (h c).2⟩) (ProductNtIdeal.Value.run_blocks m g)
  · exact (θ_run _ _ _).mono (fun r h c => ⟨((h c).1.trans (RefNtIdeal.Read.val_main_v4_eq _ _)).trans
      ((ProdNt.ref _ _).trans (congrArg₂ (Products.nt .f32) (same c).1 (same c).2)), (h c).2⟩) (RefNtIdeal.Value.run m' g')

theorem productTn : @algebraic_ProductTnIdeal_RefTnIdeal Cert.ProductTnIdeal.Gen.facts Cert.RefTnIdeal.Gen.facts := by
  intro m g m' g' _ same
  refine ⟨fun c => Products.tn .bf16 (ProdTn.A0 m c) (ProdTn.A1 m c), ?_, ?_⟩
  · exact (θ_run _ _ _).mono (fun r h c => ⟨(h c).1.trans (ProdTn.final m c), (h c).2⟩) (ProductTnIdeal.Value.run_blocks m g)
  · exact (θ_run _ _ _).mono (fun r h c => ⟨((h c).1.trans (RefTnIdeal.Read.val_main_v6_eq _ _)).trans
      ((ProdTn.ref _ _).trans (congrArg₂ (Products.tn .bf16) (same c).1 (same c).2)), (h c).2⟩) (RefTnIdeal.Value.run m' g')

theorem productNn : @algebraic_ProductNnIdeal_RefNnIdeal Cert.ProductNnIdeal.Gen.facts Cert.RefNnIdeal.Gen.facts := by
  intro m g m' g' _ same
  refine ⟨fun c => Products.nn .f32 (ProdNn.A0 m c) (ProdNn.A1 m c), ?_, ?_⟩
  · exact (θ_run _ _ _).mono (fun r h c => ⟨(h c).1.trans (ProdNn.final m c), (h c).2⟩) (ProductNnIdeal.Value.run_blocks m g)
  · exact (θ_run _ _ _).mono (fun r h c => ⟨((h c).1.trans (RefNnIdeal.Read.val_main_v5_eq _ _)).trans
      ((ProdNn.ref _ _).trans (congrArg₂ (Products.nn .f32) (same c).1 (same c).2)), (h c).2⟩) (RefNnIdeal.Value.run m' g')

theorem productSqNt : @algebraic_ProductSqNtIdeal_RefSqNtIdeal Cert.ProductSqNtIdeal.Gen.facts Cert.RefSqNtIdeal.Gen.facts := by
  intro m g m' g' _ same
  refine ⟨fun c => Products.nt .f32 (ProdSqNt.A0 m c) (ProdSqNt.A1 m c), ?_, ?_⟩
  · exact (θ_run _ _ _).mono (fun r h c => ⟨(h c).1.trans (ProdSqNt.final m c), (h c).2⟩) (ProductSqNtIdeal.Value.run_blocks m g)
  · exact (θ_run _ _ _).mono (fun r h c => ⟨((h c).1.trans (RefSqNtIdeal.Read.val_main_v4_eq _ _)).trans
      ((ProdSqNt.ref _ _).trans (congrArg₂ (Products.nt .f32) (same c).1 (same c).2)), (h c).2⟩) (RefSqNtIdeal.Value.run m' g')

theorem productSqNtB : @algebraic_ProductSqNtBIdeal_RefSqNtBIdeal Cert.ProductSqNtBIdeal.Gen.facts Cert.RefSqNtBIdeal.Gen.facts := by
  intro m g m' g' _ same
  refine ⟨fun c => Products.nt .bf16 (ProdSqNtB.A0 m c) (ProdSqNtB.A1 m c), ?_, ?_⟩
  · exact (θ_run _ _ _).mono (fun r h c => ⟨(h c).1.trans (ProdSqNtB.final m c), (h c).2⟩) (ProductSqNtBIdeal.Value.run_blocks m g)
  · exact (θ_run _ _ _).mono (fun r h c => ⟨((h c).1.trans (RefSqNtBIdeal.Read.val_main_v5_eq _ _)).trans
      ((ProdSqNtB.ref _ _).trans (congrArg₂ (Products.nt .bf16) (same c).1 (same c).2)), (h c).2⟩) (RefSqNtBIdeal.Value.run m' g')

theorem productSqTn : @algebraic_ProductSqTnIdeal_RefSqTnIdeal Cert.ProductSqTnIdeal.Gen.facts Cert.RefSqTnIdeal.Gen.facts := by
  intro m g m' g' _ same
  refine ⟨fun c => Products.tn .bf16 (ProdSqTn.A0 m c) (ProdSqTn.A1 m c), ?_, ?_⟩
  · exact (θ_run _ _ _).mono (fun r h c => ⟨(h c).1.trans (ProdSqTn.final m c), (h c).2⟩) (ProductSqTnIdeal.Value.run_blocks m g)
  · exact (θ_run _ _ _).mono (fun r h c => ⟨((h c).1.trans (RefSqTnIdeal.Read.val_main_v6_eq _ _)).trans
      ((ProdSqTn.ref _ _).trans (congrArg₂ (Products.tn .bf16) (same c).1 (same c).2)), (h c).2⟩) (RefSqTnIdeal.Value.run m' g')

theorem productSqNn : @algebraic_ProductSqNnIdeal_RefSqNnIdeal Cert.ProductSqNnIdeal.Gen.facts Cert.RefSqNnIdeal.Gen.facts := by
  intro m g m' g' _ same
  refine ⟨fun c => Products.nn .f32 (ProdSqNn.A0 m c) (ProdSqNn.A1 m c), ?_, ?_⟩
  · exact (θ_run _ _ _).mono (fun r h c => ⟨(h c).1.trans (ProdSqNn.final m c), (h c).2⟩) (ProductSqNnIdeal.Value.run_blocks m g)
  · exact (θ_run _ _ _).mono (fun r h c => ⟨((h c).1.trans (RefSqNnIdeal.Read.val_main_v2_eq _ _)).trans
      ((ProdSqNn.ref _ _).trans (congrArg₂ (Products.nn .f32) (same c).1 (same c).2)), (h c).2⟩) (RefSqNnIdeal.Value.run m' g')

theorem productSqNnB : @algebraic_ProductSqNnBIdeal_RefSqNnBIdeal Cert.ProductSqNnBIdeal.Gen.facts Cert.RefSqNnBIdeal.Gen.facts := by
  intro m g m' g' _ same
  refine ⟨fun c => Products.nn .bf16 (ProdSqNnB.A0 m c) (ProdSqNnB.A1 m c), ?_, ?_⟩
  · exact (θ_run _ _ _).mono (fun r h c => ⟨(h c).1.trans (ProdSqNnB.final m c), (h c).2⟩) (ProductSqNnBIdeal.Value.run_blocks m g)
  · exact (θ_run _ _ _).mono (fun r h c => ⟨((h c).1.trans (RefSqNnBIdeal.Read.val_main_v3_eq _ _)).trans
      ((ProdSqNnB.ref _ _).trans (congrArg₂ (Products.nn .bf16) (same c).1 (same c).2)), (h c).2⟩) (RefSqNnBIdeal.Value.run m' g')

/-! The updates: both programs end with the summed gradient, the change, and the two moments of `Cert.Adamw`. -/

theorem adamwIn : @algebraic_AdamwInIdeal_RefAdamwInIdeal Cert.AdamwInIdeal.Gen.facts Cert.RefAdamwInIdeal.Gen.facts := by
  intro m g m' g' _ same
  refine ⟨fun c => AdamIn.G0 m c, fun c => Adamw.deltas (AdamIn.W0 m c) (AdamIn.M0 m c) (AdamIn.N0 m c) (AdamIn.G0 m c),
    fun c => Adamw.means (AdamIn.M0 m c) (AdamIn.G0 m c), fun c => Adamw.squares (AdamIn.N0 m c) (AdamIn.G0 m c), ?_, ?_⟩
  · exact (θ_run _ _ _).mono (fun r h c => ⟨(h c).1.trans (AdamIn.final4 m c), (h c).2.1.trans (AdamIn.final5 m c),
      (h c).2.2.1.trans (AdamIn.final6 m c), (h c).2.2.2.1.trans (AdamIn.final7 m c), (h c).2.2.2.2⟩) (AdamwInIdeal.Value.run_blocks m g)
  · refine (θ_run _ _ _).mono (fun r h c => ?_) (RefAdamwInIdeal.Value.run m' g')
    have e := congrArg (Adamw.total (φ := .bf16)) (same c).1
    exact ⟨((h c).1.trans (RefAdamwInIdeal.Read.val_main_v1_eq _)).trans ((AdamIn.refG _).trans e),
      ((h c).2.1.trans (RefAdamwInIdeal.Read.val_main_v25_eq _ _ _ _)).trans ((AdamIn.refD _ _ _ _).trans (Adamw.deltas_eq (same c).2.1 (same c).2.2.1 (same c).2.2.2 e)),
      ((h c).2.2.1.trans (RefAdamwInIdeal.Read.val_main_v6_eq _ _)).trans ((AdamIn.refM _ _).trans (congrArg₂ Adamw.means (same c).2.2.1 e)),
      ((h c).2.2.2.1.trans (RefAdamwInIdeal.Read.val_main_v12_eq _ _)).trans ((AdamIn.refN _ _).trans (congrArg₂ Adamw.squares (same c).2.2.2 e)), (h c).2.2.2.2⟩

theorem adamwUp : @algebraic_AdamwUpIdeal_RefAdamwUpIdeal Cert.AdamwUpIdeal.Gen.facts Cert.RefAdamwUpIdeal.Gen.facts := by
  intro m g m' g' _ same
  refine ⟨fun c => AdamUp.G0 m c, fun c => Adamw.deltas (AdamUp.W0 m c) (AdamUp.M0 m c) (AdamUp.N0 m c) (AdamUp.G0 m c),
    fun c => Adamw.means (AdamUp.M0 m c) (AdamUp.G0 m c), fun c => Adamw.squares (AdamUp.N0 m c) (AdamUp.G0 m c), ?_, ?_⟩
  · exact (θ_run _ _ _).mono (fun r h c => ⟨(h c).1.trans (AdamUp.final4 m c), (h c).2.1.trans (AdamUp.final5 m c),
      (h c).2.2.1.trans (AdamUp.final6 m c), (h c).2.2.2.1.trans (AdamUp.final7 m c), (h c).2.2.2.2⟩) (AdamwUpIdeal.Value.run_blocks m g)
  · refine (θ_run _ _ _).mono (fun r h c => ?_) (RefAdamwUpIdeal.Value.run m' g')
    have e := congrArg (Adamw.total (φ := .bf16)) (same c).1
    exact ⟨((h c).1.trans (RefAdamwUpIdeal.Read.val_main_v1_eq _)).trans ((AdamUp.refG _).trans e),
      ((h c).2.1.trans (RefAdamwUpIdeal.Read.val_main_v25_eq _ _ _ _)).trans ((AdamUp.refD _ _ _ _).trans (Adamw.deltas_eq (same c).2.1 (same c).2.2.1 (same c).2.2.2 e)),
      ((h c).2.2.1.trans (RefAdamwUpIdeal.Read.val_main_v6_eq _ _)).trans ((AdamUp.refM _ _).trans (congrArg₂ Adamw.means (same c).2.2.1 e)),
      ((h c).2.2.2.1.trans (RefAdamwUpIdeal.Read.val_main_v12_eq _ _)).trans ((AdamUp.refN _ _).trans (congrArg₂ Adamw.squares (same c).2.2.2 e)), (h c).2.2.2.2⟩

theorem adamwPw : @algebraic_AdamwPwIdeal_RefAdamwPwIdeal Cert.AdamwPwIdeal.Gen.facts Cert.RefAdamwPwIdeal.Gen.facts := by
  intro m g m' g' _ same
  refine ⟨fun c => AdamPw.G0 m c, fun c => Adamw.deltas (AdamPw.W0 m c) (AdamPw.M0 m c) (AdamPw.N0 m c) (AdamPw.G0 m c),
    fun c => Adamw.means (AdamPw.M0 m c) (AdamPw.G0 m c), fun c => Adamw.squares (AdamPw.N0 m c) (AdamPw.G0 m c), ?_, ?_⟩
  · exact (θ_run _ _ _).mono (fun r h c => ⟨(h c).1.trans (AdamPw.final4 m c), (h c).2.1.trans (AdamPw.final5 m c),
      (h c).2.2.1.trans (AdamPw.final6 m c), (h c).2.2.2.1.trans (AdamPw.final7 m c), (h c).2.2.2.2⟩) (AdamwPwIdeal.Value.run_blocks m g)
  · refine (θ_run _ _ _).mono (fun r h c => ?_) (RefAdamwPwIdeal.Value.run m' g')
    have e := congrArg (Adamw.total (φ := .bf16)) (same c).1
    exact ⟨((h c).1.trans (RefAdamwPwIdeal.Read.val_main_v1_eq _)).trans ((AdamPw.refG _).trans e),
      ((h c).2.1.trans (RefAdamwPwIdeal.Read.val_main_v25_eq _ _ _ _)).trans ((AdamPw.refD _ _ _ _).trans (Adamw.deltas_eq (same c).2.1 (same c).2.2.1 (same c).2.2.2 e)),
      ((h c).2.2.1.trans (RefAdamwPwIdeal.Read.val_main_v6_eq _ _)).trans ((AdamPw.refM _ _).trans (congrArg₂ Adamw.means (same c).2.2.1 e)),
      ((h c).2.2.2.1.trans (RefAdamwPwIdeal.Read.val_main_v12_eq _ _)).trans ((AdamPw.refN _ _).trans (congrArg₂ Adamw.squares (same c).2.2.2 e)), (h c).2.2.2.2⟩

theorem adamwSmall : @algebraic_AdamwSmallIdeal_RefAdamwSmallIdeal Cert.AdamwSmallIdeal.Gen.facts Cert.RefAdamwSmallIdeal.Gen.facts := by
  intro m g m' g' _ same
  refine ⟨fun c => AdamSmall.G0 m c, fun c => Adamw.deltas (AdamSmall.W0 m c) (AdamSmall.M0 m c) (AdamSmall.N0 m c) (AdamSmall.G0 m c),
    fun c => Adamw.means (AdamSmall.M0 m c) (AdamSmall.G0 m c), fun c => Adamw.squares (AdamSmall.N0 m c) (AdamSmall.G0 m c), ?_, ?_⟩
  · exact (θ_run _ _ _).mono (fun r h c => ⟨(h c).1.trans (AdamSmall.final4 m c), (h c).2.1.trans (AdamSmall.final5 m c),
      (h c).2.2.1.trans (AdamSmall.final6 m c), (h c).2.2.2.1.trans (AdamSmall.final7 m c), (h c).2.2.2.2⟩) (AdamwSmallIdeal.Value.run_blocks m g)
  · refine (θ_run _ _ _).mono (fun r h c => ?_) (RefAdamwSmallIdeal.Value.run m' g')
    have e := congrArg (Adamw.total (φ := .f32)) (same c).1
    exact ⟨((h c).1.trans (RefAdamwSmallIdeal.Read.val_main_v0_eq _)).trans ((AdamSmall.refG _).trans e),
      ((h c).2.1.trans (RefAdamwSmallIdeal.Read.val_main_v24_eq _ _ _ _)).trans ((AdamSmall.refD _ _ _ _).trans (Adamw.deltas_eq (same c).2.1 (same c).2.2.1 (same c).2.2.2 e)),
      ((h c).2.2.1.trans (RefAdamwSmallIdeal.Read.val_main_v5_eq _ _)).trans ((AdamSmall.refM _ _).trans (congrArg₂ Adamw.means (same c).2.2.1 e)),
      ((h c).2.2.2.1.trans (RefAdamwSmallIdeal.Read.val_main_v11_eq _ _)).trans ((AdamSmall.refN _ _).trans (congrArg₂ Adamw.squares (same c).2.2.2 e)), (h c).2.2.2.2⟩

theorem adamwOut : @algebraic_AdamwOutIdeal_RefAdamwOutIdeal Cert.AdamwOutIdeal.Gen.facts Cert.RefAdamwOutIdeal.Gen.facts := by
  intro m g m' g' _ same
  refine ⟨fun c => AdamOut.G0 m c, fun c => Adamw.deltas (AdamOut.W0 m c) (AdamOut.M0 m c) (AdamOut.N0 m c) (AdamOut.G0 m c),
    fun c => Adamw.means (AdamOut.M0 m c) (AdamOut.G0 m c), fun c => Adamw.squares (AdamOut.N0 m c) (AdamOut.G0 m c), ?_, ?_⟩
  · exact (θ_run _ _ _).mono (fun r h c => ⟨(h c).1.trans (AdamOut.final5 m c), (h c).2.1.trans (AdamOut.final6 m c),
      (h c).2.2.1.trans (AdamOut.final7 m c), (h c).2.2.2.1.trans (AdamOut.final8 m c), (h c).2.2.2.2⟩) (AdamwOutIdeal.Value.run_blocks m g)
  · refine (θ_run _ _ _).mono (fun r h c => ?_) (RefAdamwOutIdeal.Value.run m' g')
    have e := congrArg Adamw.total (congrArg₂ AdamOut.parts (same c).1 (same c).2.1)
    exact ⟨((h c).1.trans (RefAdamwOutIdeal.Read.val_main_v4_eq _ _)).trans ((AdamOut.refG _ _).trans e),
      ((h c).2.1.trans (RefAdamwOutIdeal.Read.val_main_v28_eq _ _ _ _ _)).trans ((AdamOut.refD _ _ _ _ _).trans (Adamw.deltas_eq (same c).2.2.1 (same c).2.2.2.1 (same c).2.2.2.2 e)),
      ((h c).2.2.1.trans (RefAdamwOutIdeal.Read.val_main_v9_eq _ _ _)).trans ((AdamOut.refM _ _ _).trans (congrArg₂ Adamw.means (same c).2.2.2.1 e)),
      ((h c).2.2.2.1.trans (RefAdamwOutIdeal.Read.val_main_v15_eq _ _ _)).trans ((AdamOut.refN _ _ _).trans (congrArg₂ Adamw.squares (same c).2.2.2.2 e)), (h c).2.2.2.2⟩

theorem adamwXq : @algebraic_AdamwXqIdeal_RefAdamwXqIdeal Cert.AdamwXqIdeal.Gen.facts Cert.RefAdamwXqIdeal.Gen.facts := by
  intro m g m' g' _ same
  refine ⟨fun c => AdamXq.G0 m c, fun c => Adamw.deltas (AdamXq.W0 m c) (AdamXq.M0 m c) (AdamXq.N0 m c) (AdamXq.G0 m c),
    fun c => Adamw.means (AdamXq.M0 m c) (AdamXq.G0 m c), fun c => Adamw.squares (AdamXq.N0 m c) (AdamXq.G0 m c), ?_, ?_⟩
  · exact (θ_run _ _ _).mono (fun r h c => ⟨(h c).1.trans (AdamXq.final5 m c), (h c).2.1.trans (AdamXq.final6 m c),
      (h c).2.2.1.trans (AdamXq.final7 m c), (h c).2.2.2.1.trans (AdamXq.final8 m c), (h c).2.2.2.2⟩) (AdamwXqIdeal.Value.run_blocks m g)
  · refine (θ_run _ _ _).mono (fun r h c => ?_) (RefAdamwXqIdeal.Value.run m' g')
    have e := congrArg Adamw.total (congrArg₂ AdamXq.parts (same c).1 (same c).2.1)
    exact ⟨((h c).1.trans (RefAdamwXqIdeal.Read.val_main_v4_eq _ _)).trans ((AdamXq.refG _ _).trans e),
      ((h c).2.1.trans (RefAdamwXqIdeal.Read.val_main_v28_eq _ _ _ _ _)).trans ((AdamXq.refD _ _ _ _ _).trans (Adamw.deltas_eq (same c).2.2.1 (same c).2.2.2.1 (same c).2.2.2.2 e)),
      ((h c).2.2.1.trans (RefAdamwXqIdeal.Read.val_main_v9_eq _ _ _)).trans ((AdamXq.refM _ _ _).trans (congrArg₂ Adamw.means (same c).2.2.2.1 e)),
      ((h c).2.2.2.1.trans (RefAdamwXqIdeal.Read.val_main_v15_eq _ _ _)).trans ((AdamXq.refN _ _ _).trans (congrArg₂ Adamw.squares (same c).2.2.2.2 e)), (h c).2.2.2.2⟩

theorem adamwXk : @algebraic_AdamwXkIdeal_RefAdamwXkIdeal Cert.AdamwXkIdeal.Gen.facts Cert.RefAdamwXkIdeal.Gen.facts := by
  intro m g m' g' _ same
  refine ⟨fun c => AdamXk.G0 m c, fun c => Adamw.deltas (AdamXk.W0 m c) (AdamXk.M0 m c) (AdamXk.N0 m c) (AdamXk.G0 m c),
    fun c => Adamw.means (AdamXk.M0 m c) (AdamXk.G0 m c), fun c => Adamw.squares (AdamXk.N0 m c) (AdamXk.G0 m c), ?_, ?_⟩
  · exact (θ_run _ _ _).mono (fun r h c => ⟨(h c).1.trans (AdamXk.final5 m c), (h c).2.1.trans (AdamXk.final6 m c),
      (h c).2.2.1.trans (AdamXk.final7 m c), (h c).2.2.2.1.trans (AdamXk.final8 m c), (h c).2.2.2.2⟩) (AdamwXkIdeal.Value.run_blocks m g)
  · refine (θ_run _ _ _).mono (fun r h c => ?_) (RefAdamwXkIdeal.Value.run m' g')
    have e := congrArg Adamw.total (congrArg₂ AdamXk.parts (same c).1 (same c).2.1)
    exact ⟨((h c).1.trans (RefAdamwXkIdeal.Read.val_main_v4_eq _ _)).trans ((AdamXk.refG _ _).trans e),
      ((h c).2.1.trans (RefAdamwXkIdeal.Read.val_main_v28_eq _ _ _ _ _)).trans ((AdamXk.refD _ _ _ _ _).trans (Adamw.deltas_eq (same c).2.2.1 (same c).2.2.2.1 (same c).2.2.2.2 e)),
      ((h c).2.2.1.trans (RefAdamwXkIdeal.Read.val_main_v9_eq _ _ _)).trans ((AdamXk.refM _ _ _).trans (congrArg₂ Adamw.means (same c).2.2.2.1 e)),
      ((h c).2.2.2.1.trans (RefAdamwXkIdeal.Read.val_main_v15_eq _ _ _)).trans ((AdamXk.refN _ _ _).trans (congrArg₂ Adamw.squares (same c).2.2.2.2 e)), (h c).2.2.2.2⟩

theorem adamwXv : @algebraic_AdamwXvIdeal_RefAdamwXvIdeal Cert.AdamwXvIdeal.Gen.facts Cert.RefAdamwXvIdeal.Gen.facts := by
  intro m g m' g' _ same
  refine ⟨fun c => AdamXv.G0 m c, fun c => Adamw.deltas (AdamXv.W0 m c) (AdamXv.M0 m c) (AdamXv.N0 m c) (AdamXv.G0 m c),
    fun c => Adamw.means (AdamXv.M0 m c) (AdamXv.G0 m c), fun c => Adamw.squares (AdamXv.N0 m c) (AdamXv.G0 m c), ?_, ?_⟩
  · exact (θ_run _ _ _).mono (fun r h c => ⟨(h c).1.trans (AdamXv.final5 m c), (h c).2.1.trans (AdamXv.final6 m c),
      (h c).2.2.1.trans (AdamXv.final7 m c), (h c).2.2.2.1.trans (AdamXv.final8 m c), (h c).2.2.2.2⟩) (AdamwXvIdeal.Value.run_blocks m g)
  · refine (θ_run _ _ _).mono (fun r h c => ?_) (RefAdamwXvIdeal.Value.run m' g')
    have e := congrArg Adamw.total (congrArg₂ AdamXv.parts (same c).1 (same c).2.1)
    exact ⟨((h c).1.trans (RefAdamwXvIdeal.Read.val_main_v4_eq _ _)).trans ((AdamXv.refG _ _).trans e),
      ((h c).2.1.trans (RefAdamwXvIdeal.Read.val_main_v28_eq _ _ _ _ _)).trans ((AdamXv.refD _ _ _ _ _).trans (Adamw.deltas_eq (same c).2.2.1 (same c).2.2.2.1 (same c).2.2.2.2 e)),
      ((h c).2.2.1.trans (RefAdamwXvIdeal.Read.val_main_v9_eq _ _ _)).trans ((AdamXv.refM _ _ _).trans (congrArg₂ Adamw.means (same c).2.2.2.1 e)),
      ((h c).2.2.2.1.trans (RefAdamwXvIdeal.Read.val_main_v15_eq _ _ _)).trans ((AdamXv.refN _ _ _).trans (congrArg₂ Adamw.squares (same c).2.2.2.2 e)), (h c).2.2.2.2⟩

theorem adamwXo : @algebraic_AdamwXoIdeal_RefAdamwXoIdeal Cert.AdamwXoIdeal.Gen.facts Cert.RefAdamwXoIdeal.Gen.facts := by
  intro m g m' g' _ same
  refine ⟨fun c => AdamXo.G0 m c, fun c => Adamw.deltas (AdamXo.W0 m c) (AdamXo.M0 m c) (AdamXo.N0 m c) (AdamXo.G0 m c),
    fun c => Adamw.means (AdamXo.M0 m c) (AdamXo.G0 m c), fun c => Adamw.squares (AdamXo.N0 m c) (AdamXo.G0 m c), ?_, ?_⟩
  · exact (θ_run _ _ _).mono (fun r h c => ⟨(h c).1.trans (AdamXo.final5 m c), (h c).2.1.trans (AdamXo.final6 m c),
      (h c).2.2.1.trans (AdamXo.final7 m c), (h c).2.2.2.1.trans (AdamXo.final8 m c), (h c).2.2.2.2⟩) (AdamwXoIdeal.Value.run_blocks m g)
  · refine (θ_run _ _ _).mono (fun r h c => ?_) (RefAdamwXoIdeal.Value.run m' g')
    have e := congrArg Adamw.total (congrArg₂ AdamXo.parts (same c).1 (same c).2.1)
    exact ⟨((h c).1.trans (RefAdamwXoIdeal.Read.val_main_v4_eq _ _)).trans ((AdamXo.refG _ _).trans e),
      ((h c).2.1.trans (RefAdamwXoIdeal.Read.val_main_v28_eq _ _ _ _ _)).trans ((AdamXo.refD _ _ _ _ _).trans (Adamw.deltas_eq (same c).2.2.1 (same c).2.2.2.1 (same c).2.2.2.2 e)),
      ((h c).2.2.1.trans (RefAdamwXoIdeal.Read.val_main_v9_eq _ _ _)).trans ((AdamXo.refM _ _ _).trans (congrArg₂ Adamw.means (same c).2.2.2.1 e)),
      ((h c).2.2.2.1.trans (RefAdamwXoIdeal.Read.val_main_v15_eq _ _ _)).trans ((AdamXo.refN _ _ _).trans (congrArg₂ Adamw.squares (same c).2.2.2.2 e)), (h c).2.2.2.2⟩

theorem adamwDown : @algebraic_AdamwDownIdeal_RefAdamwDownIdeal Cert.AdamwDownIdeal.Gen.facts Cert.RefAdamwDownIdeal.Gen.facts := by
  intro m g m' g' _ same
  refine ⟨fun c => AdamDown.G0 m c, fun c => Adamw.deltas (AdamDown.W0 m c) (AdamDown.M0 m c) (AdamDown.N0 m c) (AdamDown.G0 m c),
    fun c => Adamw.means (AdamDown.M0 m c) (AdamDown.G0 m c), fun c => Adamw.squares (AdamDown.N0 m c) (AdamDown.G0 m c), ?_, ?_⟩
  · exact (θ_run _ _ _).mono (fun r h c => ⟨(h c).1.trans (AdamDown.final5 m c), (h c).2.1.trans (AdamDown.final6 m c),
      (h c).2.2.1.trans (AdamDown.final7 m c), (h c).2.2.2.1.trans (AdamDown.final8 m c), (h c).2.2.2.2⟩) (AdamwDownIdeal.Value.run_blocks m g)
  · refine (θ_run _ _ _).mono (fun r h c => ?_) (RefAdamwDownIdeal.Value.run m' g')
    have e := congrArg Adamw.total (congrArg₂ AdamDown.parts (same c).1 (same c).2.1)
    exact ⟨((h c).1.trans (RefAdamwDownIdeal.Read.val_main_v2_eq _ _)).trans ((AdamDown.refG _ _).trans e),
      ((h c).2.1.trans (RefAdamwDownIdeal.Read.val_main_v26_eq _ _ _ _ _)).trans ((AdamDown.refD _ _ _ _ _).trans (Adamw.deltas_eq (same c).2.2.1 (same c).2.2.2.1 (same c).2.2.2.2 e)),
      ((h c).2.2.1.trans (RefAdamwDownIdeal.Read.val_main_v7_eq _ _ _)).trans ((AdamDown.refM _ _ _).trans (congrArg₂ Adamw.means (same c).2.2.2.1 e)),
      ((h c).2.2.2.1.trans (RefAdamwDownIdeal.Read.val_main_v13_eq _ _ _)).trans ((AdamDown.refN _ _ _).trans (congrArg₂ Adamw.squares (same c).2.2.2.2 e)), (h c).2.2.2.2⟩

theorem lossHead : @algebraic_LossIdeal_RefLossIdeal Cert.LossIdeal.Gen.facts Cert.RefLossIdeal.Gen.facts := by
  intro m g m' g' _ same
  refine ⟨fun c => LossSum.loss (LossSum.X0 m c) (LossSum.T0 m c), fun c => LossSum.grad (LossSum.X0 m c) (LossSum.T0 m c), ?_, ?_⟩
  · exact (θ_run _ _ _).mono (fun r h c => ⟨(h c).1.trans (LossSum.final2 m c), (h c).2.1.trans (LossSum.final3 m c), (h c).2.2⟩)
      (LossIdeal.Value.run_blocks m g)
  · refine (θ_run _ _ _).mono (fun r h c => ?_) (RefLossIdeal.Value.run m' g')
    exact ⟨((h c).1.trans (RefLossIdeal.Read.val_main_v9_eq _ _)).trans ((LossSum.refL _ _).trans (congrArg₂ LossSum.loss (same c).1 (same c).2)),
      ((h c).2.1.trans (RefLossIdeal.Read.val_main_v15_eq _ _)).trans ((LossSum.refG _ _).trans (congrArg₂ LossSum.grad (same c).1 (same c).2)), (h c).2.2⟩

theorem normInput : @algebraic_NormIdeal_RefNormIdeal Cert.NormIdeal.Gen.facts Cert.RefNormIdeal.Gen.facts := by
  intro m g m' g' _ same
  refine ⟨fun c => NormGrad.grad (NormGrad.E0 m c) (NormGrad.X0 m c) (NormGrad.G0 m c) (NormGrad.D0 m c),
    fun c => NormGrad.gains (NormGrad.X0 m c) (NormGrad.D0 m c), ?_, ?_⟩
  · exact (θ_run _ _ _).mono (fun r h c => ⟨(h c).1.trans (NormGrad.final4 m c), (h c).2.1.trans (NormGrad.final5 m c), (h c).2.2⟩)
      (NormIdeal.Value.run_blocks m g)
  · refine (θ_run _ _ _).mono (fun r h c => ?_) (RefNormIdeal.Value.run m' g')
    obtain ⟨hE, hX, hG, hD⟩ := same c
    exact ⟨((h c).1.trans (RefNormIdeal.Read.val_main_v34_eq _ _ _ _)).trans ((NormGrad.refX _ _ _ _).trans (NormGrad.grad_eq hE hX hG hD)),
      ((h c).2.1.trans (RefNormIdeal.Read.val_main_v17_eq _ _)).trans ((NormGrad.refG _ _).trans (congrArg₂ NormGrad.gains hX hD)), (h c).2.2⟩

theorem normMid : @algebraic_NormMidIdeal_RefNormMidIdeal Cert.NormMidIdeal.Gen.facts Cert.RefNormMidIdeal.Gen.facts := by
  intro m g m' g' _ same
  refine ⟨NormStream.stream m, fun c => NormGrad.grad (fun _ => 0) (NormStream.Y0 m c) (NormStream.P0 m c) (NormStream.stream m c),
    fun c => NormGrad.gains (NormStream.X0 m c) (NormStream.D0 m c), fun c => NormGrad.gains (NormStream.Y0 m c) (NormStream.stream m c), ?_, ?_⟩
  · exact (θ_run _ _ _).mono (fun r h c => ⟨(h c).1.trans (NormStream.final6 m c), (h c).2.1.trans (NormStream.final7 m c),
      (h c).2.2.1.trans (NormStream.final8 m c), (h c).2.2.2.1.trans (NormStream.final9 m c), (h c).2.2.2.2⟩) (NormMidIdeal.Value.run_blocks m g)
  · refine (θ_run _ _ _).mono (fun r h c => ?_) (RefNormMidIdeal.Value.run m' g')
    obtain ⟨hE, hX, hG, hD, hY, hP⟩ := same c
    have hS := NormGrad.grad_eq hE hX hG hD
    exact ⟨((h c).1.trans (RefNormMidIdeal.Read.val_main_v34_eq _ _ _ _)).trans ((NormStream.refX _ _ _ _).trans hS),
      ((h c).2.1.trans (RefNormMidIdeal.Read.val_main_v69_eq m' c)).trans ((NormStream.refY _ _ _ _ _ _).trans (NormGrad.grad_eq rfl hY hP hS)),
      ((h c).2.2.1.trans (RefNormMidIdeal.Read.val_main_v17_eq _ _)).trans ((NormStream.refG _ _).trans (congrArg₂ NormGrad.gains hX hD)),
      ((h c).2.2.2.1.trans (RefNormMidIdeal.Read.val_main_v52_eq m' c)).trans ((NormStream.refP _ _ _ _ _).trans (congrArg₂ NormGrad.gains hY hS)),
      (h c).2.2.2.2⟩

theorem normMidTwo : @algebraic_NormMidTwoIdeal_RefNormMidTwoIdeal Cert.NormMidTwoIdeal.Gen.facts Cert.RefNormMidTwoIdeal.Gen.facts := by
  intro m g m' g' _ same
  refine ⟨NormStreamTwo.stream m,
    fun c => NormGrad.grad (fun _ => 0) (NormStreamTwo.Y0 m c) (NormStreamTwo.P0 m c) (NormStreamTwo.stream m c),
    fun c => NormGrad.gains (NormStreamTwo.X0 m c) (NormStreamTwo.both (NormStreamTwo.D0 m c) (NormStreamTwo.D1 m c)),
    fun c => NormGrad.gains (NormStreamTwo.Y0 m c) (NormStreamTwo.stream m c), ?_, ?_⟩
  · exact (θ_run _ _ _).mono (fun r h c => ⟨(h c).1.trans (NormStreamTwo.final7 m c), (h c).2.1.trans (NormStreamTwo.final8 m c),
      (h c).2.2.1.trans (NormStreamTwo.final9 m c), (h c).2.2.2.1.trans (NormStreamTwo.final10 m c), (h c).2.2.2.2⟩)
      (NormMidTwoIdeal.Value.run_blocks m g)
  · refine (θ_run _ _ _).mono (fun r h c => ?_) (RefNormMidTwoIdeal.Value.run m' g')
    obtain ⟨hE, hX, hG, hD, hD', hY, hP⟩ := same c
    have hB := congrArg₂ (NormStreamTwo.both (n := 4096)) hD hD'
    have hS := NormGrad.grad_eq hE hX hG hB
    exact ⟨((h c).1.trans (RefNormMidTwoIdeal.Read.val_main_v35_eq _ _ _ _ _)).trans ((NormStreamTwo.refX _ _ _ _ _).trans hS),
      ((h c).2.1.trans (RefNormMidTwoIdeal.Read.val_main_v70_eq m' c)).trans
        ((NormStreamTwo.refY _ _ _ _ _ _ _).trans (NormGrad.grad_eq rfl hY hP hS)),
      ((h c).2.2.1.trans (RefNormMidTwoIdeal.Read.val_main_v18_eq _ _ _)).trans ((NormStreamTwo.refG _ _ _).trans (congrArg₂ NormGrad.gains hX hB)),
      ((h c).2.2.2.1.trans (RefNormMidTwoIdeal.Read.val_main_v53_eq m' c)).trans
        ((NormStreamTwo.refP _ _ _ _ _ _).trans (congrArg₂ NormGrad.gains hY hS)), (h c).2.2.2.2⟩

theorem normLast : @algebraic_NormLastIdeal_RefNormLastIdeal Cert.NormLastIdeal.Gen.facts Cert.RefNormLastIdeal.Gen.facts := by
  intro m g m' g' _ same
  refine ⟨NormEnds.D0 m, fun c => NormGrad.grad (fun _ => 0) (NormEnds.Y0 m c) (NormEnds.P0 m c) (NormEnds.D0 m c),
    fun c => NormGrad.gains (NormEnds.Y0 m c) (NormEnds.D0 m c), ?_, ?_⟩
  · exact (θ_run _ _ _).mono (fun r h c => ⟨(h c).1.trans (NormEnds.final3 m c), (h c).2.1.trans (NormEnds.final4 m c),
      (h c).2.2.1.trans (NormEnds.final5 m c), (h c).2.2.2⟩) (NormLastIdeal.Value.run_blocks m g)
  · refine (θ_run _ _ _).mono (fun r h c => ?_) (RefNormLastIdeal.Value.run m' g')
    obtain ⟨hD, hY, hP⟩ := same c
    exact ⟨(h c).1.trans hD,
      ((h c).2.1.trans (RefNormLastIdeal.Read.val_main_v34_eq _ _ _)).trans ((NormEnds.last_refY _ _ _).trans (NormGrad.grad_eq rfl hY hP hD)),
      ((h c).2.2.1.trans (RefNormLastIdeal.Read.val_main_v17_eq _ _)).trans ((NormEnds.last_refP _ _).trans (congrArg₂ NormGrad.gains hY hD)),
      (h c).2.2.2⟩

theorem normGain : @algebraic_NormGainIdeal_RefNormGainIdeal Cert.NormGainIdeal.Gen.facts Cert.RefNormGainIdeal.Gen.facts := by
  intro m g m' g' _ same
  refine ⟨fun c => NormGrad.gains (NormEnds.M0 m c) (NormEnds.N0 m c), ?_, ?_⟩
  · exact (θ_run _ _ _).mono (fun r h c => ⟨(h c).1.trans (NormEnds.mem_final m c), (h c).2⟩) (NormGainIdeal.Value.run_blocks m g)
  · refine (θ_run _ _ _).mono (fun r h c => ?_) (RefNormGainIdeal.Value.run m' g')
    exact ⟨((h c).1.trans (RefNormGainIdeal.Read.val_main_v17_eq _ _)).trans
      ((NormEnds.mem_ref _ _).trans (congrArg₂ NormGrad.gains (same c).1 (same c).2.2)), (h c).2⟩

theorem lossSum_frame : @quiescent_LossSum Cert.LossSum.Gen.facts := fun m ρ _ =>
  (θ_run Cert.LossSumIdeal.defs _ _).mono (fun _ h => ⟨fun c => (h.1 c _ (LossMesh.mem_uc rfl)).trans (LossMesh.kept m c), h.2⟩) (LossMesh.run (F := Bits) m ρ)

theorem lossSumIdeal_frame : @quiescent_LossSumIdeal Cert.LossSumIdeal.Gen.facts := fun m ρ _ =>
  (θ_run Cert.LossSumIdeal.defs _ _).mono (fun _ h => ⟨fun c => (h.1 c _ (LossMesh.mem_uc rfl)).trans (LossMesh.kept m c), h.2⟩) (LossMesh.run (F := Ideal) m ρ)

theorem lossSum : @algebraic_LossSumIdeal_RefLossSumIdeal Cert.LossSumIdeal.Gen.facts Cert.RefLossSumIdeal.Gen.facts := by
  intro m g m' g' _ same
  refine ⟨RefLossSumIdeal.Read.val_main_v2 (F := Ideal) (m' (((0 : Dev Cert.RefLossSumIdeal.nD).tc : Thread Cert.RefLossSumIdeal.nD Cert.RefLossSumIdeal.τ).loc Cert.RefLossSumIdeal.main_arg0)), ?_, ?_⟩
  · exact (θ_run _ _ _).mono (fun r h c => ⟨(h.1 c _ (LossMesh.mem_uc rfl)).trans (LossMeshSum.value m _ same c),
      (h.1 c _ (LossMesh.mem_uc rfl)).trans (LossMesh.kept m c)⟩) (LossMesh.run (F := Ideal) m g)
  · exact (θ_run _ _ _).mono (fun r h => ⟨((h 0).1).trans (RefLossSumIdeal.Read.val_main_v2_eq _), (h 0).2⟩) (RefLossSumIdeal.Value.run m' g')

/-- The backward rotary call. -/
theorem ropeBack : @algebraic_RopeBackIdeal_RefRopeBackIdeal Cert.RopeBackIdeal.Gen.facts Cert.RefRopeBackIdeal.Gen.facts := by
  intro m g m' g' _ same
  refine ⟨RopeBack.G m, ?_, ?_⟩
  · exact (θ_run _ _ _).mono (fun r h c => ⟨(h c).1.trans (RopeBack.final m c), (h c).2⟩) (RopeBackIdeal.Value.run_blocks m g)
  · exact (θ_run _ _ _).mono (fun r h c => ⟨((h c).1.trans (RefRopeBackIdeal.Read.val_main_v106_eq m' c)).trans
      (RopeBack.value m c _ _ _ _ _ _ _ _ _ _ (same c)), (h c).2⟩) (RefRopeBackIdeal.Value.run m' g')

/-! The forward calls. -/

theorem inNorm : @algebraic_InNormIdeal_RefInNormIdeal Cert.InNormIdeal.Gen.facts Cert.RefInNormIdeal.Gen.facts := by
  intro m g m' g' _ same
  refine ⟨fun c => Normed.normed (Normed.X0 m c) (Normed.G0 m c), ?_, ?_⟩
  · exact (θ_run _ _ _).mono (fun r h c => ⟨(h c).1.trans (Normed.in_final m c), (h c).2⟩) (InNormIdeal.Value.run_blocks m g)
  · refine (θ_run _ _ _).mono (fun r h c => ?_) (RefInNormIdeal.Value.run m' g')
    obtain ⟨hX, hG⟩ := same c
    exact ⟨((h c).1.trans (RefInNormIdeal.Read.val_main_v12_eq _ _)).trans ((Normed.in_ref _ _).trans (congrArg₂ Normed.normed hX hG)), (h c).2⟩

theorem memNorm : @algebraic_MemNormIdeal_RefMemNormIdeal Cert.MemNormIdeal.Gen.facts Cert.RefMemNormIdeal.Gen.facts := by
  intro m g m' g' _ same
  refine ⟨fun c => MemNormIdeal.Value.G2 (m ((c.tc : Thread MemNormIdeal.nD MemNormIdeal.τ).loc MemNormIdeal.main_arg0))
    (m ((c.tc : Thread MemNormIdeal.nD MemNormIdeal.τ).loc MemNormIdeal.main_arg1)), MemNormIdeal.Value.run m g, ?_⟩
  refine (θ_run _ _ _).mono (fun r h c => ?_) (RefMemNormIdeal.Value.run m' g')
  obtain ⟨hX, hG⟩ := same c
  exact ⟨((h c).1.trans (RefMemNormIdeal.Read.val_main_v12_eq _ _)).trans
    ((Normed.mem_ref _ _).trans ((congrArg₂ Normed.normed hX hG).trans (Normed.mem_pay _ _).symm)), (h c).2⟩

theorem resNorm : @algebraic_ResNormIdeal_RefResNormIdeal Cert.ResNormIdeal.Gen.facts Cert.RefResNormIdeal.Gen.facts := by
  intro m g m' g' _ same
  refine ⟨fun c => Normed.stream (Normed.R0 m c) (Normed.R1 m c) (Normed.R2 m c),
    fun c => Normed.normed (Normed.stream (Normed.R0 m c) (Normed.R1 m c) (Normed.R2 m c)) (Normed.R3 m c), ?_, ?_⟩
  · exact (θ_run _ _ _).mono (fun r h c => ⟨(h c).1.trans (Normed.res_final4 m c), (h c).2.1.trans (Normed.res_final5 m c), (h c).2.2⟩)
      (ResNormIdeal.Value.run_blocks m g)
  · refine (θ_run _ _ _).mono (fun r h c => ?_) (RefResNormIdeal.Value.run m' g')
    obtain ⟨hH, hX, hG, hU⟩ := same c
    have hS : Normed.stream _ _ _ = Normed.stream (Normed.R0 m c) (Normed.R1 m c) (Normed.R2 m c) :=
      (congrArg₂ (fun a b => Normed.stream a b _) hH hX).trans (congrArg (Normed.stream _ _) hG)
    exact ⟨((h c).1.trans (RefResNormIdeal.Read.val_main_v12_eq _ _ _)).trans ((Normed.res_ref4 _ _ _).trans hS),
      ((h c).2.1.trans (RefResNormIdeal.Read.val_main_v25_eq _ _ _ _)).trans ((Normed.res_ref5 _ _ _ _).trans (congrArg₂ Normed.normed hS hU)),
      (h c).2.2⟩

theorem resLast : @algebraic_ResLastIdeal_RefResLastIdeal Cert.ResLastIdeal.Gen.facts Cert.RefResLastIdeal.Gen.facts := by
  intro m g m' g' _ same
  refine ⟨fun c => Normed.stream (Normed.L0 m c) (Normed.L1 m c) (Normed.L2 m c), ?_, ?_⟩
  · exact (θ_run _ _ _).mono (fun r h c => ⟨(h c).1.trans (Normed.last_final m c), (h c).2⟩) (ResLastIdeal.Value.run_blocks m g)
  · refine (θ_run _ _ _).mono (fun r h c => ?_) (RefResLastIdeal.Value.run m' g')
    obtain ⟨hH, hX, hG⟩ := same c
    have hS : Normed.stream _ _ _ = Normed.stream (Normed.L0 m c) (Normed.L1 m c) (Normed.L2 m c) :=
      (congrArg₂ (fun a b => Normed.stream a b _) hH hX).trans (congrArg (Normed.stream _ _) hG)
    exact ⟨((h c).1.trans (RefResLastIdeal.Read.val_main_v12_eq _ _ _)).trans ((Normed.last_ref _ _ _).trans hS), (h c).2⟩

theorem xattnFwd : @algebraic_XattnFwdIdeal_RefXattnFwdIdeal Cert.XattnFwdIdeal.Gen.facts Cert.RefXattnFwdIdeal.Gen.facts := by
  intro m g m' g' _ same
  refine ⟨AttnFwd.G m, ?_, ?_⟩
  · exact (θ_run _ _ _).mono (fun r h c => ⟨(h c).1.trans (AttnFwd.final m c), (h c).2⟩) (XattnFwdIdeal.Value.run_blocks m g)
  · refine (θ_run _ _ _).mono (fun r h c => ?_) (RefXattnFwdIdeal.Value.run m' g')
    obtain ⟨hQ, hK, hV⟩ := same c
    refine ⟨((h c).1.trans (RefXattnFwdIdeal.Read.val_main_v23_eq _ _ _)).trans ((AttnFwd.ref _ _ _).trans ?_), (h c).2⟩
    rw [hQ, hK, hV]; rfl

theorem ropeFwd : @algebraic_RopeFwdIdeal_RefRopeFwdIdeal Cert.RopeFwdIdeal.Gen.facts Cert.RefRopeFwdIdeal.Gen.facts := by
  intro m g m' g' _ same
  refine ⟨RopeFore.G m, ?_, ?_⟩
  · exact (θ_run _ _ _).mono (fun r h c => ⟨(h c).1.trans (RopeFore.final m c), (h c).2⟩) (RopeFwdIdeal.Value.run_blocks m g)
  · exact (θ_run _ _ _).mono (fun r h c => ⟨((h c).1.trans (RefRopeFwdIdeal.Read.val_main_v66_eq m' c)).trans
      (RopeFore.value m c _ _ (same c)), (h c).2⟩) (RefRopeFwdIdeal.Value.run m' g')

theorem mix : @algebraic_MixIdeal_RefMixIdeal Cert.MixIdeal.Gen.facts Cert.RefMixIdeal.Gen.facts := by
  intro m g m' g' _ same
  refine ⟨fun c => Mixed.mixture (Mixed.X0 m c) (Mixed.X1 m c) (Mixed.X2 m c) (Mixed.X3 m c) (Mixed.X4 m c) (Mixed.X5 m c),
    fun c => Mixed.mixture (Mixed.X0 m c) (Mixed.X1 m c) (Mixed.X2 m c) (Mixed.X3 m c) (Mixed.X4 m c) (Mixed.X5 m c),
    fun c => Mixed.weights 0 (Mixed.X3 m c) (Mixed.X4 m c) (Mixed.X5 m c), fun c => Mixed.weights 1 (Mixed.X3 m c) (Mixed.X4 m c) (Mixed.X5 m c),
    fun c => Mixed.weights 2 (Mixed.X3 m c) (Mixed.X4 m c) (Mixed.X5 m c), ?_, ?_⟩
  · exact (θ_run _ _ _).mono (fun r h c => ⟨(h c).1.trans (Mixed.final6 m c), (h c).2.1.trans (Mixed.final7 m c), (h c).2.2.1.trans (Mixed.final8 m c),
      (h c).2.2.2.1.trans (Mixed.final9 m c), (h c).2.2.2.2.1.trans (Mixed.final10 m c), (h c).2.2.2.2.2⟩) (Mixed.run m g)
  · refine (θ_run _ _ _).mono (fun r h c => ?_) (RefMixIdeal.Value.run m' g')
    obtain ⟨h0, h1, h2, h3, h4, h5⟩ := same c
    have hW : ∀ k, Mixed.weights k _ _ _ = Mixed.weights k (Mixed.X3 m c) (Mixed.X4 m c) (Mixed.X5 m c) := fun k =>
      (congrArg₂ (fun a b => Mixed.weights k a b _) h3 h4).trans (congrArg (Mixed.weights k _ _) h5)
    have hM : Mixed.mixture _ _ _ _ _ _ = Mixed.mixture (Mixed.X0 m c) (Mixed.X1 m c) (Mixed.X2 m c) (Mixed.X3 m c) (Mixed.X4 m c) (Mixed.X5 m c) :=
      (congrArg₂ (fun a b => Mixed.mixture a b _ _ _ _) h0 h1).trans ((congrArg₂ (fun a b => Mixed.mixture _ _ a b _ _) h2 h3).trans
        (congrArg₂ (fun a b => Mixed.mixture _ _ _ _ a b) h4 h5))
    exact ⟨((h c).1.trans (RefMixIdeal.Read.val_main_v20_eq m' c)).trans ((Mixed.ref6 _ _ _ _ _ _).trans hM),
      ((h c).2.1.trans (RefMixIdeal.Read.val_main_v19_eq m' c)).trans ((Mixed.ref7 _ _ _ _ _ _).trans hM),
      ((h c).2.2.1.trans (RefMixIdeal.Read.val_main_v22_eq _ _ _)).trans ((Mixed.ref8 _ _ _).trans (hW 0)),
      ((h c).2.2.2.1.trans (RefMixIdeal.Read.val_main_v24_eq _ _ _)).trans ((Mixed.ref9 _ _ _).trans (hW 1)),
      ((h c).2.2.2.2.1.trans (RefMixIdeal.Read.val_main_v26_eq _ _ _)).trans ((Mixed.ref10 _ _ _).trans (hW 2)),
      (h c).2.2.2.2.2⟩

/-! The small products. -/

theorem productMemNn : @algebraic_ProductMemNnIdeal_RefMemNnIdeal Cert.ProductMemNnIdeal.Gen.facts Cert.RefMemNnIdeal.Gen.facts := by
  intro m g m' g' _ same
  refine ⟨fun c => Products.nn .bf16 (ProdMemNn.A0 m c) (ProdMemNn.A1 m c), ?_, ?_⟩
  · exact (θ_run _ _ _).mono (fun r h c => ⟨(h c).1.trans (ProdMemNn.final m c), (h c).2⟩) (ProductMemNnIdeal.Value.run_blocks m g)
  · exact (θ_run _ _ _).mono (fun r h c => ⟨((h c).1.trans (RefMemNnIdeal.Read.val_main_v3_eq _ _)).trans
      ((ProdMemNn.ref _ _).trans (congrArg₂ (Products.nn .bf16) (same c).1 (same c).2)), (h c).2⟩) (RefMemNnIdeal.Value.run m' g')

theorem productMemTn : @algebraic_ProductMemTnIdeal_RefMemTnIdeal Cert.ProductMemTnIdeal.Gen.facts Cert.RefMemTnIdeal.Gen.facts := by
  intro m g m' g' _ same
  refine ⟨fun c => Products.tn .bf16 (ProdMemTn.A0 m c) (ProdMemTn.A1 m c), ?_, ?_⟩
  · exact (θ_run _ _ _).mono (fun r h c => ⟨(h c).1.trans (ProdMemTn.final m c), (h c).2⟩) (ProductMemTnIdeal.Value.run_blocks m g)
  · exact (θ_run _ _ _).mono (fun r h c => ⟨((h c).1.trans (RefMemTnIdeal.Read.val_main_v5_eq _ _)).trans
      ((ProdMemTn.ref _ _).trans (congrArg₂ (Products.tn .bf16) (same c).1 (same c).2)), (h c).2⟩) (RefMemTnIdeal.Value.run m' g')

theorem productMemNt : @algebraic_ProductMemNtIdeal_RefMemNtIdeal Cert.ProductMemNtIdeal.Gen.facts Cert.RefMemNtIdeal.Gen.facts := by
  intro m g m' g' _ same
  refine ⟨fun c => Products.nt .f32 (ProdMemNt.A0 m c) (ProdMemNt.A1 m c), ?_, ?_⟩
  · exact (θ_run _ _ _).mono (fun r h c => ⟨(h c).1.trans (ProdMemNt.final m c), (h c).2⟩) (ProductMemNtIdeal.Value.run_blocks m g)
  · exact (θ_run _ _ _).mono (fun r h c => ⟨((h c).1.trans (RefMemNtIdeal.Read.val_main_v3_eq _ _)).trans
      ((ProdMemNt.ref _ _).trans (congrArg₂ (Products.nt .f32) (same c).1 (same c).2)), (h c).2⟩) (RefMemNtIdeal.Value.run m' g')

theorem productPwTn : @algebraic_ProductPwTnIdeal_RefPwTnIdeal Cert.ProductPwTnIdeal.Gen.facts Cert.RefPwTnIdeal.Gen.facts := by
  intro m g m' g' _ same
  refine ⟨fun c => Products.tn .bf16 (ProdPwTn.A0 m c) (ProdPwTn.A1 m c), ?_, ?_⟩
  · exact (θ_run _ _ _).mono (fun r h c => ⟨(h c).1.trans (ProdPwTn.final m c), (h c).2⟩) (ProductPwTnIdeal.Value.run_blocks m g)
  · exact (θ_run _ _ _).mono (fun r h c => ⟨((h c).1.trans (RefPwTnIdeal.Read.val_main_v5_eq _ _)).trans
      ((ProdPwTn.ref _ _).trans (congrArg₂ (Products.tn .bf16) (same c).1 (same c).2)), (h c).2⟩) (RefPwTnIdeal.Value.run m' g')

theorem productPwNt : @algebraic_ProductPwNtIdeal_RefPwNtIdeal Cert.ProductPwNtIdeal.Gen.facts Cert.RefPwNtIdeal.Gen.facts := by
  intro m g m' g' _ same
  refine ⟨fun c => Products.nt .f32 (ProdPwNt.A0 m c) (ProdPwNt.A1 m c), ?_, ?_⟩
  · exact (θ_run _ _ _).mono (fun r h c => ⟨(h c).1.trans (ProdPwNt.final m c), (h c).2⟩) (ProductPwNtIdeal.Value.run_blocks m g)
  · exact (θ_run _ _ _).mono (fun r h c => ⟨((h c).1.trans (RefPwNtIdeal.Read.val_main_v3_eq _ _)).trans
      ((ProdPwNt.ref _ _).trans (congrArg₂ (Products.nt .f32) (same c).1 (same c).2)), (h c).2⟩) (RefPwNtIdeal.Value.run m' g')

theorem productPwNn : @algebraic_ProductPwNnIdeal_RefPwNnIdeal Cert.ProductPwNnIdeal.Gen.facts Cert.RefPwNnIdeal.Gen.facts := by
  intro m g m' g' _ same
  refine ⟨fun c => ProdPwNn.biased (ProdPwNn.A0 m c) (ProdPwNn.A1 m c) (ProdPwNn.A2 m c), ?_, ?_⟩
  · exact (θ_run _ _ _).mono (fun r h c => ⟨(h c).1.trans (ProdPwNn.final m c), (h c).2⟩) (ProductPwNnIdeal.Value.run_blocks m g)
  · exact (θ_run _ _ _).mono (fun r h c => ⟨((h c).1.trans (RefPwNnIdeal.Read.val_main_v5_eq _ _ _)).trans
      ((ProdPwNn.ref _ _ _).trans (congr (congrArg₂ ProdPwNn.biased (same c).1 (same c).2.1) (same c).2.2)), (h c).2⟩) (RefPwNnIdeal.Value.run m' g')

theorem claim : Cert.Claim := ⟨Cert.Kernel.Gen.facts, Cert.KernelIdeal.Gen.facts, Cert.ReferenceIdeal.Gen.facts,
  Cert.ProductNt.Gen.facts, Cert.ProductNtIdeal.Gen.facts, Cert.RefNtIdeal.Gen.facts,
  Cert.ProductTn.Gen.facts, Cert.ProductTnIdeal.Gen.facts, Cert.RefTnIdeal.Gen.facts,
  Cert.ProductNn.Gen.facts, Cert.ProductNnIdeal.Gen.facts, Cert.RefNnIdeal.Gen.facts,
  Cert.ProductSqNt.Gen.facts, Cert.ProductSqNtIdeal.Gen.facts, Cert.RefSqNtIdeal.Gen.facts,
  Cert.ProductSqNtB.Gen.facts, Cert.ProductSqNtBIdeal.Gen.facts, Cert.RefSqNtBIdeal.Gen.facts,
  Cert.ProductSqTn.Gen.facts, Cert.ProductSqTnIdeal.Gen.facts, Cert.RefSqTnIdeal.Gen.facts,
  Cert.ProductSqNn.Gen.facts, Cert.ProductSqNnIdeal.Gen.facts, Cert.RefSqNnIdeal.Gen.facts,
  Cert.ProductSqNnB.Gen.facts, Cert.ProductSqNnBIdeal.Gen.facts, Cert.RefSqNnBIdeal.Gen.facts,
  Cert.AdamwIn.Gen.facts, Cert.AdamwInIdeal.Gen.facts, Cert.RefAdamwInIdeal.Gen.facts,
  Cert.AdamwUp.Gen.facts, Cert.AdamwUpIdeal.Gen.facts, Cert.RefAdamwUpIdeal.Gen.facts,
  Cert.AdamwPw.Gen.facts, Cert.AdamwPwIdeal.Gen.facts, Cert.RefAdamwPwIdeal.Gen.facts,
  Cert.AdamwSmall.Gen.facts, Cert.AdamwSmallIdeal.Gen.facts, Cert.RefAdamwSmallIdeal.Gen.facts,
  Cert.AdamwOut.Gen.facts, Cert.AdamwOutIdeal.Gen.facts, Cert.RefAdamwOutIdeal.Gen.facts,
  Cert.AdamwXq.Gen.facts, Cert.AdamwXqIdeal.Gen.facts, Cert.RefAdamwXqIdeal.Gen.facts,
  Cert.AdamwXk.Gen.facts, Cert.AdamwXkIdeal.Gen.facts, Cert.RefAdamwXkIdeal.Gen.facts,
  Cert.AdamwXv.Gen.facts, Cert.AdamwXvIdeal.Gen.facts, Cert.RefAdamwXvIdeal.Gen.facts,
  Cert.AdamwXo.Gen.facts, Cert.AdamwXoIdeal.Gen.facts, Cert.RefAdamwXoIdeal.Gen.facts,
  Cert.AdamwDown.Gen.facts, Cert.AdamwDownIdeal.Gen.facts, Cert.RefAdamwDownIdeal.Gen.facts,
  Cert.Loss.Gen.facts, Cert.LossIdeal.Gen.facts, Cert.RefLossIdeal.Gen.facts,
  Cert.Norm.Gen.facts, Cert.NormIdeal.Gen.facts, Cert.RefNormIdeal.Gen.facts,
  Cert.NormMid.Gen.facts, Cert.NormMidIdeal.Gen.facts, Cert.RefNormMidIdeal.Gen.facts,
  Cert.NormMidTwo.Gen.facts, Cert.NormMidTwoIdeal.Gen.facts, Cert.RefNormMidTwoIdeal.Gen.facts,
  Cert.NormLast.Gen.facts, Cert.NormLastIdeal.Gen.facts, Cert.RefNormLastIdeal.Gen.facts,
  Cert.NormGain.Gen.facts, Cert.NormGainIdeal.Gen.facts, Cert.RefNormGainIdeal.Gen.facts,
  Cert.LossSum.Gen.facts, Cert.LossSumIdeal.Gen.facts, Cert.RefLossSumIdeal.Gen.facts,
  Cert.RopeBack.Gen.facts, Cert.RopeBackIdeal.Gen.facts, Cert.RefRopeBackIdeal.Gen.facts,
  Cert.InNorm.Gen.facts, Cert.InNormIdeal.Gen.facts, Cert.RefInNormIdeal.Gen.facts,
  Cert.MemNorm.Gen.facts, Cert.MemNormIdeal.Gen.facts, Cert.RefMemNormIdeal.Gen.facts,
  Cert.ResNorm.Gen.facts, Cert.ResNormIdeal.Gen.facts, Cert.RefResNormIdeal.Gen.facts,
  Cert.ResLast.Gen.facts, Cert.ResLastIdeal.Gen.facts, Cert.RefResLastIdeal.Gen.facts,
  Cert.XattnFwd.Gen.facts, Cert.XattnFwdIdeal.Gen.facts, Cert.RefXattnFwdIdeal.Gen.facts,
  Cert.RopeFwd.Gen.facts, Cert.RopeFwdIdeal.Gen.facts, Cert.RefRopeFwdIdeal.Gen.facts,
  Cert.Mix.Gen.facts, Cert.MixIdeal.Gen.facts, Cert.RefMixIdeal.Gen.facts,
  Cert.ProductMemNn.Gen.facts, Cert.ProductMemNnIdeal.Gen.facts, Cert.RefMemNnIdeal.Gen.facts,
  Cert.ProductMemTn.Gen.facts, Cert.ProductMemTnIdeal.Gen.facts, Cert.RefMemTnIdeal.Gen.facts,
  Cert.ProductMemNt.Gen.facts, Cert.ProductMemNtIdeal.Gen.facts, Cert.RefMemNtIdeal.Gen.facts,
  Cert.ProductPwNn.Gen.facts, Cert.ProductPwNnIdeal.Gen.facts, Cert.RefPwNnIdeal.Gen.facts,
  Cert.ProductPwTn.Gen.facts, Cert.ProductPwTnIdeal.Gen.facts, Cert.RefPwTnIdeal.Gen.facts,
  Cert.ProductPwNt.Gen.facts, Cert.ProductPwNtIdeal.Gen.facts, Cert.RefPwNtIdeal.Gen.facts,
  Cert.Finite.facts,
  fun m ρ _ => Cert.Kernel.Gen.frame m ρ, fun m ρ _ => Cert.KernelIdeal.Gen.frame m ρ, fun m ρ _ => Cert.KernelIdeal.Gen.frame m ρ,
  fun m ρ _ => frameR m ρ, fun m ρ _ => frameR m ρ,
  fun m ρ _ => Cert.ProductNt.Gen.frame m ρ, fun m ρ _ => Cert.ProductNtIdeal.Gen.frame m ρ,
  fun m ρ _ => (θ_run _ _ _).mono (fun r h => ⟨fun c => (h c).2, sem_eq_zero_of_no_sems (by decide) _⟩) (RefNtIdeal.Value.run m ρ),
  fun m ρ _ => Cert.ProductTn.Gen.frame m ρ, fun m ρ _ => Cert.ProductTnIdeal.Gen.frame m ρ,
  fun m ρ _ => (θ_run _ _ _).mono (fun r h => ⟨fun c => (h c).2, sem_eq_zero_of_no_sems (by decide) _⟩) (RefTnIdeal.Value.run m ρ),
  fun m ρ _ => Cert.ProductNn.Gen.frame m ρ, fun m ρ _ => Cert.ProductNnIdeal.Gen.frame m ρ,
  fun m ρ _ => (θ_run _ _ _).mono (fun r h => ⟨fun c => (h c).2, sem_eq_zero_of_no_sems (by decide) _⟩) (RefNnIdeal.Value.run m ρ),
  fun m ρ _ => Cert.ProductSqNt.Gen.frame m ρ, fun m ρ _ => Cert.ProductSqNtIdeal.Gen.frame m ρ,
  fun m ρ _ => (θ_run _ _ _).mono (fun r h => ⟨fun c => (h c).2, sem_eq_zero_of_no_sems (by decide) _⟩) (RefSqNtIdeal.Value.run m ρ),
  fun m ρ _ => Cert.ProductSqNtB.Gen.frame m ρ, fun m ρ _ => Cert.ProductSqNtBIdeal.Gen.frame m ρ,
  fun m ρ _ => (θ_run _ _ _).mono (fun r h => ⟨fun c => (h c).2, sem_eq_zero_of_no_sems (by decide) _⟩) (RefSqNtBIdeal.Value.run m ρ),
  fun m ρ _ => Cert.ProductSqTn.Gen.frame m ρ, fun m ρ _ => Cert.ProductSqTnIdeal.Gen.frame m ρ,
  fun m ρ _ => (θ_run _ _ _).mono (fun r h => ⟨fun c => (h c).2, sem_eq_zero_of_no_sems (by decide) _⟩) (RefSqTnIdeal.Value.run m ρ),
  fun m ρ _ => Cert.ProductSqNn.Gen.frame m ρ, fun m ρ _ => Cert.ProductSqNnIdeal.Gen.frame m ρ,
  fun m ρ _ => (θ_run _ _ _).mono (fun r h => ⟨fun c => (h c).2, sem_eq_zero_of_no_sems (by decide) _⟩) (RefSqNnIdeal.Value.run m ρ),
  fun m ρ _ => Cert.ProductSqNnB.Gen.frame m ρ, fun m ρ _ => Cert.ProductSqNnBIdeal.Gen.frame m ρ,
  fun m ρ _ => (θ_run _ _ _).mono (fun r h => ⟨fun c => (h c).2, sem_eq_zero_of_no_sems (by decide) _⟩) (RefSqNnBIdeal.Value.run m ρ),
  fun m ρ _ => Cert.AdamwIn.Gen.frame m ρ, fun m ρ _ => Cert.AdamwInIdeal.Gen.frame m ρ,
  fun m ρ _ => (θ_run _ _ _).mono (fun r h => ⟨fun c => (h c).2.2.2.2, sem_eq_zero_of_no_sems (by decide) _⟩) (RefAdamwInIdeal.Value.run m ρ),
  fun m ρ _ => Cert.AdamwUp.Gen.frame m ρ, fun m ρ _ => Cert.AdamwUpIdeal.Gen.frame m ρ,
  fun m ρ _ => (θ_run _ _ _).mono (fun r h => ⟨fun c => (h c).2.2.2.2, sem_eq_zero_of_no_sems (by decide) _⟩) (RefAdamwUpIdeal.Value.run m ρ),
  fun m ρ _ => Cert.AdamwPw.Gen.frame m ρ, fun m ρ _ => Cert.AdamwPwIdeal.Gen.frame m ρ,
  fun m ρ _ => (θ_run _ _ _).mono (fun r h => ⟨fun c => (h c).2.2.2.2, sem_eq_zero_of_no_sems (by decide) _⟩) (RefAdamwPwIdeal.Value.run m ρ),
  fun m ρ _ => Cert.AdamwSmall.Gen.frame m ρ, fun m ρ _ => Cert.AdamwSmallIdeal.Gen.frame m ρ,
  fun m ρ _ => (θ_run _ _ _).mono (fun r h => ⟨fun c => (h c).2.2.2.2, sem_eq_zero_of_no_sems (by decide) _⟩) (RefAdamwSmallIdeal.Value.run m ρ),
  fun m ρ _ => Cert.AdamwOut.Gen.frame m ρ, fun m ρ _ => Cert.AdamwOutIdeal.Gen.frame m ρ,
  fun m ρ _ => (θ_run _ _ _).mono (fun r h => ⟨fun c => (h c).2.2.2.2, sem_eq_zero_of_no_sems (by decide) _⟩) (RefAdamwOutIdeal.Value.run m ρ),
  fun m ρ _ => Cert.AdamwXq.Gen.frame m ρ, fun m ρ _ => Cert.AdamwXqIdeal.Gen.frame m ρ,
  fun m ρ _ => (θ_run _ _ _).mono (fun r h => ⟨fun c => (h c).2.2.2.2, sem_eq_zero_of_no_sems (by decide) _⟩) (RefAdamwXqIdeal.Value.run m ρ),
  fun m ρ _ => Cert.AdamwXk.Gen.frame m ρ, fun m ρ _ => Cert.AdamwXkIdeal.Gen.frame m ρ,
  fun m ρ _ => (θ_run _ _ _).mono (fun r h => ⟨fun c => (h c).2.2.2.2, sem_eq_zero_of_no_sems (by decide) _⟩) (RefAdamwXkIdeal.Value.run m ρ),
  fun m ρ _ => Cert.AdamwXv.Gen.frame m ρ, fun m ρ _ => Cert.AdamwXvIdeal.Gen.frame m ρ,
  fun m ρ _ => (θ_run _ _ _).mono (fun r h => ⟨fun c => (h c).2.2.2.2, sem_eq_zero_of_no_sems (by decide) _⟩) (RefAdamwXvIdeal.Value.run m ρ),
  fun m ρ _ => Cert.AdamwXo.Gen.frame m ρ, fun m ρ _ => Cert.AdamwXoIdeal.Gen.frame m ρ,
  fun m ρ _ => (θ_run _ _ _).mono (fun r h => ⟨fun c => (h c).2.2.2.2, sem_eq_zero_of_no_sems (by decide) _⟩) (RefAdamwXoIdeal.Value.run m ρ),
  fun m ρ _ => Cert.AdamwDown.Gen.frame m ρ, fun m ρ _ => Cert.AdamwDownIdeal.Gen.frame m ρ,
  fun m ρ _ => (θ_run _ _ _).mono (fun r h => ⟨fun c => (h c).2.2.2.2, sem_eq_zero_of_no_sems (by decide) _⟩) (RefAdamwDownIdeal.Value.run m ρ),
  fun m ρ _ => Cert.Loss.Gen.frame m ρ, fun m ρ _ => Cert.LossIdeal.Gen.frame m ρ,
  fun m ρ _ => (θ_run _ _ _).mono (fun r h => ⟨fun c => (h c).2.2, sem_eq_zero_of_no_sems (by decide) _⟩) (RefLossIdeal.Value.run m ρ),
  fun m ρ _ => Cert.Norm.Gen.frame m ρ, fun m ρ _ => Cert.NormIdeal.Gen.frame m ρ,
  fun m ρ _ => (θ_run _ _ _).mono (fun r h => ⟨fun c => (h c).2.2, sem_eq_zero_of_no_sems (by decide) _⟩) (RefNormIdeal.Value.run m ρ),
  fun m ρ _ => Cert.NormMid.Gen.frame m ρ, fun m ρ _ => Cert.NormMidIdeal.Gen.frame m ρ,
  fun m ρ _ => (θ_run _ _ _).mono (fun r h => ⟨fun c => (h c).2.2.2.2, sem_eq_zero_of_no_sems (by decide) _⟩) (RefNormMidIdeal.Value.run m ρ),
  fun m ρ _ => Cert.NormMidTwo.Gen.frame m ρ, fun m ρ _ => Cert.NormMidTwoIdeal.Gen.frame m ρ,
  fun m ρ _ => (θ_run _ _ _).mono (fun r h => ⟨fun c => (h c).2.2.2.2, sem_eq_zero_of_no_sems (by decide) _⟩) (RefNormMidTwoIdeal.Value.run m ρ),
  fun m ρ _ => Cert.NormLast.Gen.frame m ρ, fun m ρ _ => Cert.NormLastIdeal.Gen.frame m ρ,
  fun m ρ _ => (θ_run _ _ _).mono (fun r h => ⟨fun c => (h c).2.2.2, sem_eq_zero_of_no_sems (by decide) _⟩) (RefNormLastIdeal.Value.run m ρ),
  fun m ρ _ => Cert.NormGain.Gen.frame m ρ, fun m ρ _ => Cert.NormGainIdeal.Gen.frame m ρ,
  fun m ρ _ => (θ_run _ _ _).mono (fun r h => ⟨fun c => (h c).2, sem_eq_zero_of_no_sems (by decide) _⟩) (RefNormGainIdeal.Value.run m ρ),
  lossSum_frame, lossSumIdeal_frame,
  fun m ρ _ => (θ_run _ _ _).mono (fun r h => ⟨fun c => (h c).2, sem_eq_zero_of_no_sems (by decide) _⟩) (RefLossSumIdeal.Value.run m ρ),
  fun m ρ _ => Cert.RopeBack.Gen.frame m ρ, fun m ρ _ => Cert.RopeBackIdeal.Gen.frame m ρ,
  fun m ρ _ => (θ_run _ _ _).mono (fun r h => ⟨fun c => (h c).2, sem_eq_zero_of_no_sems (by decide) _⟩) (RefRopeBackIdeal.Value.run m ρ),
  fun m ρ _ => Cert.InNorm.Gen.frame m ρ, fun m ρ _ => Cert.InNormIdeal.Gen.frame m ρ,
  fun m ρ _ => (θ_run _ _ _).mono (fun r h => ⟨fun c => (h c).2, sem_eq_zero_of_no_sems (by decide) _⟩) (RefInNormIdeal.Value.run m ρ),
  fun m ρ _ => Cert.MemNorm.Gen.frame m ρ, fun m ρ _ => Cert.MemNormIdeal.Gen.frame m ρ,
  fun m ρ _ => (θ_run _ _ _).mono (fun r h => ⟨fun c => (h c).2, sem_eq_zero_of_no_sems (by decide) _⟩) (RefMemNormIdeal.Value.run m ρ),
  fun m ρ _ => Cert.ResNorm.Gen.frame m ρ, fun m ρ _ => Cert.ResNormIdeal.Gen.frame m ρ,
  fun m ρ _ => (θ_run _ _ _).mono (fun r h => ⟨fun c => (h c).2.2, sem_eq_zero_of_no_sems (by decide) _⟩) (RefResNormIdeal.Value.run m ρ),
  fun m ρ _ => Cert.ResLast.Gen.frame m ρ, fun m ρ _ => Cert.ResLastIdeal.Gen.frame m ρ,
  fun m ρ _ => (θ_run _ _ _).mono (fun r h => ⟨fun c => (h c).2, sem_eq_zero_of_no_sems (by decide) _⟩) (RefResLastIdeal.Value.run m ρ),
  fun m ρ _ => Cert.XattnFwd.Gen.frame m ρ, fun m ρ _ => Cert.XattnFwdIdeal.Gen.frame m ρ,
  fun m ρ _ => (θ_run _ _ _).mono (fun r h => ⟨fun c => (h c).2, sem_eq_zero_of_no_sems (by decide) _⟩) (RefXattnFwdIdeal.Value.run m ρ),
  fun m ρ _ => Cert.RopeFwd.Gen.frame m ρ, fun m ρ _ => Cert.RopeFwdIdeal.Gen.frame m ρ,
  fun m ρ _ => (θ_run _ _ _).mono (fun r h => ⟨fun c => (h c).2, sem_eq_zero_of_no_sems (by decide) _⟩) (RefRopeFwdIdeal.Value.run m ρ),
  fun m ρ _ => Cert.Mix.Gen.frame m ρ, fun m ρ _ => Cert.MixIdeal.Gen.frame m ρ,
  fun m ρ _ => (θ_run _ _ _).mono (fun r h => ⟨fun c => (h c).2.2.2.2.2, sem_eq_zero_of_no_sems (by decide) _⟩) (RefMixIdeal.Value.run m ρ),
  fun m ρ _ => Cert.ProductMemNn.Gen.frame m ρ, fun m ρ _ => Cert.ProductMemNnIdeal.Gen.frame m ρ,
  fun m ρ _ => (θ_run _ _ _).mono (fun r h => ⟨fun c => (h c).2, sem_eq_zero_of_no_sems (by decide) _⟩) (RefMemNnIdeal.Value.run m ρ),
  fun m ρ _ => Cert.ProductMemTn.Gen.frame m ρ, fun m ρ _ => Cert.ProductMemTnIdeal.Gen.frame m ρ,
  fun m ρ _ => (θ_run _ _ _).mono (fun r h => ⟨fun c => (h c).2, sem_eq_zero_of_no_sems (by decide) _⟩) (RefMemTnIdeal.Value.run m ρ),
  fun m ρ _ => Cert.ProductMemNt.Gen.frame m ρ, fun m ρ _ => Cert.ProductMemNtIdeal.Gen.frame m ρ,
  fun m ρ _ => (θ_run _ _ _).mono (fun r h => ⟨fun c => (h c).2, sem_eq_zero_of_no_sems (by decide) _⟩) (RefMemNtIdeal.Value.run m ρ),
  fun m ρ _ => Cert.ProductPwNn.Gen.frame m ρ, fun m ρ _ => Cert.ProductPwNnIdeal.Gen.frame m ρ,
  fun m ρ _ => (θ_run _ _ _).mono (fun r h => ⟨fun c => (h c).2, sem_eq_zero_of_no_sems (by decide) _⟩) (RefPwNnIdeal.Value.run m ρ),
  fun m ρ _ => Cert.ProductPwTn.Gen.frame m ρ, fun m ρ _ => Cert.ProductPwTnIdeal.Gen.frame m ρ,
  fun m ρ _ => (θ_run _ _ _).mono (fun r h => ⟨fun c => (h c).2, sem_eq_zero_of_no_sems (by decide) _⟩) (RefPwTnIdeal.Value.run m ρ),
  fun m ρ _ => Cert.ProductPwNt.Gen.frame m ρ, fun m ρ _ => Cert.ProductPwNtIdeal.Gen.frame m ρ,
  fun m ρ _ => (θ_run _ _ _).mono (fun r h => ⟨fun c => (h c).2, sem_eq_zero_of_no_sems (by decide) _⟩) (RefPwNtIdeal.Value.run m ρ),
  trivial, xattn, trivial, productNt, trivial, productTn, trivial, productNn, trivial, productSqNt, trivial, productSqNtB, trivial, productSqTn, trivial, productSqNn, trivial, productSqNnB, trivial, adamwIn, trivial, adamwUp, trivial, adamwPw, trivial, adamwSmall, trivial, adamwOut, trivial, adamwXq, trivial, adamwXk, trivial, adamwXv, trivial, adamwXo, trivial, adamwDown, trivial, lossHead, trivial, normInput, trivial, normMid, trivial, normMidTwo, trivial, normLast, trivial, normGain, trivial, lossSum, trivial, ropeBack, trivial, inNorm, trivial, memNorm, trivial, resNorm, trivial, resLast, trivial, xattnFwd, trivial, ropeFwd, trivial, mix, trivial, productMemNn, trivial, productMemTn, trivial, productMemNt, trivial, productPwNn, trivial, productPwTn, trivial, productPwNt⟩

end Cert.Proof

end
